-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite [hPre_finite : Cert.Pre_finite.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8))).1 = (fun _ => 1#1)
    ∧ (Cert.Pre_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8))).2.1 = (fun _ => 1#1)
    ∧ (Cert.Pre_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8))).2.2.1 = (fun _ => 1#1)
    ∧ (Cert.Pre_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8))).2.2.2.1 = (fun _ => 1#1)
    ∧ (Cert.Pre_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8))).2.2.2.2.1 = (fun _ => 1#1)
    ∧ (Cert.Pre_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8))).2.2.2.2.2.1 = (fun _ => 1#1)
    ∧ (Cert.Pre_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8))).2.2.2.2.2.2.1 = (fun _ => 1#1)
    ∧ (Cert.Pre_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8))).2.2.2.2.2.2.2.1 = (fun _ => 1#1)
    ∧ (Cert.Pre_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8))).2.2.2.2.2.2.2.2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite [hPre_finite : Cert.Pre_finite.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8))).1 = (fun _ => 1#1)
    ∧ (Cert.Pre_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8))).2.1 = (fun _ => 1#1)
    ∧ (Cert.Pre_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8))).2.2.1 = (fun _ => 1#1)
    ∧ (Cert.Pre_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8))).2.2.2.1 = (fun _ => 1#1)
    ∧ (Cert.Pre_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8))).2.2.2.2.1 = (fun _ => 1#1)
    ∧ (Cert.Pre_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8))).2.2.2.2.2.1 = (fun _ => 1#1)
    ∧ (Cert.Pre_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8))).2.2.2.2.2.2.1 = (fun _ => 1#1)
    ∧ (Cert.Pre_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8))).2.2.2.2.2.2.2.1 = (fun _ => 1#1)
    ∧ (Cert.Pre_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8))).2.2.2.2.2.2.2.2 = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_floats [hPre_floats : Cert.Pre_floats.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_floats.fn (F := Ideal) (m ((c.tc : Thread Cert.Kernel4Ideal.nD Cert.Kernel4Ideal.τ).loc Cert.Kernel4Ideal.main_arg0))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_floats [hPre_floats : Cert.Pre_floats.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_floats.fn (F := Ideal) (m ((c.tc : Thread Cert.Reference4Ideal.nD Cert.Reference4Ideal.τ).loc Cert.Reference4Ideal.main_arg0))) = (fun _ => 1#1)

def Pre_Kernel5 [hPre_routed : Cert.Pre_routed.Facts] (m : (ℓ : Loc Cert.Kernel5.nD Cert.Kernel5.τ Cert.Kernel5.sig) → Buf (Elt Bits) ℓ) : Prop :=
  ∀ c : Dev Cert.Kernel5.nD,
    (Cert.Pre_routed.fn (F := Bits) (m ((c.tc : Thread Cert.Kernel5.nD Cert.Kernel5.τ).loc Cert.Kernel5.main_arg0)) (m ((c.tc : Thread Cert.Kernel5.nD Cert.Kernel5.τ).loc Cert.Kernel5.main_arg1)) (m ((c.tc : Thread Cert.Kernel5.nD Cert.Kernel5.τ).loc Cert.Kernel5.main_arg2)) (m ((c.tc : Thread Cert.Kernel5.nD Cert.Kernel5.τ).loc Cert.Kernel5.main_arg3))).1 = (fun _ => 1#1)
    ∧ (Cert.Pre_routed.fn (F := Bits) (m ((c.tc : Thread Cert.Kernel5.nD Cert.Kernel5.τ).loc Cert.Kernel5.main_arg0)) (m ((c.tc : Thread Cert.Kernel5.nD Cert.Kernel5.τ).loc Cert.Kernel5.main_arg1)) (m ((c.tc : Thread Cert.Kernel5.nD Cert.Kernel5.τ).loc Cert.Kernel5.main_arg2)) (m ((c.tc : Thread Cert.Kernel5.nD Cert.Kernel5.τ).loc Cert.Kernel5.main_arg3))).2 = (fun _ => 1#1)

def Pre_Kernel5Ideal [hPre_routed : Cert.Pre_routed.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_routed.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3))).1 = (fun _ => 1#1)
    ∧ (Cert.Pre_routed.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3))).2 = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_routed [hPre_routed : Cert.Pre_routed.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_routed.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3))).1 = (fun _ => 1#1)
    ∧ (Cert.Pre_routed.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Kernel3Ideal_pre_finite [hKernel3Ideal : Cert.Kernel3Ideal.Facts] [hPre_finite : Cert.Pre_finite.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def quiescent_Reference3Ideal_pre_finite [hReference3Ideal : Cert.Reference3Ideal.Facts] [hPre_finite : Cert.Pre_finite.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0))
      ∧ r.2.sem = fun _ => 0)

def quiescent_Kernel4Ideal_pre_floats [hKernel4Ideal : Cert.Kernel4Ideal.Facts] [hPre_floats : Cert.Pre_floats.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_floats m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0))
      ∧ r.2.sem = fun _ => 0)

def quiescent_Reference4Ideal_pre_floats [hReference4Ideal : Cert.Reference4Ideal.Facts] [hPre_floats : Cert.Pre_floats.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_floats m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0))
      ∧ r.2.sem = fun _ => 0)

def quiescent_Kernel5 [hKernel5 : Cert.Kernel5.Facts] [hPre_routed : Cert.Pre_routed.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] [hPre_routed : Cert.Pre_routed.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Reference5Ideal_pre_routed [hReference5Ideal : Cert.Reference5Ideal.Facts] [hPre_routed : Cert.Pre_routed.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_routed m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v9)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v9) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v49) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  IdealRules.named_const.Statement Cert.Kernel3Ideal.κ "mask" .f32 0xF149F2CA#32 ⊥

def algebraic_Kernel3Ideal_Reference3Ideal_pre_finite [hKernel3Ideal : Cert.Kernel3Ideal.Facts] [hReference3Ideal : Cert.Reference3Ideal.Facts] [hPre_finite : Cert.Pre_finite.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)) →
    ∃ (v0 : (c : Dev Cert.Kernel3Ideal.nD) → Buf (Elt Ideal) ((c.tc : Thread Cert.Kernel3Ideal.nD Cert.Kernel3Ideal.τ).loc Cert.Kernel3Ideal.main_v8_0)) (v1 : (c : Dev Cert.Kernel3Ideal.nD) → Buf (Elt Ideal) ((c.tc : Thread Cert.Kernel3Ideal.nD Cert.Kernel3Ideal.τ).loc Cert.Kernel3Ideal.main_v8_1)) (v2 : (c : Dev Cert.Kernel3Ideal.nD) → Buf (Elt Ideal) ((c.tc : Thread Cert.Kernel3Ideal.nD Cert.Kernel3Ideal.τ).loc Cert.Kernel3Ideal.main_v8_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v8_0) = v0 c
          ∧ r.2.mem ((c.tc : Thread Cert.Kernel3Ideal.nD Cert.Kernel3Ideal.τ).loc Cert.Kernel3Ideal.main_v8_1) = v1 c
          ∧ r.2.mem ((c.tc : Thread Cert.Kernel3Ideal.nD Cert.Kernel3Ideal.τ).loc Cert.Kernel3Ideal.main_v8_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v25) = v0 c
          ∧ r.2.mem ((c.tc : Thread Cert.Reference3Ideal.nD Cert.Reference3Ideal.τ).loc Cert.Reference3Ideal.main_v54) = v1 c
          ∧ r.2.mem ((c.tc : Thread Cert.Reference3Ideal.nD Cert.Reference3Ideal.τ).loc Cert.Reference3Ideal.main_v51) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8))

def preserves_Kernel4_Kernel4Ideal : Prop :=
  True

def algebraic_Kernel4Ideal_Reference4Ideal_pre_floats [hKernel4Ideal : Cert.Kernel4Ideal.Facts] [hReference4Ideal : Cert.Reference4Ideal.Facts] [hPre_floats : Cert.Pre_floats.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_floats m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)) →
    ∃ (v0 : (c : Dev Cert.Kernel4Ideal.nD) → Buf (Elt Ideal) ((c.tc : Thread Cert.Kernel4Ideal.nD Cert.Kernel4Ideal.τ).loc Cert.Kernel4Ideal.main_v1_0)) (v1 : (c : Dev Cert.Kernel4Ideal.nD) → Buf (Elt Ideal) ((c.tc : Thread Cert.Kernel4Ideal.nD Cert.Kernel4Ideal.τ).loc Cert.Kernel4Ideal.main_v1_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1_0) = v0 c
          ∧ r.2.mem ((c.tc : Thread Cert.Kernel4Ideal.nD Cert.Kernel4Ideal.τ).loc Cert.Kernel4Ideal.main_v1_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v22) = v0 c
          ∧ r.2.mem ((c.tc : Thread Cert.Reference4Ideal.nD Cert.Reference4Ideal.τ).loc Cert.Reference4Ideal.main_v25) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0))

def preserves_Kernel5_Kernel5Ideal : Prop :=
  True

def algebraic_Kernel5Ideal_Reference5Ideal [hKernel5Ideal : Cert.Kernel5Ideal.Facts] [hReference5Ideal : Cert.Reference5Ideal.Facts] [hPre_routed : Cert.Pre_routed.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v20)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v20) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v14) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite : Cert.Pre_finite.Facts) (hPre_floats : Cert.Pre_floats.Facts) (hPre_routed : Cert.Pre_routed.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_finite (hKernel3Ideal := hKernel3Ideal) (hPre_finite := hPre_finite)
    ∧ quiescent_Reference3Ideal (hReference3Ideal := hReference3Ideal)
    ∧ quiescent_Reference3Ideal_pre_finite (hReference3Ideal := hReference3Ideal) (hPre_finite := hPre_finite)
    ∧ quiescent_Kernel4 (hKernel4 := hKernel4)
    ∧ quiescent_Kernel4Ideal (hKernel4Ideal := hKernel4Ideal)
    ∧ quiescent_Kernel4Ideal_pre_floats (hKernel4Ideal := hKernel4Ideal) (hPre_floats := hPre_floats)
    ∧ quiescent_Reference4Ideal (hReference4Ideal := hReference4Ideal)
    ∧ quiescent_Reference4Ideal_pre_floats (hReference4Ideal := hReference4Ideal) (hPre_floats := hPre_floats)
    ∧ quiescent_Kernel5 (hKernel5 := hKernel5) (hPre_routed := hPre_routed)
    ∧ quiescent_Kernel5Ideal (hKernel5Ideal := hKernel5Ideal) (hPre_routed := hPre_routed)
    ∧ quiescent_Reference5Ideal (hReference5Ideal := hReference5Ideal)
    ∧ quiescent_Reference5Ideal_pre_routed (hReference5Ideal := hReference5Ideal) (hPre_routed := hPre_routed)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_finite (hKernel3Ideal := hKernel3Ideal) (hReference3Ideal := hReference3Ideal) (hPre_finite := hPre_finite)
    ∧ preserves_Kernel4_Kernel4Ideal
    ∧ algebraic_Kernel4Ideal_Reference4Ideal_pre_floats (hKernel4Ideal := hKernel4Ideal) (hReference4Ideal := hReference4Ideal) (hPre_floats := hPre_floats)
    ∧ preserves_Kernel5_Kernel5Ideal
    ∧ algebraic_Kernel5Ideal_Reference5Ideal (hKernel5Ideal := hKernel5Ideal) (hReference5Ideal := hReference5Ideal) (hPre_routed := hPre_routed)
-- ==== Pre_finite.lean ====
abbrev S32768x1024 : Shape := ⟨2, ![32768, 1024]⟩
abbrev S32768x512 : Shape := ⟨2, ![32768, 512]⟩
abbrev S32768x4096 : Shape := ⟨2, ![32768, 4096]⟩
abbrev S128 : Shape := ⟨1, ![128]⟩
abbrev S1024x1024 : Shape := ⟨2, ![1024, 1024]⟩
abbrev S1024 : Shape := ⟨1, ![1024]⟩
abbrev S1024x16 : Shape := ⟨2, ![1024, 16]⟩
abbrev S_ : Shape := ⟨0, ![]⟩

class Facts : Prop where
  slices_S32768x4096_S32768x512_0_3584 : S32768x4096.Slices ![0, 3584] S32768x512
  bcast_S_S32768x1024 : S_.BroadcastsInDim S32768x1024 (![] : Fin 0 → Fin S32768x1024.rank)
  bitsLt_bf16_f32 : FTy.bits .bf16 < FTy.bits .f32
  bcast_S_S32768x512 : S_.BroadcastsInDim S32768x512 (![] : Fin 0 → Fin S32768x512.rank)
  bcast_S_S128 : S_.BroadcastsInDim S128 (![] : Fin 0 → Fin S128.rank)
  bcast_S_S1024x1024 : S_.BroadcastsInDim S1024x1024 (![] : Fin 0 → Fin S1024x1024.rank)
  bcast_S_S1024 : S_.BroadcastsInDim S1024 (![] : Fin 0 → Fin S1024.rank)
  bcast_S_S1024x16 : S_.BroadcastsInDim S1024x16 (![] : Fin 0 → Fin S1024x16.rank)

variable [Facts]

def fn_part1 {F : FTy → Type} [FloatOps F] (main_arg5 : FVec F S128 .f32) (main_arg6 : FVec F S1024x1024 .f32) (main_arg7 : FVec F S1024 .f32) (main_arg8 : FVec F S1024x16 .f32) (main_v3 : IVec S32768x1024 1) (main_v7 : IVec S32768x512 1) (main_v11 : IVec S32768x512 1) (main_v15 : IVec S32768x512 1) (main_v18 : IVec S32768x512 1) : IVec S32768x1024 1 × IVec S32768x512 1 × IVec S32768x512 1 × IVec S32768x512 1 × IVec S32768x512 1 × IVec S128 1 × IVec S1024x1024 1 × IVec S1024 1 × IVec S1024x16 1 :=
  let main_v19 : FVec F S128 .f32 := Host.absf main_arg5
  let main_cst_4 : FVec F S_ .f32 := constant S_ .f32 0x7F800000#32
  let main_v20 : FVec F S128 .f32 := broadcastInDim S128 ![] bcast_S_S128 main_cst_4
  let main_v21 : IVec S128 1 := cmpf .olt main_v19 main_v20
  let main_v22 : FVec F S1024x1024 .f32 := Host.absf main_arg6
  let main_cst_5 : FVec F S_ .f32 := constant S_ .f32 0x7F800000#32
  let main_v23 : FVec F S1024x1024 .f32 := broadcastInDim S1024x1024 ![] bcast_S_S1024x1024 main_cst_5
  let main_v24 : IVec S1024x1024 1 := cmpf .olt main_v22 main_v23
  let main_v25 : FVec F S1024 .f32 := Host.absf main_arg7
  let main_cst_6 : FVec F S_ .f32 := constant S_ .f32 0x7F800000#32
  let main_v26 : FVec F S1024 .f32 := broadcastInDim S1024 ![] bcast_S_S1024 main_cst_6
  let main_v27 : IVec S1024 1 := cmpf .olt main_v25 main_v26
  let main_v28 : FVec F S1024x16 .f32 := Host.absf main_arg8
  let main_cst_7 : FVec F S_ .f32 := constant S_ .f32 0x7F800000#32
  let main_v29 : FVec F S1024x16 .f32 := broadcastInDim S1024x16 ![] bcast_S_S1024x16 main_cst_7
  let main_v30 : IVec S1024x16 1 := cmpf .olt main_v28 main_v29
  (main_v3, main_v7, main_v11, main_v15, main_v18, main_v21, main_v24, main_v27, main_v30)

def fn {F : FTy → Type} [FloatOps F] (main_arg0 : FVec F S32768x1024 .f32) (main_arg1 : FVec F S32768x512 .bf16) (main_arg2 : FVec F S32768x512 .bf16) (main_arg3 : FVec F S32768x512 .bf16) (main_arg4 : FVec F S32768x4096 .f32) (main_arg5 : FVec F S128 .f32) (main_arg6 : FVec F S1024x1024 .f32) (main_arg7 : FVec F S1024 .f32) (main_arg8 : FVec F S1024x16 .f32) : IVec S32768x1024 1 × IVec S32768x512 1 × IVec S32768x512 1 × IVec S32768x512 1 × IVec S32768x512 1 × IVec S128 1 × IVec S1024x1024 1 × IVec S1024 1 × IVec S1024x16 1 :=
  let main_v0 : FVec F S32768x512 .f32 := (extractStridedSlice S32768x512 ![0, 3584] · slices_S32768x4096_S32768x512_0_3584) main_arg4
  let main_v1 : FVec F S32768x1024 .f32 := Host.absf main_arg0
  let main_cst : FVec F S_ .f32 := constant S_ .f32 0x7F800000#32
  let main_v2 : FVec F S32768x1024 .f32 := broadcastInDim S32768x1024 ![] bcast_S_S32768x1024 main_cst
  let main_v3 : IVec S32768x1024 1 := cmpf .olt main_v1 main_v2
  let main_v4 : FVec F S32768x512 .f32 := (extf .f32 · bitsLt_bf16_f32) main_arg1
  let main_v5 : FVec F S32768x512 .f32 := Host.absf main_v4
  let main_cst_0 : FVec F S_ .f32 := constant S_ .f32 0x7F800000#32
  let main_v6 : FVec F S32768x512 .f32 := broadcastInDim S32768x512 ![] bcast_S_S32768x512 main_cst_0
  let main_v7 : IVec S32768x512 1 := cmpf .olt main_v5 main_v6
  let main_v8 : FVec F S32768x512 .f32 := (extf .f32 · bitsLt_bf16_f32) main_arg2
  let main_v9 : FVec F S32768x512 .f32 := Host.absf main_v8
  let main_cst_1 : FVec F S_ .f32 := constant S_ .f32 0x7F800000#32
  let main_v10 : FVec F S32768x512 .f32 := broadcastInDim S32768x512 ![] bcast_S_S32768x512 main_cst_1
  let main_v11 : IVec S32768x512 1 := cmpf .olt main_v9 main_v10
  let main_v12 : FVec F S32768x512 .f32 := (extf .f32 · bitsLt_bf16_f32) main_arg3
  let main_v13 : FVec F S32768x512 .f32 := Host.absf main_v12
  let main_cst_2 : FVec F S_ .f32 := constant S_ .f32 0x7F800000#32
  let main_v14 : FVec F S32768x512 .f32 := broadcastInDim S32768x512 ![] bcast_S_S32768x512 main_cst_2
  let main_v15 : IVec S32768x512 1 := cmpf .olt main_v13 main_v14
  let main_v16 : FVec F S32768x512 .f32 := Host.absf main_v0
  let main_cst_3 : FVec F S_ .f32 := constant S_ .f32 0x7F800000#32
  let main_v17 : FVec F S32768x512 .f32 := broadcastInDim S32768x512 ![] bcast_S_S32768x512 main_cst_3
  let main_v18 : IVec S32768x512 1 := cmpf .olt main_v16 main_v17
  fn_part1 (F := F) main_arg5 main_arg6 main_arg7 main_arg8 main_v3 main_v7 main_v11 main_v15 main_v18
-- ==== Pre_floats.lean ====
abbrev S32768x128 : Shape := ⟨2, ![32768, 128]⟩
abbrev S_ : Shape := ⟨0, ![]⟩

class Facts : Prop where
  bcast_S_S32768x128 : S_.BroadcastsInDim S32768x128 (![] : Fin 0 → Fin S32768x128.rank)

variable [Facts]

def fn {F : FTy → Type} [FloatOps F] (main_arg0 : IVec S32768x128 32) : IVec S32768x128 1 :=
  let main_c : IVec S_ 32 := constantI S_ 32 0#32
  let main_v0 : IVec S32768x128 32 := broadcastInDim S32768x128 ![] bcast_S_S32768x128 main_c
  let main_v1 : IVec S32768x128 1 := cmpi .sge main_arg0 main_v0
  let main_c_0 : IVec S_ 32 := constantI S_ 32 2139095040#32
  let main_v2 : IVec S32768x128 32 := broadcastInDim S32768x128 ![] bcast_S_S32768x128 main_c_0
  let main_v3 : IVec S32768x128 1 := cmpi .slt main_arg0 main_v2
  let main_v4 : IVec S32768x128 1 := andi main_v1 main_v3
  main_v4
-- ==== Pre_routed.lean ====
abbrev S32768x128 : Shape := ⟨2, ![32768, 128]⟩
abbrev S128x128 : Shape := ⟨2, ![128, 128]⟩
abbrev S4x16x1296x1024 : Shape := ⟨4, ![4, 16, 1296, 1024]⟩
abbrev S32768x1024 : Shape := ⟨2, ![32768, 1024]⟩
abbrev S4x32x128 : Shape := ⟨3, ![4, 32, 128]⟩
abbrev S4x32x16 : Shape := ⟨3, ![4, 32, 16]⟩
abbrev S4x31x16 : Shape := ⟨3, ![4, 31, 16]⟩
abbrev S_ : Shape := ⟨0, ![]⟩
abbrev S4x1x16 : Shape := ⟨3, ![4, 1, 16]⟩
abbrev S4x32x256x128 : Shape := ⟨4, ![4, 32, 256, 128]⟩
abbrev S4x32x256x16 : Shape := ⟨4, ![4, 32, 256, 16]⟩
abbrev S4x32x1x16 : Shape := ⟨4, ![4, 32, 1, 16]⟩

class Facts : Prop where
  shapeCasts_S128x128_S4x32x128 : S128x128.ShapeCasts S4x32x128
  slices_S4x32x128_S4x32x16_0_0_0 : S4x32x128.Slices ![0, 0, 0] S4x32x16
  slices_S4x32x16_S4x31x16_0_1_0 : S4x32x16.Slices ![0, 1, 0] S4x31x16
  bcast_S_S4x1x16 : S_.BroadcastsInDim S4x1x16 (![] : Fin 0 → Fin S4x1x16.rank)
  concatenates_S4x31x16_S4x1x16_S4x32x16_d1 : Shape.Concatenates [S4x31x16, S4x1x16] S4x32x16 1
  shapeCasts_S32768x128_S4x32x256x128 : S32768x128.ShapeCasts S4x32x256x128
  slices_S4x32x256x128_S4x32x256x16_0_0_0_0 : S4x32x256x128.Slices ![0, 0, 0, 0] S4x32x256x16
  bcast_S_S4x32x16 : S_.BroadcastsInDim S4x32x16 (![] : Fin 0 → Fin S4x32x16.rank)
  bcast_S_S4x32x256x16 : S_.BroadcastsInDim S4x32x256x16 (![] : Fin 0 → Fin S4x32x256x16.rank)
  bcast_S4x32x16_S4x32x1x16_0_1_3 : S4x32x16.BroadcastsInDim S4x32x1x16 (![0, 1, 3] : Fin 3 → Fin S4x32x1x16.rank)
  bcast_S4x32x1x16_S4x32x256x16_0_1_2_3 : S4x32x1x16.BroadcastsInDim S4x32x256x16 (![0, 1, 2, 3] : Fin 4 → Fin S4x32x256x16.rank)
  bcast_S_S4x32x1x16 : S_.BroadcastsInDim S4x32x1x16 (![] : Fin 0 → Fin S4x32x1x16.rank)

variable [Facts]

def fn_part1 {F : FTy → Type} [FloatOps F] (main_v1 : IVec S4x32x16 32) (main_v6 : IVec S4x32x256x16 32) (main_v11 : IVec S4x32x16 1) (main_v13 : IVec S4x32x256x16 1) (main_v16 : IVec S4x32x256x16 1) (main_v19 : IVec S4x32x256x16 1) : IVec S4x32x16 1 × IVec S4x32x256x16 1 :=
  let main_v20 : IVec S4x32x256x16 1 := andi main_v16 main_v19
  let main_v21 : IVec S4x32x1x16 32 := broadcastInDim S4x32x1x16 ![0, 1, 3] bcast_S4x32x16_S4x32x1x16_0_1_3 main_v1
  let main_c_3 : IVec S_ 32 := constantI S_ 32 256#32
  let main_v22 : IVec S4x32x1x16 32 := broadcastInDim S4x32x1x16 ![] bcast_S_S4x32x1x16 main_c_3
  let main_v23 : IVec S4x32x1x16 32 := addi main_v21 main_v22
  let main_v24 : IVec S4x32x256x16 32 := broadcastInDim S4x32x256x16 ![0, 1, 2, 3] bcast_S4x32x1x16_S4x32x256x16_0_1_2_3 main_v23
  let main_v25 : IVec S4x32x256x16 1 := cmpi .slt main_v6 main_v24
  let main_v26 : IVec S4x32x256x16 1 := andi main_v20 main_v25
  let main_v27 : IVec S4x32x256x16 1 := ori main_v13 main_v26
  (main_v11, main_v27)

def fn {F : FTy → Type} [FloatOps F] (main_arg0 : IVec S32768x128 32) (main_arg1 : IVec S128x128 32) (main_arg2 : FVec F S4x16x1296x1024 .bf16) (main_arg3 : FVec F S32768x1024 .f32) : IVec S4x32x16 1 × IVec S4x32x256x16 1 :=
  let main_v0 : IVec S4x32x128 32 := shapeCast S4x32x128 main_arg1 shapeCasts_S128x128_S4x32x128
  let main_v1 : IVec S4x32x16 32 := (extractStridedSlice S4x32x16 ![0, 0, 0] · slices_S4x32x128_S4x32x16_0_0_0) main_v0
  let main_v2 : IVec S4x31x16 32 := (extractStridedSlice S4x31x16 ![0, 1, 0] · slices_S4x32x16_S4x31x16_0_1_0) main_v1
  let main_c : IVec S_ 32 := constantI S_ 32 1024#32
  let main_v3 : IVec S4x1x16 32 := broadcastInDim S4x1x16 ![] bcast_S_S4x1x16 main_c
  let main_v4 : IVec S4x32x16 32 := (fun a b => concatenate S4x32x16 1 [⟨S4x31x16, a⟩, ⟨S4x1x16, b⟩] concatenates_S4x31x16_S4x1x16_S4x32x16_d1) main_v2 main_v3
  let main_v5 : IVec S4x32x256x128 32 := shapeCast S4x32x256x128 main_arg0 shapeCasts_S32768x128_S4x32x256x128
  let main_v6 : IVec S4x32x256x16 32 := (extractStridedSlice S4x32x256x16 ![0, 0, 0, 0] · slices_S4x32x256x128_S4x32x256x16_0_0_0_0) main_v5
  let main_c_0 : IVec S_ 32 := constantI S_ 32 0#32
  let main_v7 : IVec S4x32x16 32 := broadcastInDim S4x32x16 ![] bcast_S_S4x32x16 main_c_0
  let main_v8 : IVec S4x32x16 1 := cmpi .sge main_v1 main_v7
  let main_c_1 : IVec S_ 32 := constantI S_ 32 1024#32
  let main_v9 : IVec S4x32x16 32 := broadcastInDim S4x32x16 ![] bcast_S_S4x32x16 main_c_1
  let main_v10 : IVec S4x32x16 1 := cmpi .sle main_v1 main_v9
  let main_v11 : IVec S4x32x16 1 := andi main_v8 main_v10
  let main_c_2 : IVec S_ 32 := constantI S_ 32 4294967295#32
  let main_v12 : IVec S4x32x256x16 32 := broadcastInDim S4x32x256x16 ![] bcast_S_S4x32x256x16 main_c_2
  let main_v13 : IVec S4x32x256x16 1 := cmpi .eq main_v6 main_v12
  let main_v14 : IVec S4x32x1x16 32 := broadcastInDim S4x32x1x16 ![0, 1, 3] bcast_S4x32x16_S4x32x1x16_0_1_3 main_v1
  let main_v15 : IVec S4x32x256x16 32 := broadcastInDim S4x32x256x16 ![0, 1, 2, 3] bcast_S4x32x1x16_S4x32x256x16_0_1_2_3 main_v14
  let main_v16 : IVec S4x32x256x16 1 := cmpi .sge main_v6 main_v15
  let main_v17 : IVec S4x32x1x16 32 := broadcastInDim S4x32x1x16 ![0, 1, 3] bcast_S4x32x16_S4x32x1x16_0_1_3 main_v4
  let main_v18 : IVec S4x32x256x16 32 := broadcastInDim S4x32x256x16 ![0, 1, 2, 3] bcast_S4x32x1x16_S4x32x256x16_0_1_2_3 main_v17
  let main_v19 : IVec S4x32x256x16 1 := cmpi .slt main_v6 main_v18
  fn_part1 (F := F) main_v1 main_v6 main_v11 main_v13 main_v16 main_v19
-- ==== Kernel.lean ====
abbrev S4x16x1296x1280 : Shape := ⟨4, ![4, 16, 1296, 1280]⟩
abbrev S16x1024x1024 : Shape := ⟨3, ![16, 1024, 1024]⟩
abbrev S4x16x1296x1024 : Shape := ⟨4, ![4, 16, 1296, 1024]⟩
abbrev S1x1x1024x1024 : Shape := ⟨4, ![1, 1, 1024, 1024]⟩
abbrev S1x1x1024x256 : Shape := ⟨4, ![1, 1, 1024, 256]⟩
abbrev S1x1024x1024 : Shape := ⟨3, ![1, 1024, 1024]⟩
abbrev S1x1x1296x1024 : Shape := ⟨4, ![1, 1, 1296, 1024]⟩
abbrev S1024x1024 : Shape := ⟨2, ![1024, 1024]⟩
abbrev S256x1024 : Shape := ⟨2, ![256, 1024]⟩
abbrev S1x256 : Shape := ⟨2, ![1, 256]⟩
abbrev S1x1x256x1024 : Shape := ⟨4, ![1, 1, 256, 1024]⟩
abbrev S1x1x256x256 : Shape := ⟨4, ![1, 1, 256, 256]⟩
abbrev S256x256 : Shape := ⟨2, ![256, 256]⟩
abbrev S256 : Shape := ⟨1, ![256]⟩
abbrev S256x1 : Shape := ⟨2, ![256, 1]⟩
abbrev S272x1024 : Shape := ⟨2, ![272, 1024]⟩
abbrev S1x1x272x1024 : Shape := ⟨4, ![1, 1, 272, 1024]⟩

abbrev nBuf : Space → Nat
  | .hbm => 5
  | .vmem => 15
  | .smem => 0
  | _ => 0

abbrev bufTy : (tb : Table) → Fin (tcTables nBuf tb) → BufTy
  | .hbm, ⟨0, _⟩ => ⟨S4x16x1296x1280, .bf16⟩
  | .hbm, ⟨1, _⟩ => ⟨S16x1024x1024, .f32⟩
  | .hbm, ⟨2, _⟩ => ⟨S16x1024x1024, .f32⟩
  | .hbm, ⟨3, _⟩ => ⟨S16x1024x1024, .f32⟩
  | .hbm, ⟨4, _⟩ => ⟨S4x16x1296x1024, .bf16⟩
  | .local _ .vmem, ⟨0, _⟩ => ⟨S1x1x1024x1024, .bf16⟩
  | .local _ .vmem, ⟨1, _⟩ => ⟨S1x1x1024x1024, .bf16⟩
  | .local _ .vmem, ⟨2, _⟩ => ⟨S1x1x1024x256, .bf16⟩
  | .local _ .vmem, ⟨3, _⟩ => ⟨S1x1x1024x256, .bf16⟩
  | .local _ .vmem, ⟨4, _⟩ => ⟨S1x1024x1024, .f32⟩
  | .local _ .vmem, ⟨5, _⟩ => ⟨S1x1024x1024, .f32⟩
  | .local _ .vmem, ⟨6, _⟩ => ⟨S1x1024x1024, .f32⟩
  | .local _ .vmem, ⟨7, _⟩ => ⟨S1x1024x1024, .f32⟩
  | .local _ .vmem, ⟨8, _⟩ => ⟨S1x1024x1024, .f32⟩
  | .local _ .vmem, ⟨9, _⟩ => ⟨S1x1024x1024, .f32⟩
  | .local _ .vmem, ⟨10, _⟩ => ⟨S1x1x1296x1024, .bf16⟩
  | .local _ .vmem, ⟨11, _⟩ => ⟨S1x1x1296x1024, .bf16⟩
  | .local _ .vmem, ⟨12, _⟩ => ⟨S1024x1024, .bf16⟩
  | .local _ .vmem, ⟨13, _⟩ => ⟨S1024x1024, .bf16⟩
  | .local _ .vmem, ⟨14, _⟩ => ⟨S1024x1024, .bf16⟩
  | _, _ => ⟨S4x16x1296x1280, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c4_i32 : BitVec 32 := 4#32
  let c0_i32_0 : BitVec 32 := 0#32
  ![arg1.toNat, arg0.toNat, c0_i32.toNat, c4_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

abbrev stage0_0 : Fin 2 → Memref sig .tc .vmem S1x1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x1296x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceIdeal.lean ====
abbrev S4x16x1296x1280 : Shape := ⟨4, ![4, 16, 1296, 1280]⟩
abbrev S16x1024x1024 : Shape := ⟨3, ![16, 1024, 1024]⟩
abbrev S4x16x1024x1024 : Shape := ⟨4, ![4, 16, 1024, 1024]⟩
abbrev S4x16x1024x256 : Shape := ⟨4, ![4, 16, 1024, 256]⟩
abbrev S16 : Shape := ⟨1, ![16]⟩
abbrev S16x1x1 : Shape := ⟨3, ![16, 1, 1]⟩
abbrev S128 : Shape := ⟨1, ![128]⟩
abbrev S1x1x128 : Shape := ⟨3, ![1, 1, 128]⟩
abbrev S16x1x128 : Shape := ⟨3, ![16, 1, 128]⟩
abbrev S4x16x1024x128 : Shape := ⟨4, ![4, 16, 1024, 128]⟩
abbrev S_ : Shape := ⟨0, ![]⟩
abbrev S4x16x1024 : Shape := ⟨3, ![4, 16, 1024]⟩
abbrev S16x1024x4x1024 : Shape := ⟨4, ![16, 1024, 4, 1024]⟩
abbrev S4x16x1024x1 : Shape := ⟨4, ![4, 16, 1024, 1]⟩
abbrev S4x16x1296x1024 : Shape := ⟨4, ![4, 16, 1296, 1024]⟩

abbrev nBuf : Space → Nat
  | .hbm => 48
  | .vmem => 0
  | .smem => 0
  | _ => 0

abbrev bufTy : (tb : Table) → Fin (tcTables nBuf tb) → BufTy
  | .hbm, ⟨0, _⟩ => ⟨S4x16x1296x1280, .bf16⟩
  | .hbm, ⟨1, _⟩ => ⟨S16x1024x1024, .f32⟩
  | .hbm, ⟨2, _⟩ => ⟨S16x1024x1024, .f32⟩
  | .hbm, ⟨3, _⟩ => ⟨S16x1024x1024, .f32⟩
  | .hbm, ⟨4, _⟩ => ⟨S4x16x1024x1024, .bf16⟩
  | .hbm, ⟨5, _⟩ => ⟨S4x16x1024x1024, .f32⟩
  | .hbm, ⟨6, _⟩ => ⟨S4x16x1024x256, .bf16⟩
  | .hbm, ⟨7, _⟩ => ⟨S4x16x1024x256, .f32⟩
  | .hbm, ⟨8, _⟩ => ⟨S16, .i32⟩
  | .hbm, ⟨9, _⟩ => ⟨S16x1x1, .i32⟩
  | .hbm, ⟨10, _⟩ => ⟨S128, .i32⟩
  | .hbm, ⟨11, _⟩ => ⟨S1x1x128, .i32⟩
  | .hbm, ⟨12, _⟩ => ⟨S16x1x128, .i32⟩
  | .hbm, ⟨13, _⟩ => ⟨S16x1x128, .i32⟩
  | .hbm, ⟨14, _⟩ => ⟨S16x1x128, .i1⟩
  | .hbm, ⟨15, _⟩ => ⟨S4x16x1024x128, .f32⟩
  | .hbm, ⟨16, _⟩ => ⟨S4x16x1024x128, .f32⟩
  | .hbm, ⟨17, _⟩ => ⟨S4x16x1024x128, .f32⟩
  | .hbm, ⟨18, _⟩ => ⟨S_, .f32⟩
  | .hbm, ⟨19, _⟩ => ⟨S_, .f32⟩
  | .hbm, ⟨20, _⟩ => ⟨S4x16x1024x128, .i1⟩
  | .hbm, ⟨21, _⟩ => ⟨S4x16x1024x128, .f32⟩
  | .hbm, ⟨22, _⟩ => ⟨S4x16x1024x128, .f32⟩
  | .hbm, ⟨23, _⟩ => ⟨S_, .f32⟩
  | .hbm, ⟨24, _⟩ => ⟨S4x16x1024, .f32⟩
  | .hbm, ⟨25, _⟩ => ⟨S16x1024x4x1024, .f32⟩
  | .hbm, ⟨26, _⟩ => ⟨S4x16x1024x1024, .f32⟩
  | .hbm, ⟨27, _⟩ => ⟨S4x16x1024x1024, .f32⟩
  | .hbm, ⟨28, _⟩ => ⟨S4x16x1024x1024, .f32⟩
  | .hbm, ⟨29, _⟩ => ⟨S_, .f32⟩
  | .hbm, ⟨30, _⟩ => ⟨S4x16x1024x1024, .f32⟩
  | .hbm, ⟨31, _⟩ => ⟨S4x16x1024x1024, .f32⟩
  | .hbm, ⟨32, _⟩ => ⟨S_, .f32⟩
  | .hbm, ⟨33, _⟩ => ⟨S4x16x1024x1024, .f32⟩
  | .hbm, ⟨34, _⟩ => ⟨S4x16x1024x1024, .f32⟩
  | .hbm, ⟨35, _⟩ => ⟨S4x16x1024x1024, .f32⟩
  | .hbm, ⟨36, _⟩ => ⟨S16x1024x4x1024, .f32⟩
  | .hbm, ⟨37, _⟩ => ⟨S4x16x1024x1024, .f32⟩
  | .hbm, ⟨38, _⟩ => ⟨S4x16x1024x1024, .f32⟩
  | .hbm, ⟨39, _⟩ => ⟨S16x1024x4x1024, .f32⟩
  | .hbm, ⟨40, _⟩ => ⟨S4x16x1024x1024, .f32⟩
  | .hbm, ⟨41, _⟩ => ⟨S4x16x1024x1, .f32⟩
  | .hbm, ⟨42, _⟩ => ⟨S4x16x1024x1024, .f32⟩
  | .hbm, ⟨43, _⟩ => ⟨S4x16x1024x1024, .f32⟩
  | .hbm, ⟨44, _⟩ => ⟨S_, .i32⟩
  | .hbm, ⟨45, _⟩ => ⟨S_, .f32⟩
  | .hbm, ⟨46, _⟩ => ⟨S4x16x1296x1024, .f32⟩
  | .hbm, ⟨47, _⟩ => ⟨S4x16x1296x1024, .bf16⟩
  | _, _ => ⟨S4x16x1296x1280, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_v14 : Ref sig .tc := ⟨.hbm, 22, rfl⟩
abbrev main_cst_0 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_call1_v0 : Ref sig .tc := ⟨.hbm, 27, rfl⟩
abbrev main_call1_v1 : Ref sig .tc := ⟨.hbm, 28, rfl⟩
abbrev main_call1_cst : Ref sig .tc := ⟨.hbm, 29, rfl⟩
abbrev main_call1_v2 : Ref sig .tc := ⟨.hbm, 30, rfl⟩
abbrev main_call1_v3 : Ref sig .tc := ⟨.hbm, 31, rfl⟩
abbrev main_call1_cst_0 : Ref sig .tc := ⟨.hbm, 32, rfl⟩
abbrev main_call1_v4 : Ref sig .tc := ⟨.hbm, 33, rfl⟩
abbrev main_call1_v5 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_c : Ref sig .tc := ⟨.hbm, 44, rfl⟩
abbrev main_call2_v0 : Ref sig .tc := ⟨.hbm, 45, rfl⟩
abbrev main_v27 : Ref sig .tc := ⟨.hbm, 46, rfl⟩
abbrev main_v28 : Ref sig .tc := ⟨.hbm, 47, rfl⟩

abbrev nD : Nat := 1
abbrev τ : Topo := Topo.v7x

variable {F : FTy → Type} [FloatOps F]
-- ==== Kernel2.lean ====
abbrev S32768x1024 : Shape := ⟨2, ![32768, 1024]⟩
abbrev S1024 : Shape := ⟨1, ![1024]⟩
abbrev S1024x4096 : Shape := ⟨2, ![1024, 4096]⟩
abbrev S64 : Shape := ⟨1, ![64]⟩
abbrev S1x1024 : Shape := ⟨2, ![1, 1024]⟩
abbrev S1x64 : Shape := ⟨2, ![1, 64]⟩
abbrev S8x64 : Shape := ⟨2, ![8, 64]⟩
abbrev S512 : Shape := ⟨1, ![512]⟩
abbrev S1x512 : Shape := ⟨2, ![1, 512]⟩
abbrev S32768x4096 : Shape := ⟨2, ![32768, 4096]⟩
abbrev S512x1024 : Shape := ⟨2, ![512, 1024]⟩
abbrev S512x4096 : Shape := ⟨2, ![512, 4096]⟩
abbrev S256x4096 : Shape := ⟨2, ![256, 4096]⟩
abbrev S512x1 : Shape := ⟨2, ![512, 1]⟩
abbrev S1024x512 : Shape := ⟨2, ![1024, 512]⟩
abbrev S512x512 : Shape := ⟨2, ![512, 512]⟩
abbrev S512x128 : Shape := ⟨2, ![512, 128]⟩
abbrev S1x128 : Shape := ⟨2, ![1, 128]⟩

abbrev nBuf : Space → Nat
  | .hbm => 15
  | .vmem => 9
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x4096, .f32⟩
  | .hbm, ⟨3, _⟩ => ⟨S64, .f32⟩
  | .hbm, ⟨4, _⟩ => ⟨S64, .f32⟩
  | .hbm, ⟨5, _⟩ => ⟨S1x1024, .f32⟩
  | .hbm, ⟨6, _⟩ => ⟨S1x64, .f32⟩
  | .hbm, ⟨7, _⟩ => ⟨S8x64, .f32⟩
  | .hbm, ⟨8, _⟩ => ⟨S512, .f32⟩
  | .hbm, ⟨9, _⟩ => ⟨S1x512, .f32⟩
  | .hbm, ⟨10, _⟩ => ⟨S1x64, .f32⟩
  | .hbm, ⟨11, _⟩ => ⟨S8x64, .f32⟩
  | .hbm, ⟨12, _⟩ => ⟨S512, .f32⟩
  | .hbm, ⟨13, _⟩ => ⟨S1x512, .f32⟩
  | .hbm, ⟨14, _⟩ => ⟨S32768x4096, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x4096, .f32⟩
  | .local _ .vmem, ⟨4, _⟩ => ⟨S1x512, .f32⟩
  | .local _ .vmem, ⟨5, _⟩ => ⟨S1x512, .f32⟩
  | .local _ .vmem, ⟨6, _⟩ => ⟨S512x4096, .f32⟩
  | .local _ .vmem, ⟨7, _⟩ => ⟨S512x4096, .f32⟩
  | .local _ .vmem, ⟨8, _⟩ => ⟨S1024x4096, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference2Ideal.lean ====
abbrev S32768x1024 : Shape := ⟨2, ![32768, 1024]⟩
abbrev S1024 : Shape := ⟨1, ![1024]⟩
abbrev S1024x4096 : Shape := ⟨2, ![1024, 4096]⟩
abbrev S64 : Shape := ⟨1, ![64]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x4096 : Shape := ⟨2, ![32768, 4096]⟩
abbrev S32768x512 : Shape := ⟨2, ![32768, 512]⟩
abbrev S32768x8x64 : Shape := ⟨3, ![32768, 8, 64]⟩
abbrev S32768x8 : Shape := ⟨2, ![32768, 8]⟩
abbrev S32768x8x1 : Shape := ⟨3, ![32768, 8, 1]⟩
abbrev S1x1x64 : Shape := ⟨3, ![1, 1, 64]⟩
abbrev S32768x3072 : Shape := ⟨2, ![32768, 3072]⟩

abbrev nBuf : Space → Nat
  | .hbm => 65
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x4096, .f32⟩
  | .hbm, ⟨3, _⟩ => ⟨S64, .f32⟩
  | .hbm, ⟨4, _⟩ => ⟨S64, .f32⟩
  | .hbm, ⟨5, _⟩ => ⟨S32768x1024, .f32⟩
  | .hbm, ⟨6, _⟩ => ⟨S_, .f32⟩
  | .hbm, ⟨7, _⟩ => ⟨S32768, .f32⟩
  | .hbm, ⟨8, _⟩ => ⟨S32768x1, .f32⟩
  | .hbm, ⟨9, _⟩ => ⟨S_, .f32⟩
  | .hbm, ⟨10, _⟩ => ⟨S32768x1, .f32⟩
  | .hbm, ⟨11, _⟩ => ⟨S32768x1, .f32⟩
  | .hbm, ⟨12, _⟩ => ⟨S_, .f32⟩
  | .hbm, ⟨13, _⟩ => ⟨S32768x1, .f32⟩
  | .hbm, ⟨14, _⟩ => ⟨S32768x1, .f32⟩
  | .hbm, ⟨15, _⟩ => ⟨S32768x1, .f32⟩
  | .hbm, ⟨16, _⟩ => ⟨S32768x1024, .f32⟩
  | .hbm, ⟨17, _⟩ => ⟨S32768x1024, .f32⟩
  | .hbm, ⟨18, _⟩ => ⟨S1x1024, .f32⟩
  | .hbm, ⟨19, _⟩ => ⟨S32768x1024, .f32⟩
  | .hbm, ⟨20, _⟩ => ⟨S32768x1024, .f32⟩
  | .hbm, ⟨21, _⟩ => ⟨S32768x4096, .f32⟩
  | .hbm, ⟨22, _⟩ => ⟨S32768x512, .f32⟩
  | .hbm, ⟨23, _⟩ => ⟨S32768x8x64, .f32⟩
  | .hbm, ⟨24, _⟩ => ⟨S32768x8x64, .f32⟩
  | .hbm, ⟨25, _⟩ => ⟨S_, .f32⟩
  | .hbm, ⟨26, _⟩ => ⟨S32768x8, .f32⟩
  | .hbm, ⟨27, _⟩ => ⟨S32768x8x1, .f32⟩
  | .hbm, ⟨28, _⟩ => ⟨S_, .f32⟩
  | .hbm, ⟨29, _⟩ => ⟨S32768x8x1, .f32⟩
  | .hbm, ⟨30, _⟩ => ⟨S32768x8x1, .f32⟩
  | .hbm, ⟨31, _⟩ => ⟨S_, .f32⟩
  | .hbm, ⟨32, _⟩ => ⟨S32768x8x1, .f32⟩
  | .hbm, ⟨33, _⟩ => ⟨S32768x8x1, .f32⟩
  | .hbm, ⟨34, _⟩ => ⟨S32768x8x1, .f32⟩
  | .hbm, ⟨35, _⟩ => ⟨S32768x8x64, .f32⟩
  | .hbm, ⟨36, _⟩ => ⟨S32768x8x64, .f32⟩
  | .hbm, ⟨37, _⟩ => ⟨S1x1x64, .f32⟩
  | .hbm, ⟨38, _⟩ => ⟨S32768x8x64, .f32⟩
  | .hbm, ⟨39, _⟩ => ⟨S32768x8x64, .f32⟩
  | .hbm, ⟨40, _⟩ => ⟨S_, .f32⟩
  | .hbm, ⟨41, _⟩ => ⟨S32768x8x64, .f32⟩
  | .hbm, ⟨42, _⟩ => ⟨S32768x8x64, .f32⟩
  | .hbm, ⟨43, _⟩ => ⟨S32768x512, .f32⟩
  | .hbm, ⟨44, _⟩ => ⟨S32768x8x64, .f32⟩
  | .hbm, ⟨45, _⟩ => ⟨S32768x8x64, .f32⟩
  | .hbm, ⟨46, _⟩ => ⟨S_, .f32⟩
  | .hbm, ⟨47, _⟩ => ⟨S32768x8, .f32⟩
  | .hbm, ⟨48, _⟩ => ⟨S32768x8x1, .f32⟩
  | .hbm, ⟨49, _⟩ => ⟨S_, .f32⟩
  | .hbm, ⟨50, _⟩ => ⟨S32768x8x1, .f32⟩
  | .hbm, ⟨51, _⟩ => ⟨S32768x8x1, .f32⟩
  | .hbm, ⟨52, _⟩ => ⟨S_, .f32⟩
  | .hbm, ⟨53, _⟩ => ⟨S32768x8x1, .f32⟩
  | .hbm, ⟨54, _⟩ => ⟨S32768x8x1, .f32⟩
  | .hbm, ⟨55, _⟩ => ⟨S32768x8x1, .f32⟩
  | .hbm, ⟨56, _⟩ => ⟨S32768x8x64, .f32⟩
  | .hbm, ⟨57, _⟩ => ⟨S32768x8x64, .f32⟩
  | .hbm, ⟨58, _⟩ => ⟨S1x1x64, .f32⟩
  | .hbm, ⟨59, _⟩ => ⟨S32768x8x64, .f32⟩
  | .hbm, ⟨60, _⟩ => ⟨S32768x8x64, .f32⟩
  | .hbm, ⟨61, _⟩ => ⟨S32768x512, .f32⟩
  | .hbm, ⟨62, _⟩ => ⟨S32768x512, .f32⟩
  | .hbm, ⟨63, _⟩ => ⟨S32768x3072, .f32⟩
  | .hbm, ⟨64, _⟩ => ⟨S32768x4096, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_6 : Ref sig .tc := ⟨.hbm, 46, rfl⟩
abbrev main_v34 : Ref sig .tc := ⟨.hbm, 47, rfl⟩
abbrev main_v35 : Ref sig .tc := ⟨.hbm, 48, rfl⟩
abbrev main_cst_7 : Ref sig .tc := ⟨.hbm, 49, rfl⟩
abbrev main_v36 : Ref sig .tc := ⟨.hbm, 50, rfl⟩
abbrev main_v37 : Ref sig .tc := ⟨.hbm, 51, rfl⟩
abbrev main_cst_8 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩

abbrev nD : Nat := 1
abbrev τ : Topo := Topo.v7x

variable {F : FTy → Type} [FloatOps F]
-- ==== Kernel3.lean ====
abbrev S32768x1024 : Shape := ⟨2, ![32768, 1024]⟩
abbrev S32768x512 : Shape := ⟨2, ![32768, 512]⟩
abbrev S32768x4096 : Shape := ⟨2, ![32768, 4096]⟩
abbrev S128 : Shape := ⟨1, ![128]⟩
abbrev S1024x1024 : Shape := ⟨2, ![1024, 1024]⟩
abbrev S1024 : Shape := ⟨1, ![1024]⟩
abbrev S1024x16 : Shape := ⟨2, ![1024, 16]⟩
abbrev S_ : Shape := ⟨0, ![]⟩
abbrev S1024x128 : Shape := ⟨2, ![1024, 128]⟩
abbrev S1024x256 : Shape := ⟨2, ![1024, 256]⟩
abbrev S1x128 : Shape := ⟨2, ![1, 128]⟩
abbrev S1x1024 : Shape := ⟨2, ![1, 1024]⟩
abbrev S32768x1280 : Shape := ⟨2, ![32768, 1280]⟩
abbrev S32768x128 : Shape := ⟨2, ![32768, 128]⟩
abbrev S512x1024 : Shape := ⟨2, ![512, 1024]⟩
abbrev S512x512 : Shape := ⟨2, ![512, 512]⟩
abbrev S512x1280 : Shape := ⟨2, ![512, 1280]⟩
abbrev S512x128 : Shape := ⟨2, ![512, 128]⟩
abbrev S256x1024 : Shape := ⟨2, ![256, 1024]⟩
abbrev S512 : Shape := ⟨1, ![512]⟩
abbrev S512x1 : Shape := ⟨2, ![512, 1]⟩
abbrev S512x256 : Shape := ⟨2, ![512, 256]⟩

abbrev nBuf : Space → Nat
  | .hbm => 22
  | .vmem => 21
  | .smem => 0
  | _ => 0

abbrev bufTy : (tb : Table) → Fin (tcTables nBuf tb) → BufTy
  | .hbm, ⟨0, _⟩ => ⟨S32768x1024, .f32⟩
  | .hbm, ⟨1, _⟩ => ⟨S32768x512, .bf16⟩
  | .hbm, ⟨2, _⟩ => ⟨S32768x512, .bf16⟩
  | .hbm, ⟨3, _⟩ => ⟨S32768x512, .bf16⟩
  | .hbm, ⟨4, _⟩ => ⟨S32768x4096, .f32⟩
  | .hbm, ⟨5, _⟩ => ⟨S128, .f32⟩
  | .hbm, ⟨6, _⟩ => ⟨S1024x1024, .f32⟩
  | .hbm, ⟨7, _⟩ => ⟨S1024, .f32⟩
  | .hbm, ⟨8, _⟩ => ⟨S1024x16, .f32⟩
  | .hbm, ⟨9, _⟩ => ⟨S_, .i32⟩
  | .hbm, ⟨10, _⟩ => ⟨S_, .f32⟩
  | .hbm, ⟨11, _⟩ => ⟨S1024x128, .f32⟩
  | .hbm, ⟨12, _⟩ => ⟨S1024x128, .bf16⟩
  | .hbm, ⟨13, _⟩ => ⟨S1024x128, .f32⟩
  | .hbm, ⟨14, _⟩ => ⟨S1024x128, .f32⟩
  | .hbm, ⟨15, _⟩ => ⟨S1024x128, .bf16⟩
  | .hbm, ⟨16, _⟩ => ⟨S1024x256, .bf16⟩
  | .hbm, ⟨17, _⟩ => ⟨S1x128, .f32⟩
  | .hbm, ⟨18, _⟩ => ⟨S1x1024, .f32⟩
  | .hbm, ⟨19, _⟩ => ⟨S32768x1024, .f32⟩
  | .hbm, ⟨20, _⟩ => ⟨S32768x1280, .bf16⟩
  | .hbm, ⟨21, _⟩ => ⟨S32768x128, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .f32⟩
  | .local _ .vmem, ⟨9, _⟩ => ⟨S512x512, .f32⟩
  | .local _ .vmem, ⟨10, _⟩ => ⟨S1x128, .f32⟩
  | .local _ .vmem, ⟨11, _⟩ => ⟨S1024x1024, .f32⟩
  | .local _ .vmem, ⟨12, _⟩ => ⟨S1x1024, .f32⟩
  | .local _ .vmem, ⟨13, _⟩ => ⟨S1024x256, .bf16⟩
  | .local _ .vmem, ⟨14, _⟩ => ⟨S512x1024, .f32⟩
  | .local _ .vmem, ⟨15, _⟩ => ⟨S512x1024, .f32⟩
  | .local _ .vmem, ⟨16, _⟩ => ⟨S512x1280, .bf16⟩
  | .local _ .vmem, ⟨17, _⟩ => ⟨S512x1280, .bf16⟩
  | .local _ .vmem, ⟨18, _⟩ => ⟨S512x128, .f32⟩
  | .local _ .vmem, ⟨19, _⟩ => ⟨S512x128, .f32⟩
  | .local _ .vmem, ⟨20, _⟩ => ⟨S1024x1024, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_call0_v0 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8_0 : Ref sig .tc := ⟨.hbm, 19, rfl⟩
abbrev main_v8_1 : Ref sig .tc := ⟨.hbm, 20, rfl⟩
abbrev main_v8_2 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1280 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Kernel3Ideal.lean ====
variable {F : FTy → Type} [FloatOps F] [Named F]
def κ : String → Option EReal := fun
  | "mask" => some ⊥
  | _ => none
-- ==== Reference3Ideal.lean ====
abbrev S32768x1024 : Shape := ⟨2, ![32768, 1024]⟩
abbrev S32768x512 : Shape := ⟨2, ![32768, 512]⟩
abbrev S32768x4096 : Shape := ⟨2, ![32768, 4096]⟩
abbrev S128 : Shape := ⟨1, ![128]⟩
abbrev S1024x1024 : Shape := ⟨2, ![1024, 1024]⟩
abbrev S1024 : Shape := ⟨1, ![1024]⟩
abbrev S1024x16 : Shape := ⟨2, ![1024, 16]⟩
abbrev S32768x4x128 : Shape := ⟨3, ![32768, 4, 128]⟩
abbrev S_ : Shape := ⟨0, ![]⟩
abbrev S32768x4 : Shape := ⟨2, ![32768, 4]⟩
abbrev S32768x4x1 : Shape := ⟨3, ![32768, 4, 1]⟩
abbrev S1x1x128 : Shape := ⟨3, ![1, 1, 128]⟩
abbrev S32768 : Shape := ⟨1, ![32768]⟩
abbrev S32768x1 : Shape := ⟨2, ![32768, 1]⟩
abbrev S1x1024 : Shape := ⟨2, ![1, 1024]⟩
abbrev S32768x16 : Shape := ⟨2, ![32768, 16]⟩
abbrev S32768x128 : Shape := ⟨2, ![32768, 128]⟩
abbrev S32768x1280 : Shape := ⟨2, ![32768, 1280]⟩

abbrev nBuf : Space → Nat
  | .hbm => 84
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x512, .bf16⟩
  | .hbm, ⟨2, _⟩ => ⟨S32768x512, .bf16⟩
  | .hbm, ⟨3, _⟩ => ⟨S32768x512, .bf16⟩
  | .hbm, ⟨4, _⟩ => ⟨S32768x4096, .f32⟩
  | .hbm, ⟨5, _⟩ => ⟨S128, .f32⟩
  | .hbm, ⟨6, _⟩ => ⟨S1024x1024, .f32⟩
  | .hbm, ⟨7, _⟩ => ⟨S1024, .f32⟩
  | .hbm, ⟨8, _⟩ => ⟨S1024x16, .f32⟩
  | .hbm, ⟨9, _⟩ => ⟨S32768x512, .f32⟩
  | .hbm, ⟨10, _⟩ => ⟨S32768x512, .f32⟩
  | .hbm, ⟨11, _⟩ => ⟨S32768x512, .f32⟩
  | .hbm, ⟨12, _⟩ => ⟨S32768x4x128, .f32⟩
  | .hbm, ⟨13, _⟩ => ⟨S32768x4x128, .f32⟩
  | .hbm, ⟨14, _⟩ => ⟨S_, .f32⟩
  | .hbm, ⟨15, _⟩ => ⟨S32768x4, .f32⟩
  | .hbm, ⟨16, _⟩ => ⟨S32768x4x1, .f32⟩
  | .hbm, ⟨17, _⟩ => ⟨S_, .f32⟩
  | .hbm, ⟨18, _⟩ => ⟨S32768x4x1, .f32⟩
  | .hbm, ⟨19, _⟩ => ⟨S32768x4x1, .f32⟩
  | .hbm, ⟨20, _⟩ => ⟨S_, .f32⟩
  | .hbm, ⟨21, _⟩ => ⟨S32768x4x1, .f32⟩
  | .hbm, ⟨22, _⟩ => ⟨S32768x4x1, .f32⟩
  | .hbm, ⟨23, _⟩ => ⟨S32768x4x1, .f32⟩
  | .hbm, ⟨24, _⟩ => ⟨S32768x4x128, .f32⟩
  | .hbm, ⟨25, _⟩ => ⟨S32768x4x128, .f32⟩
  | .hbm, ⟨26, _⟩ => ⟨S1x1x128, .f32⟩
  | .hbm, ⟨27, _⟩ => ⟨S32768x4x128, .f32⟩
  | .hbm, ⟨28, _⟩ => ⟨S32768x4x128, .f32⟩
  | .hbm, ⟨29, _⟩ => ⟨S32768x512, .f32⟩
  | .hbm, ⟨30, _⟩ => ⟨S32768x4x128, .f32⟩
  | .hbm, ⟨31, _⟩ => ⟨S32768x4x128, .f32⟩
  | .hbm, ⟨32, _⟩ => ⟨S32768x4x128, .f32⟩
  | .hbm, ⟨33, _⟩ => ⟨S_, .f32⟩
  | .hbm, ⟨34, _⟩ => ⟨S32768x4x128, .f32⟩
  | .hbm, ⟨35, _⟩ => ⟨S32768x4x128, .f32⟩
  | .hbm, ⟨36, _⟩ => ⟨S_, .f32⟩
  | .hbm, ⟨37, _⟩ => ⟨S32768x4x128, .f32⟩
  | .hbm, ⟨38, _⟩ => ⟨S32768x4x128, .f32⟩
  | .hbm, ⟨39, _⟩ => ⟨S32768x4x128, .f32⟩
  | .hbm, ⟨40, _⟩ => ⟨S32768x4x128, .f32⟩
  | .hbm, ⟨41, _⟩ => ⟨S32768x512, .f32⟩
  | .hbm, ⟨42, _⟩ => ⟨S32768x512, .f32⟩
  | .hbm, ⟨43, _⟩ => ⟨S32768x1024, .f32⟩
  | .hbm, ⟨44, _⟩ => ⟨S32768x1024, .f32⟩
  | .hbm, ⟨45, _⟩ => ⟨S32768x1024, .f32⟩
  | .hbm, ⟨46, _⟩ => ⟨S32768x1024, .f32⟩
  | .hbm, ⟨47, _⟩ => ⟨S_, .f32⟩
  | .hbm, ⟨48, _⟩ => ⟨S32768, .f32⟩
  | .hbm, ⟨49, _⟩ => ⟨S32768x1, .f32⟩
  | .hbm, ⟨50, _⟩ => ⟨S_, .f32⟩
  | .hbm, ⟨51, _⟩ => ⟨S32768x1, .f32⟩
  | .hbm, ⟨52, _⟩ => ⟨S32768x1, .f32⟩
  | .hbm, ⟨53, _⟩ => ⟨S_, .f32⟩
  | .hbm, ⟨54, _⟩ => ⟨S32768x1, .f32⟩
  | .hbm, ⟨55, _⟩ => ⟨S32768x1, .f32⟩
  | .hbm, ⟨56, _⟩ => ⟨S32768x1, .f32⟩
  | .hbm, ⟨57, _⟩ => ⟨S32768x1024, .f32⟩
  | .hbm, ⟨58, _⟩ => ⟨S32768x1024, .f32⟩
  | .hbm, ⟨59, _⟩ => ⟨S1x1024, .f32⟩
  | .hbm, ⟨60, _⟩ => ⟨S32768x1024, .f32⟩
  | .hbm, ⟨61, _⟩ => ⟨S32768x1024, .f32⟩
  | .hbm, ⟨62, _⟩ => ⟨S32768x16, .f32⟩
  | .hbm, ⟨63, _⟩ => ⟨S_, .f32⟩
  | .hbm, ⟨64, _⟩ => ⟨S32768, .f32⟩
  | .hbm, ⟨65, _⟩ => ⟨S_, .f32⟩
  | .hbm, ⟨66, _⟩ => ⟨S32768, .f32⟩
  | .hbm, ⟨67, _⟩ => ⟨S32768, .f32⟩
  | .hbm, ⟨68, _⟩ => ⟨S32768x1, .f32⟩
  | .hbm, ⟨69, _⟩ => ⟨S32768x16, .f32⟩
  | .hbm, ⟨70, _⟩ => ⟨S32768x16, .f32⟩
  | .hbm, ⟨71, _⟩ => ⟨S32768x16, .f32⟩
  | .hbm, ⟨72, _⟩ => ⟨S_, .f32⟩
  | .hbm, ⟨73, _⟩ => ⟨S32768, .f32⟩
  | .hbm, ⟨74, _⟩ => ⟨S32768x1, .f32⟩
  | .hbm, ⟨75, _⟩ => ⟨S32768x16, .f32⟩
  | .hbm, ⟨76, _⟩ => ⟨S32768x16, .f32⟩
  | .hbm, ⟨77, _⟩ => ⟨S_, .i32⟩
  | .hbm, ⟨78, _⟩ => ⟨S_, .f32⟩
  | .hbm, ⟨79, _⟩ => ⟨S32768x128, .f32⟩
  | .hbm, ⟨80, _⟩ => ⟨S_, .f32⟩
  | .hbm, ⟨81, _⟩ => ⟨S32768x128, .f32⟩
  | .hbm, ⟨82, _⟩ => ⟨S32768x1280, .f32⟩
  | .hbm, ⟨83, _⟩ => ⟨S32768x1280, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_call0_v5 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_cst_2 : Ref sig .tc := ⟨.hbm, 47, rfl⟩
abbrev main_v27 : Ref sig .tc := ⟨.hbm, 48, rfl⟩
abbrev main_v28 : Ref sig .tc := ⟨.hbm, 49, rfl⟩
abbrev main_cst_3 : Ref sig .tc := ⟨.hbm, 50, rfl⟩
abbrev main_v29 : Ref sig .tc := ⟨.hbm, 51, rfl⟩
abbrev main_v30 : Ref sig .tc := ⟨.hbm, 52, rfl⟩
abbrev main_cst_4 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_cst_5 : Ref sig .tc := ⟨.hbm, 63, rfl⟩
abbrev main_v40 : Ref sig .tc := ⟨.hbm, 64, rfl⟩
abbrev main_cst_6 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_cst_7 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_c : Ref sig .tc := ⟨.hbm, 77, rfl⟩
abbrev main_call1_v0 : Ref sig .tc := ⟨.hbm, 78, rfl⟩
abbrev main_v51 : Ref sig .tc := ⟨.hbm, 79, rfl⟩
abbrev main_cst_8 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩

abbrev nD : Nat := 1
abbrev τ : Topo := Topo.v7x

variable {F : FTy → Type} [FloatOps F]
-- ==== Kernel4.lean ====
abbrev S32768x128 : Shape := ⟨2, ![32768, 128]⟩
abbrev S128x128 : Shape := ⟨2, ![128, 128]⟩
abbrev S8192x128 : Shape := ⟨2, ![8192, 128]⟩
abbrev S32x128 : Shape := ⟨2, ![32, 128]⟩
abbrev S1x128 : Shape := ⟨2, ![1, 128]⟩
abbrev S8x128 : Shape := ⟨2, ![8, 128]⟩
abbrev S512x128 : Shape := ⟨2, ![512, 128]⟩
abbrev S64x8x128 : Shape := ⟨3, ![64, 8, 128]⟩
abbrev S128 : Shape := ⟨1, ![128]⟩
abbrev S256x256 : Shape := ⟨2, ![256, 256]⟩
abbrev S256x128 : Shape := ⟨2, ![256, 128]⟩

abbrev nBuf : Space → Nat
  | .hbm => 4
  | .vmem => 6
  | .smem => 0
  | _ => 0

abbrev bufTy : (tb : Table) → Fin (tcTables nBuf tb) → BufTy
  | .hbm, ⟨0, _⟩ => ⟨S32768x128, .i32⟩
  | .hbm, ⟨1, _⟩ => ⟨S32768x128, .f32⟩
  | .hbm, ⟨2, _⟩ => ⟨S32768x128, .i32⟩
  | .hbm, ⟨3, _⟩ => ⟨S128x128, .i32⟩
  | .local _ .vmem, ⟨0, _⟩ => ⟨S8192x128, .f32⟩
  | .local _ .vmem, ⟨1, _⟩ => ⟨S8192x128, .f32⟩
  | .local _ .vmem, ⟨2, _⟩ => ⟨S8192x128, .i32⟩
  | .local _ .vmem, ⟨3, _⟩ => ⟨S8192x128, .i32⟩
  | .local _ .vmem, ⟨4, _⟩ => ⟨S32x128, .i32⟩
  | .local _ .vmem, ⟨5, _⟩ => ⟨S32x128, .i32⟩
  | _, _ => ⟨S32768x128, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1_0 : Ref sig .tc := ⟨.hbm, 2, rfl⟩
abbrev main_v1_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32_0 : BitVec 32 := 0#32
  let c31_i32 : BitVec 32 := 31#32
  let v1 : BitVec 32 := Scalar.addi c0_i32_0 c31_i32
  let c1_i32 : BitVec 32 := 1#32
  ⟨c0_i32_0, v1, c1_i32⟩
@[reducible] def k0_t2_loop : Scf.Loop 32 :=
  let c0_i32_15 : BitVec 32 := 0#32
  let c16_i32_16 : BitVec 32 := 16#32
  let v28 : BitVec 32 := Scalar.addi c0_i32_15 c16_i32_16
  let c1_i32_17 : BitVec 32 := 1#32
  ⟨c0_i32_15, v28, c1_i32_17⟩
def k0_mult1 (k0_t2 : Fin k0_t2_loop.trips) : BitVec 32 :=
  let c0_i32_15 : BitVec 32 := 0#32
  let c1_i32_17 : BitVec 32 := 1#32
  let arg6 : BitVec 32 := Scf.iv c0_i32_15 c1_i32_17 k0_t2
  let c512_i32 : BitVec 32 := 512#32
  let v35 : BitVec 32 := Scalar.muli arg6 c512_i32
  v35
def k0_off1 (k0_t2 : Fin k0_t2_loop.trips) : Fin 2 → Nat :=
  let c0_i32_15 : BitVec 32 := 0#32
  let c1_i32_17 : BitVec 32 := 1#32
  let arg6 : BitVec 32 := Scf.iv c0_i32_15 c1_i32_17 k0_t2
  let c512_i32 : BitVec 32 := 512#32
  let v35 : BitVec 32 := Scalar.muli arg6 c512_i32
  let v36 : BitVec 32 := v35
  let v37 : Index := Scalar.indexCast v36
  let c0 : Index := 0#32
  ![v37.toNat, 0]
@[reducible] def k0_t3_loop : Scf.Loop 32 :=
  let c0_i32_3 : BitVec 32 := 0#32
  let c16_i32 : BitVec 32 := 16#32
  let v5 : BitVec 32 := Scalar.addi c0_i32_3 c16_i32
  let c1_i32_4 : BitVec 32 := 1#32
  ⟨c0_i32_3, v5, c1_i32_4⟩
def k0_mult2 (k0_t3 : Fin k0_t3_loop.trips) : BitVec 32 :=
  let c0_i32_3 : BitVec 32 := 0#32
  let c1_i32_4 : BitVec 32 := 1#32
  let arg4 : BitVec 32 := Scf.iv c0_i32_3 c1_i32_4 k0_t3
  let c512_i32 : BitVec 32 := 512#32
  let v22 : BitVec 32 := Scalar.muli arg4 c512_i32
  v22
def k0_off2 (k0_t3 : Fin k0_t3_loop.trips) : Fin 2 → Nat :=
  let c0_i32_3 : BitVec 32 := 0#32
  let c1_i32_4 : BitVec 32 := 1#32
  let arg4 : BitVec 32 := Scf.iv c0_i32_3 c1_i32_4 k0_t3
  let c512_i32 : BitVec 32 := 512#32
  let v22 : BitVec 32 := Scalar.muli arg4 c512_i32
  let v23 : BitVec 32 := v22
  let v24 : Index := Scalar.indexCast v23
  let c0 : Index := 0#32
  ![v24.toNat, 0]
@[reducible] def k0_t4_loop : Scf.Loop 32 :=
  let c0_i32_9 : BitVec 32 := 0#32
  let c16_i32_10 : BitVec 32 := 16#32
  let v20 : BitVec 32 := Scalar.addi c0_i32_9 c16_i32_10
  let c1_i32_11 : BitVec 32 := 1#32
  ⟨c0_i32_9, v20, c1_i32_11⟩
def k0_mult3 (k0_t4 : Fin k0_t4_loop.trips) : BitVec 32 :=
  let c0_i32_9 : BitVec 32 := 0#32
  let c1_i32_11 : BitVec 32 := 1#32
  let arg4 : BitVec 32 := Scf.iv c0_i32_9 c1_i32_11 k0_t4
  let c2_i32 : BitVec 32 := 2#32
  let v22 : BitVec 32 := Scalar.muli arg4 c2_i32
  let c0_i32_13 : BitVec 32 := 0#32
  let v23 : BitVec 32 := Scalar.addi v22 c0_i32_13
  let c256_i32 : BitVec 32 := 256#32
  let v24 : BitVec 32 := Scalar.muli v23 c256_i32
  v24
def k0_mult4 (k0_t4 : Fin k0_t4_loop.trips) : BitVec 32 :=
  let c0_i32_9 : BitVec 32 := 0#32
  let c1_i32_11 : BitVec 32 := 1#32
  let arg4 : BitVec 32 := Scf.iv c0_i32_9 c1_i32_11 k0_t4
  let c2_i32_14 : BitVec 32 := 2#32
  let v26 : BitVec 32 := Scalar.muli arg4 c2_i32_14
  let c1_i32_15 : BitVec 32 := 1#32
  let v27 : BitVec 32 := Scalar.addi v26 c1_i32_15
  let c256_i32_16 : BitVec 32 := 256#32
  let v28 : BitVec 32 := Scalar.muli v27 c256_i32_16
  v28
def k0_off3 (k0_t4 : Fin k0_t4_loop.trips) (c0_i32_13 : BitVec 32) : Fin 2 → Nat :=
  let c0_i32_9 : BitVec 32 := 0#32
  let c1_i32_11 : BitVec 32 := 1#32
  let arg4 : BitVec 32 := Scf.iv c0_i32_9 c1_i32_11 k0_t4
  let c2_i32 : BitVec 32 := 2#32
  let v22 : BitVec 32 := Scalar.muli arg4 c2_i32
  let v23 : BitVec 32 := Scalar.addi v22 c0_i32_13
  let c256_i32 : BitVec 32 := 256#32
  let v24 : BitVec 32 := Scalar.muli v23 c256_i32
  let v25 : BitVec 32 := v24
  let v30 : Index := Scalar.indexCast v25
  let c0 : Index := 0#32
  ![v30.toNat, 0]
def k0_off4 (k0_t4 : Fin k0_t4_loop.trips) (c0_i32_35 : BitVec 32) : Fin 2 → Nat :=
  let c0_i32_9 : BitVec 32 := 0#32
  let c1_i32_11 : BitVec 32 := 1#32
  let arg4 : BitVec 32 := Scf.iv c0_i32_9 c1_i32_11 k0_t4
  let c2_i32_34 : BitVec 32 := 2#32
  let v90 : BitVec 32 := Scalar.muli arg4 c2_i32_34
  let v91 : BitVec 32 := Scalar.addi v90 c0_i32_35
  let v92 : Index := Scalar.indexCast v91
  let c0_36 : Index := 0#32
  ![v92.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x128 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference4Ideal.lean ====
abbrev S32768x128 : Shape := ⟨2, ![32768, 128]⟩
abbrev S4x8192x128 : Shape := ⟨3, ![4, 8192, 128]⟩
abbrev S4x128x8192 : Shape := ⟨3, ![4, 128, 8192]⟩
abbrev S4x128x1024 : Shape := ⟨3, ![4, 128, 1024]⟩
abbrev S8192 : Shape := ⟨1, ![8192]⟩
abbrev S4x128x1024x1 : Shape := ⟨4, ![4, 128, 1024, 1]⟩
abbrev S1x1x1x8192 : Shape := ⟨4, ![1, 1, 1, 8192]⟩
abbrev S4x128x1024x8192 : Shape := ⟨4, ![4, 128, 1024, 8192]⟩
abbrev S_ : Shape := ⟨0, ![]⟩
abbrev S1x8192 : Shape := ⟨2, ![1, 8192]⟩
abbrev S8192x1 : Shape := ⟨2, ![8192, 1]⟩
abbrev S8192x8192 : Shape := ⟨2, ![8192, 8192]⟩
abbrev S4x32x128 : Shape := ⟨3, ![4, 32, 128]⟩
abbrev S128x128 : Shape := ⟨2, ![128, 128]⟩

abbrev nBuf : Space → Nat
  | .hbm => 33
  | .vmem => 0
  | .smem => 0
  | _ => 0

abbrev bufTy : (tb : Table) → Fin (tcTables nBuf tb) → BufTy
  | .hbm, ⟨0, _⟩ => ⟨S32768x128, .i32⟩
  | .hbm, ⟨1, _⟩ => ⟨S32768x128, .f32⟩
  | .hbm, ⟨2, _⟩ => ⟨S4x8192x128, .f32⟩
  | .hbm, ⟨3, _⟩ => ⟨S4x128x8192, .f32⟩
  | .hbm, ⟨4, _⟩ => ⟨S4x128x1024, .f32⟩
  | .hbm, ⟨5, _⟩ => ⟨S4x128x1024, .i32⟩
  | .hbm, ⟨6, _⟩ => ⟨S8192, .i32⟩
  | .hbm, ⟨7, _⟩ => ⟨S4x128x1024x1, .i32⟩
  | .hbm, ⟨8, _⟩ => ⟨S1x1x1x8192, .i32⟩
  | .hbm, ⟨9, _⟩ => ⟨S4x128x1024x8192, .i32⟩
  | .hbm, ⟨10, _⟩ => ⟨S4x128x1024x8192, .i32⟩
  | .hbm, ⟨11, _⟩ => ⟨S4x128x1024x8192, .i1⟩
  | .hbm, ⟨12, _⟩ => ⟨S_, .i1⟩
  | .hbm, ⟨13, _⟩ => ⟨S4x128x8192, .i1⟩
  | .hbm, ⟨14, _⟩ => ⟨S4x8192x128, .i1⟩
  | .hbm, ⟨15, _⟩ => ⟨S1x8192, .i32⟩
  | .hbm, ⟨16, _⟩ => ⟨S8192x1, .i32⟩
  | .hbm, ⟨17, _⟩ => ⟨S8192x8192, .i32⟩
  | .hbm, ⟨18, _⟩ => ⟨S8192x8192, .i32⟩
  | .hbm, ⟨19, _⟩ => ⟨S8192x8192, .i1⟩
  | .hbm, ⟨20, _⟩ => ⟨S8192x8192, .f32⟩
  | .hbm, ⟨21, _⟩ => ⟨S4x8192x128, .f32⟩
  | .hbm, ⟨22, _⟩ => ⟨S4x128x8192, .f32⟩
  | .hbm, ⟨23, _⟩ => ⟨S4x8192x128, .f32⟩
  | .hbm, ⟨24, _⟩ => ⟨S_, .f32⟩
  | .hbm, ⟨25, _⟩ => ⟨S_, .f32⟩
  | .hbm, ⟨26, _⟩ => ⟨S4x8192x128, .f32⟩
  | .hbm, ⟨27, _⟩ => ⟨S4x8192x128, .f32⟩
  | .hbm, ⟨28, _⟩ => ⟨S4x8192x128, .i32⟩
  | .hbm, ⟨29, _⟩ => ⟨S32768x128, .i32⟩
  | .hbm, ⟨30, _⟩ => ⟨S4x32x128, .f32⟩
  | .hbm, ⟨31, _⟩ => ⟨S4x32x128, .i32⟩
  | .hbm, ⟨32, _⟩ => ⟨S128x128, .i32⟩
  | _, _ => ⟨S32768x128, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_values : Ref sig .tc := ⟨.hbm, 4, rfl⟩
abbrev main_indices : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_c : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_cst : Ref sig .tc := ⟨.hbm, 24, rfl⟩
abbrev main_call0_v0 : Ref sig .tc := ⟨.hbm, 25, rfl⟩
abbrev main_call0_v1 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩

abbrev nD : Nat := 1
abbrev τ : Topo := Topo.v7x

variable {F : FTy → Type} [FloatOps F]
-- ==== Kernel5.lean ====
abbrev S32768x128 : Shape := ⟨2, ![32768, 128]⟩
abbrev S128x128 : Shape := ⟨2, ![128, 128]⟩
abbrev S4x16x1296x1024 : Shape := ⟨4, ![4, 16, 1296, 1024]⟩
abbrev S32768x1024 : Shape := ⟨2, ![32768, 1024]⟩
abbrev S4x8192x128 : Shape := ⟨3, ![4, 8192, 128]⟩
abbrev S4x8192x16 : Shape := ⟨3, ![4, 8192, 16]⟩
abbrev S4x16x8192 : Shape := ⟨3, ![4, 16, 8192]⟩
abbrev S4x16x1x8192 : Shape := ⟨4, ![4, 16, 1, 8192]⟩
abbrev S4x32x128 : Shape := ⟨3, ![4, 32, 128]⟩
abbrev S4x32x16 : Shape := ⟨3, ![4, 32, 16]⟩
abbrev S4x16x32 : Shape := ⟨3, ![4, 16, 32]⟩
abbrev S_ : Shape := ⟨0, ![]⟩
abbrev S4x16x31 : Shape := ⟨3, ![4, 16, 31]⟩
abbrev S4x16x1 : Shape := ⟨3, ![4, 16, 1]⟩
abbrev S4x32 : Shape := ⟨2, ![4, 32]⟩
abbrev S128 : Shape := ⟨1, ![128]⟩
abbrev S2048 : Shape := ⟨1, ![2048]⟩
abbrev S1x16x1x8192 : Shape := ⟨4, ![1, 16, 1, 8192]⟩
abbrev S1x16x1296x512 : Shape := ⟨4, ![1, 16, 1296, 512]⟩
abbrev S1024x512 : Shape := ⟨2, ![1024, 512]⟩
abbrev S4352x512 : Shape := ⟨2, ![4352, 512]⟩
abbrev S1 : Shape := ⟨1, ![1]⟩
abbrev S1x1x64x512 : Shape := ⟨4, ![1, 1, 64, 512]⟩
abbrev S64x512 : Shape := ⟨2, ![64, 512]⟩
abbrev S64x256 : Shape := ⟨2, ![64, 256]⟩
abbrev S1x1x1x256 : Shape := ⟨4, ![1, 1, 1, 256]⟩
abbrev S1x256 : Shape := ⟨2, ![1, 256]⟩
abbrev S1024x256 : Shape := ⟨2, ![1024, 256]⟩
abbrev S256x512 : Shape := ⟨2, ![256, 512]⟩
abbrev S1x1x272x512 : Shape := ⟨4, ![1, 1, 272, 512]⟩
abbrev S272x512 : Shape := ⟨2, ![272, 512]⟩
abbrev S272x256 : Shape := ⟨2, ![272, 256]⟩
abbrev S4352x256 : Shape := ⟨2, ![4352, 256]⟩

abbrev nBuf : Space → Nat
  | .hbm => 44
  | .vmem => 9
  | .smem => 2
  | _ => 0

abbrev bufTy : (tb : Table) → Fin (tcTables nBuf tb) → BufTy
  | .hbm, ⟨0, _⟩ => ⟨S32768x128, .i32⟩
  | .hbm, ⟨1, _⟩ => ⟨S128x128, .i32⟩
  | .hbm, ⟨2, _⟩ => ⟨S4x16x1296x1024, .bf16⟩
  | .hbm, ⟨3, _⟩ => ⟨S32768x1024, .f32⟩
  | .hbm, ⟨4, _⟩ => ⟨S4x8192x128, .i32⟩
  | .hbm, ⟨5, _⟩ => ⟨S4x8192x16, .i32⟩
  | .hbm, ⟨6, _⟩ => ⟨S4x16x8192, .i32⟩
  | .hbm, ⟨7, _⟩ => ⟨S4x16x1x8192, .i32⟩
  | .hbm, ⟨8, _⟩ => ⟨S4x32x128, .i32⟩
  | .hbm, ⟨9, _⟩ => ⟨S4x32x16, .i32⟩
  | .hbm, ⟨10, _⟩ => ⟨S4x16x32, .i32⟩
  | .hbm, ⟨11, _⟩ => ⟨S_, .i32⟩
  | .hbm, ⟨12, _⟩ => ⟨S_, .i32⟩
  | .hbm, ⟨13, _⟩ => ⟨S4x16x32, .i32⟩
  | .hbm, ⟨14, _⟩ => ⟨S4x16x32, .i32⟩
  | .hbm, ⟨15, _⟩ => ⟨S4x16x32, .i32⟩
  | .hbm, ⟨16, _⟩ => ⟨S_, .i32⟩
  | .hbm, ⟨17, _⟩ => ⟨S4x16x32, .i32⟩
  | .hbm, ⟨18, _⟩ => ⟨S4x16x32, .i1⟩
  | .hbm, ⟨19, _⟩ => ⟨S4x16x32, .i32⟩
  | .hbm, ⟨20, _⟩ => ⟨S4x16x32, .i32⟩
  | .hbm, ⟨21, _⟩ => ⟨S_, .i32⟩
  | .hbm, ⟨22, _⟩ => ⟨S4x16x32, .i32⟩
  | .hbm, ⟨23, _⟩ => ⟨S4x16x32, .i1⟩
  | .hbm, ⟨24, _⟩ => ⟨S4x16x32, .i1⟩
  | .hbm, ⟨25, _⟩ => ⟨S_, .i32⟩
  | .hbm, ⟨26, _⟩ => ⟨S4x16x32, .i32⟩
  | .hbm, ⟨27, _⟩ => ⟨S4x16x32, .i32⟩
  | .hbm, ⟨28, _⟩ => ⟨S4x16x32, .i32⟩
  | .hbm, ⟨29, _⟩ => ⟨S_, .i32⟩
  | .hbm, ⟨30, _⟩ => ⟨S4x16x32, .i32⟩
  | .hbm, ⟨31, _⟩ => ⟨S4x16x32, .i32⟩
  | .hbm, ⟨32, _⟩ => ⟨S4x16x31, .i32⟩
  | .hbm, ⟨33, _⟩ => ⟨S_, .i32⟩
  | .hbm, ⟨34, _⟩ => ⟨S4x16x1, .i32⟩
  | .hbm, ⟨35, _⟩ => ⟨S4x16x32, .i32⟩
  | .hbm, ⟨36, _⟩ => ⟨S4x16x32, .i32⟩
  | .hbm, ⟨37, _⟩ => ⟨S_, .i32⟩
  | .hbm, ⟨38, _⟩ => ⟨S4x32, .i32⟩
  | .hbm, ⟨39, _⟩ => ⟨S_, .i32⟩
  | .hbm, ⟨40, _⟩ => ⟨S4x32, .i32⟩
  | .hbm, ⟨41, _⟩ => ⟨S4x32, .i1⟩
  | .hbm, ⟨42, _⟩ => ⟨S4x32, .i32⟩
  | .hbm, ⟨43, _⟩ => ⟨S32768x1024, .f32⟩
  | .local _ .vmem, ⟨0, _⟩ => ⟨S1x16x1x8192, .i32⟩
  | .local _ .vmem, ⟨1, _⟩ => ⟨S1x16x1x8192, .i32⟩
  | .local _ .vmem, ⟨2, _⟩ => ⟨S1x16x1296x512, .bf16⟩
  | .local _ .vmem, ⟨3, _⟩ => ⟨S1x16x1296x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S4352x512, .bf16⟩
  | .local _ .smem, ⟨0, _⟩ => ⟨S2048, .i32⟩
  | .local _ .smem, ⟨1, _⟩ => ⟨S128, .i32⟩
  | _, _ => ⟨S32768x128, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_c : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_0 : Ref sig .tc := ⟨.hbm, 25, rfl⟩
abbrev main_call0_v12 : Ref sig .tc := ⟨.hbm, 26, rfl⟩
abbrev main_call0_v13 : Ref sig .tc := ⟨.hbm, 27, rfl⟩
abbrev main_v7 : Ref sig .tc := ⟨.hbm, 28, rfl⟩
abbrev main_c_0 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_c_1 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_c_2 : Ref sig .tc := ⟨.hbm, 37, rfl⟩
abbrev main_v14 : Ref sig .tc := ⟨.hbm, 38, rfl⟩
abbrev main_c_3 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v20 : Ref sig .tc := ⟨.hbm, 43, rfl⟩
abbrev main_v19 : Ref sig .tc := ⟨.smem, 0, rfl⟩
abbrev main_v18 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 8], ![false, false, false]⟩

abbrev pre0 : Pipeline.Prefetch sig := ⟨2, ![main_v19.idx, main_v18.idx], fun | 0 => main_v19.names | 1 => main_v18.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let c16_i32 : BitVec 32 := 16#32
  let v7 : BitVec 32 := Scalar.muli arg0 c16_i32
  let c0_i32_2 : BitVec 32 := 0#32
  let v8 : BitVec 32 := Scalar.addi v7 c0_i32_2
  let c32_i32 : BitVec 32 := 32#32
  let v9 : BitVec 32 := Scalar.muli v8 c32_i32
  let arg2 : BitVec 32 := BitVec.ofNat 32 (i 2).val
  let c4_i32 : BitVec 32 := 4#32
  let v0 : BitVec 32 := Scalar.muli arg2 c4_i32
  let c0_i32 : BitVec 32 := 0#32
  let c4_i32_0 : BitVec 32 := 4#32
  let v1 : BitVec 32 := Scalar.muli c0_i32 c4_i32_0
  let v2 : BitVec 32 := Scalar.addi v0 v1
  let c0_i32_1 : BitVec 32 := 0#32
  let v3 : BitVec 32 := Scalar.addi v2 c0_i32_1
  let v10 : BitVec 32 := Scalar.addi v9 v3
  let v11 : Index := Scalar.indexCast v10
  ![v11.toNat]
def k0_mult1 (v12 : BitVec 32) : BitVec 32 :=
  v12

def k0_chk1 (v12 : BitVec 32) : Prop :=
  (16 ∣ (k0_mult1 v12).toNat)
theorem k0_mult1_dvd : ∀ (v12 : BitVec 32) (k0_hw1 : k0_chk1 v12), 16 ∣ (k0_mult1 v12).toNat := fun v12 k0_hw1 => k0_hw1

def k0_off2 (i : grid0.Coords) : Fin 1 → Nat :=
  let arg0 : BitVec 32 := BitVec.ofNat 32 (i 0).val
  let c16_i32_3 : BitVec 32 := 16#32
  let v14 : BitVec 32 := Scalar.muli arg0 c16_i32_3
  let c1_i32_4 : BitVec 32 := 1#32
  let v15 : BitVec 32 := Scalar.addi v14 c1_i32_4
  let c32_i32_5 : BitVec 32 := 32#32
  let v16 : BitVec 32 := Scalar.muli v15 c32_i32_5
  let arg2 : BitVec 32 := BitVec.ofNat 32 (i 2).val
  let c4_i32 : BitVec 32 := 4#32
  let v0 : BitVec 32 := Scalar.muli arg2 c4_i32
  let c0_i32 : BitVec 32 := 0#32
  let c4_i32_0 : BitVec 32 := 4#32
  let v1 : BitVec 32 := Scalar.muli c0_i32 c4_i32_0
  let v2 : BitVec 32 := Scalar.addi v0 v1
  let c0_i32_1 : BitVec 32 := 0#32
  let v3 : BitVec 32 := Scalar.addi v2 c0_i32_1
  let v17 : BitVec 32 := Scalar.addi v16 v3
  let v18 : Index := Scalar.indexCast v17
  ![v18.toNat]
def k0_mult2 (v19 : BitVec 32) : BitVec 32 :=
  v19

def k0_chk2 (v19 : BitVec 32) : Prop :=
  (16 ∣ (k0_mult2 v19).toNat)
theorem k0_mult2_dvd : ∀ (v19 : BitVec 32) (k0_hw2 : k0_chk2 v19), 16 ∣ (k0_mult2 v19).toNat := fun v19 k0_hw2 => k0_hw2

def k0_off3 (i : grid0.Coords) : Fin 1 → Nat :=
  let arg0 : BitVec 32 := BitVec.ofNat 32 (i 0).val
  let c16_i32_6 : BitVec 32 := 16#32
  let v21 : BitVec 32 := Scalar.muli arg0 c16_i32_6
  let c2_i32_7 : BitVec 32 := 2#32
  let v22 : BitVec 32 := Scalar.addi v21 c2_i32_7
  let c32_i32_8 : BitVec 32 := 32#32
  let v23 : BitVec 32 := Scalar.muli v22 c32_i32_8
  let arg2 : BitVec 32 := BitVec.ofNat 32 (i 2).val
  let c4_i32 : BitVec 32 := 4#32
  let v0 : BitVec 32 := Scalar.muli arg2 c4_i32
  let c0_i32 : BitVec 32 := 0#32
  let c4_i32_0 : BitVec 32 := 4#32
  let v1 : BitVec 32 := Scalar.muli c0_i32 c4_i32_0
  let v2 : BitVec 32 := Scalar.addi v0 v1
  let c0_i32_1 : BitVec 32 := 0#32
  let v3 : BitVec 32 := Scalar.addi v2 c0_i32_1
  let v24 : BitVec 32 := Scalar.addi v23 v3
  let v25 : Index := Scalar.indexCast v24
  ![v25.toNat]
def k0_mult3 (v26 : BitVec 32) : BitVec 32 :=
  v26

def k0_chk3 (v26 : BitVec 32) : Prop :=
  (16 ∣ (k0_mult3 v26).toNat)
theorem k0_mult3_dvd : ∀ (v26 : BitVec 32) (k0_hw3 : k0_chk3 v26), 16 ∣ (k0_mult3 v26).toNat := fun v26 k0_hw3 => k0_hw3

def k0_off4 (i : grid0.Coords) : Fin 1 → Nat :=
  let arg0 : BitVec 32 := BitVec.ofNat 32 (i 0).val
  let c16_i32_9 : BitVec 32 := 16#32
  let v28 : BitVec 32 := Scalar.muli arg0 c16_i32_9
  let c3_i32_10 : BitVec 32 := 3#32
  let v29 : BitVec 32 := Scalar.addi v28 c3_i32_10
  let c32_i32_11 : BitVec 32 := 32#32
  let v30 : BitVec 32 := Scalar.muli v29 c32_i32_11
  let arg2 : BitVec 32 := BitVec.ofNat 32 (i 2).val
  let c4_i32 : BitVec 32 := 4#32
  let v0 : BitVec 32 := Scalar.muli arg2 c4_i32
  let c0_i32 : BitVec 32 := 0#32
  let c4_i32_0 : BitVec 32 := 4#32
  let v1 : BitVec 32 := Scalar.muli c0_i32 c4_i32_0
  let v2 : BitVec 32 := Scalar.addi v0 v1
  let c0_i32_1 : BitVec 32 := 0#32
  let v3 : BitVec 32 := Scalar.addi v2 c0_i32_1
  let v31 : BitVec 32 := Scalar.addi v30 v3
  let v32 : Index := Scalar.indexCast v31
  ![v32.toNat]
def k0_mult4 (v33 : BitVec 32) : BitVec 32 :=
  v33

def k0_chk4 (v33 : BitVec 32) : Prop :=
  (16 ∣ (k0_mult4 v33).toNat)
theorem k0_mult4_dvd : ∀ (v33 : BitVec 32) (k0_hw4 : k0_chk4 v33), 16 ∣ (k0_mult4 v33).toNat := fun v33 k0_hw4 => k0_hw4

def k0_off5 (i : grid0.Coords) : Fin 1 → Nat :=
  let arg0 : BitVec 32 := BitVec.ofNat 32 (i 0).val
  let c16_i32_12 : BitVec 32 := 16#32
  let v35 : BitVec 32 := Scalar.muli arg0 c16_i32_12
  let c4_i32_13 : BitVec 32 := 4#32
  let v36 : BitVec 32 := Scalar.addi v35 c4_i32_13
  let c32_i32_14 : BitVec 32 := 32#32
  let v37 : BitVec 32 := Scalar.muli v36 c32_i32_14
  let arg2 : BitVec 32 := BitVec.ofNat 32 (i 2).val
  let c4_i32 : BitVec 32 := 4#32
  let v0 : BitVec 32 := Scalar.muli arg2 c4_i32
  let c0_i32 : BitVec 32 := 0#32
  let c4_i32_0 : BitVec 32 := 4#32
  let v1 : BitVec 32 := Scalar.muli c0_i32 c4_i32_0
  let v2 : BitVec 32 := Scalar.addi v0 v1
  let c0_i32_1 : BitVec 32 := 0#32
  let v3 : BitVec 32 := Scalar.addi v2 c0_i32_1
  let v38 : BitVec 32 := Scalar.addi v37 v3
  let v39 : Index := Scalar.indexCast v38
  ![v39.toNat]
def k0_mult5 (v40 : BitVec 32) : BitVec 32 :=
  v40

def k0_chk5 (v40 : BitVec 32) : Prop :=
  (16 ∣ (k0_mult5 v40).toNat)
theorem k0_mult5_dvd : ∀ (v40 : BitVec 32) (k0_hw5 : k0_chk5 v40), 16 ∣ (k0_mult5 v40).toNat := fun v40 k0_hw5 => k0_hw5

def k0_off6 (i : grid0.Coords) : Fin 1 → Nat :=
  let arg0 : BitVec 32 := BitVec.ofNat 32 (i 0).val
  let c16_i32_15 : BitVec 32 := 16#32
  let v42 : BitVec 32 := Scalar.muli arg0 c16_i32_15
  let c5_i32 : BitVec 32 := 5#32
  let v43 : BitVec 32 := Scalar.addi v42 c5_i32
  let c32_i32_16 : BitVec 32 := 32#32
  let v44 : BitVec 32 := Scalar.muli v43 c32_i32_16
  let arg2 : BitVec 32 := BitVec.ofNat 32 (i 2).val
  let c4_i32 : BitVec 32 := 4#32
  let v0 : BitVec 32 := Scalar.muli arg2 c4_i32
  let c0_i32 : BitVec 32 := 0#32
  let c4_i32_0 : BitVec 32 := 4#32
  let v1 : BitVec 32 := Scalar.muli c0_i32 c4_i32_0
  let v2 : BitVec 32 := Scalar.addi v0 v1
  let c0_i32_1 : BitVec 32 := 0#32
  let v3 : BitVec 32 := Scalar.addi v2 c0_i32_1
  let v45 : BitVec 32 := Scalar.addi v44 v3
  let v46 : Index := Scalar.indexCast v45
  ![v46.toNat]
def k0_mult6 (v47 : BitVec 32) : BitVec 32 :=
  v47

def k0_chk6 (v47 : BitVec 32) : Prop :=
  (16 ∣ (k0_mult6 v47).toNat)
theorem k0_mult6_dvd : ∀ (v47 : BitVec 32) (k0_hw6 : k0_chk6 v47), 16 ∣ (k0_mult6 v47).toNat := fun v47 k0_hw6 => k0_hw6

def k0_off7 (i : grid0.Coords) : Fin 1 → Nat :=
  let arg0 : BitVec 32 := BitVec.ofNat 32 (i 0).val
  let c16_i32_17 : BitVec 32 := 16#32
  let v49 : BitVec 32 := Scalar.muli arg0 c16_i32_17
  let c6_i32 : BitVec 32 := 6#32
  let v50 : BitVec 32 := Scalar.addi v49 c6_i32
  let c32_i32_18 : BitVec 32 := 32#32
  let v51 : BitVec 32 := Scalar.muli v50 c32_i32_18
  let arg2 : BitVec 32 := BitVec.ofNat 32 (i 2).val
  let c4_i32 : BitVec 32 := 4#32
  let v0 : BitVec 32 := Scalar.muli arg2 c4_i32
  let c0_i32 : BitVec 32 := 0#32
  let c4_i32_0 : BitVec 32 := 4#32
  let v1 : BitVec 32 := Scalar.muli c0_i32 c4_i32_0
  let v2 : BitVec 32 := Scalar.addi v0 v1
  let c0_i32_1 : BitVec 32 := 0#32
  let v3 : BitVec 32 := Scalar.addi v2 c0_i32_1
  let v52 : BitVec 32 := Scalar.addi v51 v3
  let v53 : Index := Scalar.indexCast v52
  ![v53.toNat]
def k0_mult7 (v54 : BitVec 32) : BitVec 32 :=
  v54

def k0_chk7 (v54 : BitVec 32) : Prop :=
  (16 ∣ (k0_mult7 v54).toNat)
theorem k0_mult7_dvd : ∀ (v54 : BitVec 32) (k0_hw7 : k0_chk7 v54), 16 ∣ (k0_mult7 v54).toNat := fun v54 k0_hw7 => k0_hw7

def k0_off8 (i : grid0.Coords) : Fin 1 → Nat :=
  let arg0 : BitVec 32 := BitVec.ofNat 32 (i 0).val
  let c16_i32_19 : BitVec 32 := 16#32
  let v56 : BitVec 32 := Scalar.muli arg0 c16_i32_19
  let c7_i32 : BitVec 32 := 7#32
  let v57 : BitVec 32 := Scalar.addi v56 c7_i32
  let c32_i32_20 : BitVec 32 := 32#32
  let v58 : BitVec 32 := Scalar.muli v57 c32_i32_20
  let arg2 : BitVec 32 := BitVec.ofNat 32 (i 2).val
  let c4_i32 : BitVec 32 := 4#32
  let v0 : BitVec 32 := Scalar.muli arg2 c4_i32
  let c0_i32 : BitVec 32 := 0#32
  let c4_i32_0 : BitVec 32 := 4#32
  let v1 : BitVec 32 := Scalar.muli c0_i32 c4_i32_0
  let v2 : BitVec 32 := Scalar.addi v0 v1
  let c0_i32_1 : BitVec 32 := 0#32
  let v3 : BitVec 32 := Scalar.addi v2 c0_i32_1
  let v59 : BitVec 32 := Scalar.addi v58 v3
  let v60 : Index := Scalar.indexCast v59
  ![v60.toNat]
def k0_mult8 (v61 : BitVec 32) : BitVec 32 :=
  v61

def k0_chk8 (v61 : BitVec 32) : Prop :=
  (16 ∣ (k0_mult8 v61).toNat)
theorem k0_mult8_dvd : ∀ (v61 : BitVec 32) (k0_hw8 : k0_chk8 v61), 16 ∣ (k0_mult8 v61).toNat := fun v61 k0_hw8 => k0_hw8

def k0_off9 (i : grid0.Coords) : Fin 1 → Nat :=
  let arg0 : BitVec 32 := BitVec.ofNat 32 (i 0).val
  let c16_i32_21 : BitVec 32 := 16#32
  let v63 : BitVec 32 := Scalar.muli arg0 c16_i32_21
  let c8_i32 : BitVec 32 := 8#32
  let v64 : BitVec 32 := Scalar.addi v63 c8_i32
  let c32_i32_22 : BitVec 32 := 32#32
  let v65 : BitVec 32 := Scalar.muli v64 c32_i32_22
  let arg2 : BitVec 32 := BitVec.ofNat 32 (i 2).val
  let c4_i32 : BitVec 32 := 4#32
  let v0 : BitVec 32 := Scalar.muli arg2 c4_i32
  let c0_i32 : BitVec 32 := 0#32
  let c4_i32_0 : BitVec 32 := 4#32
  let v1 : BitVec 32 := Scalar.muli c0_i32 c4_i32_0
  let v2 : BitVec 32 := Scalar.addi v0 v1
  let c0_i32_1 : BitVec 32 := 0#32
  let v3 : BitVec 32 := Scalar.addi v2 c0_i32_1
  let v66 : BitVec 32 := Scalar.addi v65 v3
  let v67 : Index := Scalar.indexCast v66
  ![v67.toNat]
def k0_mult9 (v68 : BitVec 32) : BitVec 32 :=
  v68

def k0_chk9 (v68 : BitVec 32) : Prop :=
  (16 ∣ (k0_mult9 v68).toNat)
theorem k0_mult9_dvd : ∀ (v68 : BitVec 32) (k0_hw9 : k0_chk9 v68), 16 ∣ (k0_mult9 v68).toNat := fun v68 k0_hw9 => k0_hw9

def k0_off10 (i : grid0.Coords) : Fin 1 → Nat :=
  let arg0 : BitVec 32 := BitVec.ofNat 32 (i 0).val
  let c16_i32_23 : BitVec 32 := 16#32
  let v70 : BitVec 32 := Scalar.muli arg0 c16_i32_23
  let c9_i32 : BitVec 32 := 9#32
  let v71 : BitVec 32 := Scalar.addi v70 c9_i32
  let c32_i32_24 : BitVec 32 := 32#32
  let v72 : BitVec 32 := Scalar.muli v71 c32_i32_24
  let arg2 : BitVec 32 := BitVec.ofNat 32 (i 2).val
  let c4_i32 : BitVec 32 := 4#32
  let v0 : BitVec 32 := Scalar.muli arg2 c4_i32
  let c0_i32 : BitVec 32 := 0#32
  let c4_i32_0 : BitVec 32 := 4#32
  let v1 : BitVec 32 := Scalar.muli c0_i32 c4_i32_0
  let v2 : BitVec 32 := Scalar.addi v0 v1
  let c0_i32_1 : BitVec 32 := 0#32
  let v3 : BitVec 32 := Scalar.addi v2 c0_i32_1
  let v73 : BitVec 32 := Scalar.addi v72 v3
  let v74 : Index := Scalar.indexCast v73
  ![v74.toNat]
def k0_mult10 (v75 : BitVec 32) : BitVec 32 :=
  v75

def k0_chk10 (v75 : BitVec 32) : Prop :=
  (16 ∣ (k0_mult10 v75).toNat)
theorem k0_mult10_dvd : ∀ (v75 : BitVec 32) (k0_hw10 : k0_chk10 v75), 16 ∣ (k0_mult10 v75).toNat := fun v75 k0_hw10 => k0_hw10

def k0_off11 (i : grid0.Coords) : Fin 1 → Nat :=
  let arg0 : BitVec 32 := BitVec.ofNat 32 (i 0).val
  let c16_i32_25 : BitVec 32 := 16#32
  let v77 : BitVec 32 := Scalar.muli arg0 c16_i32_25
  let c10_i32 : BitVec 32 := 10#32
  let v78 : BitVec 32 := Scalar.addi v77 c10_i32
  let c32_i32_26 : BitVec 32 := 32#32
  let v79 : BitVec 32 := Scalar.muli v78 c32_i32_26
  let arg2 : BitVec 32 := BitVec.ofNat 32 (i 2).val
  let c4_i32 : BitVec 32 := 4#32
  let v0 : BitVec 32 := Scalar.muli arg2 c4_i32
  let c0_i32 : BitVec 32 := 0#32
  let c4_i32_0 : BitVec 32 := 4#32
  let v1 : BitVec 32 := Scalar.muli c0_i32 c4_i32_0
  let v2 : BitVec 32 := Scalar.addi v0 v1
  let c0_i32_1 : BitVec 32 := 0#32
  let v3 : BitVec 32 := Scalar.addi v2 c0_i32_1
  let v80 : BitVec 32 := Scalar.addi v79 v3
  let v81 : Index := Scalar.indexCast v80
  ![v81.toNat]
def k0_mult11 (v82 : BitVec 32) : BitVec 32 :=
  v82

def k0_chk11 (v82 : BitVec 32) : Prop :=
  (16 ∣ (k0_mult11 v82).toNat)
theorem k0_mult11_dvd : ∀ (v82 : BitVec 32) (k0_hw11 : k0_chk11 v82), 16 ∣ (k0_mult11 v82).toNat := fun v82 k0_hw11 => k0_hw11

def k0_off12 (i : grid0.Coords) : Fin 1 → Nat :=
  let arg0 : BitVec 32 := BitVec.ofNat 32 (i 0).val
  let c16_i32_27 : BitVec 32 := 16#32
  let v84 : BitVec 32 := Scalar.muli arg0 c16_i32_27
  let c11_i32 : BitVec 32 := 11#32
  let v85 : BitVec 32 := Scalar.addi v84 c11_i32
  let c32_i32_28 : BitVec 32 := 32#32
  let v86 : BitVec 32 := Scalar.muli v85 c32_i32_28
  let arg2 : BitVec 32 := BitVec.ofNat 32 (i 2).val
  let c4_i32 : BitVec 32 := 4#32
  let v0 : BitVec 32 := Scalar.muli arg2 c4_i32
  let c0_i32 : BitVec 32 := 0#32
  let c4_i32_0 : BitVec 32 := 4#32
  let v1 : BitVec 32 := Scalar.muli c0_i32 c4_i32_0
  let v2 : BitVec 32 := Scalar.addi v0 v1
  let c0_i32_1 : BitVec 32 := 0#32
  let v3 : BitVec 32 := Scalar.addi v2 c0_i32_1
  let v87 : BitVec 32 := Scalar.addi v86 v3
  let v88 : Index := Scalar.indexCast v87
  ![v88.toNat]
def k0_mult12 (v89 : BitVec 32) : BitVec 32 :=
  v89

def k0_chk12 (v89 : BitVec 32) : Prop :=
  (16 ∣ (k0_mult12 v89).toNat)
theorem k0_mult12_dvd : ∀ (v89 : BitVec 32) (k0_hw12 : k0_chk12 v89), 16 ∣ (k0_mult12 v89).toNat := fun v89 k0_hw12 => k0_hw12

def k0_off13 (i : grid0.Coords) : Fin 1 → Nat :=
  let arg0 : BitVec 32 := BitVec.ofNat 32 (i 0).val
  let c16_i32_29 : BitVec 32 := 16#32
  let v91 : BitVec 32 := Scalar.muli arg0 c16_i32_29
  let c12_i32 : BitVec 32 := 12#32
  let v92 : BitVec 32 := Scalar.addi v91 c12_i32
  let c32_i32_30 : BitVec 32 := 32#32
  let v93 : BitVec 32 := Scalar.muli v92 c32_i32_30
  let arg2 : BitVec 32 := BitVec.ofNat 32 (i 2).val
  let c4_i32 : BitVec 32 := 4#32
  let v0 : BitVec 32 := Scalar.muli arg2 c4_i32
  let c0_i32 : BitVec 32 := 0#32
  let c4_i32_0 : BitVec 32 := 4#32
  let v1 : BitVec 32 := Scalar.muli c0_i32 c4_i32_0
  let v2 : BitVec 32 := Scalar.addi v0 v1
  let c0_i32_1 : BitVec 32 := 0#32
  let v3 : BitVec 32 := Scalar.addi v2 c0_i32_1
  let v94 : BitVec 32 := Scalar.addi v93 v3
  let v95 : Index := Scalar.indexCast v94
  ![v95.toNat]
def k0_mult13 (v96 : BitVec 32) : BitVec 32 :=
  v96

def k0_chk13 (v96 : BitVec 32) : Prop :=
  (16 ∣ (k0_mult13 v96).toNat)
theorem k0_mult13_dvd : ∀ (v96 : BitVec 32) (k0_hw13 : k0_chk13 v96), 16 ∣ (k0_mult13 v96).toNat := fun v96 k0_hw13 => k0_hw13

def k0_off14 (i : grid0.Coords) : Fin 1 → Nat :=
  let arg0 : BitVec 32 := BitVec.ofNat 32 (i 0).val
  let c16_i32_31 : BitVec 32 := 16#32
  let v98 : BitVec 32 := Scalar.muli arg0 c16_i32_31
  let c13_i32 : BitVec 32 := 13#32
  let v99 : BitVec 32 := Scalar.addi v98 c13_i32
  let c32_i32_32 : BitVec 32 := 32#32
  let v100 : BitVec 32 := Scalar.muli v99 c32_i32_32
  let arg2 : BitVec 32 := BitVec.ofNat 32 (i 2).val
  let c4_i32 : BitVec 32 := 4#32
  let v0 : BitVec 32 := Scalar.muli arg2 c4_i32
  let c0_i32 : BitVec 32 := 0#32
  let c4_i32_0 : BitVec 32 := 4#32
  let v1 : BitVec 32 := Scalar.muli c0_i32 c4_i32_0
  let v2 : BitVec 32 := Scalar.addi v0 v1
  let c0_i32_1 : BitVec 32 := 0#32
  let v3 : BitVec 32 := Scalar.addi v2 c0_i32_1
  let v101 : BitVec 32 := Scalar.addi v100 v3
  let v102 : Index := Scalar.indexCast v101
  ![v102.toNat]
def k0_mult14 (v103 : BitVec 32) : BitVec 32 :=
  v103

def k0_chk14 (v103 : BitVec 32) : Prop :=
  (16 ∣ (k0_mult14 v103).toNat)
theorem k0_mult14_dvd : ∀ (v103 : BitVec 32) (k0_hw14 : k0_chk14 v103), 16 ∣ (k0_mult14 v103).toNat := fun v103 k0_hw14 => k0_hw14

def k0_off15 (i : grid0.Coords) : Fin 1 → Nat :=
  let arg0 : BitVec 32 := BitVec.ofNat 32 (i 0).val
  let c16_i32_33 : BitVec 32 := 16#32
  let v105 : BitVec 32 := Scalar.muli arg0 c16_i32_33
  let c14_i32 : BitVec 32 := 14#32
  let v106 : BitVec 32 := Scalar.addi v105 c14_i32
  let c32_i32_34 : BitVec 32 := 32#32
  let v107 : BitVec 32 := Scalar.muli v106 c32_i32_34
  let arg2 : BitVec 32 := BitVec.ofNat 32 (i 2).val
  let c4_i32 : BitVec 32 := 4#32
  let v0 : BitVec 32 := Scalar.muli arg2 c4_i32
  let c0_i32 : BitVec 32 := 0#32
  let c4_i32_0 : BitVec 32 := 4#32
  let v1 : BitVec 32 := Scalar.muli c0_i32 c4_i32_0
  let v2 : BitVec 32 := Scalar.addi v0 v1
  let c0_i32_1 : BitVec 32 := 0#32
  let v3 : BitVec 32 := Scalar.addi v2 c0_i32_1
  let v108 : BitVec 32 := Scalar.addi v107 v3
  let v109 : Index := Scalar.indexCast v108
  ![v109.toNat]
def k0_mult15 (v110 : BitVec 32) : BitVec 32 :=
  v110

def k0_chk15 (v110 : BitVec 32) : Prop :=
  (16 ∣ (k0_mult15 v110).toNat)
theorem k0_mult15_dvd : ∀ (v110 : BitVec 32) (k0_hw15 : k0_chk15 v110), 16 ∣ (k0_mult15 v110).toNat := fun v110 k0_hw15 => k0_hw15

def k0_off16 (i : grid0.Coords) : Fin 1 → Nat :=
  let arg0 : BitVec 32 := BitVec.ofNat 32 (i 0).val
  let c16_i32_35 : BitVec 32 := 16#32
  let v112 : BitVec 32 := Scalar.muli arg0 c16_i32_35
  let c15_i32 : BitVec 32 := 15#32
  let v113 : BitVec 32 := Scalar.addi v112 c15_i32
  let c32_i32_36 : BitVec 32 := 32#32
  let v114 : BitVec 32 := Scalar.muli v113 c32_i32_36
  let arg2 : BitVec 32 := BitVec.ofNat 32 (i 2).val
  let c4_i32 : BitVec 32 := 4#32
  let v0 : BitVec 32 := Scalar.muli arg2 c4_i32
  let c0_i32 : BitVec 32 := 0#32
  let c4_i32_0 : BitVec 32 := 4#32
  let v1 : BitVec 32 := Scalar.muli c0_i32 c4_i32_0
  let v2 : BitVec 32 := Scalar.addi v0 v1
  let c0_i32_1 : BitVec 32 := 0#32
  let v3 : BitVec 32 := Scalar.addi v2 c0_i32_1
  let v115 : BitVec 32 := Scalar.addi v114 v3
  let v116 : Index := Scalar.indexCast v115
  ![v116.toNat]
def k0_mult16 (v117 : BitVec 32) : BitVec 32 :=
  v117

def k0_chk16 (v117 : BitVec 32) : Prop :=
  (16 ∣ (k0_mult16 v117).toNat)
theorem k0_mult16_dvd : ∀ (v117 : BitVec 32) (k0_hw16 : k0_chk16 v117), 16 ∣ (k0_mult16 v117).toNat := fun v117 k0_hw16 => k0_hw16

def k0_off17 (i : grid0.Coords) : Fin 1 → Nat :=
  let arg0 : BitVec 32 := BitVec.ofNat 32 (i 0).val
  let c32_i32_37 : BitVec 32 := 32#32
  let v119 : BitVec 32 := Scalar.muli arg0 c32_i32_37
  let arg2 : BitVec 32 := BitVec.ofNat 32 (i 2).val
  let c4_i32 : BitVec 32 := 4#32
  let v0 : BitVec 32 := Scalar.muli arg2 c4_i32
  let c0_i32 : BitVec 32 := 0#32
  let c4_i32_0 : BitVec 32 := 4#32
  let v1 : BitVec 32 := Scalar.muli c0_i32 c4_i32_0
  let v2 : BitVec 32 := Scalar.addi v0 v1
  let c0_i32_1 : BitVec 32 := 0#32
  let v3 : BitVec 32 := Scalar.addi v2 c0_i32_1
  let v120 : BitVec 32 := Scalar.addi v119 v3
  let v121 : Index := Scalar.indexCast v120
  ![v121.toNat]
def k0_off18 (i : grid0.Coords) : Fin 1 → Nat :=
  let arg0 : BitVec 32 := BitVec.ofNat 32 (i 0).val
  let c16_i32_39 : BitVec 32 := 16#32
  let v124 : BitVec 32 := Scalar.muli arg0 c16_i32_39
  let c0_i32_40 : BitVec 32 := 0#32
  let v125 : BitVec 32 := Scalar.addi v124 c0_i32_40
  let c32_i32_41 : BitVec 32 := 32#32
  let v126 : BitVec 32 := Scalar.muli v125 c32_i32_41
  let arg2 : BitVec 32 := BitVec.ofNat 32 (i 2).val
  let c4_i32 : BitVec 32 := 4#32
  let v0 : BitVec 32 := Scalar.muli arg2 c4_i32
  let c0_i32 : BitVec 32 := 0#32
  let c4_i32_0 : BitVec 32 := 4#32
  let v1 : BitVec 32 := Scalar.muli c0_i32 c4_i32_0
  let v2 : BitVec 32 := Scalar.addi v0 v1
  let c1_i32 : BitVec 32 := 1#32
  let v4 : BitVec 32 := Scalar.addi v2 c1_i32
  let v127 : BitVec 32 := Scalar.addi v126 v4
  let v128 : Index := Scalar.indexCast v127
  ![v128.toNat]
def k0_mult17 (v129 : BitVec 32) : BitVec 32 :=
  v129

def k0_chk17 (v129 : BitVec 32) : Prop :=
  (16 ∣ (k0_mult17 v129).toNat)
theorem k0_mult17_dvd : ∀ (v129 : BitVec 32) (k0_hw17 : k0_chk17 v129), 16 ∣ (k0_mult17 v129).toNat := fun v129 k0_hw17 => k0_hw17

def k0_off19 (i : grid0.Coords) : Fin 1 → Nat :=
  let arg0 : BitVec 32 := BitVec.ofNat 32 (i 0).val
  let c16_i32_42 : BitVec 32 := 16#32
  let v131 : BitVec 32 := Scalar.muli arg0 c16_i32_42
  let c1_i32_43 : BitVec 32 := 1#32
  let v132 : BitVec 32 := Scalar.addi v131 c1_i32_43
  let c32_i32_44 : BitVec 32 := 32#32
  let v133 : BitVec 32 := Scalar.muli v132 c32_i32_44
  let arg2 : BitVec 32 := BitVec.ofNat 32 (i 2).val
  let c4_i32 : BitVec 32 := 4#32
  let v0 : BitVec 32 := Scalar.muli arg2 c4_i32
  let c0_i32 : BitVec 32 := 0#32
  let c4_i32_0 : BitVec 32 := 4#32
  let v1 : BitVec 32 := Scalar.muli c0_i32 c4_i32_0
  let v2 : BitVec 32 := Scalar.addi v0 v1
  let c1_i32 : BitVec 32 := 1#32
  let v4 : BitVec 32 := Scalar.addi v2 c1_i32
  let v134 : BitVec 32 := Scalar.addi v133 v4
  let v135 : Index := Scalar.indexCast v134
  ![v135.toNat]
def k0_mult18 (v136 : BitVec 32) : BitVec 32 :=
  v136

def k0_chk18 (v136 : BitVec 32) : Prop :=
  (16 ∣ (k0_mult18 v136).toNat)
theorem k0_mult18_dvd : ∀ (v136 : BitVec 32) (k0_hw18 : k0_chk18 v136), 16 ∣ (k0_mult18 v136).toNat := fun v136 k0_hw18 => k0_hw18

def k0_off20 (i : grid0.Coords) : Fin 1 → Nat :=
  let arg0 : BitVec 32 := BitVec.ofNat 32 (i 0).val
  let c16_i32_45 : BitVec 32 := 16#32
  let v138 : BitVec 32 := Scalar.muli arg0 c16_i32_45
  let c2_i32_46 : BitVec 32 := 2#32
  let v139 : BitVec 32 := Scalar.addi v138 c2_i32_46
  let c32_i32_47 : BitVec 32 := 32#32
  let v140 : BitVec 32 := Scalar.muli v139 c32_i32_47
  let arg2 : BitVec 32 := BitVec.ofNat 32 (i 2).val
  let c4_i32 : BitVec 32 := 4#32
  let v0 : BitVec 32 := Scalar.muli arg2 c4_i32
  let c0_i32 : BitVec 32 := 0#32
  let c4_i32_0 : BitVec 32 := 4#32
  let v1 : BitVec 32 := Scalar.muli c0_i32 c4_i32_0
  let v2 : BitVec 32 := Scalar.addi v0 v1
  let c1_i32 : BitVec 32 := 1#32
  let v4 : BitVec 32 := Scalar.addi v2 c1_i32
  let v141 : BitVec 32 := Scalar.addi v140 v4
  let v142 : Index := Scalar.indexCast v141
  ![v142.toNat]
def k0_mult19 (v143 : BitVec 32) : BitVec 32 :=
  v143

def k0_chk19 (v143 : BitVec 32) : Prop :=
  (16 ∣ (k0_mult19 v143).toNat)
theorem k0_mult19_dvd : ∀ (v143 : BitVec 32) (k0_hw19 : k0_chk19 v143), 16 ∣ (k0_mult19 v143).toNat := fun v143 k0_hw19 => k0_hw19

def k0_off21 (i : grid0.Coords) : Fin 1 → Nat :=
  let arg0 : BitVec 32 := BitVec.ofNat 32 (i 0).val
  let c16_i32_48 : BitVec 32 := 16#32
  let v145 : BitVec 32 := Scalar.muli arg0 c16_i32_48
  let c3_i32_49 : BitVec 32 := 3#32
  let v146 : BitVec 32 := Scalar.addi v145 c3_i32_49
  let c32_i32_50 : BitVec 32 := 32#32
  let v147 : BitVec 32 := Scalar.muli v146 c32_i32_50
  let arg2 : BitVec 32 := BitVec.ofNat 32 (i 2).val
  let c4_i32 : BitVec 32 := 4#32
  let v0 : BitVec 32 := Scalar.muli arg2 c4_i32
  let c0_i32 : BitVec 32 := 0#32
  let c4_i32_0 : BitVec 32 := 4#32
  let v1 : BitVec 32 := Scalar.muli c0_i32 c4_i32_0
  let v2 : BitVec 32 := Scalar.addi v0 v1
  let c1_i32 : BitVec 32 := 1#32
  let v4 : BitVec 32 := Scalar.addi v2 c1_i32
  let v148 : BitVec 32 := Scalar.addi v147 v4
  let v149 : Index := Scalar.indexCast v148
  ![v149.toNat]
def k0_mult20 (v150 : BitVec 32) : BitVec 32 :=
  v150

def k0_chk20 (v150 : BitVec 32) : Prop :=
  (16 ∣ (k0_mult20 v150).toNat)
theorem k0_mult20_dvd : ∀ (v150 : BitVec 32) (k0_hw20 : k0_chk20 v150), 16 ∣ (k0_mult20 v150).toNat := fun v150 k0_hw20 => k0_hw20

def k0_off22 (i : grid0.Coords) : Fin 1 → Nat :=
  let arg0 : BitVec 32 := BitVec.ofNat 32 (i 0).val
  let c16_i32_51 : BitVec 32 := 16#32
  let v152 : BitVec 32 := Scalar.muli arg0 c16_i32_51
  let c4_i32_52 : BitVec 32 := 4#32
  let v153 : BitVec 32 := Scalar.addi v152 c4_i32_52
  let c32_i32_53 : BitVec 32 := 32#32
  let v154 : BitVec 32 := Scalar.muli v153 c32_i32_53
  let arg2 : BitVec 32 := BitVec.ofNat 32 (i 2).val
  let c4_i32 : BitVec 32 := 4#32
  let v0 : BitVec 32 := Scalar.muli arg2 c4_i32
  let c0_i32 : BitVec 32 := 0#32
  let c4_i32_0 : BitVec 32 := 4#32
  let v1 : BitVec 32 := Scalar.muli c0_i32 c4_i32_0
  let v2 : BitVec 32 := Scalar.addi v0 v1
  let c1_i32 : BitVec 32 := 1#32
  let v4 : BitVec 32 := Scalar.addi v2 c1_i32
  let v155 : BitVec 32 := Scalar.addi v154 v4
  let v156 : Index := Scalar.indexCast v155
  ![v156.toNat]
def k0_mult21 (v157 : BitVec 32) : BitVec 32 :=
  v157

def k0_chk21 (v157 : BitVec 32) : Prop :=
  (16 ∣ (k0_mult21 v157).toNat)
theorem k0_mult21_dvd : ∀ (v157 : BitVec 32) (k0_hw21 : k0_chk21 v157), 16 ∣ (k0_mult21 v157).toNat := fun v157 k0_hw21 => k0_hw21

def k0_off23 (i : grid0.Coords) : Fin 1 → Nat :=
  let arg0 : BitVec 32 := BitVec.ofNat 32 (i 0).val
  let c16_i32_54 : BitVec 32 := 16#32
  let v159 : BitVec 32 := Scalar.muli arg0 c16_i32_54
  let c5_i32_55 : BitVec 32 := 5#32
  let v160 : BitVec 32 := Scalar.addi v159 c5_i32_55
  let c32_i32_56 : BitVec 32 := 32#32
  let v161 : BitVec 32 := Scalar.muli v160 c32_i32_56
  let arg2 : BitVec 32 := BitVec.ofNat 32 (i 2).val
  let c4_i32 : BitVec 32 := 4#32
  let v0 : BitVec 32 := Scalar.muli arg2 c4_i32
  let c0_i32 : BitVec 32 := 0#32
  let c4_i32_0 : BitVec 32 := 4#32
  let v1 : BitVec 32 := Scalar.muli c0_i32 c4_i32_0
  let v2 : BitVec 32 := Scalar.addi v0 v1
  let c1_i32 : BitVec 32 := 1#32
  let v4 : BitVec 32 := Scalar.addi v2 c1_i32
  let v162 : BitVec 32 := Scalar.addi v161 v4
  let v163 : Index := Scalar.indexCast v162
  ![v163.toNat]
def k0_mult22 (v164 : BitVec 32) : BitVec 32 :=
  v164

def k0_chk22 (v164 : BitVec 32) : Prop :=
  (16 ∣ (k0_mult22 v164).toNat)
theorem k0_mult22_dvd : ∀ (v164 : BitVec 32) (k0_hw22 : k0_chk22 v164), 16 ∣ (k0_mult22 v164).toNat := fun v164 k0_hw22 => k0_hw22

def k0_off24 (i : grid0.Coords) : Fin 1 → Nat :=
  let arg0 : BitVec 32 := BitVec.ofNat 32 (i 0).val
  let c16_i32_57 : BitVec 32 := 16#32
  let v166 : BitVec 32 := Scalar.muli arg0 c16_i32_57
  let c6_i32_58 : BitVec 32 := 6#32
  let v167 : BitVec 32 := Scalar.addi v166 c6_i32_58
  let c32_i32_59 : BitVec 32 := 32#32
  let v168 : BitVec 32 := Scalar.muli v167 c32_i32_59
  let arg2 : BitVec 32 := BitVec.ofNat 32 (i 2).val
  let c4_i32 : BitVec 32 := 4#32
  let v0 : BitVec 32 := Scalar.muli arg2 c4_i32
  let c0_i32 : BitVec 32 := 0#32
  let c4_i32_0 : BitVec 32 := 4#32
  let v1 : BitVec 32 := Scalar.muli c0_i32 c4_i32_0
  let v2 : BitVec 32 := Scalar.addi v0 v1
  let c1_i32 : BitVec 32 := 1#32
  let v4 : BitVec 32 := Scalar.addi v2 c1_i32
  let v169 : BitVec 32 := Scalar.addi v168 v4
  let v170 : Index := Scalar.indexCast v169
  ![v170.toNat]
def k0_mult23 (v171 : BitVec 32) : BitVec 32 :=
  v171

def k0_chk23 (v171 : BitVec 32) : Prop :=
  (16 ∣ (k0_mult23 v171).toNat)
theorem k0_mult23_dvd : ∀ (v171 : BitVec 32) (k0_hw23 : k0_chk23 v171), 16 ∣ (k0_mult23 v171).toNat := fun v171 k0_hw23 => k0_hw23

def k0_off25 (i : grid0.Coords) : Fin 1 → Nat :=
  let arg0 : BitVec 32 := BitVec.ofNat 32 (i 0).val
  let c16_i32_60 : BitVec 32 := 16#32
  let v173 : BitVec 32 := Scalar.muli arg0 c16_i32_60
  let c7_i32_61 : BitVec 32 := 7#32
  let v174 : BitVec 32 := Scalar.addi v173 c7_i32_61
  let c32_i32_62 : BitVec 32 := 32#32
  let v175 : BitVec 32 := Scalar.muli v174 c32_i32_62
  let arg2 : BitVec 32 := BitVec.ofNat 32 (i 2).val
  let c4_i32 : BitVec 32 := 4#32
  let v0 : BitVec 32 := Scalar.muli arg2 c4_i32
  let c0_i32 : BitVec 32 := 0#32
  let c4_i32_0 : BitVec 32 := 4#32
  let v1 : BitVec 32 := Scalar.muli c0_i32 c4_i32_0
  let v2 : BitVec 32 := Scalar.addi v0 v1
  let c1_i32 : BitVec 32 := 1#32
  let v4 : BitVec 32 := Scalar.addi v2 c1_i32
  let v176 : BitVec 32 := Scalar.addi v175 v4
  let v177 : Index := Scalar.indexCast v176
  ![v177.toNat]
def k0_mult24 (v178 : BitVec 32) : BitVec 32 :=
  v178

def k0_chk24 (v178 : BitVec 32) : Prop :=
  (16 ∣ (k0_mult24 v178).toNat)
theorem k0_mult24_dvd : ∀ (v178 : BitVec 32) (k0_hw24 : k0_chk24 v178), 16 ∣ (k0_mult24 v178).toNat := fun v178 k0_hw24 => k0_hw24

def k0_off26 (i : grid0.Coords) : Fin 1 → Nat :=
  let arg0 : BitVec 32 := BitVec.ofNat 32 (i 0).val
  let c16_i32_63 : BitVec 32 := 16#32
  let v180 : BitVec 32 := Scalar.muli arg0 c16_i32_63
  let c8_i32_64 : BitVec 32 := 8#32
  let v181 : BitVec 32 := Scalar.addi v180 c8_i32_64
  let c32_i32_65 : BitVec 32 := 32#32
  let v182 : BitVec 32 := Scalar.muli v181 c32_i32_65
  let arg2 : BitVec 32 := BitVec.ofNat 32 (i 2).val
  let c4_i32 : BitVec 32 := 4#32
  let v0 : BitVec 32 := Scalar.muli arg2 c4_i32
  let c0_i32 : BitVec 32 := 0#32
  let c4_i32_0 : BitVec 32 := 4#32
  let v1 : BitVec 32 := Scalar.muli c0_i32 c4_i32_0
  let v2 : BitVec 32 := Scalar.addi v0 v1
  let c1_i32 : BitVec 32 := 1#32
  let v4 : BitVec 32 := Scalar.addi v2 c1_i32
  let v183 : BitVec 32 := Scalar.addi v182 v4
  let v184 : Index := Scalar.indexCast v183
  ![v184.toNat]
def k0_mult25 (v185 : BitVec 32) : BitVec 32 :=
  v185

def k0_chk25 (v185 : BitVec 32) : Prop :=
  (16 ∣ (k0_mult25 v185).toNat)
theorem k0_mult25_dvd : ∀ (v185 : BitVec 32) (k0_hw25 : k0_chk25 v185), 16 ∣ (k0_mult25 v185).toNat := fun v185 k0_hw25 => k0_hw25

def k0_off27 (i : grid0.Coords) : Fin 1 → Nat :=
  let arg0 : BitVec 32 := BitVec.ofNat 32 (i 0).val
  let c16_i32_66 : BitVec 32 := 16#32
  let v187 : BitVec 32 := Scalar.muli arg0 c16_i32_66
  let c9_i32_67 : BitVec 32 := 9#32
  let v188 : BitVec 32 := Scalar.addi v187 c9_i32_67
  let c32_i32_68 : BitVec 32 := 32#32
  let v189 : BitVec 32 := Scalar.muli v188 c32_i32_68
  let arg2 : BitVec 32 := BitVec.ofNat 32 (i 2).val
  let c4_i32 : BitVec 32 := 4#32
  let v0 : BitVec 32 := Scalar.muli arg2 c4_i32
  let c0_i32 : BitVec 32 := 0#32
  let c4_i32_0 : BitVec 32 := 4#32
  let v1 : BitVec 32 := Scalar.muli c0_i32 c4_i32_0
  let v2 : BitVec 32 := Scalar.addi v0 v1
  let c1_i32 : BitVec 32 := 1#32
  let v4 : BitVec 32 := Scalar.addi v2 c1_i32
  let v190 : BitVec 32 := Scalar.addi v189 v4
  let v191 : Index := Scalar.indexCast v190
  ![v191.toNat]
def k0_mult26 (v192 : BitVec 32) : BitVec 32 :=
  v192

def k0_chk26 (v192 : BitVec 32) : Prop :=
  (16 ∣ (k0_mult26 v192).toNat)
theorem k0_mult26_dvd : ∀ (v192 : BitVec 32) (k0_hw26 : k0_chk26 v192), 16 ∣ (k0_mult26 v192).toNat := fun v192 k0_hw26 => k0_hw26

def k0_off28 (i : grid0.Coords) : Fin 1 → Nat :=
  let arg0 : BitVec 32 := BitVec.ofNat 32 (i 0).val
  let c16_i32_69 : BitVec 32 := 16#32
  let v194 : BitVec 32 := Scalar.muli arg0 c16_i32_69
  let c10_i32_70 : BitVec 32 := 10#32
  let v195 : BitVec 32 := Scalar.addi v194 c10_i32_70
  let c32_i32_71 : BitVec 32 := 32#32
  let v196 : BitVec 32 := Scalar.muli v195 c32_i32_71
  let arg2 : BitVec 32 := BitVec.ofNat 32 (i 2).val
  let c4_i32 : BitVec 32 := 4#32
  let v0 : BitVec 32 := Scalar.muli arg2 c4_i32
  let c0_i32 : BitVec 32 := 0#32
  let c4_i32_0 : BitVec 32 := 4#32
  let v1 : BitVec 32 := Scalar.muli c0_i32 c4_i32_0
  let v2 : BitVec 32 := Scalar.addi v0 v1
  let c1_i32 : BitVec 32 := 1#32
  let v4 : BitVec 32 := Scalar.addi v2 c1_i32
  let v197 : BitVec 32 := Scalar.addi v196 v4
  let v198 : Index := Scalar.indexCast v197
  ![v198.toNat]
def k0_mult27 (v199 : BitVec 32) : BitVec 32 :=
  v199

def k0_chk27 (v199 : BitVec 32) : Prop :=
  (16 ∣ (k0_mult27 v199).toNat)
theorem k0_mult27_dvd : ∀ (v199 : BitVec 32) (k0_hw27 : k0_chk27 v199), 16 ∣ (k0_mult27 v199).toNat := fun v199 k0_hw27 => k0_hw27

def k0_off29 (i : grid0.Coords) : Fin 1 → Nat :=
  let arg0 : BitVec 32 := BitVec.ofNat 32 (i 0).val
  let c16_i32_72 : BitVec 32 := 16#32
  let v201 : BitVec 32 := Scalar.muli arg0 c16_i32_72
  let c11_i32_73 : BitVec 32 := 11#32
  let v202 : BitVec 32 := Scalar.addi v201 c11_i32_73
  let c32_i32_74 : BitVec 32 := 32#32
  let v203 : BitVec 32 := Scalar.muli v202 c32_i32_74
  let arg2 : BitVec 32 := BitVec.ofNat 32 (i 2).val
  let c4_i32 : BitVec 32 := 4#32
  let v0 : BitVec 32 := Scalar.muli arg2 c4_i32
  let c0_i32 : BitVec 32 := 0#32
  let c4_i32_0 : BitVec 32 := 4#32
  let v1 : BitVec 32 := Scalar.muli c0_i32 c4_i32_0
  let v2 : BitVec 32 := Scalar.addi v0 v1
  let c1_i32 : BitVec 32 := 1#32
  let v4 : BitVec 32 := Scalar.addi v2 c1_i32
  let v204 : BitVec 32 := Scalar.addi v203 v4
  let v205 : Index := Scalar.indexCast v204
  ![v205.toNat]
def k0_mult28 (v206 : BitVec 32) : BitVec 32 :=
  v206

def k0_chk28 (v206 : BitVec 32) : Prop :=
  (16 ∣ (k0_mult28 v206).toNat)
theorem k0_mult28_dvd : ∀ (v206 : BitVec 32) (k0_hw28 : k0_chk28 v206), 16 ∣ (k0_mult28 v206).toNat := fun v206 k0_hw28 => k0_hw28

def k0_off30 (i : grid0.Coords) : Fin 1 → Nat :=
  let arg0 : BitVec 32 := BitVec.ofNat 32 (i 0).val
  let c16_i32_75 : BitVec 32 := 16#32
  let v208 : BitVec 32 := Scalar.muli arg0 c16_i32_75
  let c12_i32_76 : BitVec 32 := 12#32
  let v209 : BitVec 32 := Scalar.addi v208 c12_i32_76
  let c32_i32_77 : BitVec 32 := 32#32
  let v210 : BitVec 32 := Scalar.muli v209 c32_i32_77
  let arg2 : BitVec 32 := BitVec.ofNat 32 (i 2).val
  let c4_i32 : BitVec 32 := 4#32
  let v0 : BitVec 32 := Scalar.muli arg2 c4_i32
  let c0_i32 : BitVec 32 := 0#32
  let c4_i32_0 : BitVec 32 := 4#32
  let v1 : BitVec 32 := Scalar.muli c0_i32 c4_i32_0
  let v2 : BitVec 32 := Scalar.addi v0 v1
  let c1_i32 : BitVec 32 := 1#32
  let v4 : BitVec 32 := Scalar.addi v2 c1_i32
  let v211 : BitVec 32 := Scalar.addi v210 v4
  let v212 : Index := Scalar.indexCast v211
  ![v212.toNat]
def k0_mult29 (v213 : BitVec 32) : BitVec 32 :=
  v213

def k0_chk29 (v213 : BitVec 32) : Prop :=
  (16 ∣ (k0_mult29 v213).toNat)
theorem k0_mult29_dvd : ∀ (v213 : BitVec 32) (k0_hw29 : k0_chk29 v213), 16 ∣ (k0_mult29 v213).toNat := fun v213 k0_hw29 => k0_hw29

def k0_off31 (i : grid0.Coords) : Fin 1 → Nat :=
  let arg0 : BitVec 32 := BitVec.ofNat 32 (i 0).val
  let c16_i32_78 : BitVec 32 := 16#32
  let v215 : BitVec 32 := Scalar.muli arg0 c16_i32_78
  let c13_i32_79 : BitVec 32 := 13#32
  let v216 : BitVec 32 := Scalar.addi v215 c13_i32_79
  let c32_i32_80 : BitVec 32 := 32#32
  let v217 : BitVec 32 := Scalar.muli v216 c32_i32_80
  let arg2 : BitVec 32 := BitVec.ofNat 32 (i 2).val
  let c4_i32 : BitVec 32 := 4#32
  let v0 : BitVec 32 := Scalar.muli arg2 c4_i32
  let c0_i32 : BitVec 32 := 0#32
  let c4_i32_0 : BitVec 32 := 4#32
  let v1 : BitVec 32 := Scalar.muli c0_i32 c4_i32_0
  let v2 : BitVec 32 := Scalar.addi v0 v1
  let c1_i32 : BitVec 32 := 1#32
  let v4 : BitVec 32 := Scalar.addi v2 c1_i32
  let v218 : BitVec 32 := Scalar.addi v217 v4
  let v219 : Index := Scalar.indexCast v218
  ![v219.toNat]
def k0_mult30 (v220 : BitVec 32) : BitVec 32 :=
  v220

def k0_chk30 (v220 : BitVec 32) : Prop :=
  (16 ∣ (k0_mult30 v220).toNat)
theorem k0_mult30_dvd : ∀ (v220 : BitVec 32) (k0_hw30 : k0_chk30 v220), 16 ∣ (k0_mult30 v220).toNat := fun v220 k0_hw30 => k0_hw30

def k0_off32 (i : grid0.Coords) : Fin 1 → Nat :=
  let arg0 : BitVec 32 := BitVec.ofNat 32 (i 0).val
  let c16_i32_81 : BitVec 32 := 16#32
  let v222 : BitVec 32 := Scalar.muli arg0 c16_i32_81
  let c14_i32_82 : BitVec 32 := 14#32
  let v223 : BitVec 32 := Scalar.addi v222 c14_i32_82
  let c32_i32_83 : BitVec 32 := 32#32
  let v224 : BitVec 32 := Scalar.muli v223 c32_i32_83
  let arg2 : BitVec 32 := BitVec.ofNat 32 (i 2).val
  let c4_i32 : BitVec 32 := 4#32
  let v0 : BitVec 32 := Scalar.muli arg2 c4_i32
  let c0_i32 : BitVec 32 := 0#32
  let c4_i32_0 : BitVec 32 := 4#32
  let v1 : BitVec 32 := Scalar.muli c0_i32 c4_i32_0
  let v2 : BitVec 32 := Scalar.addi v0 v1
  let c1_i32 : BitVec 32 := 1#32
  let v4 : BitVec 32 := Scalar.addi v2 c1_i32
  let v225 : BitVec 32 := Scalar.addi v224 v4
  let v226 : Index := Scalar.indexCast v225
  ![v226.toNat]
def k0_mult31 (v227 : BitVec 32) : BitVec 32 :=
  v227

def k0_chk31 (v227 : BitVec 32) : Prop :=
  (16 ∣ (k0_mult31 v227).toNat)
theorem k0_mult31_dvd : ∀ (v227 : BitVec 32) (k0_hw31 : k0_chk31 v227), 16 ∣ (k0_mult31 v227).toNat := fun v227 k0_hw31 => k0_hw31

def k0_off33 (i : grid0.Coords) : Fin 1 → Nat :=
  let arg0 : BitVec 32 := BitVec.ofNat 32 (i 0).val
  let c16_i32_84 : BitVec 32 := 16#32
  let v229 : BitVec 32 := Scalar.muli arg0 c16_i32_84
  let c15_i32_85 : BitVec 32 := 15#32
  let v230 : BitVec 32 := Scalar.addi v229 c15_i32_85
  let c32_i32_86 : BitVec 32 := 32#32
  let v231 : BitVec 32 := Scalar.muli v230 c32_i32_86
  let arg2 : BitVec 32 := BitVec.ofNat 32 (i 2).val
  let c4_i32 : BitVec 32 := 4#32
  let v0 : BitVec 32 := Scalar.muli arg2 c4_i32
  let c0_i32 : BitVec 32 := 0#32
  let c4_i32_0 : BitVec 32 := 4#32
  let v1 : BitVec 32 := Scalar.muli c0_i32 c4_i32_0
  let v2 : BitVec 32 := Scalar.addi v0 v1
  let c1_i32 : BitVec 32 := 1#32
  let v4 : BitVec 32 := Scalar.addi v2 c1_i32
  let v232 : BitVec 32 := Scalar.addi v231 v4
  let v233 : Index := Scalar.indexCast v232
  ![v233.toNat]
def k0_mult32 (v234 : BitVec 32) : BitVec 32 :=
  v234

def k0_chk32 (v234 : BitVec 32) : Prop :=
  (16 ∣ (k0_mult32 v234).toNat)
theorem k0_mult32_dvd : ∀ (v234 : BitVec 32) (k0_hw32 : k0_chk32 v234), 16 ∣ (k0_mult32 v234).toNat := fun v234 k0_hw32 => k0_hw32

def k0_off34 (i : grid0.Coords) : Fin 1 → Nat :=
  let arg0 : BitVec 32 := BitVec.ofNat 32 (i 0).val
  let c32_i32_87 : BitVec 32 := 32#32
  let v236 : BitVec 32 := Scalar.muli arg0 c32_i32_87
  let arg2 : BitVec 32 := BitVec.ofNat 32 (i 2).val
  let c4_i32 : BitVec 32 := 4#32
  let v0 : BitVec 32 := Scalar.muli arg2 c4_i32
  let c0_i32 : BitVec 32 := 0#32
  let c4_i32_0 : BitVec 32 := 4#32
  let v1 : BitVec 32 := Scalar.muli c0_i32 c4_i32_0
  let v2 : BitVec 32 := Scalar.addi v0 v1
  let c1_i32 : BitVec 32 := 1#32
  let v4 : BitVec 32 := Scalar.addi v2 c1_i32
  let v237 : BitVec 32 := Scalar.addi v236 v4
  let v238 : Index := Scalar.indexCast v237
  ![v238.toNat]
def k0_off35 (i : grid0.Coords) : Fin 1 → Nat :=
  let arg0 : BitVec 32 := BitVec.ofNat 32 (i 0).val
  let c16_i32_89 : BitVec 32 := 16#32
  let v241 : BitVec 32 := Scalar.muli arg0 c16_i32_89
  let c0_i32_90 : BitVec 32 := 0#32
  let v242 : BitVec 32 := Scalar.addi v241 c0_i32_90
  let c32_i32_91 : BitVec 32 := 32#32
  let v243 : BitVec 32 := Scalar.muli v242 c32_i32_91
  let arg2 : BitVec 32 := BitVec.ofNat 32 (i 2).val
  let c4_i32 : BitVec 32 := 4#32
  let v0 : BitVec 32 := Scalar.muli arg2 c4_i32
  let c0_i32 : BitVec 32 := 0#32
  let c4_i32_0 : BitVec 32 := 4#32
  let v1 : BitVec 32 := Scalar.muli c0_i32 c4_i32_0
  let v2 : BitVec 32 := Scalar.addi v0 v1
  let c2_i32 : BitVec 32 := 2#32
  let v5 : BitVec 32 := Scalar.addi v2 c2_i32
  let v244 : BitVec 32 := Scalar.addi v243 v5
  let v245 : Index := Scalar.indexCast v244
  ![v245.toNat]
def k0_mult33 (v246 : BitVec 32) : BitVec 32 :=
  v246

def k0_chk33 (v246 : BitVec 32) : Prop :=
  (16 ∣ (k0_mult33 v246).toNat)
theorem k0_mult33_dvd : ∀ (v246 : BitVec 32) (k0_hw33 : k0_chk33 v246), 16 ∣ (k0_mult33 v246).toNat := fun v246 k0_hw33 => k0_hw33

def k0_off36 (i : grid0.Coords) : Fin 1 → Nat :=
  let arg0 : BitVec 32 := BitVec.ofNat 32 (i 0).val
  let c16_i32_92 : BitVec 32 := 16#32
  let v248 : BitVec 32 := Scalar.muli arg0 c16_i32_92
  let c1_i32_93 : BitVec 32 := 1#32
  let v249 : BitVec 32 := Scalar.addi v248 c1_i32_93
  let c32_i32_94 : BitVec 32 := 32#32
  let v250 : BitVec 32 := Scalar.muli v249 c32_i32_94
  let arg2 : BitVec 32 := BitVec.ofNat 32 (i 2).val
  let c4_i32 : BitVec 32 := 4#32
  let v0 : BitVec 32 := Scalar.muli arg2 c4_i32
  let c0_i32 : BitVec 32 := 0#32
  let c4_i32_0 : BitVec 32 := 4#32
  let v1 : BitVec 32 := Scalar.muli c0_i32 c4_i32_0
  let v2 : BitVec 32 := Scalar.addi v0 v1
  let c2_i32 : BitVec 32 := 2#32
  let v5 : BitVec 32 := Scalar.addi v2 c2_i32
  let v251 : BitVec 32 := Scalar.addi v250 v5
  let v252 : Index := Scalar.indexCast v251
  ![v252.toNat]
def k0_mult34 (v253 : BitVec 32) : BitVec 32 :=
  v253

def k0_chk34 (v253 : BitVec 32) : Prop :=
  (16 ∣ (k0_mult34 v253).toNat)
theorem k0_mult34_dvd : ∀ (v253 : BitVec 32) (k0_hw34 : k0_chk34 v253), 16 ∣ (k0_mult34 v253).toNat := fun v253 k0_hw34 => k0_hw34

def k0_off37 (i : grid0.Coords) : Fin 1 → Nat :=
  let arg0 : BitVec 32 := BitVec.ofNat 32 (i 0).val
  let c16_i32_95 : BitVec 32 := 16#32
  let v255 : BitVec 32 := Scalar.muli arg0 c16_i32_95
  let c2_i32_96 : BitVec 32 := 2#32
  let v256 : BitVec 32 := Scalar.addi v255 c2_i32_96
  let c32_i32_97 : BitVec 32 := 32#32
  let v257 : BitVec 32 := Scalar.muli v256 c32_i32_97
  let arg2 : BitVec 32 := BitVec.ofNat 32 (i 2).val
  let c4_i32 : BitVec 32 := 4#32
  let v0 : BitVec 32 := Scalar.muli arg2 c4_i32
  let c0_i32 : BitVec 32 := 0#32
  let c4_i32_0 : BitVec 32 := 4#32
  let v1 : BitVec 32 := Scalar.muli c0_i32 c4_i32_0
  let v2 : BitVec 32 := Scalar.addi v0 v1
  let c2_i32 : BitVec 32 := 2#32
  let v5 : BitVec 32 := Scalar.addi v2 c2_i32
  let v258 : BitVec 32 := Scalar.addi v257 v5
  let v259 : Index := Scalar.indexCast v258
  ![v259.toNat]
def k0_mult35 (v260 : BitVec 32) : BitVec 32 :=
  v260

def k0_chk35 (v260 : BitVec 32) : Prop :=
  (16 ∣ (k0_mult35 v260).toNat)
theorem k0_mult35_dvd : ∀ (v260 : BitVec 32) (k0_hw35 : k0_chk35 v260), 16 ∣ (k0_mult35 v260).toNat := fun v260 k0_hw35 => k0_hw35

def k0_off38 (i : grid0.Coords) : Fin 1 → Nat :=
  let arg0 : BitVec 32 := BitVec.ofNat 32 (i 0).val
  let c16_i32_98 : BitVec 32 := 16#32
  let v262 : BitVec 32 := Scalar.muli arg0 c16_i32_98
  let c3_i32_99 : BitVec 32 := 3#32
  let v263 : BitVec 32 := Scalar.addi v262 c3_i32_99
  let c32_i32_100 : BitVec 32 := 32#32
  let v264 : BitVec 32 := Scalar.muli v263 c32_i32_100
  let arg2 : BitVec 32 := BitVec.ofNat 32 (i 2).val
  let c4_i32 : BitVec 32 := 4#32
  let v0 : BitVec 32 := Scalar.muli arg2 c4_i32
  let c0_i32 : BitVec 32 := 0#32
  let c4_i32_0 : BitVec 32 := 4#32
  let v1 : BitVec 32 := Scalar.muli c0_i32 c4_i32_0
  let v2 : BitVec 32 := Scalar.addi v0 v1
  let c2_i32 : BitVec 32 := 2#32
  let v5 : BitVec 32 := Scalar.addi v2 c2_i32
  let v265 : BitVec 32 := Scalar.addi v264 v5
  let v266 : Index := Scalar.indexCast v265
  ![v266.toNat]
def k0_mult36 (v267 : BitVec 32) : BitVec 32 :=
  v267

def k0_chk36 (v267 : BitVec 32) : Prop :=
  (16 ∣ (k0_mult36 v267).toNat)
theorem k0_mult36_dvd : ∀ (v267 : BitVec 32) (k0_hw36 : k0_chk36 v267), 16 ∣ (k0_mult36 v267).toNat := fun v267 k0_hw36 => k0_hw36

def k0_off39 (i : grid0.Coords) : Fin 1 → Nat :=
  let arg0 : BitVec 32 := BitVec.ofNat 32 (i 0).val
  let c16_i32_101 : BitVec 32 := 16#32
  let v269 : BitVec 32 := Scalar.muli arg0 c16_i32_101
  let c4_i32_102 : BitVec 32 := 4#32
  let v270 : BitVec 32 := Scalar.addi v269 c4_i32_102
  let c32_i32_103 : BitVec 32 := 32#32
  let v271 : BitVec 32 := Scalar.muli v270 c32_i32_103
  let arg2 : BitVec 32 := BitVec.ofNat 32 (i 2).val
  let c4_i32 : BitVec 32 := 4#32
  let v0 : BitVec 32 := Scalar.muli arg2 c4_i32
  let c0_i32 : BitVec 32 := 0#32
  let c4_i32_0 : BitVec 32 := 4#32
  let v1 : BitVec 32 := Scalar.muli c0_i32 c4_i32_0
  let v2 : BitVec 32 := Scalar.addi v0 v1
  let c2_i32 : BitVec 32 := 2#32
  let v5 : BitVec 32 := Scalar.addi v2 c2_i32
  let v272 : BitVec 32 := Scalar.addi v271 v5
  let v273 : Index := Scalar.indexCast v272
  ![v273.toNat]
def k0_mult37 (v274 : BitVec 32) : BitVec 32 :=
  v274

def k0_chk37 (v274 : BitVec 32) : Prop :=
  (16 ∣ (k0_mult37 v274).toNat)
theorem k0_mult37_dvd : ∀ (v274 : BitVec 32) (k0_hw37 : k0_chk37 v274), 16 ∣ (k0_mult37 v274).toNat := fun v274 k0_hw37 => k0_hw37

def k0_off40 (i : grid0.Coords) : Fin 1 → Nat :=
  let arg0 : BitVec 32 := BitVec.ofNat 32 (i 0).val
  let c16_i32_104 : BitVec 32 := 16#32
  let v276 : BitVec 32 := Scalar.muli arg0 c16_i32_104
  let c5_i32_105 : BitVec 32 := 5#32
  let v277 : BitVec 32 := Scalar.addi v276 c5_i32_105
  let c32_i32_106 : BitVec 32 := 32#32
  let v278 : BitVec 32 := Scalar.muli v277 c32_i32_106
  let arg2 : BitVec 32 := BitVec.ofNat 32 (i 2).val
  let c4_i32 : BitVec 32 := 4#32
  let v0 : BitVec 32 := Scalar.muli arg2 c4_i32
  let c0_i32 : BitVec 32 := 0#32
  let c4_i32_0 : BitVec 32 := 4#32
  let v1 : BitVec 32 := Scalar.muli c0_i32 c4_i32_0
  let v2 : BitVec 32 := Scalar.addi v0 v1
  let c2_i32 : BitVec 32 := 2#32
  let v5 : BitVec 32 := Scalar.addi v2 c2_i32
  let v279 : BitVec 32 := Scalar.addi v278 v5
  let v280 : Index := Scalar.indexCast v279
  ![v280.toNat]
def k0_mult38 (v281 : BitVec 32) : BitVec 32 :=
  v281

def k0_chk38 (v281 : BitVec 32) : Prop :=
  (16 ∣ (k0_mult38 v281).toNat)
theorem k0_mult38_dvd : ∀ (v281 : BitVec 32) (k0_hw38 : k0_chk38 v281), 16 ∣ (k0_mult38 v281).toNat := fun v281 k0_hw38 => k0_hw38

def k0_off41 (i : grid0.Coords) : Fin 1 → Nat :=
  let arg0 : BitVec 32 := BitVec.ofNat 32 (i 0).val
  let c16_i32_107 : BitVec 32 := 16#32
  let v283 : BitVec 32 := Scalar.muli arg0 c16_i32_107
  let c6_i32_108 : BitVec 32 := 6#32
  let v284 : BitVec 32 := Scalar.addi v283 c6_i32_108
  let c32_i32_109 : BitVec 32 := 32#32
  let v285 : BitVec 32 := Scalar.muli v284 c32_i32_109
  let arg2 : BitVec 32 := BitVec.ofNat 32 (i 2).val
  let c4_i32 : BitVec 32 := 4#32
  let v0 : BitVec 32 := Scalar.muli arg2 c4_i32
  let c0_i32 : BitVec 32 := 0#32
  let c4_i32_0 : BitVec 32 := 4#32
  let v1 : BitVec 32 := Scalar.muli c0_i32 c4_i32_0
  let v2 : BitVec 32 := Scalar.addi v0 v1
  let c2_i32 : BitVec 32 := 2#32
  let v5 : BitVec 32 := Scalar.addi v2 c2_i32
  let v286 : BitVec 32 := Scalar.addi v285 v5
  let v287 : Index := Scalar.indexCast v286
  ![v287.toNat]
def k0_mult39 (v288 : BitVec 32) : BitVec 32 :=
  v288

def k0_chk39 (v288 : BitVec 32) : Prop :=
  (16 ∣ (k0_mult39 v288).toNat)
theorem k0_mult39_dvd : ∀ (v288 : BitVec 32) (k0_hw39 : k0_chk39 v288), 16 ∣ (k0_mult39 v288).toNat := fun v288 k0_hw39 => k0_hw39

def k0_off42 (i : grid0.Coords) : Fin 1 → Nat :=
  let arg0 : BitVec 32 := BitVec.ofNat 32 (i 0).val
  let c16_i32_110 : BitVec 32 := 16#32
  let v290 : BitVec 32 := Scalar.muli arg0 c16_i32_110
  let c7_i32_111 : BitVec 32 := 7#32
  let v291 : BitVec 32 := Scalar.addi v290 c7_i32_111
  let c32_i32_112 : BitVec 32 := 32#32
  let v292 : BitVec 32 := Scalar.muli v291 c32_i32_112
  let arg2 : BitVec 32 := BitVec.ofNat 32 (i 2).val
  let c4_i32 : BitVec 32 := 4#32
  let v0 : BitVec 32 := Scalar.muli arg2 c4_i32
  let c0_i32 : BitVec 32 := 0#32
  let c4_i32_0 : BitVec 32 := 4#32
  let v1 : BitVec 32 := Scalar.muli c0_i32 c4_i32_0
  let v2 : BitVec 32 := Scalar.addi v0 v1
  let c2_i32 : BitVec 32 := 2#32
  let v5 : BitVec 32 := Scalar.addi v2 c2_i32
  let v293 : BitVec 32 := Scalar.addi v292 v5
  let v294 : Index := Scalar.indexCast v293
  ![v294.toNat]
def k0_mult40 (v295 : BitVec 32) : BitVec 32 :=
  v295

def k0_chk40 (v295 : BitVec 32) : Prop :=
  (16 ∣ (k0_mult40 v295).toNat)
theorem k0_mult40_dvd : ∀ (v295 : BitVec 32) (k0_hw40 : k0_chk40 v295), 16 ∣ (k0_mult40 v295).toNat := fun v295 k0_hw40 => k0_hw40

def k0_off43 (i : grid0.Coords) : Fin 1 → Nat :=
  let arg0 : BitVec 32 := BitVec.ofNat 32 (i 0).val
  let c16_i32_113 : BitVec 32 := 16#32
  let v297 : BitVec 32 := Scalar.muli arg0 c16_i32_113
  let c8_i32_114 : BitVec 32 := 8#32
  let v298 : BitVec 32 := Scalar.addi v297 c8_i32_114
  let c32_i32_115 : BitVec 32 := 32#32
  let v299 : BitVec 32 := Scalar.muli v298 c32_i32_115
  let arg2 : BitVec 32 := BitVec.ofNat 32 (i 2).val
  let c4_i32 : BitVec 32 := 4#32
  let v0 : BitVec 32 := Scalar.muli arg2 c4_i32
  let c0_i32 : BitVec 32 := 0#32
  let c4_i32_0 : BitVec 32 := 4#32
  let v1 : BitVec 32 := Scalar.muli c0_i32 c4_i32_0
  let v2 : BitVec 32 := Scalar.addi v0 v1
  let c2_i32 : BitVec 32 := 2#32
  let v5 : BitVec 32 := Scalar.addi v2 c2_i32
  let v300 : BitVec 32 := Scalar.addi v299 v5
  let v301 : Index := Scalar.indexCast v300
  ![v301.toNat]
def k0_mult41 (v302 : BitVec 32) : BitVec 32 :=
  v302

def k0_chk41 (v302 : BitVec 32) : Prop :=
  (16 ∣ (k0_mult41 v302).toNat)
theorem k0_mult41_dvd : ∀ (v302 : BitVec 32) (k0_hw41 : k0_chk41 v302), 16 ∣ (k0_mult41 v302).toNat := fun v302 k0_hw41 => k0_hw41

def k0_off44 (i : grid0.Coords) : Fin 1 → Nat :=
  let arg0 : BitVec 32 := BitVec.ofNat 32 (i 0).val
  let c16_i32_116 : BitVec 32 := 16#32
  let v304 : BitVec 32 := Scalar.muli arg0 c16_i32_116
  let c9_i32_117 : BitVec 32 := 9#32
  let v305 : BitVec 32 := Scalar.addi v304 c9_i32_117
  let c32_i32_118 : BitVec 32 := 32#32
  let v306 : BitVec 32 := Scalar.muli v305 c32_i32_118
  let arg2 : BitVec 32 := BitVec.ofNat 32 (i 2).val
  let c4_i32 : BitVec 32 := 4#32
  let v0 : BitVec 32 := Scalar.muli arg2 c4_i32
  let c0_i32 : BitVec 32 := 0#32
  let c4_i32_0 : BitVec 32 := 4#32
  let v1 : BitVec 32 := Scalar.muli c0_i32 c4_i32_0
  let v2 : BitVec 32 := Scalar.addi v0 v1
  let c2_i32 : BitVec 32 := 2#32
  let v5 : BitVec 32 := Scalar.addi v2 c2_i32
  let v307 : BitVec 32 := Scalar.addi v306 v5
  let v308 : Index := Scalar.indexCast v307
  ![v308.toNat]
def k0_mult42 (v309 : BitVec 32) : BitVec 32 :=
  v309

def k0_chk42 (v309 : BitVec 32) : Prop :=
  (16 ∣ (k0_mult42 v309).toNat)
theorem k0_mult42_dvd : ∀ (v309 : BitVec 32) (k0_hw42 : k0_chk42 v309), 16 ∣ (k0_mult42 v309).toNat := fun v309 k0_hw42 => k0_hw42

def k0_off45 (i : grid0.Coords) : Fin 1 → Nat :=
  let arg0 : BitVec 32 := BitVec.ofNat 32 (i 0).val
  let c16_i32_119 : BitVec 32 := 16#32
  let v311 : BitVec 32 := Scalar.muli arg0 c16_i32_119
  let c10_i32_120 : BitVec 32 := 10#32
  let v312 : BitVec 32 := Scalar.addi v311 c10_i32_120
  let c32_i32_121 : BitVec 32 := 32#32
  let v313 : BitVec 32 := Scalar.muli v312 c32_i32_121
  let arg2 : BitVec 32 := BitVec.ofNat 32 (i 2).val
  let c4_i32 : BitVec 32 := 4#32
  let v0 : BitVec 32 := Scalar.muli arg2 c4_i32
  let c0_i32 : BitVec 32 := 0#32
  let c4_i32_0 : BitVec 32 := 4#32
  let v1 : BitVec 32 := Scalar.muli c0_i32 c4_i32_0
  let v2 : BitVec 32 := Scalar.addi v0 v1
  let c2_i32 : BitVec 32 := 2#32
  let v5 : BitVec 32 := Scalar.addi v2 c2_i32
  let v314 : BitVec 32 := Scalar.addi v313 v5
  let v315 : Index := Scalar.indexCast v314
  ![v315.toNat]
def k0_mult43 (v316 : BitVec 32) : BitVec 32 :=
  v316

def k0_chk43 (v316 : BitVec 32) : Prop :=
  (16 ∣ (k0_mult43 v316).toNat)
theorem k0_mult43_dvd : ∀ (v316 : BitVec 32) (k0_hw43 : k0_chk43 v316), 16 ∣ (k0_mult43 v316).toNat := fun v316 k0_hw43 => k0_hw43

def k0_off46 (i : grid0.Coords) : Fin 1 → Nat :=
  let arg0 : BitVec 32 := BitVec.ofNat 32 (i 0).val
  let c16_i32_122 : BitVec 32 := 16#32
  let v318 : BitVec 32 := Scalar.muli arg0 c16_i32_122
  let c11_i32_123 : BitVec 32 := 11#32
  let v319 : BitVec 32 := Scalar.addi v318 c11_i32_123
  let c32_i32_124 : BitVec 32 := 32#32
  let v320 : BitVec 32 := Scalar.muli v319 c32_i32_124
  let arg2 : BitVec 32 := BitVec.ofNat 32 (i 2).val
  let c4_i32 : BitVec 32 := 4#32
  let v0 : BitVec 32 := Scalar.muli arg2 c4_i32
  let c0_i32 : BitVec 32 := 0#32
  let c4_i32_0 : BitVec 32 := 4#32
  let v1 : BitVec 32 := Scalar.muli c0_i32 c4_i32_0
  let v2 : BitVec 32 := Scalar.addi v0 v1
  let c2_i32 : BitVec 32 := 2#32
  let v5 : BitVec 32 := Scalar.addi v2 c2_i32
  let v321 : BitVec 32 := Scalar.addi v320 v5
  let v322 : Index := Scalar.indexCast v321
  ![v322.toNat]
def k0_mult44 (v323 : BitVec 32) : BitVec 32 :=
  v323

def k0_chk44 (v323 : BitVec 32) : Prop :=
  (16 ∣ (k0_mult44 v323).toNat)
theorem k0_mult44_dvd : ∀ (v323 : BitVec 32) (k0_hw44 : k0_chk44 v323), 16 ∣ (k0_mult44 v323).toNat := fun v323 k0_hw44 => k0_hw44

def k0_off47 (i : grid0.Coords) : Fin 1 → Nat :=
  let arg0 : BitVec 32 := BitVec.ofNat 32 (i 0).val
  let c16_i32_125 : BitVec 32 := 16#32
  let v325 : BitVec 32 := Scalar.muli arg0 c16_i32_125
  let c12_i32_126 : BitVec 32 := 12#32
  let v326 : BitVec 32 := Scalar.addi v325 c12_i32_126
  let c32_i32_127 : BitVec 32 := 32#32
  let v327 : BitVec 32 := Scalar.muli v326 c32_i32_127
  let arg2 : BitVec 32 := BitVec.ofNat 32 (i 2).val
  let c4_i32 : BitVec 32 := 4#32
  let v0 : BitVec 32 := Scalar.muli arg2 c4_i32
  let c0_i32 : BitVec 32 := 0#32
  let c4_i32_0 : BitVec 32 := 4#32
  let v1 : BitVec 32 := Scalar.muli c0_i32 c4_i32_0
  let v2 : BitVec 32 := Scalar.addi v0 v1
  let c2_i32 : BitVec 32 := 2#32
  let v5 : BitVec 32 := Scalar.addi v2 c2_i32
  let v328 : BitVec 32 := Scalar.addi v327 v5
  let v329 : Index := Scalar.indexCast v328
  ![v329.toNat]
def k0_mult45 (v330 : BitVec 32) : BitVec 32 :=
  v330

def k0_chk45 (v330 : BitVec 32) : Prop :=
  (16 ∣ (k0_mult45 v330).toNat)
theorem k0_mult45_dvd : ∀ (v330 : BitVec 32) (k0_hw45 : k0_chk45 v330), 16 ∣ (k0_mult45 v330).toNat := fun v330 k0_hw45 => k0_hw45

def k0_off48 (i : grid0.Coords) : Fin 1 → Nat :=
  let arg0 : BitVec 32 := BitVec.ofNat 32 (i 0).val
  let c16_i32_128 : BitVec 32 := 16#32
  let v332 : BitVec 32 := Scalar.muli arg0 c16_i32_128
  let c13_i32_129 : BitVec 32 := 13#32
  let v333 : BitVec 32 := Scalar.addi v332 c13_i32_129
  let c32_i32_130 : BitVec 32 := 32#32
  let v334 : BitVec 32 := Scalar.muli v333 c32_i32_130
  let arg2 : BitVec 32 := BitVec.ofNat 32 (i 2).val
  let c4_i32 : BitVec 32 := 4#32
  let v0 : BitVec 32 := Scalar.muli arg2 c4_i32
  let c0_i32 : BitVec 32 := 0#32
  let c4_i32_0 : BitVec 32 := 4#32
  let v1 : BitVec 32 := Scalar.muli c0_i32 c4_i32_0
  let v2 : BitVec 32 := Scalar.addi v0 v1
  let c2_i32 : BitVec 32 := 2#32
  let v5 : BitVec 32 := Scalar.addi v2 c2_i32
  let v335 : BitVec 32 := Scalar.addi v334 v5
  let v336 : Index := Scalar.indexCast v335
  ![v336.toNat]
def k0_mult46 (v337 : BitVec 32) : BitVec 32 :=
  v337

def k0_chk46 (v337 : BitVec 32) : Prop :=
  (16 ∣ (k0_mult46 v337).toNat)
theorem k0_mult46_dvd : ∀ (v337 : BitVec 32) (k0_hw46 : k0_chk46 v337), 16 ∣ (k0_mult46 v337).toNat := fun v337 k0_hw46 => k0_hw46

def k0_off49 (i : grid0.Coords) : Fin 1 → Nat :=
  let arg0 : BitVec 32 := BitVec.ofNat 32 (i 0).val
  let c16_i32_131 : BitVec 32 := 16#32
  let v339 : BitVec 32 := Scalar.muli arg0 c16_i32_131
  let c14_i32_132 : BitVec 32 := 14#32
  let v340 : BitVec 32 := Scalar.addi v339 c14_i32_132
  let c32_i32_133 : BitVec 32 := 32#32
  let v341 : BitVec 32 := Scalar.muli v340 c32_i32_133
  let arg2 : BitVec 32 := BitVec.ofNat 32 (i 2).val
  let c4_i32 : BitVec 32 := 4#32
  let v0 : BitVec 32 := Scalar.muli arg2 c4_i32
  let c0_i32 : BitVec 32 := 0#32
  let c4_i32_0 : BitVec 32 := 4#32
  let v1 : BitVec 32 := Scalar.muli c0_i32 c4_i32_0
  let v2 : BitVec 32 := Scalar.addi v0 v1
  let c2_i32 : BitVec 32 := 2#32
  let v5 : BitVec 32 := Scalar.addi v2 c2_i32
  let v342 : BitVec 32 := Scalar.addi v341 v5
  let v343 : Index := Scalar.indexCast v342
  ![v343.toNat]
def k0_mult47 (v344 : BitVec 32) : BitVec 32 :=
  v344

def k0_chk47 (v344 : BitVec 32) : Prop :=
  (16 ∣ (k0_mult47 v344).toNat)
theorem k0_mult47_dvd : ∀ (v344 : BitVec 32) (k0_hw47 : k0_chk47 v344), 16 ∣ (k0_mult47 v344).toNat := fun v344 k0_hw47 => k0_hw47

def k0_off50 (i : grid0.Coords) : Fin 1 → Nat :=
  let arg0 : BitVec 32 := BitVec.ofNat 32 (i 0).val
  let c16_i32_134 : BitVec 32 := 16#32
  let v346 : BitVec 32 := Scalar.muli arg0 c16_i32_134
  let c15_i32_135 : BitVec 32 := 15#32
  let v347 : BitVec 32 := Scalar.addi v346 c15_i32_135
  let c32_i32_136 : BitVec 32 := 32#32
  let v348 : BitVec 32 := Scalar.muli v347 c32_i32_136
  let arg2 : BitVec 32 := BitVec.ofNat 32 (i 2).val
  let c4_i32 : BitVec 32 := 4#32
  let v0 : BitVec 32 := Scalar.muli arg2 c4_i32
  let c0_i32 : BitVec 32 := 0#32
  let c4_i32_0 : BitVec 32 := 4#32
  let v1 : BitVec 32 := Scalar.muli c0_i32 c4_i32_0
  let v2 : BitVec 32 := Scalar.addi v0 v1
  let c2_i32 : BitVec 32 := 2#32
  let v5 : BitVec 32 := Scalar.addi v2 c2_i32
  let v349 : BitVec 32 := Scalar.addi v348 v5
  let v350 : Index := Scalar.indexCast v349
  ![v350.toNat]
def k0_mult48 (v351 : BitVec 32) : BitVec 32 :=
  v351

def k0_chk48 (v351 : BitVec 32) : Prop :=
  (16 ∣ (k0_mult48 v351).toNat)
theorem k0_mult48_dvd : ∀ (v351 : BitVec 32) (k0_hw48 : k0_chk48 v351), 16 ∣ (k0_mult48 v351).toNat := fun v351 k0_hw48 => k0_hw48

def k0_off51 (i : grid0.Coords) : Fin 1 → Nat :=
  let arg0 : BitVec 32 := BitVec.ofNat 32 (i 0).val
  let c32_i32_137 : BitVec 32 := 32#32
  let v353 : BitVec 32 := Scalar.muli arg0 c32_i32_137
  let arg2 : BitVec 32 := BitVec.ofNat 32 (i 2).val
  let c4_i32 : BitVec 32 := 4#32
  let v0 : BitVec 32 := Scalar.muli arg2 c4_i32
  let c0_i32 : BitVec 32 := 0#32
  let c4_i32_0 : BitVec 32 := 4#32
  let v1 : BitVec 32 := Scalar.muli c0_i32 c4_i32_0
  let v2 : BitVec 32 := Scalar.addi v0 v1
  let c2_i32 : BitVec 32 := 2#32
  let v5 : BitVec 32 := Scalar.addi v2 c2_i32
  let v354 : BitVec 32 := Scalar.addi v353 v5
  let v355 : Index := Scalar.indexCast v354
  ![v355.toNat]
def k0_off52 (i : grid0.Coords) : Fin 1 → Nat :=
  let arg0 : BitVec 32 := BitVec.ofNat 32 (i 0).val
  let c16_i32_139 : BitVec 32 := 16#32
  let v358 : BitVec 32 := Scalar.muli arg0 c16_i32_139
  let c0_i32_140 : BitVec 32 := 0#32
  let v359 : BitVec 32 := Scalar.addi v358 c0_i32_140
  let c32_i32_141 : BitVec 32 := 32#32
  let v360 : BitVec 32 := Scalar.muli v359 c32_i32_141
  let arg2 : BitVec 32 := BitVec.ofNat 32 (i 2).val
  let c4_i32 : BitVec 32 := 4#32
  let v0 : BitVec 32 := Scalar.muli arg2 c4_i32
  let c0_i32 : BitVec 32 := 0#32
  let c4_i32_0 : BitVec 32 := 4#32
  let v1 : BitVec 32 := Scalar.muli c0_i32 c4_i32_0
  let v2 : BitVec 32 := Scalar.addi v0 v1
  let c3_i32 : BitVec 32 := 3#32
  let v6 : BitVec 32 := Scalar.addi v2 c3_i32
  let v361 : BitVec 32 := Scalar.addi v360 v6
  let v362 : Index := Scalar.indexCast v361
  ![v362.toNat]
def k0_mult49 (v363 : BitVec 32) : BitVec 32 :=
  v363

def k0_chk49 (v363 : BitVec 32) : Prop :=
  (16 ∣ (k0_mult49 v363).toNat)
theorem k0_mult49_dvd : ∀ (v363 : BitVec 32) (k0_hw49 : k0_chk49 v363), 16 ∣ (k0_mult49 v363).toNat := fun v363 k0_hw49 => k0_hw49

def k0_off53 (i : grid0.Coords) : Fin 1 → Nat :=
  let arg0 : BitVec 32 := BitVec.ofNat 32 (i 0).val
  let c16_i32_142 : BitVec 32 := 16#32
  let v365 : BitVec 32 := Scalar.muli arg0 c16_i32_142
  let c1_i32_143 : BitVec 32 := 1#32
  let v366 : BitVec 32 := Scalar.addi v365 c1_i32_143
  let c32_i32_144 : BitVec 32 := 32#32
  let v367 : BitVec 32 := Scalar.muli v366 c32_i32_144
  let arg2 : BitVec 32 := BitVec.ofNat 32 (i 2).val
  let c4_i32 : BitVec 32 := 4#32
  let v0 : BitVec 32 := Scalar.muli arg2 c4_i32
  let c0_i32 : BitVec 32 := 0#32
  let c4_i32_0 : BitVec 32 := 4#32
  let v1 : BitVec 32 := Scalar.muli c0_i32 c4_i32_0
  let v2 : BitVec 32 := Scalar.addi v0 v1
  let c3_i32 : BitVec 32 := 3#32
  let v6 : BitVec 32 := Scalar.addi v2 c3_i32
  let v368 : BitVec 32 := Scalar.addi v367 v6
  let v369 : Index := Scalar.indexCast v368
  ![v369.toNat]
def k0_mult50 (v370 : BitVec 32) : BitVec 32 :=
  v370

def k0_chk50 (v370 : BitVec 32) : Prop :=
  (16 ∣ (k0_mult50 v370).toNat)
theorem k0_mult50_dvd : ∀ (v370 : BitVec 32) (k0_hw50 : k0_chk50 v370), 16 ∣ (k0_mult50 v370).toNat := fun v370 k0_hw50 => k0_hw50

def k0_off54 (i : grid0.Coords) : Fin 1 → Nat :=
  let arg0 : BitVec 32 := BitVec.ofNat 32 (i 0).val
  let c16_i32_145 : BitVec 32 := 16#32
  let v372 : BitVec 32 := Scalar.muli arg0 c16_i32_145
  let c2_i32_146 : BitVec 32 := 2#32
  let v373 : BitVec 32 := Scalar.addi v372 c2_i32_146
  let c32_i32_147 : BitVec 32 := 32#32
  let v374 : BitVec 32 := Scalar.muli v373 c32_i32_147
  let arg2 : BitVec 32 := BitVec.ofNat 32 (i 2).val
  let c4_i32 : BitVec 32 := 4#32
  let v0 : BitVec 32 := Scalar.muli arg2 c4_i32
  let c0_i32 : BitVec 32 := 0#32
  let c4_i32_0 : BitVec 32 := 4#32
  let v1 : BitVec 32 := Scalar.muli c0_i32 c4_i32_0
  let v2 : BitVec 32 := Scalar.addi v0 v1
  let c3_i32 : BitVec 32 := 3#32
  let v6 : BitVec 32 := Scalar.addi v2 c3_i32
  let v375 : BitVec 32 := Scalar.addi v374 v6
  let v376 : Index := Scalar.indexCast v375
  ![v376.toNat]
def k0_mult51 (v377 : BitVec 32) : BitVec 32 :=
  v377

def k0_chk51 (v377 : BitVec 32) : Prop :=
  (16 ∣ (k0_mult51 v377).toNat)
theorem k0_mult51_dvd : ∀ (v377 : BitVec 32) (k0_hw51 : k0_chk51 v377), 16 ∣ (k0_mult51 v377).toNat := fun v377 k0_hw51 => k0_hw51

def k0_off55 (i : grid0.Coords) : Fin 1 → Nat :=
  let arg0 : BitVec 32 := BitVec.ofNat 32 (i 0).val
  let c16_i32_148 : BitVec 32 := 16#32
  let v379 : BitVec 32 := Scalar.muli arg0 c16_i32_148
  let c3_i32_149 : BitVec 32 := 3#32
  let v380 : BitVec 32 := Scalar.addi v379 c3_i32_149
  let c32_i32_150 : BitVec 32 := 32#32
  let v381 : BitVec 32 := Scalar.muli v380 c32_i32_150
  let arg2 : BitVec 32 := BitVec.ofNat 32 (i 2).val
  let c4_i32 : BitVec 32 := 4#32
  let v0 : BitVec 32 := Scalar.muli arg2 c4_i32
  let c0_i32 : BitVec 32 := 0#32
  let c4_i32_0 : BitVec 32 := 4#32
  let v1 : BitVec 32 := Scalar.muli c0_i32 c4_i32_0
  let v2 : BitVec 32 := Scalar.addi v0 v1
  let c3_i32 : BitVec 32 := 3#32
  let v6 : BitVec 32 := Scalar.addi v2 c3_i32
  let v382 : BitVec 32 := Scalar.addi v381 v6
  let v383 : Index := Scalar.indexCast v382
  ![v383.toNat]
def k0_mult52 (v384 : BitVec 32) : BitVec 32 :=
  v384

def k0_chk52 (v384 : BitVec 32) : Prop :=
  (16 ∣ (k0_mult52 v384).toNat)
theorem k0_mult52_dvd : ∀ (v384 : BitVec 32) (k0_hw52 : k0_chk52 v384), 16 ∣ (k0_mult52 v384).toNat := fun v384 k0_hw52 => k0_hw52

def k0_off56 (i : grid0.Coords) : Fin 1 → Nat :=
  let arg0 : BitVec 32 := BitVec.ofNat 32 (i 0).val
  let c16_i32_151 : BitVec 32 := 16#32
  let v386 : BitVec 32 := Scalar.muli arg0 c16_i32_151
  let c4_i32_152 : BitVec 32 := 4#32
  let v387 : BitVec 32 := Scalar.addi v386 c4_i32_152
  let c32_i32_153 : BitVec 32 := 32#32
  let v388 : BitVec 32 := Scalar.muli v387 c32_i32_153
  let arg2 : BitVec 32 := BitVec.ofNat 32 (i 2).val
  let c4_i32 : BitVec 32 := 4#32
  let v0 : BitVec 32 := Scalar.muli arg2 c4_i32
  let c0_i32 : BitVec 32 := 0#32
  let c4_i32_0 : BitVec 32 := 4#32
  let v1 : BitVec 32 := Scalar.muli c0_i32 c4_i32_0
  let v2 : BitVec 32 := Scalar.addi v0 v1
  let c3_i32 : BitVec 32 := 3#32
  let v6 : BitVec 32 := Scalar.addi v2 c3_i32
  let v389 : BitVec 32 := Scalar.addi v388 v6
  let v390 : Index := Scalar.indexCast v389
  ![v390.toNat]
def k0_mult53 (v391 : BitVec 32) : BitVec 32 :=
  v391

def k0_chk53 (v391 : BitVec 32) : Prop :=
  (16 ∣ (k0_mult53 v391).toNat)
theorem k0_mult53_dvd : ∀ (v391 : BitVec 32) (k0_hw53 : k0_chk53 v391), 16 ∣ (k0_mult53 v391).toNat := fun v391 k0_hw53 => k0_hw53

def k0_off57 (i : grid0.Coords) : Fin 1 → Nat :=
  let arg0 : BitVec 32 := BitVec.ofNat 32 (i 0).val
  let c16_i32_154 : BitVec 32 := 16#32
  let v393 : BitVec 32 := Scalar.muli arg0 c16_i32_154
  let c5_i32_155 : BitVec 32 := 5#32
  let v394 : BitVec 32 := Scalar.addi v393 c5_i32_155
  let c32_i32_156 : BitVec 32 := 32#32
  let v395 : BitVec 32 := Scalar.muli v394 c32_i32_156
  let arg2 : BitVec 32 := BitVec.ofNat 32 (i 2).val
  let c4_i32 : BitVec 32 := 4#32
  let v0 : BitVec 32 := Scalar.muli arg2 c4_i32
  let c0_i32 : BitVec 32 := 0#32
  let c4_i32_0 : BitVec 32 := 4#32
  let v1 : BitVec 32 := Scalar.muli c0_i32 c4_i32_0
  let v2 : BitVec 32 := Scalar.addi v0 v1
  let c3_i32 : BitVec 32 := 3#32
  let v6 : BitVec 32 := Scalar.addi v2 c3_i32
  let v396 : BitVec 32 := Scalar.addi v395 v6
  let v397 : Index := Scalar.indexCast v396
  ![v397.toNat]
def k0_mult54 (v398 : BitVec 32) : BitVec 32 :=
  v398

def k0_chk54 (v398 : BitVec 32) : Prop :=
  (16 ∣ (k0_mult54 v398).toNat)
theorem k0_mult54_dvd : ∀ (v398 : BitVec 32) (k0_hw54 : k0_chk54 v398), 16 ∣ (k0_mult54 v398).toNat := fun v398 k0_hw54 => k0_hw54

def k0_off58 (i : grid0.Coords) : Fin 1 → Nat :=
  let arg0 : BitVec 32 := BitVec.ofNat 32 (i 0).val
  let c16_i32_157 : BitVec 32 := 16#32
  let v400 : BitVec 32 := Scalar.muli arg0 c16_i32_157
  let c6_i32_158 : BitVec 32 := 6#32
  let v401 : BitVec 32 := Scalar.addi v400 c6_i32_158
  let c32_i32_159 : BitVec 32 := 32#32
  let v402 : BitVec 32 := Scalar.muli v401 c32_i32_159
  let arg2 : BitVec 32 := BitVec.ofNat 32 (i 2).val
  let c4_i32 : BitVec 32 := 4#32
  let v0 : BitVec 32 := Scalar.muli arg2 c4_i32
  let c0_i32 : BitVec 32 := 0#32
  let c4_i32_0 : BitVec 32 := 4#32
  let v1 : BitVec 32 := Scalar.muli c0_i32 c4_i32_0
  let v2 : BitVec 32 := Scalar.addi v0 v1
  let c3_i32 : BitVec 32 := 3#32
  let v6 : BitVec 32 := Scalar.addi v2 c3_i32
  let v403 : BitVec 32 := Scalar.addi v402 v6
  let v404 : Index := Scalar.indexCast v403
  ![v404.toNat]
def k0_mult55 (v405 : BitVec 32) : BitVec 32 :=
  v405

def k0_chk55 (v405 : BitVec 32) : Prop :=
  (16 ∣ (k0_mult55 v405).toNat)
theorem k0_mult55_dvd : ∀ (v405 : BitVec 32) (k0_hw55 : k0_chk55 v405), 16 ∣ (k0_mult55 v405).toNat := fun v405 k0_hw55 => k0_hw55

def k0_off59 (i : grid0.Coords) : Fin 1 → Nat :=
  let arg0 : BitVec 32 := BitVec.ofNat 32 (i 0).val
  let c16_i32_160 : BitVec 32 := 16#32
  let v407 : BitVec 32 := Scalar.muli arg0 c16_i32_160
  let c7_i32_161 : BitVec 32 := 7#32
  let v408 : BitVec 32 := Scalar.addi v407 c7_i32_161
  let c32_i32_162 : BitVec 32 := 32#32
  let v409 : BitVec 32 := Scalar.muli v408 c32_i32_162
  let arg2 : BitVec 32 := BitVec.ofNat 32 (i 2).val
  let c4_i32 : BitVec 32 := 4#32
  let v0 : BitVec 32 := Scalar.muli arg2 c4_i32
  let c0_i32 : BitVec 32 := 0#32
  let c4_i32_0 : BitVec 32 := 4#32
  let v1 : BitVec 32 := Scalar.muli c0_i32 c4_i32_0
  let v2 : BitVec 32 := Scalar.addi v0 v1
  let c3_i32 : BitVec 32 := 3#32
  let v6 : BitVec 32 := Scalar.addi v2 c3_i32
  let v410 : BitVec 32 := Scalar.addi v409 v6
  let v411 : Index := Scalar.indexCast v410
  ![v411.toNat]
def k0_mult56 (v412 : BitVec 32) : BitVec 32 :=
  v412

def k0_chk56 (v412 : BitVec 32) : Prop :=
  (16 ∣ (k0_mult56 v412).toNat)
theorem k0_mult56_dvd : ∀ (v412 : BitVec 32) (k0_hw56 : k0_chk56 v412), 16 ∣ (k0_mult56 v412).toNat := fun v412 k0_hw56 => k0_hw56

def k0_off60 (i : grid0.Coords) : Fin 1 → Nat :=
  let arg0 : BitVec 32 := BitVec.ofNat 32 (i 0).val
  let c16_i32_163 : BitVec 32 := 16#32
  let v414 : BitVec 32 := Scalar.muli arg0 c16_i32_163
  let c8_i32_164 : BitVec 32 := 8#32
  let v415 : BitVec 32 := Scalar.addi v414 c8_i32_164
  let c32_i32_165 : BitVec 32 := 32#32
  let v416 : BitVec 32 := Scalar.muli v415 c32_i32_165
  let arg2 : BitVec 32 := BitVec.ofNat 32 (i 2).val
  let c4_i32 : BitVec 32 := 4#32
  let v0 : BitVec 32 := Scalar.muli arg2 c4_i32
  let c0_i32 : BitVec 32 := 0#32
  let c4_i32_0 : BitVec 32 := 4#32
  let v1 : BitVec 32 := Scalar.muli c0_i32 c4_i32_0
  let v2 : BitVec 32 := Scalar.addi v0 v1
  let c3_i32 : BitVec 32 := 3#32
  let v6 : BitVec 32 := Scalar.addi v2 c3_i32
  let v417 : BitVec 32 := Scalar.addi v416 v6
  let v418 : Index := Scalar.indexCast v417
  ![v418.toNat]
def k0_mult57 (v419 : BitVec 32) : BitVec 32 :=
  v419

def k0_chk57 (v419 : BitVec 32) : Prop :=
  (16 ∣ (k0_mult57 v419).toNat)
theorem k0_mult57_dvd : ∀ (v419 : BitVec 32) (k0_hw57 : k0_chk57 v419), 16 ∣ (k0_mult57 v419).toNat := fun v419 k0_hw57 => k0_hw57

def k0_off61 (i : grid0.Coords) : Fin 1 → Nat :=
  let arg0 : BitVec 32 := BitVec.ofNat 32 (i 0).val
  let c16_i32_166 : BitVec 32 := 16#32
  let v421 : BitVec 32 := Scalar.muli arg0 c16_i32_166
  let c9_i32_167 : BitVec 32 := 9#32
  let v422 : BitVec 32 := Scalar.addi v421 c9_i32_167
  let c32_i32_168 : BitVec 32 := 32#32
  let v423 : BitVec 32 := Scalar.muli v422 c32_i32_168
  let arg2 : BitVec 32 := BitVec.ofNat 32 (i 2).val
  let c4_i32 : BitVec 32 := 4#32
  let v0 : BitVec 32 := Scalar.muli arg2 c4_i32
  let c0_i32 : BitVec 32 := 0#32
  let c4_i32_0 : BitVec 32 := 4#32
  let v1 : BitVec 32 := Scalar.muli c0_i32 c4_i32_0
  let v2 : BitVec 32 := Scalar.addi v0 v1
  let c3_i32 : BitVec 32 := 3#32
  let v6 : BitVec 32 := Scalar.addi v2 c3_i32
  let v424 : BitVec 32 := Scalar.addi v423 v6
  let v425 : Index := Scalar.indexCast v424
  ![v425.toNat]
def k0_mult58 (v426 : BitVec 32) : BitVec 32 :=
  v426

def k0_chk58 (v426 : BitVec 32) : Prop :=
  (16 ∣ (k0_mult58 v426).toNat)
theorem k0_mult58_dvd : ∀ (v426 : BitVec 32) (k0_hw58 : k0_chk58 v426), 16 ∣ (k0_mult58 v426).toNat := fun v426 k0_hw58 => k0_hw58

def k0_off62 (i : grid0.Coords) : Fin 1 → Nat :=
  let arg0 : BitVec 32 := BitVec.ofNat 32 (i 0).val
  let c16_i32_169 : BitVec 32 := 16#32
  let v428 : BitVec 32 := Scalar.muli arg0 c16_i32_169
  let c10_i32_170 : BitVec 32 := 10#32
  let v429 : BitVec 32 := Scalar.addi v428 c10_i32_170
  let c32_i32_171 : BitVec 32 := 32#32
  let v430 : BitVec 32 := Scalar.muli v429 c32_i32_171
  let arg2 : BitVec 32 := BitVec.ofNat 32 (i 2).val
  let c4_i32 : BitVec 32 := 4#32
  let v0 : BitVec 32 := Scalar.muli arg2 c4_i32
  let c0_i32 : BitVec 32 := 0#32
  let c4_i32_0 : BitVec 32 := 4#32
  let v1 : BitVec 32 := Scalar.muli c0_i32 c4_i32_0
  let v2 : BitVec 32 := Scalar.addi v0 v1
  let c3_i32 : BitVec 32 := 3#32
  let v6 : BitVec 32 := Scalar.addi v2 c3_i32
  let v431 : BitVec 32 := Scalar.addi v430 v6
  let v432 : Index := Scalar.indexCast v431
  ![v432.toNat]
def k0_mult59 (v433 : BitVec 32) : BitVec 32 :=
  v433

def k0_chk59 (v433 : BitVec 32) : Prop :=
  (16 ∣ (k0_mult59 v433).toNat)
theorem k0_mult59_dvd : ∀ (v433 : BitVec 32) (k0_hw59 : k0_chk59 v433), 16 ∣ (k0_mult59 v433).toNat := fun v433 k0_hw59 => k0_hw59

def k0_off63 (i : grid0.Coords) : Fin 1 → Nat :=
  let arg0 : BitVec 32 := BitVec.ofNat 32 (i 0).val
  let c16_i32_172 : BitVec 32 := 16#32
  let v435 : BitVec 32 := Scalar.muli arg0 c16_i32_172
  let c11_i32_173 : BitVec 32 := 11#32
  let v436 : BitVec 32 := Scalar.addi v435 c11_i32_173
  let c32_i32_174 : BitVec 32 := 32#32
  let v437 : BitVec 32 := Scalar.muli v436 c32_i32_174
  let arg2 : BitVec 32 := BitVec.ofNat 32 (i 2).val
  let c4_i32 : BitVec 32 := 4#32
  let v0 : BitVec 32 := Scalar.muli arg2 c4_i32
  let c0_i32 : BitVec 32 := 0#32
  let c4_i32_0 : BitVec 32 := 4#32
  let v1 : BitVec 32 := Scalar.muli c0_i32 c4_i32_0
  let v2 : BitVec 32 := Scalar.addi v0 v1
  let c3_i32 : BitVec 32 := 3#32
  let v6 : BitVec 32 := Scalar.addi v2 c3_i32
  let v438 : BitVec 32 := Scalar.addi v437 v6
  let v439 : Index := Scalar.indexCast v438
  ![v439.toNat]
def k0_mult60 (v440 : BitVec 32) : BitVec 32 :=
  v440

def k0_chk60 (v440 : BitVec 32) : Prop :=
  (16 ∣ (k0_mult60 v440).toNat)
theorem k0_mult60_dvd : ∀ (v440 : BitVec 32) (k0_hw60 : k0_chk60 v440), 16 ∣ (k0_mult60 v440).toNat := fun v440 k0_hw60 => k0_hw60

def k0_off64 (i : grid0.Coords) : Fin 1 → Nat :=
  let arg0 : BitVec 32 := BitVec.ofNat 32 (i 0).val
  let c16_i32_175 : BitVec 32 := 16#32
  let v442 : BitVec 32 := Scalar.muli arg0 c16_i32_175
  let c12_i32_176 : BitVec 32 := 12#32
  let v443 : BitVec 32 := Scalar.addi v442 c12_i32_176
  let c32_i32_177 : BitVec 32 := 32#32
  let v444 : BitVec 32 := Scalar.muli v443 c32_i32_177
  let arg2 : BitVec 32 := BitVec.ofNat 32 (i 2).val
  let c4_i32 : BitVec 32 := 4#32
  let v0 : BitVec 32 := Scalar.muli arg2 c4_i32
  let c0_i32 : BitVec 32 := 0#32
  let c4_i32_0 : BitVec 32 := 4#32
  let v1 : BitVec 32 := Scalar.muli c0_i32 c4_i32_0
  let v2 : BitVec 32 := Scalar.addi v0 v1
  let c3_i32 : BitVec 32 := 3#32
  let v6 : BitVec 32 := Scalar.addi v2 c3_i32
  let v445 : BitVec 32 := Scalar.addi v444 v6
  let v446 : Index := Scalar.indexCast v445
  ![v446.toNat]
def k0_mult61 (v447 : BitVec 32) : BitVec 32 :=
  v447

def k0_chk61 (v447 : BitVec 32) : Prop :=
  (16 ∣ (k0_mult61 v447).toNat)
theorem k0_mult61_dvd : ∀ (v447 : BitVec 32) (k0_hw61 : k0_chk61 v447), 16 ∣ (k0_mult61 v447).toNat := fun v447 k0_hw61 => k0_hw61

def k0_off65 (i : grid0.Coords) : Fin 1 → Nat :=
  let arg0 : BitVec 32 := BitVec.ofNat 32 (i 0).val
  let c16_i32_178 : BitVec 32 := 16#32
  let v449 : BitVec 32 := Scalar.muli arg0 c16_i32_178
  let c13_i32_179 : BitVec 32 := 13#32
  let v450 : BitVec 32 := Scalar.addi v449 c13_i32_179
  let c32_i32_180 : BitVec 32 := 32#32
  let v451 : BitVec 32 := Scalar.muli v450 c32_i32_180
  let arg2 : BitVec 32 := BitVec.ofNat 32 (i 2).val
  let c4_i32 : BitVec 32 := 4#32
  let v0 : BitVec 32 := Scalar.muli arg2 c4_i32
  let c0_i32 : BitVec 32 := 0#32
  let c4_i32_0 : BitVec 32 := 4#32
  let v1 : BitVec 32 := Scalar.muli c0_i32 c4_i32_0
  let v2 : BitVec 32 := Scalar.addi v0 v1
  let c3_i32 : BitVec 32 := 3#32
  let v6 : BitVec 32 := Scalar.addi v2 c3_i32
  let v452 : BitVec 32 := Scalar.addi v451 v6
  let v453 : Index := Scalar.indexCast v452
  ![v453.toNat]
def k0_mult62 (v454 : BitVec 32) : BitVec 32 :=
  v454

def k0_chk62 (v454 : BitVec 32) : Prop :=
  (16 ∣ (k0_mult62 v454).toNat)
theorem k0_mult62_dvd : ∀ (v454 : BitVec 32) (k0_hw62 : k0_chk62 v454), 16 ∣ (k0_mult62 v454).toNat := fun v454 k0_hw62 => k0_hw62

def k0_off66 (i : grid0.Coords) : Fin 1 → Nat :=
  let arg0 : BitVec 32 := BitVec.ofNat 32 (i 0).val
  let c16_i32_181 : BitVec 32 := 16#32
  let v456 : BitVec 32 := Scalar.muli arg0 c16_i32_181
  let c14_i32_182 : BitVec 32 := 14#32
  let v457 : BitVec 32 := Scalar.addi v456 c14_i32_182
  let c32_i32_183 : BitVec 32 := 32#32
  let v458 : BitVec 32 := Scalar.muli v457 c32_i32_183
  let arg2 : BitVec 32 := BitVec.ofNat 32 (i 2).val
  let c4_i32 : BitVec 32 := 4#32
  let v0 : BitVec 32 := Scalar.muli arg2 c4_i32
  let c0_i32 : BitVec 32 := 0#32
  let c4_i32_0 : BitVec 32 := 4#32
  let v1 : BitVec 32 := Scalar.muli c0_i32 c4_i32_0
  let v2 : BitVec 32 := Scalar.addi v0 v1
  let c3_i32 : BitVec 32 := 3#32
  let v6 : BitVec 32 := Scalar.addi v2 c3_i32
  let v459 : BitVec 32 := Scalar.addi v458 v6
  let v460 : Index := Scalar.indexCast v459
  ![v460.toNat]
def k0_mult63 (v461 : BitVec 32) : BitVec 32 :=
  v461

def k0_chk63 (v461 : BitVec 32) : Prop :=
  (16 ∣ (k0_mult63 v461).toNat)
theorem k0_mult63_dvd : ∀ (v461 : BitVec 32) (k0_hw63 : k0_chk63 v461), 16 ∣ (k0_mult63 v461).toNat := fun v461 k0_hw63 => k0_hw63

def k0_off67 (i : grid0.Coords) : Fin 1 → Nat :=
  let arg0 : BitVec 32 := BitVec.ofNat 32 (i 0).val
  let c16_i32_184 : BitVec 32 := 16#32
  let v463 : BitVec 32 := Scalar.muli arg0 c16_i32_184
  let c15_i32_185 : BitVec 32 := 15#32
  let v464 : BitVec 32 := Scalar.addi v463 c15_i32_185
  let c32_i32_186 : BitVec 32 := 32#32
  let v465 : BitVec 32 := Scalar.muli v464 c32_i32_186
  let arg2 : BitVec 32 := BitVec.ofNat 32 (i 2).val
  let c4_i32 : BitVec 32 := 4#32
  let v0 : BitVec 32 := Scalar.muli arg2 c4_i32
  let c0_i32 : BitVec 32 := 0#32
  let c4_i32_0 : BitVec 32 := 4#32
  let v1 : BitVec 32 := Scalar.muli c0_i32 c4_i32_0
  let v2 : BitVec 32 := Scalar.addi v0 v1
  let c3_i32 : BitVec 32 := 3#32
  let v6 : BitVec 32 := Scalar.addi v2 c3_i32
  let v466 : BitVec 32 := Scalar.addi v465 v6
  let v467 : Index := Scalar.indexCast v466
  ![v467.toNat]
def k0_mult64 (v468 : BitVec 32) : BitVec 32 :=
  v468

def k0_chk64 (v468 : BitVec 32) : Prop :=
  (16 ∣ (k0_mult64 v468).toNat)
theorem k0_mult64_dvd : ∀ (v468 : BitVec 32) (k0_hw64 : k0_chk64 v468), 16 ∣ (k0_mult64 v468).toNat := fun v468 k0_hw64 => k0_hw64

def k0_off68 (i : grid0.Coords) : Fin 1 → Nat :=
  let arg0 : BitVec 32 := BitVec.ofNat 32 (i 0).val
  let c32_i32_187 : BitVec 32 := 32#32
  let v470 : BitVec 32 := Scalar.muli arg0 c32_i32_187
  let arg2 : BitVec 32 := BitVec.ofNat 32 (i 2).val
  let c4_i32 : BitVec 32 := 4#32
  let v0 : BitVec 32 := Scalar.muli arg2 c4_i32
  let c0_i32 : BitVec 32 := 0#32
  let c4_i32_0 : BitVec 32 := 4#32
  let v1 : BitVec 32 := Scalar.muli c0_i32 c4_i32_0
  let v2 : BitVec 32 := Scalar.addi v0 v1
  let c3_i32 : BitVec 32 := 3#32
  let v6 : BitVec 32 := Scalar.addi v2 c3_i32
  let v471 : BitVec 32 := Scalar.addi v470 v6
  let v472 : Index := Scalar.indexCast v471
  ![v472.toNat]
def k0_mult65 (i : grid0.Coords) : BitVec 32 :=
  let arg2 : BitVec 32 := BitVec.ofNat 32 (i 2).val
  let c4_i32 : BitVec 32 := 4#32
  let v0 : BitVec 32 := Scalar.muli arg2 c4_i32
  let c0_i32 : BitVec 32 := 0#32
  let c4_i32_0 : BitVec 32 := 4#32
  let v1 : BitVec 32 := Scalar.muli c0_i32 c4_i32_0
  let v2 : BitVec 32 := Scalar.addi v0 v1
  let c0_i32_1 : BitVec 32 := 0#32
  let v3 : BitVec 32 := Scalar.addi v2 c0_i32_1
  let v483 : BitVec 32 := Scalar.subi v3 v0
  let c256_i32 : BitVec 32 := 256#32
  let v484 : BitVec 32 := Scalar.muli v483 c256_i32
  v484
def k0_off69 (v12 : BitVec 32) : Fin 4 → Nat :=
  let c0 : Index := 0#32
  let c0_192 : Index := 0#32
  let v13 : BitVec 32 := v12
  let v486 : Index := Scalar.indexCast v13
  let c0_193 : Index := 0#32
  ![0, 0, v486.toNat, 0]
def k0_cond1 (v122 : BitVec 32) (v239 : BitVec 32) (v356 : BitVec 32) (v473 : BitVec 32) : BitVec 1 :=
  let c1_i32_38 : BitVec 32 := 1#32
  let v123 : BitVec 1 := Scalar.cmpi .eq v122 c1_i32_38
  let c1_i32_88 : BitVec 32 := 1#32
  let v240 : BitVec 1 := Scalar.cmpi .eq v239 c1_i32_88
  let v475 : BitVec 1 := Scalar.andi v123 v240
  let c1_i32_138 : BitVec 32 := 1#32
  let v357 : BitVec 1 := Scalar.cmpi .eq v356 c1_i32_138
  let v476 : BitVec 1 := Scalar.andi v475 v357
  let c1_i32_188 : BitVec 32 := 1#32
  let v474 : BitVec 1 := Scalar.cmpi .eq v473 c1_i32_188
  let v477 : BitVec 1 := Scalar.andi v476 v474
  let v478 : BitVec 32 := Scalar.extui v477
  let c0_i32_189 : BitVec 32 := 0#32
  let v479 : BitVec 1 := Scalar.cmpi .ne v478 c0_i32_189
  v479

def k0_off70 (v19 : BitVec 32) : Fin 4 → Nat :=
  let c0_196 : Index := 0#32
  let c1 : Index := 1#32
  let v20 : BitVec 32 := v19
  let v492 : Index := Scalar.indexCast v20
  let c0_197 : Index := 0#32
  ![0, 1, v492.toNat, 0]
def k0_off71 (v26 : BitVec 32) : Fin 4 → Nat :=
  let c0_199 : Index := 0#32
  let c2 : Index := 2#32
  let v27 : BitVec 32 := v26
  let v498 : Index := Scalar.indexCast v27
  let c0_200 : Index := 0#32
  ![0, 2, v498.toNat, 0]
def k0_off72 (v33 : BitVec 32) : Fin 4 → Nat :=
  let c0_202 : Index := 0#32
  let c3 : Index := 3#32
  let v34 : BitVec 32 := v33
  let v504 : Index := Scalar.indexCast v34
  let c0_203 : Index := 0#32
  ![0, 3, v504.toNat, 0]
def k0_off73 (v40 : BitVec 32) : Fin 4 → Nat :=
  let c0_205 : Index := 0#32
  let c4 : Index := 4#32
  let v41 : BitVec 32 := v40
  let v510 : Index := Scalar.indexCast v41
  let c0_206 : Index := 0#32
  ![0, 4, v510.toNat, 0]
def k0_off74 (v47 : BitVec 32) : Fin 4 → Nat :=
  let c0_208 : Index := 0#32
  let c5 : Index := 5#32
  let v48 : BitVec 32 := v47
  let v516 : Index := Scalar.indexCast v48
  let c0_209 : Index := 0#32
  ![0, 5, v516.toNat, 0]
def k0_off75 (v54 : BitVec 32) : Fin 4 → Nat :=
  let c0_211 : Index := 0#32
  let c6 : Index := 6#32
  let v55 : BitVec 32 := v54
  let v522 : Index := Scalar.indexCast v55
  let c0_212 : Index := 0#32
  ![0, 6, v522.toNat, 0]
def k0_off76 (v61 : BitVec 32) : Fin 4 → Nat :=
  let c0_214 : Index := 0#32
  let c7 : Index := 7#32
  let v62 : BitVec 32 := v61
  let v528 : Index := Scalar.indexCast v62
  let c0_215 : Index := 0#32
  ![0, 7, v528.toNat, 0]
def k0_off77 (v68 : BitVec 32) : Fin 4 → Nat :=
  let c0_217 : Index := 0#32
  let c8 : Index := 8#32
  let v69 : BitVec 32 := v68
  let v534 : Index := Scalar.indexCast v69
  let c0_218 : Index := 0#32
  ![0, 8, v534.toNat, 0]
def k0_off78 (v75 : BitVec 32) : Fin 4 → Nat :=
  let c0_220 : Index := 0#32
  let c9 : Index := 9#32
  let v76 : BitVec 32 := v75
  let v540 : Index := Scalar.indexCast v76
  let c0_221 : Index := 0#32
  ![0, 9, v540.toNat, 0]
def k0_off79 (v82 : BitVec 32) : Fin 4 → Nat :=
  let c0_223 : Index := 0#32
  let c10 : Index := 10#32
  let v83 : BitVec 32 := v82
  let v546 : Index := Scalar.indexCast v83
  let c0_224 : Index := 0#32
  ![0, 10, v546.toNat, 0]
def k0_off80 (v89 : BitVec 32) : Fin 4 → Nat :=
  let c0_226 : Index := 0#32
  let c11 : Index := 11#32
  let v90 : BitVec 32 := v89
  let v552 : Index := Scalar.indexCast v90
  let c0_227 : Index := 0#32
  ![0, 11, v552.toNat, 0]
def k0_off81 (v96 : BitVec 32) : Fin 4 → Nat :=
  let c0_229 : Index := 0#32
  let c12 : Index := 12#32
  let v97 : BitVec 32 := v96
  let v558 : Index := Scalar.indexCast v97
  let c0_230 : Index := 0#32
  ![0, 12, v558.toNat, 0]
def k0_off82 (v103 : BitVec 32) : Fin 4 → Nat :=
  let c0_232 : Index := 0#32
  let c13 : Index := 13#32
  let v104 : BitVec 32 := v103
  let v564 : Index := Scalar.indexCast v104
  let c0_233 : Index := 0#32
  ![0, 13, v564.toNat, 0]
def k0_off83 (v110 : BitVec 32) : Fin 4 → Nat :=
  let c0_235 : Index := 0#32
  let c14 : Index := 14#32
  let v111 : BitVec 32 := v110
  let v570 : Index := Scalar.indexCast v111
  let c0_236 : Index := 0#32
  ![0, 14, v570.toNat, 0]
def k0_off84 (v117 : BitVec 32) : Fin 4 → Nat :=
  let c0_238 : Index := 0#32
  let c15 : Index := 15#32
  let v118 : BitVec 32 := v117
  let v576 : Index := Scalar.indexCast v118
  let c0_239 : Index := 0#32
  ![0, 15, v576.toNat, 0]
def k0_mult66 (i : grid0.Coords) : BitVec 32 :=
  let arg2 : BitVec 32 := BitVec.ofNat 32 (i 2).val
  let c4_i32 : BitVec 32 := 4#32
  let v0 : BitVec 32 := Scalar.muli arg2 c4_i32
  let c0_i32 : BitVec 32 := 0#32
  let c4_i32_0 : BitVec 32 := 4#32
  let v1 : BitVec 32 := Scalar.muli c0_i32 c4_i32_0
  let v2 : BitVec 32 := Scalar.addi v0 v1
  let c0_i32_1 : BitVec 32 := 0#32
  let v3 : BitVec 32 := Scalar.addi v2 c0_i32_1
  let c256_i32_241 : BitVec 32 := 256#32
  let v582 : BitVec 32 := Scalar.muli v3 c256_i32_241
  v582
def k0_off85 (i : grid0.Coords) (c0_i32_1 : BitVec 32) : Fin 4 → Nat :=
  let c0_242 : Index := 0#32
  let c0_243 : Index := 0#32
  let c0_244 : Index := 0#32
  let arg2 : BitVec 32 := BitVec.ofNat 32 (i 2).val
  let c4_i32 : BitVec 32 := 4#32
  let v0 : BitVec 32 := Scalar.muli arg2 c4_i32
  let c0_i32 : BitVec 32 := 0#32
  let c4_i32_0 : BitVec 32 := 4#32
  let v1 : BitVec 32 := Scalar.muli c0_i32 c4_i32_0
  let v2 : BitVec 32 := Scalar.addi v0 v1
  let v3 : BitVec 32 := Scalar.addi v2 c0_i32_1
  let c256_i32_241 : BitVec 32 := 256#32
  let v582 : BitVec 32 := Scalar.muli v3 c256_i32_241
  let v583 : BitVec 32 := v582
  let v585 : Index := Scalar.indexCast v583
  ![0, 0, 0, v585.toNat]
def k0_off86 (i : grid0.Coords) (c0_i32_1 : BitVec 32) : Fin 4 → Nat :=
  let c0_246 : Index := 0#32
  let c1_247 : Index := 1#32
  let c0_248 : Index := 0#32
  let arg2 : BitVec 32 := BitVec.ofNat 32 (i 2).val
  let c4_i32 : BitVec 32 := 4#32
  let v0 : BitVec 32 := Scalar.muli arg2 c4_i32
  let c0_i32 : BitVec 32 := 0#32
  let c4_i32_0 : BitVec 32 := 4#32
  let v1 : BitVec 32 := Scalar.muli c0_i32 c4_i32_0
  let v2 : BitVec 32 := Scalar.addi v0 v1
  let v3 : BitVec 32 := Scalar.addi v2 c0_i32_1
  let c256_i32_241 : BitVec 32 := 256#32
  let v582 : BitVec 32 := Scalar.muli v3 c256_i32_241
  let v583 : BitVec 32 := v582
  let v596 : Index := Scalar.indexCast v583
  ![0, 1, 0, v596.toNat]
def k0_off87 (i : grid0.Coords) (c0_i32_1 : BitVec 32) : Fin 4 → Nat :=
  let c0_251 : Index := 0#32
  let c2_252 : Index := 2#32
  let c0_253 : Index := 0#32
  let arg2 : BitVec 32 := BitVec.ofNat 32 (i 2).val
  let c4_i32 : BitVec 32 := 4#32
  let v0 : BitVec 32 := Scalar.muli arg2 c4_i32
  let c0_i32 : BitVec 32 := 0#32
  let c4_i32_0 : BitVec 32 := 4#32
  let v1 : BitVec 32 := Scalar.muli c0_i32 c4_i32_0
  let v2 : BitVec 32 := Scalar.addi v0 v1
  let v3 : BitVec 32 := Scalar.addi v2 c0_i32_1
  let c256_i32_241 : BitVec 32 := 256#32
  let v582 : BitVec 32 := Scalar.muli v3 c256_i32_241
  let v583 : BitVec 32 := v582
  let v607 : Index := Scalar.indexCast v583
  ![0, 2, 0, v607.toNat]
def k0_off88 (i : grid0.Coords) (c0_i32_1 : BitVec 32) : Fin 4 → Nat :=
  let c0_256 : Index := 0#32
  let c3_257 : Index := 3#32
  let c0_258 : Index := 0#32
  let arg2 : BitVec 32 := BitVec.ofNat 32 (i 2).val
  let c4_i32 : BitVec 32 := 4#32
  let v0 : BitVec 32 := Scalar.muli arg2 c4_i32
  let c0_i32 : BitVec 32 := 0#32
  let c4_i32_0 : BitVec 32 := 4#32
  let v1 : BitVec 32 := Scalar.muli c0_i32 c4_i32_0
  let v2 : BitVec 32 := Scalar.addi v0 v1
  let v3 : BitVec 32 := Scalar.addi v2 c0_i32_1
  let c256_i32_241 : BitVec 32 := 256#32
  let v582 : BitVec 32 := Scalar.muli v3 c256_i32_241
  let v583 : BitVec 32 := v582
  let v618 : Index := Scalar.indexCast v583
  ![0, 3, 0, v618.toNat]
def k0_off89 (i : grid0.Coords) (c0_i32_1 : BitVec 32) : Fin 4 → Nat :=
  let c0_261 : Index := 0#32
  let c4_262 : Index := 4#32
  let c0_263 : Index := 0#32
  let arg2 : BitVec 32 := BitVec.ofNat 32 (i 2).val
  let c4_i32 : BitVec 32 := 4#32
  let v0 : BitVec 32 := Scalar.muli arg2 c4_i32
  let c0_i32 : BitVec 32 := 0#32
  let c4_i32_0 : BitVec 32 := 4#32
  let v1 : BitVec 32 := Scalar.muli c0_i32 c4_i32_0
  let v2 : BitVec 32 := Scalar.addi v0 v1
  let v3 : BitVec 32 := Scalar.addi v2 c0_i32_1
  let c256_i32_241 : BitVec 32 := 256#32
  let v582 : BitVec 32 := Scalar.muli v3 c256_i32_241
  let v583 : BitVec 32 := v582
  let v629 : Index := Scalar.indexCast v583
  ![0, 4, 0, v629.toNat]
def k0_off90 (i : grid0.Coords) (c0_i32_1 : BitVec 32) : Fin 4 → Nat :=
  let c0_266 : Index := 0#32
  let c5_267 : Index := 5#32
  let c0_268 : Index := 0#32
  let arg2 : BitVec 32 := BitVec.ofNat 32 (i 2).val
  let c4_i32 : BitVec 32 := 4#32
  let v0 : BitVec 32 := Scalar.muli arg2 c4_i32
  let c0_i32 : BitVec 32 := 0#32
  let c4_i32_0 : BitVec 32 := 4#32
  let v1 : BitVec 32 := Scalar.muli c0_i32 c4_i32_0
  let v2 : BitVec 32 := Scalar.addi v0 v1
  let v3 : BitVec 32 := Scalar.addi v2 c0_i32_1
  let c256_i32_241 : BitVec 32 := 256#32
  let v582 : BitVec 32 := Scalar.muli v3 c256_i32_241
  let v583 : BitVec 32 := v582
  let v640 : Index := Scalar.indexCast v583
  ![0, 5, 0, v640.toNat]
def k0_off91 (i : grid0.Coords) (c0_i32_1 : BitVec 32) : Fin 4 → Nat :=
  let c0_271 : Index := 0#32
  let c6_272 : Index := 6#32
  let c0_273 : Index := 0#32
  let arg2 : BitVec 32 := BitVec.ofNat 32 (i 2).val
  let c4_i32 : BitVec 32 := 4#32
  let v0 : BitVec 32 := Scalar.muli arg2 c4_i32
  let c0_i32 : BitVec 32 := 0#32
  let c4_i32_0 : BitVec 32 := 4#32
  let v1 : BitVec 32 := Scalar.muli c0_i32 c4_i32_0
  let v2 : BitVec 32 := Scalar.addi v0 v1
  let v3 : BitVec 32 := Scalar.addi v2 c0_i32_1
  let c256_i32_241 : BitVec 32 := 256#32
  let v582 : BitVec 32 := Scalar.muli v3 c256_i32_241
  let v583 : BitVec 32 := v582
  let v651 : Index := Scalar.indexCast v583
  ![0, 6, 0, v651.toNat]
def k0_off92 (i : grid0.Coords) (c0_i32_1 : BitVec 32) : Fin 4 → Nat :=
  let c0_276 : Index := 0#32
  let c7_277 : Index := 7#32
  let c0_278 : Index := 0#32
  let arg2 : BitVec 32 := BitVec.ofNat 32 (i 2).val
  let c4_i32 : BitVec 32 := 4#32
  let v0 : BitVec 32 := Scalar.muli arg2 c4_i32
  let c0_i32 : BitVec 32 := 0#32
  let c4_i32_0 : BitVec 32 := 4#32
  let v1 : BitVec 32 := Scalar.muli c0_i32 c4_i32_0
  let v2 : BitVec 32 := Scalar.addi v0 v1
  let v3 : BitVec 32 := Scalar.addi v2 c0_i32_1
  let c256_i32_241 : BitVec 32 := 256#32
  let v582 : BitVec 32 := Scalar.muli v3 c256_i32_241
  let v583 : BitVec 32 := v582
  let v662 : Index := Scalar.indexCast v583
  ![0, 7, 0, v662.toNat]
def k0_off93 (i : grid0.Coords) (c0_i32_1 : BitVec 32) : Fin 4 → Nat :=
  let c0_281 : Index := 0#32
  let c8_282 : Index := 8#32
  let c0_283 : Index := 0#32
  let arg2 : BitVec 32 := BitVec.ofNat 32 (i 2).val
  let c4_i32 : BitVec 32 := 4#32
  let v0 : BitVec 32 := Scalar.muli arg2 c4_i32
  let c0_i32 : BitVec 32 := 0#32
  let c4_i32_0 : BitVec 32 := 4#32
  let v1 : BitVec 32 := Scalar.muli c0_i32 c4_i32_0
  let v2 : BitVec 32 := Scalar.addi v0 v1
  let v3 : BitVec 32 := Scalar.addi v2 c0_i32_1
  let c256_i32_241 : BitVec 32 := 256#32
  let v582 : BitVec 32 := Scalar.muli v3 c256_i32_241
  let v583 : BitVec 32 := v582
  let v673 : Index := Scalar.indexCast v583
  ![0, 8, 0, v673.toNat]
def k0_off94 (i : grid0.Coords) (c0_i32_1 : BitVec 32) : Fin 4 → Nat :=
  let c0_286 : Index := 0#32
  let c9_287 : Index := 9#32
  let c0_288 : Index := 0#32
  let arg2 : BitVec 32 := BitVec.ofNat 32 (i 2).val
  let c4_i32 : BitVec 32 := 4#32
  let v0 : BitVec 32 := Scalar.muli arg2 c4_i32
  let c0_i32 : BitVec 32 := 0#32
  let c4_i32_0 : BitVec 32 := 4#32
  let v1 : BitVec 32 := Scalar.muli c0_i32 c4_i32_0
  let v2 : BitVec 32 := Scalar.addi v0 v1
  let v3 : BitVec 32 := Scalar.addi v2 c0_i32_1
  let c256_i32_241 : BitVec 32 := 256#32
  let v582 : BitVec 32 := Scalar.muli v3 c256_i32_241
  let v583 : BitVec 32 := v582
  let v684 : Index := Scalar.indexCast v583
  ![0, 9, 0, v684.toNat]
def k0_off95 (i : grid0.Coords) (c0_i32_1 : BitVec 32) : Fin 4 → Nat :=
  let c0_291 : Index := 0#32
  let c10_292 : Index := 10#32
  let c0_293 : Index := 0#32
  let arg2 : BitVec 32 := BitVec.ofNat 32 (i 2).val
  let c4_i32 : BitVec 32 := 4#32
  let v0 : BitVec 32 := Scalar.muli arg2 c4_i32
  let c0_i32 : BitVec 32 := 0#32
  let c4_i32_0 : BitVec 32 := 4#32
  let v1 : BitVec 32 := Scalar.muli c0_i32 c4_i32_0
  let v2 : BitVec 32 := Scalar.addi v0 v1
  let v3 : BitVec 32 := Scalar.addi v2 c0_i32_1
  let c256_i32_241 : BitVec 32 := 256#32
  let v582 : BitVec 32 := Scalar.muli v3 c256_i32_241
  let v583 : BitVec 32 := v582
  let v695 : Index := Scalar.indexCast v583
  ![0, 10, 0, v695.toNat]
def k0_off96 (i : grid0.Coords) (c0_i32_1 : BitVec 32) : Fin 4 → Nat :=
  let c0_296 : Index := 0#32
  let c11_297 : Index := 11#32
  let c0_298 : Index := 0#32
  let arg2 : BitVec 32 := BitVec.ofNat 32 (i 2).val
  let c4_i32 : BitVec 32 := 4#32
  let v0 : BitVec 32 := Scalar.muli arg2 c4_i32
  let c0_i32 : BitVec 32 := 0#32
  let c4_i32_0 : BitVec 32 := 4#32
  let v1 : BitVec 32 := Scalar.muli c0_i32 c4_i32_0
  let v2 : BitVec 32 := Scalar.addi v0 v1
  let v3 : BitVec 32 := Scalar.addi v2 c0_i32_1
  let c256_i32_241 : BitVec 32 := 256#32
  let v582 : BitVec 32 := Scalar.muli v3 c256_i32_241
  let v583 : BitVec 32 := v582
  let v706 : Index := Scalar.indexCast v583
  ![0, 11, 0, v706.toNat]
def k0_off97 (i : grid0.Coords) (c0_i32_1 : BitVec 32) : Fin 4 → Nat :=
  let c0_301 : Index := 0#32
  let c12_302 : Index := 12#32
  let c0_303 : Index := 0#32
  let arg2 : BitVec 32 := BitVec.ofNat 32 (i 2).val
  let c4_i32 : BitVec 32 := 4#32
  let v0 : BitVec 32 := Scalar.muli arg2 c4_i32
  let c0_i32 : BitVec 32 := 0#32
  let c4_i32_0 : BitVec 32 := 4#32
  let v1 : BitVec 32 := Scalar.muli c0_i32 c4_i32_0
  let v2 : BitVec 32 := Scalar.addi v0 v1
  let v3 : BitVec 32 := Scalar.addi v2 c0_i32_1
  let c256_i32_241 : BitVec 32 := 256#32
  let v582 : BitVec 32 := Scalar.muli v3 c256_i32_241
  let v583 : BitVec 32 := v582
  let v717 : Index := Scalar.indexCast v583
  ![0, 12, 0, v717.toNat]
def k0_off98 (i : grid0.Coords) (c0_i32_1 : BitVec 32) : Fin 4 → Nat :=
  let c0_306 : Index := 0#32
  let c13_307 : Index := 13#32
  let c0_308 : Index := 0#32
  let arg2 : BitVec 32 := BitVec.ofNat 32 (i 2).val
  let c4_i32 : BitVec 32 := 4#32
  let v0 : BitVec 32 := Scalar.muli arg2 c4_i32
  let c0_i32 : BitVec 32 := 0#32
  let c4_i32_0 : BitVec 32 := 4#32
  let v1 : BitVec 32 := Scalar.muli c0_i32 c4_i32_0
  let v2 : BitVec 32 := Scalar.addi v0 v1
  let v3 : BitVec 32 := Scalar.addi v2 c0_i32_1
  let c256_i32_241 : BitVec 32 := 256#32
  let v582 : BitVec 32 := Scalar.muli v3 c256_i32_241
  let v583 : BitVec 32 := v582
  let v728 : Index := Scalar.indexCast v583
  ![0, 13, 0, v728.toNat]
def k0_off99 (i : grid0.Coords) (c0_i32_1 : BitVec 32) : Fin 4 → Nat :=
  let c0_311 : Index := 0#32
  let c14_312 : Index := 14#32
  let c0_313 : Index := 0#32
  let arg2 : BitVec 32 := BitVec.ofNat 32 (i 2).val
  let c4_i32 : BitVec 32 := 4#32
  let v0 : BitVec 32 := Scalar.muli arg2 c4_i32
  let c0_i32 : BitVec 32 := 0#32
  let c4_i32_0 : BitVec 32 := 4#32
  let v1 : BitVec 32 := Scalar.muli c0_i32 c4_i32_0
  let v2 : BitVec 32 := Scalar.addi v0 v1
  let v3 : BitVec 32 := Scalar.addi v2 c0_i32_1
  let c256_i32_241 : BitVec 32 := 256#32
  let v582 : BitVec 32 := Scalar.muli v3 c256_i32_241
  let v583 : BitVec 32 := v582
  let v739 : Index := Scalar.indexCast v583
  ![0, 14, 0, v739.toNat]
def k0_off100 (i : grid0.Coords) (c0_i32_1 : BitVec 32) : Fin 4 → Nat :=
  let c0_316 : Index := 0#32
  let c15_317 : Index := 15#32
  let c0_318 : Index := 0#32
  let arg2 : BitVec 32 := BitVec.ofNat 32 (i 2).val
  let c4_i32 : BitVec 32 := 4#32
  let v0 : BitVec 32 := Scalar.muli arg2 c4_i32
  let c0_i32 : BitVec 32 := 0#32
  let c4_i32_0 : BitVec 32 := 4#32
  let v1 : BitVec 32 := Scalar.muli c0_i32 c4_i32_0
  let v2 : BitVec 32 := Scalar.addi v0 v1
  let v3 : BitVec 32 := Scalar.addi v2 c0_i32_1
  let c256_i32_241 : BitVec 32 := 256#32
  let v582 : BitVec 32 := Scalar.muli v3 c256_i32_241
  let v583 : BitVec 32 := v582
  let v750 : Index := Scalar.indexCast v583
  ![0, 15, 0, v750.toNat]
def k0_off101 (i : grid0.Coords) (c0_i32_1 : BitVec 32) : Fin 2 → Nat :=
  let arg2 : BitVec 32 := BitVec.ofNat 32 (i 2).val
  let c4_i32 : BitVec 32 := 4#32
  let v0 : BitVec 32 := Scalar.muli arg2 c4_i32
  let c0_i32 : BitVec 32 := 0#32
  let c4_i32_0 : BitVec 32 := 4#32
  let v1 : BitVec 32 := Scalar.muli c0_i32 c4_i32_0
  let v2 : BitVec 32 := Scalar.addi v0 v1
  let v3 : BitVec 32 := Scalar.addi v2 c0_i32_1
  let v483 : BitVec 32 := Scalar.subi v3 v0
  let c256_i32 : BitVec 32 := 256#32
  let v484 : BitVec 32 := Scalar.muli v483 c256_i32
  let v485 : BitVec 32 := v484
  let v762 : Index := Scalar.indexCast v485
  let c0_321 : Index := 0#32
  ![v762.toNat, 0]
def k0_mult67 (i : grid0.Coords) : BitVec 32 :=
  let arg2 : BitVec 32 := BitVec.ofNat 32 (i 2).val
  let c4_i32 : BitVec 32 := 4#32
  let v0 : BitVec 32 := Scalar.muli arg2 c4_i32
  let c0_i32 : BitVec 32 := 0#32
  let c4_i32_0 : BitVec 32 := 4#32
  let v1 : BitVec 32 := Scalar.muli c0_i32 c4_i32_0
  let v2 : BitVec 32 := Scalar.addi v0 v1
  let c1_i32 : BitVec 32 := 1#32
  let v4 : BitVec 32 := Scalar.addi v2 c1_i32
  let v769 : BitVec 32 := Scalar.subi v4 v0
  let c256_i32_326 : BitVec 32 := 256#32
  let v770 : BitVec 32 := Scalar.muli v769 c256_i32_326
  v770
def k0_off102 (v129 : BitVec 32) : Fin 4 → Nat :=
  let c0_327 : Index := 0#32
  let c0_328 : Index := 0#32
  let v130 : BitVec 32 := v129
  let v772 : Index := Scalar.indexCast v130
  let c0_329 : Index := 0#32
  ![0, 0, v772.toNat, 0]
def k0_off103 (v136 : BitVec 32) : Fin 4 → Nat :=
  let c0_331 : Index := 0#32
  let c1_332 : Index := 1#32
  let v137 : BitVec 32 := v136
  let v778 : Index := Scalar.indexCast v137
  let c0_333 : Index := 0#32
  ![0, 1, v778.toNat, 0]
def k0_off104 (v143 : BitVec 32) : Fin 4 → Nat :=
  let c0_335 : Index := 0#32
  let c2_336 : Index := 2#32
  let v144 : BitVec 32 := v143
  let v784 : Index := Scalar.indexCast v144
  let c0_337 : Index := 0#32
  ![0, 2, v784.toNat, 0]
def k0_off105 (v150 : BitVec 32) : Fin 4 → Nat :=
  let c0_339 : Index := 0#32
  let c3_340 : Index := 3#32
  let v151 : BitVec 32 := v150
  let v790 : Index := Scalar.indexCast v151
  let c0_341 : Index := 0#32
  ![0, 3, v790.toNat, 0]
def k0_off106 (v157 : BitVec 32) : Fin 4 → Nat :=
  let c0_343 : Index := 0#32
  let c4_344 : Index := 4#32
  let v158 : BitVec 32 := v157
  let v796 : Index := Scalar.indexCast v158
  let c0_345 : Index := 0#32
  ![0, 4, v796.toNat, 0]
def k0_off107 (v164 : BitVec 32) : Fin 4 → Nat :=
  let c0_347 : Index := 0#32
  let c5_348 : Index := 5#32
  let v165 : BitVec 32 := v164
  let v802 : Index := Scalar.indexCast v165
  let c0_349 : Index := 0#32
  ![0, 5, v802.toNat, 0]
def k0_off108 (v171 : BitVec 32) : Fin 4 → Nat :=
  let c0_351 : Index := 0#32
  let c6_352 : Index := 6#32
  let v172 : BitVec 32 := v171
  let v808 : Index := Scalar.indexCast v172
  let c0_353 : Index := 0#32
  ![0, 6, v808.toNat, 0]
def k0_off109 (v178 : BitVec 32) : Fin 4 → Nat :=
  let c0_355 : Index := 0#32
  let c7_356 : Index := 7#32
  let v179 : BitVec 32 := v178
  let v814 : Index := Scalar.indexCast v179
  let c0_357 : Index := 0#32
  ![0, 7, v814.toNat, 0]
def k0_off110 (v185 : BitVec 32) : Fin 4 → Nat :=
  let c0_359 : Index := 0#32
  let c8_360 : Index := 8#32
  let v186 : BitVec 32 := v185
  let v820 : Index := Scalar.indexCast v186
  let c0_361 : Index := 0#32
  ![0, 8, v820.toNat, 0]
def k0_off111 (v192 : BitVec 32) : Fin 4 → Nat :=
  let c0_363 : Index := 0#32
  let c9_364 : Index := 9#32
  let v193 : BitVec 32 := v192
  let v826 : Index := Scalar.indexCast v193
  let c0_365 : Index := 0#32
  ![0, 9, v826.toNat, 0]
def k0_off112 (v199 : BitVec 32) : Fin 4 → Nat :=
  let c0_367 : Index := 0#32
  let c10_368 : Index := 10#32
  let v200 : BitVec 32 := v199
  let v832 : Index := Scalar.indexCast v200
  let c0_369 : Index := 0#32
  ![0, 10, v832.toNat, 0]
def k0_off113 (v206 : BitVec 32) : Fin 4 → Nat :=
  let c0_371 : Index := 0#32
  let c11_372 : Index := 11#32
  let v207 : BitVec 32 := v206
  let v838 : Index := Scalar.indexCast v207
  let c0_373 : Index := 0#32
  ![0, 11, v838.toNat, 0]
def k0_off114 (v213 : BitVec 32) : Fin 4 → Nat :=
  let c0_375 : Index := 0#32
  let c12_376 : Index := 12#32
  let v214 : BitVec 32 := v213
  let v844 : Index := Scalar.indexCast v214
  let c0_377 : Index := 0#32
  ![0, 12, v844.toNat, 0]
def k0_off115 (v220 : BitVec 32) : Fin 4 → Nat :=
  let c0_379 : Index := 0#32
  let c13_380 : Index := 13#32
  let v221 : BitVec 32 := v220
  let v850 : Index := Scalar.indexCast v221
  let c0_381 : Index := 0#32
  ![0, 13, v850.toNat, 0]
def k0_off116 (v227 : BitVec 32) : Fin 4 → Nat :=
  let c0_383 : Index := 0#32
  let c14_384 : Index := 14#32
  let v228 : BitVec 32 := v227
  let v856 : Index := Scalar.indexCast v228
  let c0_385 : Index := 0#32
  ![0, 14, v856.toNat, 0]
def k0_off117 (v234 : BitVec 32) : Fin 4 → Nat :=
  let c0_387 : Index := 0#32
  let c15_388 : Index := 15#32
  let v235 : BitVec 32 := v234
  let v862 : Index := Scalar.indexCast v235
  let c0_389 : Index := 0#32
  ![0, 15, v862.toNat, 0]
def k0_mult68 (i : grid0.Coords) : BitVec 32 :=
  let arg2 : BitVec 32 := BitVec.ofNat 32 (i 2).val
  let c4_i32 : BitVec 32 := 4#32
  let v0 : BitVec 32 := Scalar.muli arg2 c4_i32
  let c0_i32 : BitVec 32 := 0#32
  let c4_i32_0 : BitVec 32 := 4#32
  let v1 : BitVec 32 := Scalar.muli c0_i32 c4_i32_0
  let v2 : BitVec 32 := Scalar.addi v0 v1
  let c1_i32 : BitVec 32 := 1#32
  let v4 : BitVec 32 := Scalar.addi v2 c1_i32
  let c256_i32_391 : BitVec 32 := 256#32
  let v868 : BitVec 32 := Scalar.muli v4 c256_i32_391
  v868
def k0_mult69 (i : grid0.Coords) : BitVec 32 :=
  let arg2 : BitVec 32 := BitVec.ofNat 32 (i 2).val
  let c4_i32 : BitVec 32 := 4#32
  let v0 : BitVec 32 := Scalar.muli arg2 c4_i32
  let c0_i32 : BitVec 32 := 0#32
  let c4_i32_0 : BitVec 32 := 4#32
  let v1 : BitVec 32 := Scalar.muli c0_i32 c4_i32_0
  let v2 : BitVec 32 := Scalar.addi v0 v1
  let c2_i32 : BitVec 32 := 2#32
  let v5 : BitVec 32 := Scalar.addi v2 c2_i32
  let v1055 : BitVec 32 := Scalar.subi v5 v0
  let c256_i32_477 : BitVec 32 := 256#32
  let v1056 : BitVec 32 := Scalar.muli v1055 c256_i32_477
  v1056
def k0_off118 (v246 : BitVec 32) : Fin 4 → Nat :=
  let c0_478 : Index := 0#32
  let c0_479 : Index := 0#32
  let v247 : BitVec 32 := v246
  let v1058 : Index := Scalar.indexCast v247
  let c0_480 : Index := 0#32
  ![0, 0, v1058.toNat, 0]
def k0_off119 (v253 : BitVec 32) : Fin 4 → Nat :=
  let c0_482 : Index := 0#32
  let c1_483 : Index := 1#32
  let v254 : BitVec 32 := v253
  let v1064 : Index := Scalar.indexCast v254
  let c0_484 : Index := 0#32
  ![0, 1, v1064.toNat, 0]
def k0_off120 (v260 : BitVec 32) : Fin 4 → Nat :=
  let c0_486 : Index := 0#32
  let c2_487 : Index := 2#32
  let v261 : BitVec 32 := v260
  let v1070 : Index := Scalar.indexCast v261
  let c0_488 : Index := 0#32
  ![0, 2, v1070.toNat, 0]
def k0_off121 (v267 : BitVec 32) : Fin 4 → Nat :=
  let c0_490 : Index := 0#32
  let c3_491 : Index := 3#32
  let v268 : BitVec 32 := v267
  let v1076 : Index := Scalar.indexCast v268
  let c0_492 : Index := 0#32
  ![0, 3, v1076.toNat, 0]
def k0_off122 (v274 : BitVec 32) : Fin 4 → Nat :=
  let c0_494 : Index := 0#32
  let c4_495 : Index := 4#32
  let v275 : BitVec 32 := v274
  let v1082 : Index := Scalar.indexCast v275
  let c0_496 : Index := 0#32
  ![0, 4, v1082.toNat, 0]
def k0_off123 (v281 : BitVec 32) : Fin 4 → Nat :=
  let c0_498 : Index := 0#32
  let c5_499 : Index := 5#32
  let v282 : BitVec 32 := v281
  let v1088 : Index := Scalar.indexCast v282
  let c0_500 : Index := 0#32
  ![0, 5, v1088.toNat, 0]
def k0_off124 (v288 : BitVec 32) : Fin 4 → Nat :=
  let c0_502 : Index := 0#32
  let c6_503 : Index := 6#32
  let v289 : BitVec 32 := v288
  let v1094 : Index := Scalar.indexCast v289
  let c0_504 : Index := 0#32
  ![0, 6, v1094.toNat, 0]
def k0_off125 (v295 : BitVec 32) : Fin 4 → Nat :=
  let c0_506 : Index := 0#32
  let c7_507 : Index := 7#32
  let v296 : BitVec 32 := v295
  let v1100 : Index := Scalar.indexCast v296
  let c0_508 : Index := 0#32
  ![0, 7, v1100.toNat, 0]
def k0_off126 (v302 : BitVec 32) : Fin 4 → Nat :=
  let c0_510 : Index := 0#32
  let c8_511 : Index := 8#32
  let v303 : BitVec 32 := v302
  let v1106 : Index := Scalar.indexCast v303
  let c0_512 : Index := 0#32
  ![0, 8, v1106.toNat, 0]
def k0_off127 (v309 : BitVec 32) : Fin 4 → Nat :=
  let c0_514 : Index := 0#32
  let c9_515 : Index := 9#32
  let v310 : BitVec 32 := v309
  let v1112 : Index := Scalar.indexCast v310
  let c0_516 : Index := 0#32
  ![0, 9, v1112.toNat, 0]
def k0_off128 (v316 : BitVec 32) : Fin 4 → Nat :=
  let c0_518 : Index := 0#32
  let c10_519 : Index := 10#32
  let v317 : BitVec 32 := v316
  let v1118 : Index := Scalar.indexCast v317
  let c0_520 : Index := 0#32
  ![0, 10, v1118.toNat, 0]
def k0_off129 (v323 : BitVec 32) : Fin 4 → Nat :=
  let c0_522 : Index := 0#32
  let c11_523 : Index := 11#32
  let v324 : BitVec 32 := v323
  let v1124 : Index := Scalar.indexCast v324
  let c0_524 : Index := 0#32
  ![0, 11, v1124.toNat, 0]
def k0_off130 (v330 : BitVec 32) : Fin 4 → Nat :=
  let c0_526 : Index := 0#32
  let c12_527 : Index := 12#32
  let v331 : BitVec 32 := v330
  let v1130 : Index := Scalar.indexCast v331
  let c0_528 : Index := 0#32
  ![0, 12, v1130.toNat, 0]
def k0_off131 (v337 : BitVec 32) : Fin 4 → Nat :=
  let c0_530 : Index := 0#32
  let c13_531 : Index := 13#32
  let v338 : BitVec 32 := v337
  let v1136 : Index := Scalar.indexCast v338
  let c0_532 : Index := 0#32
  ![0, 13, v1136.toNat, 0]
def k0_off132 (v344 : BitVec 32) : Fin 4 → Nat :=
  let c0_534 : Index := 0#32
  let c14_535 : Index := 14#32
  let v345 : BitVec 32 := v344
  let v1142 : Index := Scalar.indexCast v345
  let c0_536 : Index := 0#32
  ![0, 14, v1142.toNat, 0]
def k0_off133 (v351 : BitVec 32) : Fin 4 → Nat :=
  let c0_538 : Index := 0#32
  let c15_539 : Index := 15#32
  let v352 : BitVec 32 := v351
  let v1148 : Index := Scalar.indexCast v352
  let c0_540 : Index := 0#32
  ![0, 15, v1148.toNat, 0]
def k0_mult70 (i : grid0.Coords) : BitVec 32 :=
  let arg2 : BitVec 32 := BitVec.ofNat 32 (i 2).val
  let c4_i32 : BitVec 32 := 4#32
  let v0 : BitVec 32 := Scalar.muli arg2 c4_i32
  let c0_i32 : BitVec 32 := 0#32
  let c4_i32_0 : BitVec 32 := 4#32
  let v1 : BitVec 32 := Scalar.muli c0_i32 c4_i32_0
  let v2 : BitVec 32 := Scalar.addi v0 v1
  let c2_i32 : BitVec 32 := 2#32
  let v5 : BitVec 32 := Scalar.addi v2 c2_i32
  let c256_i32_542 : BitVec 32 := 256#32
  let v1154 : BitVec 32 := Scalar.muli v5 c256_i32_542
  v1154
def k0_mult71 (i : grid0.Coords) : BitVec 32 :=
  let arg2 : BitVec 32 := BitVec.ofNat 32 (i 2).val
  let c4_i32 : BitVec 32 := 4#32
  let v0 : BitVec 32 := Scalar.muli arg2 c4_i32
  let c0_i32 : BitVec 32 := 0#32
  let c4_i32_0 : BitVec 32 := 4#32
  let v1 : BitVec 32 := Scalar.muli c0_i32 c4_i32_0
  let v2 : BitVec 32 := Scalar.addi v0 v1
  let c3_i32 : BitVec 32 := 3#32
  let v6 : BitVec 32 := Scalar.addi v2 c3_i32
  let v1341 : BitVec 32 := Scalar.subi v6 v0
  let c256_i32_628 : BitVec 32 := 256#32
  let v1342 : BitVec 32 := Scalar.muli v1341 c256_i32_628
  v1342
def k0_off134 (v363 : BitVec 32) : Fin 4 → Nat :=
  let c0_629 : Index := 0#32
  let c0_630 : Index := 0#32
  let v364 : BitVec 32 := v363
  let v1344 : Index := Scalar.indexCast v364
  let c0_631 : Index := 0#32
  ![0, 0, v1344.toNat, 0]
def k0_off135 (v370 : BitVec 32) : Fin 4 → Nat :=
  let c0_633 : Index := 0#32
  let c1_634 : Index := 1#32
  let v371 : BitVec 32 := v370
  let v1350 : Index := Scalar.indexCast v371
  let c0_635 : Index := 0#32
  ![0, 1, v1350.toNat, 0]
def k0_off136 (v377 : BitVec 32) : Fin 4 → Nat :=
  let c0_637 : Index := 0#32
  let c2_638 : Index := 2#32
  let v378 : BitVec 32 := v377
  let v1356 : Index := Scalar.indexCast v378
  let c0_639 : Index := 0#32
  ![0, 2, v1356.toNat, 0]
def k0_off137 (v384 : BitVec 32) : Fin 4 → Nat :=
  let c0_641 : Index := 0#32
  let c3_642 : Index := 3#32
  let v385 : BitVec 32 := v384
  let v1362 : Index := Scalar.indexCast v385
  let c0_643 : Index := 0#32
  ![0, 3, v1362.toNat, 0]
def k0_off138 (v391 : BitVec 32) : Fin 4 → Nat :=
  let c0_645 : Index := 0#32
  let c4_646 : Index := 4#32
  let v392 : BitVec 32 := v391
  let v1368 : Index := Scalar.indexCast v392
  let c0_647 : Index := 0#32
  ![0, 4, v1368.toNat, 0]
def k0_off139 (v398 : BitVec 32) : Fin 4 → Nat :=
  let c0_649 : Index := 0#32
  let c5_650 : Index := 5#32
  let v399 : BitVec 32 := v398
  let v1374 : Index := Scalar.indexCast v399
  let c0_651 : Index := 0#32
  ![0, 5, v1374.toNat, 0]
def k0_off140 (v405 : BitVec 32) : Fin 4 → Nat :=
  let c0_653 : Index := 0#32
  let c6_654 : Index := 6#32
  let v406 : BitVec 32 := v405
  let v1380 : Index := Scalar.indexCast v406
  let c0_655 : Index := 0#32
  ![0, 6, v1380.toNat, 0]
def k0_off141 (v412 : BitVec 32) : Fin 4 → Nat :=
  let c0_657 : Index := 0#32
  let c7_658 : Index := 7#32
  let v413 : BitVec 32 := v412
  let v1386 : Index := Scalar.indexCast v413
  let c0_659 : Index := 0#32
  ![0, 7, v1386.toNat, 0]
def k0_off142 (v419 : BitVec 32) : Fin 4 → Nat :=
  let c0_661 : Index := 0#32
  let c8_662 : Index := 8#32
  let v420 : BitVec 32 := v419
  let v1392 : Index := Scalar.indexCast v420
  let c0_663 : Index := 0#32
  ![0, 8, v1392.toNat, 0]
def k0_off143 (v426 : BitVec 32) : Fin 4 → Nat :=
  let c0_665 : Index := 0#32
  let c9_666 : Index := 9#32
  let v427 : BitVec 32 := v426
  let v1398 : Index := Scalar.indexCast v427
  let c0_667 : Index := 0#32
  ![0, 9, v1398.toNat, 0]
def k0_off144 (v433 : BitVec 32) : Fin 4 → Nat :=
  let c0_669 : Index := 0#32
  let c10_670 : Index := 10#32
  let v434 : BitVec 32 := v433
  let v1404 : Index := Scalar.indexCast v434
  let c0_671 : Index := 0#32
  ![0, 10, v1404.toNat, 0]
def k0_off145 (v440 : BitVec 32) : Fin 4 → Nat :=
  let c0_673 : Index := 0#32
  let c11_674 : Index := 11#32
  let v441 : BitVec 32 := v440
  let v1410 : Index := Scalar.indexCast v441
  let c0_675 : Index := 0#32
  ![0, 11, v1410.toNat, 0]
def k0_off146 (v447 : BitVec 32) : Fin 4 → Nat :=
  let c0_677 : Index := 0#32
  let c12_678 : Index := 12#32
  let v448 : BitVec 32 := v447
  let v1416 : Index := Scalar.indexCast v448
  let c0_679 : Index := 0#32
  ![0, 12, v1416.toNat, 0]
def k0_off147 (v454 : BitVec 32) : Fin 4 → Nat :=
  let c0_681 : Index := 0#32
  let c13_682 : Index := 13#32
  let v455 : BitVec 32 := v454
  let v1422 : Index := Scalar.indexCast v455
  let c0_683 : Index := 0#32
  ![0, 13, v1422.toNat, 0]
def k0_off148 (v461 : BitVec 32) : Fin 4 → Nat :=
  let c0_685 : Index := 0#32
  let c14_686 : Index := 14#32
  let v462 : BitVec 32 := v461
  let v1428 : Index := Scalar.indexCast v462
  let c0_687 : Index := 0#32
  ![0, 14, v1428.toNat, 0]
def k0_off149 (v468 : BitVec 32) : Fin 4 → Nat :=
  let c0_689 : Index := 0#32
  let c15_690 : Index := 15#32
  let v469 : BitVec 32 := v468
  let v1434 : Index := Scalar.indexCast v469
  let c0_691 : Index := 0#32
  ![0, 15, v1434.toNat, 0]

def k0_chk65_0 (v12 : BitVec 32) (v19 : BitVec 32) (v26 : BitVec 32) (v33 : BitVec 32) (v40 : BitVec 32) (v47 : BitVec 32) (v54 : BitVec 32) (v61 : BitVec 32) (v68 : BitVec 32) (v75 : BitVec 32) (v82 : BitVec 32) (v89 : BitVec 32) (v96 : BitVec 32) (v103 : BitVec 32) (v110 : BitVec 32) (v117 : BitVec 32) (v122 : BitVec 32) (v129 : BitVec 32) (v136 : BitVec 32) (v143 : BitVec 32) (v150 : BitVec 32) (v157 : BitVec 32) (v164 : BitVec 32) (v171 : BitVec 32) (v178 : BitVec 32) (v185 : BitVec 32) (v192 : BitVec 32) (v199 : BitVec 32) (v206 : BitVec 32) (v213 : BitVec 32) (v220 : BitVec 32) (v227 : BitVec 32) (v234 : BitVec 32) (v239 : BitVec 32) (v246 : BitVec 32) (v253 : BitVec 32) (v260 : BitVec 32) (v267 : BitVec 32) (v274 : BitVec 32) (v281 : BitVec 32) (v288 : BitVec 32) (v295 : BitVec 32) (v302 : BitVec 32) (v309 : BitVec 32) (v316 : BitVec 32) (v323 : BitVec 32) (v330 : BitVec 32) (v337 : BitVec 32) (v344 : BitVec 32) (v351 : BitVec 32) (v356 : BitVec 32) (v363 : BitVec 32) (v370 : BitVec 32) (v377 : BitVec 32) (v384 : BitVec 32) (v391 : BitVec 32) (v398 : BitVec 32) (v405 : BitVec 32) (v412 : BitVec 32) (v419 : BitVec 32) (v426 : BitVec 32) (v433 : BitVec 32) (v440 : BitVec 32) (v447 : BitVec 32) (v454 : BitVec 32) (v461 : BitVec 32) (v468 : BitVec 32) (v473 : BitVec 32) : Prop :=
  (∀ (k0_h1 : k0_cond1 v122 v239 v356 v473 = 1#1), ∀ a, (k0_off69 v12) a + S1x1x64x512.size a ≤ S1x16x1296x512.size a) ∧
  (∀ (k0_h1 : k0_cond1 v122 v239 v356 v473 = 1#1), ∀ a, (k0_off70 v19) a + S1x1x64x512.size a ≤ S1x16x1296x512.size a) ∧
  (∀ (k0_h1 : k0_cond1 v122 v239 v356 v473 = 1#1), ∀ a, (k0_off71 v26) a + S1x1x64x512.size a ≤ S1x16x1296x512.size a) ∧
  (∀ (k0_h1 : k0_cond1 v122 v239 v356 v473 = 1#1), ∀ a, (k0_off72 v33) a + S1x1x64x512.size a ≤ S1x16x1296x512.size a) ∧
  (∀ (k0_h1 : k0_cond1 v122 v239 v356 v473 = 1#1), ∀ a, (k0_off73 v40) a + S1x1x64x512.size a ≤ S1x16x1296x512.size a) ∧
  (∀ (k0_h1 : k0_cond1 v122 v239 v356 v473 = 1#1), ∀ a, (k0_off74 v47) a + S1x1x64x512.size a ≤ S1x16x1296x512.size a) ∧
  (∀ (k0_h1 : k0_cond1 v122 v239 v356 v473 = 1#1), ∀ a, (k0_off75 v54) a + S1x1x64x512.size a ≤ S1x16x1296x512.size a) ∧
  (∀ (k0_h1 : k0_cond1 v122 v239 v356 v473 = 1#1), ∀ a, (k0_off76 v61) a + S1x1x64x512.size a ≤ S1x16x1296x512.size a) ∧
  (∀ (k0_h1 : k0_cond1 v122 v239 v356 v473 = 1#1), ∀ a, (k0_off77 v68) a + S1x1x64x512.size a ≤ S1x16x1296x512.size a) ∧
  (∀ (k0_h1 : k0_cond1 v122 v239 v356 v473 = 1#1), ∀ a, (k0_off78 v75) a + S1x1x64x512.size a ≤ S1x16x1296x512.size a) ∧
  (∀ (k0_h1 : k0_cond1 v122 v239 v356 v473 = 1#1), ∀ a, (k0_off79 v82) a + S1x1x64x512.size a ≤ S1x16x1296x512.size a) ∧
  (∀ (k0_h1 : k0_cond1 v122 v239 v356 v473 = 1#1), ∀ a, (k0_off80 v89) a + S1x1x64x512.size a ≤ S1x16x1296x512.size a) ∧
  (∀ (k0_h1 : k0_cond1 v122 v239 v356 v473 = 1#1), ∀ a, (k0_off81 v96) a + S1x1x64x512.size a ≤ S1x16x1296x512.size a) ∧
  (∀ (k0_h1 : k0_cond1 v122 v239 v356 v473 = 1#1), ∀ a, (k0_off82 v103) a + S1x1x64x512.size a ≤ S1x16x1296x512.size a) ∧
  (∀ (k0_h1 : k0_cond1 v122 v239 v356 v473 = 1#1), ∀ a, (k0_off83 v110) a + S1x1x64x512.size a ≤ S1x16x1296x512.size a) ∧
  (∀ (k0_h1 : k0_cond1 v122 v239 v356 v473 = 1#1), ∀ a, (k0_off84 v117) a + S1x1x64x512.size a ≤ S1x16x1296x512.size a) ∧
  (∀ (k0_h1 : k0_cond1 v122 v239 v356 v473 = 1#1), ∀ a, (k0_off102 v129) a + S1x1x64x512.size a ≤ S1x16x1296x512.size a) ∧
  (∀ (k0_h1 : k0_cond1 v122 v239 v356 v473 = 1#1), ∀ a, (k0_off103 v136) a + S1x1x64x512.size a ≤ S1x16x1296x512.size a) ∧
  (∀ (k0_h1 : k0_cond1 v122 v239 v356 v473 = 1#1), ∀ a, (k0_off104 v143) a + S1x1x64x512.size a ≤ S1x16x1296x512.size a) ∧
  (∀ (k0_h1 : k0_cond1 v122 v239 v356 v473 = 1#1), ∀ a, (k0_off105 v150) a + S1x1x64x512.size a ≤ S1x16x1296x512.size a) ∧
  (∀ (k0_h1 : k0_cond1 v122 v239 v356 v473 = 1#1), ∀ a, (k0_off106 v157) a + S1x1x64x512.size a ≤ S1x16x1296x512.size a) ∧
  (∀ (k0_h1 : k0_cond1 v122 v239 v356 v473 = 1#1), ∀ a, (k0_off107 v164) a + S1x1x64x512.size a ≤ S1x16x1296x512.size a) ∧
  (∀ (k0_h1 : k0_cond1 v122 v239 v356 v473 = 1#1), ∀ a, (k0_off108 v171) a + S1x1x64x512.size a ≤ S1x16x1296x512.size a) ∧
  (∀ (k0_h1 : k0_cond1 v122 v239 v356 v473 = 1#1), ∀ a, (k0_off109 v178) a + S1x1x64x512.size a ≤ S1x16x1296x512.size a) ∧
  (∀ (k0_h1 : k0_cond1 v122 v239 v356 v473 = 1#1), ∀ a, (k0_off110 v185) a + S1x1x64x512.size a ≤ S1x16x1296x512.size a) ∧
  (∀ (k0_h1 : k0_cond1 v122 v239 v356 v473 = 1#1), ∀ a, (k0_off111 v192) a + S1x1x64x512.size a ≤ S1x16x1296x512.size a) ∧
  (∀ (k0_h1 : k0_cond1 v122 v239 v356 v473 = 1#1), ∀ a, (k0_off112 v199) a + S1x1x64x512.size a ≤ S1x16x1296x512.size a) ∧
  (∀ (k0_h1 : k0_cond1 v122 v239 v356 v473 = 1#1), ∀ a, (k0_off113 v206) a + S1x1x64x512.size a ≤ S1x16x1296x512.size a) ∧
  (∀ (k0_h1 : k0_cond1 v122 v239 v356 v473 = 1#1), ∀ a, (k0_off114 v213) a + S1x1x64x512.size a ≤ S1x16x1296x512.size a) ∧
  (∀ (k0_h1 : k0_cond1 v122 v239 v356 v473 = 1#1), ∀ a, (k0_off115 v220) a + S1x1x64x512.size a ≤ S1x16x1296x512.size a) ∧
  (∀ (k0_h1 : k0_cond1 v122 v239 v356 v473 = 1#1), ∀ a, (k0_off116 v227) a + S1x1x64x512.size a ≤ S1x16x1296x512.size a) ∧
  (∀ (k0_h1 : k0_cond1 v122 v239 v356 v473 = 1#1), ∀ a, (k0_off117 v234) a + S1x1x64x512.size a ≤ S1x16x1296x512.size a)
def k0_chk65_1 (v12 : BitVec 32) (v19 : BitVec 32) (v26 : BitVec 32) (v33 : BitVec 32) (v40 : BitVec 32) (v47 : BitVec 32) (v54 : BitVec 32) (v61 : BitVec 32) (v68 : BitVec 32) (v75 : BitVec 32) (v82 : BitVec 32) (v89 : BitVec 32) (v96 : BitVec 32) (v103 : BitVec 32) (v110 : BitVec 32) (v117 : BitVec 32) (v122 : BitVec 32) (v129 : BitVec 32) (v136 : BitVec 32) (v143 : BitVec 32) (v150 : BitVec 32) (v157 : BitVec 32) (v164 : BitVec 32) (v171 : BitVec 32) (v178 : BitVec 32) (v185 : BitVec 32) (v192 : BitVec 32) (v199 : BitVec 32) (v206 : BitVec 32) (v213 : BitVec 32) (v220 : BitVec 32) (v227 : BitVec 32) (v234 : BitVec 32) (v239 : BitVec 32) (v246 : BitVec 32) (v253 : BitVec 32) (v260 : BitVec 32) (v267 : BitVec 32) (v274 : BitVec 32) (v281 : BitVec 32) (v288 : BitVec 32) (v295 : BitVec 32) (v302 : BitVec 32) (v309 : BitVec 32) (v316 : BitVec 32) (v323 : BitVec 32) (v330 : BitVec 32) (v337 : BitVec 32) (v344 : BitVec 32) (v351 : BitVec 32) (v356 : BitVec 32) (v363 : BitVec 32) (v370 : BitVec 32) (v377 : BitVec 32) (v384 : BitVec 32) (v391 : BitVec 32) (v398 : BitVec 32) (v405 : BitVec 32) (v412 : BitVec 32) (v419 : BitVec 32) (v426 : BitVec 32) (v433 : BitVec 32) (v440 : BitVec 32) (v447 : BitVec 32) (v454 : BitVec 32) (v461 : BitVec 32) (v468 : BitVec 32) (v473 : BitVec 32) : Prop :=
  (∀ (k0_h1 : k0_cond1 v122 v239 v356 v473 = 1#1), ∀ a, (k0_off118 v246) a + S1x1x64x512.size a ≤ S1x16x1296x512.size a) ∧
  (∀ (k0_h1 : k0_cond1 v122 v239 v356 v473 = 1#1), ∀ a, (k0_off119 v253) a + S1x1x64x512.size a ≤ S1x16x1296x512.size a) ∧
  (∀ (k0_h1 : k0_cond1 v122 v239 v356 v473 = 1#1), ∀ a, (k0_off120 v260) a + S1x1x64x512.size a ≤ S1x16x1296x512.size a) ∧
  (∀ (k0_h1 : k0_cond1 v122 v239 v356 v473 = 1#1), ∀ a, (k0_off121 v267) a + S1x1x64x512.size a ≤ S1x16x1296x512.size a) ∧
  (∀ (k0_h1 : k0_cond1 v122 v239 v356 v473 = 1#1), ∀ a, (k0_off122 v274) a + S1x1x64x512.size a ≤ S1x16x1296x512.size a) ∧
  (∀ (k0_h1 : k0_cond1 v122 v239 v356 v473 = 1#1), ∀ a, (k0_off123 v281) a + S1x1x64x512.size a ≤ S1x16x1296x512.size a) ∧
  (∀ (k0_h1 : k0_cond1 v122 v239 v356 v473 = 1#1), ∀ a, (k0_off124 v288) a + S1x1x64x512.size a ≤ S1x16x1296x512.size a) ∧
  (∀ (k0_h1 : k0_cond1 v122 v239 v356 v473 = 1#1), ∀ a, (k0_off125 v295) a + S1x1x64x512.size a ≤ S1x16x1296x512.size a) ∧
  (∀ (k0_h1 : k0_cond1 v122 v239 v356 v473 = 1#1), ∀ a, (k0_off126 v302) a + S1x1x64x512.size a ≤ S1x16x1296x512.size a) ∧
  (∀ (k0_h1 : k0_cond1 v122 v239 v356 v473 = 1#1), ∀ a, (k0_off127 v309) a + S1x1x64x512.size a ≤ S1x16x1296x512.size a) ∧
  (∀ (k0_h1 : k0_cond1 v122 v239 v356 v473 = 1#1), ∀ a, (k0_off128 v316) a + S1x1x64x512.size a ≤ S1x16x1296x512.size a) ∧
  (∀ (k0_h1 : k0_cond1 v122 v239 v356 v473 = 1#1), ∀ a, (k0_off129 v323) a + S1x1x64x512.size a ≤ S1x16x1296x512.size a) ∧
  (∀ (k0_h1 : k0_cond1 v122 v239 v356 v473 = 1#1), ∀ a, (k0_off130 v330) a + S1x1x64x512.size a ≤ S1x16x1296x512.size a) ∧
  (∀ (k0_h1 : k0_cond1 v122 v239 v356 v473 = 1#1), ∀ a, (k0_off131 v337) a + S1x1x64x512.size a ≤ S1x16x1296x512.size a) ∧
  (∀ (k0_h1 : k0_cond1 v122 v239 v356 v473 = 1#1), ∀ a, (k0_off132 v344) a + S1x1x64x512.size a ≤ S1x16x1296x512.size a) ∧
  (∀ (k0_h1 : k0_cond1 v122 v239 v356 v473 = 1#1), ∀ a, (k0_off133 v351) a + S1x1x64x512.size a ≤ S1x16x1296x512.size a) ∧
  (∀ (k0_h1 : k0_cond1 v122 v239 v356 v473 = 1#1), ∀ a, (k0_off134 v363) a + S1x1x64x512.size a ≤ S1x16x1296x512.size a) ∧
  (∀ (k0_h1 : k0_cond1 v122 v239 v356 v473 = 1#1), ∀ a, (k0_off135 v370) a + S1x1x64x512.size a ≤ S1x16x1296x512.size a) ∧
  (∀ (k0_h1 : k0_cond1 v122 v239 v356 v473 = 1#1), ∀ a, (k0_off136 v377) a + S1x1x64x512.size a ≤ S1x16x1296x512.size a) ∧
  (∀ (k0_h1 : k0_cond1 v122 v239 v356 v473 = 1#1), ∀ a, (k0_off137 v384) a + S1x1x64x512.size a ≤ S1x16x1296x512.size a) ∧
  (∀ (k0_h1 : k0_cond1 v122 v239 v356 v473 = 1#1), ∀ a, (k0_off138 v391) a + S1x1x64x512.size a ≤ S1x16x1296x512.size a) ∧
  (∀ (k0_h1 : k0_cond1 v122 v239 v356 v473 = 1#1), ∀ a, (k0_off139 v398) a + S1x1x64x512.size a ≤ S1x16x1296x512.size a) ∧
  (∀ (k0_h1 : k0_cond1 v122 v239 v356 v473 = 1#1), ∀ a, (k0_off140 v405) a + S1x1x64x512.size a ≤ S1x16x1296x512.size a) ∧
  (∀ (k0_h1 : k0_cond1 v122 v239 v356 v473 = 1#1), ∀ a, (k0_off141 v412) a + S1x1x64x512.size a ≤ S1x16x1296x512.size a) ∧
  (∀ (k0_h1 : k0_cond1 v122 v239 v356 v473 = 1#1), ∀ a, (k0_off142 v419) a + S1x1x64x512.size a ≤ S1x16x1296x512.size a) ∧
  (∀ (k0_h1 : k0_cond1 v122 v239 v356 v473 = 1#1), ∀ a, (k0_off143 v426) a + S1x1x64x512.size a ≤ S1x16x1296x512.size a) ∧
  (∀ (k0_h1 : k0_cond1 v122 v239 v356 v473 = 1#1), ∀ a, (k0_off144 v433) a + S1x1x64x512.size a ≤ S1x16x1296x512.size a) ∧
  (∀ (k0_h1 : k0_cond1 v122 v239 v356 v473 = 1#1), ∀ a, (k0_off145 v440) a + S1x1x64x512.size a ≤ S1x16x1296x512.size a) ∧
  (∀ (k0_h1 : k0_cond1 v122 v239 v356 v473 = 1#1), ∀ a, (k0_off146 v447) a + S1x1x64x512.size a ≤ S1x16x1296x512.size a) ∧
  (∀ (k0_h1 : k0_cond1 v122 v239 v356 v473 = 1#1), ∀ a, (k0_off147 v454) a + S1x1x64x512.size a ≤ S1x16x1296x512.size a) ∧
  (∀ (k0_h1 : k0_cond1 v122 v239 v356 v473 = 1#1), ∀ a, (k0_off148 v461) a + S1x1x64x512.size a ≤ S1x16x1296x512.size a) ∧
  (∀ (k0_h1 : k0_cond1 v122 v239 v356 v473 = 1#1), ∀ a, (k0_off149 v468) a + S1x1x64x512.size a ≤ S1x16x1296x512.size a)
def k0_chk65 (v12 : BitVec 32) (v19 : BitVec 32) (v26 : BitVec 32) (v33 : BitVec 32) (v40 : BitVec 32) (v47 : BitVec 32) (v54 : BitVec 32) (v61 : BitVec 32) (v68 : BitVec 32) (v75 : BitVec 32) (v82 : BitVec 32) (v89 : BitVec 32) (v96 : BitVec 32) (v103 : BitVec 32) (v110 : BitVec 32) (v117 : BitVec 32) (v122 : BitVec 32) (v129 : BitVec 32) (v136 : BitVec 32) (v143 : BitVec 32) (v150 : BitVec 32) (v157 : BitVec 32) (v164 : BitVec 32) (v171 : BitVec 32) (v178 : BitVec 32) (v185 : BitVec 32) (v192 : BitVec 32) (v199 : BitVec 32) (v206 : BitVec 32) (v213 : BitVec 32) (v220 : BitVec 32) (v227 : BitVec 32) (v234 : BitVec 32) (v239 : BitVec 32) (v246 : BitVec 32) (v253 : BitVec 32) (v260 : BitVec 32) (v267 : BitVec 32) (v274 : BitVec 32) (v281 : BitVec 32) (v288 : BitVec 32) (v295 : BitVec 32) (v302 : BitVec 32) (v309 : BitVec 32) (v316 : BitVec 32) (v323 : BitVec 32) (v330 : BitVec 32) (v337 : BitVec 32) (v344 : BitVec 32) (v351 : BitVec 32) (v356 : BitVec 32) (v363 : BitVec 32) (v370 : BitVec 32) (v377 : BitVec 32) (v384 : BitVec 32) (v391 : BitVec 32) (v398 : BitVec 32) (v405 : BitVec 32) (v412 : BitVec 32) (v419 : BitVec 32) (v426 : BitVec 32) (v433 : BitVec 32) (v440 : BitVec 32) (v447 : BitVec 32) (v454 : BitVec 32) (v461 : BitVec 32) (v468 : BitVec 32) (v473 : BitVec 32) : Prop :=
  k0_chk65_0 v12 v19 v26 v33 v40 v47 v54 v61 v68 v75 v82 v89 v96 v103 v110 v117 v122 v129 v136 v143 v150 v157 v164 v171 v178 v185 v192 v199 v206 v213 v220 v227 v234 v239 v246 v253 v260 v267 v274 v281 v288 v295 v302 v309 v316 v323 v330 v337 v344 v351 v356 v363 v370 v377 v384 v391 v398 v405 v412 v419 v426 v433 v440 v447 v454 v461 v468 v473 ∧
  k0_chk65_1 v12 v19 v26 v33 v40 v47 v54 v61 v68 v75 v82 v89 v96 v103 v110 v117 v122 v129 v136 v143 v150 v157 v164 v171 v178 v185 v192 v199 v206 v213 v220 v227 v234 v239 v246 v253 v260 v267 v274 v281 v288 v295 v302 v309 v316 v323 v330 v337 v344 v351 v356 v363 v370 v377 v384 v391 v398 v405 v412 v419 v426 v433 v440 v447 v454 v461 v468 v473
theorem k0_off69_inb : ∀ (v12 : BitVec 32) (v19 : BitVec 32) (v26 : BitVec 32) (v33 : BitVec 32) (v40 : BitVec 32) (v47 : BitVec 32) (v54 : BitVec 32) (v61 : BitVec 32) (v68 : BitVec 32) (v75 : BitVec 32) (v82 : BitVec 32) (v89 : BitVec 32) (v96 : BitVec 32) (v103 : BitVec 32) (v110 : BitVec 32) (v117 : BitVec 32) (v122 : BitVec 32) (v129 : BitVec 32) (v136 : BitVec 32) (v143 : BitVec 32) (v150 : BitVec 32) (v157 : BitVec 32) (v164 : BitVec 32) (v171 : BitVec 32) (v178 : BitVec 32) (v185 : BitVec 32) (v192 : BitVec 32) (v199 : BitVec 32) (v206 : BitVec 32) (v213 : BitVec 32) (v220 : BitVec 32) (v227 : BitVec 32) (v234 : BitVec 32) (v239 : BitVec 32) (v246 : BitVec 32) (v253 : BitVec 32) (v260 : BitVec 32) (v267 : BitVec 32) (v274 : BitVec 32) (v281 : BitVec 32) (v288 : BitVec 32) (v295 : BitVec 32) (v302 : BitVec 32) (v309 : BitVec 32) (v316 : BitVec 32) (v323 : BitVec 32) (v330 : BitVec 32) (v337 : BitVec 32) (v344 : BitVec 32) (v351 : BitVec 32) (v356 : BitVec 32) (v363 : BitVec 32) (v370 : BitVec 32) (v377 : BitVec 32) (v384 : BitVec 32) (v391 : BitVec 32) (v398 : BitVec 32) (v405 : BitVec 32) (v412 : BitVec 32) (v419 : BitVec 32) (v426 : BitVec 32) (v433 : BitVec 32) (v440 : BitVec 32) (v447 : BitVec 32) (v454 : BitVec 32) (v461 : BitVec 32) (v468 : BitVec 32) (v473 : BitVec 32) (k0_hw65 : k0_chk65 v12 v19 v26 v33 v40 v47 v54 v61 v68 v75 v82 v89 v96 v103 v110 v117 v122 v129 v136 v143 v150 v157 v164 v171 v178 v185 v192 v199 v206 v213 v220 v227 v234 v239 v246 v253 v260 v267 v274 v281 v288 v295 v302 v309 v316 v323 v330 v337 v344 v351 v356 v363 v370 v377 v384 v391 v398 v405 v412 v419 v426 v433 v440 v447 v454 v461 v468 v473), ∀ (k0_h1 : k0_cond1 v122 v239 v356 v473 = 1#1), ∀ a, (k0_off69 v12) a + S1x1x64x512.size a ≤ S1x16x1296x512.size a := fun v12 v19 v26 v33 v40 v47 v54 v61 v68 v75 v82 v89 v96 v103 v110 v117 v122 v129 v136 v143 v150 v157 v164 v171 v178 v185 v192 v199 v206 v213 v220 v227 v234 v239 v246 v253 v260 v267 v274 v281 v288 v295 v302 v309 v316 v323 v330 v337 v344 v351 v356 v363 v370 v377 v384 v391 v398 v405 v412 v419 v426 v433 v440 v447 v454 v461 v468 v473 k0_hw65 k0_h1 => k0_hw65.1.1 k0_h1
theorem k0_off70_inb : ∀ (v12 : BitVec 32) (v19 : BitVec 32) (v26 : BitVec 32) (v33 : BitVec 32) (v40 : BitVec 32) (v47 : BitVec 32) (v54 : BitVec 32) (v61 : BitVec 32) (v68 : BitVec 32) (v75 : BitVec 32) (v82 : BitVec 32) (v89 : BitVec 32) (v96 : BitVec 32) (v103 : BitVec 32) (v110 : BitVec 32) (v117 : BitVec 32) (v122 : BitVec 32) (v129 : BitVec 32) (v136 : BitVec 32) (v143 : BitVec 32) (v150 : BitVec 32) (v157 : BitVec 32) (v164 : BitVec 32) (v171 : BitVec 32) (v178 : BitVec 32) (v185 : BitVec 32) (v192 : BitVec 32) (v199 : BitVec 32) (v206 : BitVec 32) (v213 : BitVec 32) (v220 : BitVec 32) (v227 : BitVec 32) (v234 : BitVec 32) (v239 : BitVec 32) (v246 : BitVec 32) (v253 : BitVec 32) (v260 : BitVec 32) (v267 : BitVec 32) (v274 : BitVec 32) (v281 : BitVec 32) (v288 : BitVec 32) (v295 : BitVec 32) (v302 : BitVec 32) (v309 : BitVec 32) (v316 : BitVec 32) (v323 : BitVec 32) (v330 : BitVec 32) (v337 : BitVec 32) (v344 : BitVec 32) (v351 : BitVec 32) (v356 : BitVec 32) (v363 : BitVec 32) (v370 : BitVec 32) (v377 : BitVec 32) (v384 : BitVec 32) (v391 : BitVec 32) (v398 : BitVec 32) (v405 : BitVec 32) (v412 : BitVec 32) (v419 : BitVec 32) (v426 : BitVec 32) (v433 : BitVec 32) (v440 : BitVec 32) (v447 : BitVec 32) (v454 : BitVec 32) (v461 : BitVec 32) (v468 : BitVec 32) (v473 : BitVec 32) (k0_hw65 : k0_chk65 v12 v19 v26 v33 v40 v47 v54 v61 v68 v75 v82 v89 v96 v103 v110 v117 v122 v129 v136 v143 v150 v157 v164 v171 v178 v185 v192 v199 v206 v213 v220 v227 v234 v239 v246 v253 v260 v267 v274 v281 v288 v295 v302 v309 v316 v323 v330 v337 v344 v351 v356 v363 v370 v377 v384 v391 v398 v405 v412 v419 v426 v433 v440 v447 v454 v461 v468 v473), ∀ (k0_h1 : k0_cond1 v122 v239 v356 v473 = 1#1), ∀ a, (k0_off70 v19) a + S1x1x64x512.size a ≤ S1x16x1296x512.size a := fun v12 v19 v26 v33 v40 v47 v54 v61 v68 v75 v82 v89 v96 v103 v110 v117 v122 v129 v136 v143 v150 v157 v164 v171 v178 v185 v192 v199 v206 v213 v220 v227 v234 v239 v246 v253 v260 v267 v274 v281 v288 v295 v302 v309 v316 v323 v330 v337 v344 v351 v356 v363 v370 v377 v384 v391 v398 v405 v412 v419 v426 v433 v440 v447 v454 v461 v468 v473 k0_hw65 k0_h1 => k0_hw65.1.2.1 k0_h1
theorem k0_off71_inb : ∀ (v12 : BitVec 32) (v19 : BitVec 32) (v26 : BitVec 32) (v33 : BitVec 32) (v40 : BitVec 32) (v47 : BitVec 32) (v54 : BitVec 32) (v61 : BitVec 32) (v68 : BitVec 32) (v75 : BitVec 32) (v82 : BitVec 32) (v89 : BitVec 32) (v96 : BitVec 32) (v103 : BitVec 32) (v110 : BitVec 32) (v117 : BitVec 32) (v122 : BitVec 32) (v129 : BitVec 32) (v136 : BitVec 32) (v143 : BitVec 32) (v150 : BitVec 32) (v157 : BitVec 32) (v164 : BitVec 32) (v171 : BitVec 32) (v178 : BitVec 32) (v185 : BitVec 32) (v192 : BitVec 32) (v199 : BitVec 32) (v206 : BitVec 32) (v213 : BitVec 32) (v220 : BitVec 32) (v227 : BitVec 32) (v234 : BitVec 32) (v239 : BitVec 32) (v246 : BitVec 32) (v253 : BitVec 32) (v260 : BitVec 32) (v267 : BitVec 32) (v274 : BitVec 32) (v281 : BitVec 32) (v288 : BitVec 32) (v295 : BitVec 32) (v302 : BitVec 32) (v309 : BitVec 32) (v316 : BitVec 32) (v323 : BitVec 32) (v330 : BitVec 32) (v337 : BitVec 32) (v344 : BitVec 32) (v351 : BitVec 32) (v356 : BitVec 32) (v363 : BitVec 32) (v370 : BitVec 32) (v377 : BitVec 32) (v384 : BitVec 32) (v391 : BitVec 32) (v398 : BitVec 32) (v405 : BitVec 32) (v412 : BitVec 32) (v419 : BitVec 32) (v426 : BitVec 32) (v433 : BitVec 32) (v440 : BitVec 32) (v447 : BitVec 32) (v454 : BitVec 32) (v461 : BitVec 32) (v468 : BitVec 32) (v473 : BitVec 32) (k0_hw65 : k0_chk65 v12 v19 v26 v33 v40 v47 v54 v61 v68 v75 v82 v89 v96 v103 v110 v117 v122 v129 v136 v143 v150 v157 v164 v171 v178 v185 v192 v199 v206 v213 v220 v227 v234 v239 v246 v253 v260 v267 v274 v281 v288 v295 v302 v309 v316 v323 v330 v337 v344 v351 v356 v363 v370 v377 v384 v391 v398 v405 v412 v419 v426 v433 v440 v447 v454 v461 v468 v473), ∀ (k0_h1 : k0_cond1 v122 v239 v356 v473 = 1#1), ∀ a, (k0_off71 v26) a + S1x1x64x512.size a ≤ S1x16x1296x512.size a := fun v12 v19 v26 v33 v40 v47 v54 v61 v68 v75 v82 v89 v96 v103 v110 v117 v122 v129 v136 v143 v150 v157 v164 v171 v178 v185 v192 v199 v206 v213 v220 v227 v234 v239 v246 v253 v260 v267 v274 v281 v288 v295 v302 v309 v316 v323 v330 v337 v344 v351 v356 v363 v370 v377 v384 v391 v398 v405 v412 v419 v426 v433 v440 v447 v454 v461 v468 v473 k0_hw65 k0_h1 => k0_hw65.1.2.2.1 k0_h1
theorem k0_off72_inb : ∀ (v12 : BitVec 32) (v19 : BitVec 32) (v26 : BitVec 32) (v33 : BitVec 32) (v40 : BitVec 32) (v47 : BitVec 32) (v54 : BitVec 32) (v61 : BitVec 32) (v68 : BitVec 32) (v75 : BitVec 32) (v82 : BitVec 32) (v89 : BitVec 32) (v96 : BitVec 32) (v103 : BitVec 32) (v110 : BitVec 32) (v117 : BitVec 32) (v122 : BitVec 32) (v129 : BitVec 32) (v136 : BitVec 32) (v143 : BitVec 32) (v150 : BitVec 32) (v157 : BitVec 32) (v164 : BitVec 32) (v171 : BitVec 32) (v178 : BitVec 32) (v185 : BitVec 32) (v192 : BitVec 32) (v199 : BitVec 32) (v206 : BitVec 32) (v213 : BitVec 32) (v220 : BitVec 32) (v227 : BitVec 32) (v234 : BitVec 32) (v239 : BitVec 32) (v246 : BitVec 32) (v253 : BitVec 32) (v260 : BitVec 32) (v267 : BitVec 32) (v274 : BitVec 32) (v281 : BitVec 32) (v288 : BitVec 32) (v295 : BitVec 32) (v302 : BitVec 32) (v309 : BitVec 32) (v316 : BitVec 32) (v323 : BitVec 32) (v330 : BitVec 32) (v337 : BitVec 32) (v344 : BitVec 32) (v351 : BitVec 32) (v356 : BitVec 32) (v363 : BitVec 32) (v370 : BitVec 32) (v377 : BitVec 32) (v384 : BitVec 32) (v391 : BitVec 32) (v398 : BitVec 32) (v405 : BitVec 32) (v412 : BitVec 32) (v419 : BitVec 32) (v426 : BitVec 32) (v433 : BitVec 32) (v440 : BitVec 32) (v447 : BitVec 32) (v454 : BitVec 32) (v461 : BitVec 32) (v468 : BitVec 32) (v473 : BitVec 32) (k0_hw65 : k0_chk65 v12 v19 v26 v33 v40 v47 v54 v61 v68 v75 v82 v89 v96 v103 v110 v117 v122 v129 v136 v143 v150 v157 v164 v171 v178 v185 v192 v199 v206 v213 v220 v227 v234 v239 v246 v253 v260 v267 v274 v281 v288 v295 v302 v309 v316 v323 v330 v337 v344 v351 v356 v363 v370 v377 v384 v391 v398 v405 v412 v419 v426 v433 v440 v447 v454 v461 v468 v473), ∀ (k0_h1 : k0_cond1 v122 v239 v356 v473 = 1#1), ∀ a, (k0_off72 v33) a + S1x1x64x512.size a ≤ S1x16x1296x512.size a := fun v12 v19 v26 v33 v40 v47 v54 v61 v68 v75 v82 v89 v96 v103 v110 v117 v122 v129 v136 v143 v150 v157 v164 v171 v178 v185 v192 v199 v206 v213 v220 v227 v234 v239 v246 v253 v260 v267 v274 v281 v288 v295 v302 v309 v316 v323 v330 v337 v344 v351 v356 v363 v370 v377 v384 v391 v398 v405 v412 v419 v426 v433 v440 v447 v454 v461 v468 v473 k0_hw65 k0_h1 => k0_hw65.1.2.2.2.1 k0_h1
theorem k0_off73_inb : ∀ (v12 : BitVec 32) (v19 : BitVec 32) (v26 : BitVec 32) (v33 : BitVec 32) (v40 : BitVec 32) (v47 : BitVec 32) (v54 : BitVec 32) (v61 : BitVec 32) (v68 : BitVec 32) (v75 : BitVec 32) (v82 : BitVec 32) (v89 : BitVec 32) (v96 : BitVec 32) (v103 : BitVec 32) (v110 : BitVec 32) (v117 : BitVec 32) (v122 : BitVec 32) (v129 : BitVec 32) (v136 : BitVec 32) (v143 : BitVec 32) (v150 : BitVec 32) (v157 : BitVec 32) (v164 : BitVec 32) (v171 : BitVec 32) (v178 : BitVec 32) (v185 : BitVec 32) (v192 : BitVec 32) (v199 : BitVec 32) (v206 : BitVec 32) (v213 : BitVec 32) (v220 : BitVec 32) (v227 : BitVec 32) (v234 : BitVec 32) (v239 : BitVec 32) (v246 : BitVec 32) (v253 : BitVec 32) (v260 : BitVec 32) (v267 : BitVec 32) (v274 : BitVec 32) (v281 : BitVec 32) (v288 : BitVec 32) (v295 : BitVec 32) (v302 : BitVec 32) (v309 : BitVec 32) (v316 : BitVec 32) (v323 : BitVec 32) (v330 : BitVec 32) (v337 : BitVec 32) (v344 : BitVec 32) (v351 : BitVec 32) (v356 : BitVec 32) (v363 : BitVec 32) (v370 : BitVec 32) (v377 : BitVec 32) (v384 : BitVec 32) (v391 : BitVec 32) (v398 : BitVec 32) (v405 : BitVec 32) (v412 : BitVec 32) (v419 : BitVec 32) (v426 : BitVec 32) (v433 : BitVec 32) (v440 : BitVec 32) (v447 : BitVec 32) (v454 : BitVec 32) (v461 : BitVec 32) (v468 : BitVec 32) (v473 : BitVec 32) (k0_hw65 : k0_chk65 v12 v19 v26 v33 v40 v47 v54 v61 v68 v75 v82 v89 v96 v103 v110 v117 v122 v129 v136 v143 v150 v157 v164 v171 v178 v185 v192 v199 v206 v213 v220 v227 v234 v239 v246 v253 v260 v267 v274 v281 v288 v295 v302 v309 v316 v323 v330 v337 v344 v351 v356 v363 v370 v377 v384 v391 v398 v405 v412 v419 v426 v433 v440 v447 v454 v461 v468 v473), ∀ (k0_h1 : k0_cond1 v122 v239 v356 v473 = 1#1), ∀ a, (k0_off73 v40) a + S1x1x64x512.size a ≤ S1x16x1296x512.size a := fun v12 v19 v26 v33 v40 v47 v54 v61 v68 v75 v82 v89 v96 v103 v110 v117 v122 v129 v136 v143 v150 v157 v164 v171 v178 v185 v192 v199 v206 v213 v220 v227 v234 v239 v246 v253 v260 v267 v274 v281 v288 v295 v302 v309 v316 v323 v330 v337 v344 v351 v356 v363 v370 v377 v384 v391 v398 v405 v412 v419 v426 v433 v440 v447 v454 v461 v468 v473 k0_hw65 k0_h1 => k0_hw65.1.2.2.2.2.1 k0_h1
theorem k0_off74_inb : ∀ (v12 : BitVec 32) (v19 : BitVec 32) (v26 : BitVec 32) (v33 : BitVec 32) (v40 : BitVec 32) (v47 : BitVec 32) (v54 : BitVec 32) (v61 : BitVec 32) (v68 : BitVec 32) (v75 : BitVec 32) (v82 : BitVec 32) (v89 : BitVec 32) (v96 : BitVec 32) (v103 : BitVec 32) (v110 : BitVec 32) (v117 : BitVec 32) (v122 : BitVec 32) (v129 : BitVec 32) (v136 : BitVec 32) (v143 : BitVec 32) (v150 : BitVec 32) (v157 : BitVec 32) (v164 : BitVec 32) (v171 : BitVec 32) (v178 : BitVec 32) (v185 : BitVec 32) (v192 : BitVec 32) (v199 : BitVec 32) (v206 : BitVec 32) (v213 : BitVec 32) (v220 : BitVec 32) (v227 : BitVec 32) (v234 : BitVec 32) (v239 : BitVec 32) (v246 : BitVec 32) (v253 : BitVec 32) (v260 : BitVec 32) (v267 : BitVec 32) (v274 : BitVec 32) (v281 : BitVec 32) (v288 : BitVec 32) (v295 : BitVec 32) (v302 : BitVec 32) (v309 : BitVec 32) (v316 : BitVec 32) (v323 : BitVec 32) (v330 : BitVec 32) (v337 : BitVec 32) (v344 : BitVec 32) (v351 : BitVec 32) (v356 : BitVec 32) (v363 : BitVec 32) (v370 : BitVec 32) (v377 : BitVec 32) (v384 : BitVec 32) (v391 : BitVec 32) (v398 : BitVec 32) (v405 : BitVec 32) (v412 : BitVec 32) (v419 : BitVec 32) (v426 : BitVec 32) (v433 : BitVec 32) (v440 : BitVec 32) (v447 : BitVec 32) (v454 : BitVec 32) (v461 : BitVec 32) (v468 : BitVec 32) (v473 : BitVec 32) (k0_hw65 : k0_chk65 v12 v19 v26 v33 v40 v47 v54 v61 v68 v75 v82 v89 v96 v103 v110 v117 v122 v129 v136 v143 v150 v157 v164 v171 v178 v185 v192 v199 v206 v213 v220 v227 v234 v239 v246 v253 v260 v267 v274 v281 v288 v295 v302 v309 v316 v323 v330 v337 v344 v351 v356 v363 v370 v377 v384 v391 v398 v405 v412 v419 v426 v433 v440 v447 v454 v461 v468 v473), ∀ (k0_h1 : k0_cond1 v122 v239 v356 v473 = 1#1), ∀ a, (k0_off74 v47) a + S1x1x64x512.size a ≤ S1x16x1296x512.size a := fun v12 v19 v26 v33 v40 v47 v54 v61 v68 v75 v82 v89 v96 v103 v110 v117 v122 v129 v136 v143 v150 v157 v164 v171 v178 v185 v192 v199 v206 v213 v220 v227 v234 v239 v246 v253 v260 v267 v274 v281 v288 v295 v302 v309 v316 v323 v330 v337 v344 v351 v356 v363 v370 v377 v384 v391 v398 v405 v412 v419 v426 v433 v440 v447 v454 v461 v468 v473 k0_hw65 k0_h1 => k0_hw65.1.2.2.2.2.2.1 k0_h1
theorem k0_off75_inb : ∀ (v12 : BitVec 32) (v19 : BitVec 32) (v26 : BitVec 32) (v33 : BitVec 32) (v40 : BitVec 32) (v47 : BitVec 32) (v54 : BitVec 32) (v61 : BitVec 32) (v68 : BitVec 32) (v75 : BitVec 32) (v82 : BitVec 32) (v89 : BitVec 32) (v96 : BitVec 32) (v103 : BitVec 32) (v110 : BitVec 32) (v117 : BitVec 32) (v122 : BitVec 32) (v129 : BitVec 32) (v136 : BitVec 32) (v143 : BitVec 32) (v150 : BitVec 32) (v157 : BitVec 32) (v164 : BitVec 32) (v171 : BitVec 32) (v178 : BitVec 32) (v185 : BitVec 32) (v192 : BitVec 32) (v199 : BitVec 32) (v206 : BitVec 32) (v213 : BitVec 32) (v220 : BitVec 32) (v227 : BitVec 32) (v234 : BitVec 32) (v239 : BitVec 32) (v246 : BitVec 32) (v253 : BitVec 32) (v260 : BitVec 32) (v267 : BitVec 32) (v274 : BitVec 32) (v281 : BitVec 32) (v288 : BitVec 32) (v295 : BitVec 32) (v302 : BitVec 32) (v309 : BitVec 32) (v316 : BitVec 32) (v323 : BitVec 32) (v330 : BitVec 32) (v337 : BitVec 32) (v344 : BitVec 32) (v351 : BitVec 32) (v356 : BitVec 32) (v363 : BitVec 32) (v370 : BitVec 32) (v377 : BitVec 32) (v384 : BitVec 32) (v391 : BitVec 32) (v398 : BitVec 32) (v405 : BitVec 32) (v412 : BitVec 32) (v419 : BitVec 32) (v426 : BitVec 32) (v433 : BitVec 32) (v440 : BitVec 32) (v447 : BitVec 32) (v454 : BitVec 32) (v461 : BitVec 32) (v468 : BitVec 32) (v473 : BitVec 32) (k0_hw65 : k0_chk65 v12 v19 v26 v33 v40 v47 v54 v61 v68 v75 v82 v89 v96 v103 v110 v117 v122 v129 v136 v143 v150 v157 v164 v171 v178 v185 v192 v199 v206 v213 v220 v227 v234 v239 v246 v253 v260 v267 v274 v281 v288 v295 v302 v309 v316 v323 v330 v337 v344 v351 v356 v363 v370 v377 v384 v391 v398 v405 v412 v419 v426 v433 v440 v447 v454 v461 v468 v473), ∀ (k0_h1 : k0_cond1 v122 v239 v356 v473 = 1#1), ∀ a, (k0_off75 v54) a + S1x1x64x512.size a ≤ S1x16x1296x512.size a := fun v12 v19 v26 v33 v40 v47 v54 v61 v68 v75 v82 v89 v96 v103 v110 v117 v122 v129 v136 v143 v150 v157 v164 v171 v178 v185 v192 v199 v206 v213 v220 v227 v234 v239 v246 v253 v260 v267 v274 v281 v288 v295 v302 v309 v316 v323 v330 v337 v344 v351 v356 v363 v370 v377 v384 v391 v398 v405 v412 v419 v426 v433 v440 v447 v454 v461 v468 v473 k0_hw65 k0_h1 => k0_hw65.1.2.2.2.2.2.2.1 k0_h1
theorem k0_off76_inb : ∀ (v12 : BitVec 32) (v19 : BitVec 32) (v26 : BitVec 32) (v33 : BitVec 32) (v40 : BitVec 32) (v47 : BitVec 32) (v54 : BitVec 32) (v61 : BitVec 32) (v68 : BitVec 32) (v75 : BitVec 32) (v82 : BitVec 32) (v89 : BitVec 32) (v96 : BitVec 32) (v103 : BitVec 32) (v110 : BitVec 32) (v117 : BitVec 32) (v122 : BitVec 32) (v129 : BitVec 32) (v136 : BitVec 32) (v143 : BitVec 32) (v150 : BitVec 32) (v157 : BitVec 32) (v164 : BitVec 32) (v171 : BitVec 32) (v178 : BitVec 32) (v185 : BitVec 32) (v192 : BitVec 32) (v199 : BitVec 32) (v206 : BitVec 32) (v213 : BitVec 32) (v220 : BitVec 32) (v227 : BitVec 32) (v234 : BitVec 32) (v239 : BitVec 32) (v246 : BitVec 32) (v253 : BitVec 32) (v260 : BitVec 32) (v267 : BitVec 32) (v274 : BitVec 32) (v281 : BitVec 32) (v288 : BitVec 32) (v295 : BitVec 32) (v302 : BitVec 32) (v309 : BitVec 32) (v316 : BitVec 32) (v323 : BitVec 32) (v330 : BitVec 32) (v337 : BitVec 32) (v344 : BitVec 32) (v351 : BitVec 32) (v356 : BitVec 32) (v363 : BitVec 32) (v370 : BitVec 32) (v377 : BitVec 32) (v384 : BitVec 32) (v391 : BitVec 32) (v398 : BitVec 32) (v405 : BitVec 32) (v412 : BitVec 32) (v419 : BitVec 32) (v426 : BitVec 32) (v433 : BitVec 32) (v440 : BitVec 32) (v447 : BitVec 32) (v454 : BitVec 32) (v461 : BitVec 32) (v468 : BitVec 32) (v473 : BitVec 32) (k0_hw65 : k0_chk65 v12 v19 v26 v33 v40 v47 v54 v61 v68 v75 v82 v89 v96 v103 v110 v117 v122 v129 v136 v143 v150 v157 v164 v171 v178 v185 v192 v199 v206 v213 v220 v227 v234 v239 v246 v253 v260 v267 v274 v281 v288 v295 v302 v309 v316 v323 v330 v337 v344 v351 v356 v363 v370 v377 v384 v391 v398 v405 v412 v419 v426 v433 v440 v447 v454 v461 v468 v473), ∀ (k0_h1 : k0_cond1 v122 v239 v356 v473 = 1#1), ∀ a, (k0_off76 v61) a + S1x1x64x512.size a ≤ S1x16x1296x512.size a := fun v12 v19 v26 v33 v40 v47 v54 v61 v68 v75 v82 v89 v96 v103 v110 v117 v122 v129 v136 v143 v150 v157 v164 v171 v178 v185 v192 v199 v206 v213 v220 v227 v234 v239 v246 v253 v260 v267 v274 v281 v288 v295 v302 v309 v316 v323 v330 v337 v344 v351 v356 v363 v370 v377 v384 v391 v398 v405 v412 v419 v426 v433 v440 v447 v454 v461 v468 v473 k0_hw65 k0_h1 => k0_hw65.1.2.2.2.2.2.2.2.1 k0_h1
theorem k0_off77_inb : ∀ (v12 : BitVec 32) (v19 : BitVec 32) (v26 : BitVec 32) (v33 : BitVec 32) (v40 : BitVec 32) (v47 : BitVec 32) (v54 : BitVec 32) (v61 : BitVec 32) (v68 : BitVec 32) (v75 : BitVec 32) (v82 : BitVec 32) (v89 : BitVec 32) (v96 : BitVec 32) (v103 : BitVec 32) (v110 : BitVec 32) (v117 : BitVec 32) (v122 : BitVec 32) (v129 : BitVec 32) (v136 : BitVec 32) (v143 : BitVec 32) (v150 : BitVec 32) (v157 : BitVec 32) (v164 : BitVec 32) (v171 : BitVec 32) (v178 : BitVec 32) (v185 : BitVec 32) (v192 : BitVec 32) (v199 : BitVec 32) (v206 : BitVec 32) (v213 : BitVec 32) (v220 : BitVec 32) (v227 : BitVec 32) (v234 : BitVec 32) (v239 : BitVec 32) (v246 : BitVec 32) (v253 : BitVec 32) (v260 : BitVec 32) (v267 : BitVec 32) (v274 : BitVec 32) (v281 : BitVec 32) (v288 : BitVec 32) (v295 : BitVec 32) (v302 : BitVec 32) (v309 : BitVec 32) (v316 : BitVec 32) (v323 : BitVec 32) (v330 : BitVec 32) (v337 : BitVec 32) (v344 : BitVec 32) (v351 : BitVec 32) (v356 : BitVec 32) (v363 : BitVec 32) (v370 : BitVec 32) (v377 : BitVec 32) (v384 : BitVec 32) (v391 : BitVec 32) (v398 : BitVec 32) (v405 : BitVec 32) (v412 : BitVec 32) (v419 : BitVec 32) (v426 : BitVec 32) (v433 : BitVec 32) (v440 : BitVec 32) (v447 : BitVec 32) (v454 : BitVec 32) (v461 : BitVec 32) (v468 : BitVec 32) (v473 : BitVec 32) (k0_hw65 : k0_chk65 v12 v19 v26 v33 v40 v47 v54 v61 v68 v75 v82 v89 v96 v103 v110 v117 v122 v129 v136 v143 v150 v157 v164 v171 v178 v185 v192 v199 v206 v213 v220 v227 v234 v239 v246 v253 v260 v267 v274 v281 v288 v295 v302 v309 v316 v323 v330 v337 v344 v351 v356 v363 v370 v377 v384 v391 v398 v405 v412 v419 v426 v433 v440 v447 v454 v461 v468 v473), ∀ (k0_h1 : k0_cond1 v122 v239 v356 v473 = 1#1), ∀ a, (k0_off77 v68) a + S1x1x64x512.size a ≤ S1x16x1296x512.size a := fun v12 v19 v26 v33 v40 v47 v54 v61 v68 v75 v82 v89 v96 v103 v110 v117 v122 v129 v136 v143 v150 v157 v164 v171 v178 v185 v192 v199 v206 v213 v220 v227 v234 v239 v246 v253 v260 v267 v274 v281 v288 v295 v302 v309 v316 v323 v330 v337 v344 v351 v356 v363 v370 v377 v384 v391 v398 v405 v412 v419 v426 v433 v440 v447 v454 v461 v468 v473 k0_hw65 k0_h1 => k0_hw65.1.2.2.2.2.2.2.2.2.1 k0_h1
theorem k0_off78_inb : ∀ (v12 : BitVec 32) (v19 : BitVec 32) (v26 : BitVec 32) (v33 : BitVec 32) (v40 : BitVec 32) (v47 : BitVec 32) (v54 : BitVec 32) (v61 : BitVec 32) (v68 : BitVec 32) (v75 : BitVec 32) (v82 : BitVec 32) (v89 : BitVec 32) (v96 : BitVec 32) (v103 : BitVec 32) (v110 : BitVec 32) (v117 : BitVec 32) (v122 : BitVec 32) (v129 : BitVec 32) (v136 : BitVec 32) (v143 : BitVec 32) (v150 : BitVec 32) (v157 : BitVec 32) (v164 : BitVec 32) (v171 : BitVec 32) (v178 : BitVec 32) (v185 : BitVec 32) (v192 : BitVec 32) (v199 : BitVec 32) (v206 : BitVec 32) (v213 : BitVec 32) (v220 : BitVec 32) (v227 : BitVec 32) (v234 : BitVec 32) (v239 : BitVec 32) (v246 : BitVec 32) (v253 : BitVec 32) (v260 : BitVec 32) (v267 : BitVec 32) (v274 : BitVec 32) (v281 : BitVec 32) (v288 : BitVec 32) (v295 : BitVec 32) (v302 : BitVec 32) (v309 : BitVec 32) (v316 : BitVec 32) (v323 : BitVec 32) (v330 : BitVec 32) (v337 : BitVec 32) (v344 : BitVec 32) (v351 : BitVec 32) (v356 : BitVec 32) (v363 : BitVec 32) (v370 : BitVec 32) (v377 : BitVec 32) (v384 : BitVec 32) (v391 : BitVec 32) (v398 : BitVec 32) (v405 : BitVec 32) (v412 : BitVec 32) (v419 : BitVec 32) (v426 : BitVec 32) (v433 : BitVec 32) (v440 : BitVec 32) (v447 : BitVec 32) (v454 : BitVec 32) (v461 : BitVec 32) (v468 : BitVec 32) (v473 : BitVec 32) (k0_hw65 : k0_chk65 v12 v19 v26 v33 v40 v47 v54 v61 v68 v75 v82 v89 v96 v103 v110 v117 v122 v129 v136 v143 v150 v157 v164 v171 v178 v185 v192 v199 v206 v213 v220 v227 v234 v239 v246 v253 v260 v267 v274 v281 v288 v295 v302 v309 v316 v323 v330 v337 v344 v351 v356 v363 v370 v377 v384 v391 v398 v405 v412 v419 v426 v433 v440 v447 v454 v461 v468 v473), ∀ (k0_h1 : k0_cond1 v122 v239 v356 v473 = 1#1), ∀ a, (k0_off78 v75) a + S1x1x64x512.size a ≤ S1x16x1296x512.size a := fun v12 v19 v26 v33 v40 v47 v54 v61 v68 v75 v82 v89 v96 v103 v110 v117 v122 v129 v136 v143 v150 v157 v164 v171 v178 v185 v192 v199 v206 v213 v220 v227 v234 v239 v246 v253 v260 v267 v274 v281 v288 v295 v302 v309 v316 v323 v330 v337 v344 v351 v356 v363 v370 v377 v384 v391 v398 v405 v412 v419 v426 v433 v440 v447 v454 v461 v468 v473 k0_hw65 k0_h1 => k0_hw65.1.2.2.2.2.2.2.2.2.2.1 k0_h1
theorem k0_off79_inb : ∀ (v12 : BitVec 32) (v19 : BitVec 32) (v26 : BitVec 32) (v33 : BitVec 32) (v40 : BitVec 32) (v47 : BitVec 32) (v54 : BitVec 32) (v61 : BitVec 32) (v68 : BitVec 32) (v75 : BitVec 32) (v82 : BitVec 32) (v89 : BitVec 32) (v96 : BitVec 32) (v103 : BitVec 32) (v110 : BitVec 32) (v117 : BitVec 32) (v122 : BitVec 32) (v129 : BitVec 32) (v136 : BitVec 32) (v143 : BitVec 32) (v150 : BitVec 32) (v157 : BitVec 32) (v164 : BitVec 32) (v171 : BitVec 32) (v178 : BitVec 32) (v185 : BitVec 32) (v192 : BitVec 32) (v199 : BitVec 32) (v206 : BitVec 32) (v213 : BitVec 32) (v220 : BitVec 32) (v227 : BitVec 32) (v234 : BitVec 32) (v239 : BitVec 32) (v246 : BitVec 32) (v253 : BitVec 32) (v260 : BitVec 32) (v267 : BitVec 32) (v274 : BitVec 32) (v281 : BitVec 32) (v288 : BitVec 32) (v295 : BitVec 32) (v302 : BitVec 32) (v309 : BitVec 32) (v316 : BitVec 32) (v323 : BitVec 32) (v330 : BitVec 32) (v337 : BitVec 32) (v344 : BitVec 32) (v351 : BitVec 32) (v356 : BitVec 32) (v363 : BitVec 32) (v370 : BitVec 32) (v377 : BitVec 32) (v384 : BitVec 32) (v391 : BitVec 32) (v398 : BitVec 32) (v405 : BitVec 32) (v412 : BitVec 32) (v419 : BitVec 32) (v426 : BitVec 32) (v433 : BitVec 32) (v440 : BitVec 32) (v447 : BitVec 32) (v454 : BitVec 32) (v461 : BitVec 32) (v468 : BitVec 32) (v473 : BitVec 32) (k0_hw65 : k0_chk65 v12 v19 v26 v33 v40 v47 v54 v61 v68 v75 v82 v89 v96 v103 v110 v117 v122 v129 v136 v143 v150 v157 v164 v171 v178 v185 v192 v199 v206 v213 v220 v227 v234 v239 v246 v253 v260 v267 v274 v281 v288 v295 v302 v309 v316 v323 v330 v337 v344 v351 v356 v363 v370 v377 v384 v391 v398 v405 v412 v419 v426 v433 v440 v447 v454 v461 v468 v473), ∀ (k0_h1 : k0_cond1 v122 v239 v356 v473 = 1#1), ∀ a, (k0_off79 v82) a + S1x1x64x512.size a ≤ S1x16x1296x512.size a := fun v12 v19 v26 v33 v40 v47 v54 v61 v68 v75 v82 v89 v96 v103 v110 v117 v122 v129 v136 v143 v150 v157 v164 v171 v178 v185 v192 v199 v206 v213 v220 v227 v234 v239 v246 v253 v260 v267 v274 v281 v288 v295 v302 v309 v316 v323 v330 v337 v344 v351 v356 v363 v370 v377 v384 v391 v398 v405 v412 v419 v426 v433 v440 v447 v454 v461 v468 v473 k0_hw65 k0_h1 => k0_hw65.1.2.2.2.2.2.2.2.2.2.2.1 k0_h1
theorem k0_off80_inb : ∀ (v12 : BitVec 32) (v19 : BitVec 32) (v26 : BitVec 32) (v33 : BitVec 32) (v40 : BitVec 32) (v47 : BitVec 32) (v54 : BitVec 32) (v61 : BitVec 32) (v68 : BitVec 32) (v75 : BitVec 32) (v82 : BitVec 32) (v89 : BitVec 32) (v96 : BitVec 32) (v103 : BitVec 32) (v110 : BitVec 32) (v117 : BitVec 32) (v122 : BitVec 32) (v129 : BitVec 32) (v136 : BitVec 32) (v143 : BitVec 32) (v150 : BitVec 32) (v157 : BitVec 32) (v164 : BitVec 32) (v171 : BitVec 32) (v178 : BitVec 32) (v185 : BitVec 32) (v192 : BitVec 32) (v199 : BitVec 32) (v206 : BitVec 32) (v213 : BitVec 32) (v220 : BitVec 32) (v227 : BitVec 32) (v234 : BitVec 32) (v239 : BitVec 32) (v246 : BitVec 32) (v253 : BitVec 32) (v260 : BitVec 32) (v267 : BitVec 32) (v274 : BitVec 32) (v281 : BitVec 32) (v288 : BitVec 32) (v295 : BitVec 32) (v302 : BitVec 32) (v309 : BitVec 32) (v316 : BitVec 32) (v323 : BitVec 32) (v330 : BitVec 32) (v337 : BitVec 32) (v344 : BitVec 32) (v351 : BitVec 32) (v356 : BitVec 32) (v363 : BitVec 32) (v370 : BitVec 32) (v377 : BitVec 32) (v384 : BitVec 32) (v391 : BitVec 32) (v398 : BitVec 32) (v405 : BitVec 32) (v412 : BitVec 32) (v419 : BitVec 32) (v426 : BitVec 32) (v433 : BitVec 32) (v440 : BitVec 32) (v447 : BitVec 32) (v454 : BitVec 32) (v461 : BitVec 32) (v468 : BitVec 32) (v473 : BitVec 32) (k0_hw65 : k0_chk65 v12 v19 v26 v33 v40 v47 v54 v61 v68 v75 v82 v89 v96 v103 v110 v117 v122 v129 v136 v143 v150 v157 v164 v171 v178 v185 v192 v199 v206 v213 v220 v227 v234 v239 v246 v253 v260 v267 v274 v281 v288 v295 v302 v309 v316 v323 v330 v337 v344 v351 v356 v363 v370 v377 v384 v391 v398 v405 v412 v419 v426 v433 v440 v447 v454 v461 v468 v473), ∀ (k0_h1 : k0_cond1 v122 v239 v356 v473 = 1#1), ∀ a, (k0_off80 v89) a + S1x1x64x512.size a ≤ S1x16x1296x512.size a := fun v12 v19 v26 v33 v40 v47 v54 v61 v68 v75 v82 v89 v96 v103 v110 v117 v122 v129 v136 v143 v150 v157 v164 v171 v178 v185 v192 v199 v206 v213 v220 v227 v234 v239 v246 v253 v260 v267 v274 v281 v288 v295 v302 v309 v316 v323 v330 v337 v344 v351 v356 v363 v370 v377 v384 v391 v398 v405 v412 v419 v426 v433 v440 v447 v454 v461 v468 v473 k0_hw65 k0_h1 => k0_hw65.1.2.2.2.2.2.2.2.2.2.2.2.1 k0_h1
theorem k0_off81_inb : ∀ (v12 : BitVec 32) (v19 : BitVec 32) (v26 : BitVec 32) (v33 : BitVec 32) (v40 : BitVec 32) (v47 : BitVec 32) (v54 : BitVec 32) (v61 : BitVec 32) (v68 : BitVec 32) (v75 : BitVec 32) (v82 : BitVec 32) (v89 : BitVec 32) (v96 : BitVec 32) (v103 : BitVec 32) (v110 : BitVec 32) (v117 : BitVec 32) (v122 : BitVec 32) (v129 : BitVec 32) (v136 : BitVec 32) (v143 : BitVec 32) (v150 : BitVec 32) (v157 : BitVec 32) (v164 : BitVec 32) (v171 : BitVec 32) (v178 : BitVec 32) (v185 : BitVec 32) (v192 : BitVec 32) (v199 : BitVec 32) (v206 : BitVec 32) (v213 : BitVec 32) (v220 : BitVec 32) (v227 : BitVec 32) (v234 : BitVec 32) (v239 : BitVec 32) (v246 : BitVec 32) (v253 : BitVec 32) (v260 : BitVec 32) (v267 : BitVec 32) (v274 : BitVec 32) (v281 : BitVec 32) (v288 : BitVec 32) (v295 : BitVec 32) (v302 : BitVec 32) (v309 : BitVec 32) (v316 : BitVec 32) (v323 : BitVec 32) (v330 : BitVec 32) (v337 : BitVec 32) (v344 : BitVec 32) (v351 : BitVec 32) (v356 : BitVec 32) (v363 : BitVec 32) (v370 : BitVec 32) (v377 : BitVec 32) (v384 : BitVec 32) (v391 : BitVec 32) (v398 : BitVec 32) (v405 : BitVec 32) (v412 : BitVec 32) (v419 : BitVec 32) (v426 : BitVec 32) (v433 : BitVec 32) (v440 : BitVec 32) (v447 : BitVec 32) (v454 : BitVec 32) (v461 : BitVec 32) (v468 : BitVec 32) (v473 : BitVec 32) (k0_hw65 : k0_chk65 v12 v19 v26 v33 v40 v47 v54 v61 v68 v75 v82 v89 v96 v103 v110 v117 v122 v129 v136 v143 v150 v157 v164 v171 v178 v185 v192 v199 v206 v213 v220 v227 v234 v239 v246 v253 v260 v267 v274 v281 v288 v295 v302 v309 v316 v323 v330 v337 v344 v351 v356 v363 v370 v377 v384 v391 v398 v405 v412 v419 v426 v433 v440 v447 v454 v461 v468 v473), ∀ (k0_h1 : k0_cond1 v122 v239 v356 v473 = 1#1), ∀ a, (k0_off81 v96) a + S1x1x64x512.size a ≤ S1x16x1296x512.size a := fun v12 v19 v26 v33 v40 v47 v54 v61 v68 v75 v82 v89 v96 v103 v110 v117 v122 v129 v136 v143 v150 v157 v164 v171 v178 v185 v192 v199 v206 v213 v220 v227 v234 v239 v246 v253 v260 v267 v274 v281 v288 v295 v302 v309 v316 v323 v330 v337 v344 v351 v356 v363 v370 v377 v384 v391 v398 v405 v412 v419 v426 v433 v440 v447 v454 v461 v468 v473 k0_hw65 k0_h1 => k0_hw65.1.2.2.2.2.2.2.2.2.2.2.2.2.1 k0_h1
theorem k0_off82_inb : ∀ (v12 : BitVec 32) (v19 : BitVec 32) (v26 : BitVec 32) (v33 : BitVec 32) (v40 : BitVec 32) (v47 : BitVec 32) (v54 : BitVec 32) (v61 : BitVec 32) (v68 : BitVec 32) (v75 : BitVec 32) (v82 : BitVec 32) (v89 : BitVec 32) (v96 : BitVec 32) (v103 : BitVec 32) (v110 : BitVec 32) (v117 : BitVec 32) (v122 : BitVec 32) (v129 : BitVec 32) (v136 : BitVec 32) (v143 : BitVec 32) (v150 : BitVec 32) (v157 : BitVec 32) (v164 : BitVec 32) (v171 : BitVec 32) (v178 : BitVec 32) (v185 : BitVec 32) (v192 : BitVec 32) (v199 : BitVec 32) (v206 : BitVec 32) (v213 : BitVec 32) (v220 : BitVec 32) (v227 : BitVec 32) (v234 : BitVec 32) (v239 : BitVec 32) (v246 : BitVec 32) (v253 : BitVec 32) (v260 : BitVec 32) (v267 : BitVec 32) (v274 : BitVec 32) (v281 : BitVec 32) (v288 : BitVec 32) (v295 : BitVec 32) (v302 : BitVec 32) (v309 : BitVec 32) (v316 : BitVec 32) (v323 : BitVec 32) (v330 : BitVec 32) (v337 : BitVec 32) (v344 : BitVec 32) (v351 : BitVec 32) (v356 : BitVec 32) (v363 : BitVec 32) (v370 : BitVec 32) (v377 : BitVec 32) (v384 : BitVec 32) (v391 : BitVec 32) (v398 : BitVec 32) (v405 : BitVec 32) (v412 : BitVec 32) (v419 : BitVec 32) (v426 : BitVec 32) (v433 : BitVec 32) (v440 : BitVec 32) (v447 : BitVec 32) (v454 : BitVec 32) (v461 : BitVec 32) (v468 : BitVec 32) (v473 : BitVec 32) (k0_hw65 : k0_chk65 v12 v19 v26 v33 v40 v47 v54 v61 v68 v75 v82 v89 v96 v103 v110 v117 v122 v129 v136 v143 v150 v157 v164 v171 v178 v185 v192 v199 v206 v213 v220 v227 v234 v239 v246 v253 v260 v267 v274 v281 v288 v295 v302 v309 v316 v323 v330 v337 v344 v351 v356 v363 v370 v377 v384 v391 v398 v405 v412 v419 v426 v433 v440 v447 v454 v461 v468 v473), ∀ (k0_h1 : k0_cond1 v122 v239 v356 v473 = 1#1), ∀ a, (k0_off82 v103) a + S1x1x64x512.size a ≤ S1x16x1296x512.size a := fun v12 v19 v26 v33 v40 v47 v54 v61 v68 v75 v82 v89 v96 v103 v110 v117 v122 v129 v136 v143 v150 v157 v164 v171 v178 v185 v192 v199 v206 v213 v220 v227 v234 v239 v246 v253 v260 v267 v274 v281 v288 v295 v302 v309 v316 v323 v330 v337 v344 v351 v356 v363 v370 v377 v384 v391 v398 v405 v412 v419 v426 v433 v440 v447 v454 v461 v468 v473 k0_hw65 k0_h1 => k0_hw65.1.2.2.2.2.2.2.2.2.2.2.2.2.2.1 k0_h1
theorem k0_off83_inb : ∀ (v12 : BitVec 32) (v19 : BitVec 32) (v26 : BitVec 32) (v33 : BitVec 32) (v40 : BitVec 32) (v47 : BitVec 32) (v54 : BitVec 32) (v61 : BitVec 32) (v68 : BitVec 32) (v75 : BitVec 32) (v82 : BitVec 32) (v89 : BitVec 32) (v96 : BitVec 32) (v103 : BitVec 32) (v110 : BitVec 32) (v117 : BitVec 32) (v122 : BitVec 32) (v129 : BitVec 32) (v136 : BitVec 32) (v143 : BitVec 32) (v150 : BitVec 32) (v157 : BitVec 32) (v164 : BitVec 32) (v171 : BitVec 32) (v178 : BitVec 32) (v185 : BitVec 32) (v192 : BitVec 32) (v199 : BitVec 32) (v206 : BitVec 32) (v213 : BitVec 32) (v220 : BitVec 32) (v227 : BitVec 32) (v234 : BitVec 32) (v239 : BitVec 32) (v246 : BitVec 32) (v253 : BitVec 32) (v260 : BitVec 32) (v267 : BitVec 32) (v274 : BitVec 32) (v281 : BitVec 32) (v288 : BitVec 32) (v295 : BitVec 32) (v302 : BitVec 32) (v309 : BitVec 32) (v316 : BitVec 32) (v323 : BitVec 32) (v330 : BitVec 32) (v337 : BitVec 32) (v344 : BitVec 32) (v351 : BitVec 32) (v356 : BitVec 32) (v363 : BitVec 32) (v370 : BitVec 32) (v377 : BitVec 32) (v384 : BitVec 32) (v391 : BitVec 32) (v398 : BitVec 32) (v405 : BitVec 32) (v412 : BitVec 32) (v419 : BitVec 32) (v426 : BitVec 32) (v433 : BitVec 32) (v440 : BitVec 32) (v447 : BitVec 32) (v454 : BitVec 32) (v461 : BitVec 32) (v468 : BitVec 32) (v473 : BitVec 32) (k0_hw65 : k0_chk65 v12 v19 v26 v33 v40 v47 v54 v61 v68 v75 v82 v89 v96 v103 v110 v117 v122 v129 v136 v143 v150 v157 v164 v171 v178 v185 v192 v199 v206 v213 v220 v227 v234 v239 v246 v253 v260 v267 v274 v281 v288 v295 v302 v309 v316 v323 v330 v337 v344 v351 v356 v363 v370 v377 v384 v391 v398 v405 v412 v419 v426 v433 v440 v447 v454 v461 v468 v473), ∀ (k0_h1 : k0_cond1 v122 v239 v356 v473 = 1#1), ∀ a, (k0_off83 v110) a + S1x1x64x512.size a ≤ S1x16x1296x512.size a := fun v12 v19 v26 v33 v40 v47 v54 v61 v68 v75 v82 v89 v96 v103 v110 v117 v122 v129 v136 v143 v150 v157 v164 v171 v178 v185 v192 v199 v206 v213 v220 v227 v234 v239 v246 v253 v260 v267 v274 v281 v288 v295 v302 v309 v316 v323 v330 v337 v344 v351 v356 v363 v370 v377 v384 v391 v398 v405 v412 v419 v426 v433 v440 v447 v454 v461 v468 v473 k0_hw65 k0_h1 => k0_hw65.1.2.2.2.2.2.2.2.2.2.2.2.2.2.2.1 k0_h1
theorem k0_off84_inb : ∀ (v12 : BitVec 32) (v19 : BitVec 32) (v26 : BitVec 32) (v33 : BitVec 32) (v40 : BitVec 32) (v47 : BitVec 32) (v54 : BitVec 32) (v61 : BitVec 32) (v68 : BitVec 32) (v75 : BitVec 32) (v82 : BitVec 32) (v89 : BitVec 32) (v96 : BitVec 32) (v103 : BitVec 32) (v110 : BitVec 32) (v117 : BitVec 32) (v122 : BitVec 32) (v129 : BitVec 32) (v136 : BitVec 32) (v143 : BitVec 32) (v150 : BitVec 32) (v157 : BitVec 32) (v164 : BitVec 32) (v171 : BitVec 32) (v178 : BitVec 32) (v185 : BitVec 32) (v192 : BitVec 32) (v199 : BitVec 32) (v206 : BitVec 32) (v213 : BitVec 32) (v220 : BitVec 32) (v227 : BitVec 32) (v234 : BitVec 32) (v239 : BitVec 32) (v246 : BitVec 32) (v253 : BitVec 32) (v260 : BitVec 32) (v267 : BitVec 32) (v274 : BitVec 32) (v281 : BitVec 32) (v288 : BitVec 32) (v295 : BitVec 32) (v302 : BitVec 32) (v309 : BitVec 32) (v316 : BitVec 32) (v323 : BitVec 32) (v330 : BitVec 32) (v337 : BitVec 32) (v344 : BitVec 32) (v351 : BitVec 32) (v356 : BitVec 32) (v363 : BitVec 32) (v370 : BitVec 32) (v377 : BitVec 32) (v384 : BitVec 32) (v391 : BitVec 32) (v398 : BitVec 32) (v405 : BitVec 32) (v412 : BitVec 32) (v419 : BitVec 32) (v426 : BitVec 32) (v433 : BitVec 32) (v440 : BitVec 32) (v447 : BitVec 32) (v454 : BitVec 32) (v461 : BitVec 32) (v468 : BitVec 32) (v473 : BitVec 32) (k0_hw65 : k0_chk65 v12 v19 v26 v33 v40 v47 v54 v61 v68 v75 v82 v89 v96 v103 v110 v117 v122 v129 v136 v143 v150 v157 v164 v171 v178 v185 v192 v199 v206 v213 v220 v227 v234 v239 v246 v253 v260 v267 v274 v281 v288 v295 v302 v309 v316 v323 v330 v337 v344 v351 v356 v363 v370 v377 v384 v391 v398 v405 v412 v419 v426 v433 v440 v447 v454 v461 v468 v473), ∀ (k0_h1 : k0_cond1 v122 v239 v356 v473 = 1#1), ∀ a, (k0_off84 v117) a + S1x1x64x512.size a ≤ S1x16x1296x512.size a := fun v12 v19 v26 v33 v40 v47 v54 v61 v68 v75 v82 v89 v96 v103 v110 v117 v122 v129 v136 v143 v150 v157 v164 v171 v178 v185 v192 v199 v206 v213 v220 v227 v234 v239 v246 v253 v260 v267 v274 v281 v288 v295 v302 v309 v316 v323 v330 v337 v344 v351 v356 v363 v370 v377 v384 v391 v398 v405 v412 v419 v426 v433 v440 v447 v454 v461 v468 v473 k0_hw65 k0_h1 => k0_hw65.1.2.2.2.2.2.2.2.2.2.2.2.2.2.2.2.1 k0_h1
theorem k0_off102_inb : ∀ (v12 : BitVec 32) (v19 : BitVec 32) (v26 : BitVec 32) (v33 : BitVec 32) (v40 : BitVec 32) (v47 : BitVec 32) (v54 : BitVec 32) (v61 : BitVec 32) (v68 : BitVec 32) (v75 : BitVec 32) (v82 : BitVec 32) (v89 : BitVec 32) (v96 : BitVec 32) (v103 : BitVec 32) (v110 : BitVec 32) (v117 : BitVec 32) (v122 : BitVec 32) (v129 : BitVec 32) (v136 : BitVec 32) (v143 : BitVec 32) (v150 : BitVec 32) (v157 : BitVec 32) (v164 : BitVec 32) (v171 : BitVec 32) (v178 : BitVec 32) (v185 : BitVec 32) (v192 : BitVec 32) (v199 : BitVec 32) (v206 : BitVec 32) (v213 : BitVec 32) (v220 : BitVec 32) (v227 : BitVec 32) (v234 : BitVec 32) (v239 : BitVec 32) (v246 : BitVec 32) (v253 : BitVec 32) (v260 : BitVec 32) (v267 : BitVec 32) (v274 : BitVec 32) (v281 : BitVec 32) (v288 : BitVec 32) (v295 : BitVec 32) (v302 : BitVec 32) (v309 : BitVec 32) (v316 : BitVec 32) (v323 : BitVec 32) (v330 : BitVec 32) (v337 : BitVec 32) (v344 : BitVec 32) (v351 : BitVec 32) (v356 : BitVec 32) (v363 : BitVec 32) (v370 : BitVec 32) (v377 : BitVec 32) (v384 : BitVec 32) (v391 : BitVec 32) (v398 : BitVec 32) (v405 : BitVec 32) (v412 : BitVec 32) (v419 : BitVec 32) (v426 : BitVec 32) (v433 : BitVec 32) (v440 : BitVec 32) (v447 : BitVec 32) (v454 : BitVec 32) (v461 : BitVec 32) (v468 : BitVec 32) (v473 : BitVec 32) (k0_hw65 : k0_chk65 v12 v19 v26 v33 v40 v47 v54 v61 v68 v75 v82 v89 v96 v103 v110 v117 v122 v129 v136 v143 v150 v157 v164 v171 v178 v185 v192 v199 v206 v213 v220 v227 v234 v239 v246 v253 v260 v267 v274 v281 v288 v295 v302 v309 v316 v323 v330 v337 v344 v351 v356 v363 v370 v377 v384 v391 v398 v405 v412 v419 v426 v433 v440 v447 v454 v461 v468 v473), ∀ (k0_h1 : k0_cond1 v122 v239 v356 v473 = 1#1), ∀ a, (k0_off102 v129) a + S1x1x64x512.size a ≤ S1x16x1296x512.size a := fun v12 v19 v26 v33 v40 v47 v54 v61 v68 v75 v82 v89 v96 v103 v110 v117 v122 v129 v136 v143 v150 v157 v164 v171 v178 v185 v192 v199 v206 v213 v220 v227 v234 v239 v246 v253 v260 v267 v274 v281 v288 v295 v302 v309 v316 v323 v330 v337 v344 v351 v356 v363 v370 v377 v384 v391 v398 v405 v412 v419 v426 v433 v440 v447 v454 v461 v468 v473 k0_hw65 k0_h1 => k0_hw65.1.2.2.2.2.2.2.2.2.2.2.2.2.2.2.2.2.1 k0_h1
theorem k0_off103_inb : ∀ (v12 : BitVec 32) (v19 : BitVec 32) (v26 : BitVec 32) (v33 : BitVec 32) (v40 : BitVec 32) (v47 : BitVec 32) (v54 : BitVec 32) (v61 : BitVec 32) (v68 : BitVec 32) (v75 : BitVec 32) (v82 : BitVec 32) (v89 : BitVec 32) (v96 : BitVec 32) (v103 : BitVec 32) (v110 : BitVec 32) (v117 : BitVec 32) (v122 : BitVec 32) (v129 : BitVec 32) (v136 : BitVec 32) (v143 : BitVec 32) (v150 : BitVec 32) (v157 : BitVec 32) (v164 : BitVec 32) (v171 : BitVec 32) (v178 : BitVec 32) (v185 : BitVec 32) (v192 : BitVec 32) (v199 : BitVec 32) (v206 : BitVec 32) (v213 : BitVec 32) (v220 : BitVec 32) (v227 : BitVec 32) (v234 : BitVec 32) (v239 : BitVec 32) (v246 : BitVec 32) (v253 : BitVec 32) (v260 : BitVec 32) (v267 : BitVec 32) (v274 : BitVec 32) (v281 : BitVec 32) (v288 : BitVec 32) (v295 : BitVec 32) (v302 : BitVec 32) (v309 : BitVec 32) (v316 : BitVec 32) (v323 : BitVec 32) (v330 : BitVec 32) (v337 : BitVec 32) (v344 : BitVec 32) (v351 : BitVec 32) (v356 : BitVec 32) (v363 : BitVec 32) (v370 : BitVec 32) (v377 : BitVec 32) (v384 : BitVec 32) (v391 : BitVec 32) (v398 : BitVec 32) (v405 : BitVec 32) (v412 : BitVec 32) (v419 : BitVec 32) (v426 : BitVec 32) (v433 : BitVec 32) (v440 : BitVec 32) (v447 : BitVec 32) (v454 : BitVec 32) (v461 : BitVec 32) (v468 : BitVec 32) (v473 : BitVec 32) (k0_hw65 : k0_chk65 v12 v19 v26 v33 v40 v47 v54 v61 v68 v75 v82 v89 v96 v103 v110 v117 v122 v129 v136 v143 v150 v157 v164 v171 v178 v185 v192 v199 v206 v213 v220 v227 v234 v239 v246 v253 v260 v267 v274 v281 v288 v295 v302 v309 v316 v323 v330 v337 v344 v351 v356 v363 v370 v377 v384 v391 v398 v405 v412 v419 v426 v433 v440 v447 v454 v461 v468 v473), ∀ (k0_h1 : k0_cond1 v122 v239 v356 v473 = 1#1), ∀ a, (k0_off103 v136) a + S1x1x64x512.size a ≤ S1x16x1296x512.size a := fun v12 v19 v26 v33 v40 v47 v54 v61 v68 v75 v82 v89 v96 v103 v110 v117 v122 v129 v136 v143 v150 v157 v164 v171 v178 v185 v192 v199 v206 v213 v220 v227 v234 v239 v246 v253 v260 v267 v274 v281 v288 v295 v302 v309 v316 v323 v330 v337 v344 v351 v356 v363 v370 v377 v384 v391 v398 v405 v412 v419 v426 v433 v440 v447 v454 v461 v468 v473 k0_hw65 k0_h1 => k0_hw65.1.2.2.2.2.2.2.2.2.2.2.2.2.2.2.2.2.2.1 k0_h1
theorem k0_off104_inb : ∀ (v12 : BitVec 32) (v19 : BitVec 32) (v26 : BitVec 32) (v33 : BitVec 32) (v40 : BitVec 32) (v47 : BitVec 32) (v54 : BitVec 32) (v61 : BitVec 32) (v68 : BitVec 32) (v75 : BitVec 32) (v82 : BitVec 32) (v89 : BitVec 32) (v96 : BitVec 32) (v103 : BitVec 32) (v110 : BitVec 32) (v117 : BitVec 32) (v122 : BitVec 32) (v129 : BitVec 32) (v136 : BitVec 32) (v143 : BitVec 32) (v150 : BitVec 32) (v157 : BitVec 32) (v164 : BitVec 32) (v171 : BitVec 32) (v178 : BitVec 32) (v185 : BitVec 32) (v192 : BitVec 32) (v199 : BitVec 32) (v206 : BitVec 32) (v213 : BitVec 32) (v220 : BitVec 32) (v227 : BitVec 32) (v234 : BitVec 32) (v239 : BitVec 32) (v246 : BitVec 32) (v253 : BitVec 32) (v260 : BitVec 32) (v267 : BitVec 32) (v274 : BitVec 32) (v281 : BitVec 32) (v288 : BitVec 32) (v295 : BitVec 32) (v302 : BitVec 32) (v309 : BitVec 32) (v316 : BitVec 32) (v323 : BitVec 32) (v330 : BitVec 32) (v337 : BitVec 32) (v344 : BitVec 32) (v351 : BitVec 32) (v356 : BitVec 32) (v363 : BitVec 32) (v370 : BitVec 32) (v377 : BitVec 32) (v384 : BitVec 32) (v391 : BitVec 32) (v398 : BitVec 32) (v405 : BitVec 32) (v412 : BitVec 32) (v419 : BitVec 32) (v426 : BitVec 32) (v433 : BitVec 32) (v440 : BitVec 32) (v447 : BitVec 32) (v454 : BitVec 32) (v461 : BitVec 32) (v468 : BitVec 32) (v473 : BitVec 32) (k0_hw65 : k0_chk65 v12 v19 v26 v33 v40 v47 v54 v61 v68 v75 v82 v89 v96 v103 v110 v117 v122 v129 v136 v143 v150 v157 v164 v171 v178 v185 v192 v199 v206 v213 v220 v227 v234 v239 v246 v253 v260 v267 v274 v281 v288 v295 v302 v309 v316 v323 v330 v337 v344 v351 v356 v363 v370 v377 v384 v391 v398 v405 v412 v419 v426 v433 v440 v447 v454 v461 v468 v473), ∀ (k0_h1 : k0_cond1 v122 v239 v356 v473 = 1#1), ∀ a, (k0_off104 v143) a + S1x1x64x512.size a ≤ S1x16x1296x512.size a := fun v12 v19 v26 v33 v40 v47 v54 v61 v68 v75 v82 v89 v96 v103 v110 v117 v122 v129 v136 v143 v150 v157 v164 v171 v178 v185 v192 v199 v206 v213 v220 v227 v234 v239 v246 v253 v260 v267 v274 v281 v288 v295 v302 v309 v316 v323 v330 v337 v344 v351 v356 v363 v370 v377 v384 v391 v398 v405 v412 v419 v426 v433 v440 v447 v454 v461 v468 v473 k0_hw65 k0_h1 => k0_hw65.1.2.2.2.2.2.2.2.2.2.2.2.2.2.2.2.2.2.2.1 k0_h1
theorem k0_off105_inb : ∀ (v12 : BitVec 32) (v19 : BitVec 32) (v26 : BitVec 32) (v33 : BitVec 32) (v40 : BitVec 32) (v47 : BitVec 32) (v54 : BitVec 32) (v61 : BitVec 32) (v68 : BitVec 32) (v75 : BitVec 32) (v82 : BitVec 32) (v89 : BitVec 32) (v96 : BitVec 32) (v103 : BitVec 32) (v110 : BitVec 32) (v117 : BitVec 32) (v122 : BitVec 32) (v129 : BitVec 32) (v136 : BitVec 32) (v143 : BitVec 32) (v150 : BitVec 32) (v157 : BitVec 32) (v164 : BitVec 32) (v171 : BitVec 32) (v178 : BitVec 32) (v185 : BitVec 32) (v192 : BitVec 32) (v199 : BitVec 32) (v206 : BitVec 32) (v213 : BitVec 32) (v220 : BitVec 32) (v227 : BitVec 32) (v234 : BitVec 32) (v239 : BitVec 32) (v246 : BitVec 32) (v253 : BitVec 32) (v260 : BitVec 32) (v267 : BitVec 32) (v274 : BitVec 32) (v281 : BitVec 32) (v288 : BitVec 32) (v295 : BitVec 32) (v302 : BitVec 32) (v309 : BitVec 32) (v316 : BitVec 32) (v323 : BitVec 32) (v330 : BitVec 32) (v337 : BitVec 32) (v344 : BitVec 32) (v351 : BitVec 32) (v356 : BitVec 32) (v363 : BitVec 32) (v370 : BitVec 32) (v377 : BitVec 32) (v384 : BitVec 32) (v391 : BitVec 32) (v398 : BitVec 32) (v405 : BitVec 32) (v412 : BitVec 32) (v419 : BitVec 32) (v426 : BitVec 32) (v433 : BitVec 32) (v440 : BitVec 32) (v447 : BitVec 32) (v454 : BitVec 32) (v461 : BitVec 32) (v468 : BitVec 32) (v473 : BitVec 32) (k0_hw65 : k0_chk65 v12 v19 v26 v33 v40 v47 v54 v61 v68 v75 v82 v89 v96 v103 v110 v117 v122 v129 v136 v143 v150 v157 v164 v171 v178 v185 v192 v199 v206 v213 v220 v227 v234 v239 v246 v253 v260 v267 v274 v281 v288 v295 v302 v309 v316 v323 v330 v337 v344 v351 v356 v363 v370 v377 v384 v391 v398 v405 v412 v419 v426 v433 v440 v447 v454 v461 v468 v473), ∀ (k0_h1 : k0_cond1 v122 v239 v356 v473 = 1#1), ∀ a, (k0_off105 v150) a + S1x1x64x512.size a ≤ S1x16x1296x512.size a := fun v12 v19 v26 v33 v40 v47 v54 v61 v68 v75 v82 v89 v96 v103 v110 v117 v122 v129 v136 v143 v150 v157 v164 v171 v178 v185 v192 v199 v206 v213 v220 v227 v234 v239 v246 v253 v260 v267 v274 v281 v288 v295 v302 v309 v316 v323 v330 v337 v344 v351 v356 v363 v370 v377 v384 v391 v398 v405 v412 v419 v426 v433 v440 v447 v454 v461 v468 v473 k0_hw65 k0_h1 => k0_hw65.1.2.2.2.2.2.2.2.2.2.2.2.2.2.2.2.2.2.2.2.1 k0_h1
theorem k0_off106_inb : ∀ (v12 : BitVec 32) (v19 : BitVec 32) (v26 : BitVec 32) (v33 : BitVec 32) (v40 : BitVec 32) (v47 : BitVec 32) (v54 : BitVec 32) (v61 : BitVec 32) (v68 : BitVec 32) (v75 : BitVec 32) (v82 : BitVec 32) (v89 : BitVec 32) (v96 : BitVec 32) (v103 : BitVec 32) (v110 : BitVec 32) (v117 : BitVec 32) (v122 : BitVec 32) (v129 : BitVec 32) (v136 : BitVec 32) (v143 : BitVec 32) (v150 : BitVec 32) (v157 : BitVec 32) (v164 : BitVec 32) (v171 : BitVec 32) (v178 : BitVec 32) (v185 : BitVec 32) (v192 : BitVec 32) (v199 : BitVec 32) (v206 : BitVec 32) (v213 : BitVec 32) (v220 : BitVec 32) (v227 : BitVec 32) (v234 : BitVec 32) (v239 : BitVec 32) (v246 : BitVec 32) (v253 : BitVec 32) (v260 : BitVec 32) (v267 : BitVec 32) (v274 : BitVec 32) (v281 : BitVec 32) (v288 : BitVec 32) (v295 : BitVec 32) (v302 : BitVec 32) (v309 : BitVec 32) (v316 : BitVec 32) (v323 : BitVec 32) (v330 : BitVec 32) (v337 : BitVec 32) (v344 : BitVec 32) (v351 : BitVec 32) (v356 : BitVec 32) (v363 : BitVec 32) (v370 : BitVec 32) (v377 : BitVec 32) (v384 : BitVec 32) (v391 : BitVec 32) (v398 : BitVec 32) (v405 : BitVec 32) (v412 : BitVec 32) (v419 : BitVec 32) (v426 : BitVec 32) (v433 : BitVec 32) (v440 : BitVec 32) (v447 : BitVec 32) (v454 : BitVec 32) (v461 : BitVec 32) (v468 : BitVec 32) (v473 : BitVec 32) (k0_hw65 : k0_chk65 v12 v19 v26 v33 v40 v47 v54 v61 v68 v75 v82 v89 v96 v103 v110 v117 v122 v129 v136 v143 v150 v157 v164 v171 v178 v185 v192 v199 v206 v213 v220 v227 v234 v239 v246 v253 v260 v267 v274 v281 v288 v295 v302 v309 v316 v323 v330 v337 v344 v351 v356 v363 v370 v377 v384 v391 v398 v405 v412 v419 v426 v433 v440 v447 v454 v461 v468 v473), ∀ (k0_h1 : k0_cond1 v122 v239 v356 v473 = 1#1), ∀ a, (k0_off106 v157) a + S1x1x64x512.size a ≤ S1x16x1296x512.size a := fun v12 v19 v26 v33 v40 v47 v54 v61 v68 v75 v82 v89 v96 v103 v110 v117 v122 v129 v136 v143 v150 v157 v164 v171 v178 v185 v192 v199 v206 v213 v220 v227 v234 v239 v246 v253 v260 v267 v274 v281 v288 v295 v302 v309 v316 v323 v330 v337 v344 v351 v356 v363 v370 v377 v384 v391 v398 v405 v412 v419 v426 v433 v440 v447 v454 v461 v468 v473 k0_hw65 k0_h1 => k0_hw65.1.2.2.2.2.2.2.2.2.2.2.2.2.2.2.2.2.2.2.2.2.1 k0_h1
theorem k0_off107_inb : ∀ (v12 : BitVec 32) (v19 : BitVec 32) (v26 : BitVec 32) (v33 : BitVec 32) (v40 : BitVec 32) (v47 : BitVec 32) (v54 : BitVec 32) (v61 : BitVec 32) (v68 : BitVec 32) (v75 : BitVec 32) (v82 : BitVec 32) (v89 : BitVec 32) (v96 : BitVec 32) (v103 : BitVec 32) (v110 : BitVec 32) (v117 : BitVec 32) (v122 : BitVec 32) (v129 : BitVec 32) (v136 : BitVec 32) (v143 : BitVec 32) (v150 : BitVec 32) (v157 : BitVec 32) (v164 : BitVec 32) (v171 : BitVec 32) (v178 : BitVec 32) (v185 : BitVec 32) (v192 : BitVec 32) (v199 : BitVec 32) (v206 : BitVec 32) (v213 : BitVec 32) (v220 : BitVec 32) (v227 : BitVec 32) (v234 : BitVec 32) (v239 : BitVec 32) (v246 : BitVec 32) (v253 : BitVec 32) (v260 : BitVec 32) (v267 : BitVec 32) (v274 : BitVec 32) (v281 : BitVec 32) (v288 : BitVec 32) (v295 : BitVec 32) (v302 : BitVec 32) (v309 : BitVec 32) (v316 : BitVec 32) (v323 : BitVec 32) (v330 : BitVec 32) (v337 : BitVec 32) (v344 : BitVec 32) (v351 : BitVec 32) (v356 : BitVec 32) (v363 : BitVec 32) (v370 : BitVec 32) (v377 : BitVec 32) (v384 : BitVec 32) (v391 : BitVec 32) (v398 : BitVec 32) (v405 : BitVec 32) (v412 : BitVec 32) (v419 : BitVec 32) (v426 : BitVec 32) (v433 : BitVec 32) (v440 : BitVec 32) (v447 : BitVec 32) (v454 : BitVec 32) (v461 : BitVec 32) (v468 : BitVec 32) (v473 : BitVec 32) (k0_hw65 : k0_chk65 v12 v19 v26 v33 v40 v47 v54 v61 v68 v75 v82 v89 v96 v103 v110 v117 v122 v129 v136 v143 v150 v157 v164 v171 v178 v185 v192 v199 v206 v213 v220 v227 v234 v239 v246 v253 v260 v267 v274 v281 v288 v295 v302 v309 v316 v323 v330 v337 v344 v351 v356 v363 v370 v377 v384 v391 v398 v405 v412 v419 v426 v433 v440 v447 v454 v461 v468 v473), ∀ (k0_h1 : k0_cond1 v122 v239 v356 v473 = 1#1), ∀ a, (k0_off107 v164) a + S1x1x64x512.size a ≤ S1x16x1296x512.size a := fun v12 v19 v26 v33 v40 v47 v54 v61 v68 v75 v82 v89 v96 v103 v110 v117 v122 v129 v136 v143 v150 v157 v164 v171 v178 v185 v192 v199 v206 v213 v220 v227 v234 v239 v246 v253 v260 v267 v274 v281 v288 v295 v302 v309 v316 v323 v330 v337 v344 v351 v356 v363 v370 v377 v384 v391 v398 v405 v412 v419 v426 v433 v440 v447 v454 v461 v468 v473 k0_hw65 k0_h1 => k0_hw65.1.2.2.2.2.2.2.2.2.2.2.2.2.2.2.2.2.2.2.2.2.2.1 k0_h1
theorem k0_off108_inb : ∀ (v12 : BitVec 32) (v19 : BitVec 32) (v26 : BitVec 32) (v33 : BitVec 32) (v40 : BitVec 32) (v47 : BitVec 32) (v54 : BitVec 32) (v61 : BitVec 32) (v68 : BitVec 32) (v75 : BitVec 32) (v82 : BitVec 32) (v89 : BitVec 32) (v96 : BitVec 32) (v103 : BitVec 32) (v110 : BitVec 32) (v117 : BitVec 32) (v122 : BitVec 32) (v129 : BitVec 32) (v136 : BitVec 32) (v143 : BitVec 32) (v150 : BitVec 32) (v157 : BitVec 32) (v164 : BitVec 32) (v171 : BitVec 32) (v178 : BitVec 32) (v185 : BitVec 32) (v192 : BitVec 32) (v199 : BitVec 32) (v206 : BitVec 32) (v213 : BitVec 32) (v220 : BitVec 32) (v227 : BitVec 32) (v234 : BitVec 32) (v239 : BitVec 32) (v246 : BitVec 32) (v253 : BitVec 32) (v260 : BitVec 32) (v267 : BitVec 32) (v274 : BitVec 32) (v281 : BitVec 32) (v288 : BitVec 32) (v295 : BitVec 32) (v302 : BitVec 32) (v309 : BitVec 32) (v316 : BitVec 32) (v323 : BitVec 32) (v330 : BitVec 32) (v337 : BitVec 32) (v344 : BitVec 32) (v351 : BitVec 32) (v356 : BitVec 32) (v363 : BitVec 32) (v370 : BitVec 32) (v377 : BitVec 32) (v384 : BitVec 32) (v391 : BitVec 32) (v398 : BitVec 32) (v405 : BitVec 32) (v412 : BitVec 32) (v419 : BitVec 32) (v426 : BitVec 32) (v433 : BitVec 32) (v440 : BitVec 32) (v447 : BitVec 32) (v454 : BitVec 32) (v461 : BitVec 32) (v468 : BitVec 32) (v473 : BitVec 32) (k0_hw65 : k0_chk65 v12 v19 v26 v33 v40 v47 v54 v61 v68 v75 v82 v89 v96 v103 v110 v117 v122 v129 v136 v143 v150 v157 v164 v171 v178 v185 v192 v199 v206 v213 v220 v227 v234 v239 v246 v253 v260 v267 v274 v281 v288 v295 v302 v309 v316 v323 v330 v337 v344 v351 v356 v363 v370 v377 v384 v391 v398 v405 v412 v419 v426 v433 v440 v447 v454 v461 v468 v473), ∀ (k0_h1 : k0_cond1 v122 v239 v356 v473 = 1#1), ∀ a, (k0_off108 v171) a + S1x1x64x512.size a ≤ S1x16x1296x512.size a := fun v12 v19 v26 v33 v40 v47 v54 v61 v68 v75 v82 v89 v96 v103 v110 v117 v122 v129 v136 v143 v150 v157 v164 v171 v178 v185 v192 v199 v206 v213 v220 v227 v234 v239 v246 v253 v260 v267 v274 v281 v288 v295 v302 v309 v316 v323 v330 v337 v344 v351 v356 v363 v370 v377 v384 v391 v398 v405 v412 v419 v426 v433 v440 v447 v454 v461 v468 v473 k0_hw65 k0_h1 => k0_hw65.1.2.2.2.2.2.2.2.2.2.2.2.2.2.2.2.2.2.2.2.2.2.2.1 k0_h1
theorem k0_off109_inb : ∀ (v12 : BitVec 32) (v19 : BitVec 32) (v26 : BitVec 32) (v33 : BitVec 32) (v40 : BitVec 32) (v47 : BitVec 32) (v54 : BitVec 32) (v61 : BitVec 32) (v68 : BitVec 32) (v75 : BitVec 32) (v82 : BitVec 32) (v89 : BitVec 32) (v96 : BitVec 32) (v103 : BitVec 32) (v110 : BitVec 32) (v117 : BitVec 32) (v122 : BitVec 32) (v129 : BitVec 32) (v136 : BitVec 32) (v143 : BitVec 32) (v150 : BitVec 32) (v157 : BitVec 32) (v164 : BitVec 32) (v171 : BitVec 32) (v178 : BitVec 32) (v185 : BitVec 32) (v192 : BitVec 32) (v199 : BitVec 32) (v206 : BitVec 32) (v213 : BitVec 32) (v220 : BitVec 32) (v227 : BitVec 32) (v234 : BitVec 32) (v239 : BitVec 32) (v246 : BitVec 32) (v253 : BitVec 32) (v260 : BitVec 32) (v267 : BitVec 32) (v274 : BitVec 32) (v281 : BitVec 32) (v288 : BitVec 32) (v295 : BitVec 32) (v302 : BitVec 32) (v309 : BitVec 32) (v316 : BitVec 32) (v323 : BitVec 32) (v330 : BitVec 32) (v337 : BitVec 32) (v344 : BitVec 32) (v351 : BitVec 32) (v356 : BitVec 32) (v363 : BitVec 32) (v370 : BitVec 32) (v377 : BitVec 32) (v384 : BitVec 32) (v391 : BitVec 32) (v398 : BitVec 32) (v405 : BitVec 32) (v412 : BitVec 32) (v419 : BitVec 32) (v426 : BitVec 32) (v433 : BitVec 32) (v440 : BitVec 32) (v447 : BitVec 32) (v454 : BitVec 32) (v461 : BitVec 32) (v468 : BitVec 32) (v473 : BitVec 32) (k0_hw65 : k0_chk65 v12 v19 v26 v33 v40 v47 v54 v61 v68 v75 v82 v89 v96 v103 v110 v117 v122 v129 v136 v143 v150 v157 v164 v171 v178 v185 v192 v199 v206 v213 v220 v227 v234 v239 v246 v253 v260 v267 v274 v281 v288 v295 v302 v309 v316 v323 v330 v337 v344 v351 v356 v363 v370 v377 v384 v391 v398 v405 v412 v419 v426 v433 v440 v447 v454 v461 v468 v473), ∀ (k0_h1 : k0_cond1 v122 v239 v356 v473 = 1#1), ∀ a, (k0_off109 v178) a + S1x1x64x512.size a ≤ S1x16x1296x512.size a := fun v12 v19 v26 v33 v40 v47 v54 v61 v68 v75 v82 v89 v96 v103 v110 v117 v122 v129 v136 v143 v150 v157 v164 v171 v178 v185 v192 v199 v206 v213 v220 v227 v234 v239 v246 v253 v260 v267 v274 v281 v288 v295 v302 v309 v316 v323 v330 v337 v344 v351 v356 v363 v370 v377 v384 v391 v398 v405 v412 v419 v426 v433 v440 v447 v454 v461 v468 v473 k0_hw65 k0_h1 => k0_hw65.1.2.2.2.2.2.2.2.2.2.2.2.2.2.2.2.2.2.2.2.2.2.2.2.1 k0_h1
theorem k0_off110_inb : ∀ (v12 : BitVec 32) (v19 : BitVec 32) (v26 : BitVec 32) (v33 : BitVec 32) (v40 : BitVec 32) (v47 : BitVec 32) (v54 : BitVec 32) (v61 : BitVec 32) (v68 : BitVec 32) (v75 : BitVec 32) (v82 : BitVec 32) (v89 : BitVec 32) (v96 : BitVec 32) (v103 : BitVec 32) (v110 : BitVec 32) (v117 : BitVec 32) (v122 : BitVec 32) (v129 : BitVec 32) (v136 : BitVec 32) (v143 : BitVec 32) (v150 : BitVec 32) (v157 : BitVec 32) (v164 : BitVec 32) (v171 : BitVec 32) (v178 : BitVec 32) (v185 : BitVec 32) (v192 : BitVec 32) (v199 : BitVec 32) (v206 : BitVec 32) (v213 : BitVec 32) (v220 : BitVec 32) (v227 : BitVec 32) (v234 : BitVec 32) (v239 : BitVec 32) (v246 : BitVec 32) (v253 : BitVec 32) (v260 : BitVec 32) (v267 : BitVec 32) (v274 : BitVec 32) (v281 : BitVec 32) (v288 : BitVec 32) (v295 : BitVec 32) (v302 : BitVec 32) (v309 : BitVec 32) (v316 : BitVec 32) (v323 : BitVec 32) (v330 : BitVec 32) (v337 : BitVec 32) (v344 : BitVec 32) (v351 : BitVec 32) (v356 : BitVec 32) (v363 : BitVec 32) (v370 : BitVec 32) (v377 : BitVec 32) (v384 : BitVec 32) (v391 : BitVec 32) (v398 : BitVec 32) (v405 : BitVec 32) (v412 : BitVec 32) (v419 : BitVec 32) (v426 : BitVec 32) (v433 : BitVec 32) (v440 : BitVec 32) (v447 : BitVec 32) (v454 : BitVec 32) (v461 : BitVec 32) (v468 : BitVec 32) (v473 : BitVec 32) (k0_hw65 : k0_chk65 v12 v19 v26 v33 v40 v47 v54 v61 v68 v75 v82 v89 v96 v103 v110 v117 v122 v129 v136 v143 v150 v157 v164 v171 v178 v185 v192 v199 v206 v213 v220 v227 v234 v239 v246 v253 v260 v267 v274 v281 v288 v295 v302 v309 v316 v323 v330 v337 v344 v351 v356 v363 v370 v377 v384 v391 v398 v405 v412 v419 v426 v433 v440 v447 v454 v461 v468 v473), ∀ (k0_h1 : k0_cond1 v122 v239 v356 v473 = 1#1), ∀ a, (k0_off110 v185) a + S1x1x64x512.size a ≤ S1x16x1296x512.size a := fun v12 v19 v26 v33 v40 v47 v54 v61 v68 v75 v82 v89 v96 v103 v110 v117 v122 v129 v136 v143 v150 v157 v164 v171 v178 v185 v192 v199 v206 v213 v220 v227 v234 v239 v246 v253 v260 v267 v274 v281 v288 v295 v302 v309 v316 v323 v330 v337 v344 v351 v356 v363 v370 v377 v384 v391 v398 v405 v412 v419 v426 v433 v440 v447 v454 v461 v468 v473 k0_hw65 k0_h1 => k0_hw65.1.2.2.2.2.2.2.2.2.2.2.2.2.2.2.2.2.2.2.2.2.2.2.2.2.1 k0_h1
theorem k0_off111_inb : ∀ (v12 : BitVec 32) (v19 : BitVec 32) (v26 : BitVec 32) (v33 : BitVec 32) (v40 : BitVec 32) (v47 : BitVec 32) (v54 : BitVec 32) (v61 : BitVec 32) (v68 : BitVec 32) (v75 : BitVec 32) (v82 : BitVec 32) (v89 : BitVec 32) (v96 : BitVec 32) (v103 : BitVec 32) (v110 : BitVec 32) (v117 : BitVec 32) (v122 : BitVec 32) (v129 : BitVec 32) (v136 : BitVec 32) (v143 : BitVec 32) (v150 : BitVec 32) (v157 : BitVec 32) (v164 : BitVec 32) (v171 : BitVec 32) (v178 : BitVec 32) (v185 : BitVec 32) (v192 : BitVec 32) (v199 : BitVec 32) (v206 : BitVec 32) (v213 : BitVec 32) (v220 : BitVec 32) (v227 : BitVec 32) (v234 : BitVec 32) (v239 : BitVec 32) (v246 : BitVec 32) (v253 : BitVec 32) (v260 : BitVec 32) (v267 : BitVec 32) (v274 : BitVec 32) (v281 : BitVec 32) (v288 : BitVec 32) (v295 : BitVec 32) (v302 : BitVec 32) (v309 : BitVec 32) (v316 : BitVec 32) (v323 : BitVec 32) (v330 : BitVec 32) (v337 : BitVec 32) (v344 : BitVec 32) (v351 : BitVec 32) (v356 : BitVec 32) (v363 : BitVec 32) (v370 : BitVec 32) (v377 : BitVec 32) (v384 : BitVec 32) (v391 : BitVec 32) (v398 : BitVec 32) (v405 : BitVec 32) (v412 : BitVec 32) (v419 : BitVec 32) (v426 : BitVec 32) (v433 : BitVec 32) (v440 : BitVec 32) (v447 : BitVec 32) (v454 : BitVec 32) (v461 : BitVec 32) (v468 : BitVec 32) (v473 : BitVec 32) (k0_hw65 : k0_chk65 v12 v19 v26 v33 v40 v47 v54 v61 v68 v75 v82 v89 v96 v103 v110 v117 v122 v129 v136 v143 v150 v157 v164 v171 v178 v185 v192 v199 v206 v213 v220 v227 v234 v239 v246 v253 v260 v267 v274 v281 v288 v295 v302 v309 v316 v323 v330 v337 v344 v351 v356 v363 v370 v377 v384 v391 v398 v405 v412 v419 v426 v433 v440 v447 v454 v461 v468 v473), ∀ (k0_h1 : k0_cond1 v122 v239 v356 v473 = 1#1), ∀ a, (k0_off111 v192) a + S1x1x64x512.size a ≤ S1x16x1296x512.size a := fun v12 v19 v26 v33 v40 v47 v54 v61 v68 v75 v82 v89 v96 v103 v110 v117 v122 v129 v136 v143 v150 v157 v164 v171 v178 v185 v192 v199 v206 v213 v220 v227 v234 v239 v246 v253 v260 v267 v274 v281 v288 v295 v302 v309 v316 v323 v330 v337 v344 v351 v356 v363 v370 v377 v384 v391 v398 v405 v412 v419 v426 v433 v440 v447 v454 v461 v468 v473 k0_hw65 k0_h1 => k0_hw65.1.2.2.2.2.2.2.2.2.2.2.2.2.2.2.2.2.2.2.2.2.2.2.2.2.2.1 k0_h1
theorem k0_off112_inb : ∀ (v12 : BitVec 32) (v19 : BitVec 32) (v26 : BitVec 32) (v33 : BitVec 32) (v40 : BitVec 32) (v47 : BitVec 32) (v54 : BitVec 32) (v61 : BitVec 32) (v68 : BitVec 32) (v75 : BitVec 32) (v82 : BitVec 32) (v89 : BitVec 32) (v96 : BitVec 32) (v103 : BitVec 32) (v110 : BitVec 32) (v117 : BitVec 32) (v122 : BitVec 32) (v129 : BitVec 32) (v136 : BitVec 32) (v143 : BitVec 32) (v150 : BitVec 32) (v157 : BitVec 32) (v164 : BitVec 32) (v171 : BitVec 32) (v178 : BitVec 32) (v185 : BitVec 32) (v192 : BitVec 32) (v199 : BitVec 32) (v206 : BitVec 32) (v213 : BitVec 32) (v220 : BitVec 32) (v227 : BitVec 32) (v234 : BitVec 32) (v239 : BitVec 32) (v246 : BitVec 32) (v253 : BitVec 32) (v260 : BitVec 32) (v267 : BitVec 32) (v274 : BitVec 32) (v281 : BitVec 32) (v288 : BitVec 32) (v295 : BitVec 32) (v302 : BitVec 32) (v309 : BitVec 32) (v316 : BitVec 32) (v323 : BitVec 32) (v330 : BitVec 32) (v337 : BitVec 32) (v344 : BitVec 32) (v351 : BitVec 32) (v356 : BitVec 32) (v363 : BitVec 32) (v370 : BitVec 32) (v377 : BitVec 32) (v384 : BitVec 32) (v391 : BitVec 32) (v398 : BitVec 32) (v405 : BitVec 32) (v412 : BitVec 32) (v419 : BitVec 32) (v426 : BitVec 32) (v433 : BitVec 32) (v440 : BitVec 32) (v447 : BitVec 32) (v454 : BitVec 32) (v461 : BitVec 32) (v468 : BitVec 32) (v473 : BitVec 32) (k0_hw65 : k0_chk65 v12 v19 v26 v33 v40 v47 v54 v61 v68 v75 v82 v89 v96 v103 v110 v117 v122 v129 v136 v143 v150 v157 v164 v171 v178 v185 v192 v199 v206 v213 v220 v227 v234 v239 v246 v253 v260 v267 v274 v281 v288 v295 v302 v309 v316 v323 v330 v337 v344 v351 v356 v363 v370 v377 v384 v391 v398 v405 v412 v419 v426 v433 v440 v447 v454 v461 v468 v473), ∀ (k0_h1 : k0_cond1 v122 v239 v356 v473 = 1#1), ∀ a, (k0_off112 v199) a + S1x1x64x512.size a ≤ S1x16x1296x512.size a := fun v12 v19 v26 v33 v40 v47 v54 v61 v68 v75 v82 v89 v96 v103 v110 v117 v122 v129 v136 v143 v150 v157 v164 v171 v178 v185 v192 v199 v206 v213 v220 v227 v234 v239 v246 v253 v260 v267 v274 v281 v288 v295 v302 v309 v316 v323 v330 v337 v344 v351 v356 v363 v370 v377 v384 v391 v398 v405 v412 v419 v426 v433 v440 v447 v454 v461 v468 v473 k0_hw65 k0_h1 => k0_hw65.1.2.2.2.2.2.2.2.2.2.2.2.2.2.2.2.2.2.2.2.2.2.2.2.2.2.2.1 k0_h1
theorem k0_off113_inb : ∀ (v12 : BitVec 32) (v19 : BitVec 32) (v26 : BitVec 32) (v33 : BitVec 32) (v40 : BitVec 32) (v47 : BitVec 32) (v54 : BitVec 32) (v61 : BitVec 32) (v68 : BitVec 32) (v75 : BitVec 32) (v82 : BitVec 32) (v89 : BitVec 32) (v96 : BitVec 32) (v103 : BitVec 32) (v110 : BitVec 32) (v117 : BitVec 32) (v122 : BitVec 32) (v129 : BitVec 32) (v136 : BitVec 32) (v143 : BitVec 32) (v150 : BitVec 32) (v157 : BitVec 32) (v164 : BitVec 32) (v171 : BitVec 32) (v178 : BitVec 32) (v185 : BitVec 32) (v192 : BitVec 32) (v199 : BitVec 32) (v206 : BitVec 32) (v213 : BitVec 32) (v220 : BitVec 32) (v227 : BitVec 32) (v234 : BitVec 32) (v239 : BitVec 32) (v246 : BitVec 32) (v253 : BitVec 32) (v260 : BitVec 32) (v267 : BitVec 32) (v274 : BitVec 32) (v281 : BitVec 32) (v288 : BitVec 32) (v295 : BitVec 32) (v302 : BitVec 32) (v309 : BitVec 32) (v316 : BitVec 32) (v323 : BitVec 32) (v330 : BitVec 32) (v337 : BitVec 32) (v344 : BitVec 32) (v351 : BitVec 32) (v356 : BitVec 32) (v363 : BitVec 32) (v370 : BitVec 32) (v377 : BitVec 32) (v384 : BitVec 32) (v391 : BitVec 32) (v398 : BitVec 32) (v405 : BitVec 32) (v412 : BitVec 32) (v419 : BitVec 32) (v426 : BitVec 32) (v433 : BitVec 32) (v440 : BitVec 32) (v447 : BitVec 32) (v454 : BitVec 32) (v461 : BitVec 32) (v468 : BitVec 32) (v473 : BitVec 32) (k0_hw65 : k0_chk65 v12 v19 v26 v33 v40 v47 v54 v61 v68 v75 v82 v89 v96 v103 v110 v117 v122 v129 v136 v143 v150 v157 v164 v171 v178 v185 v192 v199 v206 v213 v220 v227 v234 v239 v246 v253 v260 v267 v274 v281 v288 v295 v302 v309 v316 v323 v330 v337 v344 v351 v356 v363 v370 v377 v384 v391 v398 v405 v412 v419 v426 v433 v440 v447 v454 v461 v468 v473), ∀ (k0_h1 : k0_cond1 v122 v239 v356 v473 = 1#1), ∀ a, (k0_off113 v206) a + S1x1x64x512.size a ≤ S1x16x1296x512.size a := fun v12 v19 v26 v33 v40 v47 v54 v61 v68 v75 v82 v89 v96 v103 v110 v117 v122 v129 v136 v143 v150 v157 v164 v171 v178 v185 v192 v199 v206 v213 v220 v227 v234 v239 v246 v253 v260 v267 v274 v281 v288 v295 v302 v309 v316 v323 v330 v337 v344 v351 v356 v363 v370 v377 v384 v391 v398 v405 v412 v419 v426 v433 v440 v447 v454 v461 v468 v473 k0_hw65 k0_h1 => k0_hw65.1.2.2.2.2.2.2.2.2.2.2.2.2.2.2.2.2.2.2.2.2.2.2.2.2.2.2.2.1 k0_h1
theorem k0_off114_inb : ∀ (v12 : BitVec 32) (v19 : BitVec 32) (v26 : BitVec 32) (v33 : BitVec 32) (v40 : BitVec 32) (v47 : BitVec 32) (v54 : BitVec 32) (v61 : BitVec 32) (v68 : BitVec 32) (v75 : BitVec 32) (v82 : BitVec 32) (v89 : BitVec 32) (v96 : BitVec 32) (v103 : BitVec 32) (v110 : BitVec 32) (v117 : BitVec 32) (v122 : BitVec 32) (v129 : BitVec 32) (v136 : BitVec 32) (v143 : BitVec 32) (v150 : BitVec 32) (v157 : BitVec 32) (v164 : BitVec 32) (v171 : BitVec 32) (v178 : BitVec 32) (v185 : BitVec 32) (v192 : BitVec 32) (v199 : BitVec 32) (v206 : BitVec 32) (v213 : BitVec 32) (v220 : BitVec 32) (v227 : BitVec 32) (v234 : BitVec 32) (v239 : BitVec 32) (v246 : BitVec 32) (v253 : BitVec 32) (v260 : BitVec 32) (v267 : BitVec 32) (v274 : BitVec 32) (v281 : BitVec 32) (v288 : BitVec 32) (v295 : BitVec 32) (v302 : BitVec 32) (v309 : BitVec 32) (v316 : BitVec 32) (v323 : BitVec 32) (v330 : BitVec 32) (v337 : BitVec 32) (v344 : BitVec 32) (v351 : BitVec 32) (v356 : BitVec 32) (v363 : BitVec 32) (v370 : BitVec 32) (v377 : BitVec 32) (v384 : BitVec 32) (v391 : BitVec 32) (v398 : BitVec 32) (v405 : BitVec 32) (v412 : BitVec 32) (v419 : BitVec 32) (v426 : BitVec 32) (v433 : BitVec 32) (v440 : BitVec 32) (v447 : BitVec 32) (v454 : BitVec 32) (v461 : BitVec 32) (v468 : BitVec 32) (v473 : BitVec 32) (k0_hw65 : k0_chk65 v12 v19 v26 v33 v40 v47 v54 v61 v68 v75 v82 v89 v96 v103 v110 v117 v122 v129 v136 v143 v150 v157 v164 v171 v178 v185 v192 v199 v206 v213 v220 v227 v234 v239 v246 v253 v260 v267 v274 v281 v288 v295 v302 v309 v316 v323 v330 v337 v344 v351 v356 v363 v370 v377 v384 v391 v398 v405 v412 v419 v426 v433 v440 v447 v454 v461 v468 v473), ∀ (k0_h1 : k0_cond1 v122 v239 v356 v473 = 1#1), ∀ a, (k0_off114 v213) a + S1x1x64x512.size a ≤ S1x16x1296x512.size a := fun v12 v19 v26 v33 v40 v47 v54 v61 v68 v75 v82 v89 v96 v103 v110 v117 v122 v129 v136 v143 v150 v157 v164 v171 v178 v185 v192 v199 v206 v213 v220 v227 v234 v239 v246 v253 v260 v267 v274 v281 v288 v295 v302 v309 v316 v323 v330 v337 v344 v351 v356 v363 v370 v377 v384 v391 v398 v405 v412 v419 v426 v433 v440 v447 v454 v461 v468 v473 k0_hw65 k0_h1 => k0_hw65.1.2.2.2.2.2.2.2.2.2.2.2.2.2.2.2.2.2.2.2.2.2.2.2.2.2.2.2.2.1 k0_h1
theorem k0_off115_inb : ∀ (v12 : BitVec 32) (v19 : BitVec 32) (v26 : BitVec 32) (v33 : BitVec 32) (v40 : BitVec 32) (v47 : BitVec 32) (v54 : BitVec 32) (v61 : BitVec 32) (v68 : BitVec 32) (v75 : BitVec 32) (v82 : BitVec 32) (v89 : BitVec 32) (v96 : BitVec 32) (v103 : BitVec 32) (v110 : BitVec 32) (v117 : BitVec 32) (v122 : BitVec 32) (v129 : BitVec 32) (v136 : BitVec 32) (v143 : BitVec 32) (v150 : BitVec 32) (v157 : BitVec 32) (v164 : BitVec 32) (v171 : BitVec 32) (v178 : BitVec 32) (v185 : BitVec 32) (v192 : BitVec 32) (v199 : BitVec 32) (v206 : BitVec 32) (v213 : BitVec 32) (v220 : BitVec 32) (v227 : BitVec 32) (v234 : BitVec 32) (v239 : BitVec 32) (v246 : BitVec 32) (v253 : BitVec 32) (v260 : BitVec 32) (v267 : BitVec 32) (v274 : BitVec 32) (v281 : BitVec 32) (v288 : BitVec 32) (v295 : BitVec 32) (v302 : BitVec 32) (v309 : BitVec 32) (v316 : BitVec 32) (v323 : BitVec 32) (v330 : BitVec 32) (v337 : BitVec 32) (v344 : BitVec 32) (v351 : BitVec 32) (v356 : BitVec 32) (v363 : BitVec 32) (v370 : BitVec 32) (v377 : BitVec 32) (v384 : BitVec 32) (v391 : BitVec 32) (v398 : BitVec 32) (v405 : BitVec 32) (v412 : BitVec 32) (v419 : BitVec 32) (v426 : BitVec 32) (v433 : BitVec 32) (v440 : BitVec 32) (v447 : BitVec 32) (v454 : BitVec 32) (v461 : BitVec 32) (v468 : BitVec 32) (v473 : BitVec 32) (k0_hw65 : k0_chk65 v12 v19 v26 v33 v40 v47 v54 v61 v68 v75 v82 v89 v96 v103 v110 v117 v122 v129 v136 v143 v150 v157 v164 v171 v178 v185 v192 v199 v206 v213 v220 v227 v234 v239 v246 v253 v260 v267 v274 v281 v288 v295 v302 v309 v316 v323 v330 v337 v344 v351 v356 v363 v370 v377 v384 v391 v398 v405 v412 v419 v426 v433 v440 v447 v454 v461 v468 v473), ∀ (k0_h1 : k0_cond1 v122 v239 v356 v473 = 1#1), ∀ a, (k0_off115 v220) a + S1x1x64x512.size a ≤ S1x16x1296x512.size a := fun v12 v19 v26 v33 v40 v47 v54 v61 v68 v75 v82 v89 v96 v103 v110 v117 v122 v129 v136 v143 v150 v157 v164 v171 v178 v185 v192 v199 v206 v213 v220 v227 v234 v239 v246 v253 v260 v267 v274 v281 v288 v295 v302 v309 v316 v323 v330 v337 v344 v351 v356 v363 v370 v377 v384 v391 v398 v405 v412 v419 v426 v433 v440 v447 v454 v461 v468 v473 k0_hw65 k0_h1 => k0_hw65.1.2.2.2.2.2.2.2.2.2.2.2.2.2.2.2.2.2.2.2.2.2.2.2.2.2.2.2.2.2.1 k0_h1
theorem k0_off116_inb : ∀ (v12 : BitVec 32) (v19 : BitVec 32) (v26 : BitVec 32) (v33 : BitVec 32) (v40 : BitVec 32) (v47 : BitVec 32) (v54 : BitVec 32) (v61 : BitVec 32) (v68 : BitVec 32) (v75 : BitVec 32) (v82 : BitVec 32) (v89 : BitVec 32) (v96 : BitVec 32) (v103 : BitVec 32) (v110 : BitVec 32) (v117 : BitVec 32) (v122 : BitVec 32) (v129 : BitVec 32) (v136 : BitVec 32) (v143 : BitVec 32) (v150 : BitVec 32) (v157 : BitVec 32) (v164 : BitVec 32) (v171 : BitVec 32) (v178 : BitVec 32) (v185 : BitVec 32) (v192 : BitVec 32) (v199 : BitVec 32) (v206 : BitVec 32) (v213 : BitVec 32) (v220 : BitVec 32) (v227 : BitVec 32) (v234 : BitVec 32) (v239 : BitVec 32) (v246 : BitVec 32) (v253 : BitVec 32) (v260 : BitVec 32) (v267 : BitVec 32) (v274 : BitVec 32) (v281 : BitVec 32) (v288 : BitVec 32) (v295 : BitVec 32) (v302 : BitVec 32) (v309 : BitVec 32) (v316 : BitVec 32) (v323 : BitVec 32) (v330 : BitVec 32) (v337 : BitVec 32) (v344 : BitVec 32) (v351 : BitVec 32) (v356 : BitVec 32) (v363 : BitVec 32) (v370 : BitVec 32) (v377 : BitVec 32) (v384 : BitVec 32) (v391 : BitVec 32) (v398 : BitVec 32) (v405 : BitVec 32) (v412 : BitVec 32) (v419 : BitVec 32) (v426 : BitVec 32) (v433 : BitVec 32) (v440 : BitVec 32) (v447 : BitVec 32) (v454 : BitVec 32) (v461 : BitVec 32) (v468 : BitVec 32) (v473 : BitVec 32) (k0_hw65 : k0_chk65 v12 v19 v26 v33 v40 v47 v54 v61 v68 v75 v82 v89 v96 v103 v110 v117 v122 v129 v136 v143 v150 v157 v164 v171 v178 v185 v192 v199 v206 v213 v220 v227 v234 v239 v246 v253 v260 v267 v274 v281 v288 v295 v302 v309 v316 v323 v330 v337 v344 v351 v356 v363 v370 v377 v384 v391 v398 v405 v412 v419 v426 v433 v440 v447 v454 v461 v468 v473), ∀ (k0_h1 : k0_cond1 v122 v239 v356 v473 = 1#1), ∀ a, (k0_off116 v227) a + S1x1x64x512.size a ≤ S1x16x1296x512.size a := fun v12 v19 v26 v33 v40 v47 v54 v61 v68 v75 v82 v89 v96 v103 v110 v117 v122 v129 v136 v143 v150 v157 v164 v171 v178 v185 v192 v199 v206 v213 v220 v227 v234 v239 v246 v253 v260 v267 v274 v281 v288 v295 v302 v309 v316 v323 v330 v337 v344 v351 v356 v363 v370 v377 v384 v391 v398 v405 v412 v419 v426 v433 v440 v447 v454 v461 v468 v473 k0_hw65 k0_h1 => k0_hw65.1.2.2.2.2.2.2.2.2.2.2.2.2.2.2.2.2.2.2.2.2.2.2.2.2.2.2.2.2.2.2.1 k0_h1
theorem k0_off117_inb : ∀ (v12 : BitVec 32) (v19 : BitVec 32) (v26 : BitVec 32) (v33 : BitVec 32) (v40 : BitVec 32) (v47 : BitVec 32) (v54 : BitVec 32) (v61 : BitVec 32) (v68 : BitVec 32) (v75 : BitVec 32) (v82 : BitVec 32) (v89 : BitVec 32) (v96 : BitVec 32) (v103 : BitVec 32) (v110 : BitVec 32) (v117 : BitVec 32) (v122 : BitVec 32) (v129 : BitVec 32) (v136 : BitVec 32) (v143 : BitVec 32) (v150 : BitVec 32) (v157 : BitVec 32) (v164 : BitVec 32) (v171 : BitVec 32) (v178 : BitVec 32) (v185 : BitVec 32) (v192 : BitVec 32) (v199 : BitVec 32) (v206 : BitVec 32) (v213 : BitVec 32) (v220 : BitVec 32) (v227 : BitVec 32) (v234 : BitVec 32) (v239 : BitVec 32) (v246 : BitVec 32) (v253 : BitVec 32) (v260 : BitVec 32) (v267 : BitVec 32) (v274 : BitVec 32) (v281 : BitVec 32) (v288 : BitVec 32) (v295 : BitVec 32) (v302 : BitVec 32) (v309 : BitVec 32) (v316 : BitVec 32) (v323 : BitVec 32) (v330 : BitVec 32) (v337 : BitVec 32) (v344 : BitVec 32) (v351 : BitVec 32) (v356 : BitVec 32) (v363 : BitVec 32) (v370 : BitVec 32) (v377 : BitVec 32) (v384 : BitVec 32) (v391 : BitVec 32) (v398 : BitVec 32) (v405 : BitVec 32) (v412 : BitVec 32) (v419 : BitVec 32) (v426 : BitVec 32) (v433 : BitVec 32) (v440 : BitVec 32) (v447 : BitVec 32) (v454 : BitVec 32) (v461 : BitVec 32) (v468 : BitVec 32) (v473 : BitVec 32) (k0_hw65 : k0_chk65 v12 v19 v26 v33 v40 v47 v54 v61 v68 v75 v82 v89 v96 v103 v110 v117 v122 v129 v136 v143 v150 v157 v164 v171 v178 v185 v192 v199 v206 v213 v220 v227 v234 v239 v246 v253 v260 v267 v274 v281 v288 v295 v302 v309 v316 v323 v330 v337 v344 v351 v356 v363 v370 v377 v384 v391 v398 v405 v412 v419 v426 v433 v440 v447 v454 v461 v468 v473), ∀ (k0_h1 : k0_cond1 v122 v239 v356 v473 = 1#1), ∀ a, (k0_off117 v234) a + S1x1x64x512.size a ≤ S1x16x1296x512.size a := fun v12 v19 v26 v33 v40 v47 v54 v61 v68 v75 v82 v89 v96 v103 v110 v117 v122 v129 v136 v143 v150 v157 v164 v171 v178 v185 v192 v199 v206 v213 v220 v227 v234 v239 v246 v253 v260 v267 v274 v281 v288 v295 v302 v309 v316 v323 v330 v337 v344 v351 v356 v363 v370 v377 v384 v391 v398 v405 v412 v419 v426 v433 v440 v447 v454 v461 v468 v473 k0_hw65 k0_h1 => k0_hw65.1.2.2.2.2.2.2.2.2.2.2.2.2.2.2.2.2.2.2.2.2.2.2.2.2.2.2.2.2.2.2.2 k0_h1
theorem k0_off118_inb : ∀ (v12 : BitVec 32) (v19 : BitVec 32) (v26 : BitVec 32) (v33 : BitVec 32) (v40 : BitVec 32) (v47 : BitVec 32) (v54 : BitVec 32) (v61 : BitVec 32) (v68 : BitVec 32) (v75 : BitVec 32) (v82 : BitVec 32) (v89 : BitVec 32) (v96 : BitVec 32) (v103 : BitVec 32) (v110 : BitVec 32) (v117 : BitVec 32) (v122 : BitVec 32) (v129 : BitVec 32) (v136 : BitVec 32) (v143 : BitVec 32) (v150 : BitVec 32) (v157 : BitVec 32) (v164 : BitVec 32) (v171 : BitVec 32) (v178 : BitVec 32) (v185 : BitVec 32) (v192 : BitVec 32) (v199 : BitVec 32) (v206 : BitVec 32) (v213 : BitVec 32) (v220 : BitVec 32) (v227 : BitVec 32) (v234 : BitVec 32) (v239 : BitVec 32) (v246 : BitVec 32) (v253 : BitVec 32) (v260 : BitVec 32) (v267 : BitVec 32) (v274 : BitVec 32) (v281 : BitVec 32) (v288 : BitVec 32) (v295 : BitVec 32) (v302 : BitVec 32) (v309 : BitVec 32) (v316 : BitVec 32) (v323 : BitVec 32) (v330 : BitVec 32) (v337 : BitVec 32) (v344 : BitVec 32) (v351 : BitVec 32) (v356 : BitVec 32) (v363 : BitVec 32) (v370 : BitVec 32) (v377 : BitVec 32) (v384 : BitVec 32) (v391 : BitVec 32) (v398 : BitVec 32) (v405 : BitVec 32) (v412 : BitVec 32) (v419 : BitVec 32) (v426 : BitVec 32) (v433 : BitVec 32) (v440 : BitVec 32) (v447 : BitVec 32) (v454 : BitVec 32) (v461 : BitVec 32) (v468 : BitVec 32) (v473 : BitVec 32) (k0_hw65 : k0_chk65 v12 v19 v26 v33 v40 v47 v54 v61 v68 v75 v82 v89 v96 v103 v110 v117 v122 v129 v136 v143 v150 v157 v164 v171 v178 v185 v192 v199 v206 v213 v220 v227 v234 v239 v246 v253 v260 v267 v274 v281 v288 v295 v302 v309 v316 v323 v330 v337 v344 v351 v356 v363 v370 v377 v384 v391 v398 v405 v412 v419 v426 v433 v440 v447 v454 v461 v468 v473), ∀ (k0_h1 : k0_cond1 v122 v239 v356 v473 = 1#1), ∀ a, (k0_off118 v246) a + S1x1x64x512.size a ≤ S1x16x1296x512.size a := fun v12 v19 v26 v33 v40 v47 v54 v61 v68 v75 v82 v89 v96 v103 v110 v117 v122 v129 v136 v143 v150 v157 v164 v171 v178 v185 v192 v199 v206 v213 v220 v227 v234 v239 v246 v253 v260 v267 v274 v281 v288 v295 v302 v309 v316 v323 v330 v337 v344 v351 v356 v363 v370 v377 v384 v391 v398 v405 v412 v419 v426 v433 v440 v447 v454 v461 v468 v473 k0_hw65 k0_h1 => k0_hw65.2.1 k0_h1
theorem k0_off119_inb : ∀ (v12 : BitVec 32) (v19 : BitVec 32) (v26 : BitVec 32) (v33 : BitVec 32) (v40 : BitVec 32) (v47 : BitVec 32) (v54 : BitVec 32) (v61 : BitVec 32) (v68 : BitVec 32) (v75 : BitVec 32) (v82 : BitVec 32) (v89 : BitVec 32) (v96 : BitVec 32) (v103 : BitVec 32) (v110 : BitVec 32) (v117 : BitVec 32) (v122 : BitVec 32) (v129 : BitVec 32) (v136 : BitVec 32) (v143 : BitVec 32) (v150 : BitVec 32) (v157 : BitVec 32) (v164 : BitVec 32) (v171 : BitVec 32) (v178 : BitVec 32) (v185 : BitVec 32) (v192 : BitVec 32) (v199 : BitVec 32) (v206 : BitVec 32) (v213 : BitVec 32) (v220 : BitVec 32) (v227 : BitVec 32) (v234 : BitVec 32) (v239 : BitVec 32) (v246 : BitVec 32) (v253 : BitVec 32) (v260 : BitVec 32) (v267 : BitVec 32) (v274 : BitVec 32) (v281 : BitVec 32) (v288 : BitVec 32) (v295 : BitVec 32) (v302 : BitVec 32) (v309 : BitVec 32) (v316 : BitVec 32) (v323 : BitVec 32) (v330 : BitVec 32) (v337 : BitVec 32) (v344 : BitVec 32) (v351 : BitVec 32) (v356 : BitVec 32) (v363 : BitVec 32) (v370 : BitVec 32) (v377 : BitVec 32) (v384 : BitVec 32) (v391 : BitVec 32) (v398 : BitVec 32) (v405 : BitVec 32) (v412 : BitVec 32) (v419 : BitVec 32) (v426 : BitVec 32) (v433 : BitVec 32) (v440 : BitVec 32) (v447 : BitVec 32) (v454 : BitVec 32) (v461 : BitVec 32) (v468 : BitVec 32) (v473 : BitVec 32) (k0_hw65 : k0_chk65 v12 v19 v26 v33 v40 v47 v54 v61 v68 v75 v82 v89 v96 v103 v110 v117 v122 v129 v136 v143 v150 v157 v164 v171 v178 v185 v192 v199 v206 v213 v220 v227 v234 v239 v246 v253 v260 v267 v274 v281 v288 v295 v302 v309 v316 v323 v330 v337 v344 v351 v356 v363 v370 v377 v384 v391 v398 v405 v412 v419 v426 v433 v440 v447 v454 v461 v468 v473), ∀ (k0_h1 : k0_cond1 v122 v239 v356 v473 = 1#1), ∀ a, (k0_off119 v253) a + S1x1x64x512.size a ≤ S1x16x1296x512.size a := fun v12 v19 v26 v33 v40 v47 v54 v61 v68 v75 v82 v89 v96 v103 v110 v117 v122 v129 v136 v143 v150 v157 v164 v171 v178 v185 v192 v199 v206 v213 v220 v227 v234 v239 v246 v253 v260 v267 v274 v281 v288 v295 v302 v309 v316 v323 v330 v337 v344 v351 v356 v363 v370 v377 v384 v391 v398 v405 v412 v419 v426 v433 v440 v447 v454 v461 v468 v473 k0_hw65 k0_h1 => k0_hw65.2.2.1 k0_h1
theorem k0_off120_inb : ∀ (v12 : BitVec 32) (v19 : BitVec 32) (v26 : BitVec 32) (v33 : BitVec 32) (v40 : BitVec 32) (v47 : BitVec 32) (v54 : BitVec 32) (v61 : BitVec 32) (v68 : BitVec 32) (v75 : BitVec 32) (v82 : BitVec 32) (v89 : BitVec 32) (v96 : BitVec 32) (v103 : BitVec 32) (v110 : BitVec 32) (v117 : BitVec 32) (v122 : BitVec 32) (v129 : BitVec 32) (v136 : BitVec 32) (v143 : BitVec 32) (v150 : BitVec 32) (v157 : BitVec 32) (v164 : BitVec 32) (v171 : BitVec 32) (v178 : BitVec 32) (v185 : BitVec 32) (v192 : BitVec 32) (v199 : BitVec 32) (v206 : BitVec 32) (v213 : BitVec 32) (v220 : BitVec 32) (v227 : BitVec 32) (v234 : BitVec 32) (v239 : BitVec 32) (v246 : BitVec 32) (v253 : BitVec 32) (v260 : BitVec 32) (v267 : BitVec 32) (v274 : BitVec 32) (v281 : BitVec 32) (v288 : BitVec 32) (v295 : BitVec 32) (v302 : BitVec 32) (v309 : BitVec 32) (v316 : BitVec 32) (v323 : BitVec 32) (v330 : BitVec 32) (v337 : BitVec 32) (v344 : BitVec 32) (v351 : BitVec 32) (v356 : BitVec 32) (v363 : BitVec 32) (v370 : BitVec 32) (v377 : BitVec 32) (v384 : BitVec 32) (v391 : BitVec 32) (v398 : BitVec 32) (v405 : BitVec 32) (v412 : BitVec 32) (v419 : BitVec 32) (v426 : BitVec 32) (v433 : BitVec 32) (v440 : BitVec 32) (v447 : BitVec 32) (v454 : BitVec 32) (v461 : BitVec 32) (v468 : BitVec 32) (v473 : BitVec 32) (k0_hw65 : k0_chk65 v12 v19 v26 v33 v40 v47 v54 v61 v68 v75 v82 v89 v96 v103 v110 v117 v122 v129 v136 v143 v150 v157 v164 v171 v178 v185 v192 v199 v206 v213 v220 v227 v234 v239 v246 v253 v260 v267 v274 v281 v288 v295 v302 v309 v316 v323 v330 v337 v344 v351 v356 v363 v370 v377 v384 v391 v398 v405 v412 v419 v426 v433 v440 v447 v454 v461 v468 v473), ∀ (k0_h1 : k0_cond1 v122 v239 v356 v473 = 1#1), ∀ a, (k0_off120 v260) a + S1x1x64x512.size a ≤ S1x16x1296x512.size a := fun v12 v19 v26 v33 v40 v47 v54 v61 v68 v75 v82 v89 v96 v103 v110 v117 v122 v129 v136 v143 v150 v157 v164 v171 v178 v185 v192 v199 v206 v213 v220 v227 v234 v239 v246 v253 v260 v267 v274 v281 v288 v295 v302 v309 v316 v323 v330 v337 v344 v351 v356 v363 v370 v377 v384 v391 v398 v405 v412 v419 v426 v433 v440 v447 v454 v461 v468 v473 k0_hw65 k0_h1 => k0_hw65.2.2.2.1 k0_h1
theorem k0_off121_inb : ∀ (v12 : BitVec 32) (v19 : BitVec 32) (v26 : BitVec 32) (v33 : BitVec 32) (v40 : BitVec 32) (v47 : BitVec 32) (v54 : BitVec 32) (v61 : BitVec 32) (v68 : BitVec 32) (v75 : BitVec 32) (v82 : BitVec 32) (v89 : BitVec 32) (v96 : BitVec 32) (v103 : BitVec 32) (v110 : BitVec 32) (v117 : BitVec 32) (v122 : BitVec 32) (v129 : BitVec 32) (v136 : BitVec 32) (v143 : BitVec 32) (v150 : BitVec 32) (v157 : BitVec 32) (v164 : BitVec 32) (v171 : BitVec 32) (v178 : BitVec 32) (v185 : BitVec 32) (v192 : BitVec 32) (v199 : BitVec 32) (v206 : BitVec 32) (v213 : BitVec 32) (v220 : BitVec 32) (v227 : BitVec 32) (v234 : BitVec 32) (v239 : BitVec 32) (v246 : BitVec 32) (v253 : BitVec 32) (v260 : BitVec 32) (v267 : BitVec 32) (v274 : BitVec 32) (v281 : BitVec 32) (v288 : BitVec 32) (v295 : BitVec 32) (v302 : BitVec 32) (v309 : BitVec 32) (v316 : BitVec 32) (v323 : BitVec 32) (v330 : BitVec 32) (v337 : BitVec 32) (v344 : BitVec 32) (v351 : BitVec 32) (v356 : BitVec 32) (v363 : BitVec 32) (v370 : BitVec 32) (v377 : BitVec 32) (v384 : BitVec 32) (v391 : BitVec 32) (v398 : BitVec 32) (v405 : BitVec 32) (v412 : BitVec 32) (v419 : BitVec 32) (v426 : BitVec 32) (v433 : BitVec 32) (v440 : BitVec 32) (v447 : BitVec 32) (v454 : BitVec 32) (v461 : BitVec 32) (v468 : BitVec 32) (v473 : BitVec 32) (k0_hw65 : k0_chk65 v12 v19 v26 v33 v40 v47 v54 v61 v68 v75 v82 v89 v96 v103 v110 v117 v122 v129 v136 v143 v150 v157 v164 v171 v178 v185 v192 v199 v206 v213 v220 v227 v234 v239 v246 v253 v260 v267 v274 v281 v288 v295 v302 v309 v316 v323 v330 v337 v344 v351 v356 v363 v370 v377 v384 v391 v398 v405 v412 v419 v426 v433 v440 v447 v454 v461 v468 v473), ∀ (k0_h1 : k0_cond1 v122 v239 v356 v473 = 1#1), ∀ a, (k0_off121 v267) a + S1x1x64x512.size a ≤ S1x16x1296x512.size a := fun v12 v19 v26 v33 v40 v47 v54 v61 v68 v75 v82 v89 v96 v103 v110 v117 v122 v129 v136 v143 v150 v157 v164 v171 v178 v185 v192 v199 v206 v213 v220 v227 v234 v239 v246 v253 v260 v267 v274 v281 v288 v295 v302 v309 v316 v323 v330 v337 v344 v351 v356 v363 v370 v377 v384 v391 v398 v405 v412 v419 v426 v433 v440 v447 v454 v461 v468 v473 k0_hw65 k0_h1 => k0_hw65.2.2.2.2.1 k0_h1
theorem k0_off122_inb : ∀ (v12 : BitVec 32) (v19 : BitVec 32) (v26 : BitVec 32) (v33 : BitVec 32) (v40 : BitVec 32) (v47 : BitVec 32) (v54 : BitVec 32) (v61 : BitVec 32) (v68 : BitVec 32) (v75 : BitVec 32) (v82 : BitVec 32) (v89 : BitVec 32) (v96 : BitVec 32) (v103 : BitVec 32) (v110 : BitVec 32) (v117 : BitVec 32) (v122 : BitVec 32) (v129 : BitVec 32) (v136 : BitVec 32) (v143 : BitVec 32) (v150 : BitVec 32) (v157 : BitVec 32) (v164 : BitVec 32) (v171 : BitVec 32) (v178 : BitVec 32) (v185 : BitVec 32) (v192 : BitVec 32) (v199 : BitVec 32) (v206 : BitVec 32) (v213 : BitVec 32) (v220 : BitVec 32) (v227 : BitVec 32) (v234 : BitVec 32) (v239 : BitVec 32) (v246 : BitVec 32) (v253 : BitVec 32) (v260 : BitVec 32) (v267 : BitVec 32) (v274 : BitVec 32) (v281 : BitVec 32) (v288 : BitVec 32) (v295 : BitVec 32) (v302 : BitVec 32) (v309 : BitVec 32) (v316 : BitVec 32) (v323 : BitVec 32) (v330 : BitVec 32) (v337 : BitVec 32) (v344 : BitVec 32) (v351 : BitVec 32) (v356 : BitVec 32) (v363 : BitVec 32) (v370 : BitVec 32) (v377 : BitVec 32) (v384 : BitVec 32) (v391 : BitVec 32) (v398 : BitVec 32) (v405 : BitVec 32) (v412 : BitVec 32) (v419 : BitVec 32) (v426 : BitVec 32) (v433 : BitVec 32) (v440 : BitVec 32) (v447 : BitVec 32) (v454 : BitVec 32) (v461 : BitVec 32) (v468 : BitVec 32) (v473 : BitVec 32) (k0_hw65 : k0_chk65 v12 v19 v26 v33 v40 v47 v54 v61 v68 v75 v82 v89 v96 v103 v110 v117 v122 v129 v136 v143 v150 v157 v164 v171 v178 v185 v192 v199 v206 v213 v220 v227 v234 v239 v246 v253 v260 v267 v274 v281 v288 v295 v302 v309 v316 v323 v330 v337 v344 v351 v356 v363 v370 v377 v384 v391 v398 v405 v412 v419 v426 v433 v440 v447 v454 v461 v468 v473), ∀ (k0_h1 : k0_cond1 v122 v239 v356 v473 = 1#1), ∀ a, (k0_off122 v274) a + S1x1x64x512.size a ≤ S1x16x1296x512.size a := fun v12 v19 v26 v33 v40 v47 v54 v61 v68 v75 v82 v89 v96 v103 v110 v117 v122 v129 v136 v143 v150 v157 v164 v171 v178 v185 v192 v199 v206 v213 v220 v227 v234 v239 v246 v253 v260 v267 v274 v281 v288 v295 v302 v309 v316 v323 v330 v337 v344 v351 v356 v363 v370 v377 v384 v391 v398 v405 v412 v419 v426 v433 v440 v447 v454 v461 v468 v473 k0_hw65 k0_h1 => k0_hw65.2.2.2.2.2.1 k0_h1
theorem k0_off123_inb : ∀ (v12 : BitVec 32) (v19 : BitVec 32) (v26 : BitVec 32) (v33 : BitVec 32) (v40 : BitVec 32) (v47 : BitVec 32) (v54 : BitVec 32) (v61 : BitVec 32) (v68 : BitVec 32) (v75 : BitVec 32) (v82 : BitVec 32) (v89 : BitVec 32) (v96 : BitVec 32) (v103 : BitVec 32) (v110 : BitVec 32) (v117 : BitVec 32) (v122 : BitVec 32) (v129 : BitVec 32) (v136 : BitVec 32) (v143 : BitVec 32) (v150 : BitVec 32) (v157 : BitVec 32) (v164 : BitVec 32) (v171 : BitVec 32) (v178 : BitVec 32) (v185 : BitVec 32) (v192 : BitVec 32) (v199 : BitVec 32) (v206 : BitVec 32) (v213 : BitVec 32) (v220 : BitVec 32) (v227 : BitVec 32) (v234 : BitVec 32) (v239 : BitVec 32) (v246 : BitVec 32) (v253 : BitVec 32) (v260 : BitVec 32) (v267 : BitVec 32) (v274 : BitVec 32) (v281 : BitVec 32) (v288 : BitVec 32) (v295 : BitVec 32) (v302 : BitVec 32) (v309 : BitVec 32) (v316 : BitVec 32) (v323 : BitVec 32) (v330 : BitVec 32) (v337 : BitVec 32) (v344 : BitVec 32) (v351 : BitVec 32) (v356 : BitVec 32) (v363 : BitVec 32) (v370 : BitVec 32) (v377 : BitVec 32) (v384 : BitVec 32) (v391 : BitVec 32) (v398 : BitVec 32) (v405 : BitVec 32) (v412 : BitVec 32) (v419 : BitVec 32) (v426 : BitVec 32) (v433 : BitVec 32) (v440 : BitVec 32) (v447 : BitVec 32) (v454 : BitVec 32) (v461 : BitVec 32) (v468 : BitVec 32) (v473 : BitVec 32) (k0_hw65 : k0_chk65 v12 v19 v26 v33 v40 v47 v54 v61 v68 v75 v82 v89 v96 v103 v110 v117 v122 v129 v136 v143 v150 v157 v164 v171 v178 v185 v192 v199 v206 v213 v220 v227 v234 v239 v246 v253 v260 v267 v274 v281 v288 v295 v302 v309 v316 v323 v330 v337 v344 v351 v356 v363 v370 v377 v384 v391 v398 v405 v412 v419 v426 v433 v440 v447 v454 v461 v468 v473), ∀ (k0_h1 : k0_cond1 v122 v239 v356 v473 = 1#1), ∀ a, (k0_off123 v281) a + S1x1x64x512.size a ≤ S1x16x1296x512.size a := fun v12 v19 v26 v33 v40 v47 v54 v61 v68 v75 v82 v89 v96 v103 v110 v117 v122 v129 v136 v143 v150 v157 v164 v171 v178 v185 v192 v199 v206 v213 v220 v227 v234 v239 v246 v253 v260 v267 v274 v281 v288 v295 v302 v309 v316 v323 v330 v337 v344 v351 v356 v363 v370 v377 v384 v391 v398 v405 v412 v419 v426 v433 v440 v447 v454 v461 v468 v473 k0_hw65 k0_h1 => k0_hw65.2.2.2.2.2.2.1 k0_h1
theorem k0_off124_inb : ∀ (v12 : BitVec 32) (v19 : BitVec 32) (v26 : BitVec 32) (v33 : BitVec 32) (v40 : BitVec 32) (v47 : BitVec 32) (v54 : BitVec 32) (v61 : BitVec 32) (v68 : BitVec 32) (v75 : BitVec 32) (v82 : BitVec 32) (v89 : BitVec 32) (v96 : BitVec 32) (v103 : BitVec 32) (v110 : BitVec 32) (v117 : BitVec 32) (v122 : BitVec 32) (v129 : BitVec 32) (v136 : BitVec 32) (v143 : BitVec 32) (v150 : BitVec 32) (v157 : BitVec 32) (v164 : BitVec 32) (v171 : BitVec 32) (v178 : BitVec 32) (v185 : BitVec 32) (v192 : BitVec 32) (v199 : BitVec 32) (v206 : BitVec 32) (v213 : BitVec 32) (v220 : BitVec 32) (v227 : BitVec 32) (v234 : BitVec 32) (v239 : BitVec 32) (v246 : BitVec 32) (v253 : BitVec 32) (v260 : BitVec 32) (v267 : BitVec 32) (v274 : BitVec 32) (v281 : BitVec 32) (v288 : BitVec 32) (v295 : BitVec 32) (v302 : BitVec 32) (v309 : BitVec 32) (v316 : BitVec 32) (v323 : BitVec 32) (v330 : BitVec 32) (v337 : BitVec 32) (v344 : BitVec 32) (v351 : BitVec 32) (v356 : BitVec 32) (v363 : BitVec 32) (v370 : BitVec 32) (v377 : BitVec 32) (v384 : BitVec 32) (v391 : BitVec 32) (v398 : BitVec 32) (v405 : BitVec 32) (v412 : BitVec 32) (v419 : BitVec 32) (v426 : BitVec 32) (v433 : BitVec 32) (v440 : BitVec 32) (v447 : BitVec 32) (v454 : BitVec 32) (v461 : BitVec 32) (v468 : BitVec 32) (v473 : BitVec 32) (k0_hw65 : k0_chk65 v12 v19 v26 v33 v40 v47 v54 v61 v68 v75 v82 v89 v96 v103 v110 v117 v122 v129 v136 v143 v150 v157 v164 v171 v178 v185 v192 v199 v206 v213 v220 v227 v234 v239 v246 v253 v260 v267 v274 v281 v288 v295 v302 v309 v316 v323 v330 v337 v344 v351 v356 v363 v370 v377 v384 v391 v398 v405 v412 v419 v426 v433 v440 v447 v454 v461 v468 v473), ∀ (k0_h1 : k0_cond1 v122 v239 v356 v473 = 1#1), ∀ a, (k0_off124 v288) a + S1x1x64x512.size a ≤ S1x16x1296x512.size a := fun v12 v19 v26 v33 v40 v47 v54 v61 v68 v75 v82 v89 v96 v103 v110 v117 v122 v129 v136 v143 v150 v157 v164 v171 v178 v185 v192 v199 v206 v213 v220 v227 v234 v239 v246 v253 v260 v267 v274 v281 v288 v295 v302 v309 v316 v323 v330 v337 v344 v351 v356 v363 v370 v377 v384 v391 v398 v405 v412 v419 v426 v433 v440 v447 v454 v461 v468 v473 k0_hw65 k0_h1 => k0_hw65.2.2.2.2.2.2.2.1 k0_h1
theorem k0_off125_inb : ∀ (v12 : BitVec 32) (v19 : BitVec 32) (v26 : BitVec 32) (v33 : BitVec 32) (v40 : BitVec 32) (v47 : BitVec 32) (v54 : BitVec 32) (v61 : BitVec 32) (v68 : BitVec 32) (v75 : BitVec 32) (v82 : BitVec 32) (v89 : BitVec 32) (v96 : BitVec 32) (v103 : BitVec 32) (v110 : BitVec 32) (v117 : BitVec 32) (v122 : BitVec 32) (v129 : BitVec 32) (v136 : BitVec 32) (v143 : BitVec 32) (v150 : BitVec 32) (v157 : BitVec 32) (v164 : BitVec 32) (v171 : BitVec 32) (v178 : BitVec 32) (v185 : BitVec 32) (v192 : BitVec 32) (v199 : BitVec 32) (v206 : BitVec 32) (v213 : BitVec 32) (v220 : BitVec 32) (v227 : BitVec 32) (v234 : BitVec 32) (v239 : BitVec 32) (v246 : BitVec 32) (v253 : BitVec 32) (v260 : BitVec 32) (v267 : BitVec 32) (v274 : BitVec 32) (v281 : BitVec 32) (v288 : BitVec 32) (v295 : BitVec 32) (v302 : BitVec 32) (v309 : BitVec 32) (v316 : BitVec 32) (v323 : BitVec 32) (v330 : BitVec 32) (v337 : BitVec 32) (v344 : BitVec 32) (v351 : BitVec 32) (v356 : BitVec 32) (v363 : BitVec 32) (v370 : BitVec 32) (v377 : BitVec 32) (v384 : BitVec 32) (v391 : BitVec 32) (v398 : BitVec 32) (v405 : BitVec 32) (v412 : BitVec 32) (v419 : BitVec 32) (v426 : BitVec 32) (v433 : BitVec 32) (v440 : BitVec 32) (v447 : BitVec 32) (v454 : BitVec 32) (v461 : BitVec 32) (v468 : BitVec 32) (v473 : BitVec 32) (k0_hw65 : k0_chk65 v12 v19 v26 v33 v40 v47 v54 v61 v68 v75 v82 v89 v96 v103 v110 v117 v122 v129 v136 v143 v150 v157 v164 v171 v178 v185 v192 v199 v206 v213 v220 v227 v234 v239 v246 v253 v260 v267 v274 v281 v288 v295 v302 v309 v316 v323 v330 v337 v344 v351 v356 v363 v370 v377 v384 v391 v398 v405 v412 v419 v426 v433 v440 v447 v454 v461 v468 v473), ∀ (k0_h1 : k0_cond1 v122 v239 v356 v473 = 1#1), ∀ a, (k0_off125 v295) a + S1x1x64x512.size a ≤ S1x16x1296x512.size a := fun v12 v19 v26 v33 v40 v47 v54 v61 v68 v75 v82 v89 v96 v103 v110 v117 v122 v129 v136 v143 v150 v157 v164 v171 v178 v185 v192 v199 v206 v213 v220 v227 v234 v239 v246 v253 v260 v267 v274 v281 v288 v295 v302 v309 v316 v323 v330 v337 v344 v351 v356 v363 v370 v377 v384 v391 v398 v405 v412 v419 v426 v433 v440 v447 v454 v461 v468 v473 k0_hw65 k0_h1 => k0_hw65.2.2.2.2.2.2.2.2.1 k0_h1
theorem k0_off126_inb : ∀ (v12 : BitVec 32) (v19 : BitVec 32) (v26 : BitVec 32) (v33 : BitVec 32) (v40 : BitVec 32) (v47 : BitVec 32) (v54 : BitVec 32) (v61 : BitVec 32) (v68 : BitVec 32) (v75 : BitVec 32) (v82 : BitVec 32) (v89 : BitVec 32) (v96 : BitVec 32) (v103 : BitVec 32) (v110 : BitVec 32) (v117 : BitVec 32) (v122 : BitVec 32) (v129 : BitVec 32) (v136 : BitVec 32) (v143 : BitVec 32) (v150 : BitVec 32) (v157 : BitVec 32) (v164 : BitVec 32) (v171 : BitVec 32) (v178 : BitVec 32) (v185 : BitVec 32) (v192 : BitVec 32) (v199 : BitVec 32) (v206 : BitVec 32) (v213 : BitVec 32) (v220 : BitVec 32) (v227 : BitVec 32) (v234 : BitVec 32) (v239 : BitVec 32) (v246 : BitVec 32) (v253 : BitVec 32) (v260 : BitVec 32) (v267 : BitVec 32) (v274 : BitVec 32) (v281 : BitVec 32) (v288 : BitVec 32) (v295 : BitVec 32) (v302 : BitVec 32) (v309 : BitVec 32) (v316 : BitVec 32) (v323 : BitVec 32) (v330 : BitVec 32) (v337 : BitVec 32) (v344 : BitVec 32) (v351 : BitVec 32) (v356 : BitVec 32) (v363 : BitVec 32) (v370 : BitVec 32) (v377 : BitVec 32) (v384 : BitVec 32) (v391 : BitVec 32) (v398 : BitVec 32) (v405 : BitVec 32) (v412 : BitVec 32) (v419 : BitVec 32) (v426 : BitVec 32) (v433 : BitVec 32) (v440 : BitVec 32) (v447 : BitVec 32) (v454 : BitVec 32) (v461 : BitVec 32) (v468 : BitVec 32) (v473 : BitVec 32) (k0_hw65 : k0_chk65 v12 v19 v26 v33 v40 v47 v54 v61 v68 v75 v82 v89 v96 v103 v110 v117 v122 v129 v136 v143 v150 v157 v164 v171 v178 v185 v192 v199 v206 v213 v220 v227 v234 v239 v246 v253 v260 v267 v274 v281 v288 v295 v302 v309 v316 v323 v330 v337 v344 v351 v356 v363 v370 v377 v384 v391 v398 v405 v412 v419 v426 v433 v440 v447 v454 v461 v468 v473), ∀ (k0_h1 : k0_cond1 v122 v239 v356 v473 = 1#1), ∀ a, (k0_off126 v302) a + S1x1x64x512.size a ≤ S1x16x1296x512.size a := fun v12 v19 v26 v33 v40 v47 v54 v61 v68 v75 v82 v89 v96 v103 v110 v117 v122 v129 v136 v143 v150 v157 v164 v171 v178 v185 v192 v199 v206 v213 v220 v227 v234 v239 v246 v253 v260 v267 v274 v281 v288 v295 v302 v309 v316 v323 v330 v337 v344 v351 v356 v363 v370 v377 v384 v391 v398 v405 v412 v419 v426 v433 v440 v447 v454 v461 v468 v473 k0_hw65 k0_h1 => k0_hw65.2.2.2.2.2.2.2.2.2.1 k0_h1
theorem k0_off127_inb : ∀ (v12 : BitVec 32) (v19 : BitVec 32) (v26 : BitVec 32) (v33 : BitVec 32) (v40 : BitVec 32) (v47 : BitVec 32) (v54 : BitVec 32) (v61 : BitVec 32) (v68 : BitVec 32) (v75 : BitVec 32) (v82 : BitVec 32) (v89 : BitVec 32) (v96 : BitVec 32) (v103 : BitVec 32) (v110 : BitVec 32) (v117 : BitVec 32) (v122 : BitVec 32) (v129 : BitVec 32) (v136 : BitVec 32) (v143 : BitVec 32) (v150 : BitVec 32) (v157 : BitVec 32) (v164 : BitVec 32) (v171 : BitVec 32) (v178 : BitVec 32) (v185 : BitVec 32) (v192 : BitVec 32) (v199 : BitVec 32) (v206 : BitVec 32) (v213 : BitVec 32) (v220 : BitVec 32) (v227 : BitVec 32) (v234 : BitVec 32) (v239 : BitVec 32) (v246 : BitVec 32) (v253 : BitVec 32) (v260 : BitVec 32) (v267 : BitVec 32) (v274 : BitVec 32) (v281 : BitVec 32) (v288 : BitVec 32) (v295 : BitVec 32) (v302 : BitVec 32) (v309 : BitVec 32) (v316 : BitVec 32) (v323 : BitVec 32) (v330 : BitVec 32) (v337 : BitVec 32) (v344 : BitVec 32) (v351 : BitVec 32) (v356 : BitVec 32) (v363 : BitVec 32) (v370 : BitVec 32) (v377 : BitVec 32) (v384 : BitVec 32) (v391 : BitVec 32) (v398 : BitVec 32) (v405 : BitVec 32) (v412 : BitVec 32) (v419 : BitVec 32) (v426 : BitVec 32) (v433 : BitVec 32) (v440 : BitVec 32) (v447 : BitVec 32) (v454 : BitVec 32) (v461 : BitVec 32) (v468 : BitVec 32) (v473 : BitVec 32) (k0_hw65 : k0_chk65 v12 v19 v26 v33 v40 v47 v54 v61 v68 v75 v82 v89 v96 v103 v110 v117 v122 v129 v136 v143 v150 v157 v164 v171 v178 v185 v192 v199 v206 v213 v220 v227 v234 v239 v246 v253 v260 v267 v274 v281 v288 v295 v302 v309 v316 v323 v330 v337 v344 v351 v356 v363 v370 v377 v384 v391 v398 v405 v412 v419 v426 v433 v440 v447 v454 v461 v468 v473), ∀ (k0_h1 : k0_cond1 v122 v239 v356 v473 = 1#1), ∀ a, (k0_off127 v309) a + S1x1x64x512.size a ≤ S1x16x1296x512.size a := fun v12 v19 v26 v33 v40 v47 v54 v61 v68 v75 v82 v89 v96 v103 v110 v117 v122 v129 v136 v143 v150 v157 v164 v171 v178 v185 v192 v199 v206 v213 v220 v227 v234 v239 v246 v253 v260 v267 v274 v281 v288 v295 v302 v309 v316 v323 v330 v337 v344 v351 v356 v363 v370 v377 v384 v391 v398 v405 v412 v419 v426 v433 v440 v447 v454 v461 v468 v473 k0_hw65 k0_h1 => k0_hw65.2.2.2.2.2.2.2.2.2.2.1 k0_h1
theorem k0_off128_inb : ∀ (v12 : BitVec 32) (v19 : BitVec 32) (v26 : BitVec 32) (v33 : BitVec 32) (v40 : BitVec 32) (v47 : BitVec 32) (v54 : BitVec 32) (v61 : BitVec 32) (v68 : BitVec 32) (v75 : BitVec 32) (v82 : BitVec 32) (v89 : BitVec 32) (v96 : BitVec 32) (v103 : BitVec 32) (v110 : BitVec 32) (v117 : BitVec 32) (v122 : BitVec 32) (v129 : BitVec 32) (v136 : BitVec 32) (v143 : BitVec 32) (v150 : BitVec 32) (v157 : BitVec 32) (v164 : BitVec 32) (v171 : BitVec 32) (v178 : BitVec 32) (v185 : BitVec 32) (v192 : BitVec 32) (v199 : BitVec 32) (v206 : BitVec 32) (v213 : BitVec 32) (v220 : BitVec 32) (v227 : BitVec 32) (v234 : BitVec 32) (v239 : BitVec 32) (v246 : BitVec 32) (v253 : BitVec 32) (v260 : BitVec 32) (v267 : BitVec 32) (v274 : BitVec 32) (v281 : BitVec 32) (v288 : BitVec 32) (v295 : BitVec 32) (v302 : BitVec 32) (v309 : BitVec 32) (v316 : BitVec 32) (v323 : BitVec 32) (v330 : BitVec 32) (v337 : BitVec 32) (v344 : BitVec 32) (v351 : BitVec 32) (v356 : BitVec 32) (v363 : BitVec 32) (v370 : BitVec 32) (v377 : BitVec 32) (v384 : BitVec 32) (v391 : BitVec 32) (v398 : BitVec 32) (v405 : BitVec 32) (v412 : BitVec 32) (v419 : BitVec 32) (v426 : BitVec 32) (v433 : BitVec 32) (v440 : BitVec 32) (v447 : BitVec 32) (v454 : BitVec 32) (v461 : BitVec 32) (v468 : BitVec 32) (v473 : BitVec 32) (k0_hw65 : k0_chk65 v12 v19 v26 v33 v40 v47 v54 v61 v68 v75 v82 v89 v96 v103 v110 v117 v122 v129 v136 v143 v150 v157 v164 v171 v178 v185 v192 v199 v206 v213 v220 v227 v234 v239 v246 v253 v260 v267 v274 v281 v288 v295 v302 v309 v316 v323 v330 v337 v344 v351 v356 v363 v370 v377 v384 v391 v398 v405 v412 v419 v426 v433 v440 v447 v454 v461 v468 v473), ∀ (k0_h1 : k0_cond1 v122 v239 v356 v473 = 1#1), ∀ a, (k0_off128 v316) a + S1x1x64x512.size a ≤ S1x16x1296x512.size a := fun v12 v19 v26 v33 v40 v47 v54 v61 v68 v75 v82 v89 v96 v103 v110 v117 v122 v129 v136 v143 v150 v157 v164 v171 v178 v185 v192 v199 v206 v213 v220 v227 v234 v239 v246 v253 v260 v267 v274 v281 v288 v295 v302 v309 v316 v323 v330 v337 v344 v351 v356 v363 v370 v377 v384 v391 v398 v405 v412 v419 v426 v433 v440 v447 v454 v461 v468 v473 k0_hw65 k0_h1 => k0_hw65.2.2.2.2.2.2.2.2.2.2.2.1 k0_h1
theorem k0_off129_inb : ∀ (v12 : BitVec 32) (v19 : BitVec 32) (v26 : BitVec 32) (v33 : BitVec 32) (v40 : BitVec 32) (v47 : BitVec 32) (v54 : BitVec 32) (v61 : BitVec 32) (v68 : BitVec 32) (v75 : BitVec 32) (v82 : BitVec 32) (v89 : BitVec 32) (v96 : BitVec 32) (v103 : BitVec 32) (v110 : BitVec 32) (v117 : BitVec 32) (v122 : BitVec 32) (v129 : BitVec 32) (v136 : BitVec 32) (v143 : BitVec 32) (v150 : BitVec 32) (v157 : BitVec 32) (v164 : BitVec 32) (v171 : BitVec 32) (v178 : BitVec 32) (v185 : BitVec 32) (v192 : BitVec 32) (v199 : BitVec 32) (v206 : BitVec 32) (v213 : BitVec 32) (v220 : BitVec 32) (v227 : BitVec 32) (v234 : BitVec 32) (v239 : BitVec 32) (v246 : BitVec 32) (v253 : BitVec 32) (v260 : BitVec 32) (v267 : BitVec 32) (v274 : BitVec 32) (v281 : BitVec 32) (v288 : BitVec 32) (v295 : BitVec 32) (v302 : BitVec 32) (v309 : BitVec 32) (v316 : BitVec 32) (v323 : BitVec 32) (v330 : BitVec 32) (v337 : BitVec 32) (v344 : BitVec 32) (v351 : BitVec 32) (v356 : BitVec 32) (v363 : BitVec 32) (v370 : BitVec 32) (v377 : BitVec 32) (v384 : BitVec 32) (v391 : BitVec 32) (v398 : BitVec 32) (v405 : BitVec 32) (v412 : BitVec 32) (v419 : BitVec 32) (v426 : BitVec 32) (v433 : BitVec 32) (v440 : BitVec 32) (v447 : BitVec 32) (v454 : BitVec 32) (v461 : BitVec 32) (v468 : BitVec 32) (v473 : BitVec 32) (k0_hw65 : k0_chk65 v12 v19 v26 v33 v40 v47 v54 v61 v68 v75 v82 v89 v96 v103 v110 v117 v122 v129 v136 v143 v150 v157 v164 v171 v178 v185 v192 v199 v206 v213 v220 v227 v234 v239 v246 v253 v260 v267 v274 v281 v288 v295 v302 v309 v316 v323 v330 v337 v344 v351 v356 v363 v370 v377 v384 v391 v398 v405 v412 v419 v426 v433 v440 v447 v454 v461 v468 v473), ∀ (k0_h1 : k0_cond1 v122 v239 v356 v473 = 1#1), ∀ a, (k0_off129 v323) a + S1x1x64x512.size a ≤ S1x16x1296x512.size a := fun v12 v19 v26 v33 v40 v47 v54 v61 v68 v75 v82 v89 v96 v103 v110 v117 v122 v129 v136 v143 v150 v157 v164 v171 v178 v185 v192 v199 v206 v213 v220 v227 v234 v239 v246 v253 v260 v267 v274 v281 v288 v295 v302 v309 v316 v323 v330 v337 v344 v351 v356 v363 v370 v377 v384 v391 v398 v405 v412 v419 v426 v433 v440 v447 v454 v461 v468 v473 k0_hw65 k0_h1 => k0_hw65.2.2.2.2.2.2.2.2.2.2.2.2.1 k0_h1
theorem k0_off130_inb : ∀ (v12 : BitVec 32) (v19 : BitVec 32) (v26 : BitVec 32) (v33 : BitVec 32) (v40 : BitVec 32) (v47 : BitVec 32) (v54 : BitVec 32) (v61 : BitVec 32) (v68 : BitVec 32) (v75 : BitVec 32) (v82 : BitVec 32) (v89 : BitVec 32) (v96 : BitVec 32) (v103 : BitVec 32) (v110 : BitVec 32) (v117 : BitVec 32) (v122 : BitVec 32) (v129 : BitVec 32) (v136 : BitVec 32) (v143 : BitVec 32) (v150 : BitVec 32) (v157 : BitVec 32) (v164 : BitVec 32) (v171 : BitVec 32) (v178 : BitVec 32) (v185 : BitVec 32) (v192 : BitVec 32) (v199 : BitVec 32) (v206 : BitVec 32) (v213 : BitVec 32) (v220 : BitVec 32) (v227 : BitVec 32) (v234 : BitVec 32) (v239 : BitVec 32) (v246 : BitVec 32) (v253 : BitVec 32) (v260 : BitVec 32) (v267 : BitVec 32) (v274 : BitVec 32) (v281 : BitVec 32) (v288 : BitVec 32) (v295 : BitVec 32) (v302 : BitVec 32) (v309 : BitVec 32) (v316 : BitVec 32) (v323 : BitVec 32) (v330 : BitVec 32) (v337 : BitVec 32) (v344 : BitVec 32) (v351 : BitVec 32) (v356 : BitVec 32) (v363 : BitVec 32) (v370 : BitVec 32) (v377 : BitVec 32) (v384 : BitVec 32) (v391 : BitVec 32) (v398 : BitVec 32) (v405 : BitVec 32) (v412 : BitVec 32) (v419 : BitVec 32) (v426 : BitVec 32) (v433 : BitVec 32) (v440 : BitVec 32) (v447 : BitVec 32) (v454 : BitVec 32) (v461 : BitVec 32) (v468 : BitVec 32) (v473 : BitVec 32) (k0_hw65 : k0_chk65 v12 v19 v26 v33 v40 v47 v54 v61 v68 v75 v82 v89 v96 v103 v110 v117 v122 v129 v136 v143 v150 v157 v164 v171 v178 v185 v192 v199 v206 v213 v220 v227 v234 v239 v246 v253 v260 v267 v274 v281 v288 v295 v302 v309 v316 v323 v330 v337 v344 v351 v356 v363 v370 v377 v384 v391 v398 v405 v412 v419 v426 v433 v440 v447 v454 v461 v468 v473), ∀ (k0_h1 : k0_cond1 v122 v239 v356 v473 = 1#1), ∀ a, (k0_off130 v330) a + S1x1x64x512.size a ≤ S1x16x1296x512.size a := fun v12 v19 v26 v33 v40 v47 v54 v61 v68 v75 v82 v89 v96 v103 v110 v117 v122 v129 v136 v143 v150 v157 v164 v171 v178 v185 v192 v199 v206 v213 v220 v227 v234 v239 v246 v253 v260 v267 v274 v281 v288 v295 v302 v309 v316 v323 v330 v337 v344 v351 v356 v363 v370 v377 v384 v391 v398 v405 v412 v419 v426 v433 v440 v447 v454 v461 v468 v473 k0_hw65 k0_h1 => k0_hw65.2.2.2.2.2.2.2.2.2.2.2.2.2.1 k0_h1
theorem k0_off131_inb : ∀ (v12 : BitVec 32) (v19 : BitVec 32) (v26 : BitVec 32) (v33 : BitVec 32) (v40 : BitVec 32) (v47 : BitVec 32) (v54 : BitVec 32) (v61 : BitVec 32) (v68 : BitVec 32) (v75 : BitVec 32) (v82 : BitVec 32) (v89 : BitVec 32) (v96 : BitVec 32) (v103 : BitVec 32) (v110 : BitVec 32) (v117 : BitVec 32) (v122 : BitVec 32) (v129 : BitVec 32) (v136 : BitVec 32) (v143 : BitVec 32) (v150 : BitVec 32) (v157 : BitVec 32) (v164 : BitVec 32) (v171 : BitVec 32) (v178 : BitVec 32) (v185 : BitVec 32) (v192 : BitVec 32) (v199 : BitVec 32) (v206 : BitVec 32) (v213 : BitVec 32) (v220 : BitVec 32) (v227 : BitVec 32) (v234 : BitVec 32) (v239 : BitVec 32) (v246 : BitVec 32) (v253 : BitVec 32) (v260 : BitVec 32) (v267 : BitVec 32) (v274 : BitVec 32) (v281 : BitVec 32) (v288 : BitVec 32) (v295 : BitVec 32) (v302 : BitVec 32) (v309 : BitVec 32) (v316 : BitVec 32) (v323 : BitVec 32) (v330 : BitVec 32) (v337 : BitVec 32) (v344 : BitVec 32) (v351 : BitVec 32) (v356 : BitVec 32) (v363 : BitVec 32) (v370 : BitVec 32) (v377 : BitVec 32) (v384 : BitVec 32) (v391 : BitVec 32) (v398 : BitVec 32) (v405 : BitVec 32) (v412 : BitVec 32) (v419 : BitVec 32) (v426 : BitVec 32) (v433 : BitVec 32) (v440 : BitVec 32) (v447 : BitVec 32) (v454 : BitVec 32) (v461 : BitVec 32) (v468 : BitVec 32) (v473 : BitVec 32) (k0_hw65 : k0_chk65 v12 v19 v26 v33 v40 v47 v54 v61 v68 v75 v82 v89 v96 v103 v110 v117 v122 v129 v136 v143 v150 v157 v164 v171 v178 v185 v192 v199 v206 v213 v220 v227 v234 v239 v246 v253 v260 v267 v274 v281 v288 v295 v302 v309 v316 v323 v330 v337 v344 v351 v356 v363 v370 v377 v384 v391 v398 v405 v412 v419 v426 v433 v440 v447 v454 v461 v468 v473), ∀ (k0_h1 : k0_cond1 v122 v239 v356 v473 = 1#1), ∀ a, (k0_off131 v337) a + S1x1x64x512.size a ≤ S1x16x1296x512.size a := fun v12 v19 v26 v33 v40 v47 v54 v61 v68 v75 v82 v89 v96 v103 v110 v117 v122 v129 v136 v143 v150 v157 v164 v171 v178 v185 v192 v199 v206 v213 v220 v227 v234 v239 v246 v253 v260 v267 v274 v281 v288 v295 v302 v309 v316 v323 v330 v337 v344 v351 v356 v363 v370 v377 v384 v391 v398 v405 v412 v419 v426 v433 v440 v447 v454 v461 v468 v473 k0_hw65 k0_h1 => k0_hw65.2.2.2.2.2.2.2.2.2.2.2.2.2.2.1 k0_h1
theorem k0_off132_inb : ∀ (v12 : BitVec 32) (v19 : BitVec 32) (v26 : BitVec 32) (v33 : BitVec 32) (v40 : BitVec 32) (v47 : BitVec 32) (v54 : BitVec 32) (v61 : BitVec 32) (v68 : BitVec 32) (v75 : BitVec 32) (v82 : BitVec 32) (v89 : BitVec 32) (v96 : BitVec 32) (v103 : BitVec 32) (v110 : BitVec 32) (v117 : BitVec 32) (v122 : BitVec 32) (v129 : BitVec 32) (v136 : BitVec 32) (v143 : BitVec 32) (v150 : BitVec 32) (v157 : BitVec 32) (v164 : BitVec 32) (v171 : BitVec 32) (v178 : BitVec 32) (v185 : BitVec 32) (v192 : BitVec 32) (v199 : BitVec 32) (v206 : BitVec 32) (v213 : BitVec 32) (v220 : BitVec 32) (v227 : BitVec 32) (v234 : BitVec 32) (v239 : BitVec 32) (v246 : BitVec 32) (v253 : BitVec 32) (v260 : BitVec 32) (v267 : BitVec 32) (v274 : BitVec 32) (v281 : BitVec 32) (v288 : BitVec 32) (v295 : BitVec 32) (v302 : BitVec 32) (v309 : BitVec 32) (v316 : BitVec 32) (v323 : BitVec 32) (v330 : BitVec 32) (v337 : BitVec 32) (v344 : BitVec 32) (v351 : BitVec 32) (v356 : BitVec 32) (v363 : BitVec 32) (v370 : BitVec 32) (v377 : BitVec 32) (v384 : BitVec 32) (v391 : BitVec 32) (v398 : BitVec 32) (v405 : BitVec 32) (v412 : BitVec 32) (v419 : BitVec 32) (v426 : BitVec 32) (v433 : BitVec 32) (v440 : BitVec 32) (v447 : BitVec 32) (v454 : BitVec 32) (v461 : BitVec 32) (v468 : BitVec 32) (v473 : BitVec 32) (k0_hw65 : k0_chk65 v12 v19 v26 v33 v40 v47 v54 v61 v68 v75 v82 v89 v96 v103 v110 v117 v122 v129 v136 v143 v150 v157 v164 v171 v178 v185 v192 v199 v206 v213 v220 v227 v234 v239 v246 v253 v260 v267 v274 v281 v288 v295 v302 v309 v316 v323 v330 v337 v344 v351 v356 v363 v370 v377 v384 v391 v398 v405 v412 v419 v426 v433 v440 v447 v454 v461 v468 v473), ∀ (k0_h1 : k0_cond1 v122 v239 v356 v473 = 1#1), ∀ a, (k0_off132 v344) a + S1x1x64x512.size a ≤ S1x16x1296x512.size a := fun v12 v19 v26 v33 v40 v47 v54 v61 v68 v75 v82 v89 v96 v103 v110 v117 v122 v129 v136 v143 v150 v157 v164 v171 v178 v185 v192 v199 v206 v213 v220 v227 v234 v239 v246 v253 v260 v267 v274 v281 v288 v295 v302 v309 v316 v323 v330 v337 v344 v351 v356 v363 v370 v377 v384 v391 v398 v405 v412 v419 v426 v433 v440 v447 v454 v461 v468 v473 k0_hw65 k0_h1 => k0_hw65.2.2.2.2.2.2.2.2.2.2.2.2.2.2.2.1 k0_h1
theorem k0_off133_inb : ∀ (v12 : BitVec 32) (v19 : BitVec 32) (v26 : BitVec 32) (v33 : BitVec 32) (v40 : BitVec 32) (v47 : BitVec 32) (v54 : BitVec 32) (v61 : BitVec 32) (v68 : BitVec 32) (v75 : BitVec 32) (v82 : BitVec 32) (v89 : BitVec 32) (v96 : BitVec 32) (v103 : BitVec 32) (v110 : BitVec 32) (v117 : BitVec 32) (v122 : BitVec 32) (v129 : BitVec 32) (v136 : BitVec 32) (v143 : BitVec 32) (v150 : BitVec 32) (v157 : BitVec 32) (v164 : BitVec 32) (v171 : BitVec 32) (v178 : BitVec 32) (v185 : BitVec 32) (v192 : BitVec 32) (v199 : BitVec 32) (v206 : BitVec 32) (v213 : BitVec 32) (v220 : BitVec 32) (v227 : BitVec 32) (v234 : BitVec 32) (v239 : BitVec 32) (v246 : BitVec 32) (v253 : BitVec 32) (v260 : BitVec 32) (v267 : BitVec 32) (v274 : BitVec 32) (v281 : BitVec 32) (v288 : BitVec 32) (v295 : BitVec 32) (v302 : BitVec 32) (v309 : BitVec 32) (v316 : BitVec 32) (v323 : BitVec 32) (v330 : BitVec 32) (v337 : BitVec 32) (v344 : BitVec 32) (v351 : BitVec 32) (v356 : BitVec 32) (v363 : BitVec 32) (v370 : BitVec 32) (v377 : BitVec 32) (v384 : BitVec 32) (v391 : BitVec 32) (v398 : BitVec 32) (v405 : BitVec 32) (v412 : BitVec 32) (v419 : BitVec 32) (v426 : BitVec 32) (v433 : BitVec 32) (v440 : BitVec 32) (v447 : BitVec 32) (v454 : BitVec 32) (v461 : BitVec 32) (v468 : BitVec 32) (v473 : BitVec 32) (k0_hw65 : k0_chk65 v12 v19 v26 v33 v40 v47 v54 v61 v68 v75 v82 v89 v96 v103 v110 v117 v122 v129 v136 v143 v150 v157 v164 v171 v178 v185 v192 v199 v206 v213 v220 v227 v234 v239 v246 v253 v260 v267 v274 v281 v288 v295 v302 v309 v316 v323 v330 v337 v344 v351 v356 v363 v370 v377 v384 v391 v398 v405 v412 v419 v426 v433 v440 v447 v454 v461 v468 v473), ∀ (k0_h1 : k0_cond1 v122 v239 v356 v473 = 1#1), ∀ a, (k0_off133 v351) a + S1x1x64x512.size a ≤ S1x16x1296x512.size a := fun v12 v19 v26 v33 v40 v47 v54 v61 v68 v75 v82 v89 v96 v103 v110 v117 v122 v129 v136 v143 v150 v157 v164 v171 v178 v185 v192 v199 v206 v213 v220 v227 v234 v239 v246 v253 v260 v267 v274 v281 v288 v295 v302 v309 v316 v323 v330 v337 v344 v351 v356 v363 v370 v377 v384 v391 v398 v405 v412 v419 v426 v433 v440 v447 v454 v461 v468 v473 k0_hw65 k0_h1 => k0_hw65.2.2.2.2.2.2.2.2.2.2.2.2.2.2.2.2.1 k0_h1
theorem k0_off134_inb : ∀ (v12 : BitVec 32) (v19 : BitVec 32) (v26 : BitVec 32) (v33 : BitVec 32) (v40 : BitVec 32) (v47 : BitVec 32) (v54 : BitVec 32) (v61 : BitVec 32) (v68 : BitVec 32) (v75 : BitVec 32) (v82 : BitVec 32) (v89 : BitVec 32) (v96 : BitVec 32) (v103 : BitVec 32) (v110 : BitVec 32) (v117 : BitVec 32) (v122 : BitVec 32) (v129 : BitVec 32) (v136 : BitVec 32) (v143 : BitVec 32) (v150 : BitVec 32) (v157 : BitVec 32) (v164 : BitVec 32) (v171 : BitVec 32) (v178 : BitVec 32) (v185 : BitVec 32) (v192 : BitVec 32) (v199 : BitVec 32) (v206 : BitVec 32) (v213 : BitVec 32) (v220 : BitVec 32) (v227 : BitVec 32) (v234 : BitVec 32) (v239 : BitVec 32) (v246 : BitVec 32) (v253 : BitVec 32) (v260 : BitVec 32) (v267 : BitVec 32) (v274 : BitVec 32) (v281 : BitVec 32) (v288 : BitVec 32) (v295 : BitVec 32) (v302 : BitVec 32) (v309 : BitVec 32) (v316 : BitVec 32) (v323 : BitVec 32) (v330 : BitVec 32) (v337 : BitVec 32) (v344 : BitVec 32) (v351 : BitVec 32) (v356 : BitVec 32) (v363 : BitVec 32) (v370 : BitVec 32) (v377 : BitVec 32) (v384 : BitVec 32) (v391 : BitVec 32) (v398 : BitVec 32) (v405 : BitVec 32) (v412 : BitVec 32) (v419 : BitVec 32) (v426 : BitVec 32) (v433 : BitVec 32) (v440 : BitVec 32) (v447 : BitVec 32) (v454 : BitVec 32) (v461 : BitVec 32) (v468 : BitVec 32) (v473 : BitVec 32) (k0_hw65 : k0_chk65 v12 v19 v26 v33 v40 v47 v54 v61 v68 v75 v82 v89 v96 v103 v110 v117 v122 v129 v136 v143 v150 v157 v164 v171 v178 v185 v192 v199 v206 v213 v220 v227 v234 v239 v246 v253 v260 v267 v274 v281 v288 v295 v302 v309 v316 v323 v330 v337 v344 v351 v356 v363 v370 v377 v384 v391 v398 v405 v412 v419 v426 v433 v440 v447 v454 v461 v468 v473), ∀ (k0_h1 : k0_cond1 v122 v239 v356 v473 = 1#1), ∀ a, (k0_off134 v363) a + S1x1x64x512.size a ≤ S1x16x1296x512.size a := fun v12 v19 v26 v33 v40 v47 v54 v61 v68 v75 v82 v89 v96 v103 v110 v117 v122 v129 v136 v143 v150 v157 v164 v171 v178 v185 v192 v199 v206 v213 v220 v227 v234 v239 v246 v253 v260 v267 v274 v281 v288 v295 v302 v309 v316 v323 v330 v337 v344 v351 v356 v363 v370 v377 v384 v391 v398 v405 v412 v419 v426 v433 v440 v447 v454 v461 v468 v473 k0_hw65 k0_h1 => k0_hw65.2.2.2.2.2.2.2.2.2.2.2.2.2.2.2.2.2.1 k0_h1
theorem k0_off135_inb : ∀ (v12 : BitVec 32) (v19 : BitVec 32) (v26 : BitVec 32) (v33 : BitVec 32) (v40 : BitVec 32) (v47 : BitVec 32) (v54 : BitVec 32) (v61 : BitVec 32) (v68 : BitVec 32) (v75 : BitVec 32) (v82 : BitVec 32) (v89 : BitVec 32) (v96 : BitVec 32) (v103 : BitVec 32) (v110 : BitVec 32) (v117 : BitVec 32) (v122 : BitVec 32) (v129 : BitVec 32) (v136 : BitVec 32) (v143 : BitVec 32) (v150 : BitVec 32) (v157 : BitVec 32) (v164 : BitVec 32) (v171 : BitVec 32) (v178 : BitVec 32) (v185 : BitVec 32) (v192 : BitVec 32) (v199 : BitVec 32) (v206 : BitVec 32) (v213 : BitVec 32) (v220 : BitVec 32) (v227 : BitVec 32) (v234 : BitVec 32) (v239 : BitVec 32) (v246 : BitVec 32) (v253 : BitVec 32) (v260 : BitVec 32) (v267 : BitVec 32) (v274 : BitVec 32) (v281 : BitVec 32) (v288 : BitVec 32) (v295 : BitVec 32) (v302 : BitVec 32) (v309 : BitVec 32) (v316 : BitVec 32) (v323 : BitVec 32) (v330 : BitVec 32) (v337 : BitVec 32) (v344 : BitVec 32) (v351 : BitVec 32) (v356 : BitVec 32) (v363 : BitVec 32) (v370 : BitVec 32) (v377 : BitVec 32) (v384 : BitVec 32) (v391 : BitVec 32) (v398 : BitVec 32) (v405 : BitVec 32) (v412 : BitVec 32) (v419 : BitVec 32) (v426 : BitVec 32) (v433 : BitVec 32) (v440 : BitVec 32) (v447 : BitVec 32) (v454 : BitVec 32) (v461 : BitVec 32) (v468 : BitVec 32) (v473 : BitVec 32) (k0_hw65 : k0_chk65 v12 v19 v26 v33 v40 v47 v54 v61 v68 v75 v82 v89 v96 v103 v110 v117 v122 v129 v136 v143 v150 v157 v164 v171 v178 v185 v192 v199 v206 v213 v220 v227 v234 v239 v246 v253 v260 v267 v274 v281 v288 v295 v302 v309 v316 v323 v330 v337 v344 v351 v356 v363 v370 v377 v384 v391 v398 v405 v412 v419 v426 v433 v440 v447 v454 v461 v468 v473), ∀ (k0_h1 : k0_cond1 v122 v239 v356 v473 = 1#1), ∀ a, (k0_off135 v370) a + S1x1x64x512.size a ≤ S1x16x1296x512.size a := fun v12 v19 v26 v33 v40 v47 v54 v61 v68 v75 v82 v89 v96 v103 v110 v117 v122 v129 v136 v143 v150 v157 v164 v171 v178 v185 v192 v199 v206 v213 v220 v227 v234 v239 v246 v253 v260 v267 v274 v281 v288 v295 v302 v309 v316 v323 v330 v337 v344 v351 v356 v363 v370 v377 v384 v391 v398 v405 v412 v419 v426 v433 v440 v447 v454 v461 v468 v473 k0_hw65 k0_h1 => k0_hw65.2.2.2.2.2.2.2.2.2.2.2.2.2.2.2.2.2.2.1 k0_h1
theorem k0_off136_inb : ∀ (v12 : BitVec 32) (v19 : BitVec 32) (v26 : BitVec 32) (v33 : BitVec 32) (v40 : BitVec 32) (v47 : BitVec 32) (v54 : BitVec 32) (v61 : BitVec 32) (v68 : BitVec 32) (v75 : BitVec 32) (v82 : BitVec 32) (v89 : BitVec 32) (v96 : BitVec 32) (v103 : BitVec 32) (v110 : BitVec 32) (v117 : BitVec 32) (v122 : BitVec 32) (v129 : BitVec 32) (v136 : BitVec 32) (v143 : BitVec 32) (v150 : BitVec 32) (v157 : BitVec 32) (v164 : BitVec 32) (v171 : BitVec 32) (v178 : BitVec 32) (v185 : BitVec 32) (v192 : BitVec 32) (v199 : BitVec 32) (v206 : BitVec 32) (v213 : BitVec 32) (v220 : BitVec 32) (v227 : BitVec 32) (v234 : BitVec 32) (v239 : BitVec 32) (v246 : BitVec 32) (v253 : BitVec 32) (v260 : BitVec 32) (v267 : BitVec 32) (v274 : BitVec 32) (v281 : BitVec 32) (v288 : BitVec 32) (v295 : BitVec 32) (v302 : BitVec 32) (v309 : BitVec 32) (v316 : BitVec 32) (v323 : BitVec 32) (v330 : BitVec 32) (v337 : BitVec 32) (v344 : BitVec 32) (v351 : BitVec 32) (v356 : BitVec 32) (v363 : BitVec 32) (v370 : BitVec 32) (v377 : BitVec 32) (v384 : BitVec 32) (v391 : BitVec 32) (v398 : BitVec 32) (v405 : BitVec 32) (v412 : BitVec 32) (v419 : BitVec 32) (v426 : BitVec 32) (v433 : BitVec 32) (v440 : BitVec 32) (v447 : BitVec 32) (v454 : BitVec 32) (v461 : BitVec 32) (v468 : BitVec 32) (v473 : BitVec 32) (k0_hw65 : k0_chk65 v12 v19 v26 v33 v40 v47 v54 v61 v68 v75 v82 v89 v96 v103 v110 v117 v122 v129 v136 v143 v150 v157 v164 v171 v178 v185 v192 v199 v206 v213 v220 v227 v234 v239 v246 v253 v260 v267 v274 v281 v288 v295 v302 v309 v316 v323 v330 v337 v344 v351 v356 v363 v370 v377 v384 v391 v398 v405 v412 v419 v426 v433 v440 v447 v454 v461 v468 v473), ∀ (k0_h1 : k0_cond1 v122 v239 v356 v473 = 1#1), ∀ a, (k0_off136 v377) a + S1x1x64x512.size a ≤ S1x16x1296x512.size a := fun v12 v19 v26 v33 v40 v47 v54 v61 v68 v75 v82 v89 v96 v103 v110 v117 v122 v129 v136 v143 v150 v157 v164 v171 v178 v185 v192 v199 v206 v213 v220 v227 v234 v239 v246 v253 v260 v267 v274 v281 v288 v295 v302 v309 v316 v323 v330 v337 v344 v351 v356 v363 v370 v377 v384 v391 v398 v405 v412 v419 v426 v433 v440 v447 v454 v461 v468 v473 k0_hw65 k0_h1 => k0_hw65.2.2.2.2.2.2.2.2.2.2.2.2.2.2.2.2.2.2.2.1 k0_h1
theorem k0_off137_inb : ∀ (v12 : BitVec 32) (v19 : BitVec 32) (v26 : BitVec 32) (v33 : BitVec 32) (v40 : BitVec 32) (v47 : BitVec 32) (v54 : BitVec 32) (v61 : BitVec 32) (v68 : BitVec 32) (v75 : BitVec 32) (v82 : BitVec 32) (v89 : BitVec 32) (v96 : BitVec 32) (v103 : BitVec 32) (v110 : BitVec 32) (v117 : BitVec 32) (v122 : BitVec 32) (v129 : BitVec 32) (v136 : BitVec 32) (v143 : BitVec 32) (v150 : BitVec 32) (v157 : BitVec 32) (v164 : BitVec 32) (v171 : BitVec 32) (v178 : BitVec 32) (v185 : BitVec 32) (v192 : BitVec 32) (v199 : BitVec 32) (v206 : BitVec 32) (v213 : BitVec 32) (v220 : BitVec 32) (v227 : BitVec 32) (v234 : BitVec 32) (v239 : BitVec 32) (v246 : BitVec 32) (v253 : BitVec 32) (v260 : BitVec 32) (v267 : BitVec 32) (v274 : BitVec 32) (v281 : BitVec 32) (v288 : BitVec 32) (v295 : BitVec 32) (v302 : BitVec 32) (v309 : BitVec 32) (v316 : BitVec 32) (v323 : BitVec 32) (v330 : BitVec 32) (v337 : BitVec 32) (v344 : BitVec 32) (v351 : BitVec 32) (v356 : BitVec 32) (v363 : BitVec 32) (v370 : BitVec 32) (v377 : BitVec 32) (v384 : BitVec 32) (v391 : BitVec 32) (v398 : BitVec 32) (v405 : BitVec 32) (v412 : BitVec 32) (v419 : BitVec 32) (v426 : BitVec 32) (v433 : BitVec 32) (v440 : BitVec 32) (v447 : BitVec 32) (v454 : BitVec 32) (v461 : BitVec 32) (v468 : BitVec 32) (v473 : BitVec 32) (k0_hw65 : k0_chk65 v12 v19 v26 v33 v40 v47 v54 v61 v68 v75 v82 v89 v96 v103 v110 v117 v122 v129 v136 v143 v150 v157 v164 v171 v178 v185 v192 v199 v206 v213 v220 v227 v234 v239 v246 v253 v260 v267 v274 v281 v288 v295 v302 v309 v316 v323 v330 v337 v344 v351 v356 v363 v370 v377 v384 v391 v398 v405 v412 v419 v426 v433 v440 v447 v454 v461 v468 v473), ∀ (k0_h1 : k0_cond1 v122 v239 v356 v473 = 1#1), ∀ a, (k0_off137 v384) a + S1x1x64x512.size a ≤ S1x16x1296x512.size a := fun v12 v19 v26 v33 v40 v47 v54 v61 v68 v75 v82 v89 v96 v103 v110 v117 v122 v129 v136 v143 v150 v157 v164 v171 v178 v185 v192 v199 v206 v213 v220 v227 v234 v239 v246 v253 v260 v267 v274 v281 v288 v295 v302 v309 v316 v323 v330 v337 v344 v351 v356 v363 v370 v377 v384 v391 v398 v405 v412 v419 v426 v433 v440 v447 v454 v461 v468 v473 k0_hw65 k0_h1 => k0_hw65.2.2.2.2.2.2.2.2.2.2.2.2.2.2.2.2.2.2.2.2.1 k0_h1
theorem k0_off138_inb : ∀ (v12 : BitVec 32) (v19 : BitVec 32) (v26 : BitVec 32) (v33 : BitVec 32) (v40 : BitVec 32) (v47 : BitVec 32) (v54 : BitVec 32) (v61 : BitVec 32) (v68 : BitVec 32) (v75 : BitVec 32) (v82 : BitVec 32) (v89 : BitVec 32) (v96 : BitVec 32) (v103 : BitVec 32) (v110 : BitVec 32) (v117 : BitVec 32) (v122 : BitVec 32) (v129 : BitVec 32) (v136 : BitVec 32) (v143 : BitVec 32) (v150 : BitVec 32) (v157 : BitVec 32) (v164 : BitVec 32) (v171 : BitVec 32) (v178 : BitVec 32) (v185 : BitVec 32) (v192 : BitVec 32) (v199 : BitVec 32) (v206 : BitVec 32) (v213 : BitVec 32) (v220 : BitVec 32) (v227 : BitVec 32) (v234 : BitVec 32) (v239 : BitVec 32) (v246 : BitVec 32) (v253 : BitVec 32) (v260 : BitVec 32) (v267 : BitVec 32) (v274 : BitVec 32) (v281 : BitVec 32) (v288 : BitVec 32) (v295 : BitVec 32) (v302 : BitVec 32) (v309 : BitVec 32) (v316 : BitVec 32) (v323 : BitVec 32) (v330 : BitVec 32) (v337 : BitVec 32) (v344 : BitVec 32) (v351 : BitVec 32) (v356 : BitVec 32) (v363 : BitVec 32) (v370 : BitVec 32) (v377 : BitVec 32) (v384 : BitVec 32) (v391 : BitVec 32) (v398 : BitVec 32) (v405 : BitVec 32) (v412 : BitVec 32) (v419 : BitVec 32) (v426 : BitVec 32) (v433 : BitVec 32) (v440 : BitVec 32) (v447 : BitVec 32) (v454 : BitVec 32) (v461 : BitVec 32) (v468 : BitVec 32) (v473 : BitVec 32) (k0_hw65 : k0_chk65 v12 v19 v26 v33 v40 v47 v54 v61 v68 v75 v82 v89 v96 v103 v110 v117 v122 v129 v136 v143 v150 v157 v164 v171 v178 v185 v192 v199 v206 v213 v220 v227 v234 v239 v246 v253 v260 v267 v274 v281 v288 v295 v302 v309 v316 v323 v330 v337 v344 v351 v356 v363 v370 v377 v384 v391 v398 v405 v412 v419 v426 v433 v440 v447 v454 v461 v468 v473), ∀ (k0_h1 : k0_cond1 v122 v239 v356 v473 = 1#1), ∀ a, (k0_off138 v391) a + S1x1x64x512.size a ≤ S1x16x1296x512.size a := fun v12 v19 v26 v33 v40 v47 v54 v61 v68 v75 v82 v89 v96 v103 v110 v117 v122 v129 v136 v143 v150 v157 v164 v171 v178 v185 v192 v199 v206 v213 v220 v227 v234 v239 v246 v253 v260 v267 v274 v281 v288 v295 v302 v309 v316 v323 v330 v337 v344 v351 v356 v363 v370 v377 v384 v391 v398 v405 v412 v419 v426 v433 v440 v447 v454 v461 v468 v473 k0_hw65 k0_h1 => k0_hw65.2.2.2.2.2.2.2.2.2.2.2.2.2.2.2.2.2.2.2.2.2.1 k0_h1
theorem k0_off139_inb : ∀ (v12 : BitVec 32) (v19 : BitVec 32) (v26 : BitVec 32) (v33 : BitVec 32) (v40 : BitVec 32) (v47 : BitVec 32) (v54 : BitVec 32) (v61 : BitVec 32) (v68 : BitVec 32) (v75 : BitVec 32) (v82 : BitVec 32) (v89 : BitVec 32) (v96 : BitVec 32) (v103 : BitVec 32) (v110 : BitVec 32) (v117 : BitVec 32) (v122 : BitVec 32) (v129 : BitVec 32) (v136 : BitVec 32) (v143 : BitVec 32) (v150 : BitVec 32) (v157 : BitVec 32) (v164 : BitVec 32) (v171 : BitVec 32) (v178 : BitVec 32) (v185 : BitVec 32) (v192 : BitVec 32) (v199 : BitVec 32) (v206 : BitVec 32) (v213 : BitVec 32) (v220 : BitVec 32) (v227 : BitVec 32) (v234 : BitVec 32) (v239 : BitVec 32) (v246 : BitVec 32) (v253 : BitVec 32) (v260 : BitVec 32) (v267 : BitVec 32) (v274 : BitVec 32) (v281 : BitVec 32) (v288 : BitVec 32) (v295 : BitVec 32) (v302 : BitVec 32) (v309 : BitVec 32) (v316 : BitVec 32) (v323 : BitVec 32) (v330 : BitVec 32) (v337 : BitVec 32) (v344 : BitVec 32) (v351 : BitVec 32) (v356 : BitVec 32) (v363 : BitVec 32) (v370 : BitVec 32) (v377 : BitVec 32) (v384 : BitVec 32) (v391 : BitVec 32) (v398 : BitVec 32) (v405 : BitVec 32) (v412 : BitVec 32) (v419 : BitVec 32) (v426 : BitVec 32) (v433 : BitVec 32) (v440 : BitVec 32) (v447 : BitVec 32) (v454 : BitVec 32) (v461 : BitVec 32) (v468 : BitVec 32) (v473 : BitVec 32) (k0_hw65 : k0_chk65 v12 v19 v26 v33 v40 v47 v54 v61 v68 v75 v82 v89 v96 v103 v110 v117 v122 v129 v136 v143 v150 v157 v164 v171 v178 v185 v192 v199 v206 v213 v220 v227 v234 v239 v246 v253 v260 v267 v274 v281 v288 v295 v302 v309 v316 v323 v330 v337 v344 v351 v356 v363 v370 v377 v384 v391 v398 v405 v412 v419 v426 v433 v440 v447 v454 v461 v468 v473), ∀ (k0_h1 : k0_cond1 v122 v239 v356 v473 = 1#1), ∀ a, (k0_off139 v398) a + S1x1x64x512.size a ≤ S1x16x1296x512.size a := fun v12 v19 v26 v33 v40 v47 v54 v61 v68 v75 v82 v89 v96 v103 v110 v117 v122 v129 v136 v143 v150 v157 v164 v171 v178 v185 v192 v199 v206 v213 v220 v227 v234 v239 v246 v253 v260 v267 v274 v281 v288 v295 v302 v309 v316 v323 v330 v337 v344 v351 v356 v363 v370 v377 v384 v391 v398 v405 v412 v419 v426 v433 v440 v447 v454 v461 v468 v473 k0_hw65 k0_h1 => k0_hw65.2.2.2.2.2.2.2.2.2.2.2.2.2.2.2.2.2.2.2.2.2.2.1 k0_h1
theorem k0_off140_inb : ∀ (v12 : BitVec 32) (v19 : BitVec 32) (v26 : BitVec 32) (v33 : BitVec 32) (v40 : BitVec 32) (v47 : BitVec 32) (v54 : BitVec 32) (v61 : BitVec 32) (v68 : BitVec 32) (v75 : BitVec 32) (v82 : BitVec 32) (v89 : BitVec 32) (v96 : BitVec 32) (v103 : BitVec 32) (v110 : BitVec 32) (v117 : BitVec 32) (v122 : BitVec 32) (v129 : BitVec 32) (v136 : BitVec 32) (v143 : BitVec 32) (v150 : BitVec 32) (v157 : BitVec 32) (v164 : BitVec 32) (v171 : BitVec 32) (v178 : BitVec 32) (v185 : BitVec 32) (v192 : BitVec 32) (v199 : BitVec 32) (v206 : BitVec 32) (v213 : BitVec 32) (v220 : BitVec 32) (v227 : BitVec 32) (v234 : BitVec 32) (v239 : BitVec 32) (v246 : BitVec 32) (v253 : BitVec 32) (v260 : BitVec 32) (v267 : BitVec 32) (v274 : BitVec 32) (v281 : BitVec 32) (v288 : BitVec 32) (v295 : BitVec 32) (v302 : BitVec 32) (v309 : BitVec 32) (v316 : BitVec 32) (v323 : BitVec 32) (v330 : BitVec 32) (v337 : BitVec 32) (v344 : BitVec 32) (v351 : BitVec 32) (v356 : BitVec 32) (v363 : BitVec 32) (v370 : BitVec 32) (v377 : BitVec 32) (v384 : BitVec 32) (v391 : BitVec 32) (v398 : BitVec 32) (v405 : BitVec 32) (v412 : BitVec 32) (v419 : BitVec 32) (v426 : BitVec 32) (v433 : BitVec 32) (v440 : BitVec 32) (v447 : BitVec 32) (v454 : BitVec 32) (v461 : BitVec 32) (v468 : BitVec 32) (v473 : BitVec 32) (k0_hw65 : k0_chk65 v12 v19 v26 v33 v40 v47 v54 v61 v68 v75 v82 v89 v96 v103 v110 v117 v122 v129 v136 v143 v150 v157 v164 v171 v178 v185 v192 v199 v206 v213 v220 v227 v234 v239 v246 v253 v260 v267 v274 v281 v288 v295 v302 v309 v316 v323 v330 v337 v344 v351 v356 v363 v370 v377 v384 v391 v398 v405 v412 v419 v426 v433 v440 v447 v454 v461 v468 v473), ∀ (k0_h1 : k0_cond1 v122 v239 v356 v473 = 1#1), ∀ a, (k0_off140 v405) a + S1x1x64x512.size a ≤ S1x16x1296x512.size a := fun v12 v19 v26 v33 v40 v47 v54 v61 v68 v75 v82 v89 v96 v103 v110 v117 v122 v129 v136 v143 v150 v157 v164 v171 v178 v185 v192 v199 v206 v213 v220 v227 v234 v239 v246 v253 v260 v267 v274 v281 v288 v295 v302 v309 v316 v323 v330 v337 v344 v351 v356 v363 v370 v377 v384 v391 v398 v405 v412 v419 v426 v433 v440 v447 v454 v461 v468 v473 k0_hw65 k0_h1 => k0_hw65.2.2.2.2.2.2.2.2.2.2.2.2.2.2.2.2.2.2.2.2.2.2.2.1 k0_h1
theorem k0_off141_inb : ∀ (v12 : BitVec 32) (v19 : BitVec 32) (v26 : BitVec 32) (v33 : BitVec 32) (v40 : BitVec 32) (v47 : BitVec 32) (v54 : BitVec 32) (v61 : BitVec 32) (v68 : BitVec 32) (v75 : BitVec 32) (v82 : BitVec 32) (v89 : BitVec 32) (v96 : BitVec 32) (v103 : BitVec 32) (v110 : BitVec 32) (v117 : BitVec 32) (v122 : BitVec 32) (v129 : BitVec 32) (v136 : BitVec 32) (v143 : BitVec 32) (v150 : BitVec 32) (v157 : BitVec 32) (v164 : BitVec 32) (v171 : BitVec 32) (v178 : BitVec 32) (v185 : BitVec 32) (v192 : BitVec 32) (v199 : BitVec 32) (v206 : BitVec 32) (v213 : BitVec 32) (v220 : BitVec 32) (v227 : BitVec 32) (v234 : BitVec 32) (v239 : BitVec 32) (v246 : BitVec 32) (v253 : BitVec 32) (v260 : BitVec 32) (v267 : BitVec 32) (v274 : BitVec 32) (v281 : BitVec 32) (v288 : BitVec 32) (v295 : BitVec 32) (v302 : BitVec 32) (v309 : BitVec 32) (v316 : BitVec 32) (v323 : BitVec 32) (v330 : BitVec 32) (v337 : BitVec 32) (v344 : BitVec 32) (v351 : BitVec 32) (v356 : BitVec 32) (v363 : BitVec 32) (v370 : BitVec 32) (v377 : BitVec 32) (v384 : BitVec 32) (v391 : BitVec 32) (v398 : BitVec 32) (v405 : BitVec 32) (v412 : BitVec 32) (v419 : BitVec 32) (v426 : BitVec 32) (v433 : BitVec 32) (v440 : BitVec 32) (v447 : BitVec 32) (v454 : BitVec 32) (v461 : BitVec 32) (v468 : BitVec 32) (v473 : BitVec 32) (k0_hw65 : k0_chk65 v12 v19 v26 v33 v40 v47 v54 v61 v68 v75 v82 v89 v96 v103 v110 v117 v122 v129 v136 v143 v150 v157 v164 v171 v178 v185 v192 v199 v206 v213 v220 v227 v234 v239 v246 v253 v260 v267 v274 v281 v288 v295 v302 v309 v316 v323 v330 v337 v344 v351 v356 v363 v370 v377 v384 v391 v398 v405 v412 v419 v426 v433 v440 v447 v454 v461 v468 v473), ∀ (k0_h1 : k0_cond1 v122 v239 v356 v473 = 1#1), ∀ a, (k0_off141 v412) a + S1x1x64x512.size a ≤ S1x16x1296x512.size a := fun v12 v19 v26 v33 v40 v47 v54 v61 v68 v75 v82 v89 v96 v103 v110 v117 v122 v129 v136 v143 v150 v157 v164 v171 v178 v185 v192 v199 v206 v213 v220 v227 v234 v239 v246 v253 v260 v267 v274 v281 v288 v295 v302 v309 v316 v323 v330 v337 v344 v351 v356 v363 v370 v377 v384 v391 v398 v405 v412 v419 v426 v433 v440 v447 v454 v461 v468 v473 k0_hw65 k0_h1 => k0_hw65.2.2.2.2.2.2.2.2.2.2.2.2.2.2.2.2.2.2.2.2.2.2.2.2.1 k0_h1
theorem k0_off142_inb : ∀ (v12 : BitVec 32) (v19 : BitVec 32) (v26 : BitVec 32) (v33 : BitVec 32) (v40 : BitVec 32) (v47 : BitVec 32) (v54 : BitVec 32) (v61 : BitVec 32) (v68 : BitVec 32) (v75 : BitVec 32) (v82 : BitVec 32) (v89 : BitVec 32) (v96 : BitVec 32) (v103 : BitVec 32) (v110 : BitVec 32) (v117 : BitVec 32) (v122 : BitVec 32) (v129 : BitVec 32) (v136 : BitVec 32) (v143 : BitVec 32) (v150 : BitVec 32) (v157 : BitVec 32) (v164 : BitVec 32) (v171 : BitVec 32) (v178 : BitVec 32) (v185 : BitVec 32) (v192 : BitVec 32) (v199 : BitVec 32) (v206 : BitVec 32) (v213 : BitVec 32) (v220 : BitVec 32) (v227 : BitVec 32) (v234 : BitVec 32) (v239 : BitVec 32) (v246 : BitVec 32) (v253 : BitVec 32) (v260 : BitVec 32) (v267 : BitVec 32) (v274 : BitVec 32) (v281 : BitVec 32) (v288 : BitVec 32) (v295 : BitVec 32) (v302 : BitVec 32) (v309 : BitVec 32) (v316 : BitVec 32) (v323 : BitVec 32) (v330 : BitVec 32) (v337 : BitVec 32) (v344 : BitVec 32) (v351 : BitVec 32) (v356 : BitVec 32) (v363 : BitVec 32) (v370 : BitVec 32) (v377 : BitVec 32) (v384 : BitVec 32) (v391 : BitVec 32) (v398 : BitVec 32) (v405 : BitVec 32) (v412 : BitVec 32) (v419 : BitVec 32) (v426 : BitVec 32) (v433 : BitVec 32) (v440 : BitVec 32) (v447 : BitVec 32) (v454 : BitVec 32) (v461 : BitVec 32) (v468 : BitVec 32) (v473 : BitVec 32) (k0_hw65 : k0_chk65 v12 v19 v26 v33 v40 v47 v54 v61 v68 v75 v82 v89 v96 v103 v110 v117 v122 v129 v136 v143 v150 v157 v164 v171 v178 v185 v192 v199 v206 v213 v220 v227 v234 v239 v246 v253 v260 v267 v274 v281 v288 v295 v302 v309 v316 v323 v330 v337 v344 v351 v356 v363 v370 v377 v384 v391 v398 v405 v412 v419 v426 v433 v440 v447 v454 v461 v468 v473), ∀ (k0_h1 : k0_cond1 v122 v239 v356 v473 = 1#1), ∀ a, (k0_off142 v419) a + S1x1x64x512.size a ≤ S1x16x1296x512.size a := fun v12 v19 v26 v33 v40 v47 v54 v61 v68 v75 v82 v89 v96 v103 v110 v117 v122 v129 v136 v143 v150 v157 v164 v171 v178 v185 v192 v199 v206 v213 v220 v227 v234 v239 v246 v253 v260 v267 v274 v281 v288 v295 v302 v309 v316 v323 v330 v337 v344 v351 v356 v363 v370 v377 v384 v391 v398 v405 v412 v419 v426 v433 v440 v447 v454 v461 v468 v473 k0_hw65 k0_h1 => k0_hw65.2.2.2.2.2.2.2.2.2.2.2.2.2.2.2.2.2.2.2.2.2.2.2.2.2.1 k0_h1
theorem k0_off143_inb : ∀ (v12 : BitVec 32) (v19 : BitVec 32) (v26 : BitVec 32) (v33 : BitVec 32) (v40 : BitVec 32) (v47 : BitVec 32) (v54 : BitVec 32) (v61 : BitVec 32) (v68 : BitVec 32) (v75 : BitVec 32) (v82 : BitVec 32) (v89 : BitVec 32) (v96 : BitVec 32) (v103 : BitVec 32) (v110 : BitVec 32) (v117 : BitVec 32) (v122 : BitVec 32) (v129 : BitVec 32) (v136 : BitVec 32) (v143 : BitVec 32) (v150 : BitVec 32) (v157 : BitVec 32) (v164 : BitVec 32) (v171 : BitVec 32) (v178 : BitVec 32) (v185 : BitVec 32) (v192 : BitVec 32) (v199 : BitVec 32) (v206 : BitVec 32) (v213 : BitVec 32) (v220 : BitVec 32) (v227 : BitVec 32) (v234 : BitVec 32) (v239 : BitVec 32) (v246 : BitVec 32) (v253 : BitVec 32) (v260 : BitVec 32) (v267 : BitVec 32) (v274 : BitVec 32) (v281 : BitVec 32) (v288 : BitVec 32) (v295 : BitVec 32) (v302 : BitVec 32) (v309 : BitVec 32) (v316 : BitVec 32) (v323 : BitVec 32) (v330 : BitVec 32) (v337 : BitVec 32) (v344 : BitVec 32) (v351 : BitVec 32) (v356 : BitVec 32) (v363 : BitVec 32) (v370 : BitVec 32) (v377 : BitVec 32) (v384 : BitVec 32) (v391 : BitVec 32) (v398 : BitVec 32) (v405 : BitVec 32) (v412 : BitVec 32) (v419 : BitVec 32) (v426 : BitVec 32) (v433 : BitVec 32) (v440 : BitVec 32) (v447 : BitVec 32) (v454 : BitVec 32) (v461 : BitVec 32) (v468 : BitVec 32) (v473 : BitVec 32) (k0_hw65 : k0_chk65 v12 v19 v26 v33 v40 v47 v54 v61 v68 v75 v82 v89 v96 v103 v110 v117 v122 v129 v136 v143 v150 v157 v164 v171 v178 v185 v192 v199 v206 v213 v220 v227 v234 v239 v246 v253 v260 v267 v274 v281 v288 v295 v302 v309 v316 v323 v330 v337 v344 v351 v356 v363 v370 v377 v384 v391 v398 v405 v412 v419 v426 v433 v440 v447 v454 v461 v468 v473), ∀ (k0_h1 : k0_cond1 v122 v239 v356 v473 = 1#1), ∀ a, (k0_off143 v426) a + S1x1x64x512.size a ≤ S1x16x1296x512.size a := fun v12 v19 v26 v33 v40 v47 v54 v61 v68 v75 v82 v89 v96 v103 v110 v117 v122 v129 v136 v143 v150 v157 v164 v171 v178 v185 v192 v199 v206 v213 v220 v227 v234 v239 v246 v253 v260 v267 v274 v281 v288 v295 v302 v309 v316 v323 v330 v337 v344 v351 v356 v363 v370 v377 v384 v391 v398 v405 v412 v419 v426 v433 v440 v447 v454 v461 v468 v473 k0_hw65 k0_h1 => k0_hw65.2.2.2.2.2.2.2.2.2.2.2.2.2.2.2.2.2.2.2.2.2.2.2.2.2.2.1 k0_h1
theorem k0_off144_inb : ∀ (v12 : BitVec 32) (v19 : BitVec 32) (v26 : BitVec 32) (v33 : BitVec 32) (v40 : BitVec 32) (v47 : BitVec 32) (v54 : BitVec 32) (v61 : BitVec 32) (v68 : BitVec 32) (v75 : BitVec 32) (v82 : BitVec 32) (v89 : BitVec 32) (v96 : BitVec 32) (v103 : BitVec 32) (v110 : BitVec 32) (v117 : BitVec 32) (v122 : BitVec 32) (v129 : BitVec 32) (v136 : BitVec 32) (v143 : BitVec 32) (v150 : BitVec 32) (v157 : BitVec 32) (v164 : BitVec 32) (v171 : BitVec 32) (v178 : BitVec 32) (v185 : BitVec 32) (v192 : BitVec 32) (v199 : BitVec 32) (v206 : BitVec 32) (v213 : BitVec 32) (v220 : BitVec 32) (v227 : BitVec 32) (v234 : BitVec 32) (v239 : BitVec 32) (v246 : BitVec 32) (v253 : BitVec 32) (v260 : BitVec 32) (v267 : BitVec 32) (v274 : BitVec 32) (v281 : BitVec 32) (v288 : BitVec 32) (v295 : BitVec 32) (v302 : BitVec 32) (v309 : BitVec 32) (v316 : BitVec 32) (v323 : BitVec 32) (v330 : BitVec 32) (v337 : BitVec 32) (v344 : BitVec 32) (v351 : BitVec 32) (v356 : BitVec 32) (v363 : BitVec 32) (v370 : BitVec 32) (v377 : BitVec 32) (v384 : BitVec 32) (v391 : BitVec 32) (v398 : BitVec 32) (v405 : BitVec 32) (v412 : BitVec 32) (v419 : BitVec 32) (v426 : BitVec 32) (v433 : BitVec 32) (v440 : BitVec 32) (v447 : BitVec 32) (v454 : BitVec 32) (v461 : BitVec 32) (v468 : BitVec 32) (v473 : BitVec 32) (k0_hw65 : k0_chk65 v12 v19 v26 v33 v40 v47 v54 v61 v68 v75 v82 v89 v96 v103 v110 v117 v122 v129 v136 v143 v150 v157 v164 v171 v178 v185 v192 v199 v206 v213 v220 v227 v234 v239 v246 v253 v260 v267 v274 v281 v288 v295 v302 v309 v316 v323 v330 v337 v344 v351 v356 v363 v370 v377 v384 v391 v398 v405 v412 v419 v426 v433 v440 v447 v454 v461 v468 v473), ∀ (k0_h1 : k0_cond1 v122 v239 v356 v473 = 1#1), ∀ a, (k0_off144 v433) a + S1x1x64x512.size a ≤ S1x16x1296x512.size a := fun v12 v19 v26 v33 v40 v47 v54 v61 v68 v75 v82 v89 v96 v103 v110 v117 v122 v129 v136 v143 v150 v157 v164 v171 v178 v185 v192 v199 v206 v213 v220 v227 v234 v239 v246 v253 v260 v267 v274 v281 v288 v295 v302 v309 v316 v323 v330 v337 v344 v351 v356 v363 v370 v377 v384 v391 v398 v405 v412 v419 v426 v433 v440 v447 v454 v461 v468 v473 k0_hw65 k0_h1 => k0_hw65.2.2.2.2.2.2.2.2.2.2.2.2.2.2.2.2.2.2.2.2.2.2.2.2.2.2.2.1 k0_h1
theorem k0_off145_inb : ∀ (v12 : BitVec 32) (v19 : BitVec 32) (v26 : BitVec 32) (v33 : BitVec 32) (v40 : BitVec 32) (v47 : BitVec 32) (v54 : BitVec 32) (v61 : BitVec 32) (v68 : BitVec 32) (v75 : BitVec 32) (v82 : BitVec 32) (v89 : BitVec 32) (v96 : BitVec 32) (v103 : BitVec 32) (v110 : BitVec 32) (v117 : BitVec 32) (v122 : BitVec 32) (v129 : BitVec 32) (v136 : BitVec 32) (v143 : BitVec 32) (v150 : BitVec 32) (v157 : BitVec 32) (v164 : BitVec 32) (v171 : BitVec 32) (v178 : BitVec 32) (v185 : BitVec 32) (v192 : BitVec 32) (v199 : BitVec 32) (v206 : BitVec 32) (v213 : BitVec 32) (v220 : BitVec 32) (v227 : BitVec 32) (v234 : BitVec 32) (v239 : BitVec 32) (v246 : BitVec 32) (v253 : BitVec 32) (v260 : BitVec 32) (v267 : BitVec 32) (v274 : BitVec 32) (v281 : BitVec 32) (v288 : BitVec 32) (v295 : BitVec 32) (v302 : BitVec 32) (v309 : BitVec 32) (v316 : BitVec 32) (v323 : BitVec 32) (v330 : BitVec 32) (v337 : BitVec 32) (v344 : BitVec 32) (v351 : BitVec 32) (v356 : BitVec 32) (v363 : BitVec 32) (v370 : BitVec 32) (v377 : BitVec 32) (v384 : BitVec 32) (v391 : BitVec 32) (v398 : BitVec 32) (v405 : BitVec 32) (v412 : BitVec 32) (v419 : BitVec 32) (v426 : BitVec 32) (v433 : BitVec 32) (v440 : BitVec 32) (v447 : BitVec 32) (v454 : BitVec 32) (v461 : BitVec 32) (v468 : BitVec 32) (v473 : BitVec 32) (k0_hw65 : k0_chk65 v12 v19 v26 v33 v40 v47 v54 v61 v68 v75 v82 v89 v96 v103 v110 v117 v122 v129 v136 v143 v150 v157 v164 v171 v178 v185 v192 v199 v206 v213 v220 v227 v234 v239 v246 v253 v260 v267 v274 v281 v288 v295 v302 v309 v316 v323 v330 v337 v344 v351 v356 v363 v370 v377 v384 v391 v398 v405 v412 v419 v426 v433 v440 v447 v454 v461 v468 v473), ∀ (k0_h1 : k0_cond1 v122 v239 v356 v473 = 1#1), ∀ a, (k0_off145 v440) a + S1x1x64x512.size a ≤ S1x16x1296x512.size a := fun v12 v19 v26 v33 v40 v47 v54 v61 v68 v75 v82 v89 v96 v103 v110 v117 v122 v129 v136 v143 v150 v157 v164 v171 v178 v185 v192 v199 v206 v213 v220 v227 v234 v239 v246 v253 v260 v267 v274 v281 v288 v295 v302 v309 v316 v323 v330 v337 v344 v351 v356 v363 v370 v377 v384 v391 v398 v405 v412 v419 v426 v433 v440 v447 v454 v461 v468 v473 k0_hw65 k0_h1 => k0_hw65.2.2.2.2.2.2.2.2.2.2.2.2.2.2.2.2.2.2.2.2.2.2.2.2.2.2.2.2.1 k0_h1
theorem k0_off146_inb : ∀ (v12 : BitVec 32) (v19 : BitVec 32) (v26 : BitVec 32) (v33 : BitVec 32) (v40 : BitVec 32) (v47 : BitVec 32) (v54 : BitVec 32) (v61 : BitVec 32) (v68 : BitVec 32) (v75 : BitVec 32) (v82 : BitVec 32) (v89 : BitVec 32) (v96 : BitVec 32) (v103 : BitVec 32) (v110 : BitVec 32) (v117 : BitVec 32) (v122 : BitVec 32) (v129 : BitVec 32) (v136 : BitVec 32) (v143 : BitVec 32) (v150 : BitVec 32) (v157 : BitVec 32) (v164 : BitVec 32) (v171 : BitVec 32) (v178 : BitVec 32) (v185 : BitVec 32) (v192 : BitVec 32) (v199 : BitVec 32) (v206 : BitVec 32) (v213 : BitVec 32) (v220 : BitVec 32) (v227 : BitVec 32) (v234 : BitVec 32) (v239 : BitVec 32) (v246 : BitVec 32) (v253 : BitVec 32) (v260 : BitVec 32) (v267 : BitVec 32) (v274 : BitVec 32) (v281 : BitVec 32) (v288 : BitVec 32) (v295 : BitVec 32) (v302 : BitVec 32) (v309 : BitVec 32) (v316 : BitVec 32) (v323 : BitVec 32) (v330 : BitVec 32) (v337 : BitVec 32) (v344 : BitVec 32) (v351 : BitVec 32) (v356 : BitVec 32) (v363 : BitVec 32) (v370 : BitVec 32) (v377 : BitVec 32) (v384 : BitVec 32) (v391 : BitVec 32) (v398 : BitVec 32) (v405 : BitVec 32) (v412 : BitVec 32) (v419 : BitVec 32) (v426 : BitVec 32) (v433 : BitVec 32) (v440 : BitVec 32) (v447 : BitVec 32) (v454 : BitVec 32) (v461 : BitVec 32) (v468 : BitVec 32) (v473 : BitVec 32) (k0_hw65 : k0_chk65 v12 v19 v26 v33 v40 v47 v54 v61 v68 v75 v82 v89 v96 v103 v110 v117 v122 v129 v136 v143 v150 v157 v164 v171 v178 v185 v192 v199 v206 v213 v220 v227 v234 v239 v246 v253 v260 v267 v274 v281 v288 v295 v302 v309 v316 v323 v330 v337 v344 v351 v356 v363 v370 v377 v384 v391 v398 v405 v412 v419 v426 v433 v440 v447 v454 v461 v468 v473), ∀ (k0_h1 : k0_cond1 v122 v239 v356 v473 = 1#1), ∀ a, (k0_off146 v447) a + S1x1x64x512.size a ≤ S1x16x1296x512.size a := fun v12 v19 v26 v33 v40 v47 v54 v61 v68 v75 v82 v89 v96 v103 v110 v117 v122 v129 v136 v143 v150 v157 v164 v171 v178 v185 v192 v199 v206 v213 v220 v227 v234 v239 v246 v253 v260 v267 v274 v281 v288 v295 v302 v309 v316 v323 v330 v337 v344 v351 v356 v363 v370 v377 v384 v391 v398 v405 v412 v419 v426 v433 v440 v447 v454 v461 v468 v473 k0_hw65 k0_h1 => k0_hw65.2.2.2.2.2.2.2.2.2.2.2.2.2.2.2.2.2.2.2.2.2.2.2.2.2.2.2.2.2.1 k0_h1
theorem k0_off147_inb : ∀ (v12 : BitVec 32) (v19 : BitVec 32) (v26 : BitVec 32) (v33 : BitVec 32) (v40 : BitVec 32) (v47 : BitVec 32) (v54 : BitVec 32) (v61 : BitVec 32) (v68 : BitVec 32) (v75 : BitVec 32) (v82 : BitVec 32) (v89 : BitVec 32) (v96 : BitVec 32) (v103 : BitVec 32) (v110 : BitVec 32) (v117 : BitVec 32) (v122 : BitVec 32) (v129 : BitVec 32) (v136 : BitVec 32) (v143 : BitVec 32) (v150 : BitVec 32) (v157 : BitVec 32) (v164 : BitVec 32) (v171 : BitVec 32) (v178 : BitVec 32) (v185 : BitVec 32) (v192 : BitVec 32) (v199 : BitVec 32) (v206 : BitVec 32) (v213 : BitVec 32) (v220 : BitVec 32) (v227 : BitVec 32) (v234 : BitVec 32) (v239 : BitVec 32) (v246 : BitVec 32) (v253 : BitVec 32) (v260 : BitVec 32) (v267 : BitVec 32) (v274 : BitVec 32) (v281 : BitVec 32) (v288 : BitVec 32) (v295 : BitVec 32) (v302 : BitVec 32) (v309 : BitVec 32) (v316 : BitVec 32) (v323 : BitVec 32) (v330 : BitVec 32) (v337 : BitVec 32) (v344 : BitVec 32) (v351 : BitVec 32) (v356 : BitVec 32) (v363 : BitVec 32) (v370 : BitVec 32) (v377 : BitVec 32) (v384 : BitVec 32) (v391 : BitVec 32) (v398 : BitVec 32) (v405 : BitVec 32) (v412 : BitVec 32) (v419 : BitVec 32) (v426 : BitVec 32) (v433 : BitVec 32) (v440 : BitVec 32) (v447 : BitVec 32) (v454 : BitVec 32) (v461 : BitVec 32) (v468 : BitVec 32) (v473 : BitVec 32) (k0_hw65 : k0_chk65 v12 v19 v26 v33 v40 v47 v54 v61 v68 v75 v82 v89 v96 v103 v110 v117 v122 v129 v136 v143 v150 v157 v164 v171 v178 v185 v192 v199 v206 v213 v220 v227 v234 v239 v246 v253 v260 v267 v274 v281 v288 v295 v302 v309 v316 v323 v330 v337 v344 v351 v356 v363 v370 v377 v384 v391 v398 v405 v412 v419 v426 v433 v440 v447 v454 v461 v468 v473), ∀ (k0_h1 : k0_cond1 v122 v239 v356 v473 = 1#1), ∀ a, (k0_off147 v454) a + S1x1x64x512.size a ≤ S1x16x1296x512.size a := fun v12 v19 v26 v33 v40 v47 v54 v61 v68 v75 v82 v89 v96 v103 v110 v117 v122 v129 v136 v143 v150 v157 v164 v171 v178 v185 v192 v199 v206 v213 v220 v227 v234 v239 v246 v253 v260 v267 v274 v281 v288 v295 v302 v309 v316 v323 v330 v337 v344 v351 v356 v363 v370 v377 v384 v391 v398 v405 v412 v419 v426 v433 v440 v447 v454 v461 v468 v473 k0_hw65 k0_h1 => k0_hw65.2.2.2.2.2.2.2.2.2.2.2.2.2.2.2.2.2.2.2.2.2.2.2.2.2.2.2.2.2.2.1 k0_h1
theorem k0_off148_inb : ∀ (v12 : BitVec 32) (v19 : BitVec 32) (v26 : BitVec 32) (v33 : BitVec 32) (v40 : BitVec 32) (v47 : BitVec 32) (v54 : BitVec 32) (v61 : BitVec 32) (v68 : BitVec 32) (v75 : BitVec 32) (v82 : BitVec 32) (v89 : BitVec 32) (v96 : BitVec 32) (v103 : BitVec 32) (v110 : BitVec 32) (v117 : BitVec 32) (v122 : BitVec 32) (v129 : BitVec 32) (v136 : BitVec 32) (v143 : BitVec 32) (v150 : BitVec 32) (v157 : BitVec 32) (v164 : BitVec 32) (v171 : BitVec 32) (v178 : BitVec 32) (v185 : BitVec 32) (v192 : BitVec 32) (v199 : BitVec 32) (v206 : BitVec 32) (v213 : BitVec 32) (v220 : BitVec 32) (v227 : BitVec 32) (v234 : BitVec 32) (v239 : BitVec 32) (v246 : BitVec 32) (v253 : BitVec 32) (v260 : BitVec 32) (v267 : BitVec 32) (v274 : BitVec 32) (v281 : BitVec 32) (v288 : BitVec 32) (v295 : BitVec 32) (v302 : BitVec 32) (v309 : BitVec 32) (v316 : BitVec 32) (v323 : BitVec 32) (v330 : BitVec 32) (v337 : BitVec 32) (v344 : BitVec 32) (v351 : BitVec 32) (v356 : BitVec 32) (v363 : BitVec 32) (v370 : BitVec 32) (v377 : BitVec 32) (v384 : BitVec 32) (v391 : BitVec 32) (v398 : BitVec 32) (v405 : BitVec 32) (v412 : BitVec 32) (v419 : BitVec 32) (v426 : BitVec 32) (v433 : BitVec 32) (v440 : BitVec 32) (v447 : BitVec 32) (v454 : BitVec 32) (v461 : BitVec 32) (v468 : BitVec 32) (v473 : BitVec 32) (k0_hw65 : k0_chk65 v12 v19 v26 v33 v40 v47 v54 v61 v68 v75 v82 v89 v96 v103 v110 v117 v122 v129 v136 v143 v150 v157 v164 v171 v178 v185 v192 v199 v206 v213 v220 v227 v234 v239 v246 v253 v260 v267 v274 v281 v288 v295 v302 v309 v316 v323 v330 v337 v344 v351 v356 v363 v370 v377 v384 v391 v398 v405 v412 v419 v426 v433 v440 v447 v454 v461 v468 v473), ∀ (k0_h1 : k0_cond1 v122 v239 v356 v473 = 1#1), ∀ a, (k0_off148 v461) a + S1x1x64x512.size a ≤ S1x16x1296x512.size a := fun v12 v19 v26 v33 v40 v47 v54 v61 v68 v75 v82 v89 v96 v103 v110 v117 v122 v129 v136 v143 v150 v157 v164 v171 v178 v185 v192 v199 v206 v213 v220 v227 v234 v239 v246 v253 v260 v267 v274 v281 v288 v295 v302 v309 v316 v323 v330 v337 v344 v351 v356 v363 v370 v377 v384 v391 v398 v405 v412 v419 v426 v433 v440 v447 v454 v461 v468 v473 k0_hw65 k0_h1 => k0_hw65.2.2.2.2.2.2.2.2.2.2.2.2.2.2.2.2.2.2.2.2.2.2.2.2.2.2.2.2.2.2.2.1 k0_h1
theorem k0_off149_inb : ∀ (v12 : BitVec 32) (v19 : BitVec 32) (v26 : BitVec 32) (v33 : BitVec 32) (v40 : BitVec 32) (v47 : BitVec 32) (v54 : BitVec 32) (v61 : BitVec 32) (v68 : BitVec 32) (v75 : BitVec 32) (v82 : BitVec 32) (v89 : BitVec 32) (v96 : BitVec 32) (v103 : BitVec 32) (v110 : BitVec 32) (v117 : BitVec 32) (v122 : BitVec 32) (v129 : BitVec 32) (v136 : BitVec 32) (v143 : BitVec 32) (v150 : BitVec 32) (v157 : BitVec 32) (v164 : BitVec 32) (v171 : BitVec 32) (v178 : BitVec 32) (v185 : BitVec 32) (v192 : BitVec 32) (v199 : BitVec 32) (v206 : BitVec 32) (v213 : BitVec 32) (v220 : BitVec 32) (v227 : BitVec 32) (v234 : BitVec 32) (v239 : BitVec 32) (v246 : BitVec 32) (v253 : BitVec 32) (v260 : BitVec 32) (v267 : BitVec 32) (v274 : BitVec 32) (v281 : BitVec 32) (v288 : BitVec 32) (v295 : BitVec 32) (v302 : BitVec 32) (v309 : BitVec 32) (v316 : BitVec 32) (v323 : BitVec 32) (v330 : BitVec 32) (v337 : BitVec 32) (v344 : BitVec 32) (v351 : BitVec 32) (v356 : BitVec 32) (v363 : BitVec 32) (v370 : BitVec 32) (v377 : BitVec 32) (v384 : BitVec 32) (v391 : BitVec 32) (v398 : BitVec 32) (v405 : BitVec 32) (v412 : BitVec 32) (v419 : BitVec 32) (v426 : BitVec 32) (v433 : BitVec 32) (v440 : BitVec 32) (v447 : BitVec 32) (v454 : BitVec 32) (v461 : BitVec 32) (v468 : BitVec 32) (v473 : BitVec 32) (k0_hw65 : k0_chk65 v12 v19 v26 v33 v40 v47 v54 v61 v68 v75 v82 v89 v96 v103 v110 v117 v122 v129 v136 v143 v150 v157 v164 v171 v178 v185 v192 v199 v206 v213 v220 v227 v234 v239 v246 v253 v260 v267 v274 v281 v288 v295 v302 v309 v316 v323 v330 v337 v344 v351 v356 v363 v370 v377 v384 v391 v398 v405 v412 v419 v426 v433 v440 v447 v454 v461 v468 v473), ∀ (k0_h1 : k0_cond1 v122 v239 v356 v473 = 1#1), ∀ a, (k0_off149 v468) a + S1x1x64x512.size a ≤ S1x16x1296x512.size a := fun v12 v19 v26 v33 v40 v47 v54 v61 v68 v75 v82 v89 v96 v103 v110 v117 v122 v129 v136 v143 v150 v157 v164 v171 v178 v185 v192 v199 v206 v213 v220 v227 v234 v239 v246 v253 v260 v267 v274 v281 v288 v295 v302 v309 v316 v323 v330 v337 v344 v351 v356 v363 v370 v377 v384 v391 v398 v405 v412 v419 v426 v433 v440 v447 v454 v461 v468 v473 k0_hw65 k0_h1 => k0_hw65.2.2.2.2.2.2.2.2.2.2.2.2.2.2.2.2.2.2.2.2.2.2.2.2.2.2.2.2.2.2.2.2 k0_h1

def k0_mult72 (i : grid0.Coords) : BitVec 32 :=
  let arg2 : BitVec 32 := BitVec.ofNat 32 (i 2).val
  let c4_i32 : BitVec 32 := 4#32
  let v0 : BitVec 32 := Scalar.muli arg2 c4_i32
  let c0_i32 : BitVec 32 := 0#32
  let c4_i32_0 : BitVec 32 := 4#32
  let v1 : BitVec 32 := Scalar.muli c0_i32 c4_i32_0
  let v2 : BitVec 32 := Scalar.addi v0 v1
  let c3_i32 : BitVec 32 := 3#32
  let v6 : BitVec 32 := Scalar.addi v2 c3_i32
  let c256_i32_693 : BitVec 32 := 256#32
  let v1440 : BitVec 32 := Scalar.muli v6 c256_i32_693
  v1440
@[reducible] def k0_t1_loop : Scf.Loop 32 :=
  let c0_i32_192 : BitVec 32 := 0#32
  let c4_i32_193 : BitVec 32 := 4#32
  let v483 : BitVec 32 := Scalar.addi c0_i32_192 c4_i32_193
  let c1_i32_194 : BitVec 32 := 1#32
  ⟨c0_i32_192, v483, c1_i32_194⟩
def k0_off150 (i : grid0.Coords) (k0_t1 : Fin k0_t1_loop.trips) : Fin 1 → Nat :=
  let arg0 : BitVec 32 := BitVec.ofNat 32 (i 0).val
  let c16_i32_196 : BitVec 32 := 16#32
  let v485 : BitVec 32 := Scalar.muli arg0 c16_i32_196
  let c0_i32_197 : BitVec 32 := 0#32
  let v486 : BitVec 32 := Scalar.addi v485 c0_i32_197
  let c32_i32_198 : BitVec 32 := 32#32
  let v487 : BitVec 32 := Scalar.muli v486 c32_i32_198
  let arg2 : BitVec 32 := BitVec.ofNat 32 (i 2).val
  let c4_i32 : BitVec 32 := 4#32
  let v0 : BitVec 32 := Scalar.muli arg2 c4_i32
  let c0_i32 : BitVec 32 := 0#32
  let c4_i32_0 : BitVec 32 := 4#32
  let v1 : BitVec 32 := Scalar.muli c0_i32 c4_i32_0
  let v2 : BitVec 32 := Scalar.addi v0 v1
  let c0_i32_192 : BitVec 32 := 0#32
  let c1_i32_194 : BitVec 32 := 1#32
  let arg10 : BitVec 32 := Scf.iv c0_i32_192 c1_i32_194 k0_t1
  let v484 : BitVec 32 := Scalar.addi v2 arg10
  let v488 : BitVec 32 := Scalar.addi v487 v484
  let v489 : Index := Scalar.indexCast v488
  ![v489.toNat]
def k0_mult73 (v490 : BitVec 32) : BitVec 32 :=
  v490
def k0_cond2 (v122 : BitVec 32) (v239 : BitVec 32) (v356 : BitVec 32) (v473 : BitVec 32) : BitVec 1 :=
  let c1_i32_38 : BitVec 32 := 1#32
  let v123 : BitVec 1 := Scalar.cmpi .eq v122 c1_i32_38
  let c1_i32_88 : BitVec 32 := 1#32
  let v240 : BitVec 1 := Scalar.cmpi .eq v239 c1_i32_88
  let v475 : BitVec 1 := Scalar.andi v123 v240
  let c1_i32_138 : BitVec 32 := 1#32
  let v357 : BitVec 1 := Scalar.cmpi .eq v356 c1_i32_138
  let v476 : BitVec 1 := Scalar.andi v475 v357
  let c1_i32_188 : BitVec 32 := 1#32
  let v474 : BitVec 1 := Scalar.cmpi .eq v473 c1_i32_188
  let v477 : BitVec 1 := Scalar.andi v476 v474
  let v_true : BitVec 1 := 1#1
  let v480 : BitVec 1 := Scalar.xori v477 v_true
  let v481 : BitVec 32 := Scalar.extui v480
  let c0_i32_190 : BitVec 32 := 0#32
  let v482 : BitVec 1 := Scalar.cmpi .ne v481 c0_i32_190
  v482

def k0_off151 (i : grid0.Coords) (k0_t1 : Fin k0_t1_loop.trips) : Fin 1 → Nat :=
  let arg0 : BitVec 32 := BitVec.ofNat 32 (i 0).val
  let c16_i32_199 : BitVec 32 := 16#32
  let v492 : BitVec 32 := Scalar.muli arg0 c16_i32_199
  let c1_i32_200 : BitVec 32 := 1#32
  let v493 : BitVec 32 := Scalar.addi v492 c1_i32_200
  let c32_i32_201 : BitVec 32 := 32#32
  let v494 : BitVec 32 := Scalar.muli v493 c32_i32_201
  let arg2 : BitVec 32 := BitVec.ofNat 32 (i 2).val
  let c4_i32 : BitVec 32 := 4#32
  let v0 : BitVec 32 := Scalar.muli arg2 c4_i32
  let c0_i32 : BitVec 32 := 0#32
  let c4_i32_0 : BitVec 32 := 4#32
  let v1 : BitVec 32 := Scalar.muli c0_i32 c4_i32_0
  let v2 : BitVec 32 := Scalar.addi v0 v1
  let c0_i32_192 : BitVec 32 := 0#32
  let c1_i32_194 : BitVec 32 := 1#32
  let arg10 : BitVec 32 := Scf.iv c0_i32_192 c1_i32_194 k0_t1
  let v484 : BitVec 32 := Scalar.addi v2 arg10
  let v495 : BitVec 32 := Scalar.addi v494 v484
  let v496 : Index := Scalar.indexCast v495
  ![v496.toNat]
def k0_mult74 (v497 : BitVec 32) : BitVec 32 :=
  v497

def k0_off152 (i : grid0.Coords) (k0_t1 : Fin k0_t1_loop.trips) : Fin 1 → Nat :=
  let arg0 : BitVec 32 := BitVec.ofNat 32 (i 0).val
  let c16_i32_202 : BitVec 32 := 16#32
  let v499 : BitVec 32 := Scalar.muli arg0 c16_i32_202
  let c2_i32_203 : BitVec 32 := 2#32
  let v500 : BitVec 32 := Scalar.addi v499 c2_i32_203
  let c32_i32_204 : BitVec 32 := 32#32
  let v501 : BitVec 32 := Scalar.muli v500 c32_i32_204
  let arg2 : BitVec 32 := BitVec.ofNat 32 (i 2).val
  let c4_i32 : BitVec 32 := 4#32
  let v0 : BitVec 32 := Scalar.muli arg2 c4_i32
  let c0_i32 : BitVec 32 := 0#32
  let c4_i32_0 : BitVec 32 := 4#32
  let v1 : BitVec 32 := Scalar.muli c0_i32 c4_i32_0
  let v2 : BitVec 32 := Scalar.addi v0 v1
  let c0_i32_192 : BitVec 32 := 0#32
  let c1_i32_194 : BitVec 32 := 1#32
  let arg10 : BitVec 32 := Scf.iv c0_i32_192 c1_i32_194 k0_t1
  let v484 : BitVec 32 := Scalar.addi v2 arg10
  let v502 : BitVec 32 := Scalar.addi v501 v484
  let v503 : Index := Scalar.indexCast v502
  ![v503.toNat]
def k0_mult75 (v504 : BitVec 32) : BitVec 32 :=
  v504

def k0_off153 (i : grid0.Coords) (k0_t1 : Fin k0_t1_loop.trips) : Fin 1 → Nat :=
  let arg0 : BitVec 32 := BitVec.ofNat 32 (i 0).val
  let c16_i32_205 : BitVec 32 := 16#32
  let v506 : BitVec 32 := Scalar.muli arg0 c16_i32_205
  let c3_i32_206 : BitVec 32 := 3#32
  let v507 : BitVec 32 := Scalar.addi v506 c3_i32_206
  let c32_i32_207 : BitVec 32 := 32#32
  let v508 : BitVec 32 := Scalar.muli v507 c32_i32_207
  let arg2 : BitVec 32 := BitVec.ofNat 32 (i 2).val
  let c4_i32 : BitVec 32 := 4#32
  let v0 : BitVec 32 := Scalar.muli arg2 c4_i32
  let c0_i32 : BitVec 32 := 0#32
  let c4_i32_0 : BitVec 32 := 4#32
  let v1 : BitVec 32 := Scalar.muli c0_i32 c4_i32_0
  let v2 : BitVec 32 := Scalar.addi v0 v1
  let c0_i32_192 : BitVec 32 := 0#32
  let c1_i32_194 : BitVec 32 := 1#32
  let arg10 : BitVec 32 := Scf.iv c0_i32_192 c1_i32_194 k0_t1
  let v484 : BitVec 32 := Scalar.addi v2 arg10
  let v509 : BitVec 32 := Scalar.addi v508 v484
  let v510 : Index := Scalar.indexCast v509
  ![v510.toNat]
def k0_mult76 (v511 : BitVec 32) : BitVec 32 :=
  v511

def k0_off154 (i : grid0.Coords) (k0_t1 : Fin k0_t1_loop.trips) : Fin 1 → Nat :=
  let arg0 : BitVec 32 := BitVec.ofNat 32 (i 0).val
  let c16_i32_208 : BitVec 32 := 16#32
  let v513 : BitVec 32 := Scalar.muli arg0 c16_i32_208
  let c4_i32_209 : BitVec 32 := 4#32
  let v514 : BitVec 32 := Scalar.addi v513 c4_i32_209
  let c32_i32_210 : BitVec 32 := 32#32
  let v515 : BitVec 32 := Scalar.muli v514 c32_i32_210
  let arg2 : BitVec 32 := BitVec.ofNat 32 (i 2).val
  let c4_i32 : BitVec 32 := 4#32
  let v0 : BitVec 32 := Scalar.muli arg2 c4_i32
  let c0_i32 : BitVec 32 := 0#32
  let c4_i32_0 : BitVec 32 := 4#32
  let v1 : BitVec 32 := Scalar.muli c0_i32 c4_i32_0
  let v2 : BitVec 32 := Scalar.addi v0 v1
  let c0_i32_192 : BitVec 32 := 0#32
  let c1_i32_194 : BitVec 32 := 1#32
  let arg10 : BitVec 32 := Scf.iv c0_i32_192 c1_i32_194 k0_t1
  let v484 : BitVec 32 := Scalar.addi v2 arg10
  let v516 : BitVec 32 := Scalar.addi v515 v484
  let v517 : Index := Scalar.indexCast v516
  ![v517.toNat]
def k0_mult77 (v518 : BitVec 32) : BitVec 32 :=
  v518

def k0_off155 (i : grid0.Coords) (k0_t1 : Fin k0_t1_loop.trips) : Fin 1 → Nat :=
  let arg0 : BitVec 32 := BitVec.ofNat 32 (i 0).val
  let c16_i32_211 : BitVec 32 := 16#32
  let v520 : BitVec 32 := Scalar.muli arg0 c16_i32_211
  let c5_i32_212 : BitVec 32 := 5#32
  let v521 : BitVec 32 := Scalar.addi v520 c5_i32_212
  let c32_i32_213 : BitVec 32 := 32#32
  let v522 : BitVec 32 := Scalar.muli v521 c32_i32_213
  let arg2 : BitVec 32 := BitVec.ofNat 32 (i 2).val
  let c4_i32 : BitVec 32 := 4#32
  let v0 : BitVec 32 := Scalar.muli arg2 c4_i32
  let c0_i32 : BitVec 32 := 0#32
  let c4_i32_0 : BitVec 32 := 4#32
  let v1 : BitVec 32 := Scalar.muli c0_i32 c4_i32_0
  let v2 : BitVec 32 := Scalar.addi v0 v1
  let c0_i32_192 : BitVec 32 := 0#32
  let c1_i32_194 : BitVec 32 := 1#32
  let arg10 : BitVec 32 := Scf.iv c0_i32_192 c1_i32_194 k0_t1
  let v484 : BitVec 32 := Scalar.addi v2 arg10
  let v523 : BitVec 32 := Scalar.addi v522 v484
  let v524 : Index := Scalar.indexCast v523
  ![v524.toNat]
def k0_mult78 (v525 : BitVec 32) : BitVec 32 :=
  v525

def k0_off156 (i : grid0.Coords) (k0_t1 : Fin k0_t1_loop.trips) : Fin 1 → Nat :=
  let arg0 : BitVec 32 := BitVec.ofNat 32 (i 0).val
  let c16_i32_214 : BitVec 32 := 16#32
  let v527 : BitVec 32 := Scalar.muli arg0 c16_i32_214
  let c6_i32_215 : BitVec 32 := 6#32
  let v528 : BitVec 32 := Scalar.addi v527 c6_i32_215
  let c32_i32_216 : BitVec 32 := 32#32
  let v529 : BitVec 32 := Scalar.muli v528 c32_i32_216
  let arg2 : BitVec 32 := BitVec.ofNat 32 (i 2).val
  let c4_i32 : BitVec 32 := 4#32
  let v0 : BitVec 32 := Scalar.muli arg2 c4_i32
  let c0_i32 : BitVec 32 := 0#32
  let c4_i32_0 : BitVec 32 := 4#32
  let v1 : BitVec 32 := Scalar.muli c0_i32 c4_i32_0
  let v2 : BitVec 32 := Scalar.addi v0 v1
  let c0_i32_192 : BitVec 32 := 0#32
  let c1_i32_194 : BitVec 32 := 1#32
  let arg10 : BitVec 32 := Scf.iv c0_i32_192 c1_i32_194 k0_t1
  let v484 : BitVec 32 := Scalar.addi v2 arg10
  let v530 : BitVec 32 := Scalar.addi v529 v484
  let v531 : Index := Scalar.indexCast v530
  ![v531.toNat]
def k0_mult79 (v532 : BitVec 32) : BitVec 32 :=
  v532

def k0_off157 (i : grid0.Coords) (k0_t1 : Fin k0_t1_loop.trips) : Fin 1 → Nat :=
  let arg0 : BitVec 32 := BitVec.ofNat 32 (i 0).val
  let c16_i32_217 : BitVec 32 := 16#32
  let v534 : BitVec 32 := Scalar.muli arg0 c16_i32_217
  let c7_i32_218 : BitVec 32 := 7#32
  let v535 : BitVec 32 := Scalar.addi v534 c7_i32_218
  let c32_i32_219 : BitVec 32 := 32#32
  let v536 : BitVec 32 := Scalar.muli v535 c32_i32_219
  let arg2 : BitVec 32 := BitVec.ofNat 32 (i 2).val
  let c4_i32 : BitVec 32 := 4#32
  let v0 : BitVec 32 := Scalar.muli arg2 c4_i32
  let c0_i32 : BitVec 32 := 0#32
  let c4_i32_0 : BitVec 32 := 4#32
  let v1 : BitVec 32 := Scalar.muli c0_i32 c4_i32_0
  let v2 : BitVec 32 := Scalar.addi v0 v1
  let c0_i32_192 : BitVec 32 := 0#32
  let c1_i32_194 : BitVec 32 := 1#32
  let arg10 : BitVec 32 := Scf.iv c0_i32_192 c1_i32_194 k0_t1
  let v484 : BitVec 32 := Scalar.addi v2 arg10
  let v537 : BitVec 32 := Scalar.addi v536 v484
  let v538 : Index := Scalar.indexCast v537
  ![v538.toNat]
def k0_mult80 (v539 : BitVec 32) : BitVec 32 :=
  v539

def k0_off158 (i : grid0.Coords) (k0_t1 : Fin k0_t1_loop.trips) : Fin 1 → Nat :=
  let arg0 : BitVec 32 := BitVec.ofNat 32 (i 0).val
  let c16_i32_220 : BitVec 32 := 16#32
  let v541 : BitVec 32 := Scalar.muli arg0 c16_i32_220
  let c8_i32_221 : BitVec 32 := 8#32
  let v542 : BitVec 32 := Scalar.addi v541 c8_i32_221
  let c32_i32_222 : BitVec 32 := 32#32
  let v543 : BitVec 32 := Scalar.muli v542 c32_i32_222
  let arg2 : BitVec 32 := BitVec.ofNat 32 (i 2).val
  let c4_i32 : BitVec 32 := 4#32
  let v0 : BitVec 32 := Scalar.muli arg2 c4_i32
  let c0_i32 : BitVec 32 := 0#32
  let c4_i32_0 : BitVec 32 := 4#32
  let v1 : BitVec 32 := Scalar.muli c0_i32 c4_i32_0
  let v2 : BitVec 32 := Scalar.addi v0 v1
  let c0_i32_192 : BitVec 32 := 0#32
  let c1_i32_194 : BitVec 32 := 1#32
  let arg10 : BitVec 32 := Scf.iv c0_i32_192 c1_i32_194 k0_t1
  let v484 : BitVec 32 := Scalar.addi v2 arg10
  let v544 : BitVec 32 := Scalar.addi v543 v484
  let v545 : Index := Scalar.indexCast v544
  ![v545.toNat]
def k0_mult81 (v546 : BitVec 32) : BitVec 32 :=
  v546

def k0_off159 (i : grid0.Coords) (k0_t1 : Fin k0_t1_loop.trips) : Fin 1 → Nat :=
  let arg0 : BitVec 32 := BitVec.ofNat 32 (i 0).val
  let c16_i32_223 : BitVec 32 := 16#32
  let v548 : BitVec 32 := Scalar.muli arg0 c16_i32_223
  let c9_i32_224 : BitVec 32 := 9#32
  let v549 : BitVec 32 := Scalar.addi v548 c9_i32_224
  let c32_i32_225 : BitVec 32 := 32#32
  let v550 : BitVec 32 := Scalar.muli v549 c32_i32_225
  let arg2 : BitVec 32 := BitVec.ofNat 32 (i 2).val
  let c4_i32 : BitVec 32 := 4#32
  let v0 : BitVec 32 := Scalar.muli arg2 c4_i32
  let c0_i32 : BitVec 32 := 0#32
  let c4_i32_0 : BitVec 32 := 4#32
  let v1 : BitVec 32 := Scalar.muli c0_i32 c4_i32_0
  let v2 : BitVec 32 := Scalar.addi v0 v1
  let c0_i32_192 : BitVec 32 := 0#32
  let c1_i32_194 : BitVec 32 := 1#32
  let arg10 : BitVec 32 := Scf.iv c0_i32_192 c1_i32_194 k0_t1
  let v484 : BitVec 32 := Scalar.addi v2 arg10
  let v551 : BitVec 32 := Scalar.addi v550 v484
  let v552 : Index := Scalar.indexCast v551
  ![v552.toNat]
def k0_mult82 (v553 : BitVec 32) : BitVec 32 :=
  v553

def k0_off160 (i : grid0.Coords) (k0_t1 : Fin k0_t1_loop.trips) : Fin 1 → Nat :=
  let arg0 : BitVec 32 := BitVec.ofNat 32 (i 0).val
  let c16_i32_226 : BitVec 32 := 16#32
  let v555 : BitVec 32 := Scalar.muli arg0 c16_i32_226
  let c10_i32_227 : BitVec 32 := 10#32
  let v556 : BitVec 32 := Scalar.addi v555 c10_i32_227
  let c32_i32_228 : BitVec 32 := 32#32
  let v557 : BitVec 32 := Scalar.muli v556 c32_i32_228
  let arg2 : BitVec 32 := BitVec.ofNat 32 (i 2).val
  let c4_i32 : BitVec 32 := 4#32
  let v0 : BitVec 32 := Scalar.muli arg2 c4_i32
  let c0_i32 : BitVec 32 := 0#32
  let c4_i32_0 : BitVec 32 := 4#32
  let v1 : BitVec 32 := Scalar.muli c0_i32 c4_i32_0
  let v2 : BitVec 32 := Scalar.addi v0 v1
  let c0_i32_192 : BitVec 32 := 0#32
  let c1_i32_194 : BitVec 32 := 1#32
  let arg10 : BitVec 32 := Scf.iv c0_i32_192 c1_i32_194 k0_t1
  let v484 : BitVec 32 := Scalar.addi v2 arg10
  let v558 : BitVec 32 := Scalar.addi v557 v484
  let v559 : Index := Scalar.indexCast v558
  ![v559.toNat]
def k0_mult83 (v560 : BitVec 32) : BitVec 32 :=
  v560

def k0_off161 (i : grid0.Coords) (k0_t1 : Fin k0_t1_loop.trips) : Fin 1 → Nat :=
  let arg0 : BitVec 32 := BitVec.ofNat 32 (i 0).val
  let c16_i32_229 : BitVec 32 := 16#32
  let v562 : BitVec 32 := Scalar.muli arg0 c16_i32_229
  let c11_i32_230 : BitVec 32 := 11#32
  let v563 : BitVec 32 := Scalar.addi v562 c11_i32_230
  let c32_i32_231 : BitVec 32 := 32#32
  let v564 : BitVec 32 := Scalar.muli v563 c32_i32_231
  let arg2 : BitVec 32 := BitVec.ofNat 32 (i 2).val
  let c4_i32 : BitVec 32 := 4#32
  let v0 : BitVec 32 := Scalar.muli arg2 c4_i32
  let c0_i32 : BitVec 32 := 0#32
  let c4_i32_0 : BitVec 32 := 4#32
  let v1 : BitVec 32 := Scalar.muli c0_i32 c4_i32_0
  let v2 : BitVec 32 := Scalar.addi v0 v1
  let c0_i32_192 : BitVec 32 := 0#32
  let c1_i32_194 : BitVec 32 := 1#32
  let arg10 : BitVec 32 := Scf.iv c0_i32_192 c1_i32_194 k0_t1
  let v484 : BitVec 32 := Scalar.addi v2 arg10
  let v565 : BitVec 32 := Scalar.addi v564 v484
  let v566 : Index := Scalar.indexCast v565
  ![v566.toNat]
def k0_mult84 (v567 : BitVec 32) : BitVec 32 :=
  v567

def k0_off162 (i : grid0.Coords) (k0_t1 : Fin k0_t1_loop.trips) : Fin 1 → Nat :=
  let arg0 : BitVec 32 := BitVec.ofNat 32 (i 0).val
  let c16_i32_232 : BitVec 32 := 16#32
  let v569 : BitVec 32 := Scalar.muli arg0 c16_i32_232
  let c12_i32_233 : BitVec 32 := 12#32
  let v570 : BitVec 32 := Scalar.addi v569 c12_i32_233
  let c32_i32_234 : BitVec 32 := 32#32
  let v571 : BitVec 32 := Scalar.muli v570 c32_i32_234
  let arg2 : BitVec 32 := BitVec.ofNat 32 (i 2).val
  let c4_i32 : BitVec 32 := 4#32
  let v0 : BitVec 32 := Scalar.muli arg2 c4_i32
  let c0_i32 : BitVec 32 := 0#32
  let c4_i32_0 : BitVec 32 := 4#32
  let v1 : BitVec 32 := Scalar.muli c0_i32 c4_i32_0
  let v2 : BitVec 32 := Scalar.addi v0 v1
  let c0_i32_192 : BitVec 32 := 0#32
  let c1_i32_194 : BitVec 32 := 1#32
  let arg10 : BitVec 32 := Scf.iv c0_i32_192 c1_i32_194 k0_t1
  let v484 : BitVec 32 := Scalar.addi v2 arg10
  let v572 : BitVec 32 := Scalar.addi v571 v484
  let v573 : Index := Scalar.indexCast v572
  ![v573.toNat]
def k0_mult85 (v574 : BitVec 32) : BitVec 32 :=
  v574

def k0_off163 (i : grid0.Coords) (k0_t1 : Fin k0_t1_loop.trips) : Fin 1 → Nat :=
  let arg0 : BitVec 32 := BitVec.ofNat 32 (i 0).val
  let c16_i32_235 : BitVec 32 := 16#32
  let v576 : BitVec 32 := Scalar.muli arg0 c16_i32_235
  let c13_i32_236 : BitVec 32 := 13#32
  let v577 : BitVec 32 := Scalar.addi v576 c13_i32_236
  let c32_i32_237 : BitVec 32 := 32#32
  let v578 : BitVec 32 := Scalar.muli v577 c32_i32_237
  let arg2 : BitVec 32 := BitVec.ofNat 32 (i 2).val
  let c4_i32 : BitVec 32 := 4#32
  let v0 : BitVec 32 := Scalar.muli arg2 c4_i32
  let c0_i32 : BitVec 32 := 0#32
  let c4_i32_0 : BitVec 32 := 4#32
  let v1 : BitVec 32 := Scalar.muli c0_i32 c4_i32_0
  let v2 : BitVec 32 := Scalar.addi v0 v1
  let c0_i32_192 : BitVec 32 := 0#32
  let c1_i32_194 : BitVec 32 := 1#32
  let arg10 : BitVec 32 := Scf.iv c0_i32_192 c1_i32_194 k0_t1
  let v484 : BitVec 32 := Scalar.addi v2 arg10
  let v579 : BitVec 32 := Scalar.addi v578 v484
  let v580 : Index := Scalar.indexCast v579
  ![v580.toNat]
def k0_mult86 (v581 : BitVec 32) : BitVec 32 :=
  v581

def k0_off164 (i : grid0.Coords) (k0_t1 : Fin k0_t1_loop.trips) : Fin 1 → Nat :=
  let arg0 : BitVec 32 := BitVec.ofNat 32 (i 0).val
  let c16_i32_238 : BitVec 32 := 16#32
  let v583 : BitVec 32 := Scalar.muli arg0 c16_i32_238
  let c14_i32_239 : BitVec 32 := 14#32
  let v584 : BitVec 32 := Scalar.addi v583 c14_i32_239
  let c32_i32_240 : BitVec 32 := 32#32
  let v585 : BitVec 32 := Scalar.muli v584 c32_i32_240
  let arg2 : BitVec 32 := BitVec.ofNat 32 (i 2).val
  let c4_i32 : BitVec 32 := 4#32
  let v0 : BitVec 32 := Scalar.muli arg2 c4_i32
  let c0_i32 : BitVec 32 := 0#32
  let c4_i32_0 : BitVec 32 := 4#32
  let v1 : BitVec 32 := Scalar.muli c0_i32 c4_i32_0
  let v2 : BitVec 32 := Scalar.addi v0 v1
  let c0_i32_192 : BitVec 32 := 0#32
  let c1_i32_194 : BitVec 32 := 1#32
  let arg10 : BitVec 32 := Scf.iv c0_i32_192 c1_i32_194 k0_t1
  let v484 : BitVec 32 := Scalar.addi v2 arg10
  let v586 : BitVec 32 := Scalar.addi v585 v484
  let v587 : Index := Scalar.indexCast v586
  ![v587.toNat]
def k0_mult87 (v588 : BitVec 32) : BitVec 32 :=
  v588

def k0_off165 (i : grid0.Coords) (k0_t1 : Fin k0_t1_loop.trips) : Fin 1 → Nat :=
  let arg0 : BitVec 32 := BitVec.ofNat 32 (i 0).val
  let c16_i32_241 : BitVec 32 := 16#32
  let v590 : BitVec 32 := Scalar.muli arg0 c16_i32_241
  let c15_i32_242 : BitVec 32 := 15#32
  let v591 : BitVec 32 := Scalar.addi v590 c15_i32_242
  let c32_i32_243 : BitVec 32 := 32#32
  let v592 : BitVec 32 := Scalar.muli v591 c32_i32_243
  let arg2 : BitVec 32 := BitVec.ofNat 32 (i 2).val
  let c4_i32 : BitVec 32 := 4#32
  let v0 : BitVec 32 := Scalar.muli arg2 c4_i32
  let c0_i32 : BitVec 32 := 0#32
  let c4_i32_0 : BitVec 32 := 4#32
  let v1 : BitVec 32 := Scalar.muli c0_i32 c4_i32_0
  let v2 : BitVec 32 := Scalar.addi v0 v1
  let c0_i32_192 : BitVec 32 := 0#32
  let c1_i32_194 : BitVec 32 := 1#32
  let arg10 : BitVec 32 := Scf.iv c0_i32_192 c1_i32_194 k0_t1
  let v484 : BitVec 32 := Scalar.addi v2 arg10
  let v593 : BitVec 32 := Scalar.addi v592 v484
  let v594 : Index := Scalar.indexCast v593
  ![v594.toNat]
def k0_mult88 (v595 : BitVec 32) : BitVec 32 :=
  v595

def k0_mult89 (i : grid0.Coords) (k0_t1 : Fin k0_t1_loop.trips) : BitVec 32 :=
  let arg2 : BitVec 32 := BitVec.ofNat 32 (i 2).val
  let c4_i32 : BitVec 32 := 4#32
  let v0 : BitVec 32 := Scalar.muli arg2 c4_i32
  let c0_i32 : BitVec 32 := 0#32
  let c4_i32_0 : BitVec 32 := 4#32
  let v1 : BitVec 32 := Scalar.muli c0_i32 c4_i32_0
  let v2 : BitVec 32 := Scalar.addi v0 v1
  let c0_i32_192 : BitVec 32 := 0#32
  let c1_i32_194 : BitVec 32 := 1#32
  let arg10 : BitVec 32 := Scf.iv c0_i32_192 c1_i32_194 k0_t1
  let v597 : BitVec 32 := Scalar.addi v2 arg10
  let v598 : BitVec 32 := Scalar.subi v597 v0
  let c256_i32 : BitVec 32 := 256#32
  let v599 : BitVec 32 := Scalar.muli v598 c256_i32
  v599
def k0_off166 (v490 : BitVec 32) : Fin 4 → Nat :=
  let c0 : Index := 0#32
  let c0_244 : Index := 0#32
  let v491 : BitVec 32 := v490
  let v601 : Index := Scalar.indexCast v491
  let c0_245 : Index := 0#32
  ![0, 0, v601.toNat, 0]

def k0_chk66 (v122 : BitVec 32) (v239 : BitVec 32) (v356 : BitVec 32) (v473 : BitVec 32) (v490 : BitVec 32) : Prop :=
  (∀ (k0_h2 : k0_cond2 v122 v239 v356 v473 = 1#1), 16 ∣ (k0_mult73 v490).toNat) ∧
  (∀ (k0_h2 : k0_cond2 v122 v239 v356 v473 = 1#1), ∀ a, (k0_off166 v490) a + S1x1x272x512.size a ≤ S1x16x1296x512.size a)
theorem k0_mult73_dvd : ∀ (v122 : BitVec 32) (v239 : BitVec 32) (v356 : BitVec 32) (v473 : BitVec 32) (v490 : BitVec 32) (k0_hw66 : k0_chk66 v122 v239 v356 v473 v490), ∀ (k0_h2 : k0_cond2 v122 v239 v356 v473 = 1#1), 16 ∣ (k0_mult73 v490).toNat := fun v122 v239 v356 v473 v490 k0_hw66 k0_h2 => k0_hw66.1 k0_h2
theorem k0_off166_inb : ∀ (v122 : BitVec 32) (v239 : BitVec 32) (v356 : BitVec 32) (v473 : BitVec 32) (v490 : BitVec 32) (k0_hw66 : k0_chk66 v122 v239 v356 v473 v490), ∀ (k0_h2 : k0_cond2 v122 v239 v356 v473 = 1#1), ∀ a, (k0_off166 v490) a + S1x1x272x512.size a ≤ S1x16x1296x512.size a := fun v122 v239 v356 v473 v490 k0_hw66 k0_h2 => k0_hw66.2 k0_h2

def k0_off167 (v497 : BitVec 32) : Fin 4 → Nat :=
  let c0_248 : Index := 0#32
  let c1 : Index := 1#32
  let v498 : BitVec 32 := v497
  let v607 : Index := Scalar.indexCast v498
  let c0_249 : Index := 0#32
  ![0, 1, v607.toNat, 0]

def k0_chk67 (v122 : BitVec 32) (v239 : BitVec 32) (v356 : BitVec 32) (v473 : BitVec 32) (v497 : BitVec 32) : Prop :=
  (∀ (k0_h2 : k0_cond2 v122 v239 v356 v473 = 1#1), 16 ∣ (k0_mult74 v497).toNat) ∧
  (∀ (k0_h2 : k0_cond2 v122 v239 v356 v473 = 1#1), ∀ a, (k0_off167 v497) a + S1x1x272x512.size a ≤ S1x16x1296x512.size a)
theorem k0_mult74_dvd : ∀ (v122 : BitVec 32) (v239 : BitVec 32) (v356 : BitVec 32) (v473 : BitVec 32) (v497 : BitVec 32) (k0_hw67 : k0_chk67 v122 v239 v356 v473 v497), ∀ (k0_h2 : k0_cond2 v122 v239 v356 v473 = 1#1), 16 ∣ (k0_mult74 v497).toNat := fun v122 v239 v356 v473 v497 k0_hw67 k0_h2 => k0_hw67.1 k0_h2
theorem k0_off167_inb : ∀ (v122 : BitVec 32) (v239 : BitVec 32) (v356 : BitVec 32) (v473 : BitVec 32) (v497 : BitVec 32) (k0_hw67 : k0_chk67 v122 v239 v356 v473 v497), ∀ (k0_h2 : k0_cond2 v122 v239 v356 v473 = 1#1), ∀ a, (k0_off167 v497) a + S1x1x272x512.size a ≤ S1x16x1296x512.size a := fun v122 v239 v356 v473 v497 k0_hw67 k0_h2 => k0_hw67.2 k0_h2

def k0_off168 (v504 : BitVec 32) : Fin 4 → Nat :=
  let c0_251 : Index := 0#32
  let c2 : Index := 2#32
  let v505 : BitVec 32 := v504
  let v613 : Index := Scalar.indexCast v505
  let c0_252 : Index := 0#32
  ![0, 2, v613.toNat, 0]

def k0_chk68 (v122 : BitVec 32) (v239 : BitVec 32) (v356 : BitVec 32) (v473 : BitVec 32) (v504 : BitVec 32) : Prop :=
  (∀ (k0_h2 : k0_cond2 v122 v239 v356 v473 = 1#1), 16 ∣ (k0_mult75 v504).toNat) ∧
  (∀ (k0_h2 : k0_cond2 v122 v239 v356 v473 = 1#1), ∀ a, (k0_off168 v504) a + S1x1x272x512.size a ≤ S1x16x1296x512.size a)
theorem k0_mult75_dvd : ∀ (v122 : BitVec 32) (v239 : BitVec 32) (v356 : BitVec 32) (v473 : BitVec 32) (v504 : BitVec 32) (k0_hw68 : k0_chk68 v122 v239 v356 v473 v504), ∀ (k0_h2 : k0_cond2 v122 v239 v356 v473 = 1#1), 16 ∣ (k0_mult75 v504).toNat := fun v122 v239 v356 v473 v504 k0_hw68 k0_h2 => k0_hw68.1 k0_h2
theorem k0_off168_inb : ∀ (v122 : BitVec 32) (v239 : BitVec 32) (v356 : BitVec 32) (v473 : BitVec 32) (v504 : BitVec 32) (k0_hw68 : k0_chk68 v122 v239 v356 v473 v504), ∀ (k0_h2 : k0_cond2 v122 v239 v356 v473 = 1#1), ∀ a, (k0_off168 v504) a + S1x1x272x512.size a ≤ S1x16x1296x512.size a := fun v122 v239 v356 v473 v504 k0_hw68 k0_h2 => k0_hw68.2 k0_h2

def k0_off169 (v511 : BitVec 32) : Fin 4 → Nat :=
  let c0_254 : Index := 0#32
  let c3 : Index := 3#32
  let v512 : BitVec 32 := v511
  let v619 : Index := Scalar.indexCast v512
  let c0_255 : Index := 0#32
  ![0, 3, v619.toNat, 0]

def k0_chk69 (v122 : BitVec 32) (v239 : BitVec 32) (v356 : BitVec 32) (v473 : BitVec 32) (v511 : BitVec 32) : Prop :=
  (∀ (k0_h2 : k0_cond2 v122 v239 v356 v473 = 1#1), 16 ∣ (k0_mult76 v511).toNat) ∧
  (∀ (k0_h2 : k0_cond2 v122 v239 v356 v473 = 1#1), ∀ a, (k0_off169 v511) a + S1x1x272x512.size a ≤ S1x16x1296x512.size a)
theorem k0_mult76_dvd : ∀ (v122 : BitVec 32) (v239 : BitVec 32) (v356 : BitVec 32) (v473 : BitVec 32) (v511 : BitVec 32) (k0_hw69 : k0_chk69 v122 v239 v356 v473 v511), ∀ (k0_h2 : k0_cond2 v122 v239 v356 v473 = 1#1), 16 ∣ (k0_mult76 v511).toNat := fun v122 v239 v356 v473 v511 k0_hw69 k0_h2 => k0_hw69.1 k0_h2
theorem k0_off169_inb : ∀ (v122 : BitVec 32) (v239 : BitVec 32) (v356 : BitVec 32) (v473 : BitVec 32) (v511 : BitVec 32) (k0_hw69 : k0_chk69 v122 v239 v356 v473 v511), ∀ (k0_h2 : k0_cond2 v122 v239 v356 v473 = 1#1), ∀ a, (k0_off169 v511) a + S1x1x272x512.size a ≤ S1x16x1296x512.size a := fun v122 v239 v356 v473 v511 k0_hw69 k0_h2 => k0_hw69.2 k0_h2

def k0_off170 (v518 : BitVec 32) : Fin 4 → Nat :=
  let c0_257 : Index := 0#32
  let c4 : Index := 4#32
  let v519 : BitVec 32 := v518
  let v625 : Index := Scalar.indexCast v519
  let c0_258 : Index := 0#32
  ![0, 4, v625.toNat, 0]

def k0_chk70 (v122 : BitVec 32) (v239 : BitVec 32) (v356 : BitVec 32) (v473 : BitVec 32) (v518 : BitVec 32) : Prop :=
  (∀ (k0_h2 : k0_cond2 v122 v239 v356 v473 = 1#1), 16 ∣ (k0_mult77 v518).toNat) ∧
  (∀ (k0_h2 : k0_cond2 v122 v239 v356 v473 = 1#1), ∀ a, (k0_off170 v518) a + S1x1x272x512.size a ≤ S1x16x1296x512.size a)
theorem k0_mult77_dvd : ∀ (v122 : BitVec 32) (v239 : BitVec 32) (v356 : BitVec 32) (v473 : BitVec 32) (v518 : BitVec 32) (k0_hw70 : k0_chk70 v122 v239 v356 v473 v518), ∀ (k0_h2 : k0_cond2 v122 v239 v356 v473 = 1#1), 16 ∣ (k0_mult77 v518).toNat := fun v122 v239 v356 v473 v518 k0_hw70 k0_h2 => k0_hw70.1 k0_h2
theorem k0_off170_inb : ∀ (v122 : BitVec 32) (v239 : BitVec 32) (v356 : BitVec 32) (v473 : BitVec 32) (v518 : BitVec 32) (k0_hw70 : k0_chk70 v122 v239 v356 v473 v518), ∀ (k0_h2 : k0_cond2 v122 v239 v356 v473 = 1#1), ∀ a, (k0_off170 v518) a + S1x1x272x512.size a ≤ S1x16x1296x512.size a := fun v122 v239 v356 v473 v518 k0_hw70 k0_h2 => k0_hw70.2 k0_h2

def k0_off171 (v525 : BitVec 32) : Fin 4 → Nat :=
  let c0_260 : Index := 0#32
  let c5 : Index := 5#32
  let v526 : BitVec 32 := v525
  let v631 : Index := Scalar.indexCast v526
  let c0_261 : Index := 0#32
  ![0, 5, v631.toNat, 0]

def k0_chk71 (v122 : BitVec 32) (v239 : BitVec 32) (v356 : BitVec 32) (v473 : BitVec 32) (v525 : BitVec 32) : Prop :=
  (∀ (k0_h2 : k0_cond2 v122 v239 v356 v473 = 1#1), 16 ∣ (k0_mult78 v525).toNat) ∧
  (∀ (k0_h2 : k0_cond2 v122 v239 v356 v473 = 1#1), ∀ a, (k0_off171 v525) a + S1x1x272x512.size a ≤ S1x16x1296x512.size a)
theorem k0_mult78_dvd : ∀ (v122 : BitVec 32) (v239 : BitVec 32) (v356 : BitVec 32) (v473 : BitVec 32) (v525 : BitVec 32) (k0_hw71 : k0_chk71 v122 v239 v356 v473 v525), ∀ (k0_h2 : k0_cond2 v122 v239 v356 v473 = 1#1), 16 ∣ (k0_mult78 v525).toNat := fun v122 v239 v356 v473 v525 k0_hw71 k0_h2 => k0_hw71.1 k0_h2
theorem k0_off171_inb : ∀ (v122 : BitVec 32) (v239 : BitVec 32) (v356 : BitVec 32) (v473 : BitVec 32) (v525 : BitVec 32) (k0_hw71 : k0_chk71 v122 v239 v356 v473 v525), ∀ (k0_h2 : k0_cond2 v122 v239 v356 v473 = 1#1), ∀ a, (k0_off171 v525) a + S1x1x272x512.size a ≤ S1x16x1296x512.size a := fun v122 v239 v356 v473 v525 k0_hw71 k0_h2 => k0_hw71.2 k0_h2

def k0_off172 (v532 : BitVec 32) : Fin 4 → Nat :=
  let c0_263 : Index := 0#32
  let c6 : Index := 6#32
  let v533 : BitVec 32 := v532
  let v637 : Index := Scalar.indexCast v533
  let c0_264 : Index := 0#32
  ![0, 6, v637.toNat, 0]

def k0_chk72 (v122 : BitVec 32) (v239 : BitVec 32) (v356 : BitVec 32) (v473 : BitVec 32) (v532 : BitVec 32) : Prop :=
  (∀ (k0_h2 : k0_cond2 v122 v239 v356 v473 = 1#1), 16 ∣ (k0_mult79 v532).toNat) ∧
  (∀ (k0_h2 : k0_cond2 v122 v239 v356 v473 = 1#1), ∀ a, (k0_off172 v532) a + S1x1x272x512.size a ≤ S1x16x1296x512.size a)
theorem k0_mult79_dvd : ∀ (v122 : BitVec 32) (v239 : BitVec 32) (v356 : BitVec 32) (v473 : BitVec 32) (v532 : BitVec 32) (k0_hw72 : k0_chk72 v122 v239 v356 v473 v532), ∀ (k0_h2 : k0_cond2 v122 v239 v356 v473 = 1#1), 16 ∣ (k0_mult79 v532).toNat := fun v122 v239 v356 v473 v532 k0_hw72 k0_h2 => k0_hw72.1 k0_h2
theorem k0_off172_inb : ∀ (v122 : BitVec 32) (v239 : BitVec 32) (v356 : BitVec 32) (v473 : BitVec 32) (v532 : BitVec 32) (k0_hw72 : k0_chk72 v122 v239 v356 v473 v532), ∀ (k0_h2 : k0_cond2 v122 v239 v356 v473 = 1#1), ∀ a, (k0_off172 v532) a + S1x1x272x512.size a ≤ S1x16x1296x512.size a := fun v122 v239 v356 v473 v532 k0_hw72 k0_h2 => k0_hw72.2 k0_h2

def k0_off173 (v539 : BitVec 32) : Fin 4 → Nat :=
  let c0_266 : Index := 0#32
  let c7 : Index := 7#32
  let v540 : BitVec 32 := v539
  let v643 : Index := Scalar.indexCast v540
  let c0_267 : Index := 0#32
  ![0, 7, v643.toNat, 0]

def k0_chk73 (v122 : BitVec 32) (v239 : BitVec 32) (v356 : BitVec 32) (v473 : BitVec 32) (v539 : BitVec 32) : Prop :=
  (∀ (k0_h2 : k0_cond2 v122 v239 v356 v473 = 1#1), 16 ∣ (k0_mult80 v539).toNat) ∧
  (∀ (k0_h2 : k0_cond2 v122 v239 v356 v473 = 1#1), ∀ a, (k0_off173 v539) a + S1x1x272x512.size a ≤ S1x16x1296x512.size a)
theorem k0_mult80_dvd : ∀ (v122 : BitVec 32) (v239 : BitVec 32) (v356 : BitVec 32) (v473 : BitVec 32) (v539 : BitVec 32) (k0_hw73 : k0_chk73 v122 v239 v356 v473 v539), ∀ (k0_h2 : k0_cond2 v122 v239 v356 v473 = 1#1), 16 ∣ (k0_mult80 v539).toNat := fun v122 v239 v356 v473 v539 k0_hw73 k0_h2 => k0_hw73.1 k0_h2
theorem k0_off173_inb : ∀ (v122 : BitVec 32) (v239 : BitVec 32) (v356 : BitVec 32) (v473 : BitVec 32) (v539 : BitVec 32) (k0_hw73 : k0_chk73 v122 v239 v356 v473 v539), ∀ (k0_h2 : k0_cond2 v122 v239 v356 v473 = 1#1), ∀ a, (k0_off173 v539) a + S1x1x272x512.size a ≤ S1x16x1296x512.size a := fun v122 v239 v356 v473 v539 k0_hw73 k0_h2 => k0_hw73.2 k0_h2

def k0_off174 (v546 : BitVec 32) : Fin 4 → Nat :=
  let c0_269 : Index := 0#32
  let c8 : Index := 8#32
  let v547 : BitVec 32 := v546
  let v649 : Index := Scalar.indexCast v547
  let c0_270 : Index := 0#32
  ![0, 8, v649.toNat, 0]

def k0_chk74 (v122 : BitVec 32) (v239 : BitVec 32) (v356 : BitVec 32) (v473 : BitVec 32) (v546 : BitVec 32) : Prop :=
  (∀ (k0_h2 : k0_cond2 v122 v239 v356 v473 = 1#1), 16 ∣ (k0_mult81 v546).toNat) ∧
  (∀ (k0_h2 : k0_cond2 v122 v239 v356 v473 = 1#1), ∀ a, (k0_off174 v546) a + S1x1x272x512.size a ≤ S1x16x1296x512.size a)
theorem k0_mult81_dvd : ∀ (v122 : BitVec 32) (v239 : BitVec 32) (v356 : BitVec 32) (v473 : BitVec 32) (v546 : BitVec 32) (k0_hw74 : k0_chk74 v122 v239 v356 v473 v546), ∀ (k0_h2 : k0_cond2 v122 v239 v356 v473 = 1#1), 16 ∣ (k0_mult81 v546).toNat := fun v122 v239 v356 v473 v546 k0_hw74 k0_h2 => k0_hw74.1 k0_h2
theorem k0_off174_inb : ∀ (v122 : BitVec 32) (v239 : BitVec 32) (v356 : BitVec 32) (v473 : BitVec 32) (v546 : BitVec 32) (k0_hw74 : k0_chk74 v122 v239 v356 v473 v546), ∀ (k0_h2 : k0_cond2 v122 v239 v356 v473 = 1#1), ∀ a, (k0_off174 v546) a + S1x1x272x512.size a ≤ S1x16x1296x512.size a := fun v122 v239 v356 v473 v546 k0_hw74 k0_h2 => k0_hw74.2 k0_h2

def k0_off175 (v553 : BitVec 32) : Fin 4 → Nat :=
  let c0_272 : Index := 0#32
  let c9 : Index := 9#32
  let v554 : BitVec 32 := v553
  let v655 : Index := Scalar.indexCast v554
  let c0_273 : Index := 0#32
  ![0, 9, v655.toNat, 0]

def k0_chk75 (v122 : BitVec 32) (v239 : BitVec 32) (v356 : BitVec 32) (v473 : BitVec 32) (v553 : BitVec 32) : Prop :=
  (∀ (k0_h2 : k0_cond2 v122 v239 v356 v473 = 1#1), 16 ∣ (k0_mult82 v553).toNat) ∧
  (∀ (k0_h2 : k0_cond2 v122 v239 v356 v473 = 1#1), ∀ a, (k0_off175 v553) a + S1x1x272x512.size a ≤ S1x16x1296x512.size a)
theorem k0_mult82_dvd : ∀ (v122 : BitVec 32) (v239 : BitVec 32) (v356 : BitVec 32) (v473 : BitVec 32) (v553 : BitVec 32) (k0_hw75 : k0_chk75 v122 v239 v356 v473 v553), ∀ (k0_h2 : k0_cond2 v122 v239 v356 v473 = 1#1), 16 ∣ (k0_mult82 v553).toNat := fun v122 v239 v356 v473 v553 k0_hw75 k0_h2 => k0_hw75.1 k0_h2
theorem k0_off175_inb : ∀ (v122 : BitVec 32) (v239 : BitVec 32) (v356 : BitVec 32) (v473 : BitVec 32) (v553 : BitVec 32) (k0_hw75 : k0_chk75 v122 v239 v356 v473 v553), ∀ (k0_h2 : k0_cond2 v122 v239 v356 v473 = 1#1), ∀ a, (k0_off175 v553) a + S1x1x272x512.size a ≤ S1x16x1296x512.size a := fun v122 v239 v356 v473 v553 k0_hw75 k0_h2 => k0_hw75.2 k0_h2

def k0_off176 (v560 : BitVec 32) : Fin 4 → Nat :=
  let c0_275 : Index := 0#32
  let c10 : Index := 10#32
  let v561 : BitVec 32 := v560
  let v661 : Index := Scalar.indexCast v561
  let c0_276 : Index := 0#32
  ![0, 10, v661.toNat, 0]

def k0_chk76 (v122 : BitVec 32) (v239 : BitVec 32) (v356 : BitVec 32) (v473 : BitVec 32) (v560 : BitVec 32) : Prop :=
  (∀ (k0_h2 : k0_cond2 v122 v239 v356 v473 = 1#1), 16 ∣ (k0_mult83 v560).toNat) ∧
  (∀ (k0_h2 : k0_cond2 v122 v239 v356 v473 = 1#1), ∀ a, (k0_off176 v560) a + S1x1x272x512.size a ≤ S1x16x1296x512.size a)
theorem k0_mult83_dvd : ∀ (v122 : BitVec 32) (v239 : BitVec 32) (v356 : BitVec 32) (v473 : BitVec 32) (v560 : BitVec 32) (k0_hw76 : k0_chk76 v122 v239 v356 v473 v560), ∀ (k0_h2 : k0_cond2 v122 v239 v356 v473 = 1#1), 16 ∣ (k0_mult83 v560).toNat := fun v122 v239 v356 v473 v560 k0_hw76 k0_h2 => k0_hw76.1 k0_h2
theorem k0_off176_inb : ∀ (v122 : BitVec 32) (v239 : BitVec 32) (v356 : BitVec 32) (v473 : BitVec 32) (v560 : BitVec 32) (k0_hw76 : k0_chk76 v122 v239 v356 v473 v560), ∀ (k0_h2 : k0_cond2 v122 v239 v356 v473 = 1#1), ∀ a, (k0_off176 v560) a + S1x1x272x512.size a ≤ S1x16x1296x512.size a := fun v122 v239 v356 v473 v560 k0_hw76 k0_h2 => k0_hw76.2 k0_h2

def k0_off177 (v567 : BitVec 32) : Fin 4 → Nat :=
  let c0_278 : Index := 0#32
  let c11 : Index := 11#32
  let v568 : BitVec 32 := v567
  let v667 : Index := Scalar.indexCast v568
  let c0_279 : Index := 0#32
  ![0, 11, v667.toNat, 0]

def k0_chk77 (v122 : BitVec 32) (v239 : BitVec 32) (v356 : BitVec 32) (v473 : BitVec 32) (v567 : BitVec 32) : Prop :=
  (∀ (k0_h2 : k0_cond2 v122 v239 v356 v473 = 1#1), 16 ∣ (k0_mult84 v567).toNat) ∧
  (∀ (k0_h2 : k0_cond2 v122 v239 v356 v473 = 1#1), ∀ a, (k0_off177 v567) a + S1x1x272x512.size a ≤ S1x16x1296x512.size a)
theorem k0_mult84_dvd : ∀ (v122 : BitVec 32) (v239 : BitVec 32) (v356 : BitVec 32) (v473 : BitVec 32) (v567 : BitVec 32) (k0_hw77 : k0_chk77 v122 v239 v356 v473 v567), ∀ (k0_h2 : k0_cond2 v122 v239 v356 v473 = 1#1), 16 ∣ (k0_mult84 v567).toNat := fun v122 v239 v356 v473 v567 k0_hw77 k0_h2 => k0_hw77.1 k0_h2
theorem k0_off177_inb : ∀ (v122 : BitVec 32) (v239 : BitVec 32) (v356 : BitVec 32) (v473 : BitVec 32) (v567 : BitVec 32) (k0_hw77 : k0_chk77 v122 v239 v356 v473 v567), ∀ (k0_h2 : k0_cond2 v122 v239 v356 v473 = 1#1), ∀ a, (k0_off177 v567) a + S1x1x272x512.size a ≤ S1x16x1296x512.size a := fun v122 v239 v356 v473 v567 k0_hw77 k0_h2 => k0_hw77.2 k0_h2

def k0_off178 (v574 : BitVec 32) : Fin 4 → Nat :=
  let c0_281 : Index := 0#32
  let c12 : Index := 12#32
  let v575 : BitVec 32 := v574
  let v673 : Index := Scalar.indexCast v575
  let c0_282 : Index := 0#32
  ![0, 12, v673.toNat, 0]

def k0_chk78 (v122 : BitVec 32) (v239 : BitVec 32) (v356 : BitVec 32) (v473 : BitVec 32) (v574 : BitVec 32) : Prop :=
  (∀ (k0_h2 : k0_cond2 v122 v239 v356 v473 = 1#1), 16 ∣ (k0_mult85 v574).toNat) ∧
  (∀ (k0_h2 : k0_cond2 v122 v239 v356 v473 = 1#1), ∀ a, (k0_off178 v574) a + S1x1x272x512.size a ≤ S1x16x1296x512.size a)
theorem k0_mult85_dvd : ∀ (v122 : BitVec 32) (v239 : BitVec 32) (v356 : BitVec 32) (v473 : BitVec 32) (v574 : BitVec 32) (k0_hw78 : k0_chk78 v122 v239 v356 v473 v574), ∀ (k0_h2 : k0_cond2 v122 v239 v356 v473 = 1#1), 16 ∣ (k0_mult85 v574).toNat := fun v122 v239 v356 v473 v574 k0_hw78 k0_h2 => k0_hw78.1 k0_h2
theorem k0_off178_inb : ∀ (v122 : BitVec 32) (v239 : BitVec 32) (v356 : BitVec 32) (v473 : BitVec 32) (v574 : BitVec 32) (k0_hw78 : k0_chk78 v122 v239 v356 v473 v574), ∀ (k0_h2 : k0_cond2 v122 v239 v356 v473 = 1#1), ∀ a, (k0_off178 v574) a + S1x1x272x512.size a ≤ S1x16x1296x512.size a := fun v122 v239 v356 v473 v574 k0_hw78 k0_h2 => k0_hw78.2 k0_h2

def k0_off179 (v581 : BitVec 32) : Fin 4 → Nat :=
  let c0_284 : Index := 0#32
  let c13 : Index := 13#32
  let v582 : BitVec 32 := v581
  let v679 : Index := Scalar.indexCast v582
  let c0_285 : Index := 0#32
  ![0, 13, v679.toNat, 0]

def k0_chk79 (v122 : BitVec 32) (v239 : BitVec 32) (v356 : BitVec 32) (v473 : BitVec 32) (v581 : BitVec 32) : Prop :=
  (∀ (k0_h2 : k0_cond2 v122 v239 v356 v473 = 1#1), 16 ∣ (k0_mult86 v581).toNat) ∧
  (∀ (k0_h2 : k0_cond2 v122 v239 v356 v473 = 1#1), ∀ a, (k0_off179 v581) a + S1x1x272x512.size a ≤ S1x16x1296x512.size a)
theorem k0_mult86_dvd : ∀ (v122 : BitVec 32) (v239 : BitVec 32) (v356 : BitVec 32) (v473 : BitVec 32) (v581 : BitVec 32) (k0_hw79 : k0_chk79 v122 v239 v356 v473 v581), ∀ (k0_h2 : k0_cond2 v122 v239 v356 v473 = 1#1), 16 ∣ (k0_mult86 v581).toNat := fun v122 v239 v356 v473 v581 k0_hw79 k0_h2 => k0_hw79.1 k0_h2
theorem k0_off179_inb : ∀ (v122 : BitVec 32) (v239 : BitVec 32) (v356 : BitVec 32) (v473 : BitVec 32) (v581 : BitVec 32) (k0_hw79 : k0_chk79 v122 v239 v356 v473 v581), ∀ (k0_h2 : k0_cond2 v122 v239 v356 v473 = 1#1), ∀ a, (k0_off179 v581) a + S1x1x272x512.size a ≤ S1x16x1296x512.size a := fun v122 v239 v356 v473 v581 k0_hw79 k0_h2 => k0_hw79.2 k0_h2

def k0_off180 (v588 : BitVec 32) : Fin 4 → Nat :=
  let c0_287 : Index := 0#32
  let c14 : Index := 14#32
  let v589 : BitVec 32 := v588
  let v685 : Index := Scalar.indexCast v589
  let c0_288 : Index := 0#32
  ![0, 14, v685.toNat, 0]

def k0_chk80 (v122 : BitVec 32) (v239 : BitVec 32) (v356 : BitVec 32) (v473 : BitVec 32) (v588 : BitVec 32) : Prop :=
  (∀ (k0_h2 : k0_cond2 v122 v239 v356 v473 = 1#1), 16 ∣ (k0_mult87 v588).toNat) ∧
  (∀ (k0_h2 : k0_cond2 v122 v239 v356 v473 = 1#1), ∀ a, (k0_off180 v588) a + S1x1x272x512.size a ≤ S1x16x1296x512.size a)
theorem k0_mult87_dvd : ∀ (v122 : BitVec 32) (v239 : BitVec 32) (v356 : BitVec 32) (v473 : BitVec 32) (v588 : BitVec 32) (k0_hw80 : k0_chk80 v122 v239 v356 v473 v588), ∀ (k0_h2 : k0_cond2 v122 v239 v356 v473 = 1#1), 16 ∣ (k0_mult87 v588).toNat := fun v122 v239 v356 v473 v588 k0_hw80 k0_h2 => k0_hw80.1 k0_h2
theorem k0_off180_inb : ∀ (v122 : BitVec 32) (v239 : BitVec 32) (v356 : BitVec 32) (v473 : BitVec 32) (v588 : BitVec 32) (k0_hw80 : k0_chk80 v122 v239 v356 v473 v588), ∀ (k0_h2 : k0_cond2 v122 v239 v356 v473 = 1#1), ∀ a, (k0_off180 v588) a + S1x1x272x512.size a ≤ S1x16x1296x512.size a := fun v122 v239 v356 v473 v588 k0_hw80 k0_h2 => k0_hw80.2 k0_h2

def k0_off181 (v595 : BitVec 32) : Fin 4 → Nat :=
  let c0_290 : Index := 0#32
  let c15 : Index := 15#32
  let v596 : BitVec 32 := v595
  let v691 : Index := Scalar.indexCast v596
  let c0_291 : Index := 0#32
  ![0, 15, v691.toNat, 0]

def k0_chk81 (v122 : BitVec 32) (v239 : BitVec 32) (v356 : BitVec 32) (v473 : BitVec 32) (v595 : BitVec 32) : Prop :=
  (∀ (k0_h2 : k0_cond2 v122 v239 v356 v473 = 1#1), 16 ∣ (k0_mult88 v595).toNat) ∧
  (∀ (k0_h2 : k0_cond2 v122 v239 v356 v473 = 1#1), ∀ a, (k0_off181 v595) a + S1x1x272x512.size a ≤ S1x16x1296x512.size a)
theorem k0_mult88_dvd : ∀ (v122 : BitVec 32) (v239 : BitVec 32) (v356 : BitVec 32) (v473 : BitVec 32) (v595 : BitVec 32) (k0_hw81 : k0_chk81 v122 v239 v356 v473 v595), ∀ (k0_h2 : k0_cond2 v122 v239 v356 v473 = 1#1), 16 ∣ (k0_mult88 v595).toNat := fun v122 v239 v356 v473 v595 k0_hw81 k0_h2 => k0_hw81.1 k0_h2
theorem k0_off181_inb : ∀ (v122 : BitVec 32) (v239 : BitVec 32) (v356 : BitVec 32) (v473 : BitVec 32) (v595 : BitVec 32) (k0_hw81 : k0_chk81 v122 v239 v356 v473 v595), ∀ (k0_h2 : k0_cond2 v122 v239 v356 v473 = 1#1), ∀ a, (k0_off181 v595) a + S1x1x272x512.size a ≤ S1x16x1296x512.size a := fun v122 v239 v356 v473 v595 k0_hw81 k0_h2 => k0_hw81.2 k0_h2

def k0_mult90 (i : grid0.Coords) (k0_t1 : Fin k0_t1_loop.trips) : BitVec 32 :=
  let arg2 : BitVec 32 := BitVec.ofNat 32 (i 2).val
  let c4_i32 : BitVec 32 := 4#32
  let v0 : BitVec 32 := Scalar.muli arg2 c4_i32
  let c0_i32 : BitVec 32 := 0#32
  let c4_i32_0 : BitVec 32 := 4#32
  let v1 : BitVec 32 := Scalar.muli c0_i32 c4_i32_0
  let v2 : BitVec 32 := Scalar.addi v0 v1
  let c0_i32_192 : BitVec 32 := 0#32
  let c1_i32_194 : BitVec 32 := 1#32
  let arg10 : BitVec 32 := Scf.iv c0_i32_192 c1_i32_194 k0_t1
  let v597 : BitVec 32 := Scalar.addi v2 arg10
  let c256_i32_293 : BitVec 32 := 256#32
  let v697 : BitVec 32 := Scalar.muli v597 c256_i32_293
  v697
def k0_off182 (i : grid0.Coords) (k0_t1 : Fin k0_t1_loop.trips) : Fin 4 → Nat :=
  let c0_294 : Index := 0#32
  let c0_295 : Index := 0#32
  let c0_296 : Index := 0#32
  let arg2 : BitVec 32 := BitVec.ofNat 32 (i 2).val
  let c4_i32 : BitVec 32 := 4#32
  let v0 : BitVec 32 := Scalar.muli arg2 c4_i32
  let c0_i32 : BitVec 32 := 0#32
  let c4_i32_0 : BitVec 32 := 4#32
  let v1 : BitVec 32 := Scalar.muli c0_i32 c4_i32_0
  let v2 : BitVec 32 := Scalar.addi v0 v1
  let c0_i32_192 : BitVec 32 := 0#32
  let c1_i32_194 : BitVec 32 := 1#32
  let arg10 : BitVec 32 := Scf.iv c0_i32_192 c1_i32_194 k0_t1
  let v597 : BitVec 32 := Scalar.addi v2 arg10
  let c256_i32_293 : BitVec 32 := 256#32
  let v697 : BitVec 32 := Scalar.muli v597 c256_i32_293
  let v698 : BitVec 32 := v697
  let v700 : Index := Scalar.indexCast v698
  ![0, 0, 0, v700.toNat]
def k0_off183 (i : grid0.Coords) (k0_t1 : Fin k0_t1_loop.trips) : Fin 4 → Nat :=
  let c0_298 : Index := 0#32
  let c1_299 : Index := 1#32
  let c0_300 : Index := 0#32
  let arg2 : BitVec 32 := BitVec.ofNat 32 (i 2).val
  let c4_i32 : BitVec 32 := 4#32
  let v0 : BitVec 32 := Scalar.muli arg2 c4_i32
  let c0_i32 : BitVec 32 := 0#32
  let c4_i32_0 : BitVec 32 := 4#32
  let v1 : BitVec 32 := Scalar.muli c0_i32 c4_i32_0
  let v2 : BitVec 32 := Scalar.addi v0 v1
  let c0_i32_192 : BitVec 32 := 0#32
  let c1_i32_194 : BitVec 32 := 1#32
  let arg10 : BitVec 32 := Scf.iv c0_i32_192 c1_i32_194 k0_t1
  let v597 : BitVec 32 := Scalar.addi v2 arg10
  let c256_i32_293 : BitVec 32 := 256#32
  let v697 : BitVec 32 := Scalar.muli v597 c256_i32_293
  let v698 : BitVec 32 := v697
  let v711 : Index := Scalar.indexCast v698
  ![0, 1, 0, v711.toNat]
def k0_off184 (i : grid0.Coords) (k0_t1 : Fin k0_t1_loop.trips) : Fin 4 → Nat :=
  let c0_303 : Index := 0#32
  let c2_304 : Index := 2#32
  let c0_305 : Index := 0#32
  let arg2 : BitVec 32 := BitVec.ofNat 32 (i 2).val
  let c4_i32 : BitVec 32 := 4#32
  let v0 : BitVec 32 := Scalar.muli arg2 c4_i32
  let c0_i32 : BitVec 32 := 0#32
  let c4_i32_0 : BitVec 32 := 4#32
  let v1 : BitVec 32 := Scalar.muli c0_i32 c4_i32_0
  let v2 : BitVec 32 := Scalar.addi v0 v1
  let c0_i32_192 : BitVec 32 := 0#32
  let c1_i32_194 : BitVec 32 := 1#32
  let arg10 : BitVec 32 := Scf.iv c0_i32_192 c1_i32_194 k0_t1
  let v597 : BitVec 32 := Scalar.addi v2 arg10
  let c256_i32_293 : BitVec 32 := 256#32
  let v697 : BitVec 32 := Scalar.muli v597 c256_i32_293
  let v698 : BitVec 32 := v697
  let v722 : Index := Scalar.indexCast v698
  ![0, 2, 0, v722.toNat]
def k0_off185 (i : grid0.Coords) (k0_t1 : Fin k0_t1_loop.trips) : Fin 4 → Nat :=
  let c0_308 : Index := 0#32
  let c3_309 : Index := 3#32
  let c0_310 : Index := 0#32
  let arg2 : BitVec 32 := BitVec.ofNat 32 (i 2).val
  let c4_i32 : BitVec 32 := 4#32
  let v0 : BitVec 32 := Scalar.muli arg2 c4_i32
  let c0_i32 : BitVec 32 := 0#32
  let c4_i32_0 : BitVec 32 := 4#32
  let v1 : BitVec 32 := Scalar.muli c0_i32 c4_i32_0
  let v2 : BitVec 32 := Scalar.addi v0 v1
  let c0_i32_192 : BitVec 32 := 0#32
  let c1_i32_194 : BitVec 32 := 1#32
  let arg10 : BitVec 32 := Scf.iv c0_i32_192 c1_i32_194 k0_t1
  let v597 : BitVec 32 := Scalar.addi v2 arg10
  let c256_i32_293 : BitVec 32 := 256#32
  let v697 : BitVec 32 := Scalar.muli v597 c256_i32_293
  let v698 : BitVec 32 := v697
  let v733 : Index := Scalar.indexCast v698
  ![0, 3, 0, v733.toNat]
def k0_off186 (i : grid0.Coords) (k0_t1 : Fin k0_t1_loop.trips) : Fin 4 → Nat :=
  let c0_313 : Index := 0#32
  let c4_314 : Index := 4#32
  let c0_315 : Index := 0#32
  let arg2 : BitVec 32 := BitVec.ofNat 32 (i 2).val
  let c4_i32 : BitVec 32 := 4#32
  let v0 : BitVec 32 := Scalar.muli arg2 c4_i32
  let c0_i32 : BitVec 32 := 0#32
  let c4_i32_0 : BitVec 32 := 4#32
  let v1 : BitVec 32 := Scalar.muli c0_i32 c4_i32_0
  let v2 : BitVec 32 := Scalar.addi v0 v1
  let c0_i32_192 : BitVec 32 := 0#32
  let c1_i32_194 : BitVec 32 := 1#32
  let arg10 : BitVec 32 := Scf.iv c0_i32_192 c1_i32_194 k0_t1
  let v597 : BitVec 32 := Scalar.addi v2 arg10
  let c256_i32_293 : BitVec 32 := 256#32
  let v697 : BitVec 32 := Scalar.muli v597 c256_i32_293
  let v698 : BitVec 32 := v697
  let v744 : Index := Scalar.indexCast v698
  ![0, 4, 0, v744.toNat]
def k0_off187 (i : grid0.Coords) (k0_t1 : Fin k0_t1_loop.trips) : Fin 4 → Nat :=
  let c0_318 : Index := 0#32
  let c5_319 : Index := 5#32
  let c0_320 : Index := 0#32
  let arg2 : BitVec 32 := BitVec.ofNat 32 (i 2).val
  let c4_i32 : BitVec 32 := 4#32
  let v0 : BitVec 32 := Scalar.muli arg2 c4_i32
  let c0_i32 : BitVec 32 := 0#32
  let c4_i32_0 : BitVec 32 := 4#32
  let v1 : BitVec 32 := Scalar.muli c0_i32 c4_i32_0
  let v2 : BitVec 32 := Scalar.addi v0 v1
  let c0_i32_192 : BitVec 32 := 0#32
  let c1_i32_194 : BitVec 32 := 1#32
  let arg10 : BitVec 32 := Scf.iv c0_i32_192 c1_i32_194 k0_t1
  let v597 : BitVec 32 := Scalar.addi v2 arg10
  let c256_i32_293 : BitVec 32 := 256#32
  let v697 : BitVec 32 := Scalar.muli v597 c256_i32_293
  let v698 : BitVec 32 := v697
  let v755 : Index := Scalar.indexCast v698
  ![0, 5, 0, v755.toNat]
def k0_off188 (i : grid0.Coords) (k0_t1 : Fin k0_t1_loop.trips) : Fin 4 → Nat :=
  let c0_323 : Index := 0#32
  let c6_324 : Index := 6#32
  let c0_325 : Index := 0#32
  let arg2 : BitVec 32 := BitVec.ofNat 32 (i 2).val
  let c4_i32 : BitVec 32 := 4#32
  let v0 : BitVec 32 := Scalar.muli arg2 c4_i32
  let c0_i32 : BitVec 32 := 0#32
  let c4_i32_0 : BitVec 32 := 4#32
  let v1 : BitVec 32 := Scalar.muli c0_i32 c4_i32_0
  let v2 : BitVec 32 := Scalar.addi v0 v1
  let c0_i32_192 : BitVec 32 := 0#32
  let c1_i32_194 : BitVec 32 := 1#32
  let arg10 : BitVec 32 := Scf.iv c0_i32_192 c1_i32_194 k0_t1
  let v597 : BitVec 32 := Scalar.addi v2 arg10
  let c256_i32_293 : BitVec 32 := 256#32
  let v697 : BitVec 32 := Scalar.muli v597 c256_i32_293
  let v698 : BitVec 32 := v697
  let v766 : Index := Scalar.indexCast v698
  ![0, 6, 0, v766.toNat]
def k0_off189 (i : grid0.Coords) (k0_t1 : Fin k0_t1_loop.trips) : Fin 4 → Nat :=
  let c0_328 : Index := 0#32
  let c7_329 : Index := 7#32
  let c0_330 : Index := 0#32
  let arg2 : BitVec 32 := BitVec.ofNat 32 (i 2).val
  let c4_i32 : BitVec 32 := 4#32
  let v0 : BitVec 32 := Scalar.muli arg2 c4_i32
  let c0_i32 : BitVec 32 := 0#32
  let c4_i32_0 : BitVec 32 := 4#32
  let v1 : BitVec 32 := Scalar.muli c0_i32 c4_i32_0
  let v2 : BitVec 32 := Scalar.addi v0 v1
  let c0_i32_192 : BitVec 32 := 0#32
  let c1_i32_194 : BitVec 32 := 1#32
  let arg10 : BitVec 32 := Scf.iv c0_i32_192 c1_i32_194 k0_t1
  let v597 : BitVec 32 := Scalar.addi v2 arg10
  let c256_i32_293 : BitVec 32 := 256#32
  let v697 : BitVec 32 := Scalar.muli v597 c256_i32_293
  let v698 : BitVec 32 := v697
  let v777 : Index := Scalar.indexCast v698
  ![0, 7, 0, v777.toNat]
def k0_off190 (i : grid0.Coords) (k0_t1 : Fin k0_t1_loop.trips) : Fin 4 → Nat :=
  let c0_333 : Index := 0#32
  let c8_334 : Index := 8#32
  let c0_335 : Index := 0#32
  let arg2 : BitVec 32 := BitVec.ofNat 32 (i 2).val
  let c4_i32 : BitVec 32 := 4#32
  let v0 : BitVec 32 := Scalar.muli arg2 c4_i32
  let c0_i32 : BitVec 32 := 0#32
  let c4_i32_0 : BitVec 32 := 4#32
  let v1 : BitVec 32 := Scalar.muli c0_i32 c4_i32_0
  let v2 : BitVec 32 := Scalar.addi v0 v1
  let c0_i32_192 : BitVec 32 := 0#32
  let c1_i32_194 : BitVec 32 := 1#32
  let arg10 : BitVec 32 := Scf.iv c0_i32_192 c1_i32_194 k0_t1
  let v597 : BitVec 32 := Scalar.addi v2 arg10
  let c256_i32_293 : BitVec 32 := 256#32
  let v697 : BitVec 32 := Scalar.muli v597 c256_i32_293
  let v698 : BitVec 32 := v697
  let v788 : Index := Scalar.indexCast v698
  ![0, 8, 0, v788.toNat]
def k0_off191 (i : grid0.Coords) (k0_t1 : Fin k0_t1_loop.trips) : Fin 4 → Nat :=
  let c0_338 : Index := 0#32
  let c9_339 : Index := 9#32
  let c0_340 : Index := 0#32
  let arg2 : BitVec 32 := BitVec.ofNat 32 (i 2).val
  let c4_i32 : BitVec 32 := 4#32
  let v0 : BitVec 32 := Scalar.muli arg2 c4_i32
  let c0_i32 : BitVec 32 := 0#32
  let c4_i32_0 : BitVec 32 := 4#32
  let v1 : BitVec 32 := Scalar.muli c0_i32 c4_i32_0
  let v2 : BitVec 32 := Scalar.addi v0 v1
  let c0_i32_192 : BitVec 32 := 0#32
  let c1_i32_194 : BitVec 32 := 1#32
  let arg10 : BitVec 32 := Scf.iv c0_i32_192 c1_i32_194 k0_t1
  let v597 : BitVec 32 := Scalar.addi v2 arg10
  let c256_i32_293 : BitVec 32 := 256#32
  let v697 : BitVec 32 := Scalar.muli v597 c256_i32_293
  let v698 : BitVec 32 := v697
  let v799 : Index := Scalar.indexCast v698
  ![0, 9, 0, v799.toNat]
def k0_off192 (i : grid0.Coords) (k0_t1 : Fin k0_t1_loop.trips) : Fin 4 → Nat :=
  let c0_343 : Index := 0#32
  let c10_344 : Index := 10#32
  let c0_345 : Index := 0#32
  let arg2 : BitVec 32 := BitVec.ofNat 32 (i 2).val
  let c4_i32 : BitVec 32 := 4#32
  let v0 : BitVec 32 := Scalar.muli arg2 c4_i32
  let c0_i32 : BitVec 32 := 0#32
  let c4_i32_0 : BitVec 32 := 4#32
  let v1 : BitVec 32 := Scalar.muli c0_i32 c4_i32_0
  let v2 : BitVec 32 := Scalar.addi v0 v1
  let c0_i32_192 : BitVec 32 := 0#32
  let c1_i32_194 : BitVec 32 := 1#32
  let arg10 : BitVec 32 := Scf.iv c0_i32_192 c1_i32_194 k0_t1
  let v597 : BitVec 32 := Scalar.addi v2 arg10
  let c256_i32_293 : BitVec 32 := 256#32
  let v697 : BitVec 32 := Scalar.muli v597 c256_i32_293
  let v698 : BitVec 32 := v697
  let v810 : Index := Scalar.indexCast v698
  ![0, 10, 0, v810.toNat]
def k0_off193 (i : grid0.Coords) (k0_t1 : Fin k0_t1_loop.trips) : Fin 4 → Nat :=
  let c0_348 : Index := 0#32
  let c11_349 : Index := 11#32
  let c0_350 : Index := 0#32
  let arg2 : BitVec 32 := BitVec.ofNat 32 (i 2).val
  let c4_i32 : BitVec 32 := 4#32
  let v0 : BitVec 32 := Scalar.muli arg2 c4_i32
  let c0_i32 : BitVec 32 := 0#32
  let c4_i32_0 : BitVec 32 := 4#32
  let v1 : BitVec 32 := Scalar.muli c0_i32 c4_i32_0
  let v2 : BitVec 32 := Scalar.addi v0 v1
  let c0_i32_192 : BitVec 32 := 0#32
  let c1_i32_194 : BitVec 32 := 1#32
  let arg10 : BitVec 32 := Scf.iv c0_i32_192 c1_i32_194 k0_t1
  let v597 : BitVec 32 := Scalar.addi v2 arg10
  let c256_i32_293 : BitVec 32 := 256#32
  let v697 : BitVec 32 := Scalar.muli v597 c256_i32_293
  let v698 : BitVec 32 := v697
  let v821 : Index := Scalar.indexCast v698
  ![0, 11, 0, v821.toNat]
def k0_off194 (i : grid0.Coords) (k0_t1 : Fin k0_t1_loop.trips) : Fin 4 → Nat :=
  let c0_353 : Index := 0#32
  let c12_354 : Index := 12#32
  let c0_355 : Index := 0#32
  let arg2 : BitVec 32 := BitVec.ofNat 32 (i 2).val
  let c4_i32 : BitVec 32 := 4#32
  let v0 : BitVec 32 := Scalar.muli arg2 c4_i32
  let c0_i32 : BitVec 32 := 0#32
  let c4_i32_0 : BitVec 32 := 4#32
  let v1 : BitVec 32 := Scalar.muli c0_i32 c4_i32_0
  let v2 : BitVec 32 := Scalar.addi v0 v1
  let c0_i32_192 : BitVec 32 := 0#32
  let c1_i32_194 : BitVec 32 := 1#32
  let arg10 : BitVec 32 := Scf.iv c0_i32_192 c1_i32_194 k0_t1
  let v597 : BitVec 32 := Scalar.addi v2 arg10
  let c256_i32_293 : BitVec 32 := 256#32
  let v697 : BitVec 32 := Scalar.muli v597 c256_i32_293
  let v698 : BitVec 32 := v697
  let v832 : Index := Scalar.indexCast v698
  ![0, 12, 0, v832.toNat]
def k0_off195 (i : grid0.Coords) (k0_t1 : Fin k0_t1_loop.trips) : Fin 4 → Nat :=
  let c0_358 : Index := 0#32
  let c13_359 : Index := 13#32
  let c0_360 : Index := 0#32
  let arg2 : BitVec 32 := BitVec.ofNat 32 (i 2).val
  let c4_i32 : BitVec 32 := 4#32
  let v0 : BitVec 32 := Scalar.muli arg2 c4_i32
  let c0_i32 : BitVec 32 := 0#32
  let c4_i32_0 : BitVec 32 := 4#32
  let v1 : BitVec 32 := Scalar.muli c0_i32 c4_i32_0
  let v2 : BitVec 32 := Scalar.addi v0 v1
  let c0_i32_192 : BitVec 32 := 0#32
  let c1_i32_194 : BitVec 32 := 1#32
  let arg10 : BitVec 32 := Scf.iv c0_i32_192 c1_i32_194 k0_t1
  let v597 : BitVec 32 := Scalar.addi v2 arg10
  let c256_i32_293 : BitVec 32 := 256#32
  let v697 : BitVec 32 := Scalar.muli v597 c256_i32_293
  let v698 : BitVec 32 := v697
  let v843 : Index := Scalar.indexCast v698
  ![0, 13, 0, v843.toNat]
def k0_off196 (i : grid0.Coords) (k0_t1 : Fin k0_t1_loop.trips) : Fin 4 → Nat :=
  let c0_363 : Index := 0#32
  let c14_364 : Index := 14#32
  let c0_365 : Index := 0#32
  let arg2 : BitVec 32 := BitVec.ofNat 32 (i 2).val
  let c4_i32 : BitVec 32 := 4#32
  let v0 : BitVec 32 := Scalar.muli arg2 c4_i32
  let c0_i32 : BitVec 32 := 0#32
  let c4_i32_0 : BitVec 32 := 4#32
  let v1 : BitVec 32 := Scalar.muli c0_i32 c4_i32_0
  let v2 : BitVec 32 := Scalar.addi v0 v1
  let c0_i32_192 : BitVec 32 := 0#32
  let c1_i32_194 : BitVec 32 := 1#32
  let arg10 : BitVec 32 := Scf.iv c0_i32_192 c1_i32_194 k0_t1
  let v597 : BitVec 32 := Scalar.addi v2 arg10
  let c256_i32_293 : BitVec 32 := 256#32
  let v697 : BitVec 32 := Scalar.muli v597 c256_i32_293
  let v698 : BitVec 32 := v697
  let v854 : Index := Scalar.indexCast v698
  ![0, 14, 0, v854.toNat]
def k0_off197 (i : grid0.Coords) (k0_t1 : Fin k0_t1_loop.trips) : Fin 4 → Nat :=
  let c0_368 : Index := 0#32
  let c15_369 : Index := 15#32
  let c0_370 : Index := 0#32
  let arg2 : BitVec 32 := BitVec.ofNat 32 (i 2).val
  let c4_i32 : BitVec 32 := 4#32
  let v0 : BitVec 32 := Scalar.muli arg2 c4_i32
  let c0_i32 : BitVec 32 := 0#32
  let c4_i32_0 : BitVec 32 := 4#32
  let v1 : BitVec 32 := Scalar.muli c0_i32 c4_i32_0
  let v2 : BitVec 32 := Scalar.addi v0 v1
  let c0_i32_192 : BitVec 32 := 0#32
  let c1_i32_194 : BitVec 32 := 1#32
  let arg10 : BitVec 32 := Scf.iv c0_i32_192 c1_i32_194 k0_t1
  let v597 : BitVec 32 := Scalar.addi v2 arg10
  let c256_i32_293 : BitVec 32 := 256#32
  let v697 : BitVec 32 := Scalar.muli v597 c256_i32_293
  let v698 : BitVec 32 := v697
  let v865 : Index := Scalar.indexCast v698
  ![0, 15, 0, v865.toNat]
def k0_off198 (i : grid0.Coords) (k0_t1 : Fin k0_t1_loop.trips) : Fin 2 → Nat :=
  let arg2 : BitVec 32 := BitVec.ofNat 32 (i 2).val
  let c4_i32 : BitVec 32 := 4#32
  let v0 : BitVec 32 := Scalar.muli arg2 c4_i32
  let c0_i32 : BitVec 32 := 0#32
  let c4_i32_0 : BitVec 32 := 4#32
  let v1 : BitVec 32 := Scalar.muli c0_i32 c4_i32_0
  let v2 : BitVec 32 := Scalar.addi v0 v1
  let c0_i32_192 : BitVec 32 := 0#32
  let c1_i32_194 : BitVec 32 := 1#32
  let arg10 : BitVec 32 := Scf.iv c0_i32_192 c1_i32_194 k0_t1
  let v597 : BitVec 32 := Scalar.addi v2 arg10
  let v598 : BitVec 32 := Scalar.subi v597 v0
  let c256_i32 : BitVec 32 := 256#32
  let v599 : BitVec 32 := Scalar.muli v598 c256_i32
  let v600 : BitVec 32 := v599
  let v877 : Index := Scalar.indexCast v600
  let c0_373 : Index := 0#32
  ![v877.toNat, 0]
def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage0_0 : Fin 2 → Memref sig .tc .vmem S1x16x1x8192 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1x16x1296x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== Reference5Ideal.lean ====
abbrev S32768x128 : Shape := ⟨2, ![32768, 128]⟩
abbrev S128x128 : Shape := ⟨2, ![128, 128]⟩
abbrev S4x16x1296x1024 : Shape := ⟨4, ![4, 16, 1296, 1024]⟩
abbrev S32768x1024 : Shape := ⟨2, ![32768, 1024]⟩
abbrev S4x8192x128 : Shape := ⟨3, ![4, 8192, 128]⟩
abbrev S4x8192x16 : Shape := ⟨3, ![4, 8192, 16]⟩
abbrev S4x16x8192 : Shape := ⟨3, ![4, 16, 8192]⟩
abbrev S_ : Shape := ⟨0, ![]⟩
abbrev S4x16x8192x1 : Shape := ⟨4, ![4, 16, 8192, 1]⟩
abbrev S4x16x8192x1024 : Shape := ⟨4, ![4, 16, 8192, 1024]⟩
abbrev S4x8192x1024 : Shape := ⟨3, ![4, 8192, 1024]⟩

abbrev nBuf : Space → Nat
  | .hbm => 33
  | .vmem => 0
  | .smem => 0
  | _ => 0

abbrev bufTy : (tb : Table) → Fin (tcTables nBuf tb) → BufTy
  | .hbm, ⟨0, _⟩ => ⟨S32768x128, .i32⟩
  | .hbm, ⟨1, _⟩ => ⟨S128x128, .i32⟩
  | .hbm, ⟨2, _⟩ => ⟨S4x16x1296x1024, .bf16⟩
  | .hbm, ⟨3, _⟩ => ⟨S32768x1024, .f32⟩
  | .hbm, ⟨4, _⟩ => ⟨S4x8192x128, .i32⟩
  | .hbm, ⟨5, _⟩ => ⟨S4x8192x16, .i32⟩
  | .hbm, ⟨6, _⟩ => ⟨S4x16x8192, .i32⟩
  | .hbm, ⟨7, _⟩ => ⟨S4x16x1296x1024, .f32⟩
  | .hbm, ⟨8, _⟩ => ⟨S_, .i32⟩
  | .hbm, ⟨9, _⟩ => ⟨S4x16x8192, .i32⟩
  | .hbm, ⟨10, _⟩ => ⟨S4x16x8192, .i32⟩
  | .hbm, ⟨11, _⟩ => ⟨S4x16x8192x1, .i32⟩
  | .hbm, ⟨12, _⟩ => ⟨S_, .i32⟩
  | .hbm, ⟨13, _⟩ => ⟨S4x16x8192x1, .i32⟩
  | .hbm, ⟨14, _⟩ => ⟨S4x16x8192x1, .i1⟩
  | .hbm, ⟨15, _⟩ => ⟨S_, .i32⟩
  | .hbm, ⟨16, _⟩ => ⟨S4x16x8192x1, .i32⟩
  | .hbm, ⟨17, _⟩ => ⟨S4x16x8192x1, .i32⟩
  | .hbm, ⟨18, _⟩ => ⟨S4x16x8192x1, .i32⟩
  | .hbm, ⟨19, _⟩ => ⟨S4x16x8192x1024, .f32⟩
  | .hbm, ⟨20, _⟩ => ⟨S4x16x8192x1, .i32⟩
  | .hbm, ⟨21, _⟩ => ⟨S_, .i32⟩
  | .hbm, ⟨22, _⟩ => ⟨S4x16x8192x1, .i32⟩
  | .hbm, ⟨23, _⟩ => ⟨S4x16x8192x1, .i1⟩
  | .hbm, ⟨24, _⟩ => ⟨S_, .f32⟩
  | .hbm, ⟨25, _⟩ => ⟨S_, .f32⟩
  | .hbm, ⟨26, _⟩ => ⟨S4x16x8192x1024, .i1⟩
  | .hbm, ⟨27, _⟩ => ⟨S4x16x8192x1024, .f32⟩
  | .hbm, ⟨28, _⟩ => ⟨S4x16x8192x1024, .f32⟩
  | .hbm, ⟨29, _⟩ => ⟨S_, .f32⟩
  | .hbm, ⟨30, _⟩ => ⟨S4x8192x1024, .f32⟩
  | .hbm, ⟨31, _⟩ => ⟨S32768x1024, .f32⟩
  | .hbm, ⟨32, _⟩ => ⟨S32768x1024, .f32⟩
  | _, _ => ⟨S32768x128, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_call0_c : Ref sig .tc := ⟨.hbm, 12, rfl⟩
abbrev main_call0_v0 : Ref sig .tc := ⟨.hbm, 13, rfl⟩
abbrev main_call0_v1 : Ref sig .tc := ⟨.hbm, 14, rfl⟩
abbrev main_call0_c_0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_v7 : Ref sig .tc := ⟨.hbm, 19, rfl⟩
abbrev main_v8 : Ref sig .tc := ⟨.hbm, 20, rfl⟩
abbrev main_c_0 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_v11 : Ref sig .tc := ⟨.hbm, 28, rfl⟩
abbrev main_cst_1 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩

abbrev nD : Nat := 1
abbrev τ : Topo := Topo.v7x

variable {F : FTy → Type} [FloatOps F]
-- ==== Proof.Ffn.lean ====
/-
  The value of the expert feed-forward kernel over the extended reals: after every grid point the three weight scratches hold
  the weights of the point's expert, and the block written back is the SwiGLU of the expert's rows times their gates, with
  zero rows from the capacity on.
-/
module

public import proofs.«01_k».proof.Proof.Gen.KernelIdeal.Value
public import Idealize.ShloMosaic.Lib.Pipeline.ValueKit
public import Idealize.ShloMosaic.Lib.Pipeline.ValueKit.Held
public import Idealize.ShloMosaic.Lib.Pipeline.ReadBack
public import Idealize.ShloMosaic.Lib.Pointwise.Tactic
public import Idealize.ShloMosaic.Lib.ValueLayout

@[expose] public section

set_option maxRecDepth 16384

noncomputable section

namespace Cert.KernelIdeal.Ffn

open Cert.KernelIdeal Cert.KernelIdeal.Gen Idealize.ShloMosaic Idealize.ShloMosaic.TcCoe Idealize.SL.Sem

variable (m : (ℓ : Loc nD τ sig) → Buf (Elt Ideal) ℓ)

/-- A weight block as the scratch holds it: its unit axis dropped (the cast is the identity over the reals). -/
def wmat (x : Vec Ideal S1x1024x1024 .f32) : Vec Ideal S1024x1024 .bf16 := fun j => x (ix3 (0 : Fin 1) (j 0) (j 1))

/-- A whole weight block read through its full slice with the unit axis dropped. -/
theorem read_slice_reshape {mm : Memref sig .tc .vmem S1x1024x1024 .f32} (h : mm.IsWhole) (X : Vec Ideal S1x1024x1024 .f32)
    (inb) (hn) :
    View.read (Elt Ideal) ((mm.view.slice (Rect.unit (s := S1x1024x1024) ![0, 0, 0] ![1, 1024, 1024] inb)).reshape S1024x1024 hn) (h.unread X)
      = wmat X := by
  funext j
  refine (congrFun (h.read_unread X) ((Rect.unit (s := S1x1024x1024) ![0, 0, 0] ![1, 1024, 1024] inb).emb (Shape.reshapeEquiv hn j))).trans ?_
  have key : ∀ y : S1x1024x1024.Idx, (Rect.unit (s := S1x1024x1024) ![0, 0, 0] ![1, 1024, 1024] inb).emb y = y := fun y =>
    funext fun a => Fin.ext ((ValueKit.rect_emb_unit_val _ _ inb y a).trans (by revert a; intro ⟨a, ha⟩; match a, ha with | 0, _ => exact Nat.zero_add _ | 1, _ => exact Nat.zero_add _ | 2, _ => exact Nat.zero_add _))
  rw [key]
  have hn' : (⟨2, ![1024, 1024]⟩ : Shape).numel = (⟨3, ![1, 1024, 1024]⟩ : Shape).numel := hn
  exact congrArg X (((congrArg (Shape.reshapeEquiv hn') (ValueIdx.eq_ix2 j)).trans (ValueIdx.reshapeEquiv_ix2_1ab hn' (j 0) (j 1))).trans
    (ix3_eq_valueIdx (0 : Fin 1) (j 0) (j 1)).symm)

/-- The value of one row block's store at row `r` and column `n`, from the expert's rows `x`, the affinity lanes `g` and the
    expert's three matrices. -/
def row (e : Fin 16) (x : Fin 1024 → Ideal .bf16) (g : Fin 256 → Ideal .bf16) (w0 w1 w2 : Vec Ideal S1024x1024 .bf16) (n : Fin 1024) : EReal :=
  (∑ k : Fin 1024, ((∑ d : Fin 1024, x d * w0 (ix2 d k)) * Ideal.logistic (∑ d : Fin 1024, x d * w0 (ix2 d k))
      * ∑ d : Fin 1024, x d * w1 (ix2 d k)) * w2 (ix2 k n))
    * (g ⟨e.val, by omega⟩ + g ⟨128 + e.val, by omega⟩)

/-- Of the 256 lanes the kernel keeps the two that belong to the expert, so the sum over all of them is the sum of the two. -/
theorem gate_sum (e : Fin 16) (f : Fin 256 → EReal) :
    ∑ l : Fin 256, Scalar.select (IntOp.ori (IntOp.cmpi CmpIPredicate.eq (BitVec.ofNat 32 l.val) (BitVec.ofNat 32 e.val))
        (IntOp.cmpi CmpIPredicate.eq (BitVec.ofNat 32 l.val) (Scalar.addi (128#32) (BitVec.ofNat 32 e.val)))) (f l) 0
      = f ⟨e.val, by omega⟩ + f ⟨128 + e.val, by omega⟩ := by
  have hl : ∀ l : Fin 256, Scalar.select (IntOp.ori (IntOp.cmpi CmpIPredicate.eq (BitVec.ofNat 32 l.val) (BitVec.ofNat 32 e.val))
        (IntOp.cmpi CmpIPredicate.eq (BitVec.ofNat 32 l.val) (Scalar.addi (128#32) (BitVec.ofNat 32 e.val)))) (f l) 0
      = (if l = (⟨e.val, by omega⟩ : Fin 256) then f l else 0) + (if l = (⟨128 + e.val, by omega⟩ : Fin 256) then f l else 0) := by
    intro l
    have hd : ∀ (e : Fin 16) (l : Fin 256), (IntOp.ori (IntOp.cmpi CmpIPredicate.eq (BitVec.ofNat 32 l.val) (BitVec.ofNat 32 e.val))
        (IntOp.cmpi CmpIPredicate.eq (BitVec.ofNat 32 l.val) (Scalar.addi (128#32) (BitVec.ofNat 32 e.val)))) = BitVec.ofBool (decide (l.val = e.val ∨ l.val = 128 + e.val)) := by
      decide +kernel
    rw [hd e l]
    by_cases h1 : l.val = e.val
    · have h2 : ¬ l.val = 128 + e.val := by omega
      simp [Fin.ext_iff, h1, Scalar.select]
    · by_cases h2 : l.val = 128 + e.val
      · simp [Fin.ext_iff, h1, h2, Scalar.select]
      · simp [Fin.ext_iff, h1, h2, Scalar.select]
  rw [Finset.sum_congr rfl fun l _ => hl l, Finset.sum_add_distrib]
  simp

theorem pay19_eq (v9 v37 v39 v48 v52 v56) : k0_pay19 (F := Ideal) v9 v37 v39 v48 v52 v56 = k0_pay18 v9 v37 v39 v48 v52 v56 := rfl
theorem pay1_eq (v9 v37 v39 v48 v52 v56) : k0_pay1 (F := Ideal) v9 (k0_pay20 v37) v39 v48 v52 v56 = k0_pay18 v9 v37 v39 v48 v52 v56 := rfl
theorem pay17_eq (i v37 v39 v48 v52 v56) : k0_pay17 (F := Ideal) (k0_pay16 i v37 v39 v48 v52 v56) = k0_pay18 (k0_pay15 i) v37 v39 v48 v52 v56 := rfl

theorem pay18_apply (i v37 v39 v48 v52 v56) (x : S1x1x256x1024.Idx) :
    k0_pay18 (F := Ideal) (k0_pay15 i) v37 v39 v48 v52 v56 x
      = row (i 0) (fun d => v37 (ix4 (0 : Fin 1) (0 : Fin 1) (x 2) d)) (fun l => v39 (ix4 (0 : Fin 1) (0 : Fin 1) (x 2) l)) v48 v52 v56 (x 3) := by
  pointwise [k0_pay18, k0_pay15]
  rw [gate_sum (i 0) fun l => v39 (ix4 (0 : Fin 1) (0 : Fin 1) (x 2) l)]
  rfl

/-! ## The weight scratches -/

/-- Scratch 0's four stored row blocks, read back as one matrix. -/
theorem readback0 {κ : Kind} {sp : Space} (v : View sig κ sp S1024x1024 .bf16) (X : Vec Ideal S1x1024x1024 .f32) (i0 i1 i2 i3 j0 j1 j2 j3 inb) :
    v.readCov [⟨Rect.unit (s := S1024x1024) ![768, 0] ![256, 1024] i3, k0_pay6 (F := Ideal) (View.ld (wmat X) (Rect.unit (s := S1024x1024) ![768, 0] ![256, 1024] j3))⟩,
        ⟨Rect.unit (s := S1024x1024) ![512, 0] ![256, 1024] i2, k0_pay5 (F := Ideal) (View.ld (wmat X) (Rect.unit (s := S1024x1024) ![512, 0] ![256, 1024] j2))⟩,
        ⟨Rect.unit (s := S1024x1024) ![256, 0] ![256, 1024] i1, k0_pay4 (F := Ideal) (View.ld (wmat X) (Rect.unit (s := S1024x1024) ![256, 0] ![256, 1024] j1))⟩,
        ⟨Rect.unit (s := S1024x1024) ![0, 0] ![256, 1024] i0, k0_pay3 (F := Ideal) (View.ld (wmat X) (Rect.unit (s := S1024x1024) ![0, 0] ![256, 1024] j0))⟩]
      (Rect.unit (s := S1024x1024) ![0, 0] ![1024, 1024] inb).toLoadRect = wmat X := by
  rw [View.readCov_eq_canon']
  funext j
  pointwise []
  have hcover := View.cover_of_tiledBy (Val := Elt Ideal) (s := S1024x1024) (e := .bf16) [⟨Rect.unit (s := S1024x1024) ![768, 0] ![256, 1024] i3, k0_pay6 (F := Ideal) (View.ld (wmat X) (Rect.unit (s := S1024x1024) ![768, 0] ![256, 1024] j3))⟩,
        ⟨Rect.unit (s := S1024x1024) ![512, 0] ![256, 1024] i2, k0_pay5 (F := Ideal) (View.ld (wmat X) (Rect.unit (s := S1024x1024) ![512, 0] ![256, 1024] j2))⟩,
        ⟨Rect.unit (s := S1024x1024) ![256, 0] ![256, 1024] i1, k0_pay4 (F := Ideal) (View.ld (wmat X) (Rect.unit (s := S1024x1024) ![256, 0] ![256, 1024] j1))⟩,
        ⟨Rect.unit (s := S1024x1024) ![0, 0] ![256, 1024] i0, k0_pay3 (F := Ideal) (View.ld (wmat X) (Rect.unit (s := S1024x1024) ![0, 0] ![256, 1024] j0))⟩] ![256, 1024] (by sl_kernel_rfl) j
  idx_vars j
  canon_tiles x h using hcover
  all_goals (open_payloads; pointwise [wmat])
  all_goals exact congrArg X (congrArg₂ (ix3 0) (Fin.ext (by first | exact h0.symm | exact (h0.trans (Nat.zero_add _)).symm))
    (Fin.ext (by first | exact h1.symm | exact (h1.trans (Nat.zero_add _)).symm)))

/-- … and as the scratch is left for the points after. -/
theorem canon0 (X : Vec Ideal S1x1024x1024 .f32) (i0 i1 i2 i3 j0 j1 j2 j3) :
    View.canon [⟨Rect.unit (s := S1024x1024) ![768, 0] ![256, 1024] i3, k0_pay6 (F := Ideal) (View.ld (wmat X) (Rect.unit (s := S1024x1024) ![768, 0] ![256, 1024] j3))⟩,
        ⟨Rect.unit (s := S1024x1024) ![512, 0] ![256, 1024] i2, k0_pay5 (F := Ideal) (View.ld (wmat X) (Rect.unit (s := S1024x1024) ![512, 0] ![256, 1024] j2))⟩,
        ⟨Rect.unit (s := S1024x1024) ![256, 0] ![256, 1024] i1, k0_pay4 (F := Ideal) (View.ld (wmat X) (Rect.unit (s := S1024x1024) ![256, 0] ![256, 1024] j1))⟩,
        ⟨Rect.unit (s := S1024x1024) ![0, 0] ![256, 1024] i0, k0_pay3 (F := Ideal) (View.ld (wmat X) (Rect.unit (s := S1024x1024) ![0, 0] ![256, 1024] j0))⟩] = wmat X := by
  have h := readback0 (View.whole cc0_scratch0) X i0 i1 i2 i3 j0 j1 j2 j3 (by decide)
  rw [View.readCov_eq_canon'] at h
  refine Eq.trans ?_ h
  funext j
  pointwise []

/-- Scratch 1's four stored row blocks, read back as one matrix. -/
theorem readback1 {κ : Kind} {sp : Space} (v : View sig κ sp S1024x1024 .bf16) (X : Vec Ideal S1x1024x1024 .f32) (i0 i1 i2 i3 j0 j1 j2 j3 inb) :
    v.readCov [⟨Rect.unit (s := S1024x1024) ![768, 0] ![256, 1024] i3, k0_pay10 (F := Ideal) (View.ld (wmat X) (Rect.unit (s := S1024x1024) ![768, 0] ![256, 1024] j3))⟩,
        ⟨Rect.unit (s := S1024x1024) ![512, 0] ![256, 1024] i2, k0_pay9 (F := Ideal) (View.ld (wmat X) (Rect.unit (s := S1024x1024) ![512, 0] ![256, 1024] j2))⟩,
        ⟨Rect.unit (s := S1024x1024) ![256, 0] ![256, 1024] i1, k0_pay8 (F := Ideal) (View.ld (wmat X) (Rect.unit (s := S1024x1024) ![256, 0] ![256, 1024] j1))⟩,
        ⟨Rect.unit (s := S1024x1024) ![0, 0] ![256, 1024] i0, k0_pay7 (F := Ideal) (View.ld (wmat X) (Rect.unit (s := S1024x1024) ![0, 0] ![256, 1024] j0))⟩]
      (Rect.unit (s := S1024x1024) ![0, 0] ![1024, 1024] inb).toLoadRect = wmat X := by
  rw [View.readCov_eq_canon']
  funext j
  pointwise []
  have hcover := View.cover_of_tiledBy (Val := Elt Ideal) (s := S1024x1024) (e := .bf16) [⟨Rect.unit (s := S1024x1024) ![768, 0] ![256, 1024] i3, k0_pay10 (F := Ideal) (View.ld (wmat X) (Rect.unit (s := S1024x1024) ![768, 0] ![256, 1024] j3))⟩,
        ⟨Rect.unit (s := S1024x1024) ![512, 0] ![256, 1024] i2, k0_pay9 (F := Ideal) (View.ld (wmat X) (Rect.unit (s := S1024x1024) ![512, 0] ![256, 1024] j2))⟩,
        ⟨Rect.unit (s := S1024x1024) ![256, 0] ![256, 1024] i1, k0_pay8 (F := Ideal) (View.ld (wmat X) (Rect.unit (s := S1024x1024) ![256, 0] ![256, 1024] j1))⟩,
        ⟨Rect.unit (s := S1024x1024) ![0, 0] ![256, 1024] i0, k0_pay7 (F := Ideal) (View.ld (wmat X) (Rect.unit (s := S1024x1024) ![0, 0] ![256, 1024] j0))⟩] ![256, 1024] (by sl_kernel_rfl) j
  idx_vars j
  canon_tiles x h using hcover
  all_goals (open_payloads; pointwise [wmat])
  all_goals exact congrArg X (congrArg₂ (ix3 0) (Fin.ext (by first | exact h0.symm | exact (h0.trans (Nat.zero_add _)).symm))
    (Fin.ext (by first | exact h1.symm | exact (h1.trans (Nat.zero_add _)).symm)))

/-- … and as the scratch is left for the points after. -/
theorem canon1 (X : Vec Ideal S1x1024x1024 .f32) (i0 i1 i2 i3 j0 j1 j2 j3) :
    View.canon [⟨Rect.unit (s := S1024x1024) ![768, 0] ![256, 1024] i3, k0_pay10 (F := Ideal) (View.ld (wmat X) (Rect.unit (s := S1024x1024) ![768, 0] ![256, 1024] j3))⟩,
        ⟨Rect.unit (s := S1024x1024) ![512, 0] ![256, 1024] i2, k0_pay9 (F := Ideal) (View.ld (wmat X) (Rect.unit (s := S1024x1024) ![512, 0] ![256, 1024] j2))⟩,
        ⟨Rect.unit (s := S1024x1024) ![256, 0] ![256, 1024] i1, k0_pay8 (F := Ideal) (View.ld (wmat X) (Rect.unit (s := S1024x1024) ![256, 0] ![256, 1024] j1))⟩,
        ⟨Rect.unit (s := S1024x1024) ![0, 0] ![256, 1024] i0, k0_pay7 (F := Ideal) (View.ld (wmat X) (Rect.unit (s := S1024x1024) ![0, 0] ![256, 1024] j0))⟩] = wmat X := by
  have h := readback1 (View.whole cc0_scratch1) X i0 i1 i2 i3 j0 j1 j2 j3 (by decide)
  rw [View.readCov_eq_canon'] at h
  refine Eq.trans ?_ h
  funext j
  pointwise []

/-- Scratch 2's four stored row blocks, read back as one matrix. -/
theorem readback2 {κ : Kind} {sp : Space} (v : View sig κ sp S1024x1024 .bf16) (X : Vec Ideal S1x1024x1024 .f32) (i0 i1 i2 i3 j0 j1 j2 j3 inb) :
    v.readCov [⟨Rect.unit (s := S1024x1024) ![768, 0] ![256, 1024] i3, k0_pay14 (F := Ideal) (View.ld (wmat X) (Rect.unit (s := S1024x1024) ![768, 0] ![256, 1024] j3))⟩,
        ⟨Rect.unit (s := S1024x1024) ![512, 0] ![256, 1024] i2, k0_pay13 (F := Ideal) (View.ld (wmat X) (Rect.unit (s := S1024x1024) ![512, 0] ![256, 1024] j2))⟩,
        ⟨Rect.unit (s := S1024x1024) ![256, 0] ![256, 1024] i1, k0_pay12 (F := Ideal) (View.ld (wmat X) (Rect.unit (s := S1024x1024) ![256, 0] ![256, 1024] j1))⟩,
        ⟨Rect.unit (s := S1024x1024) ![0, 0] ![256, 1024] i0, k0_pay11 (F := Ideal) (View.ld (wmat X) (Rect.unit (s := S1024x1024) ![0, 0] ![256, 1024] j0))⟩]
      (Rect.unit (s := S1024x1024) ![0, 0] ![1024, 1024] inb).toLoadRect = wmat X := by
  rw [View.readCov_eq_canon']
  funext j
  pointwise []
  have hcover := View.cover_of_tiledBy (Val := Elt Ideal) (s := S1024x1024) (e := .bf16) [⟨Rect.unit (s := S1024x1024) ![768, 0] ![256, 1024] i3, k0_pay14 (F := Ideal) (View.ld (wmat X) (Rect.unit (s := S1024x1024) ![768, 0] ![256, 1024] j3))⟩,
        ⟨Rect.unit (s := S1024x1024) ![512, 0] ![256, 1024] i2, k0_pay13 (F := Ideal) (View.ld (wmat X) (Rect.unit (s := S1024x1024) ![512, 0] ![256, 1024] j2))⟩,
        ⟨Rect.unit (s := S1024x1024) ![256, 0] ![256, 1024] i1, k0_pay12 (F := Ideal) (View.ld (wmat X) (Rect.unit (s := S1024x1024) ![256, 0] ![256, 1024] j1))⟩,
        ⟨Rect.unit (s := S1024x1024) ![0, 0] ![256, 1024] i0, k0_pay11 (F := Ideal) (View.ld (wmat X) (Rect.unit (s := S1024x1024) ![0, 0] ![256, 1024] j0))⟩] ![256, 1024] (by sl_kernel_rfl) j
  idx_vars j
  canon_tiles x h using hcover
  all_goals (open_payloads; pointwise [wmat])
  all_goals exact congrArg X (congrArg₂ (ix3 0) (Fin.ext (by first | exact h0.symm | exact (h0.trans (Nat.zero_add _)).symm))
    (Fin.ext (by first | exact h1.symm | exact (h1.trans (Nat.zero_add _)).symm)))

/-- … and as the scratch is left for the points after. -/
theorem canon2 (X : Vec Ideal S1x1024x1024 .f32) (i0 i1 i2 i3 j0 j1 j2 j3) :
    View.canon [⟨Rect.unit (s := S1024x1024) ![768, 0] ![256, 1024] i3, k0_pay14 (F := Ideal) (View.ld (wmat X) (Rect.unit (s := S1024x1024) ![768, 0] ![256, 1024] j3))⟩,
        ⟨Rect.unit (s := S1024x1024) ![512, 0] ![256, 1024] i2, k0_pay13 (F := Ideal) (View.ld (wmat X) (Rect.unit (s := S1024x1024) ![512, 0] ![256, 1024] j2))⟩,
        ⟨Rect.unit (s := S1024x1024) ![256, 0] ![256, 1024] i1, k0_pay12 (F := Ideal) (View.ld (wmat X) (Rect.unit (s := S1024x1024) ![256, 0] ![256, 1024] j1))⟩,
        ⟨Rect.unit (s := S1024x1024) ![0, 0] ![256, 1024] i0, k0_pay11 (F := Ideal) (View.ld (wmat X) (Rect.unit (s := S1024x1024) ![0, 0] ![256, 1024] j0))⟩] = wmat X := by
  have h := readback2 (View.whole cc0_scratch2) X i0 i1 i2 i3 j0 j1 j2 j3 (by decide)
  rw [View.readCov_eq_canon'] at h
  refine Eq.trans ?_ h
  funext j
  pointwise []

theorem s0_A (c : Dev nD) (t : Fin cfg0.N) (h : t.val % 4 = 0) : (outsAt0 m c t.val t.isLt).2.1 = wmat (iblk m c 2 t) := by
  rw [outsAt0_A m c t h]
  funext j
  frame_out
  simp only [read_slice_reshape]
  exact congrFun (canon0 _ _ _ _ _ _ _ _ _) j

theorem s0_B (c : Dev nD) (t : Fin cfg0.N) (h : ¬t.val % 4 = 0) :
    (outsAt0 m c t.val t.isLt).2.1 = (outsAt0 m c (t.val - 1) (Nat.lt_of_le_of_lt (Nat.sub_le _ _) t.isLt)).2.1 := by
  rw [outsAt0_B m c t h]; rfl

theorem s1_A (c : Dev nD) (t : Fin cfg0.N) (h : t.val % 4 = 0) : (outsAt0 m c t.val t.isLt).2.2.1 = wmat (iblk m c 3 t) := by
  rw [outsAt0_A m c t h]
  funext j
  frame_out
  simp only [read_slice_reshape]
  exact congrFun (canon1 _ _ _ _ _ _ _ _ _) j

theorem s1_B (c : Dev nD) (t : Fin cfg0.N) (h : ¬t.val % 4 = 0) :
    (outsAt0 m c t.val t.isLt).2.2.1 = (outsAt0 m c (t.val - 1) (Nat.lt_of_le_of_lt (Nat.sub_le _ _) t.isLt)).2.2.1 := by
  rw [outsAt0_B m c t h]; rfl

theorem s2_A (c : Dev nD) (t : Fin cfg0.N) (h : t.val % 4 = 0) : (outsAt0 m c t.val t.isLt).2.2.2 = wmat (iblk m c 4 t) := by
  rw [outsAt0_A m c t h]
  funext j
  frame_out
  simp only [read_slice_reshape]
  exact congrFun (canon2 _ _ _ _ _ _ _ _ _) j

theorem s2_B (c : Dev nD) (t : Fin cfg0.N) (h : ¬t.val % 4 = 0) :
    (outsAt0 m c t.val t.isLt).2.2.2 = (outsAt0 m c (t.val - 1) (Nat.lt_of_le_of_lt (Nat.sub_le _ _) t.isLt)).2.2.2 := by
  rw [outsAt0_B m c t h]; rfl

/-! ## The output block -/

/-- The whole output block, from the blocks it reads: four row blocks of 256 rows and the zero rows. -/
def block (e : Fin 16) (X0 : Vec Ideal S1x1x1024x1024 .bf16) (X1 : Vec Ideal S1x1x1024x256 .bf16) (w0 w1 w2 : Vec Ideal S1024x1024 .bf16) :
    Vec Ideal S1x1x1296x1024 .bf16 := fun j =>
  if h : (j 2).val < 1024 then row e (fun d => X0 (ix4 (0 : Fin 1) (0 : Fin 1) ⟨(j 2).val, h⟩ d)) (fun l => X1 (ix4 (0 : Fin 1) (0 : Fin 1) ⟨(j 2).val, h⟩ l)) w0 w1 w2 (j 3)
  else (0 : EReal)

theorem out_canon (i : grid0.Coords) (X0 : Vec Ideal S1x1x1024x1024 .bf16) (X1 : Vec Ideal S1x1x1024x256 .bf16) (w0 w1 w2 : Vec Ideal S1024x1024 .bf16)
    (i0 i1 i2 i3 i4 j0 j1 j2 j3 k0 k1 k2 k3) :
    View.canon (Val := Elt Ideal) (s := S1x1x1296x1024) (e := .bf16) [⟨Rect.unit (s := S1x1x1296x1024) ![0, 0, 1024, 0] ![1, 1, 272, 1024] i4, k0_pay2 (F := Ideal)⟩,
        ⟨Rect.unit (s := S1x1x1296x1024) ![0, 0, 768, 0] ![1, 1, 256, 1024] i3, k0_pay1 (F := Ideal) (k0_pay15 i) (k0_pay20 (View.ld X0 (Rect.unit (s := S1x1x1024x1024) ![0, 0, 768, 0] ![1, 1, 256, 1024] j3))) (View.ld X1 (Rect.unit (s := S1x1x1024x256) ![0, 0, 768, 0] ![1, 1, 256, 256] k3)) w0 w1 w2⟩,
        ⟨Rect.unit (s := S1x1x1296x1024) ![0, 0, 512, 0] ![1, 1, 256, 1024] i2, k0_pay19 (F := Ideal) (k0_pay15 i) (View.ld X0 (Rect.unit (s := S1x1x1024x1024) ![0, 0, 512, 0] ![1, 1, 256, 1024] j2)) (View.ld X1 (Rect.unit (s := S1x1x1024x256) ![0, 0, 512, 0] ![1, 1, 256, 256] k2)) w0 w1 w2⟩,
        ⟨Rect.unit (s := S1x1x1296x1024) ![0, 0, 256, 0] ![1, 1, 256, 1024] i1, k0_pay18 (F := Ideal) (k0_pay15 i) (View.ld X0 (Rect.unit (s := S1x1x1024x1024) ![0, 0, 256, 0] ![1, 1, 256, 1024] j1)) (View.ld X1 (Rect.unit (s := S1x1x1024x256) ![0, 0, 256, 0] ![1, 1, 256, 256] k1)) w0 w1 w2⟩,
        ⟨Rect.unit (s := S1x1x1296x1024) ![0, 0, 0, 0] ![1, 1, 256, 1024] i0, k0_pay17 (F := Ideal) (k0_pay16 i (View.ld X0 (Rect.unit (s := S1x1x1024x1024) ![0, 0, 0, 0] ![1, 1, 256, 1024] j0)) (View.ld X1 (Rect.unit (s := S1x1x1024x256) ![0, 0, 0, 0] ![1, 1, 256, 256] k0)) w0 w1 w2)⟩] = block (i 0) X0 X1 w0 w1 w2 := by
  funext j
  have hcover := View.cover_of_tiledBy (Val := Elt Ideal) (s := S1x1x1296x1024) (e := .bf16) [⟨Rect.unit (s := S1x1x1296x1024) ![0, 0, 1024, 0] ![1, 1, 272, 1024] i4, k0_pay2 (F := Ideal)⟩,
        ⟨Rect.unit (s := S1x1x1296x1024) ![0, 0, 768, 0] ![1, 1, 256, 1024] i3, k0_pay1 (F := Ideal) (k0_pay15 i) (k0_pay20 (View.ld X0 (Rect.unit (s := S1x1x1024x1024) ![0, 0, 768, 0] ![1, 1, 256, 1024] j3))) (View.ld X1 (Rect.unit (s := S1x1x1024x256) ![0, 0, 768, 0] ![1, 1, 256, 256] k3)) w0 w1 w2⟩,
        ⟨Rect.unit (s := S1x1x1296x1024) ![0, 0, 512, 0] ![1, 1, 256, 1024] i2, k0_pay19 (F := Ideal) (k0_pay15 i) (View.ld X0 (Rect.unit (s := S1x1x1024x1024) ![0, 0, 512, 0] ![1, 1, 256, 1024] j2)) (View.ld X1 (Rect.unit (s := S1x1x1024x256) ![0, 0, 512, 0] ![1, 1, 256, 256] k2)) w0 w1 w2⟩,
        ⟨Rect.unit (s := S1x1x1296x1024) ![0, 0, 256, 0] ![1, 1, 256, 1024] i1, k0_pay18 (F := Ideal) (k0_pay15 i) (View.ld X0 (Rect.unit (s := S1x1x1024x1024) ![0, 0, 256, 0] ![1, 1, 256, 1024] j1)) (View.ld X1 (Rect.unit (s := S1x1x1024x256) ![0, 0, 256, 0] ![1, 1, 256, 256] k1)) w0 w1 w2⟩,
        ⟨Rect.unit (s := S1x1x1296x1024) ![0, 0, 0, 0] ![1, 1, 256, 1024] i0, k0_pay17 (F := Ideal) (k0_pay16 i (View.ld X0 (Rect.unit (s := S1x1x1024x1024) ![0, 0, 0, 0] ![1, 1, 256, 1024] j0)) (View.ld X1 (Rect.unit (s := S1x1x1024x256) ![0, 0, 0, 0] ![1, 1, 256, 256] k0)) w0 w1 w2)⟩] ![1, 1, 16, 1024] (by sl_kernel_rfl) j
  simp only [pay19_eq, pay1_eq, pay17_eq] at hcover ⊢
  idx_vars j
  canon_tiles x h using hcover
  case piece0 =>
    have h2' : j2.val = 1024 + (x 2).val := h2
    unfold block
    pointwise [k0_pay2]
    rw [dif_neg (show ¬ j2.val < 1024 by omega)]
  all_goals
    have h2' : j2.val = (j2.val - (x 2).val) + (x 2).val := (Nat.sub_add_cancel (by have := h2; simp only [ix4_2] at this; omega)).symm
    have h3' : x 3 = j3 := Fin.ext h3.symm
    rw [pay18_apply]
    unfold block
    rw [dif_pos (by have := h2; simp only [ix4_2] at this ⊢; omega)]
    pointwise []
    have h2' := h2
    simp only [ix4_2] at h2'
    simp only [h2', h3']

theorem o_A (c : Dev nD) (t : Fin cfg0.N) (h : t.val % 4 = 0) :
    (outsAt0 m c t.val t.isLt).1 = block (grid0.coords t 0) (X0_0 m c t) (X0_1 m c t) (wmat (iblk m c 2 t)) (wmat (iblk m c 3 t)) (wmat (iblk m c 4 t)) := by
  rw [outsAt0_A m c t h]
  funext j
  frame_out
  simp only [read_unread_whole, read_slice_reshape, readback0, readback1, readback2]
  exact congrFun (out_canon (grid0.coords t) _ _ _ _ _ _ _ _ _ _ _ _ _ _ _ _ _ _) j

theorem o_B (c : Dev nD) (t : Fin cfg0.N) (h : ¬t.val % 4 = 0) :
    (outsAt0 m c t.val t.isLt).1 = block (grid0.coords t 0) (X0_0 m c t) (X0_1 m c t) (outsAt0 m c (t.val - 1) (Nat.lt_of_le_of_lt (Nat.sub_le _ _) t.isLt)).2.1
      (outsAt0 m c (t.val - 1) (Nat.lt_of_le_of_lt (Nat.sub_le _ _) t.isLt)).2.2.1 (outsAt0 m c (t.val - 1) (Nat.lt_of_le_of_lt (Nat.sub_le _ _) t.isLt)).2.2.2 := by
  rw [outsAt0_B m c t h]
  funext j
  frame_out
  simp only [read_unread_whole]
  exact congrFun (out_canon (grid0.coords t) _ _ _ _ _ _ _ _ _ _ _ _ _ _ _ _ _ _) j

/-! ## Every point -/

/-- The block of weight window 2 is the matrix of the expert `t / 4`. -/
theorem wmat_iblk2 (c : Dev nD) (t : Fin cfg0.N) (e : Fin 16) (h : t.val / 4 = e.val) :
    wmat (iblk m c 2 t) = fun j => m ((c : Thread nD τ).loc main_arg1) (ix3 e (j 0) (j 1)) := by
  obtain ⟨a0, a1, a2⟩ := (by decide +kernel : ∀ t : Fin grid0.N, win0_2.index t (0 : Fin 3) = t.val / 4 ∧ win0_2.index t (1 : Fin 3) = 0 ∧ win0_2.index t (2 : Fin 3) = 0) t
  funext j
  refine congrArg (m ((c : Thread nD τ).loc main_arg1)) (funext fun a => Fin.ext ?_)
  have hb0 : ∀ y : S1x1024x1024.Idx, (((cfg0.win 2).blk t).view.emb y 0).val = win0_2.index t (0 : Fin 3) * 1 + 1 * (y 0).val := fun _ => rfl
  have hb1 : ∀ y : S1x1024x1024.Idx, (((cfg0.win 2).blk t).view.emb y 1).val = win0_2.index t (1 : Fin 3) * 1024 + 1 * (y 1).val := fun _ => rfl
  have hb2 : ∀ y : S1x1024x1024.Idx, (((cfg0.win 2).blk t).view.emb y 2).val = win0_2.index t (2 : Fin 3) * 1024 + 1 * (y 2).val := fun _ => rfl
  match a with
  | 0 => exact (hb0 _).trans (by rw [a0, h]; show e.val * 1 + 1 * 0 = e.val; omega)
  | 1 => exact (hb1 _).trans (by rw [a1]; show 0 * 1024 + 1 * (j 0).val = (j 0).val; omega)
  | 2 => exact (hb2 _).trans (by rw [a2]; show 0 * 1024 + 1 * (j 1).val = (j 1).val; omega)

/-- What scratch 0 holds after every point: the matrix of the point's expert, written at the expert's first point and kept. -/
theorem s0_hold (c : Dev nD) (t : Fin cfg0.N) : (outsAt0 m c t.val t.isLt).2.1 = wmat (iblk m c 2 t) := by
  have hN := lt_of_lt_of_eq t.isLt (show cfg0.N = 64 from N_0)
  rw [Pipeline.eq_of_write_hold (fun n h => (outsAt0 m c n h).2.1) 4 (fun t => wmat (iblk m c 2 t)) (s0_A m c) (s0_B m c) t,
    wmat_iblk2 m c t ⟨t.val / 4, by omega⟩ rfl, wmat_iblk2 m c _ ⟨t.val / 4, by omega⟩ (by show 4 * (t.val / 4) / 4 = t.val / 4; omega)]

/-- The block of weight window 3 is the matrix of the expert `t / 4`. -/
theorem wmat_iblk3 (c : Dev nD) (t : Fin cfg0.N) (e : Fin 16) (h : t.val / 4 = e.val) :
    wmat (iblk m c 3 t) = fun j => m ((c : Thread nD τ).loc main_arg2) (ix3 e (j 0) (j 1)) := by
  obtain ⟨a0, a1, a2⟩ := (by decide +kernel : ∀ t : Fin grid0.N, win0_3.index t (0 : Fin 3) = t.val / 4 ∧ win0_3.index t (1 : Fin 3) = 0 ∧ win0_3.index t (2 : Fin 3) = 0) t
  funext j
  refine congrArg (m ((c : Thread nD τ).loc main_arg2)) (funext fun a => Fin.ext ?_)
  have hb0 : ∀ y : S1x1024x1024.Idx, (((cfg0.win 3).blk t).view.emb y 0).val = win0_3.index t (0 : Fin 3) * 1 + 1 * (y 0).val := fun _ => rfl
  have hb1 : ∀ y : S1x1024x1024.Idx, (((cfg0.win 3).blk t).view.emb y 1).val = win0_3.index t (1 : Fin 3) * 1024 + 1 * (y 1).val := fun _ => rfl
  have hb2 : ∀ y : S1x1024x1024.Idx, (((cfg0.win 3).blk t).view.emb y 2).val = win0_3.index t (2 : Fin 3) * 1024 + 1 * (y 2).val := fun _ => rfl
  match a with
  | 0 => exact (hb0 _).trans (by rw [a0, h]; show e.val * 1 + 1 * 0 = e.val; omega)
  | 1 => exact (hb1 _).trans (by rw [a1]; show 0 * 1024 + 1 * (j 0).val = (j 0).val; omega)
  | 2 => exact (hb2 _).trans (by rw [a2]; show 0 * 1024 + 1 * (j 1).val = (j 1).val; omega)

/-- What scratch 1 holds after every point: the matrix of the point's expert, written at the expert's first point and kept. -/
theorem s1_hold (c : Dev nD) (t : Fin cfg0.N) : (outsAt0 m c t.val t.isLt).2.2.1 = wmat (iblk m c 3 t) := by
  have hN := lt_of_lt_of_eq t.isLt (show cfg0.N = 64 from N_0)
  rw [Pipeline.eq_of_write_hold (fun n h => (outsAt0 m c n h).2.2.1) 4 (fun t => wmat (iblk m c 3 t)) (s1_A m c) (s1_B m c) t,
    wmat_iblk3 m c t ⟨t.val / 4, by omega⟩ rfl, wmat_iblk3 m c _ ⟨t.val / 4, by omega⟩ (by show 4 * (t.val / 4) / 4 = t.val / 4; omega)]

/-- The block of weight window 4 is the matrix of the expert `t / 4`. -/
theorem wmat_iblk4 (c : Dev nD) (t : Fin cfg0.N) (e : Fin 16) (h : t.val / 4 = e.val) :
    wmat (iblk m c 4 t) = fun j => m ((c : Thread nD τ).loc main_arg3) (ix3 e (j 0) (j 1)) := by
  obtain ⟨a0, a1, a2⟩ := (by decide +kernel : ∀ t : Fin grid0.N, win0_4.index t (0 : Fin 3) = t.val / 4 ∧ win0_4.index t (1 : Fin 3) = 0 ∧ win0_4.index t (2 : Fin 3) = 0) t
  funext j
  refine congrArg (m ((c : Thread nD τ).loc main_arg3)) (funext fun a => Fin.ext ?_)
  have hb0 : ∀ y : S1x1024x1024.Idx, (((cfg0.win 4).blk t).view.emb y 0).val = win0_4.index t (0 : Fin 3) * 1 + 1 * (y 0).val := fun _ => rfl
  have hb1 : ∀ y : S1x1024x1024.Idx, (((cfg0.win 4).blk t).view.emb y 1).val = win0_4.index t (1 : Fin 3) * 1024 + 1 * (y 1).val := fun _ => rfl
  have hb2 : ∀ y : S1x1024x1024.Idx, (((cfg0.win 4).blk t).view.emb y 2).val = win0_4.index t (2 : Fin 3) * 1024 + 1 * (y 2).val := fun _ => rfl
  match a with
  | 0 => exact (hb0 _).trans (by rw [a0, h]; show e.val * 1 + 1 * 0 = e.val; omega)
  | 1 => exact (hb1 _).trans (by rw [a1]; show 0 * 1024 + 1 * (j 0).val = (j 0).val; omega)
  | 2 => exact (hb2 _).trans (by rw [a2]; show 0 * 1024 + 1 * (j 1).val = (j 1).val; omega)

/-- What scratch 2 holds after every point: the matrix of the point's expert, written at the expert's first point and kept. -/
theorem s2_hold (c : Dev nD) (t : Fin cfg0.N) : (outsAt0 m c t.val t.isLt).2.2.2 = wmat (iblk m c 4 t) := by
  have hN := lt_of_lt_of_eq t.isLt (show cfg0.N = 64 from N_0)
  rw [Pipeline.eq_of_write_hold (fun n h => (outsAt0 m c n h).2.2.2) 4 (fun t => wmat (iblk m c 4 t)) (s2_A m c) (s2_B m c) t,
    wmat_iblk4 m c t ⟨t.val / 4, by omega⟩ rfl, wmat_iblk4 m c _ ⟨t.val / 4, by omega⟩ (by show 4 * (t.val / 4) / 4 = t.val / 4; omega)]

theorem out_all (c : Dev nD) (t : Fin cfg0.N) :
    (outsAt0 m c t.val t.isLt).1 = block (grid0.coords t 0) (X0_0 m c t) (X0_1 m c t) (wmat (iblk m c 2 t)) (wmat (iblk m c 3 t)) (wmat (iblk m c 4 t)) := by
  by_cases h : t.val % 4 = 0
  · exact o_A m c t h
  · rw [o_B m c t h, ← s0_B m c t h, ← s1_B m c t h, ← s2_B m c t h, s0_hold, s1_hold, s2_hold]

theorem X0_0_apply (c : Dev nD) (t : Fin cfg0.N) (b : Fin 4) (e : Fin 16) (hb : t.val % 4 = b.val) (he : t.val / 4 = e.val) (r : Fin 1024) (d : Fin 1024) :
    (X0_0 m c t : Vec Ideal S1x1x1024x1024 .bf16) (ix4 (0 : Fin 1) (0 : Fin 1) r d)
      = m ((c : Thread nD τ).loc main_arg0) (ix4 b e (⟨r.val, by omega⟩ : Fin 1296) (⟨0 + d.val, by omega⟩ : Fin 1280)) := by
  obtain ⟨a0, a1, a2, a3⟩ := (by decide +kernel : ∀ t : Fin grid0.N, win0_0.index t (0 : Fin 4) = t.val % 4 ∧ win0_0.index t (1 : Fin 4) = t.val / 4
    ∧ win0_0.index t (2 : Fin 4) = 0 ∧ win0_0.index t (3 : Fin 4) = 0) t
  unfold X0_0 Pipeline.Window.fill
  refine (dif_pos (moved0_0 t _)).trans ?_
  refine congrArg (m ((c : Thread nD τ).loc main_arg0)) (funext fun a => Fin.ext ?_)
  have hb0 : ∀ y, (((cfg0.win 0).blk t).view.emb y 0).val = win0_0.index t (0 : Fin 4) * 1 + 1 * (y 0).val := fun _ => rfl
  have hb1 : ∀ y, (((cfg0.win 0).blk t).view.emb y 1).val = win0_0.index t (1 : Fin 4) * 1 + 1 * (y 1).val := fun _ => rfl
  have hb2 : ∀ y, (((cfg0.win 0).blk t).view.emb y 2).val = win0_0.index t (2 : Fin 4) * 1024 + 1 * (y 2).val := fun _ => rfl
  have hb3 : ∀ y, (((cfg0.win 0).blk t).view.emb y 3).val = win0_0.index t (3 : Fin 4) * 1024 + 1 * (y 3).val := fun _ => rfl
  match a with
  | 0 => exact (hb0 _).trans (by rw [a0, hb]; show b.val * 1 + 1 * 0 = b.val; omega)
  | 1 => exact (hb1 _).trans (by rw [a1, he]; show e.val * 1 + 1 * 0 = e.val; omega)
  | 2 => exact (hb2 _).trans (by rw [a2]; show 0 * 1024 + 1 * r.val = r.val; omega)
  | 3 => exact (hb3 _).trans (by rw [a3]; show 0 * 1024 + 1 * d.val = 0 + d.val; omega)

theorem X0_1_apply (c : Dev nD) (t : Fin cfg0.N) (b : Fin 4) (e : Fin 16) (hb : t.val % 4 = b.val) (he : t.val / 4 = e.val) (r : Fin 1024) (d : Fin 256) :
    (X0_1 m c t : Vec Ideal S1x1x1024x256 .bf16) (ix4 (0 : Fin 1) (0 : Fin 1) r d)
      = m ((c : Thread nD τ).loc main_arg0) (ix4 b e (⟨r.val, by omega⟩ : Fin 1296) (⟨1024 + d.val, by omega⟩ : Fin 1280)) := by
  obtain ⟨a0, a1, a2, a3⟩ := (by decide +kernel : ∀ t : Fin grid0.N, win0_1.index t (0 : Fin 4) = t.val % 4 ∧ win0_1.index t (1 : Fin 4) = t.val / 4
    ∧ win0_1.index t (2 : Fin 4) = 0 ∧ win0_1.index t (3 : Fin 4) = 4) t
  unfold X0_1 Pipeline.Window.fill
  refine (dif_pos (moved0_1 t _)).trans ?_
  refine congrArg (m ((c : Thread nD τ).loc main_arg0)) (funext fun a => Fin.ext ?_)
  have hb0 : ∀ y, (((cfg0.win 1).blk t).view.emb y 0).val = win0_1.index t (0 : Fin 4) * 1 + 1 * (y 0).val := fun _ => rfl
  have hb1 : ∀ y, (((cfg0.win 1).blk t).view.emb y 1).val = win0_1.index t (1 : Fin 4) * 1 + 1 * (y 1).val := fun _ => rfl
  have hb2 : ∀ y, (((cfg0.win 1).blk t).view.emb y 2).val = win0_1.index t (2 : Fin 4) * 1024 + 1 * (y 2).val := fun _ => rfl
  have hb3 : ∀ y, (((cfg0.win 1).blk t).view.emb y 3).val = win0_1.index t (3 : Fin 4) * 256 + 1 * (y 3).val := fun _ => rfl
  match a with
  | 0 => exact (hb0 _).trans (by rw [a0, hb]; show b.val * 1 + 1 * 0 = b.val; omega)
  | 1 => exact (hb1 _).trans (by rw [a1, he]; show e.val * 1 + 1 * 0 = e.val; omega)
  | 2 => exact (hb2 _).trans (by rw [a2]; show 0 * 1024 + 1 * r.val = r.val; omega)
  | 3 => exact (hb3 _).trans (by rw [a3]; show 4 * 256 + 1 * d.val = 1024 + d.val; omega)

/-! ## The whole array -/

/-- The kernel's result as a function of its four arguments. -/
def spec (A0 : Vec Ideal S4x16x1296x1280 .bf16) (A1 A2 A3 : Vec Ideal S16x1024x1024 .f32) : Vec Ideal S4x16x1296x1024 .bf16 := fun j =>
  if h : (j 2).val < 1024 then
    row (j 1) (fun d => A0 (ix4 (j 0) (j 1) (⟨(j 2).val, by omega⟩ : Fin 1296) (⟨0 + d.val, by omega⟩ : Fin 1280)))
      (fun l => A0 (ix4 (j 0) (j 1) (⟨(j 2).val, by omega⟩ : Fin 1296) (⟨1024 + l.val, by omega⟩ : Fin 1280)))
      (fun k => A1 (ix3 (j 1) (k 0) (k 1))) (fun k => A2 (ix3 (j 1) (k 0) (k 1))) (fun k => A3 (ix3 (j 1) (k 0) (k 1))) (j 3)
  else (0 : EReal)

theorem final (c : Dev nD) : (dats m 0 c).arrAt 5 cfg0.N
    = spec (m ((c : Thread nD τ).loc main_arg0)) (m ((c : Thread nD τ).loc main_arg1)) (m ((c : Thread nD τ).loc main_arg2)) (m ((c : Thread nD τ).loc main_arg3)) :=
  (dats m 0 c).arrAt_eq_of_cover 5 _ (fun t hf => by
    show (cfg0.win 5).cut (grid0.coords t) ((dats m 0 c).after 5 t) = _
    rw [after0_5, out_all]
    have hN := lt_of_lt_of_eq t.isLt (show cfg0.N = 64 from N_0)
    obtain ⟨a0, a1, a2, a3⟩ := (by decide +kernel : ∀ t : Fin grid0.N, win0_5.index t (0 : Fin 4) = t.val % 4 ∧ win0_5.index t (1 : Fin 4) = t.val / 4
      ∧ win0_5.index t (2 : Fin 4) = 0 ∧ win0_5.index t (3 : Fin 4) = 0) t
    have hc : (grid0.coords t 0).val = t.val / 4 := (by decide +kernel : ∀ t : Fin grid0.N, (grid0.coords t 0).val = t.val / 4) t
    rw [wmat_iblk2 m c t ⟨t.val / 4, by omega⟩ rfl, wmat_iblk3 m c t ⟨t.val / 4, by omega⟩ rfl, wmat_iblk4 m c t ⟨t.val / 4, by omega⟩ rfl]
    funext y
    have hy0 : (y 0).val < 1 := (y 0).isLt
    have hy1 : (y 1).val < 1 := (y 1).isLt
    have hy2 : (y 2).val < 1296 := (y 2).isLt
    have hy3 : (y 3).val < 1024 := (y 3).isLt
    have hb0 : (((cfg0.win 5).blk t).view.emb y 0) = (⟨t.val % 4, by omega⟩ : Fin 4) := Fin.ext (by
      show win0_5.index t (0 : Fin 4) * 1 + 1 * (y 0).val = _; rw [a0]; show t.val % 4 * 1 + 1 * (y 0).val = t.val % 4; omega)
    have hb1 : (((cfg0.win 5).blk t).view.emb y 1) = (⟨t.val / 4, by omega⟩ : Fin 16) := Fin.ext (by
      show win0_5.index t (1 : Fin 4) * 1 + 1 * (y 1).val = _; rw [a1]; show t.val / 4 * 1 + 1 * (y 1).val = t.val / 4; omega)
    have hb2 : (((cfg0.win 5).blk t).view.emb y 2) = (⟨(y 2).val, hy2⟩ : Fin 1296) := Fin.ext (by
      show win0_5.index t (2 : Fin 4) * 1296 + 1 * (y 2).val = _; rw [a2]; show 0 * 1296 + 1 * (y 2).val = (y 2).val; omega)
    have hb3 : (((cfg0.win 5).blk t).view.emb y 3) = (⟨(y 3).val, hy3⟩ : Fin 1024) := Fin.ext (by
      show win0_5.index t (3 : Fin 4) * 1024 + 1 * (y 3).val = _; rw [a3]; show 0 * 1024 + 1 * (y 3).val = (y 3).val; omega)
    show block _ _ _ _ _ _ ((cfg0.win 5).xinj (grid0.coords t) y) = spec _ _ _ _ (((cfg0.win 5).blk t).view.emb y)
    unfold spec block
    simp only [hb0, hb1, hb2, hb3]
    show (if h : (y 2).val < 1024 then _ else _) = (if h : (y 2).val < 1024 then _ else _)
    by_cases h : (y 2).val < 1024
    · rw [dif_pos h, dif_pos h]
      have e0 : grid0.coords t 0 = (⟨t.val / 4, by omega⟩ : Fin 16) := Fin.ext hc
      rw [e0]
      congr 1
      · funext d; exact X0_0_apply m c t ⟨t.val % 4, by omega⟩ ⟨t.val / 4, by omega⟩ rfl rfl ⟨(y 2).val, h⟩ d
      · funext d; exact X0_1_apply m c t ⟨t.val % 4, by omega⟩ ⟨t.val / 4, by omega⟩ rfl rfl ⟨(y 2).val, h⟩ d
    · rw [dif_neg h, dif_neg h])
    (fun i => (Value.covered_iff5 i).2 (by
      have h0 : (i 0).val < 4 := (i 0).isLt; have h1 : (i 1).val < 16 := (i 1).isLt; have h2 : (i 2).val < 1296 := (i 2).isLt; have h3 : (i 3).val < 1024 := (i 3).isLt; omega))

end Cert.KernelIdeal.Ffn
-- ==== Proof.FfnRef.lean ====
/-
  The reference of the expert feed-forward kernel, read at an index: the kernel's sums with the factors of each product in
  the other order, the logistic function written with an exponential and a quotient, and the gate a sum over 128 lanes of
  which one is kept.
-/
module

public import proofs.«01_k».proof.Proof.Ffn
public import proofs.«01_k».proof.Proof.Gen.ReferenceIdeal.Run
public import Idealize.ShloMosaic.Lib.Pointwise.Tactic

@[expose] public section

set_option maxRecDepth 16384

noncomputable section

namespace Cert.ReferenceIdeal.Ffn

open Cert.ReferenceIdeal Cert.ReferenceIdeal.Gen Idealize.ShloMosaic Idealize.ShloMosaic.TcCoe Idealize.SL.Sem

/-- Of the 128 lanes the reference keeps the expert's own. -/
theorem own_sum (e : Fin 16) (f : Fin 128 → EReal) :
    ∑ l : Fin 128, Scalar.select (IntOp.cmpi CmpIPredicate.eq (BitVec.ofNat 32 e.val) (BitVec.ofNat 32 l.val)) (f l) 0
      = f ⟨e.val, by omega⟩ := by
  have hl : ∀ l : Fin 128, Scalar.select (IntOp.cmpi CmpIPredicate.eq (BitVec.ofNat 32 e.val) (BitVec.ofNat 32 l.val)) (f l) 0
      = if l = (⟨e.val, by omega⟩ : Fin 128) then f l else 0 := by
    intro l
    have hd : ∀ (e : Fin 16) (l : Fin 128), (IntOp.cmpi CmpIPredicate.eq (BitVec.ofNat 32 e.val) (BitVec.ofNat 32 l.val))
        = BitVec.ofBool (decide (l.val = e.val)) := by
      decide +kernel
    rw [hd e l]
    by_cases h1 : l.val = e.val <;> simp [Fin.ext_iff, h1, Scalar.select]
  rw [Finset.sum_congr rfl fun l _ => hl l]
  simp

theorem zero_word : (id (constant (F := Ideal) S_ FTy.f32 0x00000000#32) ix0 : EReal) = 0 := by
  pointwise [id]

theorem zero_int : (FloatOps.sitofp (F := Ideal) FTy.f32 0#32 : EReal) = 0 := by
  show (((0#32 : BitVec 32).toInt : ℝ) : EReal) = 0
  simp

theorem sum_swap {n : Nat} (f g : Fin n → EReal) : ∑ d, f d * g d = ∑ d, g d * f d :=
  Finset.sum_congr rfl fun d _ => mul_comm _ _

theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v28)
          = Cert.KernelIdeal.Ffn.spec (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r h c => ⟨(h c).1.trans ?_, (h c).2⟩) (Value.run (F := Ideal) m ρ)
  clear h
  funext j
  pointwise [Cert.KernelIdeal.Ffn.spec, Cert.KernelIdeal.Ffn.row]
  simp only [zero_word, zero_int]
  by_cases h : (j 2).val < 1024
  · simp only [dif_pos h]
    refine congrArg₂ (· * ·) ?_ (own_sum (j 1) _)
    exact Finset.sum_congr rfl fun k _ => (mul_comm _ _).trans (congrArg₂ (· * ·) (congrArg₂ (· * ·) (congrArg₂ (· * ·) (sum_swap _ _)
      (congrArg (fun z : EReal => Ideal.div 1 (1 + Ideal.exp (-z))) (sum_swap _ _))) (sum_swap _ _)) rfl)
  · simp only [dif_neg h]

end Cert.ReferenceIdeal.Ffn
-- ==== Proof.InProj.lean ====
/-
  The value of the input projection kernel over the extended reals.
-/
module

public import proofs.«01_k».proof.Proof.Gen.Kernel2Ideal.Value
public import Idealize.ShloMosaic.Lib.Pipeline.ValueKit
public import Idealize.ShloMosaic.Lib.Pipeline.ValueKit.Held
public import Idealize.ShloMosaic.Lib.Pipeline.ReadBack
public import Idealize.ShloMosaic.Lib.Pointwise.Tactic
public import Idealize.ShloMosaic.Lib.StableHlo.ReadAt

@[expose] public section

set_option maxRecDepth 16384

noncomputable section

namespace Cert.Kernel2Ideal.InProj

open Cert.Kernel2Ideal Cert.Kernel2Ideal.Gen Idealize.ShloMosaic Idealize.ShloMosaic.TcCoe Idealize.SL.Sem

variable (m : (ℓ : Loc nD τ sig) → Buf (Elt Ideal) ℓ)

/-- One 128-lane slab of keys, each of its two heads divided by its root mean square and scaled by the norm weight. -/
def headK (a : Vec Ideal S512x128 .f32) (b : Vec Ideal S1x128 .f32) : Vec Ideal S512x128 .f32 :=
  k0_pay28 (F := Ideal) (k0_pay21 a) (k0_pay22 b) k0_pay23 (k0_pay24 a) (k0_pay25 a) k0_pay26 k0_pay27

/-- The same for a slab of queries, times the softmax scale. -/
def headQ (a : Vec Ideal S512x128 .f32) (b : Vec Ideal S1x128 .f32) : Vec Ideal S512x128 .f32 :=
  mulf (F := Ideal) (headK a b) (broadcast S512x128 (Scalar.ofBits .f32 0x3E38AA3B#32))

theorem q0_eq (a b) : k0_pay20 (F := Ideal) (k0_pay15 a) (k0_pay16 b) k0_pay17 (k0_pay18 a) (k0_pay19 a) = headQ a b := rfl
theorem q1_eq (a b) : k0_pay36 (F := Ideal) (k0_pay29 a) (k0_pay30 b) k0_pay33 (k0_pay34 a) (k0_pay35 a) = headQ a b := rfl
theorem k1_eq (a b) : k0_pay40 (F := Ideal) (k0_pay37 a) (k0_pay38 b) (k0_pay39 a) = headK a b := rfl
theorem q2_eq (a b) : k0_pay41 (F := Ideal) a b = headQ a b := rfl
theorem k2_eq (a b) : k0_pay42 (F := Ideal) a b = headK a b := rfl
theorem q3_eq (a b) : k0_pay45 (F := Ideal) (k0_pay43 a) (k0_pay44 b) (iota .tc S1x128 32 [1] iota_S1x128_d1_w32) = headQ a b := rfl
theorem k3_eq (a b) : k0_pay1 (F := Ideal) (k0_pay46 a) (k0_pay47 b) k0_pay48 (k0_pay49 a) (Scalar.ofBits .f32 0x00000000#32) k0_pay50 = headK a b := rfl

/-- The comparison that splits a slab's lanes into its lower and upper head. -/
theorem lane_word (l : Fin 128) : IntOp.cmpi CmpIPredicate.slt (BitVec.ofNat 32 l.val) 64#32 = BitVec.ofBool (decide (l.val < 64)) := by
  revert l; decide +kernel

theorem low_sum (f : Fin 128 → EReal) :
    ∑ l : Fin 128, Scalar.select (IntOp.cmpi CmpIPredicate.slt (BitVec.ofNat 32 l.val) 64#32) (f l) 0 = ∑ e : Fin 64, f ⟨e.val, by omega⟩ := by
  simp only [lane_word]
  rw [Fin.sum_univ_add (a := 64) (b := 64) (f := fun l : Fin (64 + 64) => Scalar.select (BitVec.ofBool (decide (l.val < 64))) (f l) 0)]
  have h1 : ∀ e : Fin 64, Scalar.select (BitVec.ofBool (decide ((Fin.castAdd 64 e).val < 64))) (f (Fin.castAdd 64 e)) 0 = f ⟨e.val, by omega⟩ := by
    intro e; rw [decide_eq_true (show (Fin.castAdd 64 e).val < 64 from e.isLt)]; rfl
  have h2 : ∀ e : Fin 64, Scalar.select (BitVec.ofBool (decide ((Fin.natAdd 64 e).val < 64))) (f (Fin.natAdd 64 e)) 0 = 0 := by
    intro e; rw [decide_eq_false (show ¬(Fin.natAdd 64 e).val < 64 by rw [Fin.val_natAdd]; omega)]; rfl
  rw [Finset.sum_congr rfl fun e _ => h1 e, Finset.sum_congr rfl fun e _ => h2 e]
  simp

theorem high_sum (f : Fin 128 → EReal) :
    ∑ l : Fin 128, Scalar.select (IntOp.cmpi CmpIPredicate.slt (BitVec.ofNat 32 l.val) 64#32) 0 (f l) = ∑ e : Fin 64, f ⟨64 + e.val, by omega⟩ := by
  simp only [lane_word]
  rw [Fin.sum_univ_add (a := 64) (b := 64) (f := fun l : Fin (64 + 64) => Scalar.select (BitVec.ofBool (decide (l.val < 64))) 0 (f l))]
  have h1 : ∀ e : Fin 64, Scalar.select (BitVec.ofBool (decide ((Fin.castAdd 64 e).val < 64))) 0 (f (Fin.castAdd 64 e)) = 0 := by
    intro e; rw [decide_eq_true (show (Fin.castAdd 64 e).val < 64 from e.isLt)]; rfl
  have h2 : ∀ e : Fin 64, Scalar.select (BitVec.ofBool (decide ((Fin.natAdd 64 e).val < 64))) 0 (f (Fin.natAdd 64 e)) = f ⟨64 + e.val, by omega⟩ := by
    intro e; rw [decide_eq_false (show ¬(Fin.natAdd 64 e).val < 64 by rw [Fin.val_natAdd]; omega)]; rfl
  rw [Finset.sum_congr rfl fun e _ => h1 e, Finset.sum_congr rfl fun e _ => h2 e]
  simp

/-- A lane `l` of a head whose 64 lanes hold `f`, divided by the head's root mean square. -/
def rmsHead (y : EReal) (f : Fin 64 → EReal) (w : EReal) : EReal :=
  y * Ideal.rsqrt ((∑ e : Fin 64, f e * f e) * Ideal.ofBits FTy.f32 1015021568#32 + Ideal.ofBits FTy.f32 897988541#32) * w

theorem headK_apply (a b) (x : S512x128.Idx) :
    headK a b x = rmsHead (a x) (fun e => a (ix2 (x 0) ⟨(x 1).val / 64 * 64 + e.val, by have := (x 1).isLt; simp only [S512x128] at this; change (x 1).val < 128 at this; omega⟩)) (b (ix2 (0 : Fin 1) (x 1))) := by
  pointwise [headK, k0_pay28, k0_pay21, k0_pay22, k0_pay23, k0_pay24, k0_pay25, k0_pay26, k0_pay27]
  rw [low_sum fun l => a (ix2 (x 0) l) * a (ix2 (x 0) l), high_sum fun l => a (ix2 (x 0) l) * a (ix2 (x 0) l)]
  rw [lane_word (x 1)]
  unfold rmsHead
  have hx : (x 1).val < 128 := (x 1).isLt
  by_cases h : (x 1).val < 64
  · rw [decide_eq_true h]
    have e1 : ∀ e : Fin 64, (⟨(x 1).val / 64 * 64 + e.val, by omega⟩ : Fin 128) = ⟨e.val, by omega⟩ := fun e => Fin.ext (by show (x 1).val / 64 * 64 + e.val = e.val; omega)
    simp only [e1]
    rfl
  · rw [decide_eq_false h]
    have e1 : ∀ e : Fin 64, (⟨(x 1).val / 64 * 64 + e.val, by omega⟩ : Fin 128) = ⟨64 + e.val, by omega⟩ := fun e => Fin.ext (by show (x 1).val / 64 * 64 + e.val = 64 + e.val; omega)
    simp only [e1]
    rfl

theorem headQ_apply (a b) (x : S512x128.Idx) :
    headQ a b x = rmsHead (a x) (fun e => a (ix2 (x 0) ⟨(x 1).val / 64 * 64 + e.val, by have := (x 1).isLt; change (x 1).val < 128 at this; omega⟩)) (b (ix2 (0 : Fin 1) (x 1))) * Ideal.ofBits FTy.f32 0x3E38AA3B#32 := by
  have h := headK_apply a b x
  rw [← h]
  rfl

/-- The projection of the normalised rows, as the eight column blocks of products make it. -/
def mm (X : Vec Ideal S512x1024 .f32) (N : Vec Ideal S1x1024 .f32) (W : Vec Ideal S1024x4096 .bf16) : Vec Ideal S512x4096 .f32 :=
  fun j => ∑ d : Fin 1024, k0_pay6 (F := Ideal) X N (ix2 (j 0) d) * W (ix2 d (j 1))

theorem block_apply (X N) (W : Vec Ideal S1024x4096 .bf16) (o : Nat) (i j) (x) :
    k0_pay7 (F := Ideal) X N (View.ld W (Rect.unit (s := S1024x4096) ![0, o] ![1024, 512] i)) x
      = mm X N W ((Rect.unit (s := S512x4096) ![0, o] ![512, 512] j).emb x) := by
  refine (?_ : _ = ∑ k : Fin 1024, k0_pay6 (F := Ideal) X N (ix2 (x 0) k) * View.ld W (Rect.unit (s := S1024x4096) ![0, o] ![1024, 512] i) (ix2 k (x 1))).trans ?_
  · pointwise [k0_pay7]
  · refine Finset.sum_congr rfl fun k _ => ?_
    have e0 : ((Rect.unit (s := S512x4096) ![0, o] ![512, 512] j).emb x) 0 = x 0 := Fin.ext ((ValueKit.rect_emb_unit_val _ _ j x 0).trans (Nat.zero_add _))
    rw [e0]
    refine congrArg (_ * ·) (View.ld_unit_apply_of W _ _ i _ _ fun a => ?_)
    match a with
    | 0 => exact (Nat.zero_add _).symm
    | 1 => exact ValueKit.rect_emb_unit_val _ _ j x 1

theorem pay8_eq (X N W) : k0_pay8 (F := Ideal) X N W = k0_pay7 X N W := rfl
theorem pay9_eq (X N W) : k0_pay9 (F := Ideal) X N W = k0_pay7 X N W := rfl
theorem pay10_eq (X N W) : k0_pay10 (F := Ideal) (k0_pay6 X N) W = k0_pay7 X N W := rfl
theorem pay11_eq (X N W) : k0_pay11 (F := Ideal) (k0_pay6 X N) W = k0_pay7 X N W := rfl
theorem pay12_eq (X N W) : k0_pay12 (F := Ideal) (k0_pay6 X N) W = k0_pay7 X N W := rfl
theorem pay13_eq (X N W) : k0_pay13 (F := Ideal) (k0_pay6 X N) W = k0_pay7 X N W := rfl
theorem pay14_eq (X N W) : k0_pay14 (F := Ideal) (k0_pay6 X N) W = k0_pay7 X N W := rfl

theorem k0_eq (a b) : k0_pay28 (F := Ideal) (k0_pay21 a) (k0_pay22 b) k0_pay23 (k0_pay24 a) (k0_pay25 a) k0_pay26 k0_pay27 = headK a b := rfl

/-! ## Reading back the products -/

theorem mem_block (o b : Nat) (inb) (i) (h1 : b ≤ o) (h2 : o + 128 ≤ b + 512) (x : (Rect.unit (s := S512x4096) ![0, o] ![512, 128] inb).shape.Idx) :
    (Rect.unit (s := S512x4096) ![0, o] ![512, 128] inb).idx x ∈ (Rect.unit (s := S512x4096) ![0, b] ![512, 512] i).set :=
  Rect.mem_set_unit.mpr fun a => by
    rw [Rect.idx_unit_val]
    match a with
    | 0 => exact ⟨Nat.zero_le _, by have h : (x 0).val < 512 := (x 0).isLt; show 0 + (x 0).val < 0 + 512; omega⟩
    | 1 => exact ⟨h1.trans (Nat.le_add_right _ _), by have h : (x 1).val < 128 := (x 1).isLt; show o + (x 1).val < b + 512; omega⟩

/-- A slab of the queries' columns, read back from the first block of products. -/
theorem readq {κ : Kind} {sp : Space} (v : View sig κ sp S512x4096 .f32) (X N) (W : Vec Ideal S1024x4096 .bf16) (o : Nat) (i0 j0 inb) (ho : o + 128 ≤ 512) :
    v.readCov [⟨Rect.unit (s := S512x4096) ![0, 0] ![512, 512] i0, k0_pay7 (F := Ideal) X N (View.ld W (Rect.unit (s := S1024x4096) ![0, 0] ![1024, 512] j0))⟩]
      (Rect.unit (s := S512x4096) ![0, o] ![512, 128] inb).toLoadRect = View.ld (mm X N W) (Rect.unit (s := S512x4096) ![0, o] ![512, 128] inb) := by
  rw [View.readCov_eq_canon']
  funext x
  refine View.canon_eq_of_allAt _ _ _ ⟨_, List.mem_singleton.mpr rfl, mem_block o 0 inb i0 (Nat.zero_le _) (by omega) x⟩ (View.allAt_cons _ _ _ (fun y hy => ?_) (View.allAt_nil _ _))
  · rw [block_apply X N W 0 j0 i0 y, hy]

/-- A slab of the keys' columns, read back from the second block of products. -/
theorem readk {κ : Kind} {sp : Space} (v : View sig κ sp S512x4096 .f32) (X N) (W : Vec Ideal S1024x4096 .bf16) (o : Nat) (i0 j0 i1 j1 inb) (hp : 512 ≤ o) (ho : o + 128 ≤ 1024) :
    v.readCov [⟨Rect.unit (s := S512x4096) ![0, 512] ![512, 512] i1, k0_pay7 (F := Ideal) X N (View.ld W (Rect.unit (s := S1024x4096) ![0, 512] ![1024, 512] j1))⟩,
        ⟨Rect.unit (s := S512x4096) ![0, 0] ![512, 512] i0, k0_pay7 (F := Ideal) X N (View.ld W (Rect.unit (s := S1024x4096) ![0, 0] ![1024, 512] j0))⟩]
      (Rect.unit (s := S512x4096) ![0, o] ![512, 128] inb).toLoadRect = View.ld (mm X N W) (Rect.unit (s := S512x4096) ![0, o] ![512, 128] inb) := by
  rw [View.readCov_eq_canon']
  funext x
  refine View.canon_eq_of_allAt _ _ _ ⟨_, List.mem_cons_self, mem_block o 512 inb i1 hp (by omega) x⟩
    (View.allAt_cons _ _ _ (fun y hy => ?_) (View.allAt_cons _ _ _ (fun y hy => ?_) (View.allAt_nil _ _)))
  · rw [block_apply X N W 512 j1 i1 y, hy]
  · rw [block_apply X N W 0 j0 i0 y, hy]

/-! ## The block a grid point writes -/

/-- The block of one grid point: queries and keys normalised head by head, the rest the plain projection. -/
def blockOut (X : Vec Ideal S512x1024 .f32) (N : Vec Ideal S1x1024 .f32) (W : Vec Ideal S1024x4096 .bf16) (q k : Vec Ideal S1x512 .f32) : Vec Ideal S512x4096 .f32 :=
  fun j => if h : (j 1).val < 512 then
      rmsHead (mm X N W j) (fun e => mm X N W (ix2 (j 0) ⟨(j 1).val / 64 * 64 + e.val, by omega⟩)) (q (ix2 (0 : Fin 1) ⟨(j 1).val, h⟩)) * Ideal.ofBits FTy.f32 0x3E38AA3B#32
    else if h' : (j 1).val < 1024 then
      rmsHead (mm X N W j) (fun e => mm X N W (ix2 (j 0) ⟨(j 1).val / 64 * 64 + e.val, by omega⟩)) (k (ix2 (0 : Fin 1) ⟨(j 1).val - 512, by omega⟩))
    else mm X N W j

theorem slab_args (M : Vec Ideal S512x4096 .f32) (k : Vec Ideal S1x512 .f32) (o o' : Nat) (s n) (hd : o % 64 = 0) (ho : o + 128 ≤ 4096) (ho' : o' + 128 ≤ 512) (x : S512x128.Idx) :
    View.ld M (Rect.unit (s := S512x4096) ![0, o] ![512, 128] s) x = M (ix2 (x 0) ⟨o + (x 1).val, by have h : (x 1).val < 128 := (x 1).isLt; omega⟩)
    ∧ (∀ e : Fin 64, View.ld M (Rect.unit (s := S512x4096) ![0, o] ![512, 128] s) (ix2 (x 0) ⟨(x 1).val / 64 * 64 + e.val, by have h : (x 1).val < 128 := (x 1).isLt; omega⟩)
      = M (ix2 (x 0) ⟨(o + (x 1).val) / 64 * 64 + e.val, by have h : (x 1).val < 128 := (x 1).isLt; omega⟩))
    ∧ View.ld k (Rect.unit (s := S1x512) ![0, o'] ![1, 128] n) (ix2 (0 : Fin 1) (x 1)) = k (ix2 (0 : Fin 1) ⟨o' + (x 1).val, by have h : (x 1).val < 128 := (x 1).isLt; omega⟩) := by
  have h : (x 1).val < 128 := (x 1).isLt
  refine ⟨View.ld_unit_apply_of _ _ _ _ _ _ fun a => ?_, fun e => View.ld_unit_apply_of _ _ _ _ _ _ fun a => ?_, View.ld_unit_apply_of _ _ _ _ _ _ fun a => ?_⟩
  · match a with
    | 0 => exact (Nat.zero_add _).symm
    | 1 => rfl
  · match a with
    | 0 => exact (Nat.zero_add _).symm
    | 1 => show (o + (x 1).val) / 64 * 64 + e.val = o + ((x 1).val / 64 * 64 + e.val); omega
  · match a with
    | 0 => rfl
    | 1 => rfl

theorem emb_slab (o : Nat) (s) (ho : o + 128 ≤ 4096) (x : S512x128.Idx) :
    (Rect.unit (s := S512x4096) ![0, o] ![512, 128] s).emb x = ix2 (x 0) ⟨o + (x 1).val, by have h : (x 1).val < 128 := (x 1).isLt; omega⟩ :=
  funext fun a => Fin.ext ((ValueKit.rect_emb_unit_val _ _ s x a).trans (by
    match a with
    | 0 => exact Nat.zero_add _
    | 1 => rfl))

theorem slabQ (X N W q k) (o : Nat) (s n) (hd : o % 64 = 0) (ho : o + 128 ≤ 512) (x : S512x128.Idx) :
    headQ (View.ld (mm X N W) (Rect.unit (s := S512x4096) ![0, o] ![512, 128] s)) (View.ld q (Rect.unit (s := S1x512) ![0, o] ![1, 128] n)) x
      = blockOut X N W q k ((Rect.unit (s := S512x4096) ![0, o] ![512, 128] s).emb x) := by
  have h : (x 1).val < 128 := (x 1).isLt
  obtain ⟨h1, h2, h3⟩ := slab_args (mm X N W) q o o s n hd (by omega) ho x
  rw [headQ_apply, h1, h3, funext h2, emb_slab o s (by omega) x]
  unfold blockOut
  refine Eq.trans ?_ (dif_pos (show o + (x 1).val < 512 by omega)).symm
  rfl

theorem slabK (X N W q k) (o o' : Nat) (s n) (hd : o % 64 = 0) (he : o = o' + 512) (ho : o' + 128 ≤ 512) (x : S512x128.Idx) :
    headK (View.ld (mm X N W) (Rect.unit (s := S512x4096) ![0, o] ![512, 128] s)) (View.ld k (Rect.unit (s := S1x512) ![0, o'] ![1, 128] n)) x
      = blockOut X N W q k ((Rect.unit (s := S512x4096) ![0, o] ![512, 128] s).emb x) := by
  have h : (x 1).val < 128 := (x 1).isLt
  obtain ⟨h1, h2, h3⟩ := slab_args (mm X N W) k o o' s n hd (by omega) ho x
  have e : (⟨o' + (x 1).val, by omega⟩ : Fin 512) = ⟨o + (x 1).val - 512, by omega⟩ := Fin.ext (by show o' + (x 1).val = o + (x 1).val - 512; omega)
  rw [headK_apply, h1, h3.trans (congrArg (fun i => k (ix2 (0 : Fin 1) i)) e), funext h2, emb_slab o s (by omega) x]
  unfold blockOut
  refine Eq.trans ?_ ((dif_neg (show ¬o + (x 1).val < 512 by omega)).trans (dif_pos (show o + (x 1).val < 1024 by omega))).symm
  rfl

theorem not_mem_slab (y : S512x4096.Idx) (o : Nat) (s) (h : o + 128 ≤ (y 1).val) : y ∉ (Rect.unit (s := S512x4096) ![0, o] ![512, 128] s).set := fun hm => by
  have e := (Rect.mem_set_unit.mp hm 1).2
  change (y 1).val < o + 128 at e
  omega

theorem prod_canon (X N W i0 i1 i2 i3 i4 i5 i6 i7 j0 j1 j2 j3 j4 j5 j6 j7) :
    View.canon [⟨Rect.unit (s := S512x4096) ![0, 3584] ![512, 512] i7, k0_pay7 (F := Ideal) X N (View.ld W (Rect.unit (s := S1024x4096) ![0, 3584] ![1024, 512] j7))⟩,
        ⟨Rect.unit (s := S512x4096) ![0, 3072] ![512, 512] i6, k0_pay7 (F := Ideal) X N (View.ld W (Rect.unit (s := S1024x4096) ![0, 3072] ![1024, 512] j6))⟩,
        ⟨Rect.unit (s := S512x4096) ![0, 2560] ![512, 512] i5, k0_pay7 (F := Ideal) X N (View.ld W (Rect.unit (s := S1024x4096) ![0, 2560] ![1024, 512] j5))⟩,
        ⟨Rect.unit (s := S512x4096) ![0, 2048] ![512, 512] i4, k0_pay7 (F := Ideal) X N (View.ld W (Rect.unit (s := S1024x4096) ![0, 2048] ![1024, 512] j4))⟩,
        ⟨Rect.unit (s := S512x4096) ![0, 1536] ![512, 512] i3, k0_pay7 (F := Ideal) X N (View.ld W (Rect.unit (s := S1024x4096) ![0, 1536] ![1024, 512] j3))⟩,
        ⟨Rect.unit (s := S512x4096) ![0, 1024] ![512, 512] i2, k0_pay7 (F := Ideal) X N (View.ld W (Rect.unit (s := S1024x4096) ![0, 1024] ![1024, 512] j2))⟩,
        ⟨Rect.unit (s := S512x4096) ![0, 512] ![512, 512] i1, k0_pay7 (F := Ideal) X N (View.ld W (Rect.unit (s := S1024x4096) ![0, 512] ![1024, 512] j1))⟩,
        ⟨Rect.unit (s := S512x4096) ![0, 0] ![512, 512] i0, k0_pay7 (F := Ideal) X N (View.ld W (Rect.unit (s := S1024x4096) ![0, 0] ![1024, 512] j0))⟩] = mm X N W := by
  funext y
  refine View.canon_eq_of_allAt _ y _ (View.cover_of_tiledBy _ ![512, 512] (by sl_kernel_rfl) y) ?_
  repeat' first | exact View.allAt_nil _ _ | refine View.allAt_cons _ _ _ (fun x hx => by rw [← hx]; exact block_apply X N W _ _ _ x) ?_

theorem out_canon (X N W q k i0 i1 i2 i3 i4 i5 i6 i7 j0 j1 j2 j3 j4 j5 j6 j7 s0 s1 s2 s3 s4 s5 s6 s7 n0 n1 n2 n3) :
    View.canon [⟨Rect.unit (s := S512x4096) ![0, 896] ![512, 128] s7, headK (View.ld (mm X N W) (Rect.unit (s := S512x4096) ![0, 896] ![512, 128] s7)) (View.ld k (Rect.unit (s := S1x512) ![0, 384] ![1, 128] n3))⟩,
        ⟨Rect.unit (s := S512x4096) ![0, 384] ![512, 128] s3, headQ (View.ld (mm X N W) (Rect.unit (s := S512x4096) ![0, 384] ![512, 128] s3)) (View.ld q (Rect.unit (s := S1x512) ![0, 384] ![1, 128] n3))⟩,
        ⟨Rect.unit (s := S512x4096) ![0, 768] ![512, 128] s6, headK (View.ld (mm X N W) (Rect.unit (s := S512x4096) ![0, 768] ![512, 128] s6)) (View.ld k (Rect.unit (s := S1x512) ![0, 256] ![1, 128] n2))⟩,
        ⟨Rect.unit (s := S512x4096) ![0, 256] ![512, 128] s2, headQ (View.ld (mm X N W) (Rect.unit (s := S512x4096) ![0, 256] ![512, 128] s2)) (View.ld q (Rect.unit (s := S1x512) ![0, 256] ![1, 128] n2))⟩,
        ⟨Rect.unit (s := S512x4096) ![0, 640] ![512, 128] s5, headK (View.ld (mm X N W) (Rect.unit (s := S512x4096) ![0, 640] ![512, 128] s5)) (View.ld k (Rect.unit (s := S1x512) ![0, 128] ![1, 128] n1))⟩,
        ⟨Rect.unit (s := S512x4096) ![0, 128] ![512, 128] s1, headQ (View.ld (mm X N W) (Rect.unit (s := S512x4096) ![0, 128] ![512, 128] s1)) (View.ld q (Rect.unit (s := S1x512) ![0, 128] ![1, 128] n1))⟩,
        ⟨Rect.unit (s := S512x4096) ![0, 512] ![512, 128] s4, headK (View.ld (mm X N W) (Rect.unit (s := S512x4096) ![0, 512] ![512, 128] s4)) (View.ld k (Rect.unit (s := S1x512) ![0, 0] ![1, 128] n0))⟩,
        ⟨Rect.unit (s := S512x4096) ![0, 0] ![512, 128] s0, headQ (View.ld (mm X N W) (Rect.unit (s := S512x4096) ![0, 0] ![512, 128] s0)) (View.ld q (Rect.unit (s := S1x512) ![0, 0] ![1, 128] n0))⟩,
        ⟨Rect.unit (s := S512x4096) ![0, 3584] ![512, 512] i7, k0_pay7 (F := Ideal) X N (View.ld W (Rect.unit (s := S1024x4096) ![0, 3584] ![1024, 512] j7))⟩,
        ⟨Rect.unit (s := S512x4096) ![0, 3072] ![512, 512] i6, k0_pay7 (F := Ideal) X N (View.ld W (Rect.unit (s := S1024x4096) ![0, 3072] ![1024, 512] j6))⟩,
        ⟨Rect.unit (s := S512x4096) ![0, 2560] ![512, 512] i5, k0_pay7 (F := Ideal) X N (View.ld W (Rect.unit (s := S1024x4096) ![0, 2560] ![1024, 512] j5))⟩,
        ⟨Rect.unit (s := S512x4096) ![0, 2048] ![512, 512] i4, k0_pay7 (F := Ideal) X N (View.ld W (Rect.unit (s := S1024x4096) ![0, 2048] ![1024, 512] j4))⟩,
        ⟨Rect.unit (s := S512x4096) ![0, 1536] ![512, 512] i3, k0_pay7 (F := Ideal) X N (View.ld W (Rect.unit (s := S1024x4096) ![0, 1536] ![1024, 512] j3))⟩,
        ⟨Rect.unit (s := S512x4096) ![0, 1024] ![512, 512] i2, k0_pay7 (F := Ideal) X N (View.ld W (Rect.unit (s := S1024x4096) ![0, 1024] ![1024, 512] j2))⟩,
        ⟨Rect.unit (s := S512x4096) ![0, 512] ![512, 512] i1, k0_pay7 (F := Ideal) X N (View.ld W (Rect.unit (s := S1024x4096) ![0, 512] ![1024, 512] j1))⟩,
        ⟨Rect.unit (s := S512x4096) ![0, 0] ![512, 512] i0, k0_pay7 (F := Ideal) X N (View.ld W (Rect.unit (s := S1024x4096) ![0, 0] ![1024, 512] j0))⟩] = blockOut X N W q k := by
  funext y
  have hy : (y 1).val < 4096 := (y 1).isLt
  have hy0 : (y 0).val < 512 := (y 0).isLt
  by_cases h : (y 1).val < 1024
  · refine View.canon_append_of_pieces (blockOut X N W q k) [⟨Rect.unit (s := S512x4096) ![0, 3584] ![512, 512] i7, k0_pay7 (F := Ideal) X N (View.ld W (Rect.unit (s := S1024x4096) ![0, 3584] ![1024, 512] j7))⟩,
        ⟨Rect.unit (s := S512x4096) ![0, 3072] ![512, 512] i6, k0_pay7 (F := Ideal) X N (View.ld W (Rect.unit (s := S1024x4096) ![0, 3072] ![1024, 512] j6))⟩,
        ⟨Rect.unit (s := S512x4096) ![0, 2560] ![512, 512] i5, k0_pay7 (F := Ideal) X N (View.ld W (Rect.unit (s := S1024x4096) ![0, 2560] ![1024, 512] j5))⟩,
        ⟨Rect.unit (s := S512x4096) ![0, 2048] ![512, 512] i4, k0_pay7 (F := Ideal) X N (View.ld W (Rect.unit (s := S1024x4096) ![0, 2048] ![1024, 512] j4))⟩,
        ⟨Rect.unit (s := S512x4096) ![0, 1536] ![512, 512] i3, k0_pay7 (F := Ideal) X N (View.ld W (Rect.unit (s := S1024x4096) ![0, 1536] ![1024, 512] j3))⟩,
        ⟨Rect.unit (s := S512x4096) ![0, 1024] ![512, 512] i2, k0_pay7 (F := Ideal) X N (View.ld W (Rect.unit (s := S1024x4096) ![0, 1024] ![1024, 512] j2))⟩,
        ⟨Rect.unit (s := S512x4096) ![0, 512] ![512, 512] i1, k0_pay7 (F := Ideal) X N (View.ld W (Rect.unit (s := S1024x4096) ![0, 512] ![1024, 512] j1))⟩,
        ⟨Rect.unit (s := S512x4096) ![0, 0] ![512, 512] i0, k0_pay7 (F := Ideal) X N (View.ld W (Rect.unit (s := S1024x4096) ![0, 0] ![1024, 512] j0))⟩]
      [⟨Rect.unit (s := S512x4096) ![0, 896] ![512, 128] s7, headK (View.ld (mm X N W) (Rect.unit (s := S512x4096) ![0, 896] ![512, 128] s7)) (View.ld k (Rect.unit (s := S1x512) ![0, 384] ![1, 128] n3))⟩,
        ⟨Rect.unit (s := S512x4096) ![0, 384] ![512, 128] s3, headQ (View.ld (mm X N W) (Rect.unit (s := S512x4096) ![0, 384] ![512, 128] s3)) (View.ld q (Rect.unit (s := S1x512) ![0, 384] ![1, 128] n3))⟩,
        ⟨Rect.unit (s := S512x4096) ![0, 768] ![512, 128] s6, headK (View.ld (mm X N W) (Rect.unit (s := S512x4096) ![0, 768] ![512, 128] s6)) (View.ld k (Rect.unit (s := S1x512) ![0, 256] ![1, 128] n2))⟩,
        ⟨Rect.unit (s := S512x4096) ![0, 256] ![512, 128] s2, headQ (View.ld (mm X N W) (Rect.unit (s := S512x4096) ![0, 256] ![512, 128] s2)) (View.ld q (Rect.unit (s := S1x512) ![0, 256] ![1, 128] n2))⟩,
        ⟨Rect.unit (s := S512x4096) ![0, 640] ![512, 128] s5, headK (View.ld (mm X N W) (Rect.unit (s := S512x4096) ![0, 640] ![512, 128] s5)) (View.ld k (Rect.unit (s := S1x512) ![0, 128] ![1, 128] n1))⟩,
        ⟨Rect.unit (s := S512x4096) ![0, 128] ![512, 128] s1, headQ (View.ld (mm X N W) (Rect.unit (s := S512x4096) ![0, 128] ![512, 128] s1)) (View.ld q (Rect.unit (s := S1x512) ![0, 128] ![1, 128] n1))⟩,
        ⟨Rect.unit (s := S512x4096) ![0, 512] ![512, 128] s4, headK (View.ld (mm X N W) (Rect.unit (s := S512x4096) ![0, 512] ![512, 128] s4)) (View.ld k (Rect.unit (s := S1x512) ![0, 0] ![1, 128] n0))⟩,
        ⟨Rect.unit (s := S512x4096) ![0, 0] ![512, 128] s0, headQ (View.ld (mm X N W) (Rect.unit (s := S512x4096) ![0, 0] ![512, 128] s0)) (View.ld q (Rect.unit (s := S1x512) ![0, 0] ![1, 128] n0))⟩] ?_ y ?_
    · intro p hp
      simp only [List.mem_cons, List.not_mem_nil, or_false] at hp
      rcases hp with rfl | rfl | rfl | rfl | rfl | rfl | rfl | rfl <;> intro x
      · exact slabK X N W q k 896 384 _ _ (by decide) (by decide) (by decide) x
      · exact slabQ X N W q k 384 _ _ (by decide) (by decide) x
      · exact slabK X N W q k 768 256 _ _ (by decide) (by decide) (by decide) x
      · exact slabQ X N W q k 256 _ _ (by decide) (by decide) x
      · exact slabK X N W q k 640 128 _ _ (by decide) (by decide) (by decide) x
      · exact slabQ X N W q k 128 _ _ (by decide) (by decide) x
      · exact slabK X N W q k 512 0 _ _ (by decide) (by decide) (by decide) x
      · exact slabQ X N W q k 0 _ _ (by decide) (by decide) x
    · have key : ∀ (o : Nat) (s), o ≤ (y 1).val → (y 1).val < o + 128 → y ∈ (Rect.unit (s := S512x4096) ![0, o] ![512, 128] s).set := fun o s h1 h2 =>
        Rect.mem_set_unit.mpr fun a => by
          match a with
          | 0 => exact ⟨Nat.zero_le _, by show (y 0).val < 0 + 512; omega⟩
          | 1 => exact ⟨h1, h2⟩
      simp only [List.mem_cons, List.not_mem_nil, or_false, exists_eq_or_imp, exists_eq_left]
      have hc : (y 1).val / 128 < 8 := by omega
      by_cases c7 : 896 ≤ (y 1).val
      · exact Or.inl (key 896 _ c7 (by omega))
      refine Or.inr ?_
      by_cases c3 : 384 ≤ (y 1).val ∧ (y 1).val < 512
      · exact Or.inl (key 384 _ c3.1 (by omega))
      refine Or.inr ?_
      by_cases c6 : 768 ≤ (y 1).val
      · exact Or.inl (key 768 _ c6 (by omega))
      refine Or.inr ?_
      by_cases c2 : 256 ≤ (y 1).val ∧ (y 1).val < 384
      · exact Or.inl (key 256 _ c2.1 (by omega))
      refine Or.inr ?_
      by_cases c5 : 640 ≤ (y 1).val
      · exact Or.inl (key 640 _ c5 (by omega))
      refine Or.inr ?_
      by_cases c1 : 128 ≤ (y 1).val ∧ (y 1).val < 256
      · exact Or.inl (key 128 _ c1.1 (by omega))
      refine Or.inr ?_
      by_cases c4 : 512 ≤ (y 1).val
      · exact Or.inl (key 512 _ c4 (by omega))
      exact Or.inr (key 0 _ (by omega) (by omega))
  · refine Eq.trans (View.canon_cons_of_not_mem _ _ (not_mem_slab y 896 s7 (by omega))) ?_
    refine Eq.trans (View.canon_cons_of_not_mem _ _ (not_mem_slab y 384 s3 (by omega))) ?_
    refine Eq.trans (View.canon_cons_of_not_mem _ _ (not_mem_slab y 768 s6 (by omega))) ?_
    refine Eq.trans (View.canon_cons_of_not_mem _ _ (not_mem_slab y 256 s2 (by omega))) ?_
    refine Eq.trans (View.canon_cons_of_not_mem _ _ (not_mem_slab y 640 s5 (by omega))) ?_
    refine Eq.trans (View.canon_cons_of_not_mem _ _ (not_mem_slab y 128 s1 (by omega))) ?_
    refine Eq.trans (View.canon_cons_of_not_mem _ _ (not_mem_slab y 512 s4 (by omega))) ?_
    refine Eq.trans (View.canon_cons_of_not_mem _ _ (not_mem_slab y 0 s0 (by omega))) ?_
    rw [prod_canon]
    unfold blockOut
    rw [dif_neg (show ¬(y 1).val < 512 by omega), dif_neg (show ¬(y 1).val < 1024 by omega)]

/-! ## The weight scratch -/

/-- The weights as the scratch holds them (the cast is the identity over the reals). -/
def wcast (X : Vec Ideal S1024x4096 .f32) : Vec Ideal S1024x4096 .bf16 := fun j => X j

theorem emb_rows (o : Nat) (s) (ho : o + 256 ≤ 1024) (x : S256x4096.Idx) :
    (Rect.unit (s := S1024x4096) ![o, 0] ![256, 4096] s).emb x = ix2 ⟨o + (x 0).val, by have h : (x 0).val < 256 := (x 0).isLt; omega⟩ (x 1) :=
  funext fun a => Fin.ext ((ValueKit.rect_emb_unit_val _ _ s x a).trans (by
    match a with
    | 0 => rfl
    | 1 => exact Nat.zero_add _))

theorem emb_rows0 (s) (x : S256x4096.Idx) :
    (Rect.unit (s := S1024x4096) ![0, 0] ![256, 4096] s).emb x = ix2 ⟨(x 0).val, by have h : (x 0).val < 256 := (x 0).isLt; omega⟩ (x 1) :=
  funext fun a => Fin.ext ((ValueKit.rect_emb_unit_val _ _ s x a).trans (by
    match a with
    | 0 => exact Nat.zero_add _
    | 1 => exact Nat.zero_add _))

theorem cast_canon (X : Vec Ideal S1024x4096 .f32) (i0 i1 i2 i3 j0 j1 j2 j3) :
    View.canon [⟨Rect.unit (s := S1024x4096) ![768, 0] ![256, 4096] i3, k0_pay5 (F := Ideal) (View.ld X (Rect.unit (s := S1024x4096) ![768, 0] ![256, 4096] j3))⟩,
        ⟨Rect.unit (s := S1024x4096) ![512, 0] ![256, 4096] i2, k0_pay4 (F := Ideal) (View.ld X (Rect.unit (s := S1024x4096) ![512, 0] ![256, 4096] j2))⟩,
        ⟨Rect.unit (s := S1024x4096) ![256, 0] ![256, 4096] i1, k0_pay3 (F := Ideal) (View.ld X (Rect.unit (s := S1024x4096) ![256, 0] ![256, 4096] j1))⟩,
        ⟨Rect.unit (s := S1024x4096) ![0, 0] ![256, 4096] i0, k0_pay2 (F := Ideal) (View.ld X (Rect.unit (s := S1024x4096) ![0, 0] ![256, 4096] j0))⟩] = wcast X := by
  funext y
  refine View.canon_eq_of_allAt _ y _ (View.cover_of_tiledBy _ ![256, 4096] (by sl_kernel_rfl) y) ?_
  repeat' first | exact View.allAt_nil _ _ | refine View.allAt_cons _ _ _ (fun x hx => by rw [← hx]; open_payloads; pointwise [wcast]; first | exact congrArg X (emb_rows _ i3 (by decide) x).symm | exact congrArg X (emb_rows _ i2 (by decide) x).symm | exact congrArg X (emb_rows _ i1 (by decide) x).symm | exact congrArg X (emb_rows0 i0 x).symm) ?_

theorem cast_read {κ : Kind} {sp : Space} (v : View sig κ sp S1024x4096 .bf16) (X : Vec Ideal S1024x4096 .f32) (i0 i1 i2 i3 j0 j1 j2 j3) (r : Rect S1024x4096) :
    v.readCov [⟨Rect.unit (s := S1024x4096) ![768, 0] ![256, 4096] i3, k0_pay5 (F := Ideal) (View.ld X (Rect.unit (s := S1024x4096) ![768, 0] ![256, 4096] j3))⟩,
        ⟨Rect.unit (s := S1024x4096) ![512, 0] ![256, 4096] i2, k0_pay4 (F := Ideal) (View.ld X (Rect.unit (s := S1024x4096) ![512, 0] ![256, 4096] j2))⟩,
        ⟨Rect.unit (s := S1024x4096) ![256, 0] ![256, 4096] i1, k0_pay3 (F := Ideal) (View.ld X (Rect.unit (s := S1024x4096) ![256, 0] ![256, 4096] j1))⟩,
        ⟨Rect.unit (s := S1024x4096) ![0, 0] ![256, 4096] i0, k0_pay2 (F := Ideal) (View.ld X (Rect.unit (s := S1024x4096) ![0, 0] ![256, 4096] j0))⟩] r.toLoadRect = View.ld (wcast X) r := by
  rw [View.readCov_eq_canon', cast_canon]

theorem s0_B (c : Dev nD) (t : Fin cfg0.N) (h : ¬t.val % 64 = 0) :
    (outsAt0 m c t.val t.isLt).2 = (outsAt0 m c (t.val - 1) (Nat.lt_of_le_of_lt (Nat.sub_le _ _) t.isLt)).2 := by
  rw [outsAt0_B m c t h]; rfl

theorem s0_A (c : Dev nD) (t : Fin cfg0.N) (h : t.val % 64 = 0) : (outsAt0 m c t.val t.isLt).2 = wcast (iblk m c 2 t) := by
  rw [outsAt0_A m c t h]
  funext j
  frame_out
  exact congrFun (cast_canon _ _ _ _ _ _ _ _ _) j

theorem o_B (c : Dev nD) (t : Fin cfg0.N) (h : ¬t.val % 64 = 0) :
    (outsAt0 m c t.val t.isLt).1 = blockOut (iblk m c 0 t) (iblk m c 1 t) (outsAt0 m c (t.val - 1) (Nat.lt_of_le_of_lt (Nat.sub_le _ _) t.isLt)).2 (iblk m c 3 t) (iblk m c 4 t) := by
  rw [outsAt0_B m c t h]
  funext j
  frame_open
  simp (disch := decide) only [↓ View.readCov_skip]
  frame_out
  simp only [read_unread_whole]
  simp only [pay8_eq, pay9_eq, pay10_eq, pay11_eq, pay12_eq, pay13_eq, pay14_eq]
  simp only [q0_eq, k0_eq, q1_eq, k1_eq, q2_eq, k2_eq, q3_eq, k3_eq]
  simp (disch := decide) only [readq, readk]
  exact congrFun (out_canon ..) j

theorem o_A (c : Dev nD) (t : Fin cfg0.N) (h : t.val % 64 = 0) :
    (outsAt0 m c t.val t.isLt).1 = blockOut (iblk m c 0 t) (iblk m c 1 t) (wcast (iblk m c 2 t)) (iblk m c 3 t) (iblk m c 4 t) := by
  rw [outsAt0_A m c t h]
  funext j
  frame_open
  simp (disch := decide) only [↓ View.readCov_skip]
  frame_out
  simp only [cast_read]
  simp only [pay8_eq, pay9_eq, pay10_eq, pay11_eq, pay12_eq, pay13_eq, pay14_eq]
  simp only [q0_eq, k0_eq, q1_eq, k1_eq, q2_eq, k2_eq, q3_eq, k3_eq]
  simp (disch := decide) only [readq, readk]
  exact congrFun (out_canon ..) j

/-- The weight's block is the whole weight at every point. -/
theorem iblk2_eq (c : Dev nD) (t : Fin cfg0.N) : (iblk m c 2 t : Vec Ideal S1024x4096 .f32) = m ((c : Thread nD τ).loc main_arg2) := by
  obtain ⟨a0, a1⟩ := (by decide +kernel : ∀ t : Fin grid0.N, win0_2.index t (0 : Fin 2) = 0 ∧ win0_2.index t (1 : Fin 2) = 0) t
  funext j
  refine congrArg (m ((c : Thread nD τ).loc main_arg2)) (funext fun a => Fin.ext ?_)
  have hb0 : ∀ y : S1024x4096.Idx, (((cfg0.win 2).blk t).view.emb y 0).val = win0_2.index t (0 : Fin 2) * 1024 + 1 * (y 0).val := fun _ => rfl
  have hb1 : ∀ y : S1024x4096.Idx, (((cfg0.win 2).blk t).view.emb y 1).val = win0_2.index t (1 : Fin 2) * 4096 + 1 * (y 1).val := fun _ => rfl
  match a with
  | 0 => exact (hb0 _).trans (by rw [a0]; omega)
  | 1 => exact (hb1 _).trans (by rw [a1]; omega)

/-- What the scratch holds after every point: the whole weight, written at the first point and kept. -/
theorem s0_hold (c : Dev nD) (t : Fin cfg0.N) : (outsAt0 m c t.val t.isLt).2 = wcast (m ((c : Thread nD τ).loc main_arg2)) := by
  have hN := lt_of_lt_of_eq t.isLt (show cfg0.N = 64 from N_0)
  rw [Pipeline.eq_of_write_hold (fun n h => (outsAt0 m c n h).2) 64 (fun t => wcast (iblk m c 2 t)) (s0_A m c) (s0_B m c) t, iblk2_eq]

/-- What every point writes. -/
theorem out_all (c : Dev nD) (t : Fin cfg0.N) :
    (outsAt0 m c t.val t.isLt).1 = blockOut (iblk m c 0 t) (iblk m c 1 t) (wcast (m ((c : Thread nD τ).loc main_arg2))) (iblk m c 3 t) (iblk m c 4 t) := by
  by_cases h : t.val % 64 = 0
  · rw [o_A m c t h, iblk2_eq]
  · rw [o_B m c t h, ← s0_B m c t h, s0_hold]

/-- The rows' block. -/
theorem iblk0_apply (c : Dev nD) (t : Fin cfg0.N) (r : Fin 32768) (a : Fin 512) (d : Fin 1024) (h : t.val * 512 + a.val = r.val) :
    (iblk m c 0 t : Vec Ideal S512x1024 .f32) (ix2 a d) = m ((c : Thread nD τ).loc main_arg0) (ix2 r d) := by
  obtain ⟨a0, a1⟩ := (by decide +kernel : ∀ t : Fin grid0.N, win0_0.index t (0 : Fin 2) = t.val ∧ win0_0.index t (1 : Fin 2) = 0) t
  refine congrArg (m ((c : Thread nD τ).loc main_arg0)) (funext fun b => Fin.ext ?_)
  have hb0 : ∀ y : S512x1024.Idx, (((cfg0.win 0).blk t).view.emb y 0).val = win0_0.index t (0 : Fin 2) * 512 + 1 * (y 0).val := fun _ => rfl
  have hb1 : ∀ y : S512x1024.Idx, (((cfg0.win 0).blk t).view.emb y 1).val = win0_0.index t (1 : Fin 2) * 1024 + 1 * (y 1).val := fun _ => rfl
  match b with
  | 0 => exact (hb0 (ix2 a d)).trans (by rw [a0]; show t.val * 512 + 1 * a.val = r.val; omega)
  | 1 => exact (hb1 (ix2 a d)).trans (by rw [a1, Nat.zero_mul, Nat.zero_add, Nat.one_mul]; rfl)

theorem V_v0 (c : Dev nD) (j : S1x1024.Idx) : (V m c main_v0 : Vec Ideal S1x1024 .f32) j = m ((c : Thread nD τ).loc main_arg1) (ix1 (j 1)) := by
  unfold V
  after_reads_at

theorem V_v4 (c : Dev nD) (j : S1x512.Idx) : (V m c main_v4 : Vec Ideal S1x512 .f32) j = m ((c : Thread nD τ).loc main_arg3) (ix1 ⟨(j 1).val % 64, Nat.mod_lt _ (by decide)⟩) := by
  unfold V
  after_reads_at

theorem V_v8 (c : Dev nD) (j : S1x512.Idx) : (V m c main_v8 : Vec Ideal S1x512 .f32) j = m ((c : Thread nD τ).loc main_arg4) (ix1 ⟨(j 1).val % 64, Nat.mod_lt _ (by decide)⟩) := by
  unfold V
  after_reads_at

theorem iblk1_eq (c : Dev nD) (t : Fin cfg0.N) : (iblk m c 1 t : Vec Ideal S1x1024 .f32) = V m c main_v0 := by
  obtain ⟨a0, a1⟩ := (by decide +kernel : ∀ t : Fin grid0.N, win0_1.index t (0 : Fin 2) = 0 ∧ win0_1.index t (1 : Fin 2) = 0) t
  funext j
  refine congrArg (V m c main_v0) (funext fun a => Fin.ext ?_)
  have hb0 : ∀ y : S1x1024.Idx, (((cfg0.win 1).blk t).view.emb y 0).val = win0_1.index t (0 : Fin 2) * 1 + 1 * (y 0).val := fun _ => rfl
  have hb1 : ∀ y : S1x1024.Idx, (((cfg0.win 1).blk t).view.emb y 1).val = win0_1.index t (1 : Fin 2) * 1024 + 1 * (y 1).val := fun _ => rfl
  match a with
  | 0 => exact (hb0 _).trans (by rw [a0]; omega)
  | 1 => exact (hb1 _).trans (by rw [a1]; omega)

theorem iblk3_eq (c : Dev nD) (t : Fin cfg0.N) : (iblk m c 3 t : Vec Ideal S1x512 .f32) = V m c main_v4 := by
  obtain ⟨a0, a1⟩ := (by decide +kernel : ∀ t : Fin grid0.N, win0_3.index t (0 : Fin 2) = 0 ∧ win0_3.index t (1 : Fin 2) = 0) t
  funext j
  refine congrArg (V m c main_v4) (funext fun a => Fin.ext ?_)
  have hb0 : ∀ y : S1x512.Idx, (((cfg0.win 3).blk t).view.emb y 0).val = win0_3.index t (0 : Fin 2) * 1 + 1 * (y 0).val := fun _ => rfl
  have hb1 : ∀ y : S1x512.Idx, (((cfg0.win 3).blk t).view.emb y 1).val = win0_3.index t (1 : Fin 2) * 512 + 1 * (y 1).val := fun _ => rfl
  match a with
  | 0 => exact (hb0 _).trans (by rw [a0]; omega)
  | 1 => exact (hb1 _).trans (by rw [a1]; omega)

theorem iblk4_eq (c : Dev nD) (t : Fin cfg0.N) : (iblk m c 4 t : Vec Ideal S1x512 .f32) = V m c main_v8 := by
  obtain ⟨a0, a1⟩ := (by decide +kernel : ∀ t : Fin grid0.N, win0_4.index t (0 : Fin 2) = 0 ∧ win0_4.index t (1 : Fin 2) = 0) t
  funext j
  refine congrArg (V m c main_v8) (funext fun a => Fin.ext ?_)
  have hb0 : ∀ y : S1x512.Idx, (((cfg0.win 4).blk t).view.emb y 0).val = win0_4.index t (0 : Fin 2) * 1 + 1 * (y 0).val := fun _ => rfl
  have hb1 : ∀ y : S1x512.Idx, (((cfg0.win 4).blk t).view.emb y 1).val = win0_4.index t (1 : Fin 2) * 512 + 1 * (y 1).val := fun _ => rfl
  match a with
  | 0 => exact (hb0 _).trans (by rw [a0]; omega)
  | 1 => exact (hb1 _).trans (by rw [a1]; omega)

/-- The projection of the normalised rows, at row `r` and column `n`. -/
def proj (X : Vec Ideal S32768x1024 .f32) (N : Vec Ideal S1024 .f32) (W : Vec Ideal S1024x4096 .f32) (r : Fin 32768) (n : Fin 4096) : EReal :=
  ∑ d : Fin 1024, X (ix2 r d) * Ideal.rsqrt (Ideal.div (∑ k : Fin 1024, X (ix2 r k) * X (ix2 r k)) (Ideal.ofBits FTy.f32 1149239296#32) + Ideal.ofBits FTy.f32 897988541#32)
    * N (ix1 d) * W (ix2 d n)

/-- The kernel's whole result: the queries' and the keys' heads normalised, the queries scaled, the other columns the projection. -/
def spec (X : Vec Ideal S32768x1024 .f32) (N : Vec Ideal S1024 .f32) (W : Vec Ideal S1024x4096 .f32) (q k : Vec Ideal S64 .f32) : Vec Ideal S32768x4096 .f32 := fun i =>
  if hq : (i 1).val < 512 then
    rmsHead (proj X N W (i 0) (i 1)) (fun e => proj X N W (i 0) ⟨(i 1).val / 64 * 64 + e.val, by omega⟩) (q (ix1 ⟨(i 1).val % 64, Nat.mod_lt _ (by decide)⟩)) * Ideal.ofBits FTy.f32 0x3E38AA3B#32
  else if hk : (i 1).val < 1024 then
    rmsHead (proj X N W (i 0) (i 1)) (fun e => proj X N W (i 0) ⟨(i 1).val / 64 * 64 + e.val, by omega⟩) (k (ix1 ⟨(i 1).val % 64, Nat.mod_lt _ (by decide)⟩))
  else proj X N W (i 0) (i 1)

/-- A block's product is the projection of its rows. -/
theorem mm_eq (c : Dev nD) (t : Fin cfg0.N) (r : Fin 32768) (j : S512x4096.Idx) (h : t.val * 512 + (j 0).val = r.val) :
    mm (iblk m c 0 t) (iblk m c 1 t) (wcast (m ((c : Thread nD τ).loc main_arg2))) j
      = proj (m ((c : Thread nD τ).loc main_arg0)) (m ((c : Thread nD τ).loc main_arg1)) (m ((c : Thread nD τ).loc main_arg2)) r (j 1) := by
  unfold mm proj wcast
  refine Finset.sum_congr rfl fun d _ => ?_
  refine congrArg₂ _ ?_ rfl
  pointwise [k0_pay6]
  rw [iblk1_eq]
  have e : ∀ k : Fin 1024, (iblk m c 0 t : Vec Ideal S512x1024 .f32) (ix2 (j 0) k) = m ((c : Thread nD τ).loc main_arg0) (ix2 r k) := fun k => iblk0_apply m c t r (j 0) k h
  simp only [e]
  exact congrArg (_ * ·) (V_v0 m c (ix2 0 d))

theorem final (c : Dev nD) : (dats m 0 c).arrAt 5 cfg0.N
    = spec (m ((c : Thread nD τ).loc main_arg0)) (m ((c : Thread nD τ).loc main_arg1)) (m ((c : Thread nD τ).loc main_arg2)) (m ((c : Thread nD τ).loc main_arg3)) (m ((c : Thread nD τ).loc main_arg4)) :=
  (dats m 0 c).arrAt_eq_of_cover 5 _ (fun t hf => by
    show (cfg0.win 5).cut (grid0.coords t) ((dats m 0 c).after 5 t) = _
    rw [after0_5, out_all]
    have hN := lt_of_lt_of_eq t.isLt (show cfg0.N = 64 from N_0)
    obtain ⟨a0, a1⟩ := (by decide +kernel : ∀ t : Fin grid0.N, win0_5.index t (0 : Fin 2) = t.val ∧ win0_5.index t (1 : Fin 2) = 0) t
    funext y
    have hy0 : (y 0).val < 512 := (y 0).isLt
    have hy1 : (y 1).val < 4096 := (y 1).isLt
    have hb0 : (((cfg0.win 5).blk t).view.emb y 0) = (⟨t.val * 512 + (y 0).val, by omega⟩ : Fin 32768) := Fin.ext (by
      show win0_5.index t (0 : Fin 2) * 512 + 1 * (y 0).val = _; rw [a0]; show t.val * 512 + 1 * (y 0).val = t.val * 512 + (y 0).val; omega)
    have hb1 : (((cfg0.win 5).blk t).view.emb y 1) = (⟨(y 1).val, hy1⟩ : Fin 4096) := Fin.ext (by
      show win0_5.index t (1 : Fin 2) * 4096 + 1 * (y 1).val = _; rw [a1]; show 0 * 4096 + 1 * (y 1).val = (y 1).val; omega)
    show blockOut _ _ _ _ _ ((cfg0.win 5).xinj (grid0.coords t) y) = spec _ _ _ _ _ (((cfg0.win 5).blk t).view.emb y)
    have M : ∀ n : Fin 4096, mm (iblk m c 0 t) (iblk m c 1 t) (wcast (m ((c : Thread nD τ).loc main_arg2))) (ix2 (⟨(y 0).val, hy0⟩ : Fin 512) n)
        = proj (m ((c : Thread nD τ).loc main_arg0)) (m ((c : Thread nD τ).loc main_arg1)) (m ((c : Thread nD τ).loc main_arg2)) ⟨t.val * 512 + (y 0).val, by omega⟩ n :=
      fun n => mm_eq m c t _ (ix2 (⟨(y 0).val, hy0⟩ : Fin 512) n) rfl
    have hx : ((cfg0.win 5).xinj (grid0.coords t) y : S512x4096.Idx) = ix2 (⟨(y 0).val, hy0⟩ : Fin 512) (⟨(y 1).val, hy1⟩ : Fin 4096) :=
      funext fun a => Fin.ext (by match a with | 0 => rfl | 1 => rfl)
    have hi : ((cfg0.win 5).blk t).view.emb y = ix2 (⟨t.val * 512 + (y 0).val, by omega⟩ : Fin 32768) (⟨(y 1).val, hy1⟩ : Fin 4096) :=
      funext fun a => by match a with | 0 => exact hb0 | 1 => exact hb1
    rw [hx, hi, iblk3_eq, iblk4_eq]
    have e4 : ∀ n : Fin 512, (V m c main_v4 : Vec Ideal S1x512 .f32) (ix2 0 n) = m ((c : Thread nD τ).loc main_arg3) (ix1 ⟨n.val % 64, Nat.mod_lt _ (by decide)⟩) := fun n => V_v4 m c (ix2 0 n)
    have e8 : ∀ n : Fin 512, (V m c main_v8 : Vec Ideal S1x512 .f32) (ix2 0 n) = m ((c : Thread nD τ).loc main_arg4) (ix1 ⟨n.val % 64, Nat.mod_lt _ (by decide)⟩) := fun n => V_v8 m c (ix2 0 n)
    unfold spec blockOut
    by_cases h1 : (y 1).val < 512
    · refine (dif_pos h1).trans (Eq.trans ?_ (dif_pos h1).symm)
      refine congrArg (· * _) ?_
      refine congr (congr (congrArg rmsHead (M _)) (funext fun e => M _)) (e4 _)
    · refine (dif_neg h1).trans (Eq.trans ?_ (dif_neg h1).symm)
      by_cases h2 : (y 1).val < 1024
      · refine (dif_pos h2).trans (Eq.trans ?_ (dif_pos h2).symm)
        refine congr (congr (congrArg rmsHead (M _)) (funext fun e => M _)) ((e8 _).trans ?_)
        exact congrArg (m ((c : Thread nD τ).loc main_arg4)) (congrArg ix1 (Fin.ext (by show ((y 1).val - 512) % 64 = (y 1).val % 64; omega)))
      · refine (dif_neg h2).trans (Eq.trans ?_ (dif_neg h2).symm); exact M _)
    (fun i => (Value.covered_iff5 i).2 (by
      have h0 : (i 0).val < 32768 := (i 0).isLt; have h1 : (i 1).val < 4096 := (i 1).isLt; omega))

end Cert.Kernel2Ideal.InProj
-- ==== Proof.InProjRef.lean ====
/-
  The value of the input projection's reference over the extended reals.
-/
module

public import proofs.«01_k».proof.Proof.Gen.Reference2Ideal.Run
public import proofs.«01_k».proof.Proof.InProj
public import Idealize.ShloMosaic.Lib.Pointwise.Tactic

@[expose] public section

set_option maxRecDepth 16384

noncomputable section

namespace Cert.Reference2Ideal.InProj

open Cert.Reference2Ideal Cert.Reference2Ideal.Gen Cert.Reference2Ideal.Value Idealize.ShloMosaic Idealize.ShloMosaic.TcCoe Idealize.SL.Sem

/-- The projection of the normalised rows. -/
def projT (X : FVec Ideal S32768x1024 .f32) (N : FVec Ideal S1024 .f32) (W : FVec Ideal S1024x4096 .f32) : FVec Ideal S32768x4096 .f32 :=
  (Host.dotGeneral dot_S32768x1024_S1024x4096_S32768x4096_1_0_0_1_n_n none (mulf (mulf X (broadcastInDim S32768x1024 ![0, 1] bcast_S32768x1_S32768x1024_0_1 (Host.rsqrt (addf (Host.divf (broadcastInDim S32768x1 ![0] bcast_S32768_S32768x1_0 (Host.reduceAdd (mulf X X) (constant S_ .f32 0x00000000#32) reducesTo_S32768x1024_S32768_d1 h_S_)) (broadcastInDim S32768x1 ![] bcast_S_S32768x1 (constant S_ .f32 0x44800000#32))) (broadcastInDim S32768x1 ![] bcast_S_S32768x1 (constant S_ .f32 0x358637BD#32)))))) (broadcastInDim S32768x1024 ![0, 1] bcast_S1x1024_S32768x1024_0_1 (broadcastInDim S1x1024 ![1] bcast_S1024_S1x1024_1 N))) W)

/-- The normalised and scaled queries. -/
def qT (P : FVec Ideal S32768x4096 .f32) (w : FVec Ideal S64 .f32) : FVec Ideal S32768x512 .f32 :=
  (shapeCast S32768x512 (mulf (mulf (mulf (shapeCast S32768x8x64 (extractStridedSlice S32768x512 ![0, 0] P slices_S32768x4096_S32768x512_0_0) shapeCasts_S32768x512_S32768x8x64) (broadcastInDim S32768x8x64 ![0, 1, 2] bcast_S32768x8x1_S32768x8x64_0_1_2 (Host.rsqrt (addf (Host.divf (broadcastInDim S32768x8x1 ![0, 1] bcast_S32768x8_S32768x8x1_0_1 (Host.reduceAdd (mulf (shapeCast S32768x8x64 (extractStridedSlice S32768x512 ![0, 0] P slices_S32768x4096_S32768x512_0_0) shapeCasts_S32768x512_S32768x8x64) (shapeCast S32768x8x64 (extractStridedSlice S32768x512 ![0, 0] P slices_S32768x4096_S32768x512_0_0) shapeCasts_S32768x512_S32768x8x64)) (constant S_ .f32 0x00000000#32) reducesTo_S32768x8x64_S32768x8_d2 h_S_)) (broadcastInDim S32768x8x1 ![] bcast_S_S32768x8x1 (constant S_ .f32 0x42800000#32))) (broadcastInDim S32768x8x1 ![] bcast_S_S32768x8x1 (constant S_ .f32 0x358637BD#32)))))) (broadcastInDim S32768x8x64 ![0, 1, 2] bcast_S1x1x64_S32768x8x64_0_1_2 (broadcastInDim S1x1x64 ![2] bcast_S64_S1x1x64_2 w))) (broadcastInDim S32768x8x64 ![] bcast_S_S32768x8x64 (constant S_ .f32 0x3E38AA3B#32))) shapeCasts_S32768x8x64_S32768x512)

/-- The normalised keys. -/
def kT (P : FVec Ideal S32768x4096 .f32) (w : FVec Ideal S64 .f32) : FVec Ideal S32768x512 .f32 :=
  (shapeCast S32768x512 (mulf (mulf (shapeCast S32768x8x64 (extractStridedSlice S32768x512 ![0, 512] P slices_S32768x4096_S32768x512_0_512) shapeCasts_S32768x512_S32768x8x64) (broadcastInDim S32768x8x64 ![0, 1, 2] bcast_S32768x8x1_S32768x8x64_0_1_2 (Host.rsqrt (addf (Host.divf (broadcastInDim S32768x8x1 ![0, 1] bcast_S32768x8_S32768x8x1_0_1 (Host.reduceAdd (mulf (shapeCast S32768x8x64 (extractStridedSlice S32768x512 ![0, 512] P slices_S32768x4096_S32768x512_0_512) shapeCasts_S32768x512_S32768x8x64) (shapeCast S32768x8x64 (extractStridedSlice S32768x512 ![0, 512] P slices_S32768x4096_S32768x512_0_512) shapeCasts_S32768x512_S32768x8x64)) (constant S_ .f32 0x00000000#32) reducesTo_S32768x8x64_S32768x8_d2 h_S_)) (broadcastInDim S32768x8x1 ![] bcast_S_S32768x8x1 (constant S_ .f32 0x42800000#32))) (broadcastInDim S32768x8x1 ![] bcast_S_S32768x8x1 (constant S_ .f32 0x358637BD#32)))))) (broadcastInDim S32768x8x64 ![0, 1, 2] bcast_S1x1x64_S32768x8x64_0_1_2 (broadcastInDim S1x1x64 ![2] bcast_S64_S1x1x64_2 w))) shapeCasts_S32768x8x64_S32768x512)

theorem res_eq (m : (ℓ : Loc nD τ sig) → Buf (Elt Ideal) ℓ) (c : Dev nD) : res_main_v49 (F := Ideal) m c
    = concatenate S32768x4096 1 [⟨S32768x512, qT (projT (m ((c.tc : Thread nD τ).loc main_arg0)) (m ((c.tc : Thread nD τ).loc main_arg1)) (m ((c.tc : Thread nD τ).loc main_arg2))) (m ((c.tc : Thread nD τ).loc main_arg3))⟩,
        ⟨S32768x512, kT (projT (m ((c.tc : Thread nD τ).loc main_arg0)) (m ((c.tc : Thread nD τ).loc main_arg1)) (m ((c.tc : Thread nD τ).loc main_arg2))) (m ((c.tc : Thread nD τ).loc main_arg4))⟩,
        ⟨S32768x3072, extractStridedSlice S32768x3072 ![0, 1024] (projT (m ((c.tc : Thread nD τ).loc main_arg0)) (m ((c.tc : Thread nD τ).loc main_arg1)) (m ((c.tc : Thread nD τ).loc main_arg2))) slices_S32768x4096_S32768x3072_0_1024⟩]
        concatenates_S32768x512_S32768x512_S32768x3072_S32768x4096_d1 := rfl

theorem projT_apply (X N W) (r : Fin 32768) (n : Fin 4096) : projT X N W (ix2 r n) = Cert.Kernel2Ideal.InProj.proj X N W r n := by
  pointwise [projT]
  rfl

/-- Dividing by 64 is multiplying by its reciprocal. -/
theorem div_64 (y : EReal) : Ideal.div y (Ideal.ofBits FTy.f32 1115684864#32) = y * Ideal.ofBits FTy.f32 1015021568#32 := by
  have h1 : Ideal.ofBits FTy.f32 1115684864#32 = ((64 : ℝ) : EReal) := by
    simp [Ideal.ofBits, Ideal.ieee, -EReal.coe_mul]; norm_num
  have h2 : Ideal.ofBits FTy.f32 1015021568#32 = (((64 : ℝ)⁻¹ : ℝ) : EReal) := by
    simp [Ideal.ofBits, Ideal.ieee, -EReal.coe_mul]; norm_num
  rw [h1, h2, Ideal.div, if_neg (by norm_num), EReal.coe_inv]

theorem qT_apply (P w) (r : Fin 32768) (n : Fin 512) : qT P w (ix2 r n)
    = Cert.Kernel2Ideal.InProj.rmsHead (P (ix2 r ⟨n.val, by omega⟩)) (fun e => P (ix2 r ⟨n.val / 64 * 64 + e.val, by omega⟩)) (w (ix1 ⟨n.val % 64, Nat.mod_lt _ (by decide)⟩))
      * Ideal.ofBits FTy.f32 0x3E38AA3B#32 := by
  pointwise [qT]
  rw [div_64]
  rfl

theorem kT_apply (P w) (r : Fin 32768) (n : Fin 512) : kT P w (ix2 r n)
    = Cert.Kernel2Ideal.InProj.rmsHead (P (ix2 r ⟨512 + n.val, by omega⟩)) (fun e => P (ix2 r ⟨512 + (n.val / 64 * 64 + e.val), by omega⟩)) (w (ix1 ⟨n.val % 64, Nat.mod_lt _ (by decide)⟩)) := by
  pointwise [kT]
  rw [div_64]
  rfl

/-! A concatenation of the queries, the keys and the other columns, read in each part. -/

theorem cat_q (A B : FVec Ideal S32768x512 .f32) (C : FVec Ideal S32768x3072 .f32) (h) (r : Fin 32768) (n : Fin 4096) (n' : Fin 512) (hn : 0 + n'.val = n.val) :
    concatenate S32768x4096 1 [⟨S32768x512, A⟩, ⟨S32768x512, B⟩, ⟨S32768x3072, C⟩] h (ix2 r n) = A (ix2 r n') :=
  concatenate_apply_piece (t := S32768x4096) (1 : Fin 2) _ h (ix2 r n) 0 (by show 0 < 3; decide) S32768x512 A rfl rfl 0 rfl (ix2 r n') (fun b hb => by
    match b with
    | 0 => rfl
    | 1 => exact absurd rfl hb) hn

theorem cat_k (A B : FVec Ideal S32768x512 .f32) (C : FVec Ideal S32768x3072 .f32) (h) (r : Fin 32768) (n : Fin 4096) (n' : Fin 512) (hn : 512 + n'.val = n.val) :
    concatenate S32768x4096 1 [⟨S32768x512, A⟩, ⟨S32768x512, B⟩, ⟨S32768x3072, C⟩] h (ix2 r n) = B (ix2 r n') :=
  concatenate_apply_piece (t := S32768x4096) (1 : Fin 2) _ h (ix2 r n) 1 (by show 1 < 3; decide) S32768x512 B rfl rfl 512 rfl (ix2 r n') (fun b hb => by
    match b with
    | 0 => rfl
    | 1 => exact absurd rfl hb) hn

theorem cat_rest (A B : FVec Ideal S32768x512 .f32) (C : FVec Ideal S32768x3072 .f32) (h) (r : Fin 32768) (n : Fin 4096) (n' : Fin 3072) (hn : 1024 + n'.val = n.val) :
    concatenate S32768x4096 1 [⟨S32768x512, A⟩, ⟨S32768x512, B⟩, ⟨S32768x3072, C⟩] h (ix2 r n) = C (ix2 r n') :=
  concatenate_apply_piece (t := S32768x4096) (1 : Fin 2) _ h (ix2 r n) 2 (by show 2 < 3; decide) S32768x3072 C rfl rfl 1024 rfl (ix2 r n') (fun b hb => by
    match b with
    | 0 => rfl
    | 1 => exact absurd rfl hb) hn

theorem value (m : (ℓ : Loc nD τ sig) → Buf (Elt Ideal) ℓ) (c : Dev nD) : res_main_v49 (F := Ideal) m c
    = Cert.Kernel2Ideal.InProj.spec (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) := by
  rw [res_eq]
  funext i
  obtain ⟨r, n, rfl⟩ : ∃ (r : Fin 32768) (n : Fin 4096), i = ix2 r n := ⟨i 0, i 1, funext fun a => match a with | 0 => rfl | 1 => rfl⟩
  unfold Cert.Kernel2Ideal.InProj.spec
  by_cases h1 : n.val < 512
  · refine Eq.trans ?_ (dif_pos h1).symm
    refine (cat_q _ _ _ _ r n ⟨n.val, h1⟩ (Nat.zero_add _)).trans ?_
    rw [qT_apply]
    simp only [projT_apply]
    rfl
  · refine Eq.trans ?_ (dif_neg h1).symm
    by_cases h2 : n.val < 1024
    · refine Eq.trans ?_ (dif_pos h2).symm
      refine (cat_k _ _ _ _ r n ⟨n.val - 512, by omega⟩ (by show 512 + (n.val - 512) = n.val; omega)).trans ?_
      rw [kT_apply]
      simp only [projT_apply]
      refine congr (congr (congrArg _ ?_) (funext fun e => ?_)) ?_
      · exact congrArg _ (Fin.ext (by show 512 + (n.val - 512) = n.val; omega))
      · exact congrArg _ (Fin.ext (by show 512 + ((n.val - 512) / 64 * 64 + e.val) = n.val / 64 * 64 + e.val; omega))
      · exact congrArg (m ((c.tc : Thread nD τ).loc main_arg4)) (congrArg ix1 (Fin.ext (by show (n.val - 512) % 64 = n.val % 64; omega)))
    · refine Eq.trans ?_ (dif_neg h2).symm
      refine (cat_rest _ _ _ _ r n ⟨n.val - 1024, by omega⟩ (by show 1024 + (n.val - 1024) = n.val; omega)).trans ?_
      pointwise []
      rw [projT_apply]
      exact congrArg _ (Fin.ext (by show 1024 + (n.val - 1024) = n.val; omega))

end Cert.Reference2Ideal.InProj
-- ==== Proof.Rows.lean ====
/-
  The output projection and the router of one row, over the extended reals: what the row's results are as functions of the
  row's inputs, and that they are real when the inputs are.
-/
module

public import Idealize.ShloMosaic.PureOps.Ideal
public import Idealize.ShloMosaic.Lib.Pointwise.Tactic

@[expose] public section

noncomputable section

namespace Cert.OutRows

open Idealize.ShloMosaic

/-- One lane `y` of a head whose 128 lanes hold `f`: divided by the head's root mean square, scaled and gated. -/
def head (y : EReal) (f : Fin 128 → EReal) (w g : EReal) : EReal :=
  y * Ideal.rsqrt (Ideal.div (∑ x, f x * f x) (Ideal.ofBits FTy.f32 1124073472#32) + Ideal.ofBits FTy.f32 897988541#32) * w * (g * Ideal.logistic g)

/-- The row the output weight multiplies: the attention's lanes, then the four gated heads. -/
def mixed (a o g : Fin 512 → EReal) (w : Fin 128 → EReal) (k : Fin 1024) : EReal :=
  if h : k.val < 512 then a ⟨k.val, h⟩ else
    head (o ⟨k.val - 512, by omega⟩) (fun e => o ⟨(k.val - 512) / 128 * 128 + e.val, by omega⟩) (w ⟨(k.val - 512) % 128, Nat.mod_lt _ (by decide)⟩) (g ⟨k.val - 512, by omega⟩)

/-- The residual row after the output projection. -/
def resid (x y : Fin 1024 → EReal) (W : Fin 1024 → Fin 1024 → EReal) (d : Fin 1024) : EReal := x d + ∑ k, y k * W k d

/-- A row divided by its root mean square and scaled. -/
def norm (y n : Fin 1024 → EReal) (d : Fin 1024) : EReal :=
  y d * Ideal.rsqrt (Ideal.div (∑ x, y x * y x) (Ideal.ofBits FTy.f32 1149239296#32) + Ideal.ofBits FTy.f32 897988541#32) * n d

/-- The router's logits of a row. -/
def logits (h : Fin 1024 → EReal) (R : Fin 1024 → Fin 16 → EReal) (e : Fin 16) : EReal := ∑ d, h d * R d e

/-- The softmax over the sixteen experts. -/
def soft (l : Fin 16 → EReal) (e : Fin 16) : EReal :=
  Ideal.div (Ideal.exp (l e - Finset.univ.sup l)) (∑ x, Ideal.exp (l x - Finset.univ.sup l))

/-- The softmax in 128 lanes, zero beyond the sixteenth. -/
def lanes (l : Fin 16 → EReal) (e : Fin 128) : EReal := if h : e.val < 16 then soft l ⟨e.val, h⟩ else 0

/-! ## Real values -/

/-- The value is a real number. -/
def IsReal (x : EReal) : Prop := ∃ r : ℝ, x = r

theorem IsReal.add {x y : EReal} : IsReal x → IsReal y → IsReal (x + y) := by
  rintro ⟨a, rfl⟩ ⟨b, rfl⟩; exact ⟨a + b, (EReal.coe_add a b).symm⟩

theorem IsReal.mul {x y : EReal} : IsReal x → IsReal y → IsReal (x * y) := by
  rintro ⟨a, rfl⟩ ⟨b, rfl⟩; exact ⟨a * b, (EReal.coe_mul a b).symm⟩

theorem coe_sum {ι : Type} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

theorem IsReal.sum {ι : Type} {s : Finset ι} {f : ι → EReal} (h : ∀ i, IsReal (f i)) : IsReal (∑ i ∈ s, f i) := by
  choose g hg using h
  exact ⟨∑ i ∈ s, g i, by rw [← coe_sum]; exact Finset.sum_congr rfl fun i _ => hg i⟩

theorem IsReal.sub_self {x : EReal} : IsReal x → x - x = 0 := by
  rintro ⟨a, rfl⟩; rw [← EReal.coe_sub, _root_.sub_self, EReal.coe_zero]

theorem lit_128 : Ideal.ofBits FTy.f32 1124073472#32 = ((128 : ℝ) : EReal) := by
  simp [Ideal.ofBits, Ideal.ieee, -EReal.coe_mul]; norm_num

theorem lit_1024 : Ideal.ofBits FTy.f32 1149239296#32 = ((1024 : ℝ) : EReal) := by
  simp [Ideal.ofBits, Ideal.ieee, -EReal.coe_mul]; norm_num

theorem lit_eps : ∃ r : ℝ, 0 < r ∧ Ideal.ofBits FTy.f32 897988541#32 = (r : EReal) := by
  refine ⟨_, ?_, by simp [Ideal.ofBits, Ideal.ieee, -EReal.coe_mul]; rfl⟩
  norm_num

theorem lit_bot : Ideal.ofBits FTy.f32 4286578688#32 = ⊥ := by
  simp [Ideal.ofBits, Ideal.ieee]

/-- The reciprocal root of a mean of squares plus the small literal is real. -/
theorem IsReal.rms {ι : Type} [Fintype ι] {f : ι → EReal} (h : ∀ i, IsReal (f i)) {n : EReal} {r : ℝ} (hn : n = r) (hr : 0 < r) :
    IsReal (Ideal.rsqrt (Ideal.div (∑ x, f x * f x) n + Ideal.ofBits FTy.f32 897988541#32)) := by
  choose g hg using h
  obtain ⟨e, he, hl⟩ := lit_eps
  have h1 : (∑ x, f x * f x) = ((∑ x, g x * g x : ℝ) : EReal) := by
    rw [← coe_sum]; exact Finset.sum_congr rfl fun i _ => by rw [hg i, EReal.coe_mul]
  have h0 : 0 ≤ ∑ x, g x * g x := Finset.sum_nonneg fun i _ => mul_self_nonneg _
  have h2 : 0 < (∑ x, g x * g x) * r⁻¹ + e := by positivity
  rw [h1, hn, Ideal.div, if_neg (by exact_mod_cast hr.ne'), ← EReal.coe_inv, ← EReal.coe_mul, hl, ← EReal.coe_add]
  exact ⟨_, by rw [Ideal.rsqrt_coe, if_neg (not_lt.mpr h2.le), if_neg h2.ne']⟩

theorem IsReal.logistic {x : EReal} : IsReal x → IsReal (Ideal.logistic x) := by
  rintro ⟨a, rfl⟩; exact ⟨_, Ideal.logistic_coe _⟩

theorem head_real {y : EReal} {f : Fin 128 → EReal} {w g : EReal} (hy : IsReal y) (hf : ∀ i, IsReal (f i)) (hw : IsReal w) (hg : IsReal g) : IsReal (head y f w g) :=
  ((hy.mul (IsReal.rms hf lit_128 (by norm_num))).mul hw).mul (hg.mul hg.logistic)

theorem mixed_real {a o g : Fin 512 → EReal} {w : Fin 128 → EReal} (ha : ∀ i, IsReal (a i)) (ho : ∀ i, IsReal (o i)) (hg : ∀ i, IsReal (g i)) (hw : ∀ i, IsReal (w i)) (k) :
    IsReal (mixed a o g w k) := by
  unfold mixed
  split
  · exact ha _
  · exact head_real (ho _) (fun _ => ho _) (hw _) (hg _)

theorem resid_real {x y : Fin 1024 → EReal} {W : Fin 1024 → Fin 1024 → EReal} (hx : ∀ i, IsReal (x i)) (hy : ∀ i, IsReal (y i)) (hW : ∀ i j, IsReal (W i j)) (d) : IsReal (resid x y W d) :=
  (hx d).add (IsReal.sum fun k => (hy k).mul (hW k d))

theorem norm_real {y n : Fin 1024 → EReal} (hy : ∀ i, IsReal (y i)) (hn : ∀ i, IsReal (n i)) (d) : IsReal (norm y n d) :=
  ((hy d).mul (IsReal.rms hy lit_1024 (by norm_num))).mul (hn d)

theorem logits_real {h : Fin 1024 → EReal} {R : Fin 1024 → Fin 16 → EReal} (hh : ∀ i, IsReal (h i)) (hR : ∀ i j, IsReal (R i j)) (e) : IsReal (logits h R e) :=
  IsReal.sum fun d => (hh d).mul (hR d e)

/-! ## The softmax -/

theorem exp_sub_real {l : Fin 16 → EReal} (h : ∀ i, IsReal (l i)) (e : Fin 16) : ∃ r : ℝ, 0 < r ∧ Ideal.exp (l e - Finset.univ.sup l) = r := by
  obtain ⟨i, _, hi⟩ := Finset.exists_mem_eq_sup (Finset.univ : Finset (Fin 16)) Finset.univ_nonempty l
  obtain ⟨a, ha⟩ := h e
  obtain ⟨b, hb⟩ := h i
  rw [hi, ha, hb, ← EReal.coe_sub, Ideal.exp_coe]
  exact ⟨_, Real.exp_pos _, rfl⟩

theorem sum_exp {l : Fin 16 → EReal} (h : ∀ i, IsReal (l i)) : ∃ r : ℝ, 0 < r ∧ (∑ x, Ideal.exp (l x - Finset.univ.sup l)) = r := by
  choose g hp hg using exp_sub_real h
  refine ⟨∑ x, g x, Finset.sum_pos (fun i _ => hp i) Finset.univ_nonempty, ?_⟩
  rw [← coe_sum]
  exact Finset.sum_congr rfl fun i _ => hg i

theorem soft_real {l : Fin 16 → EReal} (h : ∀ i, IsReal (l i)) (e : Fin 16) : IsReal (soft l e) := by
  obtain ⟨a, _, ha⟩ := exp_sub_real h e
  obtain ⟨b, hp, hb⟩ := sum_exp h
  unfold soft
  rw [ha, hb, Ideal.div, if_neg (by exact_mod_cast hp.ne'), ← EReal.coe_inv, ← EReal.coe_mul]
  exact ⟨_, rfl⟩

theorem lanes_real {l : Fin 16 → EReal} (h : ∀ i, IsReal (l i)) (e : Fin 128) : IsReal (lanes l e) := by
  unfold lanes
  split
  · exact soft_real h _
  · exact ⟨0, EReal.coe_zero.symm⟩

/-- Lanes of minus infinity beyond the sixteenth add nothing to the maximum. -/
theorem sup_lanes (L : Fin 128 → EReal) (l : Fin 16 → EReal) (h1 : ∀ e : Fin 16, L ⟨e.val, by omega⟩ = l e) (h2 : ∀ e : Fin 128, ¬e.val < 16 → L e = ⊥) :
    Finset.univ.sup L = Finset.univ.sup l := by
  apply le_antisymm
  · refine Finset.sup_le fun e _ => ?_
    by_cases he : e.val < 16
    · rw [h1 ⟨e.val, he⟩]; exact Finset.le_sup (f := l) (Finset.mem_univ _)
    · rw [h2 e he]; exact bot_le
  · refine Finset.sup_le fun e _ => ?_
    rw [← h1 e]; exact Finset.le_sup (f := L) (Finset.mem_univ _)

/-- The masked softmax in 128 lanes is the softmax over the sixteen experts. -/
theorem soft_lanes (L : Fin 128 → EReal) (l : Fin 16 → EReal) (h1 : ∀ e : Fin 16, L ⟨e.val, by omega⟩ = l e) (h2 : ∀ e : Fin 128, ¬e.val < 16 → L e = ⊥)
    (hl : ∀ i, IsReal (l i)) (e : Fin 128) :
    Ideal.div (Ideal.exp (L e - Finset.univ.sup L)) (∑ x, Ideal.exp (L x - Finset.univ.sup L)) = lanes l e := by
  rw [sup_lanes L l h1 h2]
  have hz : ∀ x : Fin 128, ¬x.val < 16 → Ideal.exp (L x - Finset.univ.sup l) = 0 := fun x hx => by
    rw [h2 x hx, EReal.bot_sub, Ideal.exp_bot]
  have hs : (∑ x, Ideal.exp (L x - Finset.univ.sup l)) = ∑ x, Ideal.exp (l x - Finset.univ.sup l) := by
    rw [Fin.sum_univ_add (a := 16) (b := 112) (f := fun x : Fin (16 + 112) => Ideal.exp (L x - Finset.univ.sup l))]
    rw [Finset.sum_congr rfl fun (x : Fin 112) _ => hz (Fin.natAdd 16 x) (by rw [Fin.val_natAdd]; omega), Finset.sum_const_zero, add_zero]
    exact Finset.sum_congr rfl fun x _ => by rw [← h1 x]; rfl
  rw [hs]
  unfold lanes
  by_cases he : e.val < 16
  · rw [dif_pos he, show L e = l ⟨e.val, he⟩ from h1 ⟨e.val, he⟩]
    rfl
  · obtain ⟨b, hp, hb⟩ := sum_exp hl
    rw [dif_neg he, hz e he, hb, Ideal.div, if_neg (by exact_mod_cast hp.ne'), zero_mul]

end Cert.OutRows
-- ==== Proof.OutProj.lean ====
/-
  The value of the output projection and router kernel over the extended reals.
-/
module

public import proofs.«01_k».proof.Proof.Gen.Kernel3Ideal.Value
public import proofs.«01_k».proof.Proof.Rows
public import Idealize.ShloMosaic.Lib.Pipeline.ValueKit
public import Idealize.ShloMosaic.Lib.Pipeline.ValueKit.Held
public import Idealize.ShloMosaic.Lib.Pipeline.ReadBack
public import Idealize.ShloMosaic.Lib.Pointwise.Tactic
public import Idealize.ShloMosaic.Lib.StableHlo.ReadAt

@[expose] public section

set_option maxRecDepth 16384

noncomputable section

namespace Cert.Kernel3Ideal.OutProj

open Cert.Kernel3Ideal Cert.Kernel3Ideal.Gen Idealize.ShloMosaic Idealize.ShloMosaic.TcCoe Idealize.SL.Sem

variable (m : (ℓ : Loc nD τ sig) → Buf (Elt Ideal) ℓ)

/-- One head of 128 lanes: divided by its root mean square, scaled by the norm weight, gated. -/
def headT (o g : FVec Ideal S512x128 .f32) (w : FVec Ideal S1x128 .f32) : FVec Ideal S512x128 .bf16 :=
  truncf .bf16 (mulf (mulf (mulf o (broadcastTo S512x128 (rsqrt (addf (divf (shapeCast S512x1 (multiReduction .add [1] S512 (mulf o o) 0x00000000#32 reduces_S512x128_S512 (.inl rfl) rfl) shapeCasts_S512_S512x1)
      (broadcast S512x1 (Scalar.ofBits .f32 0x43000000#32))) (broadcast S512x1 (Scalar.ofBits .f32 0x358637BD#32)))) broadcasts_S512x1_S512x128)) (broadcastTo S512x128 w broadcasts_S1x128_S512x128)) (mulf g (logistic g))) bitsLt_bf16_f32

/-- The attention's lanes and the four heads side by side. -/
def cat5 (A : FVec Ideal S512x512 .bf16) (B C D E : FVec Ideal S512x128 .bf16) : FVec Ideal S512x1024 .bf16 :=
  concatenate S512x1024 1 [⟨S512x512, A⟩, ⟨S512x128, B⟩, ⟨S512x128, C⟩, ⟨S512x128, D⟩, ⟨S512x128, E⟩] concatenates_S512x512_S512x128_S512x128_S512x128_S512x128_S512x1024_d1

/-- One head cut from the block's lanes `b` on. -/
def cut (v4 v6 : Vec Ideal S512x512 .bf16) (v9 : Vec Ideal S512x512 .f32) (v10 : Vec Ideal S1x128 .f32) (b : Fin 2 → Nat) (h : S512x512.Slices b S512x128) : FVec Ideal S512x128 .bf16 :=
  headT (extractStridedSlice S512x128 b (k0_pay8 v4 v6) h) (extractStridedSlice S512x128 b v9 h) (k0_pay9 v10)

/-- The residual block: the rows plus the product of the mixed lanes with the output weight. -/
def b9 (X : Vec Ideal S512x1024 .f32) (v3 v4 v6 : Vec Ideal S512x512 .bf16) (v9 : Vec Ideal S512x512 .f32) (v10 : Vec Ideal S1x128 .f32) (W : Vec Ideal S1024x1024 .bf16) : FVec Ideal S512x1024 .f32 :=
  k0_pay13 v3 (k0_pay8 v4 v6) v9 (k0_pay9 v10) (k0_pay10 v4 v6 v9 v10) (k0_pay11 v4 v6) (k0_pay12 v4 v6) X W

theorem b9_eq (X v3 v4 v6 v9 v10 W) : b9 X v3 v4 v6 v9 v10 W
    = addf X (matmul (φ₁ := .bf16) (φ₂ := .bf16) dot_S512x1024_S1024x1024_S512x1024_1_0_0_1_n_n none (cat5 v3
        (cut v4 v6 v9 v10 ![0, 0] slices_S512x512_o0_0_S512x128) (cut v4 v6 v9 v10 ![0, 128] slices_S512x512_o0_128_S512x128)
        (cut v4 v6 v9 v10 ![0, 256] slices_S512x512_o0_256_S512x128) (cut v4 v6 v9 v10 ![0, 384] slices_S512x512_o0_384_S512x128))
        W (constant S512x1024 .f32 0x00000000#32)) := rfl

theorem headT_apply (o g w) (r : Fin 512) (l : Fin 128) :
    headT o g w (ix2 r l) = OutRows.head (o (ix2 r l)) (fun e => o (ix2 r e)) (w (ix2 (0 : Fin 1) l)) (g (ix2 r l)) := by
  pointwise [headT]
  rfl

/-! The attention's lanes and the four heads side by side, read in each part. -/

section Cat

variable (A : FVec Ideal S512x512 .bf16) (B C D E : FVec Ideal S512x128 .bf16) (r : Fin 512) (k : Fin 1024)

theorem cat_0 (n : Fin 512) (hn : 0 + n.val = k.val) : cat5 A B C D E (ix2 r k) = A (ix2 r n) :=
  concatenate_apply_piece (t := S512x1024) (1 : Fin 2) _ _ (ix2 r k) 0 (by show 0 < 5; decide) S512x512 A rfl rfl 0 rfl (ix2 r n) (fun b hb => by
    match b with
    | 0 => rfl
    | 1 => exact absurd rfl hb) hn

theorem cat_1 (n : Fin 128) (hn : 512 + n.val = k.val) : cat5 A B C D E (ix2 r k) = B (ix2 r n) :=
  concatenate_apply_piece (t := S512x1024) (1 : Fin 2) _ _ (ix2 r k) 1 (by show 1 < 5; decide) S512x128 B rfl rfl 512 rfl (ix2 r n) (fun b hb => by
    match b with
    | 0 => rfl
    | 1 => exact absurd rfl hb) hn

theorem cat_2 (n : Fin 128) (hn : 640 + n.val = k.val) : cat5 A B C D E (ix2 r k) = C (ix2 r n) :=
  concatenate_apply_piece (t := S512x1024) (1 : Fin 2) _ _ (ix2 r k) 2 (by show 2 < 5; decide) S512x128 C rfl rfl 640 rfl (ix2 r n) (fun b hb => by
    match b with
    | 0 => rfl
    | 1 => exact absurd rfl hb) hn

theorem cat_3 (n : Fin 128) (hn : 768 + n.val = k.val) : cat5 A B C D E (ix2 r k) = D (ix2 r n) :=
  concatenate_apply_piece (t := S512x1024) (1 : Fin 2) _ _ (ix2 r k) 3 (by show 3 < 5; decide) S512x128 D rfl rfl 768 rfl (ix2 r n) (fun b hb => by
    match b with
    | 0 => rfl
    | 1 => exact absurd rfl hb) hn

theorem cat_4 (n : Fin 128) (hn : 896 + n.val = k.val) : cat5 A B C D E (ix2 r k) = E (ix2 r n) :=
  concatenate_apply_piece (t := S512x1024) (1 : Fin 2) _ _ (ix2 r k) 4 (by show 4 < 5; decide) S512x128 E rfl rfl 896 rfl (ix2 r n) (fun b hb => by
    match b with
    | 0 => rfl
    | 1 => exact absurd rfl hb) hn

end Cat

/-- The row the output weight multiplies, of a block's row. -/
def mixB (v3 v4 v6 : Vec Ideal S512x512 .bf16) (v9 : Vec Ideal S512x512 .f32) (v10 : Vec Ideal S1x128 .f32) (r : Fin 512) : Fin 1024 → EReal :=
  OutRows.mixed (fun i => v3 (ix2 r i)) (fun i => v4 (ix2 r i) + v6 (ix2 r i)) (fun i => v9 (ix2 r i)) (fun l => v10 (ix2 (0 : Fin 1) l))

theorem cut_eq (v3 v4 v6 : Vec Ideal S512x512 .bf16) (v9 : Vec Ideal S512x512 .f32) (v10 : Vec Ideal S1x128 .f32) (b : Nat) (h) (r : Fin 512) (k : Fin 1024) (n : Fin 128)
    (hk : 512 + b + n.val = k.val) (hb : b % 128 = 0) : cut v4 v6 v9 v10 ![0, b] h (ix2 r n) = mixB v3 v4 v6 v9 v10 r k := by
  unfold cut
  rw [headT_apply]
  unfold mixB OutRows.mixed
  rw [dif_neg (show ¬k.val < 512 by omega)]
  have hn := n.isLt
  have e1 : ∀ h1 h2, (⟨b + n.val, h1⟩ : Fin 512) = ⟨k.val - 512, h2⟩ := fun _ _ => Fin.ext (by show b + n.val = k.val - 512; omega)
  have e2 : ∀ (e : Fin 128) h1 h2, (⟨b + e.val, h1⟩ : Fin 512) = ⟨(k.val - 512) / 128 * 128 + e.val, h2⟩ := fun e _ _ => Fin.ext (by show b + e.val = (k.val - 512) / 128 * 128 + e.val; omega)
  have e3 : ∀ h2, n = (⟨(k.val - 512) % 128, h2⟩ : Fin 128) := fun _ => Fin.ext (by show n.val = (k.val - 512) % 128; omega)
  pointwise [k0_pay8, k0_pay9]
  refine congr (congr (congr (congrArg OutRows.head ?_) (funext fun e => ?_)) ?_) ?_
  · rw [e1]
  · rw [e2]
  · exact congrArg (fun i => v10 (ix2 (0 : Fin 1) i)) (e3 _)
  · rw [e1]

theorem cat5_eq (v3 v4 v6 v9 v10) (r : Fin 512) (k : Fin 1024) :
    cat5 v3 (cut v4 v6 v9 v10 ![0, 0] slices_S512x512_o0_0_S512x128) (cut v4 v6 v9 v10 ![0, 128] slices_S512x512_o0_128_S512x128)
        (cut v4 v6 v9 v10 ![0, 256] slices_S512x512_o0_256_S512x128) (cut v4 v6 v9 v10 ![0, 384] slices_S512x512_o0_384_S512x128) (ix2 r k)
      = mixB v3 v4 v6 v9 v10 r k := by
  have hk := k.isLt
  by_cases h0 : k.val < 512
  · rw [cat_0 _ _ _ _ _ r k ⟨k.val, h0⟩ (Nat.zero_add _)]
    unfold mixB OutRows.mixed
    rw [dif_pos h0]
  by_cases h1 : k.val < 640
  · have e : 512 + (k.val - 512) = k.val := by omega
    exact (cat_1 _ _ _ _ _ r k ⟨k.val - 512, by omega⟩ e).trans (cut_eq v3 _ _ _ _ 0 _ r k _ e rfl)
  by_cases h2 : k.val < 768
  · have e : 640 + (k.val - 640) = k.val := by omega
    exact (cat_2 _ _ _ _ _ r k ⟨k.val - 640, by omega⟩ e).trans (cut_eq v3 _ _ _ _ 128 _ r k _ e rfl)
  by_cases h3 : k.val < 896
  · have e : 768 + (k.val - 768) = k.val := by omega
    exact (cat_3 _ _ _ _ _ r k ⟨k.val - 768, by omega⟩ e).trans (cut_eq v3 _ _ _ _ 256 _ r k _ e rfl)
  · have e : 896 + (k.val - 896) = k.val := by omega
    exact (cat_4 _ _ _ _ _ r k ⟨k.val - 896, by omega⟩ e).trans (cut_eq v3 _ _ _ _ 384 _ r k _ e rfl)

theorem b9_apply (X v3 v4 v6 v9 v10 W) (r : Fin 512) (d : Fin 1024) :
    b9 X v3 v4 v6 v9 v10 W (ix2 r d) = OutRows.resid (fun i => X (ix2 r i)) (mixB v3 v4 v6 v9 v10 r) (fun k i => W (ix2 k i)) d := by
  rw [b9_eq]
  unfold OutRows.resid
  simp only [← cat5_eq]
  pointwise []

theorem pay14_apply (v88 : FVec Ideal S512x1024 .f32) (v100) (r : Fin 512) (l : Fin 1024) :
    k0_pay14 (F := Ideal) v88 v100 (ix2 r l) = OutRows.norm (fun d => v88 (ix2 r d)) (fun d => v100 (ix2 (0 : Fin 1) d)) l := by
  pointwise [k0_pay14]
  rfl

theorem mask : Named.named (F := Ideal) κ "mask" (φ := .f32) 0xF149F2CA#32 = ⊥ := IdealRules.named_const.ideal_named_scalar _ _ _ _ rfl

theorem lane_word (l : Fin 128) : IntOp.cmpi CmpIPredicate.slt (BitVec.ofNat 32 l.val) 16#32 = BitVec.ofBool (decide (l.val < 16)) := by
  revert l; decide +kernel

/-- The router's weight, as the pair of halves holds it: the weight itself and zero. -/
structure IsPair (P : Vec Ideal S1024x256 .bf16) (R : Fin 1024 → Fin 16 → EReal) : Prop where
  hi : ∀ x (l : Fin 16), P (ix2 x ⟨l.val, by omega⟩) = R x l
  lo : ∀ x (l : Fin 128), P (ix2 x ⟨128 + l.val, by omega⟩) = 0

section Router

variable (Y : FVec Ideal S512x1024 .f32) (N : Vec Ideal S1x1024 .f32) (P : Vec Ideal S1024x256 .bf16) (Q : Vec Ideal S1024x128 .bf16) (R : Fin 1024 → Fin 16 → EReal) (r : Fin 512)

/-- The normalised row of a block. -/
def nrm (d : Fin 1024) : EReal := OutRows.norm (fun d => Y (ix2 r d)) (fun d => N (ix2 (0 : Fin 1) d)) d

theorem logit_lo (hP : IsPair P R) (hh : ∀ d, OutRows.IsReal (nrm Y N r d)) (l : Fin 16) :
    k0_pay16 (F := Ideal) Y N P Q (ix2 r ⟨l.val, by omega⟩) = OutRows.logits (nrm Y N r) R l := by
  pointwise [k0_pay16, k0_pay15]
  rw [lane_word ⟨l.val, by omega⟩, decide_eq_true (show (⟨l.val, by omega⟩ : Fin 128).val < 16 from l.isLt)]
  simp only [pay14_apply]
  change Scalar.select (BitVec.ofBool true) ((∑ x, nrm Y N r x * _ + ∑ x, nrm Y N r x * _) + ∑ x, (nrm Y N r x - nrm Y N r x) * _) _ = _
  have e1 : ∀ x, P (ix2 x ⟨l.val, by omega⟩) = R x l := fun x => hP.hi x l
  have e2 : ∀ x, P (ix2 x ⟨128 + l.val, by omega⟩) = 0 := fun x => hP.lo x ⟨l.val, by omega⟩
  simp only [fun x => (hh x).sub_self, e1, e2, zero_mul, mul_zero, Finset.sum_const_zero, add_zero]
  rfl

theorem logit_hi (e : Fin 128) (he : ¬e.val < 16) : k0_pay16 (F := Ideal) Y N P Q (ix2 r e) = ⊥ := by
  pointwise [k0_pay16, k0_pay15]
  rw [lane_word e, decide_eq_false he]
  exact mask

theorem aff_apply (hP : IsPair P R) (hh : ∀ d, OutRows.IsReal (nrm Y N r d)) (hR : ∀ i j, OutRows.IsReal (R i j)) (e : Fin 128) :
    k0_pay1 (F := Ideal) (k0_pay16 Y N P Q) (k0_pay17 Y N P Q) (ix2 r e) = OutRows.lanes (OutRows.logits (nrm Y N r) R) e := by
  rw [← OutRows.soft_lanes (fun e => k0_pay16 (F := Ideal) Y N P Q (ix2 r e)) (OutRows.logits (nrm Y N r) R) (logit_lo Y N P Q R r hP hh) (logit_hi Y N P Q r) (OutRows.logits_real hh hR) e]
  pointwise [k0_pay1, k0_pay17]
  rw [OutRows.lit_bot]
  rfl

theorem aff_lo (hP : IsPair P R) (hh : ∀ d, OutRows.IsReal (nrm Y N r d)) (hR : ∀ i j, OutRows.IsReal (R i j)) (e : Fin 128) :
    k0_pay3 (F := Ideal) (k0_pay16 Y N P Q) (k0_pay17 Y N P Q) (ix2 r e) = 0 := by
  have h := aff_apply Y N P Q R r hP hh hR e
  have hl := OutRows.lanes_real (OutRows.logits_real hh hR) e
  rw [← h] at hl
  pointwise [k0_pay3, k0_pay2]
  exact hl.sub_self

end Router

/-! ## The weight scratch -/

/-- The weights as the scratch holds them (the cast is the identity over the reals). -/
def wcast (X : Vec Ideal S1024x1024 .f32) : Vec Ideal S1024x1024 .bf16 := fun j => X j

theorem emb_rows (o : Nat) (s) (ho : o + 256 ≤ 1024) (x : S256x1024.Idx) :
    (Rect.unit (s := S1024x1024) ![o, 0] ![256, 1024] s).emb x = ix2 ⟨o + (x 0).val, by have h : (x 0).val < 256 := (x 0).isLt; omega⟩ (x 1) :=
  funext fun a => Fin.ext ((ValueKit.rect_emb_unit_val _ _ s x a).trans (by
    match a with
    | 0 => rfl
    | 1 => exact Nat.zero_add _))

theorem emb_rows0 (s) (x : S256x1024.Idx) :
    (Rect.unit (s := S1024x1024) ![0, 0] ![256, 1024] s).emb x = ix2 ⟨(x 0).val, by have h : (x 0).val < 256 := (x 0).isLt; omega⟩ (x 1) :=
  funext fun a => Fin.ext ((ValueKit.rect_emb_unit_val _ _ s x a).trans (by
    match a with
    | 0 => exact Nat.zero_add _
    | 1 => exact Nat.zero_add _))

theorem cast_canon (X : Vec Ideal S1024x1024 .f32) (i0 i1 i2 i3 j0 j1 j2 j3) :
    View.canon [⟨Rect.unit (s := S1024x1024) ![768, 0] ![256, 1024] i3, k0_pay7 (F := Ideal) (View.ld X (Rect.unit (s := S1024x1024) ![768, 0] ![256, 1024] j3))⟩,
        ⟨Rect.unit (s := S1024x1024) ![512, 0] ![256, 1024] i2, k0_pay6 (F := Ideal) (View.ld X (Rect.unit (s := S1024x1024) ![512, 0] ![256, 1024] j2))⟩,
        ⟨Rect.unit (s := S1024x1024) ![256, 0] ![256, 1024] i1, k0_pay5 (F := Ideal) (View.ld X (Rect.unit (s := S1024x1024) ![256, 0] ![256, 1024] j1))⟩,
        ⟨Rect.unit (s := S1024x1024) ![0, 0] ![256, 1024] i0, k0_pay4 (F := Ideal) (View.ld X (Rect.unit (s := S1024x1024) ![0, 0] ![256, 1024] j0))⟩] = wcast X := by
  funext y
  refine View.canon_eq_of_allAt _ y _ (View.cover_of_tiledBy _ ![256, 1024] (by sl_kernel_rfl) y) ?_
  repeat' first | exact View.allAt_nil _ _ | refine View.allAt_cons _ _ _ (fun x hx => by rw [← hx]; open_payloads; pointwise [wcast]; first | exact congrArg X (emb_rows _ i3 (by decide) x).symm | exact congrArg X (emb_rows _ i2 (by decide) x).symm | exact congrArg X (emb_rows _ i1 (by decide) x).symm | exact congrArg X (emb_rows0 i0 x).symm) ?_

theorem ld_all (X : Vec Ideal S1024x1024 .bf16) (i) : View.ld X (Rect.unit (s := S1024x1024) ![0, 0] ![1024, 1024] i) = X :=
  funext fun j => congrArg X (funext fun a => Fin.ext ((Rect.idx_unit_val _ _ i j a).trans (by
    match a with
    | 0 => exact Nat.zero_add _
    | 1 => exact Nat.zero_add _)))

theorem cast_read {κ : Kind} {sp : Space} (v : View sig κ sp S1024x1024 .bf16) (X : Vec Ideal S1024x1024 .f32) (i0 i1 i2 i3 j0 j1 j2 j3 i) :
    v.readCov [⟨Rect.unit (s := S1024x1024) ![768, 0] ![256, 1024] i3, k0_pay7 (F := Ideal) (View.ld X (Rect.unit (s := S1024x1024) ![768, 0] ![256, 1024] j3))⟩,
        ⟨Rect.unit (s := S1024x1024) ![512, 0] ![256, 1024] i2, k0_pay6 (F := Ideal) (View.ld X (Rect.unit (s := S1024x1024) ![512, 0] ![256, 1024] j2))⟩,
        ⟨Rect.unit (s := S1024x1024) ![256, 0] ![256, 1024] i1, k0_pay5 (F := Ideal) (View.ld X (Rect.unit (s := S1024x1024) ![256, 0] ![256, 1024] j1))⟩,
        ⟨Rect.unit (s := S1024x1024) ![0, 0] ![256, 1024] i0, k0_pay4 (F := Ideal) (View.ld X (Rect.unit (s := S1024x1024) ![0, 0] ![256, 1024] j0))⟩]
      (Rect.unit (s := S1024x1024) ![0, 0] ![1024, 1024] i).toLoadRect = wcast X := by
  rw [View.readCov_eq_canon', cast_canon]
  exact ld_all _ i

/-! ## What a grid point writes -/

/-- The affinities' block of a residual block. -/
def b11 (Y : FVec Ideal S512x1024 .f32) (N : Vec Ideal S1x1024 .f32) (P : Vec Ideal S1024x256 .bf16) : FVec Ideal S512x128 .f32 :=
  k0_pay1 (k0_pay16 Y N P (View.ld P (Rect.unit (s := S1024x256) ![0, 0] ![1024, 128] inb_S1024x256_S1024x128_0_0))) (k0_pay17 Y N P (View.ld P (Rect.unit (s := S1024x256) ![0, 0] ![1024, 128] inb_S1024x256_S1024x128_0_0)))

/-- The normalised block beside the affinities' two halves. -/
def b10 (Y : FVec Ideal S512x1024 .f32) (N : Vec Ideal S1x1024 .f32) (P : Vec Ideal S1024x256 .bf16) : FVec Ideal S512x1280 .bf16 :=
  View.canon (Val := Elt Ideal) (e := .bf16) [⟨Rect.unit (s := S512x1280) ![0, 1152] ![512, 128] inb_S512x1280_S512x128_0_1152,
        k0_pay3 (F := Ideal) (k0_pay16 Y N P (View.ld P (Rect.unit (s := S1024x256) ![0, 0] ![1024, 128] inb_S1024x256_S1024x128_0_0))) (k0_pay17 Y N P (View.ld P (Rect.unit (s := S1024x256) ![0, 0] ![1024, 128] inb_S1024x256_S1024x128_0_0)))⟩,
      ⟨Rect.unit (s := S512x1280) ![0, 1024] ![512, 128] inb_S512x1280_S512x128_0_1024,
        k0_pay2 (F := Ideal) (k0_pay16 Y N P (View.ld P (Rect.unit (s := S1024x256) ![0, 0] ![1024, 128] inb_S1024x256_S1024x128_0_0))) (k0_pay17 Y N P (View.ld P (Rect.unit (s := S1024x256) ![0, 0] ![1024, 128] inb_S1024x256_S1024x128_0_0)))⟩,
      ⟨Rect.unit (s := S512x1280) ![0, 0] ![512, 1024] inb_S512x1280_S512x1024_0_0, k0_pay15 (F := Ideal) Y N⟩]

/-- The row of a block's second result: the normalised lanes, the affinities, zeros. -/
def row10 (h : Fin 1024 → EReal) (e : Fin 128 → EReal) (n : Fin 1280) : EReal :=
  if h1 : n.val < 1024 then h ⟨n.val, h1⟩ else if h2 : n.val < 1152 then e ⟨n.val - 1024, by omega⟩ else 0

section Row10

variable (Y : FVec Ideal S512x1024 .f32) (N : Vec Ideal S1x1024 .f32) (P : Vec Ideal S1024x256 .bf16) (R : Fin 1024 → Fin 16 → EReal)

theorem b10_eq (hP : IsPair P R) (hh : ∀ r d, OutRows.IsReal (nrm Y N r d)) (hR : ∀ i j, OutRows.IsReal (R i j)) (r : Fin 512) (n : Fin 1280) :
    b10 Y N P (ix2 r n) = row10 (nrm Y N r) (OutRows.lanes (OutRows.logits (nrm Y N r) R)) n := by
  have hn := n.isLt
  have hr := r.isLt
  refine View.canon_eq_of_allAt _ _ _ ?_ ?_
  · have key : ∀ (o w : Nat) (s), o ≤ n.val → n.val < o + w → (ix2 r n : S512x1280.Idx) ∈ (Rect.unit (s := S512x1280) ![0, o] ![512, w] s).set := fun o w s h1 h2 =>
      Rect.mem_set_unit.mpr fun a => by
        match a with
        | 0 => exact ⟨Nat.zero_le _, by show r.val < 0 + 512; omega⟩
        | 1 => exact ⟨h1, h2⟩
    by_cases h1 : n.val < 1024
    · exact ⟨_, List.mem_cons_of_mem _ (List.mem_cons_of_mem _ List.mem_cons_self), key 0 1024 inb_S512x1280_S512x1024_0_0 (Nat.zero_le _) (by omega)⟩
    by_cases h2 : n.val < 1152
    · exact ⟨_, List.mem_cons_of_mem _ List.mem_cons_self, key 1024 128 inb_S512x1280_S512x128_0_1024 (by omega) (by omega)⟩
    · exact ⟨_, List.mem_cons_self, key 1152 128 inb_S512x1280_S512x128_0_1152 (by omega) (by omega)⟩
  · refine View.allAt_cons_unit _ _ _ _ _ (fun x hx => ?_) (View.allAt_cons_unit _ _ _ _ _ (fun x hx => ?_) (View.allAt_cons_unit _ _ _ _ _ (fun x hx => ?_) (View.allAt_nil _ _)))
    · have hx0 : (x 0).val < 512 := (x 0).isLt
      have hx1 : (x 1).val < 128 := (x 1).isLt
      have e0 : r.val = 0 + (x 0).val := hx 0
      have e1 : n.val = 1152 + (x 1).val := hx 1
      have ex : x = ix2 (⟨(x 0).val, hx0⟩ : Fin 512) (⟨(x 1).val, hx1⟩ : Fin 128) := funext fun a => match a with | 0 => rfl | 1 => rfl
      refine (congrArg _ ex).trans ((aff_lo Y N P _ R _ hP (hh _) hR _).trans ?_)
      show 0 = row10 _ _ n
      unfold row10
      rw [dif_neg (show ¬n.val < 1024 by omega), dif_neg (show ¬n.val < 1152 by omega)]
    · have hx0 : (x 0).val < 512 := (x 0).isLt
      have hx1 : (x 1).val < 128 := (x 1).isLt
      have e0 : r.val = 0 + (x 0).val := hx 0
      have e1 : n.val = 1024 + (x 1).val := hx 1
      have ex : x = ix2 r (⟨n.val - 1024, by omega⟩ : Fin 128) := funext fun a => Fin.ext (match a with | 0 => by show (x 0).val = r.val; omega | 1 => by show (x 1).val = n.val - 1024; omega)
      have h1 : k0_pay2 (F := Ideal) (k0_pay16 Y N P (View.ld P (Rect.unit (s := S1024x256) ![0, 0] ![1024, 128] inb_S1024x256_S1024x128_0_0))) (k0_pay17 Y N P (View.ld P (Rect.unit (s := S1024x256) ![0, 0] ![1024, 128] inb_S1024x256_S1024x128_0_0)))
          (ix2 r (⟨n.val - 1024, by omega⟩ : Fin 128)) = OutRows.lanes (OutRows.logits (nrm Y N r) R) (⟨n.val - 1024, by omega⟩ : Fin 128) :=
        aff_apply Y N P _ R r hP (hh r) hR _
      refine (congrArg _ ex).trans (h1.trans ?_)
      show _ = row10 _ _ n
      unfold row10
      rw [dif_neg (show ¬n.val < 1024 by omega), dif_pos (show n.val < 1152 by omega)]
    · have hx0 : (x 0).val < 512 := (x 0).isLt
      have hx1 : (x 1).val < 1024 := (x 1).isLt
      have e0 : r.val = 0 + (x 0).val := hx 0
      have e1 : n.val = 0 + (x 1).val := hx 1
      have ex : x = ix2 r (⟨n.val, by omega⟩ : Fin 1024) := funext fun a => Fin.ext (match a with | 0 => by show (x 0).val = r.val; omega | 1 => by show (x 1).val = n.val; omega)
      have h1 : k0_pay15 (F := Ideal) Y N (ix2 r (⟨n.val, by omega⟩ : Fin 1024)) = nrm Y N r ⟨n.val, by omega⟩ := pay14_apply Y N r _
      refine (congrArg _ ex).trans (h1.trans ?_)
      show _ = row10 _ _ n
      unfold row10
      rw [dif_pos (show n.val < 1024 by omega)]

end Row10

theorem s0_B (c : Dev nD) (t : Fin cfg0.N) (h : ¬t.val % 64 = 0) :
    (outsAt0 m c t.val t.isLt).2.2.2 = (outsAt0 m c (t.val - 1) (Nat.lt_of_le_of_lt (Nat.sub_le _ _) t.isLt)).2.2.2 := by
  rw [outsAt0_B m c t h]; rfl

theorem s0_A (c : Dev nD) (t : Fin cfg0.N) (h : t.val % 64 = 0) : (outsAt0 m c t.val t.isLt).2.2.2 = wcast (iblk m c 6 t) := by
  rw [outsAt0_A m c t h]
  funext j
  frame_out
  exact congrFun (cast_canon _ _ _ _ _ _ _ _ _) j

/-- The weight's block is the whole weight at every point. -/
theorem iblk6_eq (c : Dev nD) (t : Fin cfg0.N) : (iblk m c 6 t : Vec Ideal S1024x1024 .f32) = m ((c : Thread nD τ).loc main_arg6) := by
  obtain ⟨a0, a1⟩ := (by decide +kernel : ∀ t : Fin grid0.N, win0_6.index t (0 : Fin 2) = 0 ∧ win0_6.index t (1 : Fin 2) = 0) t
  funext j
  refine congrArg (m ((c : Thread nD τ).loc main_arg6)) (funext fun a => Fin.ext ?_)
  have hb0 : ∀ y : S1024x1024.Idx, (((cfg0.win 6).blk t).view.emb y 0).val = win0_6.index t (0 : Fin 2) * 1024 + 1 * (y 0).val := fun _ => rfl
  have hb1 : ∀ y : S1024x1024.Idx, (((cfg0.win 6).blk t).view.emb y 1).val = win0_6.index t (1 : Fin 2) * 1024 + 1 * (y 1).val := fun _ => rfl
  match a with
  | 0 => exact (hb0 _).trans (by rw [a0]; omega)
  | 1 => exact (hb1 _).trans (by rw [a1]; omega)

/-- What the scratch holds after every point: the whole weight, written at the first point and kept. -/
theorem s0_hold (c : Dev nD) (t : Fin cfg0.N) : (outsAt0 m c t.val t.isLt).2.2.2 = wcast (m ((c : Thread nD τ).loc main_arg6)) := by
  have hN := lt_of_lt_of_eq t.isLt (show cfg0.N = 64 from N_0)
  rw [Pipeline.eq_of_write_hold (fun n h => (outsAt0 m c n h).2.2.2) 64 (fun t => wcast (iblk m c 6 t)) (s0_A m c) (s0_B m c) t, iblk6_eq]

/-- The residual block of a grid point. -/
def x1B (c : Dev nD) (t : Fin cfg0.N) : FVec Ideal S512x1024 .f32 :=
  b9 (iblk m c 0 t) (iblk m c 1 t) (iblk m c 2 t) (iblk m c 3 t) (iblk m c 4 t) (iblk m c 5 t) (wcast (m ((c : Thread nD τ).loc main_arg6)))

theorem outs_B (c : Dev nD) (t : Fin cfg0.N) (h : ¬t.val % 64 = 0) :
    (outsAt0 m c t.val t.isLt).1 = x1B m c t ∧ (outsAt0 m c t.val t.isLt).2.1 = b10 (x1B m c t) (iblk m c 7 t) (iblk m c 8 t)
      ∧ (outsAt0 m c t.val t.isLt).2.2.1 = b11 (x1B m c t) (iblk m c 7 t) (iblk m c 8 t) := by
  have hs := s0_hold m c t
  rw [s0_B m c t h] at hs
  unfold x1B
  rw [← hs, outsAt0_B m c t h]
  refine ⟨?_, ?_, ?_⟩ <;> funext j <;> frame_open <;> simp (disch := decide) only [↓ View.readCov_skip] <;> frame_out <;> simp only [read_unread_whole]
  · rfl
  · unfold b9; rfl
  · unfold b11 b9; rfl

theorem outs_A (c : Dev nD) (t : Fin cfg0.N) (h : t.val % 64 = 0) :
    (outsAt0 m c t.val t.isLt).1 = x1B m c t ∧ (outsAt0 m c t.val t.isLt).2.1 = b10 (x1B m c t) (iblk m c 7 t) (iblk m c 8 t)
      ∧ (outsAt0 m c t.val t.isLt).2.2.1 = b11 (x1B m c t) (iblk m c 7 t) (iblk m c 8 t) := by
  unfold x1B
  rw [← iblk6_eq m c t, outsAt0_A m c t h]
  refine ⟨?_, ?_, ?_⟩ <;> funext j <;> frame_open <;> simp (disch := decide) only [↓ View.readCov_skip] <;> frame_out <;> simp only [cast_read]
  · rfl
  · unfold b9; rfl
  · unfold b11 b9; rfl

theorem zero_word : FloatOps.sitofp (F := Ideal) FTy.f32 0#32 = (0 : EReal) := by
  show (((0#32).toInt : ℝ) : EReal) = 0
  simp

/-- The prepared pair of halves is the router's weight beside zeros, when that weight is real. -/
theorem V_v5 (c : Dev nD) (hR : ∀ i, OutRows.IsReal (m ((c : Thread nD τ).loc main_arg8) i)) :
    IsPair (V m c main_v5) (fun d e => m ((c : Thread nD τ).loc main_arg8) (ix2 d e)) where
  hi x l := by
    have e : (V m c main_v5 : Vec Ideal S1024x256 .bf16) (ix2 x ⟨l.val, by omega⟩) = m ((c : Thread nD τ).loc main_arg8) (ix2 x l) := by
      unfold V
      after_reads_at
      exact dif_pos (show l.val < 128 by omega)
    exact e
  lo x l := by
    have h0 : ∀ z : EReal, OutRows.IsReal z → z - z = 0 := fun z => OutRows.IsReal.sub_self
    have e : (V m c main_v5 : Vec Ideal S1024x256 .bf16) (ix2 x ⟨128 + l.val, by omega⟩) = (0 : EReal) := by
      unfold V
      after_reads_at
      refine h0 _ ?_
      split
      · exact hR _
      · rw [zero_word]; exact ⟨0, EReal.coe_zero.symm⟩
    exact e

theorem V_v6 (c : Dev nD) (j : S1x128.Idx) : (V m c main_v6 : Vec Ideal S1x128 .f32) j = m ((c : Thread nD τ).loc main_arg5) (ix1 (j 1)) := by
  unfold V
  after_reads_at

theorem V_v7 (c : Dev nD) (j : S1x1024.Idx) : (V m c main_v7 : Vec Ideal S1x1024 .f32) j = m ((c : Thread nD τ).loc main_arg7) (ix1 (j 1)) := by
  unfold V
  after_reads_at

/-! ## The blocks the windows read -/

theorem iblk0_apply (c : Dev nD) (t : Fin cfg0.N) (r : Fin 32768) (a : Fin 512) (d : Fin 1024) (h : t.val * 512 + a.val = r.val) :
    (iblk m c 0 t : Vec Ideal S512x1024 .f32) (ix2 a d) = m ((c : Thread nD τ).loc main_arg0) (ix2 r d) := by
  obtain ⟨a0, a1⟩ := (by decide +kernel : ∀ t : Fin grid0.N, win0_0.index t (0 : Fin 2) = t.val ∧ win0_0.index t (1 : Fin 2) = 0) t
  refine congrArg (m ((c : Thread nD τ).loc main_arg0)) (funext fun b => Fin.ext ?_)
  have hb0 : ∀ y : S512x1024.Idx, (((cfg0.win 0).blk t).view.emb y 0).val = win0_0.index t (0 : Fin 2) * 512 + 1 * (y 0).val := fun _ => rfl
  have hb1 : ∀ y : S512x1024.Idx, (((cfg0.win 0).blk t).view.emb y 1).val = win0_0.index t (1 : Fin 2) * 1024 + 1 * (y 1).val := fun _ => rfl
  match b with
  | 0 => exact (hb0 (ix2 a d)).trans (by rw [a0]; show t.val * 512 + 1 * a.val = r.val; omega)
  | 1 => exact (hb1 (ix2 a d)).trans (by rw [a1, Nat.zero_mul, Nat.zero_add, Nat.one_mul]; rfl)

theorem iblk1_apply (c : Dev nD) (t : Fin cfg0.N) (r : Fin 32768) (a : Fin 512) (d : Fin 512) (h : t.val * 512 + a.val = r.val) :
    (iblk m c 1 t : Vec Ideal S512x512 .bf16) (ix2 a d) = m ((c : Thread nD τ).loc main_arg1) (ix2 r d) := by
  obtain ⟨a0, a1⟩ := (by decide +kernel : ∀ t : Fin grid0.N, win0_1.index t (0 : Fin 2) = t.val ∧ win0_1.index t (1 : Fin 2) = 0) t
  refine congrArg (m ((c : Thread nD τ).loc main_arg1)) (funext fun b => Fin.ext ?_)
  have hb0 : ∀ y : S512x512.Idx, (((cfg0.win 1).blk t).view.emb y 0).val = win0_1.index t (0 : Fin 2) * 512 + 1 * (y 0).val := fun _ => rfl
  have hb1 : ∀ y : S512x512.Idx, (((cfg0.win 1).blk t).view.emb y 1).val = win0_1.index t (1 : Fin 2) * 512 + 1 * (y 1).val := fun _ => rfl
  match b with
  | 0 => exact (hb0 (ix2 a d)).trans (by rw [a0]; show t.val * 512 + 1 * a.val = r.val; omega)
  | 1 => exact (hb1 (ix2 a d)).trans (by rw [a1, Nat.zero_mul, Nat.zero_add, Nat.one_mul]; rfl)

theorem iblk2_apply (c : Dev nD) (t : Fin cfg0.N) (r : Fin 32768) (a : Fin 512) (d : Fin 512) (h : t.val * 512 + a.val = r.val) :
    (iblk m c 2 t : Vec Ideal S512x512 .bf16) (ix2 a d) = m ((c : Thread nD τ).loc main_arg2) (ix2 r d) := by
  obtain ⟨a0, a1⟩ := (by decide +kernel : ∀ t : Fin grid0.N, win0_2.index t (0 : Fin 2) = t.val ∧ win0_2.index t (1 : Fin 2) = 0) t
  refine congrArg (m ((c : Thread nD τ).loc main_arg2)) (funext fun b => Fin.ext ?_)
  have hb0 : ∀ y : S512x512.Idx, (((cfg0.win 2).blk t).view.emb y 0).val = win0_2.index t (0 : Fin 2) * 512 + 1 * (y 0).val := fun _ => rfl
  have hb1 : ∀ y : S512x512.Idx, (((cfg0.win 2).blk t).view.emb y 1).val = win0_2.index t (1 : Fin 2) * 512 + 1 * (y 1).val := fun _ => rfl
  match b with
  | 0 => exact (hb0 (ix2 a d)).trans (by rw [a0]; show t.val * 512 + 1 * a.val = r.val; omega)
  | 1 => exact (hb1 (ix2 a d)).trans (by rw [a1, Nat.zero_mul, Nat.zero_add, Nat.one_mul]; rfl)

theorem iblk3_apply (c : Dev nD) (t : Fin cfg0.N) (r : Fin 32768) (a : Fin 512) (d : Fin 512) (h : t.val * 512 + a.val = r.val) :
    (iblk m c 3 t : Vec Ideal S512x512 .bf16) (ix2 a d) = m ((c : Thread nD τ).loc main_arg3) (ix2 r d) := by
  obtain ⟨a0, a1⟩ := (by decide +kernel : ∀ t : Fin grid0.N, win0_3.index t (0 : Fin 2) = t.val ∧ win0_3.index t (1 : Fin 2) = 0) t
  refine congrArg (m ((c : Thread nD τ).loc main_arg3)) (funext fun b => Fin.ext ?_)
  have hb0 : ∀ y : S512x512.Idx, (((cfg0.win 3).blk t).view.emb y 0).val = win0_3.index t (0 : Fin 2) * 512 + 1 * (y 0).val := fun _ => rfl
  have hb1 : ∀ y : S512x512.Idx, (((cfg0.win 3).blk t).view.emb y 1).val = win0_3.index t (1 : Fin 2) * 512 + 1 * (y 1).val := fun _ => rfl
  match b with
  | 0 => exact (hb0 (ix2 a d)).trans (by rw [a0]; show t.val * 512 + 1 * a.val = r.val; omega)
  | 1 => exact (hb1 (ix2 a d)).trans (by rw [a1, Nat.zero_mul, Nat.zero_add, Nat.one_mul]; rfl)

theorem iblk4_apply (c : Dev nD) (t : Fin cfg0.N) (r : Fin 32768) (a : Fin 512) (d : Fin 512) (h : t.val * 512 + a.val = r.val) :
    (iblk m c 4 t : Vec Ideal S512x512 .f32) (ix2 a d) = m ((c : Thread nD τ).loc main_arg4) (ix2 r ⟨3584 + d.val, by omega⟩) := by
  obtain ⟨a0, a1⟩ := (by decide +kernel : ∀ t : Fin grid0.N, win0_4.index t (0 : Fin 2) = t.val ∧ win0_4.index t (1 : Fin 2) = 7) t
  refine congrArg (m ((c : Thread nD τ).loc main_arg4)) (funext fun b => Fin.ext ?_)
  have hb0 : ∀ y : S512x512.Idx, (((cfg0.win 4).blk t).view.emb y 0).val = win0_4.index t (0 : Fin 2) * 512 + 1 * (y 0).val := fun _ => rfl
  have hb1 : ∀ y : S512x512.Idx, (((cfg0.win 4).blk t).view.emb y 1).val = win0_4.index t (1 : Fin 2) * 512 + 1 * (y 1).val := fun _ => rfl
  match b with
  | 0 => exact (hb0 (ix2 a d)).trans (by rw [a0]; show t.val * 512 + 1 * a.val = r.val; omega)
  | 1 => exact (hb1 (ix2 a d)).trans (by rw [a1, Nat.one_mul]; rfl)

theorem iblk5_eq (c : Dev nD) (t : Fin cfg0.N) : (iblk m c 5 t : Vec Ideal S1x128 .f32) = V m c main_v6 := by
  obtain ⟨a0, a1⟩ := (by decide +kernel : ∀ t : Fin grid0.N, win0_5.index t (0 : Fin 2) = 0 ∧ win0_5.index t (1 : Fin 2) = 0) t
  funext j
  refine congrArg (V m c main_v6) (funext fun a => Fin.ext ?_)
  have hb0 : ∀ y : S1x128.Idx, (((cfg0.win 5).blk t).view.emb y 0).val = win0_5.index t (0 : Fin 2) * 1 + 1 * (y 0).val := fun _ => rfl
  have hb1 : ∀ y : S1x128.Idx, (((cfg0.win 5).blk t).view.emb y 1).val = win0_5.index t (1 : Fin 2) * 128 + 1 * (y 1).val := fun _ => rfl
  match a with
  | 0 => exact (hb0 _).trans (by rw [a0]; omega)
  | 1 => exact (hb1 _).trans (by rw [a1]; omega)

theorem iblk7_eq (c : Dev nD) (t : Fin cfg0.N) : (iblk m c 7 t : Vec Ideal S1x1024 .f32) = V m c main_v7 := by
  obtain ⟨a0, a1⟩ := (by decide +kernel : ∀ t : Fin grid0.N, win0_7.index t (0 : Fin 2) = 0 ∧ win0_7.index t (1 : Fin 2) = 0) t
  funext j
  refine congrArg (V m c main_v7) (funext fun a => Fin.ext ?_)
  have hb0 : ∀ y : S1x1024.Idx, (((cfg0.win 7).blk t).view.emb y 0).val = win0_7.index t (0 : Fin 2) * 1 + 1 * (y 0).val := fun _ => rfl
  have hb1 : ∀ y : S1x1024.Idx, (((cfg0.win 7).blk t).view.emb y 1).val = win0_7.index t (1 : Fin 2) * 1024 + 1 * (y 1).val := fun _ => rfl
  match a with
  | 0 => exact (hb0 _).trans (by rw [a0]; omega)
  | 1 => exact (hb1 _).trans (by rw [a1]; omega)

theorem iblk8_eq (c : Dev nD) (t : Fin cfg0.N) : (iblk m c 8 t : Vec Ideal S1024x256 .bf16) = V m c main_v5 := by
  obtain ⟨a0, a1⟩ := (by decide +kernel : ∀ t : Fin grid0.N, win0_8.index t (0 : Fin 2) = 0 ∧ win0_8.index t (1 : Fin 2) = 0) t
  funext j
  refine congrArg (V m c main_v5) (funext fun a => Fin.ext ?_)
  have hb0 : ∀ y : S1024x256.Idx, (((cfg0.win 8).blk t).view.emb y 0).val = win0_8.index t (0 : Fin 2) * 1024 + 1 * (y 0).val := fun _ => rfl
  have hb1 : ∀ y : S1024x256.Idx, (((cfg0.win 8).blk t).view.emb y 1).val = win0_8.index t (1 : Fin 2) * 256 + 1 * (y 1).val := fun _ => rfl
  match a with
  | 0 => exact (hb0 _).trans (by rw [a0]; omega)
  | 1 => exact (hb1 _).trans (by rw [a1]; omega)

/-! ## The kernel's results -/

section Spec

variable (X : Vec Ideal S32768x1024 .f32) (A P Q : Vec Ideal S32768x512 .bf16) (G : Vec Ideal S32768x4096 .f32) (w : Vec Ideal S128 .f32) (W : Vec Ideal S1024x1024 .f32)
  (N : Vec Ideal S1024 .f32) (R : Vec Ideal S1024x16 .f32)

/-- The mixed lanes of row `r`. -/
def mix (r : Fin 32768) : Fin 1024 → EReal :=
  OutRows.mixed (fun i => A (ix2 r i)) (fun i => P (ix2 r i) + Q (ix2 r i)) (fun i => G (ix2 r ⟨3584 + i.val, by omega⟩)) (fun l => w (ix1 l))

/-- Row `r` of the residual. -/
def res (r : Fin 32768) : Fin 1024 → EReal := OutRows.resid (fun i => X (ix2 r i)) (mix A P Q G w r) (fun k i => W (ix2 k i))

/-- Row `r` normalised. -/
def hid (r : Fin 32768) : Fin 1024 → EReal := OutRows.norm (res X A P Q G w W r) (fun d => N (ix1 d))

/-- Row `r`'s affinities, in 128 lanes. -/
def aff (r : Fin 32768) : Fin 128 → EReal := OutRows.lanes (OutRows.logits (hid X A P Q G w W N r) (fun d e => R (ix2 d e)))

/-- The residual. -/
def spec9 : Vec Ideal S32768x1024 .f32 := fun i => res X A P Q G w W (i 0) (i 1)

/-- The normalised rows, the affinities and zeros side by side. -/
def spec10 : Vec Ideal S32768x1280 .bf16 := fun i =>
  row10 (hid X A P Q G w W N (i 0)) (aff X A P Q G w W N R (i 0)) (i 1)

/-- The affinities. -/
def spec11 : Vec Ideal S32768x128 .f32 := fun i => aff X A P Q G w W N R (i 0) (i 1)

/-- Every number the three results depend on is real. -/
structure AllReal : Prop where
  x : ∀ i, OutRows.IsReal (X i)
  a : ∀ i, OutRows.IsReal (A i)
  p : ∀ i, OutRows.IsReal (P i)
  q : ∀ i, OutRows.IsReal (Q i)
  g : ∀ (r : Fin 32768) (i : Fin 512), OutRows.IsReal (G (ix2 r ⟨3584 + i.val, by omega⟩))
  w : ∀ i, OutRows.IsReal (w i)
  W : ∀ i, OutRows.IsReal (W i)
  n : ∀ i, OutRows.IsReal (N i)
  r : ∀ i, OutRows.IsReal (R i)

theorem hid_real (h : AllReal X A P Q G w W N R) (r d) : OutRows.IsReal (hid X A P Q G w W N r d) :=
  OutRows.norm_real (OutRows.resid_real (fun _ => h.x _) (OutRows.mixed_real (fun _ => h.a _) (fun _ => (h.p _).add (h.q _)) (fun _ => h.g _ _) (fun _ => h.w _)) (fun _ _ => h.W _)) (fun _ => h.n _) d

end Spec

/-- A block's residual row is the residual's row. -/
theorem x1B_apply (c : Dev nD) (t : Fin cfg0.N) (r : Fin 32768) (a : Fin 512) (h : t.val * 512 + a.val = r.val) (d : Fin 1024) :
    x1B m c t (ix2 a d) = res (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) r d := by
  unfold x1B
  rw [b9_apply]
  unfold res mix mixB wcast
  have e5 : ∀ l : Fin 128, (iblk m c 5 t : Vec Ideal S1x128 .f32) (ix2 (0 : Fin 1) l) = m ((c : Thread nD τ).loc main_arg5) (ix1 l) := fun l =>
    (congrFun (iblk5_eq m c t) _).trans (V_v6 m c (ix2 0 l))
  have e0 : ∀ i : Fin 1024, (iblk m c 0 t : Vec Ideal S512x1024 .f32) (ix2 a i) = _ := fun i => iblk0_apply m c t r a i h
  have e1 : ∀ i : Fin 512, (iblk m c 1 t : Vec Ideal S512x512 .bf16) (ix2 a i) = _ := fun i => iblk1_apply m c t r a i h
  have e2 : ∀ i : Fin 512, (iblk m c 2 t : Vec Ideal S512x512 .bf16) (ix2 a i) = _ := fun i => iblk2_apply m c t r a i h
  have e3 : ∀ i : Fin 512, (iblk m c 3 t : Vec Ideal S512x512 .bf16) (ix2 a i) = _ := fun i => iblk3_apply m c t r a i h
  have e4 : ∀ i : Fin 512, (iblk m c 4 t : Vec Ideal S512x512 .f32) (ix2 a i) = _ := fun i => iblk4_apply m c t r a i h
  simp only [e0, e1, e2, e3, e4, e5]

/-- A block's normalised row is the normalised row. -/
theorem nrm_eq (c : Dev nD) (t : Fin cfg0.N) (r : Fin 32768) (a : Fin 512) (h : t.val * 512 + a.val = r.val) :
    nrm (x1B m c t) (iblk m c 7 t) a = hid (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) r := by
  funext d
  unfold nrm hid
  have e : ∀ d : Fin 1024, x1B m c t (ix2 a d) = _ := fun d => x1B_apply m c t r a h d
  have e7 : ∀ l : Fin 1024, (iblk m c 7 t : Vec Ideal S1x1024 .f32) (ix2 (0 : Fin 1) l) = m ((c : Thread nD τ).loc main_arg7) (ix1 l) := fun l =>
    (congrFun (iblk7_eq m c t) _).trans (V_v7 m c (ix2 0 l))
  simp only [e, e7]

theorem pair8 (c : Dev nD) (t : Fin cfg0.N) (hR : ∀ i, OutRows.IsReal (m ((c : Thread nD τ).loc main_arg8) i)) :
    IsPair (iblk m c 8 t) (fun d e => m ((c : Thread nD τ).loc main_arg8) (ix2 d e)) := by
  rw [iblk8_eq]
  exact V_v5 m c hR

theorem outs_all (c : Dev nD) (t : Fin cfg0.N) :
    (outsAt0 m c t.val t.isLt).1 = x1B m c t ∧ (outsAt0 m c t.val t.isLt).2.1 = b10 (x1B m c t) (iblk m c 7 t) (iblk m c 8 t)
      ∧ (outsAt0 m c t.val t.isLt).2.2.1 = b11 (x1B m c t) (iblk m c 7 t) (iblk m c 8 t) := by
  by_cases h : t.val % 64 = 0
  · exact outs_A m c t h
  · exact outs_B m c t h

theorem final9 (c : Dev nD) : (dats m 0 c).arrAt 9 cfg0.N = spec9 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (dats m 0 c).arrAt_eq_of_cover 9 _ (fun t hf => by
    show (cfg0.win 9).cut (grid0.coords t) ((dats m 0 c).after 9 t) = _
    rw [after0_9, (outs_all m c t).1]
    have hN := lt_of_lt_of_eq t.isLt (show cfg0.N = 64 from N_0)
    obtain ⟨a0, a1⟩ := (by decide +kernel : ∀ t : Fin grid0.N, win0_9.index t (0 : Fin 2) = t.val ∧ win0_9.index t (1 : Fin 2) = 0) t
    funext y
    have hy0 : (y 0).val < 512 := (y 0).isLt
    have hy1 : (y 1).val < 1024 := (y 1).isLt
    have hb0 : (((cfg0.win 9).blk t).view.emb y 0) = (⟨t.val * 512 + (y 0).val, by omega⟩ : Fin 32768) := Fin.ext (by
      show win0_9.index t (0 : Fin 2) * 512 + 1 * (y 0).val = _; rw [a0]; show t.val * 512 + 1 * (y 0).val = t.val * 512 + (y 0).val; omega)
    have hb1 : (((cfg0.win 9).blk t).view.emb y 1) = (⟨(y 1).val, hy1⟩ : Fin 1024) := Fin.ext (by
      show win0_9.index t (1 : Fin 2) * 1024 + 1 * (y 1).val = _; rw [a1]; show 0 * 1024 + 1 * (y 1).val = (y 1).val; omega)
    have hx : ((cfg0.win 9).xinj (grid0.coords t) y : S512x1024.Idx) = ix2 (⟨(y 0).val, hy0⟩ : Fin 512) (⟨(y 1).val, hy1⟩ : Fin 1024) :=
      funext fun a => Fin.ext (by match a with | 0 => rfl | 1 => rfl)
    have hi : ((cfg0.win 9).blk t).view.emb y = ix2 (⟨t.val * 512 + (y 0).val, by omega⟩ : Fin 32768) (⟨(y 1).val, hy1⟩ : Fin 1024) :=
      funext fun a => by match a with | 0 => exact hb0 | 1 => exact hb1
    show x1B m c t ((cfg0.win 9).xinj (grid0.coords t) y) = spec9 _ _ _ _ _ _ _ (((cfg0.win 9).blk t).view.emb y)
    rw [hx, hi]
    exact x1B_apply m c t _ _ rfl _)
    (fun i => (Value.covered_iff9 i).2 (by
      have h0 : (i 0).val < 32768 := (i 0).isLt; have h1 : (i 1).val < 1024 := (i 1).isLt; omega))

theorem final10 (c : Dev nD) (hA : AllReal (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) : (dats m 0 c).arrAt 10 cfg0.N = spec10 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  (dats m 0 c).arrAt_eq_of_cover 10 _ (fun t hf => by
    show (cfg0.win 10).cut (grid0.coords t) ((dats m 0 c).after 10 t) = _
    rw [after0_10, (outs_all m c t).2.1]
    have hN := lt_of_lt_of_eq t.isLt (show cfg0.N = 64 from N_0)
    obtain ⟨a0, a1⟩ := (by decide +kernel : ∀ t : Fin grid0.N, win0_10.index t (0 : Fin 2) = t.val ∧ win0_10.index t (1 : Fin 2) = 0) t
    funext y
    have hy0 : (y 0).val < 512 := (y 0).isLt
    have hy1 : (y 1).val < 1280 := (y 1).isLt
    have hb0 : (((cfg0.win 10).blk t).view.emb y 0) = (⟨t.val * 512 + (y 0).val, by omega⟩ : Fin 32768) := Fin.ext (by
      show win0_10.index t (0 : Fin 2) * 512 + 1 * (y 0).val = _; rw [a0]; show t.val * 512 + 1 * (y 0).val = t.val * 512 + (y 0).val; omega)
    have hb1 : (((cfg0.win 10).blk t).view.emb y 1) = (⟨(y 1).val, hy1⟩ : Fin 1280) := Fin.ext (by
      show win0_10.index t (1 : Fin 2) * 1280 + 1 * (y 1).val = _; rw [a1]; show 0 * 1280 + 1 * (y 1).val = (y 1).val; omega)
    have hx : ((cfg0.win 10).xinj (grid0.coords t) y : S512x1280.Idx) = ix2 (⟨(y 0).val, hy0⟩ : Fin 512) (⟨(y 1).val, hy1⟩ : Fin 1280) :=
      funext fun a => Fin.ext (by match a with | 0 => rfl | 1 => rfl)
    have hi : ((cfg0.win 10).blk t).view.emb y = ix2 (⟨t.val * 512 + (y 0).val, by omega⟩ : Fin 32768) (⟨(y 1).val, hy1⟩ : Fin 1280) :=
      funext fun a => by match a with | 0 => exact hb0 | 1 => exact hb1
    have hn := nrm_eq m c t ⟨t.val * 512 + (y 0).val, by omega⟩ ⟨(y 0).val, hy0⟩ rfl
    have hh : ∀ r d, OutRows.IsReal (nrm (x1B m c t) (iblk m c 7 t) r d) := fun r d => by
      have hr := r.isLt
      rw [nrm_eq m c t ⟨t.val * 512 + r.val, by omega⟩ r rfl]
      exact hid_real _ _ _ _ _ _ _ _ _ hA _ d
    show b10 _ _ _ ((cfg0.win 10).xinj (grid0.coords t) y) = spec10 _ _ _ _ _ _ _ _ _ (((cfg0.win 10).blk t).view.emb y)
    rw [hx, hi, b10_eq _ _ _ _ (pair8 m c t hA.r) hh (fun _ _ => hA.r _), hn]
    rfl)
    (fun i => (Value.covered_iff10 i).2 (by
      have h0 : (i 0).val < 32768 := (i 0).isLt; have h1 : (i 1).val < 1280 := (i 1).isLt; omega))

theorem final11 (c : Dev nD) (hA : AllReal (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) : (dats m 0 c).arrAt 11 cfg0.N = spec11 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  (dats m 0 c).arrAt_eq_of_cover 11 _ (fun t hf => by
    show (cfg0.win 11).cut (grid0.coords t) ((dats m 0 c).after 11 t) = _
    rw [after0_11, (outs_all m c t).2.2]
    have hN := lt_of_lt_of_eq t.isLt (show cfg0.N = 64 from N_0)
    obtain ⟨a0, a1⟩ := (by decide +kernel : ∀ t : Fin grid0.N, win0_11.index t (0 : Fin 2) = t.val ∧ win0_11.index t (1 : Fin 2) = 0) t
    funext y
    have hy0 : (y 0).val < 512 := (y 0).isLt
    have hy1 : (y 1).val < 128 := (y 1).isLt
    have hb0 : (((cfg0.win 11).blk t).view.emb y 0) = (⟨t.val * 512 + (y 0).val, by omega⟩ : Fin 32768) := Fin.ext (by
      show win0_11.index t (0 : Fin 2) * 512 + 1 * (y 0).val = _; rw [a0]; show t.val * 512 + 1 * (y 0).val = t.val * 512 + (y 0).val; omega)
    have hb1 : (((cfg0.win 11).blk t).view.emb y 1) = (⟨(y 1).val, hy1⟩ : Fin 128) := Fin.ext (by
      show win0_11.index t (1 : Fin 2) * 128 + 1 * (y 1).val = _; rw [a1]; show 0 * 128 + 1 * (y 1).val = (y 1).val; omega)
    have hx : ((cfg0.win 11).xinj (grid0.coords t) y : S512x128.Idx) = ix2 (⟨(y 0).val, hy0⟩ : Fin 512) (⟨(y 1).val, hy1⟩ : Fin 128) :=
      funext fun a => Fin.ext (by match a with | 0 => rfl | 1 => rfl)
    have hi : ((cfg0.win 11).blk t).view.emb y = ix2 (⟨t.val * 512 + (y 0).val, by omega⟩ : Fin 32768) (⟨(y 1).val, hy1⟩ : Fin 128) :=
      funext fun a => by match a with | 0 => exact hb0 | 1 => exact hb1
    have hn := nrm_eq m c t ⟨t.val * 512 + (y 0).val, by omega⟩ ⟨(y 0).val, hy0⟩ rfl
    have hh : ∀ r d, OutRows.IsReal (nrm (x1B m c t) (iblk m c 7 t) r d) := fun r d => by
      have hr := r.isLt
      rw [nrm_eq m c t ⟨t.val * 512 + r.val, by omega⟩ r rfl]
      exact hid_real _ _ _ _ _ _ _ _ _ hA _ d
    show b11 _ _ _ ((cfg0.win 11).xinj (grid0.coords t) y) = spec11 _ _ _ _ _ _ _ _ _ (((cfg0.win 11).blk t).view.emb y)
    rw [hx, hi]
    refine (aff_apply _ _ _ _ _ _ (pair8 m c t hA.r) (hh _) (fun _ _ => hA.r _) _).trans ?_
    rw [hn]
    rfl)
    (fun i => (Value.covered_iff11 i).2 (by
      have h0 : (i 0).val < 32768 := (i 0).isLt; have h1 : (i 1).val < 128 := (i 1).isLt; omega))

end Cert.Kernel3Ideal.OutProj
-- ==== Proof.OutProjRef.lean ====
/-
  The values of the output projection's reference over the extended reals.
-/
module

public import proofs.«01_k».proof.Proof.Gen.Reference3Ideal.Run
public import proofs.«01_k».proof.Proof.OutProj
public import Idealize.ShloMosaic.Lib.Pointwise.Tactic
public import Idealize.ShloMosaic.Lib.KernelVsHost

@[expose] public section

set_option maxRecDepth 16384

noncomputable section

namespace Cert.Reference3Ideal.OutProj

open Cert.Reference3Ideal Cert.Reference3Ideal.Gen Cert.Reference3Ideal.Value Idealize.ShloMosaic Idealize.ShloMosaic.TcCoe Idealize.SL.Sem

/-- The normalised and gated heads. -/
def headT (P Q : FVec Ideal S32768x512 .bf16) (G : FVec Ideal S32768x4096 .f32) (w : FVec Ideal S128 .f32) : FVec Ideal S32768x512 .f32 :=
  (shapeCast S32768x512 (mulf (mulf (mulf (shapeCast S32768x4x128 (addf (extf .f32 P bitsLt_bf16_f32) (extf .f32 Q bitsLt_bf16_f32)) shapeCasts_S32768x512_S32768x4x128) (broadcastInDim S32768x4x128 ![0, 1, 2] bcast_S32768x4x1_S32768x4x128_0_1_2 (Host.rsqrt (addf (Host.divf (broadcastInDim S32768x4x1 ![0, 1] bcast_S32768x4_S32768x4x1_0_1 (Host.reduceAdd (mulf (shapeCast S32768x4x128 (addf (extf .f32 P bitsLt_bf16_f32) (extf .f32 Q bitsLt_bf16_f32)) shapeCasts_S32768x512_S32768x4x128) (shapeCast S32768x4x128 (addf (extf .f32 P bitsLt_bf16_f32) (extf .f32 Q bitsLt_bf16_f32)) shapeCasts_S32768x512_S32768x4x128)) (constant S_ .f32 0x00000000#32) reducesTo_S32768x4x128_S32768x4_d2 h_S_)) (broadcastInDim S32768x4x1 ![] bcast_S_S32768x4x1 (constant S_ .f32 0x43000000#32))) (broadcastInDim S32768x4x1 ![] bcast_S_S32768x4x1 (constant S_ .f32 0x358637BD#32)))))) (broadcastInDim S32768x4x128 ![0, 1, 2] bcast_S1x1x128_S32768x4x128_0_1_2 (broadcastInDim S1x1x128 ![2] bcast_S128_S1x1x128_2 w))) (mulf (shapeCast S32768x4x128 (extractStridedSlice S32768x512 ![0, 3584] G slices_S32768x4096_S32768x512_0_3584) shapeCasts_S32768x512_S32768x4x128) (Host.divf (broadcastInDim S32768x4x128 ![] bcast_S_S32768x4x128 (constant S_ .f32 0x3F800000#32)) (addf (broadcastInDim S32768x4x128 ![] bcast_S_S32768x4x128 (constant S_ .f32 0x3F800000#32)) (Host.exp (Host.negf (shapeCast S32768x4x128 (extractStridedSlice S32768x512 ![0, 3584] G slices_S32768x4096_S32768x512_0_3584) shapeCasts_S32768x512_S32768x4x128))))))) shapeCasts_S32768x4x128_S32768x512)

/-- The attention's lanes and the heads side by side. -/
def mixT (A : FVec Ideal S32768x512 .bf16) (H : FVec Ideal S32768x512 .f32) : FVec Ideal S32768x1024 .f32 :=
  concatenate S32768x1024 1 [⟨S32768x512, (extf .f32 A bitsLt_bf16_f32)⟩, ⟨S32768x512, H⟩] concatenates_S32768x512_S32768x512_S32768x1024_d1

/-- The residual. -/
def resT (X M : FVec Ideal S32768x1024 .f32) (W : FVec Ideal S1024x1024 .f32) : FVec Ideal S32768x1024 .f32 :=
  addf X (Host.dotGeneral dot_S32768x1024_S1024x1024_S32768x1024_1_0_0_1_n_n none M W)

/-- The normalised rows. -/
def normT (Y : FVec Ideal S32768x1024 .f32) (N : FVec Ideal S1024 .f32) : FVec Ideal S32768x1024 .f32 :=
  mulf (mulf Y (broadcastInDim S32768x1024 ![0, 1] bcast_S32768x1_S32768x1024_0_1 (Host.rsqrt (addf (Host.divf (broadcastInDim S32768x1 ![0] bcast_S32768_S32768x1_0 (Host.reduceAdd (mulf Y Y) (constant S_ .f32 0x00000000#32) reducesTo_S32768x1024_S32768_d1 h_S_)) (broadcastInDim S32768x1 ![] bcast_S_S32768x1 (constant S_ .f32 0x44800000#32))) (broadcastInDim S32768x1 ![] bcast_S_S32768x1 (constant S_ .f32 0x358637BD#32)))))) (broadcastInDim S32768x1024 ![0, 1] bcast_S1x1024_S32768x1024_0_1 (broadcastInDim S1x1024 ![1] bcast_S1024_S1x1024_1 N))

/-- The router's logits. -/
def logitT (H : FVec Ideal S32768x1024 .f32) (R : FVec Ideal S1024x16 .f32) : FVec Ideal S32768x16 .f32 :=
  Host.dotGeneral dot_S32768x1024_S1024x16_S32768x16_1_0_0_1_n_n none H R

/-- The exponentials of the logits less their row's largest. -/
def expT (L : FVec Ideal S32768x16 .f32) : FVec Ideal S32768x16 .f32 :=
  Host.exp (subf L (broadcastInDim S32768x16 ![0, 1] bcast_S32768x1_S32768x16_0_1 (broadcastInDim S32768x1 ![0] bcast_S32768_S32768x1_0 (maximumf (broadcastInDim S32768 ![] bcast_S_S32768 (constant S_ .f32 0xFF800000#32)) (Host.reduce FloatOps.maximumf L (constant S_ .f32 0xFF800000#32) reducesTo_S32768x16_S32768_d1 h_S_)))))

/-- The softmax of the logits. -/
def softT (L : FVec Ideal S32768x16 .f32) : FVec Ideal S32768x16 .f32 :=
  Host.divf (expT L) (broadcastInDim S32768x16 ![0, 1] bcast_S32768x1_S32768x16_0_1 (broadcastInDim S32768x1 ![0] bcast_S32768_S32768x1_0 (Host.reduceAdd (expT L) (constant S_ .f32 0x00000000#32) reducesTo_S32768x16_S32768_d1 h_S_)))

/-- The softmax in 128 lanes. -/
def padT (Z : FVec Ideal S32768x16 .f32) : FVec Ideal S32768x128 .f32 :=
  pad S32768x128 ![0, 0] ![0, 112] ![0, 0] Z (sitofp .f32 (constantI S_ 32 0#32)) pads_S32768x16_S32768x128_000_01120 h_S_

/-- Three arrays side by side. -/
def cat3 (H : FVec Ideal S32768x1024 .f32) (E Z : FVec Ideal S32768x128 .f32) : FVec Ideal S32768x1280 .f32 :=
  concatenate S32768x1280 1 [⟨S32768x1024, H⟩, ⟨S32768x128, E⟩, ⟨S32768x128, Z⟩] concatenates_S32768x1024_S32768x128_S32768x128_S32768x1280_d1

theorem res51_eq (m : (ℓ : Loc nD τ sig) → Buf (Elt Ideal) ℓ) (c : Dev nD) : res_main_v51 (F := Ideal) m c
    = (padT (softT (logitT (normT (resT (m ((c.tc : Thread nD τ).loc main_arg0)) (mixT (m ((c.tc : Thread nD τ).loc main_arg1)) (headT (m ((c.tc : Thread nD τ).loc main_arg2)) (m ((c.tc : Thread nD τ).loc main_arg3)) (m ((c.tc : Thread nD τ).loc main_arg4)) (m ((c.tc : Thread nD τ).loc main_arg5)))) (m ((c.tc : Thread nD τ).loc main_arg6))) (m ((c.tc : Thread nD τ).loc main_arg7))) (m ((c.tc : Thread nD τ).loc main_arg8))))) := rfl

theorem res54_eq (m : (ℓ : Loc nD τ sig) → Buf (Elt Ideal) ℓ) (c : Dev nD) : res_main_v54 (F := Ideal) m c
    = truncf .bf16 (cat3 (normT (resT (m ((c.tc : Thread nD τ).loc main_arg0)) (mixT (m ((c.tc : Thread nD τ).loc main_arg1)) (headT (m ((c.tc : Thread nD τ).loc main_arg2)) (m ((c.tc : Thread nD τ).loc main_arg3)) (m ((c.tc : Thread nD τ).loc main_arg4)) (m ((c.tc : Thread nD τ).loc main_arg5)))) (m ((c.tc : Thread nD τ).loc main_arg6))) (m ((c.tc : Thread nD τ).loc main_arg7)))
        (padT (softT (logitT (normT (resT (m ((c.tc : Thread nD τ).loc main_arg0)) (mixT (m ((c.tc : Thread nD τ).loc main_arg1)) (headT (m ((c.tc : Thread nD τ).loc main_arg2)) (m ((c.tc : Thread nD τ).loc main_arg3)) (m ((c.tc : Thread nD τ).loc main_arg4)) (m ((c.tc : Thread nD τ).loc main_arg5)))) (m ((c.tc : Thread nD τ).loc main_arg6))) (m ((c.tc : Thread nD τ).loc main_arg7))) (m ((c.tc : Thread nD τ).loc main_arg8)))))
        (broadcastInDim S32768x128 ![] bcast_S_S32768x128 (constant S_ .f32 0x00000000#32))) bitsLt_bf16_f32 := rfl

theorem headT_apply (P Q G w) (r : Fin 32768) (n : Fin 512) : headT P Q G w (ix2 r n)
    = OutRows.head (P (ix2 r n) + Q (ix2 r n)) (fun e => P (ix2 r ⟨n.val / 128 * 128 + e.val, by omega⟩) + Q (ix2 r ⟨n.val / 128 * 128 + e.val, by omega⟩))
        (w (ix1 ⟨n.val % 128, Nat.mod_lt _ (by decide)⟩)) (G (ix2 r ⟨3584 + n.val, by omega⟩)) := by
  pointwise [headT]
  rfl

theorem mixT_apply (A : FVec Ideal S32768x512 .bf16) (P Q G w) (r : Fin 32768) (k : Fin 1024) :
    mixT A (headT P Q G w) (ix2 r k) = Cert.Kernel3Ideal.OutProj.mix A P Q G w r k := by
  unfold Cert.Kernel3Ideal.OutProj.mix OutRows.mixed mixT
  by_cases h : k.val < 512
  · refine Eq.trans ?_ (dif_pos h).symm
    exact concatenate_apply_piece (t := S32768x1024) (1 : Fin 2) _ _ (ix2 r k) 0 (by show 0 < 2; decide) S32768x512 (extf .f32 A bitsLt_bf16_f32) rfl rfl 0 rfl (ix2 r (⟨k.val, h⟩ : Fin 512)) (fun b hb => by
      match b with
      | 0 => rfl
      | 1 => exact absurd rfl hb) (Nat.zero_add _)
  · refine Eq.trans ?_ (dif_neg h).symm
    refine (concatenate_apply_piece (t := S32768x1024) (1 : Fin 2) _ _ (ix2 r k) 1 (by show 1 < 2; decide) S32768x512 (headT P Q G w) rfl rfl 512 rfl (ix2 r (⟨k.val - 512, by omega⟩ : Fin 512)) (fun b hb => by
      match b with
      | 0 => rfl
      | 1 => exact absurd rfl hb) (by show 512 + (k.val - 512) = k.val; omega)).trans ?_
    exact headT_apply P Q G w r _

theorem resT_apply (X A P Q G w W) (r : Fin 32768) (d : Fin 1024) :
    resT X (mixT A (headT P Q G w)) W (ix2 r d) = Cert.Kernel3Ideal.OutProj.res X A P Q G w W r d := by
  pointwise [resT]
  simp only [mixT_apply]
  rfl

theorem normT_apply (Y N) (r : Fin 32768) (d : Fin 1024) : normT Y N (ix2 r d) = OutRows.norm (fun d => Y (ix2 r d)) (fun d => N (ix1 d)) d := by
  pointwise [normT]
  rfl

theorem hid_apply (X A P Q G w W N) (r : Fin 32768) (d : Fin 1024) :
    normT (resT X (mixT A (headT P Q G w)) W) N (ix2 r d) = Cert.Kernel3Ideal.OutProj.hid X A P Q G w W N r d := by
  rw [normT_apply]
  simp only [resT_apply]
  rfl

theorem logitT_apply (H R) (r : Fin 32768) (e : Fin 16) : logitT H R (ix2 r e) = OutRows.logits (fun d => H (ix2 r d)) (fun d e => R (ix2 d e)) e := by
  pointwise [logitT]
  rfl

theorem expT_apply (L) (r : Fin 32768) (e : Fin 16) : expT L (ix2 r e) = Ideal.exp (L (ix2 r e) - Finset.univ.sup fun e : Fin 16 => L (ix2 r e)) := by
  pointwise [expT]
  rw [OutRows.lit_bot]
  refine congrArg (fun z => Ideal.exp (L (ix2 r e) - z)) ?_
  exact (max_eq_right bot_le).trans rfl

theorem softT_apply (L) (r : Fin 32768) (e : Fin 16) : softT L (ix2 r e) = OutRows.soft (fun e => L (ix2 r e)) e := by
  pointwise [softT]
  simp only [expT_apply]
  rfl

theorem padT_apply (Z) (r : Fin 32768) (e : Fin 128) : padT Z (ix2 r e) = if h : e.val < 16 then Z (ix2 r ⟨e.val, h⟩) else (0 : EReal) := by
  unfold padT
  by_cases h : e.val < 16
  · rw [dif_pos h]
    exact pad_apply_of_inside _ _ _ _ _ _ _ (ix2 r e) (ix2 r (⟨e.val, h⟩ : Fin 16)) (fun a => by
      match a with
      | 0 => show r.val = 0 + r.val * (0 + 1); omega
      | 1 => show e.val = 0 + e.val * (0 + 1); omega)
  · rw [dif_neg h]
    refine (pad_apply_of_not_inside _ _ _ _ _ _ _ (ix2 r e) 1 ?_).trans ?_
    · show ¬(0 ≤ e.val ∧ (e.val - 0) % (0 + 1) = 0 ∧ (e.val - 0) / (0 + 1) < 16)
      omega
    · exact Cert.Kernel3Ideal.OutProj.zero_word

theorem aff_apply (X A P Q G w W N R) (r : Fin 32768) (e : Fin 128) :
    padT (softT (logitT (normT (resT X (mixT A (headT P Q G w)) W) N) R)) (ix2 r e) = Cert.Kernel3Ideal.OutProj.aff X A P Q G w W N R r e := by
  rw [padT_apply]
  unfold Cert.Kernel3Ideal.OutProj.aff OutRows.lanes
  by_cases h : e.val < 16
  · rw [dif_pos h, dif_pos h, softT_apply]
    simp only [logitT_apply, hid_apply]
  · rw [dif_neg h, dif_neg h]

/-! The three arrays side by side, read in each part. -/

theorem cat3_0 (H E Z) (r : Fin 32768) (n : Fin 1280) (n' : Fin 1024) (hn : 0 + n'.val = n.val) : cat3 H E Z (ix2 r n) = H (ix2 r n') :=
  concatenate_apply_piece (t := S32768x1280) (1 : Fin 2) _ _ (ix2 r n) 0 (by show 0 < 3; decide) S32768x1024 H rfl rfl 0 rfl (ix2 r n') (fun b hb => by
    match b with
    | 0 => rfl
    | 1 => exact absurd rfl hb) hn

theorem cat3_1 (H E Z) (r : Fin 32768) (n : Fin 1280) (n' : Fin 128) (hn : 1024 + n'.val = n.val) : cat3 H E Z (ix2 r n) = E (ix2 r n') :=
  concatenate_apply_piece (t := S32768x1280) (1 : Fin 2) _ _ (ix2 r n) 1 (by show 1 < 3; decide) S32768x128 E rfl rfl 1024 rfl (ix2 r n') (fun b hb => by
    match b with
    | 0 => rfl
    | 1 => exact absurd rfl hb) hn

theorem cat3_2 (H E Z) (r : Fin 32768) (n : Fin 1280) (n' : Fin 128) (hn : 1152 + n'.val = n.val) : cat3 H E Z (ix2 r n) = Z (ix2 r n') :=
  concatenate_apply_piece (t := S32768x1280) (1 : Fin 2) _ _ (ix2 r n) 2 (by show 2 < 3; decide) S32768x128 Z rfl rfl 1152 rfl (ix2 r n') (fun b hb => by
    match b with
    | 0 => rfl
    | 1 => exact absurd rfl hb) hn

theorem lit_zero : Ideal.ofBits FTy.f32 0x00000000#32 = 0 := by
  simp [Ideal.ofBits, Ideal.ieee]

section Value

variable (m : (ℓ : Loc nD τ sig) → Buf (Elt Ideal) ℓ) (c : Dev nD)

theorem value9 : (resT (m ((c.tc : Thread nD τ).loc main_arg0)) (mixT (m ((c.tc : Thread nD τ).loc main_arg1)) (headT (m ((c.tc : Thread nD τ).loc main_arg2)) (m ((c.tc : Thread nD τ).loc main_arg3)) (m ((c.tc : Thread nD τ).loc main_arg4)) (m ((c.tc : Thread nD τ).loc main_arg5)))) (m ((c.tc : Thread nD τ).loc main_arg6)))
    = Cert.Kernel3Ideal.OutProj.spec9 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  funext i
  obtain ⟨r, n, rfl⟩ : ∃ (r : Fin 32768) (n : Fin 1024), i = ix2 r n := ⟨i 0, i 1, funext fun a => match a with | 0 => rfl | 1 => rfl⟩
  exact resT_apply _ _ _ _ _ _ _ r n

theorem value11 : res_main_v51 (F := Ideal) m c
    = Cert.Kernel3Ideal.OutProj.spec11 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  rw [res51_eq]
  funext i
  obtain ⟨r, n, rfl⟩ : ∃ (r : Fin 32768) (n : Fin 128), i = ix2 r n := ⟨i 0, i 1, funext fun a => match a with | 0 => rfl | 1 => rfl⟩
  exact aff_apply _ _ _ _ _ _ _ _ _ r n

theorem value10 : res_main_v54 (F := Ideal) m c
    = Cert.Kernel3Ideal.OutProj.spec10 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  rw [res54_eq]
  funext i
  obtain ⟨r, n, rfl⟩ : ∃ (r : Fin 32768) (n : Fin 1280), i = ix2 r n := ⟨i 0, i 1, funext fun a => match a with | 0 => rfl | 1 => rfl⟩
  unfold Cert.Kernel3Ideal.OutProj.spec10 Cert.Kernel3Ideal.OutProj.row10
  by_cases h1 : n.val < 1024
  · refine Eq.trans ?_ (dif_pos h1).symm
    exact (cat3_0 _ _ _ r n ⟨n.val, h1⟩ (Nat.zero_add _)).trans (hid_apply _ _ _ _ _ _ _ _ r _)
  · refine Eq.trans ?_ (dif_neg h1).symm
    by_cases h2 : n.val < 1152
    · refine Eq.trans ?_ (dif_pos h2).symm
      exact (cat3_1 _ _ _ r n ⟨n.val - 1024, by omega⟩ (by show 1024 + (n.val - 1024) = n.val; omega)).trans (aff_apply _ _ _ _ _ _ _ _ _ r _)
    · refine Eq.trans ?_ (dif_neg h2).symm
      exact (cat3_2 _ _ _ r n ⟨n.val - 1152, by omega⟩ (by show 1152 + (n.val - 1152) = n.val; omega)).trans lit_zero

end Value

end Cert.Reference3Ideal.OutProj
-- ==== Proof.OutPre.lean ====
/-
  What the precondition of the output projection says over the extended reals: every number its results depend on is real.
-/
module

public import proofs.«01_k».proof.Defs
public import proofs.«01_k».proof.Proof.Gen.Pre_finite
public import proofs.«01_k».proof.Proof.OutProj

@[expose] public section

noncomputable section

namespace Cert.OutPre

open Idealize.ShloMosaic Idealize.ShloMosaic.TcCoe Idealize.SL.Sem

theorem lit_top : Ideal.ofBits FTy.f32 0x7F800000#32 = ⊤ := by
  simp [Ideal.ofBits, Ideal.ieee]

/-- A number whose absolute value is less than infinity is real. -/
theorem real_of_bit (x : EReal) (h : Ideal.cmp .olt (max x (-x)) (Ideal.ofBits FTy.f32 0x7F800000#32) = 1#1) : OutRows.IsReal x := by
  rw [lit_top] at h
  induction x with
  | bot => simp [Ideal.cmp] at h
  | top => simp [Ideal.cmp] at h
  | coe r => exact ⟨r, rfl⟩

theorem allReal (m : (ℓ : Loc Cert.Kernel3Ideal.nD Cert.Kernel3Ideal.τ Cert.Kernel3Ideal.sig) → Buf (Elt Ideal) ℓ)
    (h : Pre_Kernel3Ideal_finite (hPre_finite := Cert.Pre_finite.Gen.facts) m) (c : Dev Cert.Kernel3Ideal.nD) :
    Cert.Kernel3Ideal.OutProj.AllReal (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) := by
  obtain ⟨h0, h1, h2, h3, h4, h5, h6, h7, h8⟩ := h c
  exact
    { x := fun i => real_of_bit _ (congrFun h0 i)
      a := fun i => real_of_bit _ (congrFun h1 i)
      p := fun i => real_of_bit _ (congrFun h2 i)
      q := fun i => real_of_bit _ (congrFun h3 i)
      g := fun r i => by
        have e := real_of_bit _ (congrFun h4 (ix2 r i))
        pointwise [] at e
        exact e
      w := fun i => real_of_bit _ (congrFun h5 i)
      W := fun i => real_of_bit _ (congrFun h6 i)
      n := fun i => real_of_bit _ (congrFun h7 i)
      r := fun i => real_of_bit _ (congrFun h8 i) }

end Cert.OutPre
-- ==== Proof.RouteCount.lean ====
/-
  The selection of the routing in whole numbers. An expert takes the 1024 greatest of the 8192 words `p t` of its lane,
  an earlier token before a later one of the same word. The threshold found bit by bit is the greatest word that 1024
  tokens reach; the tokens above it and the first of those at it are the first 1024 of the sorted tokens.
-/
module

public import Idealize.ShloMosaic.PureOps
public import Idealize.ShloMosaic.Lib.SortPrefix
public import Idealize.ShloMosaic.Lib.SortFacts
public import Mathlib.Data.Nat.Count

@[expose] public section

namespace Cert.RouteCount

open Idealize.ShloMosaic

variable (p : ℕ → ℕ)

/-- How many of the 8192 tokens have a word of at least `c`. -/
def reach (c : ℕ) : ℕ := Nat.count (fun t => c ≤ p t) 8192

/-- The threshold after `k` bits: a bit is kept when 1024 tokens reach the word with it. -/
def bits : ℕ → ℕ
  | 0 => 0
  | k + 1 => if 1024 ≤ reach p (bits k + 2 ^ (30 - k)) then bits k + 2 ^ (30 - k) else bits k

/-- The threshold. -/
def thr : ℕ := bits p 31

/-- Token `t` is taken: above the threshold, or at it and among the first that are still needed. -/
def Sel (t : ℕ) : Prop :=
  thr p < p t ∨ (p t = thr p ∧ Nat.count (fun s => p s = thr p) t < 1024 - reach p (thr p + 1))

instance : DecidablePred (Sel p) := fun _ => inferInstanceAs (Decidable (_ ∨ _))

theorem reach_le (c : ℕ) : reach p c ≤ 8192 := Nat.count_le _

theorem count_congr {P Q : ℕ → Prop} [DecidablePred P] [DecidablePred Q] {n : ℕ} (h : ∀ t < n, P t ↔ Q t) :
    Nat.count P n = Nat.count Q n := by
  induction n with
  | zero => simp
  | succ n ih =>
    rw [Nat.count_succ, Nat.count_succ, ih fun t ht => h t (by omega), if_congr (h n (by omega)) rfl rfl]

theorem count_false {P : ℕ → Prop} [DecidablePred P] {n : ℕ} (h : ∀ t < n, ¬ P t) : Nat.count P n = 0 := by
  rw [count_congr (Q := fun _ => False) (fun t ht => by simp [h t ht])]
  simp

/-- Counting below a bound. -/
theorem count_lt_and (P : ℕ → Prop) [DecidablePred P] (r n : ℕ) (h : r ≤ n) :
    Nat.count (fun s => s < r ∧ P s) n = Nat.count P r := by
  obtain ⟨d, rfl⟩ := Nat.exists_eq_add_of_le h
  rw [Nat.count_add, count_congr (Q := P) (fun t ht => by simp [ht]), count_false (n := d) (by intro t _; omega)]
  rfl

theorem reach_add (c : ℕ) : reach p c = reach p (c + 1) + Nat.count (fun t => p t = c) 8192 := by
  unfold reach
  generalize 8192 = n
  induction n with
  | zero => simp
  | succ n ih =>
    simp only [Nat.count_succ, ih]
    split_ifs <;> omega

/-- What the bits keep: the threshold is a multiple of the bits still to come, 1024 tokens reach it, and fewer reach it
    with the bit above those to come. -/
theorem bits_inv (hp : ∀ t, p t < 2139095040) (k : ℕ) (hk : k ≤ 31) :
    2 ^ (31 - k) ∣ bits p k ∧ bits p k + 2 ^ (31 - k) ≤ 2 ^ 31 ∧ 1024 ≤ reach p (bits p k)
      ∧ reach p (bits p k + 2 ^ (31 - k)) < 1024 := by
  induction k with
  | zero =>
    refine ⟨by simp [bits], by simp [bits], ?_, ?_⟩
    · have : reach p (bits p 0) = 8192 := by
        unfold reach
        rw [count_congr (Q := fun _ => True) (fun t _ => by simp [bits])]
        simp
      omega
    · unfold reach
      rw [count_false (fun t _ => by have := hp t; simp only [bits]; omega)]
      omega
  | succ k ih =>
    obtain ⟨h1, h2, h3, h4⟩ := ih (by omega)
    have e : 31 - k = (30 - k) + 1 := by omega
    have e' : 31 - (k + 1) = 30 - k := by omega
    rw [e, pow_succ] at h1 h2 h4
    rw [e']
    have hd : 2 ^ (30 - k) ∣ bits p k := (Dvd.intro _ rfl).trans h1
    simp only [bits]
    split_ifs with h
    · refine ⟨Dvd.dvd.add hd (dvd_refl _), by omega, h, ?_⟩
      have e2 : bits p k + 2 ^ (30 - k) + 2 ^ (30 - k) = bits p k + 2 ^ (30 - k) * 2 := by omega
      rw [e2]
      exact h4
    · exact ⟨hd, by omega, h3, by omega⟩

/-- The next bit is not set in the threshold so far. -/
theorem bits_or (hp : ∀ t, p t < 2139095040) (k : ℕ) (hk : k < 31) : bits p k ||| 2 ^ (30 - k) = bits p k + 2 ^ (30 - k) := by
  obtain ⟨⟨q, hq⟩, -, -, -⟩ := bits_inv p hp k hk.le
  have e : 31 - k = (30 - k) + 1 := by omega
  rw [hq, e]
  exact (Nat.two_pow_add_eq_or_of_lt (Nat.pow_lt_pow_right (by omega) (by omega)) q).symm

/-- A word the bits try is a finite float's or infinity's. -/
theorem bits_lt (hp : ∀ t, p t < 2139095040) (k : ℕ) (hk : k < 31) : bits p k + 2 ^ (30 - k) ≤ 2139095040 := by
  obtain ⟨⟨q, hq⟩, h2, h3, -⟩ := bits_inv p hp k hk.le
  have hb : bits p k < 2139095040 := by
    by_contra hc
    have : reach p (bits p k) = 0 := count_false (fun t _ => by have := hp t; omega)
    omega
  have e : 31 - k = (30 - k) + 1 := by omega
  rw [e, pow_succ] at h2 hq
  generalize hj : 30 - k = j at *
  rcases Nat.lt_or_ge j 23 with h | h
  · obtain ⟨i, hi'⟩ : ∃ i, 22 = j + i := ⟨22 - j, by omega⟩
    have hi : 2 ^ j * 2 * (255 * 2 ^ i) = 2139095040 := by
      have h22 : 2 ^ 22 = 2 ^ j * 2 ^ i := by rw [hi', pow_add]
      have : 2 ^ j * 2 * (255 * 2 ^ i) = 2 ^ j * 2 ^ i * (2 * 255) := by
        simp only [Nat.mul_assoc, Nat.mul_comm, Nat.mul_left_comm]
      exact this.trans (congrArg (· * (2 * 255)) h22.symm)
    have hq' : q < 255 * 2 ^ i := by
      by_contra hc
      have := Nat.mul_le_mul_left (2 ^ j * 2) (Nat.le_of_not_lt hc)
      omega
    have := Nat.mul_le_mul_left (2 ^ j * 2) (Nat.succ_le_of_lt hq')
    rw [Nat.mul_succ] at this
    omega
  · have h23 : 2 ^ 23 ≤ 2 ^ j := Nat.pow_le_pow_right (by omega) h
    omega

theorem thr_lt (hp : ∀ t, p t < 2139095040) : thr p < 2139095040 := by
  obtain ⟨-, -, h3, -⟩ := bits_inv p hp 31 le_rfl
  by_contra hc
  have : reach p (bits p 31) = 0 := count_false (fun t _ => by have := hp t; unfold thr at hc; omega)
  omega

theorem reach_thr (hp : ∀ t, p t < 2139095040) : 1024 ≤ reach p (thr p) ∧ reach p (thr p + 1) < 1024 := by
  obtain ⟨-, -, h3, h4⟩ := bits_inv p hp 31 le_rfl
  exact ⟨h3, h4⟩

/-- The first of a kind: as many as are wanted, or all. -/
theorem count_first (P : ℕ → Prop) [DecidablePred P] (w n : ℕ) :
    Nat.count (fun t => P t ∧ Nat.count P t < w) n = min w (Nat.count P n) := by
  induction n with
  | zero => simp
  | succ n ih =>
    rw [Nat.count_succ, Nat.count_succ, ih]
    by_cases h : P n
    · simp only [h, true_and, if_true]; split_ifs <;> omega
    · simp [h]

theorem count_or (P Q : ℕ → Prop) [DecidablePred P] [DecidablePred Q] (h : ∀ t, ¬ (P t ∧ Q t)) (n : ℕ) :
    Nat.count (fun t => P t ∨ Q t) n = Nat.count P n + Nat.count Q n := by
  induction n with
  | zero => simp
  | succ n ih =>
    rw [Nat.count_succ, Nat.count_succ, Nat.count_succ, ih]
    have := h n
    by_cases h1 : P n <;> by_cases h2 : Q n <;> simp [h1, h2] at this ⊢ <;> omega

/-- As many tokens are taken as there are slots. -/
theorem count_sel (hp : ∀ t, p t < 2139095040) : Nat.count (Sel p) 8192 = 1024 := by
  obtain ⟨h1, h2⟩ := reach_thr p hp
  have h := reach_add p (thr p)
  have e : Nat.count (Sel p) 8192 = Nat.count (fun t => thr p + 1 ≤ p t) 8192
      + Nat.count (fun t => p t = thr p ∧ Nat.count (fun s => p s = thr p) t < 1024 - reach p (thr p + 1)) 8192 := by
    rw [← count_or _ _ (fun t => by omega)]
    rfl
  have r : Nat.count (fun t => thr p + 1 ≤ p t) 8192 = reach p (thr p + 1) := rfl
  rw [e, r, count_first]
  omega

/-- Counting by the eight residues. -/
theorem count_rows (Q : ℕ → Prop) [DecidablePred Q] (n : ℕ) :
    ∑ s : Fin 8, Nat.count (fun q => Q (8 * q + s.val)) n = Nat.count Q (8 * n) := by
  induction n with
  | zero => simp
  | succ n ih =>
    rw [show 8 * (n + 1) = 8 * n + 8 from by omega, Nat.count_add, ← ih]
    simp only [Nat.count_succ, Fin.sum_univ_eight, Nat.count_zero]
    simp only [Fin.val_zero, Fin.val_one, Fin.val_two]
    have h3 : (3 : Fin 8).val = 3 := rfl
    have h4 : (4 : Fin 8).val = 4 := rfl
    have h5 : (5 : Fin 8).val = 5 := rfl
    have h6 : (6 : Fin 8).val = 6 := rfl
    have h7 : (7 : Fin 8).val = 7 := rfl
    simp only [h3, h4, h5, h6, h7]
    omega

/-- Token `a` is before token `b`: a greater word, or the same word earlier. -/
def Before (a b : Fin 8192) : Bool := decide (p b < p a) || (decide (p a = p b) && decide (a < b))

theorem before_strict : StrictTotalBefore (Before p) := by
  have h := StrictTotalBefore.of_key_then_position (n := 8192) (κ := ℕ) (fun x y => decide (y < x)) (fun t => p t)
    (fun a => by simp) (fun a b c => by simp only [decide_eq_true_eq]; omega) (fun a b => by simp only [decide_eq_true_eq]; omega)
  exact h

theorem sel_of_before (a b : Fin 8192) (h : Before p a b = true) (hb : Sel p b) : Sel p a := by
  simp only [Before, Bool.or_eq_true, Bool.and_eq_true, decide_eq_true_eq] at h
  unfold Sel at hb ⊢
  rcases h with h | ⟨h, hl⟩
  · left; omega
  · rcases hb with hb | ⟨hb, hc⟩
    · left; omega
    · right
      exact ⟨by omega, lt_of_le_of_lt (Nat.count_monotone _ (le_of_lt hl)) hc⟩

theorem card_count (P : ℕ → Prop) [DecidablePred P] (n : ℕ) :
    (Finset.univ.filter fun t : Fin n => P t).card = Nat.count P n := by
  induction n generalizing P with
  | zero => simp
  | succ n ih =>
    rw [Nat.count_succ', Fin.card_filter_univ_succ, ← ih]
    simp only [Fin.val_zero, Fin.val_succ]
    split_ifs <;> rfl

/-- The first 1024 of the sorted tokens are the taken ones. -/
theorem top_iff (hp : ∀ t, p t < 2139095040) (t : Fin 8192) :
    (∃ i : Fin 1024, sortedFrom (Before p) (i.castLE (by omega)) = t) ↔ Sel p t := by
  classical
  set A : Finset (Fin 8192) := Finset.univ.image fun i : Fin 1024 => sortedFrom (Before p) (i.castLE (by omega)) with hA
  set S : Finset (Fin 8192) := Finset.univ.filter fun t : Fin 8192 => Sel p t with hS
  have hB := before_strict p
  have cA : A.card = 1024 := by
    rw [hA, Finset.card_image_of_injective]
    · simp
    · intro a b h
      exact Fin.castLE_injective _ (sortedFrom_injective _ h)
  have cS : S.card = 1024 := by rw [hS, card_count, count_sel p hp]
  have upA : ∀ a b : Fin 8192, Before p a b = true → b ∈ A → a ∈ A := by
    intro a b h hb
    obtain ⟨i, -, hi⟩ := Finset.mem_image.mp hb
    obtain ⟨j, hj⟩ := sortedFrom_surjective (Before p) a
    by_contra hc
    have hij : i.castLE (by omega) < j := by
      by_contra hl
      refine hc (Finset.mem_image.mpr ⟨⟨j.val, ?_⟩, Finset.mem_univ _, ?_⟩)
      · have h1 : j.val ≤ i.val := by simpa [Fin.lt_def] using hl
        omega
      · exact hj
    have := sortedFrom_noInversion (Before p) (Before p) (fun a b h => hB.asymm a b h) (fun _ _ h => h) hB.negTrans _ _ hij
    rw [hj, hi, h] at this
    exact absurd this (by decide)
  have upS : ∀ a b : Fin 8192, Before p a b = true → b ∈ S → a ∈ S := by
    intro a b h hb
    simp only [hS, Finset.mem_filter, Finset.mem_univ, true_and] at hb ⊢
    exact sel_of_before p a b h hb
  have sub : A ⊆ S := by
    intro a ha
    by_contra hs
    obtain ⟨s, hsS, hsA⟩ : ∃ s ∈ S, s ∉ A := by
      by_contra hc
      push Not at hc
      have := Finset.eq_of_subset_of_card_le hc (by omega)
      exact hs (this ▸ ha)
    rcases hB.total a s (fun e => hsA (e ▸ ha)) with h | h
    · exact hs (upS _ _ h hsS)
    · exact hsA (upA _ _ h ha)
  have e : A = S := Finset.eq_of_subset_of_card_le sub (by omega)
  have : t ∈ A ↔ t ∈ S := by rw [e]
  simpa [hA, hS] using this

/-- What is stored for a token: its slot, or −1. -/
def slotWord (p : ℕ → ℕ) (t : ℕ) : BitVec 32 := if Sel p t then BitVec.ofNat 32 (Nat.count (Sel p) t) else 4294967295#32

/-- The words of lane `e` of batch `b`, by token. -/
def batch (A : Fin 32768 → Fin 128 → BitVec 32) (b : ℕ) (e : Fin 128) (t : ℕ) : ℕ :=
  if h : t < 8192 ∧ b < 4 then (A ⟨8192 * b + t, by omega⟩ e).toNat else 0

/-- The slots, row by row. -/
def slotAt (A : Fin 32768 → Fin 128 → BitVec 32) (r : ℕ) (e : Fin 128) : BitVec 32 := slotWord (batch A (r / 8192) e) (r % 8192)

/-- The slots filled before each 256 tokens. -/
def startAt (A : Fin 32768 → Fin 128 → BitVec 32) (q : ℕ) (e : Fin 128) : BitVec 32 :=
  BitVec.ofNat 32 (Nat.count (Sel (batch A (q / 32) e)) (256 * (q % 32)))

end Cert.RouteCount
-- ==== Proof.RouteFloat.lean ====
/-
  The floats of the routing: the words of the nonnegative floats are in the order of the numbers they denote, and an
  indicator's sum over the extended reals is a count.
-/
module

public import Idealize.ShloMosaic.PureOps.Ideal
public import Idealize.ShloMosaic.Lib.Pointwise.Tactic
public import Mathlib.Data.Nat.Count
public import Mathlib.Order.Monotone.Basic

@[expose] public section

noncomputable section

namespace Cert.RouteFloat

open Idealize.ShloMosaic

/-- A nonnegative finite float in units of the least one. -/
def units (p : ℕ) : ℕ := if p < 2 ^ 23 then p else (2 ^ 23 + p % 2 ^ 23) * 2 ^ (p / 2 ^ 23 - 1)

theorem units_strict : StrictMono units := by
  refine strictMono_nat_of_lt_succ fun p => ?_
  unfold units
  by_cases h : p + 1 < 2 ^ 23
  · rw [if_pos (by omega), if_pos h]; omega
  · rw [if_neg h]
    by_cases h' : p < 2 ^ 23
    · have e : p + 1 = 2 ^ 23 := by omega
      rw [if_pos h', e]; norm_num; omega
    · rw [if_neg h']
      by_cases hm : p % 2 ^ 23 + 1 < 2 ^ 23
      · have e1 : (p + 1) % 2 ^ 23 = p % 2 ^ 23 + 1 := by omega
        have e2 : (p + 1) / 2 ^ 23 = p / 2 ^ 23 := by omega
        rw [e1, e2]
        exact Nat.mul_lt_mul_of_pos_right (by omega) (by positivity)
      · have e1 : (p + 1) % 2 ^ 23 = 0 := by omega
        have e2 : (p + 1) / 2 ^ 23 - 1 = (p / 2 ^ 23 - 1) + 1 := by omega
        rw [e1, e2, pow_succ 2 (p / 2 ^ 23 - 1), ← Nat.mul_assoc, Nat.mul_right_comm]
        exact Nat.mul_lt_mul_of_pos_right (by omega) (by positivity)

theorem ofBits_finite (b : BitVec 32) (h : b.toNat < 2139095040) :
    Ideal.ofBits .f32 b = (((units b.toNat : ℝ) * (2 : ℝ) ^ (-149 : ℤ) : ℝ) : EReal) := by
  have hn : (b.extractLsb' 31 1 == 1#1) = false := by
    rw [beq_eq_false_iff_ne]
    intro e
    have := congrArg BitVec.toNat e
    simp [BitVec.extractLsb'_toNat, Nat.shiftRight_eq_div_pow] at this
    omega
  have he : (b.extractLsb' 23 8).toNat = b.toNat / 2 ^ 23 := by
    simp only [BitVec.extractLsb'_toNat, Nat.shiftRight_eq_div_pow]
    omega
  have hf : (b.extractLsb' 0 23).toNat = b.toNat % 2 ^ 23 := by
    simp only [BitVec.extractLsb'_toNat, Nat.shiftRight_eq_div_pow, pow_zero, Nat.div_one]
  show Ideal.ieee 8 23 b = _
  unfold Ideal.ieee
  simp only [hn, he, hf]
  rw [if_neg (by omega)]
  unfold units
  by_cases hx : b.toNat < 2 ^ 23
  · rw [if_pos (by omega), if_pos hx, Nat.mod_eq_of_lt hx]
    norm_num
  · rw [if_neg (by omega), if_neg hx]
    obtain ⟨x, hx'⟩ : ∃ x, b.toNat / 2 ^ 23 = x + 1 := ⟨b.toNat / 2 ^ 23 - 1, by omega⟩
    rw [hx']
    congr 1
    have : ((x + 1 : ℕ) : ℤ) - (2 ^ (8 - 1) - 1) - 23 = (x : ℤ) + (-149) := by push_cast; norm_num; omega
    push_cast at this ⊢
    rw [this, zpow_add₀ (by norm_num), zpow_natCast]
    simp only [Nat.add_sub_cancel, if_false, Bool.false_eq_true, one_mul]
    rw [mul_assoc]

theorem ofBits_inf (b : BitVec 32) (h : b.toNat = 2139095040) : Ideal.ofBits .f32 b = ⊤ := by
  obtain rfl : b = 0x7F800000#32 := BitVec.eq_of_toNat_eq h
  simp [Ideal.ofBits, Ideal.ieee]

theorem lt_iff (a b : BitVec 32) (ha : a.toNat < 2139095040) (hb : b.toNat ≤ 2139095040) :
    Ideal.ofBits .f32 a < Ideal.ofBits .f32 b ↔ a.toNat < b.toNat := by
  rw [ofBits_finite a ha]
  rcases Nat.lt_or_ge b.toNat 2139095040 with h | h
  · rw [ofBits_finite b h, EReal.coe_lt_coe_iff, mul_lt_mul_iff_left₀ (by positivity), Nat.cast_lt]
    exact units_strict.lt_iff_lt
  · rw [ofBits_inf b (by omega)]
    exact iff_of_true (EReal.coe_lt_top _) (by omega)

theorem le_iff (a b : BitVec 32) (ha : a.toNat < 2139095040) (hb : b.toNat ≤ 2139095040) :
    Ideal.ofBits .f32 b ≤ Ideal.ofBits .f32 a ↔ b.toNat ≤ a.toNat := by
  rw [← not_lt, lt_iff a b ha hb, not_lt]

theorem eq_iff (a b : BitVec 32) (ha : a.toNat < 2139095040) (hb : b.toNat < 2139095040) :
    Ideal.ofBits .f32 a = Ideal.ofBits .f32 b ↔ a.toNat = b.toNat := by
  rw [le_antisymm_iff, le_iff b a hb ha.le, le_iff a b ha hb.le]
  omega

/-- A whole number as an extended real. -/
def num (n : ℕ) : EReal := ((n : ℝ) : EReal)

theorem num_add (a b : ℕ) : num a + num b = num (a + b) := by
  unfold num; rw [← EReal.coe_add]; push_cast; rfl

theorem num_lt (a b : ℕ) : num a < num b ↔ a < b := by
  unfold num; rw [EReal.coe_lt_coe_iff, Nat.cast_lt]

theorem num_zero : num 0 = 0 := by simp [num]
theorem num_one : num 1 = 1 := by simp [num]

theorem sum_num {n : ℕ} (P : ℕ → Prop) [DecidablePred P] :
    ∑ s : Fin n, (if P s then (1 : EReal) else 0) = num (Nat.count P n) := by
  induction n with
  | zero => simp [num_zero]
  | succ n ih =>
    rw [Fin.sum_univ_castSucc, Nat.count_succ]
    simp only [Fin.val_castSucc, Fin.val_last]
    rw [ih, ← num_add]
    split_ifs <;> simp [num_zero, num_one]

theorem fptosi_num (n : ℕ) (h : n ≤ 8192) : Ideal.fptosi 32 (num n) = BitVec.ofNat 32 n := by
  unfold Ideal.fptosi num
  rw [Ideal.toIntClamped_coe, if_pos (by positivity)]
  have : ⌊(n : ℝ)⌋ = (n : ℤ) := by simp
  rw [this]
  have e : max (-(2 ^ (32 - 1) : ℕ) : ℤ) (min ((2 ^ (32 - 1) : ℕ) - 1 : ℤ) n) = n := by
    norm_num
    omega
  rw [e]
  simp

theorem fptosi_neg_one : Ideal.fptosi 32 (Ideal.ofBits .f32 3212836864#32) = 4294967295#32 := by
  have e : Ideal.ofBits .f32 3212836864#32 = ((-1 : ℝ) : EReal) := by
    simp [Ideal.ofBits, Ideal.ieee]
    rw [← EReal.coe_mul]
    norm_num
  rw [e]
  unfold Ideal.fptosi
  rw [Ideal.toIntClamped_coe, if_neg (by norm_num)]
  norm_num
  decide

/-- A sum of indicator words is a count. -/
theorem fold_count {n : ℕ} (P : ℕ → Prop) [DecidablePred P] (f : Fin n → BitVec 32) (h : ∀ s, f s = if P s then 1#32 else 0#32) :
    Finset.univ.fold IntOp.addi 0#32 f = BitVec.ofNat 32 (Nat.count P n) := by
  induction n with
  | zero => rfl
  | succ n ih =>
    rw [Fin.univ_castSuccEmb, Finset.fold_cons, Finset.fold_map, Nat.count_succ, h]
    have := ih (f ∘ Fin.castSuccEmb) (fun s => h _)
    rw [this]
    simp only [Fin.val_last]
    split_ifs
    · rw [BitVec.ofNat_add, BitVec.add_comm]; rfl
    · exact BitVec.zero_add _

theorem fold_ofNat {n : ℕ} (f : Fin n → BitVec 32) (g : Fin n → ℕ) (h : ∀ s, f s = BitVec.ofNat 32 (g s)) :
    Finset.univ.fold IntOp.addi 0#32 f = BitVec.ofNat 32 (∑ s, g s) := by
  induction n with
  | zero => simp
  | succ n ih =>
    rw [Fin.univ_castSuccEmb, Finset.fold_cons, Finset.fold_map, h]
    have := ih (f ∘ Fin.castSuccEmb) (fun s => g s.castSucc) (fun s => h _)
    rw [this]
    show BitVec.ofNat 32 _ + BitVec.ofNat 32 _ = _
    rw [← BitVec.ofNat_add, ← Fin.univ_castSuccEmb, Fin.sum_univ_castSucc, Nat.add_comm]

theorem sge_word (n : ℕ) (h : n ≤ 8192) : IntOp.cmpi CmpIPredicate.sge (BitVec.ofNat 32 n) 1024#32 = BitVec.ofBool (decide (1024 ≤ n)) := by
  have e : (BitVec.ofNat 32 n).toInt = n := by
    rw [BitVec.toInt_eq_toNat_of_lt (by simp [BitVec.toNat_ofNat]; omega), BitVec.toNat_ofNat, Nat.mod_eq_of_lt (by omega)]
  show BitVec.ofBool _ = _
  congr 1
  simp only [BitVec.sle, e]
  have : (1024#32 : BitVec 32).toInt = 1024 := by decide
  rw [this]
  simp

end Cert.RouteFloat
-- ==== Proof.RoutingRef.lean ====
/-
  The values of the routing's reference over the extended reals: the sort's first 1024 positions are the selected tokens,
  and a token's slot is the number of selected ones before it.
-/
module

public import proofs.«01_k».proof.Proof.Gen.Reference4Ideal.Run
public import proofs.«01_k».proof.Proof.RouteCount
public import proofs.«01_k».proof.Proof.RouteFloat
public import Idealize.ShloMosaic.Lib.Pointwise
public import Idealize.ShloMosaic.Lib.PlanTiles.StableSort
public import Idealize.ShloMosaic.Lib.ReduceAll

@[expose] public section

set_option maxRecDepth 16384

noncomputable section

namespace Cert.Reference4Ideal.Routing

open Cert.Reference4Ideal Cert.Reference4Ideal.Gen Cert.Reference4Ideal.Value Idealize.ShloMosaic Idealize.ShloMosaic.TcCoe Idealize.SL.Sem
open Cert.RouteCount Cert.RouteFloat

variable (A : IVec S32768x128 32)

/-- The words by row and lane. -/
abbrev rows (r : Fin 32768) (e : Fin 128) : BitVec 32 := A (ix2 r e)

/-- The affinities, tokens last. -/
def valT : FVec Ideal S4x128x8192 .f32 :=
  transpose S4x128x8192 [0, 2, 1] (shapeCast S4x8192x128 (bitcastToFloat (F := Ideal) .f32 A) shapeCasts_S32768x128_S4x8192x128) transposes_S4x8192x128_S4x128x8192_0_2_1

/-- The positions of the greatest affinities. -/
def topT : IVec S4x128x1024 32 :=
  (Host.topK S4x128x1024 2 (FloatOps.cmpfTotal .gt) (valT A) sliceFits_S4x128x8192_S4x128x1024).2

/-- Whether a position is a given token. -/
def hitT : IVec S4x128x1024x8192 1 :=
  cmpi .eq (broadcastInDim S4x128x1024x8192 ![0, 1, 2, 3] bcast_S4x128x1024x1_S4x128x1024x8192_0_1_2_3 (broadcastInDim S4x128x1024x1 ![0, 1, 2] bcast_S4x128x1024_S4x128x1024x1_0_1_2 (topT A))) (broadcastInDim S4x128x1024x8192 ![0, 1, 2, 3] bcast_S1x1x1x8192_S4x128x1024x8192_0_1_2_3 (broadcastInDim S1x1x1x8192 ![3] bcast_S8192_S1x1x1x8192_3 (iotaInDim S8192 32 0)))

/-- Whether a token is among the positions, tokens last. -/
def takenR : IVec S4x128x8192 1 :=
  Host.reduce IntOp.ori (hitT A) (constantI S_ 1 0#1) reducesTo_S4x128x1024x8192_S4x128x8192_d2 h_S_

/-- Whether a token is among the positions. -/
def takenT : IVec S4x8192x128 1 := transpose S4x8192x128 [0, 2, 1] (takenR A) transposes_S4x128x8192_S4x8192x128_0_2_1

/-- How many taken tokens are before each. -/
def rankT (T : IVec S4x8192x128 1) : FVec Ideal S4x8192x128 .f32 :=
  transpose S4x8192x128 [0, 2, 1] (Host.dotGeneral dot_S4x8192x128_S8192x8192_S4x128x8192_1_1_02_0_n_n none (uitofp .f32 T) (uitofp .f32 (cmpi .slt (broadcastInDim S8192x8192 ![0, 1] bcast_S1x8192_S8192x8192_0_1 (broadcastInDim S1x8192 ![1] bcast_S8192_S1x8192_1 (iotaInDim S8192 32 0))) (broadcastInDim S8192x8192 ![0, 1] bcast_S8192x1_S8192x8192_0_1 (broadcastInDim S8192x1 ![0] bcast_S8192_S8192x1_0 (iotaInDim S8192 32 0)))))) transposes_S4x128x8192_S4x8192x128_0_2_1

/-- The word of a token that is not taken. -/
def fillT : FVec Ideal S4x8192x128 .f32 :=
  broadcastInDim S4x8192x128 ![] bcast_S_S4x8192x128 (id (constant (F := Ideal) S_ .f32 0xBF800000#32))

def slotT : IVec S32768x128 32 :=
  shapeCast S32768x128 (fptosi 32 (select (takenT A) (rankT (takenT A)) fillT)) shapeCasts_S4x8192x128_S32768x128

def startT : IVec S128x128 32 :=
  shapeCast S128x128 (fptosi 32 (Host.slice S4x32x128 ![0, 0, 0] ![1, 256, 1] (rankT (takenT A)) slicesBy_S4x8192x128_S4x32x128_0s1_0s256_0s1)) shapeCasts_S4x32x128_S128x128

/-! ## The sort -/

theorem valT_apply (b : Fin 4) (e : Fin 128) (t : Fin 8192) (h) :
    valT A (ix3 b e t) = Ideal.ofBits .f32 (A (ix2 (⟨8192 * b.val + t.val, h⟩ : Fin 32768) e)) := by
  pointwise [valT]
  exact congrArg (fun r => Ideal.ofBits .f32 (A (ix2 r e))) (Fin.ext (by show b.val * 8192 + t.val = 8192 * b.val + t.val; omega))

theorem val_lt (hA : ∀ j, (A j).toNat < 2139095040) (b : Fin 4) (e : Fin 128) (k k' : Fin 8192) :
    (FloatOps.cmpfTotal (F := Ideal) (φ := .f32) .gt (valT A (ix3 b e k)) (valT A (ix3 b e k')) == 1#1)
      = decide (batch (rows A) b e k' < batch (rows A) b e k) := by
  have hk : 8192 * b.val + k.val < 32768 := by omega
  have hk' : 8192 * b.val + k'.val < 32768 := by omega
  rw [valT_apply A b e k hk, valT_apply A b e k' hk']
  have e1 : batch (rows A) b e k = (A (ix2 (⟨8192 * b.val + k.val, hk⟩ : Fin 32768) e)).toNat := dif_pos ⟨k.isLt, b.isLt⟩
  have e2 : batch (rows A) b e k' = (A (ix2 (⟨8192 * b.val + k'.val, hk'⟩ : Fin 32768) e)).toNat := dif_pos ⟨k'.isLt, b.isLt⟩
  rw [e1, e2]
  show (BitVec.ofBool (decide (Ideal.ofBits .f32 _ < Ideal.ofBits .f32 _)) == 1#1) = _
  rw [decide_eq_decide.mpr (lt_iff _ _ (hA _) (hA _).le)]
  cases decide ((A (ix2 (⟨8192 * b.val + k'.val, hk'⟩ : Fin 32768) e)).toNat < _) <;> rfl

theorem batch_lt (hA : ∀ j, (A j).toNat < 2139095040) (b : ℕ) (e : Fin 128) (t : ℕ) : batch (rows A) b e t < 2139095040 := by
  unfold batch
  split_ifs
  · exact hA _
  · decide

/-- A stable sort by the word alone keeps the earlier of two equal words first. -/
theorem sort_eq (p : ℕ → ℕ) : sortedFrom (fun a b : Fin 8192 => decide (p b < p a)) = sortedFrom (Before p) := by
  have hB := before_strict p
  have h : stableSort (fun a b : Fin 8192 => decide (p b < p a)) (List.finRange 8192) = stableSort (Before p) (List.finRange 8192) := by
    refine hB.eq_stableSort_of_sorted (perm_stableSort _ _) ?_
    refine (PlanTiles.pairwise_stableSort_lex (fun a : Fin 8192 => p a) (· < ·) (List.finRange 8192) (List.pairwise_lt_finRange 8192)).imp fun {a b} h => ?_
    replace h : p b < p a ∨ (p a = p b ∧ a < b) := h
    simp only [Before, Bool.or_eq_false_iff, Bool.and_eq_false_iff, decide_eq_false_iff_not]
    rcases h with h | ⟨h, hl⟩
    · exact ⟨by omega, Or.inl (by omega)⟩
    · exact ⟨by omega, Or.inr (lt_asymm hl)⟩
  funext k
  exact Fin.ext (congrArg Fin.val (List.getElem_of_eq h _))

theorem topK_snd {α : Type} {s t : Shape} (d : ℕ) (gt : α → α → BitVec 1) (x : s.Idx → α) (h : s.Slices (fun _ => 0) t) (hd : d < s.rank) (j : t.Idx)
    (J : s.Idx) (hJ : ∀ a, (J a).val = (j (Fin.cast h.1.symm a)).val) :
    (Host.topK t d gt x h).2 j = BitVec.ofNat 32 (sortedFrom (fun k k' => gt (x (J.along ⟨d, hd⟩ k)) (x (J.along ⟨d, hd⟩ k')) == 1#1) (J ⟨d, hd⟩)).val := by
  have hx : ∀ X : s.Idx → BitVec 32, extractStridedSlice t (fun _ => 0) X h j = X J := fun X =>
    congrArg X (funext fun a => Fin.ext ((Nat.zero_add _).trans (hJ a).symm))
  unfold Host.topK Host.sort2
  simp only [dif_pos hd, hx]
  exact congrArg (fun k : Fin (s.size ⟨d, hd⟩) => BitVec.ofNat 32 k.val) (Function.update_self _ _ _)

theorem topT_apply (hA : ∀ j, (A j).toNat < 2139095040) (b : Fin 4) (e : Fin 128) (i : Fin 1024) :
    topT A (ix3 b e i) = BitVec.ofNat 32 (sortedFrom (Before (batch (rows A) b e)) (i.castLE (by omega))).val := by
  rw [← sort_eq]
  have e0 : (fun a b' : Fin 8192 => decide (batch (rows A) b e b' < batch (rows A) b e a))
      = fun a b' => (FloatOps.cmpfTotal (F := Ideal) (φ := .f32) .gt (valT A (ix3 b e a)) (valT A (ix3 b e b')) == 1#1) :=
    funext fun a => funext fun b' => (val_lt A hA b e a b').symm
  rw [e0]
  have ea : ∀ (j : S4x128x8192.Idx) (h : 2 < S4x128x8192.rank) (k : Fin (S4x128x8192.size ⟨2, h⟩)), j.along ⟨2, h⟩ k = ix3 (j 0) (j 1) k := fun j h k =>
    funext fun a => by match a with | 0 => rfl | 1 => rfl | 2 => rfl
  unfold topT
  rw [topK_snd 2 _ _ _ (show 2 < S4x128x8192.rank by decide) _ (ix3 b e (i.castLE (by omega))) (fun a => by match a with | 0 => rfl | 1 => rfl | 2 => rfl)]
  simp only [ea]
  rfl

/-! ## The taken tokens -/

theorem foldl_ori {ι : Type} (f : ι → BitVec 1) : ∀ (l : List ι) (r : BitVec 1),
    l.foldl (fun r n => IntOp.ori r (f n)) r = 1#1 ↔ r = 1#1 ∨ ∃ n ∈ l, f n = 1#1
  | [], r => by simp
  | a :: l, r => by
    have e : ∀ x y : BitVec 1, IntOp.ori x y = 1#1 ↔ x = 1#1 ∨ y = 1#1 := by decide
    rw [List.foldl_cons, foldl_ori f l, e]
    simp only [List.mem_cons, exists_eq_or_imp, or_assoc]

theorem reduce_ori {s t u : Shape} {axes : List (Fin s.rank)} (x : s.Idx → BitVec 1) (init : u.Idx → BitVec 1) (h : s.ReducesTo axes t) (hu : 0 < u.numel)
    (j : t.Idx) (h0 : init (Shape.Idx.first hu) = 0#1) : Host.reduce IntOp.ori x init h hu j = 1#1 ↔ ∃ i, h.drop i = j ∧ x i = 1#1 := by
  rw [Host.reduce_eq_foldl, h0, foldl_ori]
  simp only [List.mem_filter, List.mem_map, List.mem_finRange, true_and, decide_eq_true_eq]
  constructor
  · rintro (h | ⟨i, ⟨-, hi⟩, hx⟩)
    · exact absurd h (by decide)
    · exact ⟨i, hi, hx⟩
  · rintro ⟨i, hi, hx⟩
    exact Or.inr ⟨i, ⟨⟨s.rowMajor i, Equiv.symm_apply_apply _ _⟩, hi⟩, hx⟩

theorem takenT_apply (hA : ∀ j, (A j).toNat < 2139095040) (b : Fin 4) (t : Fin 8192) (e : Fin 128) :
    takenT A (ix3 b t e) = 1#1 ↔ Sel (batch (rows A) b e) t := by
  have e0 : takenT A (ix3 b t e) = takenR A (ix3 b e t) := by pointwise [takenT]
  rw [e0]
  unfold takenR
  rw [reduce_ori _ _ _ _ _ rfl, ← top_iff _ (batch_lt A hA b e) t]
  have ed : ∀ i : S4x128x1024x8192.Idx, reducesTo_S4x128x1024x8192_S4x128x8192_d2.drop i = ix3 (i 0) (i 1) (i 3) := fun i =>
    funext fun a => by match a with | 0 => rfl | 1 => rfl | 2 => rfl
  have ew : ∀ (k : Fin 1024), hitT A (ix4 b e k t) = 1#1
      ↔ sortedFrom (Before (batch (rows A) b e)) (k.castLE (by omega)) = t := by
    intro k
    have hb : ∀ a c : BitVec 32, IntOp.cmpi CmpIPredicate.eq a c = 1#1 ↔ a = c := by
      intro a c
      show BitVec.ofBool (a == c) = 1#1 ↔ a = c
      rcases h : (a == c) <;> simp_all
    refine (hb (topT A (ix3 b e k)) (BitVec.ofNat 32 t.val)).trans ?_
    rw [topT_apply A hA]
    constructor
    · intro h
      have h' := congrArg BitVec.toNat h
      simp only [BitVec.toNat_ofNat] at h'
      rw [Nat.mod_eq_of_lt (by omega), Nat.mod_eq_of_lt (by omega)] at h'
      exact Fin.ext h'
    · intro h
      rw [h]
  constructor
  · rintro ⟨i, hi, hx⟩
    rw [ed] at hi
    have h0 : i 0 = b := congrFun hi 0
    have h1 : i 1 = e := congrFun hi 1
    have h3 : i 3 = t := congrFun hi 2
    have hi' : i = ix4 b e (i 2) t := funext fun a => by match a with | 0 => exact h0 | 1 => exact h1 | 2 => rfl | 3 => exact h3
    rw [hi'] at hx
    exact ⟨i 2, (ew _).mp hx⟩
  · rintro ⟨k, hk⟩
    exact ⟨ix4 b e k t, ed _, (ew k).mpr hk⟩

/-! ## The ranks -/

theorem bit_num (x : BitVec 1) : FloatOps.uitofp (F := Ideal) FTy.f32 x = if x = 1#1 then (1 : EReal) else 0 := by
  have h : x = 0#1 ∨ x = 1#1 := by revert x; decide
  show (((x.toNat : ℝ)) : EReal) = _
  rcases h with rfl | rfl <;> simp

theorem slt_token (x t : Fin 8192) : IntOp.cmpi CmpIPredicate.slt (BitVec.ofNat 32 x.val) (BitVec.ofNat 32 t.val) = 1#1 ↔ x.val < t.val := by
  have e : ∀ y : Fin 8192, (BitVec.ofNat 32 y.val).toInt = y.val := fun y => by
    rw [BitVec.toInt_eq_toNat_of_lt (by rw [BitVec.toNat_ofNat]; omega), BitVec.toNat_ofNat, Nat.mod_eq_of_lt (by omega)]
  show BitVec.ofBool (BitVec.slt _ _) = 1#1 ↔ _
  rw [BitVec.slt, e, e]
  by_cases h : x.val < t.val <;> simp [h]

theorem rankT_apply (T : IVec S4x8192x128 1) (P : ℕ → Prop) [DecidablePred P] (b : Fin 4) (t : Fin 8192) (e : Fin 128)
    (hT : ∀ s : Fin 8192, T (ix3 b s e) = 1#1 ↔ P s) : rankT T (ix3 b t e) = num (Nat.count P t) := by
  pointwise [rankT]
  have hs : ∀ x : Fin 8192, FloatOps.uitofp (F := Ideal) FTy.f32 (T (ix3 b x e)) *
        FloatOps.uitofp (F := Ideal) FTy.f32 (IntOp.cmpi CmpIPredicate.slt (BitVec.ofNat 32 x.val) (BitVec.ofNat 32 t.val))
      = if (x.val < t.val ∧ P x.val) then (1 : EReal) else 0 := by
    intro x
    rw [bit_num, bit_num]
    simp only [slt_token, hT]
    by_cases h1 : P x.val <;> by_cases h2 : x.val < t.val <;> simp [h1, h2]
  simp only [hs]
  rw [sum_num (fun s => s < t.val ∧ P s), count_lt_and P t.val 8192 (by omega)]

/-! ## The two results -/

theorem slotT_eq (hA : ∀ j, (A j).toNat < 2139095040) : slotT A = fun i => slotAt (rows A) (i 0).val (i 1) := by
  funext i
  obtain ⟨r, e, rfl⟩ : ∃ (r : Fin 32768) (e : Fin 128), i = ix2 r e := ⟨i 0, i 1, funext fun a => by match a with | 0 => rfl | 1 => rfl⟩
  have hb : r.val / 8192 < 4 := by omega
  have ht : r.val % 8192 < 8192 := Nat.mod_lt _ (by decide)
  have e0 : slotT A (ix2 r e) = Ideal.fptosi 32 (Scalar.select (takenT A (ix3 ⟨r.val / 8192, hb⟩ ⟨r.val % 8192, ht⟩ e)) (rankT (takenT A) (ix3 ⟨r.val / 8192, hb⟩ ⟨r.val % 8192, ht⟩ e)) (Ideal.ofBits .f32 3212836864#32)) := by
    pointwise [slotT, fillT]
    rfl
  rw [e0]
  have hS := takenT_apply A hA ⟨r.val / 8192, hb⟩ ⟨r.val % 8192, ht⟩ e
  have hR := rankT_apply (takenT A) (Sel (batch (rows A) (r.val / 8192) e)) ⟨r.val / 8192, hb⟩ ⟨r.val % 8192, ht⟩ e (fun s => takenT_apply A hA _ s e)
  show _ = slotWord (batch (rows A) (r.val / 8192) e) (r.val % 8192)
  rw [hR]
  unfold slotWord Scalar.select
  by_cases h : Sel (batch (rows A) (r.val / 8192) e) (r.val % 8192)
  · rw [if_pos h, if_pos (show takenT A (ix3 ⟨r.val / 8192, hb⟩ ⟨r.val % 8192, ht⟩ e) = 1 from hS.mpr h), fptosi_num _ ((Nat.count_le _).trans ht.le)]
  · rw [if_neg h, if_neg (show ¬takenT A (ix3 ⟨r.val / 8192, hb⟩ ⟨r.val % 8192, ht⟩ e) = 1 from fun h' => h (hS.mp h')), fptosi_neg_one]

theorem startT_eq (hA : ∀ j, (A j).toNat < 2139095040) : startT A = fun i => startAt (rows A) (i 0).val (i 1) := by
  funext i
  obtain ⟨r, e, rfl⟩ : ∃ (r : Fin 128) (e : Fin 128), i = ix2 r e := ⟨i 0, i 1, funext fun a => by match a with | 0 => rfl | 1 => rfl⟩
  have hb : r.val / 32 < 4 := by omega
  have ht : 256 * (r.val % 32) < 8192 := by omega
  have e0 : startT A (ix2 r e) = Ideal.fptosi 32 (rankT (takenT A) (ix3 ⟨r.val / 32, hb⟩ ⟨256 * (r.val % 32), ht⟩ e)) := by
    pointwise [startT]
    rfl
  have hR := rankT_apply (takenT A) (Sel (batch (rows A) (r.val / 32) e)) ⟨r.val / 32, hb⟩ ⟨256 * (r.val % 32), ht⟩ e (fun s => takenT_apply A hA _ s e)
  rw [e0, hR, fptosi_num _ ((Nat.count_le _).trans ht.le)]
  rfl

/-- The run of the reference, its results as the slots and the counts at the tiles' starts. -/
theorem run_eq (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v22) = slotT (m ((c.tc : Thread nD τ).loc main_arg0))
      ∧ r.2.mem ((c.tc : Thread nD τ).loc main_v25) = startT (m ((c.tc : Thread nD τ).loc main_arg0))
      ∧ r.2.mem ((c.tc : Thread nD τ).loc main_arg0) = m ((c.tc : Thread nD τ).loc main_arg0) :=
  (θ_run defs _ _).mono (fun _ h c => ⟨(h c).1.trans rfl, (h c).2.1.trans rfl, (h c).2.2⟩) (Value.run (F := Ideal) m ρ)

end Cert.Reference4Ideal.Routing
-- ==== Proof.Routing.lean ====
/-
  The value of the routing kernel over the extended reals.
-/
module

public import proofs.«01_k».proof.Proof.Gen.Kernel4Ideal.Value
public import proofs.«01_k».proof.Proof.RouteCount
public import proofs.«01_k».proof.Proof.RouteFloat
public import Idealize.ShloMosaic.Lib.Pipeline.ValueKit
public import Idealize.ShloMosaic.Lib.Pipeline.ValueKit.Held
public import Idealize.ShloMosaic.Lib.Pipeline.ReadBack
public import Idealize.ShloMosaic.Lib.Pointwise.Tactic
public import Idealize.ShloMosaic.Lib.StableHlo.ReadAt

@[expose] public section

set_option maxRecDepth 16384

noncomputable section

namespace Cert.Kernel4Ideal.Routing

open Cert.Kernel4Ideal Cert.Kernel4Ideal.Gen Idealize.ShloMosaic Idealize.ShloMosaic.TcCoe Idealize.SL.Sem
open Cert.RouteCount Cert.RouteFloat

variable (m : (ℓ : Loc nD τ sig) → Buf (Elt Ideal) ℓ)

/-! ## One lane of a block -/

/-- The words of lane `e` of a block, by token. -/
def lane (W : IVec S8192x128 32) (e : Fin 128) (t : ℕ) : ℕ := if h : t < 8192 then (W (ix2 (⟨t, h⟩ : Fin 8192) e)).toNat else 0

/-- The block's floats are those the words denote, and the words are those of nonnegative finite floats. -/
structure Holds (x : Vec Ideal S8192x128 .f32) (W : IVec S8192x128 32) : Prop where
  val : ∀ (t : Fin 8192) (e : Fin 128), x (ix2 t e) = Ideal.ofBits .f32 (W (ix2 t e))
  lt : ∀ (t : Fin 8192) (e : Fin 128), (W (ix2 t e)).toNat < 2139095040

variable {x : Vec Ideal S8192x128 .f32} {W : IVec S8192x128 32}

theorem lane_eq (t : Fin 8192) (e : Fin 128) : lane W e t.val = (W (ix2 t e)).toNat := dif_pos t.isLt

theorem Holds.lane_lt (h : Holds x W) (e : Fin 128) (t : ℕ) : lane W e t < 2139095040 := by
  unfold lane
  split
  · exact h.lt _ _
  · omega

theorem word_toNat {n : ℕ} (h : n ≤ 2139095040) : (BitVec.ofNat 32 n).toNat = n := by
  rw [BitVec.toNat_ofNat, Nat.mod_eq_of_lt (by omega)]

theorem Holds.le_iff (h : Holds x W) (t : Fin 8192) (e : Fin 128) (n : ℕ) (hn : n ≤ 2139095040) :
    Ideal.ofBits .f32 (BitVec.ofNat 32 n) ≤ x (ix2 t e) ↔ n ≤ lane W e t.val := by
  rw [h.val, RouteFloat.le_iff _ _ (h.lt t e) (by rw [word_toNat hn]; exact hn), word_toNat hn, lane_eq]

theorem Holds.lt_iff (h : Holds x W) (t : Fin 8192) (e : Fin 128) (n : ℕ) (hn : n < 2139095040) :
    Ideal.ofBits .f32 (BitVec.ofNat 32 n) < x (ix2 t e) ↔ n < lane W e t.val := by
  rw [h.val, RouteFloat.lt_iff _ _ (by rw [word_toNat hn.le]; exact hn) (h.lt t e).le, word_toNat hn.le, lane_eq]

theorem Holds.eq_iff (h : Holds x W) (t : Fin 8192) (e : Fin 128) (n : ℕ) (hn : n < 2139095040) :
    x (ix2 t e) = Ideal.ofBits .f32 (BitVec.ofNat 32 n) ↔ lane W e t.val = n := by
  rw [h.val, RouteFloat.eq_iff _ _ (h.lt t e) (by rw [word_toNat hn.le]; exact hn), word_toNat hn.le, lane_eq]

theorem off1 : ∀ k : Fin k0_t2_loop.trips, k0_off1 k 0 = 512 * k.val ∧ k0_off1 k 1 = 0 := by decide +kernel
theorem off2 : ∀ k : Fin k0_t3_loop.trips, k0_off2 k 0 = 512 * k.val ∧ k0_off2 k 1 = 0 := by decide +kernel
theorem off3 : ∀ (k : Fin k0_t4_loop.trips) (u : Fin 2), k0_off3 k (BitVec.ofNat 32 u.val) 0 = 256 * (2 * k.val + u.val) ∧ k0_off3 k (BitVec.ofNat 32 u.val) 1 = 0 := by decide +kernel
theorem off4 : ∀ (k : Fin k0_t4_loop.trips) (u : Fin 2), k0_off4 k (BitVec.ofNat 32 u.val) 0 = 2 * k.val + u.val ∧ k0_off4 k (BitVec.ofNat 32 u.val) 1 = 0 := by decide +kernel

/-- A bit as the kernel makes it. -/
theorem bit_word : ∀ k : Fin k0_t1_loop.trips, Scalar.shli (1#32) (Scalar.subi (30#32) (Scf.iv 0#32 1#32 k.val)) = BitVec.ofNat 32 (2 ^ (30 - k.val)) := by
  decide +kernel

theorem pay2_apply (k : Fin k0_t1_loop.trips) (a : IVec S1x128 32) (j : S1x128.Idx) :
    k0_pay2 k a j = a j ||| BitVec.ofNat 32 (2 ^ (30 - k.val)) := by
  pointwise [k0_pay2]
  rw [bit_word]
  rfl

theorem Holds.pay2 (h : Holds x W) (k : Fin k0_t1_loop.trips) (a : IVec S1x128 32) (e : Fin 128)
    (ha : a (ix2 0 e) = BitVec.ofNat 32 (bits (lane W e) k.val)) :
    k0_pay2 k a (ix2 0 e) = BitVec.ofNat 32 (bits (lane W e) k.val + 2 ^ (30 - k.val)) := by
  have hk : k.val < 31 := Nat.lt_of_lt_of_le k.isLt k0_t1_abs.2.1
  rw [pay2_apply, ha, ← bits_or _ (h.lane_lt e) k.val hk, BitVec.ofNat_or]

theorem pay4_apply (k : Fin k0_t1_loop.trips) (a : IVec S1x128 32) (v : IVec S8x128 32) (X : Vec Ideal S512x128 .f32) (s : Fin 8) (e : Fin 128) :
    k0_pay4 (F := Ideal) k a v X (ix2 s e)
      = IntOp.addi (v (ix2 s e)) (Finset.univ.fold IntOp.addi 0#32 fun q : Fin 64 =>
          if Ideal.ofBits .f32 (k0_pay2 k a (ix2 0 e)) ≤ X (ix2 (⟨q.val * 8 + s.val, by omega⟩ : Fin 512) e) then 1#32 else 0#32) := by
  pointwise [k0_pay4]

theorem pay5_apply (k : Fin k0_t1_loop.trips) (a : IVec S1x128 32) (v : IVec S8x128 32) (e : Fin 128) :
    k0_pay5 k a v (ix2 0 e)
      = Scalar.select (IntOp.cmpi CmpIPredicate.sge (Finset.univ.fold IntOp.addi 0#32 fun s : Fin 8 => v (ix2 s e)) 1024#32) (k0_pay2 k a (ix2 0 e)) (a (ix2 0 e)) := by
  pointwise [k0_pay5]

theorem pay6_apply (v2 : IVec S1x128 32) (e : Fin 128) : k0_pay6 (F := Ideal) v2 (ix2 0 e) = Ideal.ofBits .f32 (v2 (ix2 0 e)) := by
  pointwise [k0_pay6]

theorem pay8_apply (v2 : IVec S1x128 32) (v : IVec S8x128 32) (X : Vec Ideal S512x128 .f32) (s : Fin 8) (e : Fin 128) :
    k0_pay8 (F := Ideal) v2 v X (ix2 s e)
      = IntOp.addi (v (ix2 s e)) (Finset.univ.fold IntOp.addi 0#32 fun q : Fin 64 =>
          if k0_pay6 (F := Ideal) v2 (ix2 0 e) < X (ix2 (⟨q.val * 8 + s.val, by omega⟩ : Fin 512) e) then 1#32 else 0#32) := by
  pointwise [k0_pay8]

theorem pay9_apply (v : IVec S8x128 32) (e : Fin 128) :
    k0_pay9 (F := Ideal) v (ix2 0 e) = FloatOps.sitofp .f32 (IntOp.subi (1024#32) (Finset.univ.fold IntOp.addi 0#32 fun s : Fin 8 => v (ix2 s e))) := by
  pointwise [k0_pay9]

theorem select_bool {α : Type} (P : Prop) [Decidable P] (a b : α) : Scalar.select (BitVec.ofBool (decide P)) a b = if P then a else b := by
  by_cases h : P
  · rw [decide_eq_true h, if_pos h]; rfl
  · rw [decide_eq_false h, if_neg h]; rfl

theorem slt_small (a b : ℕ) (ha : a < 256) (hb : b < 256) :
    IntOp.cmpi CmpIPredicate.slt (BitVec.ofNat 32 a) (BitVec.ofNat 32 b) = BitVec.ofBool (decide (a < b)) := by
  have e : ∀ n < 256, (BitVec.ofNat 32 n).toInt = n := fun n h => by
    rw [BitVec.toInt_eq_toNat_of_lt (by simp [BitVec.toNat_ofNat]; omega), BitVec.toNat_ofNat, Nat.mod_eq_of_lt (by omega)]
  show BitVec.ofBool _ = _
  congr 1
  simp only [BitVec.slt, e a ha, e b hb]
  simp

theorem pay10_apply (r s : Fin 256) : k0_pay10 (F := Ideal) (ix2 r s) = if s.val < r.val then (1 : EReal) else 0 := by
  pointwise [k0_pay10]
  rw [slt_small _ _ s.isLt r.isLt, select_bool]

/-- A row of the strictly lower matrix counts the rows before it. -/
theorem lower_mul (P : ℕ → Prop) [DecidablePred P] (r : Fin 256) (g : Fin 256 → EReal) (hg : ∀ s, g s = if P s.val then 1 else 0) :
    ∑ s : Fin 256, k0_pay10 (F := Ideal) (ix2 r s) * g s = num (Nat.count P r.val) := by
  rw [← count_lt_and P r.val 256 r.isLt.le, ← sum_num (n := 256) (fun s => s < r.val ∧ P s)]
  refine Finset.sum_congr rfl fun s _ => ?_
  rw [pay10_apply, hg]
  by_cases h1 : s.val < r.val <;> by_cases h2 : P s.val <;> simp [h1, h2]

theorem lower_select (P : ℕ → Prop) [DecidablePred P] (r : Fin 256) (g : Fin 256 → BitVec 1) (hg : ∀ s, g s = BitVec.ofBool (decide (P s.val))) :
    ∑ s : Fin 256, Scalar.select (g s) (k0_pay10 (F := Ideal) (ix2 r s)) 0 = num (Nat.count P r.val) := by
  rw [← count_lt_and P r.val 256 r.isLt.le, ← sum_num (n := 256) (fun s => s < r.val ∧ P s)]
  refine Finset.sum_congr rfl fun s _ => ?_
  rw [pay10_apply, hg, select_bool]
  by_cases h1 : s.val < r.val <;> by_cases h2 : P s.val <;> simp [h1, h2]

theorem ori_bool (P Q : Prop) [Decidable P] [Decidable Q] : IntOp.ori (BitVec.ofBool (decide P)) (BitVec.ofBool (decide Q)) = BitVec.ofBool (decide (P ∨ Q)) := by
  by_cases hp : P <;> by_cases hq : Q <;> simp [hp, hq, IntOp.ori]

theorem andi_bool (P Q : Prop) [Decidable P] [Decidable Q] : IntOp.andi (BitVec.ofBool (decide P)) (BitVec.ofBool (decide Q)) = BitVec.ofBool (decide (P ∧ Q)) := by
  by_cases hp : P <;> by_cases hq : Q <;> simp [hp, hq, IntOp.andi]

theorem bool_congr {P Q : Prop} {_ : Decidable P} {_ : Decidable Q} (h : P ↔ Q) : BitVec.ofBool (decide P) = BitVec.ofBool (decide Q) :=
  congrArg _ (decide_eq_decide.mpr h)

/-- The room the tokens above the threshold leave. -/
theorem room_word (n : ℕ) (h : n < 1024) : (FloatOps.sitofp (F := Ideal) .f32 (IntOp.subi (1024#32) (BitVec.ofNat 32 n)) : EReal) = num (1024 - n) := by
  have e : (IntOp.subi (1024#32) (BitVec.ofNat 32 n) : BitVec 32) = BitVec.ofNat 32 (1024 - n) := by
    apply BitVec.eq_of_toNat_eq
    show (1024#32 - BitVec.ofNat 32 n).toNat = _
    simp only [BitVec.toNat_sub, BitVec.toNat_ofNat]
    omega
  rw [e]
  show (((BitVec.ofNat 32 (1024 - n)).toInt : ℝ) : EReal) = _
  rw [BitVec.toInt_eq_toNat_of_lt (by simp [BitVec.toNat_ofNat]; omega), BitVec.toNat_ofNat, Nat.mod_eq_of_lt (by omega)]
  rfl

section Rows
variable {p : ℕ → ℕ} {e : Fin 128} {B : ℕ} {v3 v11 a5 a6 : FVec Ideal S1x128 .f32} {Y Z : Vec Ideal S256x128 .f32}

/-- What is known of 256 rows of a lane beginning at token `B`, given the float of the threshold. -/
structure Rows (p : ℕ → ℕ) (e : Fin 128) (B : ℕ) (v3 : FVec Ideal S1x128 .f32) (Y : Vec Ideal S256x128 .f32) : Prop where
  gt : ∀ r : Fin 256, v3 (ix2 0 e) < Y (ix2 r e) ↔ thr p < p (B + r.val)
  eq : ∀ r : Fin 256, Y (ix2 r e) = v3 (ix2 0 e) ↔ p (B + r.val) = thr p

theorem pay15_apply (h : Rows p e B v3 Y) (r : Fin 256) : k0_pay15 (F := Ideal) v3 Y (ix2 r e) = BitVec.ofBool (decide (thr p < p (B + r.val))) := by
  pointwise [k0_pay15, k0_pay14]
  exact bool_congr (h.gt r)

theorem pay17_apply (h : Rows p e B v3 Y) (r : Fin 256) : k0_pay17 (F := Ideal) v3 Y (ix2 r e) = BitVec.ofBool (decide (p (B + r.val) = thr p)) := by
  pointwise [k0_pay17, k0_pay14]
  exact bool_congr (h.eq r)

theorem pay18_apply (h : Rows p e B v3 Y) (r : Fin 256) : k0_pay18 (F := Ideal) v3 Y (ix2 r e) = if p (B + r.val) = thr p then (1 : EReal) else 0 := by
  pointwise [k0_pay18, k0_pay16, k0_pay13]
  exact if_congr (h.eq r) rfl rfl

theorem pay19_apply (h : Rows p e B v3 Y) (r : Fin 256) : k0_pay19 (F := Ideal) v3 Y (ix2 r e) = if p (B + r.val) = thr p then (1 : EReal) else 0 := by
  pointwise [k0_pay19, k0_pay17, k0_pay14]
  exact if_congr (h.eq r) rfl rfl

theorem num_count_add (P : ℕ → Prop) [DecidablePred P] (B r : ℕ) : num (Nat.count (fun s => P (B + s)) r) + num (Nat.count P B) = num (Nat.count P (B + r)) := by
  rw [num_add, Nat.count_add, Nat.add_comm]

/-- The chosen rows, from the count of ties before the first one. -/
theorem choose (r : ℕ) : IntOp.ori (BitVec.ofBool (decide (thr p < p (B + r)))) (IntOp.andi (BitVec.ofBool (decide (p (B + r) = thr p)))
      (BitVec.ofBool (decide (num (Nat.count (fun t => p t = thr p) (B + r)) < num (1024 - reach p (thr p + 1)))))) = BitVec.ofBool (decide (Sel p (B + r))) := by
  rw [andi_bool, ori_bool]
  exact bool_congr (by rw [num_lt]; rfl)

theorem pay20_apply (h : Rows p e B v3 Y) (h11 : v11 (ix2 0 e) = num (1024 - reach p (thr p + 1)))
    (h5 : a5 (ix2 0 e) = num (Nat.count (fun t => p t = thr p) B)) (r : Fin 256) :
    k0_pay20 (F := Ideal) v3 v11 k0_pay10 a5 Y (ix2 r e) = BitVec.ofBool (decide (Sel p (B + r.val))) := by
  pointwise [k0_pay20, k0_pay16, k0_pay13]
  rw [← choose r.val, lower_mul (fun s => p (B + s) = thr p) r _ (pay18_apply h), h5, h11, num_count_add (fun t => p t = thr p)]
  exact congrArg₂ _ (bool_congr (h.gt r)) (congrArg₂ _ (bool_congr (h.eq r)) (bool_congr Iff.rfl))

theorem pay21_apply (h : Rows p e B v3 Y) (h5 : a5 (ix2 0 e) = num (Nat.count (fun t => p t = thr p) B)) :
    k0_pay21 (F := Ideal) v3 a5 Y (ix2 0 e) = num (Nat.count (fun t => p t = thr p) (B + 256)) := by
  pointwise [k0_pay21]
  rw [Finset.sum_congr rfl fun s _ => pay18_apply h s, sum_num (fun s => p (B + s) = thr p), h5, num_add, Nat.count_add]

theorem pay25_apply (h : Rows p e B v3 Y) (h5 : a5 (ix2 0 e) = num (Nat.count (fun t => p t = thr p) B)) :
    k0_pay25 (F := Ideal) (k0_pay19 v3 Y) a5 (ix2 0 e) = num (Nat.count (fun t => p t = thr p) (B + 256)) := by
  pointwise [k0_pay25]
  rw [Finset.sum_congr rfl fun s _ => pay19_apply h s, sum_num (fun s => p (B + s) = thr p), h5, num_add, Nat.count_add]

theorem pay24_apply (h : Rows p e B v3 Y) (h' : Rows p e (B + 256) v3 Z) (h11 : v11 (ix2 0 e) = num (1024 - reach p (thr p + 1)))
    (h5 : a5 (ix2 0 e) = num (Nat.count (fun t => p t = thr p) B)) (r : Fin 256) :
    k0_pay24 (F := Ideal) (k0_pay15 v3 Z) (k0_pay17 v3 Z) (k0_pay22 v3 k0_pay10 a5 Y Z) (k0_pay23 v11) (ix2 r e)
      = BitVec.ofBool (decide (Sel p (B + 256 + r.val))) := by
  have e22 : k0_pay22 (F := Ideal) v3 k0_pay10 a5 Y Z (ix2 r e) = num (Nat.count (fun t => p t = thr p) (B + 256 + r.val)) := by
    pointwise [k0_pay22]
    rw [lower_mul (fun s => p (B + 256 + s) = thr p) r _ (pay19_apply h'), pay21_apply h h5, num_count_add (fun t => p t = thr p)]
  have e23 : k0_pay23 (F := Ideal) v11 (ix2 r e) = num (1024 - reach p (thr p + 1)) := by
    rw [← h11]
    pointwise [k0_pay23]
  pointwise [k0_pay24]
  rw [← choose r.val, e22, e23, pay15_apply h', pay17_apply h']

variable {w : IVec S256x128 1}

theorem pay30_apply (hw : ∀ r : Fin 256, w (ix2 r e) = BitVec.ofBool (decide (Sel p (B + r.val)))) (h6 : a6 (ix2 0 e) = num (Nat.count (Sel p) B)) :
    k0_pay30 (F := Ideal) a6 w (ix2 0 e) = num (Nat.count (Sel p) (B + 256)) := by
  pointwise [k0_pay30, k0_pay26]
  rw [Finset.sum_congr rfl fun s _ => (congrArg (fun b => Scalar.select b (1 : EReal) 0) (hw s)).trans (select_bool _ _ _),
    sum_num (fun s => Sel p (B + s)), h6, num_add, Nat.count_add]

theorem slot_word (hB : B ≤ 8192) : Ideal.fptosi 32 (Scalar.select (BitVec.ofBool (decide (Sel p B))) (num (Nat.count (Sel p) B)) (Ideal.ofBits .f32 3212836864#32)) = slotWord p B := by
  unfold slotWord
  rw [select_bool]
  split
  · exact fptosi_num _ (Nat.le_trans (Nat.count_le _) hB)
  · exact fptosi_neg_one

theorem pay28_apply (hw : ∀ r : Fin 256, w (ix2 r e) = BitVec.ofBool (decide (Sel p (B + r.val)))) (h6 : a6 (ix2 0 e) = num (Nat.count (Sel p) B))
    (r : Fin 256) (hB : B + r.val ≤ 8192) : k0_pay28 (F := Ideal) k0_pay10 a6 w (ix2 r e) = slotWord p (B + r.val) := by
  pointwise [k0_pay28, k0_pay26]
  rw [lower_select (fun s => Sel p (B + s)) r _ hw, h6, num_count_add (Sel p), hw]
  exact slot_word hB

theorem pay32_apply (hw : ∀ r : Fin 256, w (ix2 r e) = BitVec.ofBool (decide (Sel p (B + r.val)))) (h6 : a6 (ix2 0 e) = num (Nat.count (Sel p) B)) (hB : B + 256 ≤ 8192) :
    k0_pay32 (F := Ideal) a6 w (ix2 0 e) = BitVec.ofNat 32 (Nat.count (Sel p) (B + 256)) := by
  pointwise [k0_pay32]
  rw [pay30_apply hw h6]
  exact fptosi_num _ (Nat.le_trans (Nat.count_le _) hB)

theorem pay29_apply (h6 : a6 (ix2 0 e) = num (Nat.count (Sel p) B)) (hB : B ≤ 8192) :
    k0_pay29 (F := Ideal) a6 (ix2 0 e) = BitVec.ofNat 32 (Nat.count (Sel p) B) := by
  pointwise [k0_pay29]
  rw [h6]
  exact fptosi_num _ (Nat.le_trans (Nat.count_le _) hB)

variable {v39 v43 : IVec S256x128 1} {v64 v65 : FVec Ideal S256x128 .f32}

theorem pay31_apply (hw : ∀ r : Fin 256, w (ix2 r e) = BitVec.ofBool (decide (Sel p (B + r.val))))
    (hw' : ∀ r : Fin 256, k0_pay24 (F := Ideal) v39 v43 v64 v65 (ix2 r e) = BitVec.ofBool (decide (Sel p (B + 256 + r.val))))
    (h6 : a6 (ix2 0 e) = num (Nat.count (Sel p) B)) (r : Fin 256) (hB : B + 256 + r.val ≤ 8192) :
    k0_pay31 (F := Ideal) k0_pay10 a6 v39 v43 w v64 v65 (ix2 r e) = slotWord p (B + 256 + r.val) := by
  pointwise [k0_pay31, k0_pay27]
  rw [lower_select (fun s => Sel p (B + 256 + s)) r _ hw', pay30_apply hw h6, num_count_add (Sel p), hw']
  exact slot_word hB

theorem pay12_apply (hw' : ∀ r : Fin 256, k0_pay24 (F := Ideal) v39 v43 v64 v65 (ix2 r e) = BitVec.ofBool (decide (Sel p (B + r.val))))
    (h6 : a6 (ix2 0 e) = num (Nat.count (Sel p) B)) :
    k0_pay12 (F := Ideal) (k0_pay27 v39 v43 v64 v65) a6 (ix2 0 e) = num (Nat.count (Sel p) (B + 256)) := by
  pointwise [k0_pay12, k0_pay27]
  rw [Finset.sum_congr rfl fun s _ => (congrArg (fun b => Scalar.select b (1 : EReal) 0) (hw' s)).trans (select_bool _ _ _),
    sum_num (fun s => Sel p (B + s)), h6, num_add, Nat.count_add]

end Rows

/-- The first result of a block. -/
def slots (W : IVec S8192x128 32) : IVec S8192x128 32 := fun y => slotWord (lane W (y 1)) (y 0).val

/-- The second result of a block. -/
def starts (W : IVec S8192x128 32) : IVec S32x128 32 := fun y => BitVec.ofNat 32 (Nat.count (Sel (lane W (y 1))) (256 * (y 0).val))

section Trips
variable (𝒱 : Variants) (c : Dev nD) (bd : Option 𝒱.V) (i : grid0.Coords) (arg1 : Memref sig .tc .vmem S8192x128 .f32) (harg1 : arg1.IsWhole)
  (arg2 : Memref sig .tc .vmem S8192x128 .i32) (harg2 : arg2.IsWhole) (arg3 : Memref sig .tc .vmem S32x128 .i32) (harg3 : arg3.IsWhole)
  (X : BufTy.Contents (Elt Ideal) arg1.view.ty)

theorem ld_row {n o : ℕ} (off : Fin 2 → ℕ) (inb) (r : Fin n) (e : Fin 128) (h0 : off 0 = o) (h1 : off 1 = 0) (hr : o + r.val < 8192) :
    View.ld x (Rect.unit (s := S8192x128) off ![n, 128] inb) (ix2 r e) = x (ix2 (⟨o + r.val, hr⟩ : Fin 8192) e) := by
  refine View.ld_unit_apply_of x _ _ _ _ _ fun a => ?_
  match a with
  | 0 => exact congrArg (· + r.val) h0.symm
  | 1 => exact ((congrArg (· + e.val) h1).trans (Nat.zero_add _)).symm

theorem st2 (h : Holds x W) (hX : arg1.view.read (Elt Ideal) X = x) (k1 : Fin k0_t1_loop.trips) (a : IVec S1x128 32) (e : Fin 128)
    (ha : a (ix2 0 e) = BitVec.ofNat 32 (bits (lane W e) k1.val)) (s : Fin 8) (j : ℕ) (hj : j ≤ 16) :
    st_k0_t2 (F := Ideal) 𝒱 c bd i arg1 harg1 arg2 harg2 arg3 harg3 k1 a X k0_pay3 j (ix2 s e)
      = BitVec.ofNat 32 (Nat.count (fun q => bits (lane W e) k1.val + 2 ^ (30 - k1.val) ≤ lane W e (8 * q + s.val)) (64 * j)) := by
  have hk : k1.val < 31 := Nat.lt_of_lt_of_le k1.isLt k0_t1_abs.2.1
  induction j with
  | zero => rfl
  | succ j ih =>
    have ht : j < k0_t2_loop.trips := Nat.lt_of_lt_of_le hj (by decide +kernel)
    rw [st_k0_t2_succ (F := Ideal) 𝒱 c bd i arg1 harg1 arg2 harg2 arg3 harg3 k1 a X k0_pay3 ⟨j, ht⟩]
    unfold tripR_k0_t2 trip_k0_t2
    dsimp only
    rw [View.readAt_eq_ld, hX]
    rw [pay4_apply]
    rw [h.pay2 k1 a e ha, ih (by omega)]
    rw [show 64 * (j + 1) = 64 * j + 64 from by omega, Nat.count_add]
    refine (congrArg (IntOp.addi _) (fold_count (fun q => bits (lane W e) k1.val + 2 ^ (30 - k1.val) ≤ lane W e (8 * (64 * j + q) + s.val)) _ fun q => ?_)).trans (BitVec.ofNat_add ..).symm
    rw [ld_row _ _ _ _ (off1 ⟨j, ht⟩).1 (off1 ⟨j, ht⟩).2 (by show 512 * j + (q.val * 8 + s.val) < 8192; omega)]
    refine if_congr ?_ rfl rfl
    rw [h.le_iff _ _ _ (bits_lt _ (h.lane_lt e) k1.val hk)]
    have : 512 * j + (q.val * 8 + s.val) = 8 * (64 * j + q.val) + s.val := by omega
    exact iff_of_eq (congrArg (fun t => _ ≤ lane W e t) this)

theorem st1 (h : Holds x W) (hX : arg1.view.read (Elt Ideal) X = x) (e : Fin 128) (k : ℕ) (hk : k ≤ 31) :
    st_k0_t1 (F := Ideal) 𝒱 c bd i arg1 harg1 arg2 harg2 arg3 harg3 X k0_pay1 k (ix2 0 e) = BitVec.ofNat 32 (bits (lane W e) k) := by
  induction k with
  | zero => rfl
  | succ k ih =>
    have ht : k < k0_t1_loop.trips := Nat.lt_of_lt_of_le hk (by decide +kernel)
    rw [st_k0_t1_succ (F := Ideal) 𝒱 c bd i arg1 harg1 arg2 harg2 arg3 harg3 X k0_pay1 ⟨k, ht⟩]
    unfold tripR_k0_t1 trip_k0_t1
    dsimp only
    have ih := ih (by omega)
    rw [pay5_apply]
    have e16 : Scf.trips (0#32) (Scalar.addi 0#32 16#32) 1#32 = 16 := by decide +kernel
    rw [fold_ofNat _ _ fun s => (congrArg (fun n => st_k0_t2 (F := Ideal) 𝒱 c bd i arg1 harg1 arg2 harg2 arg3 harg3 ⟨k, ht⟩ _ X k0_pay3 n (ix2 s e)) e16).trans
      (st2 𝒱 c bd i arg1 harg1 arg2 harg2 arg3 harg3 X h hX ⟨k, ht⟩ _ e ih s 16 le_rfl)]
    rw [count_rows (fun t => bits (lane W e) k + 2 ^ (30 - k) ≤ lane W e t) (64 * 16)]
    have hr : Nat.count (fun t => bits (lane W e) k + 2 ^ (30 - k) ≤ lane W e t) (8 * (64 * 16)) = reach (lane W e) (bits (lane W e) k + 2 ^ (30 - k)) := rfl
    rw [hr, sge_word _ (reach_le _ _), h.pay2 ⟨k, ht⟩ _ e ih, ih]
    simp only [bits]
    split_ifs with hc
    · rw [decide_eq_true hc]; rfl
    · rw [decide_eq_false hc]; rfl

theorem Holds.thr_word (h : Holds x W) {v2 : IVec S1x128 32} {e : Fin 128} (hv2 : v2 (ix2 0 e) = BitVec.ofNat 32 (thr (lane W e))) :
    k0_pay6 (F := Ideal) v2 (ix2 0 e) = Ideal.ofBits .f32 (BitVec.ofNat 32 (thr (lane W e))) := by
  rw [pay6_apply, hv2]

theorem st3 (h : Holds x W) (hX : arg1.view.read (Elt Ideal) X = x) (v2 : IVec S1x128 32) (e : Fin 128)
    (hv2 : v2 (ix2 0 e) = BitVec.ofNat 32 (thr (lane W e))) (s : Fin 8) (j : ℕ) (hj : j ≤ 16) :
    st_k0_t3 (F := Ideal) 𝒱 c bd i arg1 harg1 arg2 harg2 arg3 harg3 v2 X k0_pay7 j (ix2 s e)
      = BitVec.ofNat 32 (Nat.count (fun q => thr (lane W e) + 1 ≤ lane W e (8 * q + s.val)) (64 * j)) := by
  induction j with
  | zero => rfl
  | succ j ih =>
    have ht : j < k0_t3_loop.trips := Nat.lt_of_lt_of_le hj (by decide +kernel)
    rw [st_k0_t3_succ (F := Ideal) 𝒱 c bd i arg1 harg1 arg2 harg2 arg3 harg3 v2 X k0_pay7 ⟨j, ht⟩]
    unfold tripR_k0_t3 trip_k0_t3
    dsimp only
    rw [View.readAt_eq_ld, hX]
    rw [pay8_apply]
    rw [h.thr_word hv2, ih (by omega)]
    rw [show 64 * (j + 1) = 64 * j + 64 from by omega, Nat.count_add]
    refine (congrArg (IntOp.addi _) (fold_count (fun q => thr (lane W e) + 1 ≤ lane W e (8 * (64 * j + q) + s.val)) _ fun q => ?_)).trans (BitVec.ofNat_add ..).symm
    rw [ld_row _ _ _ _ (off2 ⟨j, ht⟩).1 (off2 ⟨j, ht⟩).2 (by show 512 * j + (q.val * 8 + s.val) < 8192; omega)]
    refine if_congr ?_ rfl rfl
    rw [h.lt_iff _ _ _ (thr_lt _ (h.lane_lt e))]
    have : 512 * j + (q.val * 8 + s.val) = 8 * (64 * j + q.val) + s.val := by omega
    exact iff_of_eq (congrArg (fun t => thr (lane W e) < lane W e t) this)

theorem room (h : Holds x W) (hX : arg1.view.read (Elt Ideal) X = x) (v2 : IVec S1x128 32) (e : Fin 128)
    (hv2 : v2 (ix2 0 e) = BitVec.ofNat 32 (thr (lane W e))) :
    k0_pay9 (F := Ideal) (st_k0_t3 (F := Ideal) 𝒱 c bd i arg1 harg1 arg2 harg2 arg3 harg3 v2 X k0_pay7 16) (ix2 0 e)
      = num (1024 - reach (lane W e) (thr (lane W e) + 1)) := by
  rw [pay9_apply, fold_ofNat _ _ fun s => st3 𝒱 c bd i arg1 harg1 arg2 harg2 arg3 harg3 X h hX v2 e hv2 s 16 le_rfl]
  rw [count_rows (fun t => thr (lane W e) + 1 ≤ lane W e t) (64 * 16)]
  have hr := (reach_thr (lane W e) (h.lane_lt e)).2
  exact room_word _ hr

theorem Holds.rows (h : Holds x W) (v2 : IVec S1x128 32) (e : Fin 128) (hv2 : v2 (ix2 0 e) = BitVec.ofNat 32 (thr (lane W e)))
    (B : ℕ) (off : Fin 2 → ℕ) (inb) (h0 : off 0 = B) (h1 : off 1 = 0) (hB : B + 256 ≤ 8192) :
    Rows (lane W e) e B (k0_pay6 (F := Ideal) v2) (View.ld x (Rect.unit (s := S8192x128) off ![256, 128] inb)) where
  gt r := by
    rw [ld_row _ _ _ _ h0 h1 (by omega), h.thr_word hv2, h.lt_iff _ _ _ (thr_lt _ (h.lane_lt e))]
  eq r := by
    rw [ld_row _ _ _ _ h0 h1 (by omega), h.thr_word hv2, h.eq_iff _ _ _ (thr_lt _ (h.lane_lt e))]

/-- What the last loop holds after `k` trips. -/
structure Done (W : IVec S8192x128 32) (k : ℕ) (st : (FVec Ideal S1x128 .f32 × FVec Ideal S1x128 .f32) × List (View.Piece (Elt Ideal) S8192x128 .i32) × List (View.Piece (Elt Ideal) S32x128 .i32)) : Prop where
  ties : ∀ e, st.1.1 (ix2 0 e) = num (Nat.count (fun t => lane W e t = thr (lane W e)) (512 * k))
  sel : ∀ e, st.1.2 (ix2 0 e) = num (Nat.count (Sel (lane W e)) (512 * k))
  slots : ∀ y, View.AllAt st.2.1 y (slots W y)
  starts : ∀ y, View.AllAt st.2.2 y (starts W y)

theorem st4 (h : Holds x W) (hX : arg1.view.read (Elt Ideal) X = x) (v2 : IVec S1x128 32) (v6 : IVec S8x128 32)
    (hv2 : ∀ e, v2 (ix2 0 e) = BitVec.ofNat 32 (thr (lane W e)))
    (hv6 : ∀ e, k0_pay9 (F := Ideal) v6 (ix2 0 e) = num (1024 - reach (lane W e) (thr (lane W e) + 1))) (k : ℕ) (hk : k ≤ 16) :
    Done W k (st_k0_t4 (F := Ideal) 𝒱 c bd i arg1 harg1 arg2 harg2 arg3 harg3 v2 v6 X (k0_pay11, k0_pay11) k) := by
  induction k with
  | zero =>
    refine ⟨fun e => ?_, fun e => ?_, fun y => View.allAt_nil _ _, fun y => View.allAt_nil _ _⟩
    · show k0_pay11 (F := Ideal) (ix2 0 e) = num 0
      rw [num_zero]; pointwise [k0_pay11]
    · show k0_pay11 (F := Ideal) (ix2 0 e) = num 0
      rw [num_zero]; pointwise [k0_pay11]
  | succ k ih =>
    have ht : k < k0_t4_loop.trips := Nat.lt_of_lt_of_le hk (by decide +kernel)
    rw [st_k0_t4_succ (F := Ideal) 𝒱 c bd i arg1 harg1 arg2 harg2 arg3 harg3 v2 v6 X (k0_pay11, k0_pay11) ⟨k, ht⟩]
    have ih := ih (by omega)
    generalize st_k0_t4 (F := Ideal) 𝒱 c bd i arg1 harg1 arg2 harg2 arg3 harg3 v2 v6 X (k0_pay11, k0_pay11) k = st at ih ⊢
    unfold tripR_k0_t4 tripL_k0_t4 trip_k0_t4
    dsimp only
    sl_unfold_run_names
    dsimp only
    rw [View.readAt_eq_ld, View.readAt_eq_ld, hX]
    have o0 := off3 ⟨k, ht⟩ 0
    have o1 := off3 ⟨k, ht⟩ 1
    have b0 : k0_off3 ⟨k, ht⟩ 0#32 0 = 512 * k := o0.1.trans (by show 256 * (2 * k + 0) = _; omega)
    have b1 : k0_off3 ⟨k, ht⟩ 1#32 0 = 512 * k + 256 := o1.1.trans (by show 256 * (2 * k + 1) = _; omega)
    have R0 := fun e inb => h.rows v2 e (hv2 e) (512 * k) _ inb b0 o0.2 (by omega)
    have R1 := fun e inb => h.rows v2 e (hv2 e) (512 * k + 256) _ inb b1 o1.2 (by omega)
    have w0 := fun e inb => pay20_apply (R0 e inb) (hv6 e) (ih.ties e)
    have w1 := fun e inb inb' => pay24_apply (R0 e inb) (R1 e inb') (hv6 e) (ih.ties e)
    refine ⟨fun e => ?_, fun e => ?_, fun y => ?_, fun y => ?_⟩
    · exact pay25_apply (R1 e _) (pay21_apply (R0 e _) (ih.ties e))
    · exact pay12_apply (w1 e _ _) (pay30_apply (w0 e _) (ih.sel e))
    · refine View.allAt_cons_unit _ _ _ _ _ (fun z hz => ?_) (View.allAt_cons_unit _ _ _ _ _ (fun z hz => ?_) (ih.slots y))
      · have hx0 : (z 0).val < 256 := (z 0).isLt
        have ez : z = ix2 (⟨(z 0).val, hx0⟩ : Fin 256) (z 1) := funext fun a => match a with | 0 => rfl | 1 => rfl
        have e0 : (y 0).val = 512 * k + 256 + (z 0).val := (hz 0).trans (congrArg (· + (z 0).val) b1)
        have e1 : y 1 = z 1 := Fin.ext ((hz 1).trans ((congrArg (· + (z 1).val) o1.2).trans (Nat.zero_add _)))
        refine (congrArg _ ez).trans ((pay31_apply (w0 (z 1) _) (w1 (z 1) _ _) (ih.sel (z 1)) ⟨(z 0).val, hx0⟩ (by show 512 * k + 256 + (z 0).val ≤ 8192; omega)).trans ?_)
        show slotWord (lane W (z 1)) (512 * k + 256 + (z 0).val) = slotWord (lane W (y 1)) (y 0).val
        rw [e0, e1]
      · have hx0 : (z 0).val < 256 := (z 0).isLt
        have ez : z = ix2 (⟨(z 0).val, hx0⟩ : Fin 256) (z 1) := funext fun a => match a with | 0 => rfl | 1 => rfl
        have e0 : (y 0).val = 512 * k + (z 0).val := (hz 0).trans (congrArg (· + (z 0).val) b0)
        have e1 : y 1 = z 1 := Fin.ext ((hz 1).trans ((congrArg (· + (z 1).val) o0.2).trans (Nat.zero_add _)))
        refine (congrArg _ ez).trans ((pay28_apply (w0 (z 1) _) (ih.sel (z 1)) ⟨(z 0).val, hx0⟩ (by show 512 * k + (z 0).val ≤ 8192; omega)).trans ?_)
        show slotWord (lane W (z 1)) (512 * k + (z 0).val) = slotWord (lane W (y 1)) (y 0).val
        rw [e0, e1]
    · have q0 := off4 ⟨k, ht⟩ 0
      have q1 := off4 ⟨k, ht⟩ 1
      refine View.allAt_cons_unit _ _ _ _ _ (fun z hz => ?_) (View.allAt_cons_unit _ _ _ _ _ (fun z hz => ?_) (ih.starts y))
      · have hx0 : (z 0).val < 1 := (z 0).isLt
        have ez : z = ix2 (0 : Fin 1) (z 1) := funext fun a => match a with | 0 => Fin.ext (by show (z 0).val = 0; omega) | 1 => rfl
        have e0 : (y 0).val = 2 * k + 1 + (z 0).val := (hz 0).trans (congrArg (· + (z 0).val) q1.1)
        have e1 : y 1 = z 1 := Fin.ext ((hz 1).trans ((congrArg (· + (z 1).val) q1.2).trans (Nat.zero_add _)))
        refine (congrArg _ ez).trans ((pay32_apply (w0 (z 1) _) (ih.sel (z 1)) (by omega)).trans ?_)
        show BitVec.ofNat 32 (Nat.count (Sel (lane W (z 1))) (512 * k + 256)) = BitVec.ofNat 32 (Nat.count (Sel (lane W (y 1))) (256 * (y 0).val))
        rw [e1, show 256 * (y 0).val = 512 * k + 256 from by omega]
      · have hx0 : (z 0).val < 1 := (z 0).isLt
        have ez : z = ix2 (0 : Fin 1) (z 1) := funext fun a => match a with | 0 => Fin.ext (by show (z 0).val = 0; omega) | 1 => rfl
        have e0 : (y 0).val = 2 * k + 0 + (z 0).val := (hz 0).trans (congrArg (· + (z 0).val) q0.1)
        have e1 : y 1 = z 1 := Fin.ext ((hz 1).trans ((congrArg (· + (z 1).val) q0.2).trans (Nat.zero_add _)))
        refine (congrArg _ ez).trans ((pay29_apply (ih.sel (z 1)) (by omega)).trans ?_)
        show BitVec.ofNat 32 (Nat.count (Sel (lane W (z 1))) (512 * k)) = BitVec.ofNat 32 (Nat.count (Sel (lane W (y 1))) (256 * (y 0).val))
        rw [e1, show 256 * (y 0).val = 512 * k from by omega]

end Trips

/-! ## What a grid point writes -/

theorem run_done (c : Dev nD) (i : grid0.Coords) (arg1 : Memref sig .tc .vmem S8192x128 .f32) (harg1 : arg1.IsWhole)
    (arg2 : Memref sig .tc .vmem S8192x128 .i32) (harg2 : arg2.IsWhole) (arg3 : Memref sig .tc .vmem S32x128 .i32) (harg3 : arg3.IsWhole) (h : Holds x W) :
    (∀ y, View.AllAt (kernelRun0_A (F := Ideal) c i arg1 harg1 arg2 harg2 arg3 harg3 x).1 y (slots W y))
      ∧ ∀ y, View.AllAt (kernelRun0_A (F := Ideal) c i arg1 harg1 arg2 harg2 arg3 harg3 x).2.1 y (starts W y) := by
  have hX : arg1.view.read (Elt Ideal) (harg1.unread x) = x := harg1.read_unread x
  have e16 : Scf.trips (0#32) (Scalar.addi 0#32 16#32) 1#32 = 16 := by decide +kernel
  have e31 : Scf.trips (0#32) (Scalar.addi 0#32 31#32) 1#32 = 31 := by decide +kernel
  have v2 : ∀ e, st_k0_t1 (F := Ideal) Variants.none c none i arg1 harg1 arg2 harg2 arg3 harg3 (harg1.unread x) k0_pay1 31 (ix2 0 e) = BitVec.ofNat 32 (thr (lane W e)) :=
    fun e => st1 _ c _ i arg1 harg1 arg2 harg2 arg3 harg3 _ h hX e 31 le_rfl
  have v6 := fun e => room Variants.none c none i arg1 harg1 arg2 harg2 arg3 harg3 _ h hX _ e (v2 e)
  have D := st4 Variants.none c none i arg1 harg1 arg2 harg2 arg3 harg3 _ h hX _ _ v2 v6 16 le_rfl
  unfold kernelRun0_A
  dsimp only
  sl_unfold_run_names
  simp only [e16, e31]
  exact ⟨D.slots, D.starts⟩

theorem out1_eq (c : Dev nD) (i : grid0.Coords) (arg1 : Memref sig .tc .vmem S8192x128 .f32) (harg1 : arg1.IsWhole)
    (arg2 : Memref sig .tc .vmem S8192x128 .i32) (harg2 : arg2.IsWhole) (arg3 : Memref sig .tc .vmem S32x128 .i32) (harg3 : arg3.IsWhole) (h : Holds x W) :
    out0_A_1 (F := Ideal) c i arg1 harg1 arg2 harg2 arg3 harg3 x = slots W := by
  unfold out0_A_1
  rw [View.read_writes_junk_eq_canon]
  exact funext fun y => View.canon_eq_of_allAt _ y _ (cover0_A_1 c i arg1 harg1 arg2 harg2 arg3 harg3 x y) ((run_done c i arg1 harg1 arg2 harg2 arg3 harg3 h).1 y)

theorem out2_eq (c : Dev nD) (i : grid0.Coords) (arg1 : Memref sig .tc .vmem S8192x128 .f32) (harg1 : arg1.IsWhole)
    (arg2 : Memref sig .tc .vmem S8192x128 .i32) (harg2 : arg2.IsWhole) (arg3 : Memref sig .tc .vmem S32x128 .i32) (harg3 : arg3.IsWhole) (h : Holds x W) :
    out0_A_2 (F := Ideal) c i arg1 harg1 arg2 harg2 arg3 harg3 x = starts W := by
  unfold out0_A_2
  rw [View.read_writes_junk_eq_canon]
  exact funext fun y => View.canon_eq_of_allAt _ y _ (cover0_A_2 c i arg1 harg1 arg2 harg2 arg3 harg3 x y) ((run_done c i arg1 harg1 arg2 harg2 arg3 harg3 h).2 y)

/-! ## The blocks -/

/-- The affinities' words. -/
def words (c : Dev nD) : IVec S32768x128 32 := m ((c : Thread nD τ).loc main_arg0)

theorem V_v0 (c : Dev nD) (j : S32768x128.Idx) : (V m c main_v0 : Vec Ideal S32768x128 .f32) j = Ideal.ofBits .f32 (words m c j) := by
  unfold V
  after_reads_at
  rfl

/-- The words of the block of grid point `t`. -/
def block (c : Dev nD) (t : ℕ) (ht : t < 4) : IVec S8192x128 32 := fun j => words m c (ix2 (⟨8192 * t + (j 0).val, by have h : (j 0).val < 8192 := (j 0).isLt; omega⟩ : Fin 32768) (j 1))

theorem lt4 (t : Fin cfg0.N) : t.val < 4 := lt_of_lt_of_eq t.isLt (show cfg0.N = 4 from N_0)

theorem holds (c : Dev nD) (t : Fin cfg0.N) (hw : ∀ j, (words m c j).toNat < 2139095040) : Holds (iblk m c 0 t) (block m c t.val (lt4 t)) where
  val a e := by
    obtain ⟨a0, a1⟩ := (by decide +kernel : ∀ t : Fin grid0.N, win0_0.index t (0 : Fin 2) = t.val ∧ win0_0.index t (1 : Fin 2) = 0) t
    have hb0 : ∀ y : S8192x128.Idx, (((cfg0.win 0).blk t).view.emb y 0).val = win0_0.index t (0 : Fin 2) * 8192 + 1 * (y 0).val := fun _ => rfl
    have hb1 : ∀ y : S8192x128.Idx, (((cfg0.win 0).blk t).view.emb y 1).val = win0_0.index t (1 : Fin 2) * 128 + 1 * (y 1).val := fun _ => rfl
    refine (V_v0 m c (((cfg0.win 0).blk t).view.emb (ix2 a e))).trans (congrArg (fun j => Ideal.ofBits .f32 (words m c j)) (funext fun b => Fin.ext ?_))
    match b with
    | 0 => exact (hb0 (ix2 a e)).trans (by rw [a0]; show t.val * 8192 + 1 * a.val = 8192 * t.val + a.val; omega)
    | 1 => exact (hb1 (ix2 a e)).trans (by rw [a1, Nat.zero_mul, Nat.zero_add, Nat.one_mul]; rfl)
  lt a e := hw _

theorem lane_block (c : Dev nD) (t : ℕ) (ht : t < 4) (e : Fin 128) : lane (block m c t ht) e = batch (fun r e => words m c (ix2 r e)) t e := by
  funext q
  unfold lane batch
  by_cases h : q < 8192
  · rw [dif_pos h, dif_pos ⟨h, ht⟩]; rfl
  · rw [dif_neg h, dif_neg (by omega)]

/-! ## The kernel's results -/

def spec1 (c : Dev nD) : IVec S32768x128 32 := fun i => slotAt (fun r e => words m c (ix2 r e)) (i 0).val (i 1)

def spec2 (c : Dev nD) : IVec S128x128 32 := fun i => startAt (fun r e => words m c (ix2 r e)) (i 0).val (i 1)

end Cert.Kernel4Ideal.Routing
-- ==== Proof.RoutingOut.lean ====
/-
  The results of the routing call over the extended reals, from what each grid point writes.
-/
module

public import proofs.«01_k».proof.Proof.Routing
public import proofs.«01_k».proof.Proof.RouteCount
public import proofs.«01_k».proof.Proof.RouteFloat
public import Idealize.ShloMosaic.Lib.Pipeline.ValueKit
public import Idealize.ShloMosaic.Lib.Pipeline.ValueKit.Held
public import Idealize.ShloMosaic.Lib.Pipeline.ReadBack
public import Idealize.ShloMosaic.Lib.Pointwise.Tactic
public import Idealize.ShloMosaic.Lib.StableHlo.ReadAt

@[expose] public section

set_option maxRecDepth 16384

noncomputable section

namespace Cert.Kernel4Ideal.Routing

open Cert.Kernel4Ideal Cert.Kernel4Ideal.Gen Idealize.ShloMosaic Idealize.ShloMosaic.TcCoe Idealize.SL.Sem
open Cert.RouteCount Cert.RouteFloat

variable (m : (ℓ : Loc nD τ sig) → Buf (Elt Ideal) ℓ) {W : IVec S8192x128 32}

theorem slotAt_block (A : Fin 32768 → Fin 128 → BitVec 32) (t a : ℕ) (ha : a < 8192) (e : Fin 128) :
    slotAt A (8192 * t + a) e = slotWord (batch A t e) a := by
  unfold slotAt
  rw [show (8192 * t + a) / 8192 = t from by omega, show (8192 * t + a) % 8192 = a from by omega]

theorem startAt_block (A : Fin 32768 → Fin 128 → BitVec 32) (t a : ℕ) (ha : a < 32) (e : Fin 128) :
    startAt A (32 * t + a) e = BitVec.ofNat 32 (Nat.count (Sel (batch A t e)) (256 * a)) := by
  unfold startAt
  rw [show (32 * t + a) / 32 = t from by omega, show (32 * t + a) % 32 = a from by omega]

theorem slots_block (A : Fin 32768 → Fin 128 → BitVec 32) (t : ℕ) (hW : ∀ e, lane W e = batch A t e) (a : ℕ) (ha : a < 8192) (h) (e : Fin 128) :
    slots W (ix2 ⟨a, ha⟩ e) = (fun i : S32768x128.Idx => slotAt A (i 0).val (i 1)) (ix2 ⟨8192 * t + a, h⟩ e) :=
  (congrArg (fun p => slotWord p a) (hW e)).trans (slotAt_block A t a ha e).symm

theorem starts_apply (a : Fin 32) (e : Fin 128) : starts W (ix2 a e) = BitVec.ofNat 32 (Nat.count (Sel (lane W e)) (256 * a.val)) := rfl
theorem spec2_apply (c : Dev nD) (r : Fin 128) (e : Fin 128) : spec2 m c (ix2 r e) = startAt (fun r e => words m c (ix2 r e)) r.val e := rfl

theorem covered1 (i : S32768x128.Idx) : ∃ t : Fin cfg0.N, (cfg0.win 1).flush t = true ∧ i ∈ ((cfg0.win 1).blk t).view.set := by
  have h0 : (i 0).val < 32768 := (i 0).isLt
  have h1 : (i 1).val < 128 := (i 1).isLt
  have ht : (i 0).val / 8192 < cfg0.N := lt_of_lt_of_eq (show (i 0).val / 8192 < 4 by omega) (show cfg0.N = 4 from N_0).symm
  refine ⟨⟨(i 0).val / 8192, ht⟩, (by decide +kernel : ∀ t : Fin cfg0.N, (cfg0.win 1).flush t = true) _, ?_⟩
  obtain ⟨a0, a1⟩ := (by decide +kernel : ∀ t : Fin grid0.N, win0_1.index t (0 : Fin 2) = t.val ∧ win0_1.index t (1 : Fin 2) = 0) ⟨(i 0).val / 8192, ht⟩
  show i ∈ ((View.whole main_v1_0).slice (win0_1.rect ⟨(i 0).val / 8192, ht⟩)).set
  rw [View.set_slice_whole, Rect.mem_set_unit]
  intro a
  match a with
  | ⟨0, _⟩ =>
    show win0_1.index _ (0 : Fin 2) * 8192 ≤ (i 0).val ∧ (i 0).val < win0_1.index _ (0 : Fin 2) * 8192 + 8192
    rw [a0]
    show (i 0).val / 8192 * 8192 ≤ (i 0).val ∧ (i 0).val < (i 0).val / 8192 * 8192 + 8192
    omega
  | ⟨1, _⟩ =>
    show win0_1.index _ (1 : Fin 2) * 128 ≤ (i 1).val ∧ (i 1).val < win0_1.index _ (1 : Fin 2) * 128 + 128
    rw [a1]
    omega

theorem covered2 (i : S128x128.Idx) : ∃ t : Fin cfg0.N, (cfg0.win 2).flush t = true ∧ i ∈ ((cfg0.win 2).blk t).view.set := by
  have h0 : (i 0).val < 128 := (i 0).isLt
  have h1 : (i 1).val < 128 := (i 1).isLt
  have ht : (i 0).val / 32 < cfg0.N := lt_of_lt_of_eq (show (i 0).val / 32 < 4 by omega) (show cfg0.N = 4 from N_0).symm
  refine ⟨⟨(i 0).val / 32, ht⟩, (by decide +kernel : ∀ t : Fin cfg0.N, (cfg0.win 2).flush t = true) _, ?_⟩
  obtain ⟨a0, a1⟩ := (by decide +kernel : ∀ t : Fin grid0.N, win0_2.index t (0 : Fin 2) = t.val ∧ win0_2.index t (1 : Fin 2) = 0) ⟨(i 0).val / 32, ht⟩
  show i ∈ ((View.whole main_v1_1).slice (win0_2.rect ⟨(i 0).val / 32, ht⟩)).set
  rw [View.set_slice_whole, Rect.mem_set_unit]
  intro a
  match a with
  | ⟨0, _⟩ =>
    show win0_2.index _ (0 : Fin 2) * 32 ≤ (i 0).val ∧ (i 0).val < win0_2.index _ (0 : Fin 2) * 32 + 32
    rw [a0]
    show (i 0).val / 32 * 32 ≤ (i 0).val ∧ (i 0).val < (i 0).val / 32 * 32 + 32
    omega
  | ⟨1, _⟩ =>
    show win0_2.index _ (1 : Fin 2) * 128 ≤ (i 1).val ∧ (i 1).val < win0_2.index _ (1 : Fin 2) * 128 + 128
    rw [a1]
    omega

theorem cut1 (t : Fin cfg0.N) (y) : ((cfg0.win 1).xinj (grid0.coords t) y : S8192x128.Idx)
    = ix2 (⟨(y 0).val, (y 0).isLt⟩ : Fin 8192) (⟨(y 1).val, (y 1).isLt⟩ : Fin 128) :=
  funext fun a => Fin.ext (by match a with | 0 => rfl | 1 => rfl)

theorem emb1 (t : Fin cfg0.N) (y : S8192x128.Idx) (h0 h1 h) : ((cfg0.win 1).blk t).view.emb y = ix2 (⟨8192 * t.val + (⟨(y 0).val, h0⟩ : Fin 8192).val, h⟩ : Fin 32768) (⟨(y 1).val, h1⟩ : Fin 128) := by
  obtain ⟨a0, a1⟩ := (by decide +kernel : ∀ t : Fin grid0.N, win0_1.index t (0 : Fin 2) = t.val ∧ win0_1.index t (1 : Fin 2) = 0) t
  have hb0 : ∀ y : S8192x128.Idx, (((cfg0.win 1).blk t).view.emb y 0).val = win0_1.index t (0 : Fin 2) * 8192 + 1 * (y 0).val := fun _ => rfl
  have hb1 : ∀ y : S8192x128.Idx, (((cfg0.win 1).blk t).view.emb y 1).val = win0_1.index t (1 : Fin 2) * 128 + 1 * (y 1).val := fun _ => rfl
  refine funext fun b => Fin.ext ?_
  match b with
  | 0 => exact (hb0 y).trans (by rw [a0, Nat.mul_comm, Nat.one_mul]; rfl)
  | 1 => exact (hb1 y).trans (by rw [a1, Nat.zero_mul, Nat.zero_add, Nat.one_mul]; rfl)

theorem in_rows (t : ℕ) (ht : t < 4) (a : Fin 8192) : 8192 * t + a.val < 32768 := by
  have := a.isLt; omega

theorem mid1 (c : Dev nD) (t : Fin cfg0.N) (a : Fin 8192) (e : Fin 128) :
    slots (block m c t.val (lt4 t)) (ix2 a e) = spec1 m c (ix2 (⟨8192 * t.val + a.val, in_rows t.val (lt4 t) a⟩ : Fin 32768) e) :=
  slots_block _ t.val (lane_block m c t.val (lt4 t)) a.val a.isLt _ e

theorem block1 (c : Dev nD) (t : Fin cfg0.N) (y) :
    slots (block m c t.val (lt4 t)) ((cfg0.win 1).xinj (grid0.coords t) y) = spec1 m c (((cfg0.win 1).blk t).view.emb y) :=
  (congrArg (slots (block m c t.val (lt4 t))) (cut1 t y)).trans ((mid1 m c t _ _).trans (congrArg (spec1 m c) (emb1 t y _ _ _)).symm)

theorem all1 (c : Dev nD) (X : (t : Fin cfg0.N) → IVec S8192x128 32) (G : IVec S32768x128 32)
    (hf : ∀ t, (dats m 0 c).flushed 1 t = (cfg0.win 1).cut (grid0.coords t) (X t))
    (hX : ∀ (t : Fin cfg0.N) y, X t ((cfg0.win 1).xinj (grid0.coords t) y) = G (((cfg0.win 1).blk t).view.emb y)) :
    (dats m 0 c).arrAt 1 cfg0.N = G :=
  (dats m 0 c).arrAt_eq_of_cover 1 _ (fun t _ => (hf t).trans (funext (hX t))) covered1

theorem after1 (c : Dev nD) (t : Fin cfg0.N) (hw : ∀ j, (words m c j).toNat < 2139095040) :
    (dats m 0 c).flushed 1 t = (cfg0.win 1).cut (grid0.coords t) (slots (block m c t.val (lt4 t))) := by
  rw [Value.flushed1_A, out1_eq _ _ _ _ _ _ _ _ (holds m c t hw)]

theorem final1 (c : Dev nD) (hw : ∀ j, (words m c j).toNat < 2139095040) : (dats m 0 c).arrAt 1 cfg0.N = spec1 m c :=
  all1 m c (fun t => slots (block m c t.val (lt4 t))) (spec1 m c) (fun t => after1 m c t hw) (block1 m c)

theorem final2 (c : Dev nD) (hw : ∀ j, (words m c j).toNat < 2139095040) : (dats m 0 c).arrAt 2 cfg0.N = spec2 m c :=
  (dats m 0 c).arrAt_eq_of_cover 2 _ (fun t hf => by
    rw [Value.flushed2_A, out2_eq _ _ _ _ _ _ _ _ (holds m c t hw)]
    have hN := lt4 t
    obtain ⟨a0, a1⟩ := (by decide +kernel : ∀ t : Fin grid0.N, win0_2.index t (0 : Fin 2) = t.val ∧ win0_2.index t (1 : Fin 2) = 0) t
    funext y
    have hy0 : (y 0).val < 32 := (y 0).isLt
    have hy1 : (y 1).val < 128 := (y 1).isLt
    have hb0 : (((cfg0.win 2).blk t).view.emb y 0) = (⟨32 * t.val + (y 0).val, by omega⟩ : Fin 128) := Fin.ext (by
      show win0_2.index t (0 : Fin 2) * 32 + 1 * (y 0).val = _; rw [a0]; show t.val * 32 + 1 * (y 0).val = 32 * t.val + (y 0).val; omega)
    have hb1 : (((cfg0.win 2).blk t).view.emb y 1) = (⟨(y 1).val, hy1⟩ : Fin 128) := Fin.ext (by
      show win0_2.index t (1 : Fin 2) * 128 + 1 * (y 1).val = _; rw [a1]; show 0 * 128 + 1 * (y 1).val = (y 1).val; omega)
    have hx : ((cfg0.win 2).xinj (grid0.coords t) y : S32x128.Idx) = ix2 (⟨(y 0).val, hy0⟩ : Fin 32) (⟨(y 1).val, hy1⟩ : Fin 128) :=
      funext fun a => Fin.ext (by match a with | 0 => rfl | 1 => rfl)
    have hi : ((cfg0.win 2).blk t).view.emb y = ix2 (⟨32 * t.val + (y 0).val, by omega⟩ : Fin 128) (⟨(y 1).val, hy1⟩ : Fin 128) :=
      funext fun a => by match a with | 0 => exact hb0 | 1 => exact hb1
    show starts _ ((cfg0.win 2).xinj (grid0.coords t) y) = spec2 m c (((cfg0.win 2).blk t).view.emb y)
    rw [hx, hi]
    rw [starts_apply, spec2_apply, startAt_block _ _ _ hy0, lane_block])
    covered2

end Cert.Kernel4Ideal.Routing
-- ==== Proof.RoutePre.lean ====
/-
  What the precondition of the routing says: every word is less than infinity's.
-/
module

public import proofs.«01_k».proof.Defs
public import proofs.«01_k».proof.Proof.Gen.Pre_floats
public import proofs.«01_k».proof.Proof.RoutingOut

@[expose] public section

noncomputable section

namespace Cert.RoutePre

open Idealize.ShloMosaic Idealize.ShloMosaic.TcCoe Idealize.SL.Sem

theorem word_lt (x : BitVec 32) (h : IntOp.andi (IntOp.cmpi .sge x 0#32) (IntOp.cmpi .slt x 2139095040#32) = 1#1) : x.toNat < 2139095040 := by
  have e : ∀ p q : Bool, IntOp.andi (BitVec.ofBool p) (BitVec.ofBool q) = 1#1 → p = true ∧ q = true := by decide
  have h' : BitVec.sle 0#32 x = true ∧ BitVec.slt x 2139095040#32 = true := e _ _ h
  obtain ⟨h1, h2⟩ := h'
  simp only [BitVec.sle, BitVec.slt, decide_eq_true_eq] at h1 h2
  have z : (0#32 : BitVec 32).toInt = 0 := by decide
  have w : (2139095040#32 : BitVec 32).toInt = 2139095040 := by decide
  rw [z] at h1
  rw [w] at h2
  have := BitVec.toInt_eq_toNat_cond x
  split_ifs at this <;> omega

theorem finite_words (m : (ℓ : Loc Cert.Kernel4Ideal.nD Cert.Kernel4Ideal.τ Cert.Kernel4Ideal.sig) → Buf (Elt Ideal) ℓ)
    (h : Pre_Kernel4Ideal_floats (hPre_floats := Cert.Pre_floats.Gen.facts) m) (c : Dev Cert.Kernel4Ideal.nD) (j) :
    (Cert.Kernel4Ideal.Routing.words m c j).toNat < 2139095040 :=
  word_lt _ (congrFun (h c) j)

end Cert.RoutePre
-- ==== Proof.CbChk.lean ====
module

public import proofs.«01_k».proof.Proof.Gen.Kernel5Ideal.Skeleton
public import proofs.«01_k».proof.Proof.Gen.Kernel5Ideal.Loops
public import proofs.«01_k».proof.Proof.Gen.Kernel5Ideal.Launch
public import Idealize.ShloMosaic.Lib.Exec
public import Idealize.ShloMosaic.Lib.Tactic
public import Idealize.ShloMosaic.Lib.Pipeline.Kit

@[expose] public section

set_option maxRecDepth 16384

noncomputable section

namespace Cert.Kernel5Ideal.Hand

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- A word of the base table the body may read: a multiple of 16, at most 1024. -/
def WordOk (v : BitVec 32) : Prop := 16 ∣ v.toNat ∧ v.toNat ≤ 1024

theorem inb64 (v : BitVec 32) (h : WordOk v) : ∀ a, (k0_off69 v) a + S1x1x64x512.size a ≤ S1x16x1296x512.size a := by
  intro a; have h2 := h.2; unfold k0_off69; fin_cases a <;> simp [Scalar.indexCast, S1x1x64x512, S1x16x1296x512] <;> omega

theorem inb64_1 (v : BitVec 32) (h : WordOk v) : ∀ a, (k0_off70 v) a + S1x1x64x512.size a ≤ S1x16x1296x512.size a := by
  intro a; have h2 := h.2; unfold k0_off70; fin_cases a <;> simp [Scalar.indexCast, S1x1x64x512, S1x16x1296x512] <;> omega

theorem inb64_2 (v : BitVec 32) (h : WordOk v) : ∀ a, (k0_off71 v) a + S1x1x64x512.size a ≤ S1x16x1296x512.size a := by
  intro a; have h2 := h.2; unfold k0_off71; fin_cases a <;> simp [Scalar.indexCast, S1x1x64x512, S1x16x1296x512] <;> omega

theorem inb64_3 (v : BitVec 32) (h : WordOk v) : ∀ a, (k0_off72 v) a + S1x1x64x512.size a ≤ S1x16x1296x512.size a := by
  intro a; have h2 := h.2; unfold k0_off72; fin_cases a <;> simp [Scalar.indexCast, S1x1x64x512, S1x16x1296x512] <;> omega

theorem inb64_4 (v : BitVec 32) (h : WordOk v) : ∀ a, (k0_off73 v) a + S1x1x64x512.size a ≤ S1x16x1296x512.size a := by
  intro a; have h2 := h.2; unfold k0_off73; fin_cases a <;> simp [Scalar.indexCast, S1x1x64x512, S1x16x1296x512] <;> omega

theorem inb64_5 (v : BitVec 32) (h : WordOk v) : ∀ a, (k0_off74 v) a + S1x1x64x512.size a ≤ S1x16x1296x512.size a := by
  intro a; have h2 := h.2; unfold k0_off74; fin_cases a <;> simp [Scalar.indexCast, S1x1x64x512, S1x16x1296x512] <;> omega

theorem inb64_6 (v : BitVec 32) (h : WordOk v) : ∀ a, (k0_off75 v) a + S1x1x64x512.size a ≤ S1x16x1296x512.size a := by
  intro a; have h2 := h.2; unfold k0_off75; fin_cases a <;> simp [Scalar.indexCast, S1x1x64x512, S1x16x1296x512] <;> omega

theorem inb64_7 (v : BitVec 32) (h : WordOk v) : ∀ a, (k0_off76 v) a + S1x1x64x512.size a ≤ S1x16x1296x512.size a := by
  intro a; have h2 := h.2; unfold k0_off76; fin_cases a <;> simp [Scalar.indexCast, S1x1x64x512, S1x16x1296x512] <;> omega

theorem inb64_8 (v : BitVec 32) (h : WordOk v) : ∀ a, (k0_off77 v) a + S1x1x64x512.size a ≤ S1x16x1296x512.size a := by
  intro a; have h2 := h.2; unfold k0_off77; fin_cases a <;> simp [Scalar.indexCast, S1x1x64x512, S1x16x1296x512] <;> omega

theorem inb64_9 (v : BitVec 32) (h : WordOk v) : ∀ a, (k0_off78 v) a + S1x1x64x512.size a ≤ S1x16x1296x512.size a := by
  intro a; have h2 := h.2; unfold k0_off78; fin_cases a <;> simp [Scalar.indexCast, S1x1x64x512, S1x16x1296x512] <;> omega

theorem inb64_10 (v : BitVec 32) (h : WordOk v) : ∀ a, (k0_off79 v) a + S1x1x64x512.size a ≤ S1x16x1296x512.size a := by
  intro a; have h2 := h.2; unfold k0_off79; fin_cases a <;> simp [Scalar.indexCast, S1x1x64x512, S1x16x1296x512] <;> omega

theorem inb64_11 (v : BitVec 32) (h : WordOk v) : ∀ a, (k0_off80 v) a + S1x1x64x512.size a ≤ S1x16x1296x512.size a := by
  intro a; have h2 := h.2; unfold k0_off80; fin_cases a <;> simp [Scalar.indexCast, S1x1x64x512, S1x16x1296x512] <;> omega

theorem inb64_12 (v : BitVec 32) (h : WordOk v) : ∀ a, (k0_off81 v) a + S1x1x64x512.size a ≤ S1x16x1296x512.size a := by
  intro a; have h2 := h.2; unfold k0_off81; fin_cases a <;> simp [Scalar.indexCast, S1x1x64x512, S1x16x1296x512] <;> omega

theorem inb64_13 (v : BitVec 32) (h : WordOk v) : ∀ a, (k0_off82 v) a + S1x1x64x512.size a ≤ S1x16x1296x512.size a := by
  intro a; have h2 := h.2; unfold k0_off82; fin_cases a <;> simp [Scalar.indexCast, S1x1x64x512, S1x16x1296x512] <;> omega

theorem inb64_14 (v : BitVec 32) (h : WordOk v) : ∀ a, (k0_off83 v) a + S1x1x64x512.size a ≤ S1x16x1296x512.size a := by
  intro a; have h2 := h.2; unfold k0_off83; fin_cases a <;> simp [Scalar.indexCast, S1x1x64x512, S1x16x1296x512] <;> omega

theorem inb64_15 (v : BitVec 32) (h : WordOk v) : ∀ a, (k0_off84 v) a + S1x1x64x512.size a ≤ S1x16x1296x512.size a := by
  intro a; have h2 := h.2; unfold k0_off84; fin_cases a <;> simp [Scalar.indexCast, S1x1x64x512, S1x16x1296x512] <;> omega

theorem chk65 (v12 v19 v26 v33 v40 v47 v54 v61 v68 v75 v82 v89 v96 v103 v110 v117 v122 v129 v136 v143 v150 v157 v164 v171 v178 v185 v192 v199 v206 v213 v220 v227 v234 v239 v246 v253 v260 v267 v274 v281 v288 v295 v302 v309 v316 v323 v330 v337 v344 v351 v356 v363 v370 v377 v384 v391 v398 v405 v412 v419 v426 v433 v440 v447 v454 v461 v468 v473 : BitVec 32)
    (hv12 : WordOk v12)
    (hv19 : WordOk v19)
    (hv26 : WordOk v26)
    (hv33 : WordOk v33)
    (hv40 : WordOk v40)
    (hv47 : WordOk v47)
    (hv54 : WordOk v54)
    (hv61 : WordOk v61)
    (hv68 : WordOk v68)
    (hv75 : WordOk v75)
    (hv82 : WordOk v82)
    (hv89 : WordOk v89)
    (hv96 : WordOk v96)
    (hv103 : WordOk v103)
    (hv110 : WordOk v110)
    (hv117 : WordOk v117)
    (hv129 : WordOk v129)
    (hv136 : WordOk v136)
    (hv143 : WordOk v143)
    (hv150 : WordOk v150)
    (hv157 : WordOk v157)
    (hv164 : WordOk v164)
    (hv171 : WordOk v171)
    (hv178 : WordOk v178)
    (hv185 : WordOk v185)
    (hv192 : WordOk v192)
    (hv199 : WordOk v199)
    (hv206 : WordOk v206)
    (hv213 : WordOk v213)
    (hv220 : WordOk v220)
    (hv227 : WordOk v227)
    (hv234 : WordOk v234)
    (hv246 : WordOk v246)
    (hv253 : WordOk v253)
    (hv260 : WordOk v260)
    (hv267 : WordOk v267)
    (hv274 : WordOk v274)
    (hv281 : WordOk v281)
    (hv288 : WordOk v288)
    (hv295 : WordOk v295)
    (hv302 : WordOk v302)
    (hv309 : WordOk v309)
    (hv316 : WordOk v316)
    (hv323 : WordOk v323)
    (hv330 : WordOk v330)
    (hv337 : WordOk v337)
    (hv344 : WordOk v344)
    (hv351 : WordOk v351)
    (hv363 : WordOk v363)
    (hv370 : WordOk v370)
    (hv377 : WordOk v377)
    (hv384 : WordOk v384)
    (hv391 : WordOk v391)
    (hv398 : WordOk v398)
    (hv405 : WordOk v405)
    (hv412 : WordOk v412)
    (hv419 : WordOk v419)
    (hv426 : WordOk v426)
    (hv433 : WordOk v433)
    (hv440 : WordOk v440)
    (hv447 : WordOk v447)
    (hv454 : WordOk v454)
    (hv461 : WordOk v461)
    (hv468 : WordOk v468)
    : k0_chk65 v12 v19 v26 v33 v40 v47 v54 v61 v68 v75 v82 v89 v96 v103 v110 v117 v122 v129 v136 v143 v150 v157 v164 v171 v178 v185 v192 v199 v206 v213 v220 v227 v234 v239 v246 v253 v260 v267 v274 v281 v288 v295 v302 v309 v316 v323 v330 v337 v344 v351 v356 v363 v370 v377 v384 v391 v398 v405 v412 v419 v426 v433 v440 v447 v454 v461 v468 v473 := by

  exact ⟨⟨fun _ => inb64 _ hv12, fun _ => inb64_1 _ hv19, fun _ => inb64_2 _ hv26, fun _ => inb64_3 _ hv33, fun _ => inb64_4 _ hv40, fun _ => inb64_5 _ hv47, fun _ => inb64_6 _ hv54, fun _ => inb64_7 _ hv61, fun _ => inb64_8 _ hv68, fun _ => inb64_9 _ hv75, fun _ => inb64_10 _ hv82, fun _ => inb64_11 _ hv89, fun _ => inb64_12 _ hv96, fun _ => inb64_13 _ hv103, fun _ => inb64_14 _ hv110, fun _ => inb64_15 _ hv117, fun _ => inb64 _ hv129, fun _ => inb64_1 _ hv136, fun _ => inb64_2 _ hv143, fun _ => inb64_3 _ hv150, fun _ => inb64_4 _ hv157, fun _ => inb64_5 _ hv164, fun _ => inb64_6 _ hv171, fun _ => inb64_7 _ hv178, fun _ => inb64_8 _ hv185, fun _ => inb64_9 _ hv192, fun _ => inb64_10 _ hv199, fun _ => inb64_11 _ hv206, fun _ => inb64_12 _ hv213, fun _ => inb64_13 _ hv220, fun _ => inb64_14 _ hv227, fun _ => inb64_15 _ hv234⟩, ⟨fun _ => inb64 _ hv246, fun _ => inb64_1 _ hv253, fun _ => inb64_2 _ hv260, fun _ => inb64_3 _ hv267, fun _ => inb64_4 _ hv274, fun _ => inb64_5 _ hv281, fun _ => inb64_6 _ hv288, fun _ => inb64_7 _ hv295, fun _ => inb64_8 _ hv302, fun _ => inb64_9 _ hv309, fun _ => inb64_10 _ hv316, fun _ => inb64_11 _ hv323, fun _ => inb64_12 _ hv330, fun _ => inb64_13 _ hv337, fun _ => inb64_14 _ hv344, fun _ => inb64_15 _ hv351, fun _ => inb64 _ hv363, fun _ => inb64_1 _ hv370, fun _ => inb64_2 _ hv377, fun _ => inb64_3 _ hv384, fun _ => inb64_4 _ hv391, fun _ => inb64_5 _ hv398, fun _ => inb64_6 _ hv405, fun _ => inb64_7 _ hv412, fun _ => inb64_8 _ hv419, fun _ => inb64_9 _ hv426, fun _ => inb64_10 _ hv433, fun _ => inb64_11 _ hv440, fun _ => inb64_12 _ hv447, fun _ => inb64_13 _ hv454, fun _ => inb64_14 _ hv461, fun _ => inb64_15 _ hv468⟩⟩

theorem chk66 (v122 v239 v356 v473 v490 : BitVec 32) (h : WordOk v490) : k0_chk66 v122 v239 v356 v473 v490 := by
  refine ⟨fun _ => h.1, fun _ a => ?_⟩; have h2 := h.2; unfold k0_off166; fin_cases a <;> simp [Scalar.indexCast, S1x1x272x512, S1x16x1296x512] <;> omega

theorem chk67 (v122 v239 v356 v473 v497 : BitVec 32) (h : WordOk v497) : k0_chk67 v122 v239 v356 v473 v497 := by
  refine ⟨fun _ => h.1, fun _ a => ?_⟩; have h2 := h.2; unfold k0_off167; fin_cases a <;> simp [Scalar.indexCast, S1x1x272x512, S1x16x1296x512] <;> omega

theorem chk68 (v122 v239 v356 v473 v504 : BitVec 32) (h : WordOk v504) : k0_chk68 v122 v239 v356 v473 v504 := by
  refine ⟨fun _ => h.1, fun _ a => ?_⟩; have h2 := h.2; unfold k0_off168; fin_cases a <;> simp [Scalar.indexCast, S1x1x272x512, S1x16x1296x512] <;> omega

theorem chk69 (v122 v239 v356 v473 v511 : BitVec 32) (h : WordOk v511) : k0_chk69 v122 v239 v356 v473 v511 := by
  refine ⟨fun _ => h.1, fun _ a => ?_⟩; have h2 := h.2; unfold k0_off169; fin_cases a <;> simp [Scalar.indexCast, S1x1x272x512, S1x16x1296x512] <;> omega

theorem chk70 (v122 v239 v356 v473 v518 : BitVec 32) (h : WordOk v518) : k0_chk70 v122 v239 v356 v473 v518 := by
  refine ⟨fun _ => h.1, fun _ a => ?_⟩; have h2 := h.2; unfold k0_off170; fin_cases a <;> simp [Scalar.indexCast, S1x1x272x512, S1x16x1296x512] <;> omega

theorem chk71 (v122 v239 v356 v473 v525 : BitVec 32) (h : WordOk v525) : k0_chk71 v122 v239 v356 v473 v525 := by
  refine ⟨fun _ => h.1, fun _ a => ?_⟩; have h2 := h.2; unfold k0_off171; fin_cases a <;> simp [Scalar.indexCast, S1x1x272x512, S1x16x1296x512] <;> omega

theorem chk72 (v122 v239 v356 v473 v532 : BitVec 32) (h : WordOk v532) : k0_chk72 v122 v239 v356 v473 v532 := by
  refine ⟨fun _ => h.1, fun _ a => ?_⟩; have h2 := h.2; unfold k0_off172; fin_cases a <;> simp [Scalar.indexCast, S1x1x272x512, S1x16x1296x512] <;> omega

theorem chk73 (v122 v239 v356 v473 v539 : BitVec 32) (h : WordOk v539) : k0_chk73 v122 v239 v356 v473 v539 := by
  refine ⟨fun _ => h.1, fun _ a => ?_⟩; have h2 := h.2; unfold k0_off173; fin_cases a <;> simp [Scalar.indexCast, S1x1x272x512, S1x16x1296x512] <;> omega

theorem chk74 (v122 v239 v356 v473 v546 : BitVec 32) (h : WordOk v546) : k0_chk74 v122 v239 v356 v473 v546 := by
  refine ⟨fun _ => h.1, fun _ a => ?_⟩; have h2 := h.2; unfold k0_off174; fin_cases a <;> simp [Scalar.indexCast, S1x1x272x512, S1x16x1296x512] <;> omega

theorem chk75 (v122 v239 v356 v473 v553 : BitVec 32) (h : WordOk v553) : k0_chk75 v122 v239 v356 v473 v553 := by
  refine ⟨fun _ => h.1, fun _ a => ?_⟩; have h2 := h.2; unfold k0_off175; fin_cases a <;> simp [Scalar.indexCast, S1x1x272x512, S1x16x1296x512] <;> omega

theorem chk76 (v122 v239 v356 v473 v560 : BitVec 32) (h : WordOk v560) : k0_chk76 v122 v239 v356 v473 v560 := by
  refine ⟨fun _ => h.1, fun _ a => ?_⟩; have h2 := h.2; unfold k0_off176; fin_cases a <;> simp [Scalar.indexCast, S1x1x272x512, S1x16x1296x512] <;> omega

theorem chk77 (v122 v239 v356 v473 v567 : BitVec 32) (h : WordOk v567) : k0_chk77 v122 v239 v356 v473 v567 := by
  refine ⟨fun _ => h.1, fun _ a => ?_⟩; have h2 := h.2; unfold k0_off177; fin_cases a <;> simp [Scalar.indexCast, S1x1x272x512, S1x16x1296x512] <;> omega

theorem chk78 (v122 v239 v356 v473 v574 : BitVec 32) (h : WordOk v574) : k0_chk78 v122 v239 v356 v473 v574 := by
  refine ⟨fun _ => h.1, fun _ a => ?_⟩; have h2 := h.2; unfold k0_off178; fin_cases a <;> simp [Scalar.indexCast, S1x1x272x512, S1x16x1296x512] <;> omega

theorem chk79 (v122 v239 v356 v473 v581 : BitVec 32) (h : WordOk v581) : k0_chk79 v122 v239 v356 v473 v581 := by
  refine ⟨fun _ => h.1, fun _ a => ?_⟩; have h2 := h.2; unfold k0_off179; fin_cases a <;> simp [Scalar.indexCast, S1x1x272x512, S1x16x1296x512] <;> omega

theorem chk80 (v122 v239 v356 v473 v588 : BitVec 32) (h : WordOk v588) : k0_chk80 v122 v239 v356 v473 v588 := by
  refine ⟨fun _ => h.1, fun _ a => ?_⟩; have h2 := h.2; unfold k0_off180; fin_cases a <;> simp [Scalar.indexCast, S1x1x272x512, S1x16x1296x512] <;> omega

theorem chk81 (v122 v239 v356 v473 v595 : BitVec 32) (h : WordOk v595) : k0_chk81 v122 v239 v356 v473 v595 := by
  refine ⟨fun _ => h.1, fun _ a => ?_⟩; have h2 := h.2; unfold k0_off181; fin_cases a <;> simp [Scalar.indexCast, S1x1x272x512, S1x16x1296x512] <;> omega

end Cert.Kernel5Ideal.Hand

end
-- ==== Proof.CbRun.lean ====
module

public import proofs.«01_k».proof.Proof.CbChk
public import proofs.«01_k».proof.Proof.Gen.Kernel5Ideal.Skeleton
public import Idealize.ShloMosaic.Lib.WholeRead
public import proofs.«01_k».proof.Proof.Gen.Kernel5Ideal.Loops
public import proofs.«01_k».proof.Proof.Gen.Kernel5Ideal.Launch
public import Idealize.ShloMosaic.Lib.Exec
public import Idealize.ShloMosaic.Lib.Tactic
public import Idealize.ShloMosaic.Lib.Pipeline.Kit

@[expose] public section

set_option maxRecDepth 16384

noncomputable section

namespace Cert.Kernel5Ideal.Hand

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- A fits word of the grid point's block `u`. -/
abbrev fitW (i : grid0.Coords) (arg4 : Memref sig .tc .smem S128 .i32) (harg4 : arg4.IsWhole) (t4 : Vec F S128 .i32)
    (off : Fin 1 → Nat) (inb : ∀ a, off a + S1.size a ≤ S128.size a) : BitVec 32 :=
  arg4.view.readAt (Elt F) (Rect.unit (s := S128) off S1.size inb).toLoadRect (harg4.unread t4) (Shape.Idx.first (numel1_S1.symm ▸ Nat.one_pos))

/-- The four blocks of the grid point all fit in the small window. -/
abbrev condA (i : grid0.Coords) (arg4 : Memref sig .tc .smem S128 .i32) (harg4 : arg4.IsWhole) (t4 : Vec F S128 .i32) : Prop :=
  k0_cond1 (fitW i arg4 harg4 t4 (k0_off17 i) (k0_off17_inb i)) (fitW i arg4 harg4 t4 (k0_off34 i) (k0_off34_inb i))
    (fitW i arg4 harg4 t4 (k0_off51 i) (k0_off51_inb i)) (fitW i arg4 harg4 t4 (k0_off68 i) (k0_off68_inb i)) = 1#1

theorem cond2_iff (a b c d : BitVec 32) : k0_cond2 a b c d = 1#1 ↔ ¬ k0_cond1 a b c d = 1#1 := by
  unfold k0_cond2 k0_cond1
  dsimp only
  generalize Scalar.andi (Scalar.andi (Scalar.andi (Scalar.cmpi .eq a 1#32) (Scalar.cmpi .eq b 1#32)) (Scalar.cmpi .eq c 1#32)) (Scalar.cmpi .eq d 1#32) = x
  revert x; decide

set_option maxHeartbeats 8000000 in
noncomputable def runA (c : Dev nD) (i : grid0.Coords) (arg3 : Memref sig .tc .smem S2048 .i32) (harg3 : arg3.IsWhole) (arg4 : Memref sig .tc .smem S128 .i32) (harg4 : arg4.IsWhole) (arg5 : Memref sig .tc .vmem S1x16x1x8192 .i32) (harg5 : arg5.IsWhole) (arg6 : Memref sig .tc .vmem S1x16x1296x512 .bf16) (harg6 : arg6.IsWhole) (arg7 : Memref sig .tc .vmem S1024x512 .f32) (harg7 : arg7.IsWhole) (arg8 : Memref sig .tc .vmem S1024x512 .f32) (harg8 : arg8.IsWhole) (arg9 : Memref sig .tc .vmem S4352x512 .bf16) (harg9 : arg9.IsWhole)
    (t3 : Vec F S2048 .i32) (t4 : Vec F S128 .i32) (x0 : Vec F S1x16x1x8192 .i32) (x1 : Vec F S1x16x1296x512 .bf16) (x2 : Vec F S1024x512 .f32)
    (hW : ∀ (B : LoadRect S2048) (x : B.shape.Idx), WordOk (arg3.view.readAt (Elt F) B (harg3.unread t3) x)) (hc : condA i arg4 harg4 t4) :
    { L : List (View.Piece (Elt F) S1024x512 .f32) // ∀ (E : Set ℕ) (K : PUnit → sProp (MT nD τ sig Unit (Elt F) ℕ (UR sig nD τ) ℕ)),
    iprop(owns (c : Thread nD τ) arg3 fullShare.right t3 ∗ owns (c : Thread nD τ) arg4 fullShare.right t4 ∗ owns (c : Thread nD τ) arg5 fullShare x0 ∗ owns (c : Thread nD τ) arg6 fullShare x1 ∗ owns (c : Thread nD τ) arg7 fullShare x2 ∗ (∃ d, owns (c : Thread nD τ) arg8 fullShare d) ∗ (∃ d, owns (c : Thread nD τ) arg9 fullShare d)
        ∗ (iprop(owns (c : Thread nD τ) arg3 fullShare.right t3 ∗ owns (c : Thread nD τ) arg4 fullShare.right t4 ∗ owns (c : Thread nD τ) arg5 fullShare x0 ∗ owns (c : Thread nD τ) arg6 fullShare x1 ∗ owns (c : Thread nD τ) arg7 fullShare x2 ∗ (∃ f, arg8.view.loc (c : Thread nD τ) ↦[arg8.view.set]{fullShare} arg8.view.writes (Elt F) f L) ∗ (∃ f, arg9.view.loc (c : Thread nD τ) ↦[arg9.view.set]{fullShare} f)) -∗ K ⟨⟩))
          ⊢ wp frame (wpE (defs₀ (F := F)) Variants.none c none) E (cc0__combine_kernel i arg3 harg3 arg4 harg4 arg5 harg5 arg6 harg6 arg7 harg7 arg8 harg8 arg9 harg9) K } := by
  have hc2 := mt (cond2_iff _ _ _ _).1 (not_not.2 hc)
  refine ⟨?_, fun E K => ?run⟩
  case run =>
    simp only [cc0__combine_kernel_eq_skeleton]; unfold cc0__combine_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
    obtain rfl := harg3.eq_unread hf0; obtain rfl := harg4.eq_unread hf1; obtain rfl := harg5.eq_unread hf2; obtain rfl := harg6.eq_unread hf3; obtain rfl := harg7.eq_unread hf4
    sl_exec_parts (disch := first | exact (hW _ _).1 | sl_exact hc | sl_exact hc2 | exact chk65 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (hW _ _) (hW _ _) (hW _ _) (hW _ _) (hW _ _) (hW _ _) (hW _ _) (hW _ _) (hW _ _) (hW _ _) (hW _ _) (hW _ _) (hW _ _) (hW _ _) (hW _ _) (hW _ _) (hW _ _) (hW _ _) (hW _ _) (hW _ _) (hW _ _) (hW _ _) (hW _ _) (hW _ _) (hW _ _) (hW _ _) (hW _ _) (hW _ _) (hW _ _) (hW _ _) (hW _ _) (hW _ _) (hW _ _) (hW _ _) (hW _ _) (hW _ _) (hW _ _) (hW _ _) (hW _ _) (hW _ _) (hW _ _) (hW _ _) (hW _ _) (hW _ _) (hW _ _) (hW _ _) (hW _ _) (hW _ _) (hW _ _) (hW _ _) (hW _ _) (hW _ _) (hW _ _) (hW _ _) (hW _ _) (hW _ _) (hW _ _) (hW _ _) (hW _ _) (hW _ _) (hW _ _) (hW _ _) (hW _ _) (hW _ _))
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    iexists _; iexact H6

end Cert.Kernel5Ideal.Hand

end
-- ==== Proof.CbTrip.lean ====
module

public import proofs.«01_k».proof.Proof.CbRun
public import proofs.«01_k».proof.Proof.Gen.Kernel5Ideal.Skeleton
public import Idealize.ShloMosaic.Lib.WholeRead
public import proofs.«01_k».proof.Proof.Gen.Kernel5Ideal.Loops
public import proofs.«01_k».proof.Proof.Gen.Kernel5Ideal.Launch
public import Idealize.ShloMosaic.Lib.Exec
public import Idealize.ShloMosaic.Lib.Tactic
public import Idealize.ShloMosaic.Lib.Pipeline.Kit

@[expose] public section

set_option maxRecDepth 16384

noncomputable section

namespace Cert.Kernel5Ideal.Hand

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- One trip of the loop: what it writes over the output block. -/
abbrev rectB (i : grid0.Coords) (k : Fin k0_t1_loop.trips) : Rect S1024x512 := Rect.unit (s := S1024x512) (k0_off198 i k) S256x512.size (k0_off198_inb i k)

set_option maxHeartbeats 8000000 in
noncomputable def trip (c : Dev nD) (i : grid0.Coords) (arg3 : Memref sig .tc .smem S2048 .i32) (harg3 : arg3.IsWhole) (arg4 : Memref sig .tc .smem S128 .i32) (harg4 : arg4.IsWhole) (arg5 : Memref sig .tc .vmem S1x16x1x8192 .i32) (harg5 : arg5.IsWhole) (arg6 : Memref sig .tc .vmem S1x16x1296x512 .bf16) (harg6 : arg6.IsWhole) (arg7 : Memref sig .tc .vmem S1024x512 .f32) (harg7 : arg7.IsWhole) (arg8 : Memref sig .tc .vmem S1024x512 .f32) (harg8 : arg8.IsWhole) (arg9 : Memref sig .tc .vmem S4352x512 .bf16) (harg9 : arg9.IsWhole)
    (t3 : Vec F S2048 .i32) (x0 : Vec F S1x16x1x8192 .i32) (x1 : Vec F S1x16x1296x512 .bf16) (x2 : Vec F S1024x512 .f32)
    (hW : ∀ (B : LoadRect S2048) (x : B.shape.Idx), WordOk (arg3.view.readAt (Elt F) B (harg3.unread t3) x))
    (arg0 : BitVec 32) (v0 : BitVec 32) (v2 : BitVec 32) (v122 : Elt F .i32) (v239 : Elt F .i32) (v356 : Elt F .i32) (v473 : Elt F .i32) (k0_h2 : k0_cond2 v122 v239 v356 v473 = 1#1) (k : Fin k0_t1_loop.trips) :
    { w : (rectB i k).shape.Idx → Elt F .f32 // ∀ (E : Set ℕ) (K : Unit → sProp (MT nD τ sig Unit (Elt F) ℕ (UR sig nD τ) ℕ)) (f8 : Buf (Elt F) (arg8.view.loc (c : Thread nD τ))),
    iprop((arg3.view.loc (c : Thread nD τ) ↦[arg3.view.set]{fullShare.right} (harg3.unread t3) : sProp (MT nD τ sig Unit (Elt F) ℕ (UR sig nD τ) ℕ)) ∗ (arg5.view.loc (c : Thread nD τ) ↦[arg5.view.set]{fullShare} (harg5.unread x0) : sProp (MT nD τ sig Unit (Elt F) ℕ (UR sig nD τ) ℕ)) ∗ (arg6.view.loc (c : Thread nD τ) ↦[arg6.view.set]{fullShare} (harg6.unread x1) : sProp (MT nD τ sig Unit (Elt F) ℕ (UR sig nD τ) ℕ)) ∗ (arg7.view.loc (c : Thread nD τ) ↦[arg7.view.set]{fullShare} (harg7.unread x2) : sProp (MT nD τ sig Unit (Elt F) ℕ (UR sig nD τ) ℕ)) ∗ (arg8.view.loc (c : Thread nD τ) ↦[arg8.view.set]{fullShare} f8) ∗ (∃ f, arg9.view.loc (c : Thread nD τ) ↦[arg9.view.set]{fullShare} f)
        ∗ (iprop((arg3.view.loc (c : Thread nD τ) ↦[arg3.view.set]{fullShare.right} (harg3.unread t3) : sProp (MT nD τ sig Unit (Elt F) ℕ (UR sig nD τ) ℕ)) ∗ (arg5.view.loc (c : Thread nD τ) ↦[arg5.view.set]{fullShare} (harg5.unread x0) : sProp (MT nD τ sig Unit (Elt F) ℕ (UR sig nD τ) ℕ)) ∗ (arg6.view.loc (c : Thread nD τ) ↦[arg6.view.set]{fullShare} (harg6.unread x1) : sProp (MT nD τ sig Unit (Elt F) ℕ (UR sig nD τ) ℕ)) ∗ (arg7.view.loc (c : Thread nD τ) ↦[arg7.view.set]{fullShare} (harg7.unread x2) : sProp (MT nD τ sig Unit (Elt F) ℕ (UR sig nD τ) ℕ)) ∗ (arg8.view.loc (c : Thread nD τ) ↦[arg8.view.set]{fullShare} arg8.view.writes (Elt F) f8 [⟨rectB i k, w⟩]) ∗ (∃ f, arg9.view.loc (c : Thread nD τ) ↦[arg9.view.set]{fullShare} f)) -∗ K ⟨⟩))
          ⊢ wp frame (wpE (defs₀ (F := F)) Variants.none c none) E (k0_t1_body (F := F) i arg3 harg3 arg4 harg4 arg5 harg5 arg6 harg6 arg7 harg7 arg8 harg8 arg9 harg9 arg0 v0 v2 v122 v239 v356 v473 k0_h2 k ()) K } := by
  refine ⟨?_, fun E K f8 => ?run⟩
  case run =>
    unfold k0_t1_body
    iintro ⟨H0, H2, H3, H4, H5, ⟨%f6, H6⟩, Hk⟩
    sl_exec_parts (disch := first | sl_exact k0_h2 | exact chk66 _ _ _ _ _ (hW _ _) | exact chk67 _ _ _ _ _ (hW _ _) | exact chk68 _ _ _ _ _ (hW _ _) | exact chk69 _ _ _ _ _ (hW _ _) | exact chk70 _ _ _ _ _ (hW _ _) | exact chk71 _ _ _ _ _ (hW _ _) | exact chk72 _ _ _ _ _ (hW _ _) | exact chk73 _ _ _ _ _ (hW _ _) | exact chk74 _ _ _ _ _ (hW _ _) | exact chk75 _ _ _ _ _ (hW _ _) | exact chk76 _ _ _ _ _ (hW _ _) | exact chk77 _ _ _ _ _ (hW _ _) | exact chk78 _ _ _ _ _ (hW _ _) | exact chk79 _ _ _ _ _ (hW _ _) | exact chk80 _ _ _ _ _ (hW _ _) | exact chk81 _ _ _ _ _ (hW _ _))
    sl_step
    iapply Hk
    isplitl [H0]; · iexact H0
    isplitl [H2]; · iexact H2
    isplitl [H3]; · iexact H3
    isplitl [H4]; · iexact H4
    isplitl [H5]; · iexact H5
    iexists _; iexact H6

end Cert.Kernel5Ideal.Hand

end
-- ==== Proof.CbLoop.lean ====
module

public import proofs.«01_k».proof.Proof.CbTrip
public import proofs.«01_k».proof.Proof.Gen.Kernel5Ideal.Skeleton
public import Idealize.ShloMosaic.Lib.WholeRead
public import proofs.«01_k».proof.Proof.Gen.Kernel5Ideal.Loops
public import proofs.«01_k».proof.Proof.Gen.Kernel5Ideal.Launch
public import Idealize.ShloMosaic.Lib.Exec
public import Idealize.ShloMosaic.Lib.Tactic
public import Idealize.ShloMosaic.Lib.Pipeline.Kit

@[expose] public section

set_option maxRecDepth 16384

noncomputable section

namespace Cert.Kernel5Ideal.Hand

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

section
variable (c : Dev nD) (i : grid0.Coords) (arg3 : Memref sig .tc .smem S2048 .i32) (harg3 : arg3.IsWhole) (arg4 : Memref sig .tc .smem S128 .i32) (harg4 : arg4.IsWhole) (arg5 : Memref sig .tc .vmem S1x16x1x8192 .i32) (harg5 : arg5.IsWhole) (arg6 : Memref sig .tc .vmem S1x16x1296x512 .bf16) (harg6 : arg6.IsWhole) (arg7 : Memref sig .tc .vmem S1024x512 .f32) (harg7 : arg7.IsWhole) (arg8 : Memref sig .tc .vmem S1024x512 .f32) (harg8 : arg8.IsWhole) (arg9 : Memref sig .tc .vmem S4352x512 .bf16) (harg9 : arg9.IsWhole)
    (t3 : Vec F S2048 .i32) (x0 : Vec F S1x16x1x8192 .i32) (x1 : Vec F S1x16x1296x512 .bf16) (x2 : Vec F S1024x512 .f32)
    (hW : ∀ (B : LoadRect S2048) (x : B.shape.Idx), WordOk (arg3.view.readAt (Elt F) B (harg3.unread t3) x))
    (arg0 : BitVec 32) (v0 : BitVec 32) (v2 : BitVec 32) (v122 : Elt F .i32) (v239 : Elt F .i32) (v356 : Elt F .i32) (v473 : Elt F .i32) (k0_h2 : k0_cond2 v122 v239 v356 v473 = 1#1)

/-- The output block's buffer after the trips before `k`. -/
noncomputable def oAcc (f8 : Buf (Elt F) (arg8.view.loc (c : Thread nD τ))) : ℕ → Buf (Elt F) (arg8.view.loc (c : Thread nD τ))
  | 0 => f8
  | k + 1 => if h : k < k0_t1_loop.trips then arg8.view.writes (Elt F) (oAcc f8 k) [⟨rectB i ⟨k, h⟩, (trip c i arg3 harg3 arg4 harg4 arg5 harg5 arg6 harg6 arg7 harg7 arg8 harg8 arg9 harg9 t3 x0 x1 x2 hW arg0 v0 v2 v122 v239 v356 v473 k0_h2 ⟨k, h⟩).1⟩] else oAcc f8 k

/-- What the loop keeps. -/
abbrev invB (fo : Buf (Elt F) (arg8.view.loc (c : Thread nD τ))) : sProp (MT nD τ sig Unit (Elt F) ℕ (UR sig nD τ) ℕ) :=
  iprop((arg3.view.loc (c : Thread nD τ) ↦[arg3.view.set]{fullShare.right} (harg3.unread t3) : sProp (MT nD τ sig Unit (Elt F) ℕ (UR sig nD τ) ℕ)) ∗ (arg5.view.loc (c : Thread nD τ) ↦[arg5.view.set]{fullShare} (harg5.unread x0) : sProp (MT nD τ sig Unit (Elt F) ℕ (UR sig nD τ) ℕ)) ∗ (arg6.view.loc (c : Thread nD τ) ↦[arg6.view.set]{fullShare} (harg6.unread x1) : sProp (MT nD τ sig Unit (Elt F) ℕ (UR sig nD τ) ℕ)) ∗ (arg7.view.loc (c : Thread nD τ) ↦[arg7.view.set]{fullShare} (harg7.unread x2) : sProp (MT nD τ sig Unit (Elt F) ℕ (UR sig nD τ) ℕ)) ∗ (arg8.view.loc (c : Thread nD τ) ↦[arg8.view.set]{fullShare} fo) ∗ (∃ f, arg9.view.loc (c : Thread nD τ) ↦[arg9.view.set]{fullShare} f))

set_option warn.classDefReducibility false in
@[sl_loop] def loopB (E : Set ℕ) (f8 : Buf (Elt F) (arg8.view.loc (c : Thread nD τ))) :
    LoopInvTy_k0_t1 (F := F) Unit ℕ (UR sig nD τ) ℕ Variants.none c none E i arg3 harg3 arg4 harg4 arg5 harg5 arg6 harg6 arg7 harg7 arg8 harg8 arg9 harg9 arg0 v0 v2 v122 v239 v356 v473 k0_h2 where
  inv k _ := invB c arg3 harg3 arg5 harg5 arg6 harg6 arg7 harg7 arg8 arg9 t3 x0 x1 x2 (oAcc c i arg3 harg3 arg4 harg4 arg5 harg5 arg6 harg6 arg7 harg7 arg8 harg8 arg9 harg9 t3 x0 x1 x2 hW arg0 v0 v2 v122 v239 v356 v473 k0_h2 f8 k)
  step k u := by
    have e : oAcc c i arg3 harg3 arg4 harg4 arg5 harg5 arg6 harg6 arg7 harg7 arg8 harg8 arg9 harg9 t3 x0 x1 x2 hW arg0 v0 v2 v122 v239 v356 v473 k0_h2 f8 (k.val + 1) = arg8.view.writes (Elt F) (oAcc c i arg3 harg3 arg4 harg4 arg5 harg5 arg6 harg6 arg7 harg7 arg8 harg8 arg9 harg9 t3 x0 x1 x2 hW arg0 v0 v2 v122 v239 v356 v473 k0_h2 f8 k.val) [⟨rectB i k, (trip c i arg3 harg3 arg4 harg4 arg5 harg5 arg6 harg6 arg7 harg7 arg8 harg8 arg9 harg9 t3 x0 x1 x2 hW arg0 v0 v2 v122 v239 v356 v473 k0_h2 k).1⟩] := by
      rw [oAcc, dif_pos k.isLt]
    rw [e]; unfold invB
    iintro ⟨H0, H1, H2, H3, H4, H5⟩
    iapply (trip c i arg3 harg3 arg4 harg4 arg5 harg5 arg6 harg6 arg7 harg7 arg8 harg8 arg9 harg9 t3 x0 x1 x2 hW arg0 v0 v2 v122 v239 v356 v473 k0_h2 k).2
    isplitl [H0]; · iexact H0
    isplitl [H1]; · iexact H1
    isplitl [H2]; · iexact H2
    isplitl [H3]; · iexact H3
    isplitl [H4]; · iexact H4
    isplitl [H5]; · iexact H5
    iintro H; iexact H
end

abbrev ff (i : grid0.Coords) (arg4 : Memref sig .tc .smem S128 .i32) (harg4 : arg4.IsWhole) (t4 : Vec F S128 .i32) : Fin 4 → BitVec 32
  | 0 => fitW i arg4 harg4 t4 (k0_off17 i) (k0_off17_inb i)
  | 1 => fitW i arg4 harg4 t4 (k0_off34 i) (k0_off34_inb i)
  | 2 => fitW i arg4 harg4 t4 (k0_off51 i) (k0_off51_inb i)
  | 3 => fitW i arg4 harg4 t4 (k0_off68 i) (k0_off68_inb i)

theorem condB_of (i : grid0.Coords) (arg4 : Memref sig .tc .smem S128 .i32) (harg4 : arg4.IsWhole) (t4 : Vec F S128 .i32) (hc : ¬ condA i arg4 harg4 t4) :
    k0_cond2 (ff i arg4 harg4 t4 0) (ff i arg4 harg4 t4 1) (ff i arg4 harg4 t4 2) (ff i arg4 harg4 t4 3) = 1#1 := (cond2_iff _ _ _ _).2 hc

set_option maxHeartbeats 8000000 in
theorem runB (c : Dev nD) (i : grid0.Coords) (arg3 : Memref sig .tc .smem S2048 .i32) (harg3 : arg3.IsWhole) (arg4 : Memref sig .tc .smem S128 .i32) (harg4 : arg4.IsWhole) (arg5 : Memref sig .tc .vmem S1x16x1x8192 .i32) (harg5 : arg5.IsWhole) (arg6 : Memref sig .tc .vmem S1x16x1296x512 .bf16) (harg6 : arg6.IsWhole) (arg7 : Memref sig .tc .vmem S1024x512 .f32) (harg7 : arg7.IsWhole) (arg8 : Memref sig .tc .vmem S1024x512 .f32) (harg8 : arg8.IsWhole) (arg9 : Memref sig .tc .vmem S4352x512 .bf16) (harg9 : arg9.IsWhole)
    (t3 : Vec F S2048 .i32) (t4 : Vec F S128 .i32) (x0 : Vec F S1x16x1x8192 .i32) (x1 : Vec F S1x16x1296x512 .bf16) (x2 : Vec F S1024x512 .f32)
    (hW : ∀ (B : LoadRect S2048) (x : B.shape.Idx), WordOk (arg3.view.readAt (Elt F) B (harg3.unread t3) x)) (hc : ¬ condA i arg4 harg4 t4) :
    ∀ (E : Set ℕ) (K : PUnit → sProp (MT nD τ sig Unit (Elt F) ℕ (UR sig nD τ) ℕ)),
    iprop(owns (c : Thread nD τ) arg3 fullShare.right t3 ∗ owns (c : Thread nD τ) arg4 fullShare.right t4 ∗ owns (c : Thread nD τ) arg5 fullShare x0 ∗ owns (c : Thread nD τ) arg6 fullShare x1 ∗ owns (c : Thread nD τ) arg7 fullShare x2 ∗ (∃ d, owns (c : Thread nD τ) arg8 fullShare d) ∗ (∃ d, owns (c : Thread nD τ) arg9 fullShare d)
        ∗ (iprop(owns (c : Thread nD τ) arg3 fullShare.right t3 ∗ owns (c : Thread nD τ) arg4 fullShare.right t4 ∗ owns (c : Thread nD τ) arg5 fullShare x0 ∗ owns (c : Thread nD τ) arg6 fullShare x1 ∗ owns (c : Thread nD τ) arg7 fullShare x2 ∗ (∃ f, arg8.view.loc (c : Thread nD τ) ↦[arg8.view.set]{fullShare}
            oAcc c i arg3 harg3 arg4 harg4 arg5 harg5 arg6 harg6 arg7 harg7 arg8 harg8 arg9 harg9 t3 x0 x1 x2 hW (BitVec.ofNat 32 (i 0).val) (Scalar.muli (BitVec.ofNat 32 (i 2).val) 4#32) (Scalar.addi (Scalar.muli (BitVec.ofNat 32 (i 2).val) 4#32) (Scalar.muli 0#32 4#32)) _ _ _ _ (condB_of i arg4 harg4 t4 hc) f k0_t1_loop.trips)
          ∗ (∃ f, arg9.view.loc (c : Thread nD τ) ↦[arg9.view.set]{fullShare} f)) -∗ K ⟨⟩))
          ⊢ wp frame (wpE (defs₀ (F := F)) Variants.none c none) E (cc0__combine_kernel i arg3 harg3 arg4 harg4 arg5 harg5 arg6 harg6 arg7 harg7 arg8 harg8 arg9 harg9) K := by
    intro E K
    have hc2 := condB_of i arg4 harg4 t4 hc
    simp only [cc0__combine_kernel_eq_skeleton]; unfold cc0__combine_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
    obtain rfl := harg3.eq_unread hf0; obtain rfl := harg4.eq_unread hf1; obtain rfl := harg5.eq_unread hf2; obtain rfl := harg6.eq_unread hf3; obtain rfl := harg7.eq_unread hf4
    sl_exec_parts (disch := first | exact (hW _ _).1 | sl_exact hc | sl_exact hc2 | exact chk65 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (hW _ _) (hW _ _) (hW _ _) (hW _ _) (hW _ _) (hW _ _) (hW _ _) (hW _ _) (hW _ _) (hW _ _) (hW _ _) (hW _ _) (hW _ _) (hW _ _) (hW _ _) (hW _ _) (hW _ _) (hW _ _) (hW _ _) (hW _ _) (hW _ _) (hW _ _) (hW _ _) (hW _ _) (hW _ _) (hW _ _) (hW _ _) (hW _ _) (hW _ _) (hW _ _) (hW _ _) (hW _ _) (hW _ _) (hW _ _) (hW _ _) (hW _ _) (hW _ _) (hW _ _) (hW _ _) (hW _ _) (hW _ _) (hW _ _) (hW _ _) (hW _ _) (hW _ _) (hW _ _) (hW _ _) (hW _ _) (hW _ _) (hW _ _) (hW _ _) (hW _ _) (hW _ _) (hW _ _) (hW _ _) (hW _ _) (hW _ _) (hW _ _) (hW _ _) (hW _ _) (hW _ _) (hW _ _) (hW _ _) (hW _ _))
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    iexists _; iexact H6

end Cert.Kernel5Ideal.Hand

end
-- ==== Proof.CbBody.lean ====
module

public import proofs.«01_k».proof.Proof.CbLoop
public import Idealize.ShloMosaic.Lib.Exec
public import Idealize.ShloMosaic.Lib.Tactic
public import Idealize.ShloMosaic.Lib.Pipeline.Kit
public import Idealize.ShloMosaic.Lib.Ring

@[expose] public section

set_option maxRecDepth 16384

noncomputable section

namespace Cert.Kernel5Ideal.Hand

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

section
variable (c : Dev nD) (i : grid0.Coords) (arg3 : Memref sig .tc .smem S2048 .i32) (harg3 : arg3.IsWhole) (arg4 : Memref sig .tc .smem S128 .i32) (harg4 : arg4.IsWhole) (arg5 : Memref sig .tc .vmem S1x16x1x8192 .i32) (harg5 : arg5.IsWhole) (arg6 : Memref sig .tc .vmem S1x16x1296x512 .bf16) (harg6 : arg6.IsWhole) (arg7 : Memref sig .tc .vmem S1024x512 .f32) (harg7 : arg7.IsWhole) (arg8 : Memref sig .tc .vmem S1024x512 .f32) (harg8 : arg8.IsWhole) (arg9 : Memref sig .tc .vmem S4352x512 .bf16) (harg9 : arg9.IsWhole)
    (t3 : Vec F S2048 .i32) (x0 : Vec F S1x16x1x8192 .i32) (x1 : Vec F S1x16x1296x512 .bf16) (x2 : Vec F S1024x512 .f32)
    (hW : ∀ (B : LoadRect S2048) (x : B.shape.Idx), WordOk (arg3.view.readAt (Elt F) B (harg3.unread t3) x))
    (arg0 : BitVec 32) (v0 : BitVec 32) (v2 : BitVec 32) (v122 : Elt F .i32) (v239 : Elt F .i32) (v356 : Elt F .i32) (v473 : Elt F .i32) (k0_h2 : k0_cond2 v122 v239 v356 v473 = 1#1)

/-- The pieces the trips before `k` write, the last one first. -/
def piecesB : ℕ → List (View.Piece (Elt F) S1024x512 .f32)
  | 0 => []
  | k + 1 => if h : k < k0_t1_loop.trips then ⟨rectB i ⟨k, h⟩, (trip c i arg3 harg3 arg4 harg4 arg5 harg5 arg6 harg6 arg7 harg7 arg8 harg8 arg9 harg9 t3 x0 x1 x2 hW arg0 v0 v2 v122 v239 v356 v473 k0_h2 ⟨k, h⟩).1⟩ :: piecesB k else piecesB k

theorem oAcc_writes (f : Buf (Elt F) (arg8.view.loc (c : Thread nD τ))) (k : ℕ) :
    oAcc c i arg3 harg3 arg4 harg4 arg5 harg5 arg6 harg6 arg7 harg7 arg8 harg8 arg9 harg9 t3 x0 x1 x2 hW arg0 v0 v2 v122 v239 v356 v473 k0_h2 f k
      = arg8.view.writes (Elt F) f (piecesB c i arg3 harg3 arg4 harg4 arg5 harg5 arg6 harg6 arg7 harg7 arg8 harg8 arg9 harg9 t3 x0 x1 x2 hW arg0 v0 v2 v122 v239 v356 v473 k0_h2 k) := by
  induction k with
  | zero => rfl
  | succ k ih =>
    unfold oAcc piecesB
    by_cases h : k < k0_t1_loop.trips
    · rw [dif_pos h, dif_pos h, ih]; rfl
    · rw [dif_neg h, dif_neg h, ih]

theorem mem_piecesB (k : Fin k0_t1_loop.trips) (n : ℕ) (hn : k.val < n) :
    (⟨rectB i k, (trip c i arg3 harg3 arg4 harg4 arg5 harg5 arg6 harg6 arg7 harg7 arg8 harg8 arg9 harg9 t3 x0 x1 x2 hW arg0 v0 v2 v122 v239 v356 v473 k0_h2 k).1⟩ : View.Piece (Elt F) S1024x512 .f32)
      ∈ piecesB c i arg3 harg3 arg4 harg4 arg5 harg5 arg6 harg6 arg7 harg7 arg8 harg8 arg9 harg9 t3 x0 x1 x2 hW arg0 v0 v2 v122 v239 v356 v473 k0_h2 n := by
  induction n with
  | zero => omega
  | succ n ih =>
    unfold piecesB
    by_cases h : n < k0_t1_loop.trips
    · rw [dif_pos h]
      by_cases e : k.val = n
      · obtain ⟨kv, hk⟩ := k; subst e; exact List.mem_cons_self
      · exact List.mem_cons_of_mem _ (ih (by omega))
    · rw [dif_neg h]; have := k.isLt; exact ih (by omega)

theorem trips_eq : k0_t1_loop.trips = 4 := by decide

theorem off198_eq (i : grid0.Coords) (k : Fin k0_t1_loop.trips) : k0_off198 i k = ![256 * k.val, 0] := by
  have e : ∀ (a : Fin 8) (k : Fin k0_t1_loop.trips), (Scalar.muli (Scalar.subi (Scalar.addi (Scalar.addi (Scalar.muli (BitVec.ofNat 32 a.val) 4#32) (Scalar.muli 0#32 4#32)) (Scf.iv 0#32 1#32 k)) (Scalar.muli (BitVec.ofNat 32 a.val) 4#32)) 256#32 : BitVec 32).toNat = 256 * k.val := by
    decide
  unfold k0_off198
  exact congrArg (fun x => ![x, 0]) (e (i 2) k)

theorem cover_piecesB (y : S1024x512.Idx) : ∃ p ∈ piecesB c i arg3 harg3 arg4 harg4 arg5 harg5 arg6 harg6 arg7 harg7 arg8 harg8 arg9 harg9 t3 x0 x1 x2 hW arg0 v0 v2 v122 v239 v356 v473 k0_h2 k0_t1_loop.trips, y ∈ p.1.set := by
  have h0 : (y 0).val < 1024 := (y 0).isLt
  have h1 : (y 1).val < 512 := (y 1).isLt
  have ht := trips_eq
  refine ⟨_, mem_piecesB c i arg3 harg3 arg4 harg4 arg5 harg5 arg6 harg6 arg7 harg7 arg8 harg8 arg9 harg9 t3 x0 x1 x2 hW arg0 v0 v2 v122 v239 v356 v473 k0_h2 ⟨(y 0).val / 256, by omega⟩ _ (by show (y 0).val / 256 < _; omega), ?_⟩
  rw [Rect.mem_set_unit]
  intro a
  rw [off198_eq]
  match a with
  | ⟨0, _⟩ => show 256 * ((y 0).val / 256) ≤ (y 0).val ∧ (y 0).val < 256 * ((y 0).val / 256) + 256; omega
  | ⟨1, _⟩ => show 0 ≤ (y 1).val ∧ (y 1).val < 0 + 512; omega
end

section
variable (c : Dev nD) (i : grid0.Coords) (arg3 : Memref sig .tc .smem S2048 .i32) (harg3 : arg3.IsWhole) (arg4 : Memref sig .tc .smem S128 .i32) (harg4 : arg4.IsWhole) (arg5 : Memref sig .tc .vmem S1x16x1x8192 .i32) (harg5 : arg5.IsWhole) (arg6 : Memref sig .tc .vmem S1x16x1296x512 .bf16) (harg6 : arg6.IsWhole) (arg7 : Memref sig .tc .vmem S1024x512 .f32) (harg7 : arg7.IsWhole) (arg8 : Memref sig .tc .vmem S1024x512 .f32) (harg8 : arg8.IsWhole) (arg9 : Memref sig .tc .vmem S4352x512 .bf16) (harg9 : arg9.IsWhole)
    (t3 : Vec F S2048 .i32) (t4 : Vec F S128 .i32) (x0 : Vec F S1x16x1x8192 .i32) (x1 : Vec F S1x16x1296x512 .bf16) (x2 : Vec F S1024x512 .f32)
    (hW : ∀ (B : LoadRect S2048) (x : B.shape.Idx), WordOk (arg3.view.readAt (Elt F) B (harg3.unread t3) x))

theorem off101_eq (i : grid0.Coords) (k : Fin 4) : k0_off101 i (BitVec.ofNat 32 k.val) = ![256 * k.val, 0] := by
  have e : ∀ (a : Fin 8) (k : Fin 4), (Scalar.muli (Scalar.subi (Scalar.addi (Scalar.addi (Scalar.muli (BitVec.ofNat 32 a.val) 4#32) (Scalar.muli 0#32 4#32)) (BitVec.ofNat 32 k.val)) (Scalar.muli (BitVec.ofNat 32 a.val) 4#32)) 256#32 : BitVec 32).toNat = 256 * k.val := by
    decide
  unfold k0_off101
  exact congrArg (fun x => ![x, 0]) (e (i 2) k)

/-- Block `k`'s rows of the output block. -/
abbrev rectA (i : grid0.Coords) (k : Fin 4) : Rect S1024x512 :=
  Rect.unit (s := S1024x512) (k0_off101 i (BitVec.ofNat 32 k.val)) S256x512.size (k0_off101_inb i k)

theorem piecesA_eq (hc : condA i arg4 harg4 t4) : ∃ (w3 : (rectA i 3).shape.Idx → Elt F .f32) (w2 : (rectA i 2).shape.Idx → Elt F .f32)
    (w1 : (rectA i 1).shape.Idx → Elt F .f32) (w0 : (rectA i 0).shape.Idx → Elt F .f32),
    (runA c i arg3 harg3 arg4 harg4 arg5 harg5 arg6 harg6 arg7 harg7 arg8 harg8 arg9 harg9 t3 t4 x0 x1 x2 hW hc).1 = [⟨rectA i 3, w3⟩, ⟨rectA i 2, w2⟩, ⟨rectA i 1, w1⟩, ⟨rectA i 0, w0⟩] :=
  ⟨_, _, _, _, rfl⟩

theorem coverA (hc : condA i arg4 harg4 t4) (y : S1024x512.Idx) : ∃ p ∈ (runA c i arg3 harg3 arg4 harg4 arg5 harg5 arg6 harg6 arg7 harg7 arg8 harg8 arg9 harg9 t3 t4 x0 x1 x2 hW hc).1, y ∈ p.1.set := by
  obtain ⟨w3, w2, w1, w0, e⟩ := piecesA_eq c i arg3 harg3 arg4 harg4 arg5 harg5 arg6 harg6 arg7 harg7 arg8 harg8 arg9 harg9 t3 t4 x0 x1 x2 hW hc
  rw [e]
  have h0 : (y 0).val < 1024 := (y 0).isLt
  have h1 : (y 1).val < 512 := (y 1).isLt
  have key : ∀ k : Fin 4, (y 0).val / 256 = k.val → y ∈ (rectA i k).set := fun k hk => by
    rw [Rect.mem_set_unit]
    intro a
    rw [off101_eq]
    match a with
    | ⟨0, _⟩ => show 256 * k.val ≤ (y 0).val ∧ (y 0).val < 256 * k.val + 256; omega
    | ⟨1, _⟩ => show 0 ≤ (y 1).val ∧ (y 1).val < 0 + 512; omega
  have hq : (y 0).val / 256 = 0 ∨ (y 0).val / 256 = 1 ∨ (y 0).val / 256 = 2 ∨ (y 0).val / 256 = 3 := by omega
  rcases hq with h | h | h | h
  · exact ⟨⟨rectA i 0, w0⟩, by simp, key 0 h⟩
  · exact ⟨⟨rectA i 1, w1⟩, by simp, key 1 h⟩
  · exact ⟨⟨rectA i 2, w2⟩, by simp, key 2 h⟩
  · exact ⟨⟨rectA i 3, w3⟩, by simp, key 3 h⟩

/-- The pieces the body writes into the output block. -/
def piecesG : List (View.Piece (Elt F) S1024x512 .f32) :=
  if hc : condA i arg4 harg4 t4 then (runA c i arg3 harg3 arg4 harg4 arg5 harg5 arg6 harg6 arg7 harg7 arg8 harg8 arg9 harg9 t3 t4 x0 x1 x2 hW hc).1
  else piecesB c i arg3 harg3 arg4 harg4 arg5 harg5 arg6 harg6 arg7 harg7 arg8 harg8 arg9 harg9 t3 x0 x1 x2 hW (BitVec.ofNat 32 (i 0).val) (Scalar.muli (BitVec.ofNat 32 (i 2).val) 4#32) (Scalar.addi (Scalar.muli (BitVec.ofNat 32 (i 2).val) 4#32) (Scalar.muli 0#32 4#32)) _ _ _ _ (condB_of i arg4 harg4 t4 hc) k0_t1_loop.trips

theorem coverG (y : S1024x512.Idx) : ∃ p ∈ piecesG c i arg3 harg3 arg4 harg4 arg5 harg5 arg6 harg6 arg7 harg7 arg8 harg8 arg9 harg9 t3 t4 x0 x1 x2 hW, y ∈ p.1.set := by
  unfold piecesG
  by_cases hc : condA i arg4 harg4 t4
  · rw [dif_pos hc]; exact coverA c i arg3 harg3 arg4 harg4 arg5 harg5 arg6 harg6 arg7 harg7 arg8 harg8 arg9 harg9 t3 t4 x0 x1 x2 hW hc y
  · rw [dif_neg hc]; exact cover_piecesB c i arg3 harg3 arg4 harg4 arg5 harg5 arg6 harg6 arg7 harg7 arg8 harg8 arg9 harg9 t3 x0 x1 x2 hW _ _ _ _ _ _ _ _ y

/-- What the body leaves in the output block. -/
def outG : Vec F S1024x512 .f32 := arg8.view.read (Elt F) (arg8.view.writes (Elt F) arg8.view.junk (piecesG c i arg3 harg3 arg4 harg4 arg5 harg5 arg6 harg6 arg7 harg7 arg8 harg8 arg9 harg9 t3 t4 x0 x1 x2 hW))

theorem runG (E : Set ℕ) (K : PUnit → sProp (MT nD τ sig Unit (Elt F) ℕ (UR sig nD τ) ℕ)) :
    iprop(owns (c : Thread nD τ) arg3 fullShare.right t3 ∗ owns (c : Thread nD τ) arg4 fullShare.right t4 ∗ owns (c : Thread nD τ) arg5 fullShare x0 ∗ owns (c : Thread nD τ) arg6 fullShare x1 ∗ owns (c : Thread nD τ) arg7 fullShare x2 ∗ (∃ d, owns (c : Thread nD τ) arg8 fullShare d) ∗ (∃ d, owns (c : Thread nD τ) arg9 fullShare d)
        ∗ (iprop(owns (c : Thread nD τ) arg3 fullShare.right t3 ∗ owns (c : Thread nD τ) arg4 fullShare.right t4 ∗ owns (c : Thread nD τ) arg5 fullShare x0 ∗ owns (c : Thread nD τ) arg6 fullShare x1 ∗ owns (c : Thread nD τ) arg7 fullShare x2 ∗ owns (c : Thread nD τ) arg8 fullShare (outG c i arg3 harg3 arg4 harg4 arg5 harg5 arg6 harg6 arg7 harg7 arg8 harg8 arg9 harg9 t3 t4 x0 x1 x2 hW)
          ∗ (∃ d, owns (c : Thread nD τ) arg9 fullShare d)) -∗ K ⟨⟩))
          ⊢ wp frame (wpE (defs₀ (F := F)) Variants.none c none) E (cc0__combine_kernel i arg3 harg3 arg4 harg4 arg5 harg5 arg6 harg6 arg7 harg7 arg8 harg8 arg9 harg9) K := by
  by_cases hc : condA i arg4 harg4 t4
  · iintro ⟨H3, H4, H5, H6, H7, H8, H9, Hk⟩
    iapply ((runA c i arg3 harg3 arg4 harg4 arg5 harg5 arg6 harg6 arg7 harg7 arg8 harg8 arg9 harg9 t3 t4 x0 x1 x2 hW hc).2 E K)
    isplitl [H3]; · iexact H3
    isplitl [H4]; · iexact H4
    isplitl [H5]; · iexact H5
    isplitl [H6]; · iexact H6
    isplitl [H7]; · iexact H7
    isplitl [H8]; · iexact H8
    isplitl [H9]; · iexact H9
    iintro ⟨H3, H4, H5, H6, H7, ⟨%f, H8⟩, ⟨%g, H9⟩⟩
    iapply Hk
    isplitl [H3]; · iexact H3
    isplitl [H4]; · iexact H4
    isplitl [H5]; · iexact H5
    isplitl [H6]; · iexact H6
    isplitl [H7]; · iexact H7
    isplitl [H8]
    · unfold owns; iexists _; isplitr
      swap; · iexact H8
      ipureintro; unfold outG piecesG; rw [dif_pos hc]
      exact View.read_writes_of_cover _ _ _ _ _ (coverA c i arg3 harg3 arg4 harg4 arg5 harg5 arg6 harg6 arg7 harg7 arg8 harg8 arg9 harg9 t3 t4 x0 x1 x2 hW hc)
    iexists _; unfold owns; iexists _; isplitr
    swap; · iexact H9
    ipureintro; rfl
  · iintro ⟨H3, H4, H5, H6, H7, H8, H9, Hk⟩
    iapply (runB c i arg3 harg3 arg4 harg4 arg5 harg5 arg6 harg6 arg7 harg7 arg8 harg8 arg9 harg9 t3 t4 x0 x1 x2 hW hc E K)
    isplitl [H3]; · iexact H3
    isplitl [H4]; · iexact H4
    isplitl [H5]; · iexact H5
    isplitl [H6]; · iexact H6
    isplitl [H7]; · iexact H7
    isplitl [H8]; · iexact H8
    isplitl [H9]; · iexact H9
    iintro ⟨H3, H4, H5, H6, H7, ⟨%f, H8⟩, ⟨%g, H9⟩⟩
    iapply Hk
    isplitl [H3]; · iexact H3
    isplitl [H4]; · iexact H4
    isplitl [H5]; · iexact H5
    isplitl [H6]; · iexact H6
    isplitl [H7]; · iexact H7
    isplitl [H8]
    · unfold owns; iexists _; isplitr
      swap; · iexact H8
      ipureintro; unfold outG piecesG; rw [dif_neg hc, oAcc_writes]
      exact View.read_writes_of_cover _ _ _ _ _ (cover_piecesB c i arg3 harg3 arg4 harg4 arg5 harg5 arg6 harg6 arg7 harg7 arg8 harg8 arg9 harg9 t3 x0 x1 x2 hW _ _ _ _ _ _ _ _)
    iexists _; unfold owns; iexists _; isplitr
    swap; · iexact H9
    ipureintro; rfl
end

end Cert.Kernel5Ideal.Hand

end
-- ==== Proof.CbHot.lean ====
module

public import proofs.«01_k».proof.Proof.CbBody
public import Idealize.ShloMosaic.Lib.Pointwise
public import Idealize.ShloMosaic.Lib.Pipeline.Value

@[expose] public section

set_option maxRecDepth 16384

noncomputable section

namespace Cert.Kernel5Ideal.Hand

open Cert.Kernel5Ideal Cert.Kernel5Ideal.Gen Idealize.ShloMosaic Idealize.ShloMosaic.TcCoe Idealize.SL.Sem

/-- One expert's one-hot rows in the narrow window: the lane's slot against the window's first slot plus the row. -/
def hotA (w : BitVec 32) (r : Vec Ideal S1x1x1x256 .i32) : FVec Ideal S64x256 .bf16 :=
  truncf .bf16 (select (cmpi .eq (broadcastTo S64x256 (subi (shapeCast S1x256 r shapeCasts_S1x1x1x256_S1x256) (broadcast S1x256 w)) broadcasts_S1x256_S64x256) (iota .tc S64x256 32 [0] iota_S64x256_d0_w32))
    (broadcast S64x256 (Scalar.ofBits .f32 0x3F800000#32)) (broadcast S64x256 (Scalar.ofBits .f32 0x00000000#32))) bitsLt_bf16_f32

/-- The same in the wide window. -/
def hotB (w : BitVec 32) (r : Vec Ideal S1x1x1x256 .i32) : FVec Ideal S272x256 .bf16 :=
  truncf .bf16 (select (cmpi .eq (broadcastTo S272x256 (subi (shapeCast S1x256 r shapeCasts_S1x1x1x256_S1x256) (broadcast S1x256 w)) broadcasts_S1x256_S272x256) (iota .tc S272x256 32 [0] iota_S272x256_d0_w32))
    (broadcast S272x256 (Scalar.ofBits .f32 0x3F800000#32)) (broadcast S272x256 (Scalar.ofBits .f32 0x00000000#32))) bitsLt_bf16_f32

/-- A one-hot entry. -/
def hit (s w : BitVec 32) (n : ℕ) : EReal := if s - w = BitVec.ofNat 32 n then 1 else 0

theorem sel_hit (s w : BitVec 32) (n : ℕ) : Scalar.select (IntOp.cmpi CmpIPredicate.eq (IntOp.subi s w) (BitVec.ofNat 32 n)) (1 : EReal) 0 = hit s w n := by
  unfold hit Scalar.select IntOp.cmpi IntOp.subi
  by_cases h : s - w = BitVec.ofNat 32 n
  · rw [if_pos h, if_pos]; simp [h]
  · rw [if_neg h, if_neg]; show ¬ BitVec.ofBool (s - w == BitVec.ofNat 32 n) = 1; rw [show (s - w == BitVec.ofNat 32 n) = false from beq_false_of_ne h]; decide

theorem hotA_apply (w r) (n : Fin 64) (c : Fin 256) : hotA w r (ix2 n c) = hit (r (ix4 (0 : Fin 1) (0 : Fin 1) (0 : Fin 1) c)) w n.val := by
  pointwise [hotA]
  exact sel_hit _ _ _

theorem hotB_apply (w r) (n : Fin 272) (c : Fin 256) : hotB w r (ix2 n c) = hit (r (ix4 (0 : Fin 1) (0 : Fin 1) (0 : Fin 1) c)) w n.val := by
  pointwise [hotB]
  exact sel_hit _ _ _

/-- Sixteen experts' rows one below another. -/
def catA (f : Fin 16 → FVec Ideal S64x256 .bf16) : FVec Ideal S1024x256 .bf16 :=
  concatenate S1024x256 0 (List.ofFn fun e : Fin 16 => (⟨S64x256, f e⟩ : (s : Shape) × (s.Idx → Ideal .bf16))) concatenates_S64x256_S64x256_S64x256_S64x256_S64x256_S64x256_S64x256_S64x256_S64x256_S64x256_S64x256_S64x256_S64x256_S64x256_S64x256_S64x256_S1024x256_d0

/-- Sixteen experts' rows one below another. -/
def catB (f : Fin 16 → FVec Ideal S272x256 .bf16) : FVec Ideal S4352x256 .bf16 :=
  concatenate S4352x256 0 (List.ofFn fun e : Fin 16 => (⟨S272x256, f e⟩ : (s : Shape) × (s.Idx → Ideal .bf16))) concatenates_S272x256_S272x256_S272x256_S272x256_S272x256_S272x256_S272x256_S272x256_S272x256_S272x256_S272x256_S272x256_S272x256_S272x256_S272x256_S272x256_S4352x256_d0

/-- A block of 256 output rows from the narrow windows. -/
def blockA (w : Fin 16 → BitVec 32) (r : Fin 16 → Vec Ideal S1x1x1x256 .i32) (X : Vec Ideal S256x512 .f32) (Y : Vec Ideal S1024x512 .bf16) : FVec Ideal S256x512 .f32 :=
  addf X (matmul (φ₁ := .bf16) (φ₂ := .bf16) dot_S1024x256_S1024x512_S256x512_0_0_1_1_n_n none
    (catA fun e => hotA (w e) (r e))
    Y (constant S256x512 .f32 0x00000000#32))

/-- A block of 256 output rows from the wide windows. -/
def blockB (w : Fin 16 → BitVec 32) (r : Fin 16 → Vec Ideal S1x1x1x256 .i32) (X : Vec Ideal S256x512 .f32) (Y : Vec Ideal S4352x512 .bf16) : FVec Ideal S256x512 .f32 :=
  addf X (matmul (φ₁ := .bf16) (φ₂ := .bf16) dot_S4352x256_S4352x512_S256x512_0_0_1_1_n_n none
    (catB fun e => hotB (w e) (r e))
    Y (constant S256x512 .f32 0x00000000#32))

theorem blockA_apply (w r X Y) (c : Fin 256) (d : Fin 512) :
    blockA w r X Y (ix2 c d) = X (ix2 c d) + ∑ k : Fin 1024, hit (r ⟨k.val / 64, by omega⟩ (ix4 (0 : Fin 1) (0 : Fin 1) (0 : Fin 1) c)) (w ⟨k.val / 64, by omega⟩) (k.val % 64) * Y (ix2 k d) := by
  pointwise [blockA]
  refine congrArg (fun s : EReal => X (ix2 c d) + s) (Finset.sum_congr rfl fun k _ => congrArg (fun s : EReal => s * Y (ix2 k d)) ?_)
  refine (concatenate_ofFn_apply (t := S1024x256) (s₁ := S64x256) (0 : Fin 2) (fun e : Fin 16 => hotA (w e) (r e)) concatenates_S64x256_S64x256_S64x256_S64x256_S64x256_S64x256_S64x256_S64x256_S64x256_S64x256_S64x256_S64x256_S64x256_S64x256_S64x256_S64x256_S1024x256_d0 rfl 64 rfl (ix2 k c) ⟨k.val / 64, by omega⟩ rfl (ix2 (⟨k.val % 64, Nat.mod_lt _ (by decide)⟩ : Fin 64) c) rfl (fun b hb => by
    match b with
    | 0 => exact absurd rfl hb
    | 1 => rfl)).trans ?_
  exact hotA_apply _ _ _ _

theorem blockB_apply (w r X Y) (c : Fin 256) (d : Fin 512) :
    blockB w r X Y (ix2 c d) = X (ix2 c d) + ∑ k : Fin 4352, hit (r ⟨k.val / 272, by omega⟩ (ix4 (0 : Fin 1) (0 : Fin 1) (0 : Fin 1) c)) (w ⟨k.val / 272, by omega⟩) (k.val % 272) * Y (ix2 k d) := by
  pointwise [blockB]
  refine congrArg (fun s : EReal => X (ix2 c d) + s) (Finset.sum_congr rfl fun k _ => congrArg (fun s : EReal => s * Y (ix2 k d)) ?_)
  refine (concatenate_ofFn_apply (t := S4352x256) (s₁ := S272x256) (0 : Fin 2) (fun e : Fin 16 => hotB (w e) (r e)) concatenates_S272x256_S272x256_S272x256_S272x256_S272x256_S272x256_S272x256_S272x256_S272x256_S272x256_S272x256_S272x256_S272x256_S272x256_S272x256_S272x256_S4352x256_d0 rfl 272 rfl (ix2 k c) ⟨k.val / 272, by omega⟩ rfl (ix2 (⟨k.val % 272, Nat.mod_lt _ (by decide)⟩ : Fin 272) c) rfl (fun b hb => by
    match b with
    | 0 => exact absurd rfl hb
    | 1 => rfl)).trans ?_
  exact hotB_apply _ _ _ _

theorem hit_eq (s w : BitVec 32) (W : ℕ) (hW : W ≤ 1024) (n : Fin W) : hit s w n.val = if (s - w).toNat = n.val then 1 else 0 := by
  unfold hit
  have hn := n.isLt
  by_cases h : (s - w).toNat = n.val
  · rw [if_pos h, if_pos]; apply BitVec.eq_of_toNat_eq; rw [BitVec.toNat_ofNat, h]; omega
  · rw [if_neg h, if_neg]; intro e; apply h; rw [e, BitVec.toNat_ofNat]; omega

/-- One expert's window times its rows: the row the slot names, or nothing. -/
theorem sum_hit (s w : BitVec 32) (W : ℕ) (hW : W ≤ 1024) (g : Fin W → EReal) :
    ∑ n : Fin W, hit s w n.val * g n = if h : (s - w).toNat < W then g ⟨(s - w).toNat, h⟩ else 0 := by
  have e : ∀ n : Fin W, hit s w n.val * g n = if (s - w).toNat = n.val then g n else 0 := fun n => by
    rw [hit_eq s w W hW n]; split <;> simp
  rw [Finset.sum_congr rfl fun n _ => e n]
  by_cases h : (s - w).toNat < W
  · rw [dif_pos h, Finset.sum_eq_single (⟨(s - w).toNat, h⟩ : Fin W)]
    · rw [if_pos rfl]
    · intro b _ hb; rw [if_neg]; intro e; exact hb (Fin.ext e.symm)
    · intro hh; exact absurd (Finset.mem_univ _) hh
  · rw [dif_neg h]; refine Finset.sum_eq_zero fun n _ => ?_
    have := n.isLt
    rw [if_neg]; omega

/-- A sum over `16 W` rows, one expert's `W` rows after another's. -/
theorem sum_split (W : ℕ) (hW : 0 < W) (f : Fin 16 → ℕ → EReal) :
    ∑ k : Fin (16 * W), f ⟨k.val / W, Nat.div_lt_of_lt_mul (lt_of_lt_of_eq k.isLt (Nat.mul_comm 16 W))⟩ (k.val % W) = ∑ e : Fin 16, ∑ n : Fin W, f e n.val := by
  rw [← Finset.sum_product', ← (finProdFinEquiv (m := 16) (n := W)).sum_comp]
  refine Finset.sum_congr rfl fun x _ => ?_
  obtain ⟨e, n⟩ := x
  have hn := n.isLt
  have h1 : (n.val + W * e.val) / W = e.val := by rw [Nat.add_mul_div_left _ _ hW, Nat.div_eq_of_lt hn, Nat.zero_add]
  have h2 : (n.val + W * e.val) % W = n.val := by rw [Nat.add_mul_mod_self_left, Nat.mod_eq_of_lt hn]
  show f ⟨(n.val + W * e.val) / W, _⟩ ((n.val + W * e.val) % W) = f e n.val
  rw [h2]; exact congrArg (fun z => f z n.val) (Fin.ext h1)

/-- What one output row takes of one expert: the row its slot names, when the window from `w` of `W` rows holds it. -/
def take (Y : Vec Ideal S1x16x1296x512 .bf16) (s w : BitVec 32) (W : ℕ) (e : Fin 16) (d : Fin 512) : EReal :=
  if h : (s - w).toNat < W ∧ w.toNat + (s - w).toNat < 1296 then Y (ix4 (0 : Fin 1) e (⟨w.toNat + (s - w).toNat, h.2⟩ : Fin 1296) d) else 0

/-- The scratch's row `n` of expert `e`. -/
def yrow (Y : Vec Ideal S1x16x1296x512 .bf16) (w : BitVec 32) (e : Fin 16) (n : ℕ) (d : Fin 512) : EReal :=
  if h : w.toNat + n < 1296 then Y (ix4 (0 : Fin 1) e (⟨w.toNat + n, h⟩ : Fin 1296) d) else 0

theorem sum_take (Y) (s w : BitVec 32) (W : ℕ) (hW : W ≤ 1024) (e d) : ∑ n : Fin W, hit s w n.val * yrow Y w e n.val d = take Y s w W e d := by
  rw [sum_hit s w W hW fun n => yrow Y w e n.val d]
  unfold take yrow
  by_cases h : (s - w).toNat < W
  · rw [dif_pos h]
    by_cases h2 : w.toNat + (s - w).toNat < 1296
    · rw [dif_pos h2, dif_pos ⟨h, h2⟩]
    · rw [dif_neg h2, dif_neg (fun e => h2 e.2)]
  · rw [dif_neg h, dif_neg (fun e => h e.1)]

theorem blockA_take (w r X Y Y1) (c : Fin 256) (d : Fin 512) (hY : ∀ k : Fin 1024, Y (ix2 k d) = yrow Y1 (w ⟨k.val / 64, by omega⟩) ⟨k.val / 64, by omega⟩ (k.val % 64) d) :
    blockA w r X Y (ix2 c d) = X (ix2 c d) + ∑ e : Fin 16, take Y1 (r e (ix4 (0 : Fin 1) (0 : Fin 1) (0 : Fin 1) c)) (w e) 64 e d := by
  rw [blockA_apply]
  refine congrArg (fun s : EReal => X (ix2 c d) + s) ?_
  rw [Finset.sum_congr rfl fun k _ => congrArg (fun s => hit _ _ _ * s) (hY k)]
  refine (sum_split 64 (by decide) fun e n => hit (r e (ix4 (0 : Fin 1) (0 : Fin 1) (0 : Fin 1) c)) (w e) n * yrow Y1 (w e) e n d).trans ?_
  exact Finset.sum_congr rfl fun e _ => sum_take _ _ _ _ (by decide) _ _

theorem blockB_take (w r X Y Y1) (c : Fin 256) (d : Fin 512) (hY : ∀ k : Fin 4352, Y (ix2 k d) = yrow Y1 (w ⟨k.val / 272, by omega⟩) ⟨k.val / 272, by omega⟩ (k.val % 272) d) :
    blockB w r X Y (ix2 c d) = X (ix2 c d) + ∑ e : Fin 16, take Y1 (r e (ix4 (0 : Fin 1) (0 : Fin 1) (0 : Fin 1) c)) (w e) 272 e d := by
  rw [blockB_apply]
  refine congrArg (fun s : EReal => X (ix2 c d) + s) ?_
  rw [Finset.sum_congr rfl fun k _ => congrArg (fun s => hit _ _ _ * s) (hY k)]
  refine (sum_split 272 (by decide) fun e n => hit (r e (ix4 (0 : Fin 1) (0 : Fin 1) (0 : Fin 1) c)) (w e) n * yrow Y1 (w e) e n d).trans ?_
  exact Finset.sum_congr rfl fun e _ => sum_take _ _ _ _ (by decide) _ _

end Cert.Kernel5Ideal.Hand

end
-- ==== Proof.CbRead.lean ====
module

public import proofs.«01_k».proof.Proof.CbHot
public import Idealize.ShloMosaic.Lib.WholeRead

@[expose] public section

set_option maxRecDepth 16384

noncomputable section

namespace Cert.Kernel5Ideal.Hand

open Cert.Kernel5Ideal Cert.Kernel5Ideal.Gen Idealize.ShloMosaic Idealize.ShloMosaic.TcCoe Idealize.SL.Sem

theorem fin16 {P : Fin 16 → Prop} (h0 : P 0) (h1 : P 1) (h2 : P 2) (h3 : P 3) (h4 : P 4) (h5 : P 5) (h6 : P 6) (h7 : P 7) (h8 : P 8) (h9 : P 9) (h10 : P 10) (h11 : P 11) (h12 : P 12) (h13 : P 13) (h14 : P 14) (h15 : P 15) : ∀ e, P e := by
  intro e
  fin_cases e <;> assumption

/-! ## Loads at an index -/

theorem word_at (arg3 : Memref sig .tc .smem S2048 .i32) (harg3 : arg3.IsWhole) (t3 : Vec Ideal S2048 .i32) (off : Fin 1 → ℕ) (inb : ∀ a, off a + S1.size a ≤ S2048.size a) (x : S1.Idx) (n : ℕ) (hn : n < 2048) (h : off 0 = n) :
    View.readAt (Elt Ideal) arg3.view (Rect.unit (s := S2048) off S1.size inb).toLoadRect (harg3.unread t3) x = t3 (ix1 (⟨n, hn⟩ : Fin 2048)) := by
  refine (harg3.readAt_unread _ _ _).trans (congrArg t3 (funext fun a => ?_))
  match a with
  | ⟨0, _⟩ => exact Fin.ext (show off 0 + 1 * (x 0).val = n by have := (x 0).isLt; have e : S1.size 0 = 1 := rfl; omega)

theorem row_at (arg5 : Memref sig .tc .vmem S1x16x1x8192 .i32) (harg5 : arg5.IsWhole) (x0 : Vec Ideal S1x16x1x8192 .i32) (off : Fin 4 → ℕ) (inb : ∀ a, off a + S1x1x1x256.size a ≤ S1x16x1x8192.size a) (c : Fin 256) (e : Fin 16) (n : ℕ) (hn : 256 * n + c.val < 8192) (h : off = ![0, e.val, 0, 256 * n]) :
    View.readAt (Elt Ideal) arg5.view (Rect.unit (s := S1x16x1x8192) off S1x1x1x256.size inb).toLoadRect (harg5.unread x0) (ix4 (0 : Fin 1) (0 : Fin 1) (0 : Fin 1) c) = x0 (ix4 (0 : Fin 1) e (0 : Fin 1) (⟨256 * n + c.val, hn⟩ : Fin 8192)) := by
  subst h
  refine (harg5.readAt_unread _ _ _).trans (congrArg x0 (funext fun a => ?_))
  match a with
  | ⟨0, _⟩ => rfl
  | ⟨1, _⟩ => exact Fin.ext (show e.val + 1 * 0 = e.val by omega)
  | ⟨2, _⟩ => rfl
  | ⟨3, _⟩ => exact Fin.ext (show 256 * n + 1 * c.val = 256 * n + c.val by omega)

theorem x_at (arg7 : Memref sig .tc .vmem S1024x512 .f32) (harg7 : arg7.IsWhole) (x2 : Vec Ideal S1024x512 .f32) (off : Fin 2 → ℕ) (inb : ∀ a, off a + S256x512.size a ≤ S1024x512.size a) (c : Fin 256) (d : Fin 512) (n : ℕ) (hn : 256 * n + c.val < 1024) (h : off = ![256 * n, 0]) :
    View.readAt (Elt Ideal) arg7.view (Rect.unit (s := S1024x512) off S256x512.size inb).toLoadRect (harg7.unread x2) (ix2 c d) = x2 (ix2 (⟨256 * n + c.val, hn⟩ : Fin 1024) d) := by
  subst h
  refine (harg7.readAt_unread _ _ _).trans (congrArg x2 (funext fun a => ?_))
  match a with
  | ⟨0, _⟩ => exact Fin.ext (show 256 * n + 1 * c.val = 256 * n + c.val by omega)
  | ⟨1, _⟩ => exact Fin.ext (show 0 + 1 * d.val = d.val by omega)

/-- A grid point's coordinates from the two that the kernel's offsets read. -/
def mkc (b : Fin 4) (t : Fin 8) : grid0.Coords := fun a => match a with
  | ⟨0, _⟩ => b
  | ⟨1, _⟩ => (0 : Fin 2)
  | ⟨2, _⟩ => t

/-- One expert's rows as the scratch holds them. -/
def castB (v : Vec Ideal S1x1x272x512 .bf16) : FVec Ideal S272x512 .bf16 :=
  shapeCast S272x512 (shapeCast S272x512 v shapeCasts_S1x1x272x512_S272x512) shapeCasts_S272x512_S272x512

theorem castB_apply (v) (n : Fin 272) (d : Fin 512) : castB v (ix2 n d) = v (ix4 (0 : Fin 1) (0 : Fin 1) n d) := by
  pointwise [castB]

theorem pieceB_inb (w : BitVec 32) (hw : WordOk w) (e : Fin 16) : ∀ a, (![0, e.val, w.toNat, 0] : Fin 4 → ℕ) a + S1x1x272x512.size a ≤ S1x16x1296x512.size a := by
  have h := hw.2
  have he := e.isLt
  intro a
  match a with
  | ⟨0, _⟩ => show 0 + 1 ≤ 1; omega
  | ⟨1, _⟩ => show e.val + 1 ≤ 16; omega
  | ⟨2, _⟩ => show w.toNat + 272 ≤ 1296; omega
  | ⟨3, _⟩ => show 0 + 512 ≤ 512; omega

theorem pieceB_at (arg6 : Memref sig .tc .vmem S1x16x1296x512 .bf16) (harg6 : arg6.IsWhole) (x1 : Vec Ideal S1x16x1296x512 .bf16) (w : BitVec 32) (hw : WordOk w) (e : Fin 16) (n : Fin 272) (d : Fin 512) :
    castB (View.readAt (Elt Ideal) arg6.view (Rect.unit (s := S1x16x1296x512) ![0, e.val, w.toNat, 0] S1x1x272x512.size (pieceB_inb w hw e)).toLoadRect (harg6.unread x1)) (ix2 n d) = yrow x1 w e n.val d := by
  have h := hw.2
  have hn := n.isLt
  rw [castB_apply]
  unfold yrow
  rw [dif_pos (show w.toNat + n.val < 1296 by omega)]
  refine (harg6.readAt_unread _ _ _).trans (congrArg x1 (funext fun a => ?_))
  match a with
  | ⟨0, _⟩ => rfl
  | ⟨1, _⟩ => exact Fin.ext (show e.val + 1 * 0 = e.val by omega)
  | ⟨2, _⟩ => exact Fin.ext (show w.toNat + 1 * n.val = w.toNat + n.val by omega)
  | ⟨3, _⟩ => exact Fin.ext (show 0 + 1 * d.val = d.val by omega)

/-- One expert's rows as the scratch holds them. -/
def castA (v : Vec Ideal S1x1x64x512 .bf16) : FVec Ideal S64x512 .bf16 :=
  shapeCast S64x512 (shapeCast S64x512 v shapeCasts_S1x1x64x512_S64x512) shapeCasts_S64x512_S64x512

theorem castA_apply (v) (n : Fin 64) (d : Fin 512) : castA v (ix2 n d) = v (ix4 (0 : Fin 1) (0 : Fin 1) n d) := by
  pointwise [castA]

theorem pieceA_inb (w : BitVec 32) (hw : WordOk w) (e : Fin 16) : ∀ a, (![0, e.val, w.toNat, 0] : Fin 4 → ℕ) a + S1x1x64x512.size a ≤ S1x16x1296x512.size a := by
  have h := hw.2
  have he := e.isLt
  intro a
  match a with
  | ⟨0, _⟩ => show 0 + 1 ≤ 1; omega
  | ⟨1, _⟩ => show e.val + 1 ≤ 16; omega
  | ⟨2, _⟩ => show w.toNat + 64 ≤ 1296; omega
  | ⟨3, _⟩ => show 0 + 512 ≤ 512; omega

theorem pieceA_at (arg6 : Memref sig .tc .vmem S1x16x1296x512 .bf16) (harg6 : arg6.IsWhole) (x1 : Vec Ideal S1x16x1296x512 .bf16) (w : BitVec 32) (hw : WordOk w) (e : Fin 16) (n : Fin 64) (d : Fin 512) :
    castA (View.readAt (Elt Ideal) arg6.view (Rect.unit (s := S1x16x1296x512) ![0, e.val, w.toNat, 0] S1x1x64x512.size (pieceA_inb w hw e)).toLoadRect (harg6.unread x1)) (ix2 n d) = yrow x1 w e n.val d := by
  have h := hw.2
  have hn := n.isLt
  rw [castA_apply]
  unfold yrow
  rw [dif_pos (show w.toNat + n.val < 1296 by omega)]
  refine (harg6.readAt_unread _ _ _).trans (congrArg x1 (funext fun a => ?_))
  match a with
  | ⟨0, _⟩ => rfl
  | ⟨1, _⟩ => exact Fin.ext (show e.val + 1 * 0 = e.val by omega)
  | ⟨2, _⟩ => exact Fin.ext (show w.toNat + 1 * n.val = w.toNat + n.val by omega)
  | ⟨3, _⟩ => exact Fin.ext (show 0 + 1 * d.val = d.val by omega)

end Cert.Kernel5Ideal.Hand

end
-- ==== Proof.CbValA.lean ====
module

public import proofs.«01_k».proof.Proof.CbRead

@[expose] public section

set_option maxRecDepth 16384

noncomputable section

namespace Cert.Kernel5Ideal.Hand

open Cert.Kernel5Ideal Cert.Kernel5Ideal.Gen Idealize.ShloMosaic Idealize.ShloMosaic.TcCoe Idealize.SL.Sem

section
variable (c : Dev nD) (i : grid0.Coords) (arg3 : Memref sig .tc .smem S2048 .i32) (harg3 : arg3.IsWhole) (arg4 : Memref sig .tc .smem S128 .i32) (harg4 : arg4.IsWhole) (arg5 : Memref sig .tc .vmem S1x16x1x8192 .i32) (harg5 : arg5.IsWhole) (arg6 : Memref sig .tc .vmem S1x16x1296x512 .bf16) (harg6 : arg6.IsWhole) (arg7 : Memref sig .tc .vmem S1024x512 .f32) (harg7 : arg7.IsWhole) (arg8 : Memref sig .tc .vmem S1024x512 .f32) (harg8 : arg8.IsWhole) (arg9 : Memref sig .tc .vmem S4352x512 .bf16) (harg9 : arg9.IsWhole)
    (t3 : Vec Ideal S2048 .i32) (t4 : Vec Ideal S128 .i32) (x0 : Vec Ideal S1x16x1x8192 .i32) (x1 : Vec Ideal S1x16x1296x512 .bf16) (x2 : Vec Ideal S1024x512 .f32)
    (hW : ∀ (B : LoadRect S2048) (x : B.shape.Idx), WordOk (arg3.view.readAt (Elt Ideal) B (harg3.unread t3) x))

/-- The windows' starts, by block and expert. -/
def wA : Fin 4 → Fin 16 → BitVec 32 :=
  ![![View.readAt (Elt Ideal) arg3.view (Rect.unit (s := S2048) (k0_off1 i) S1.size (k0_off1_inb i)).toLoadRect (harg3.unread t3) (Shape.Idx.first (show 0 < S1.numel by decide)), View.readAt (Elt Ideal) arg3.view (Rect.unit (s := S2048) (k0_off2 i) S1.size (k0_off2_inb i)).toLoadRect (harg3.unread t3) (Shape.Idx.first (show 0 < S1.numel by decide)), View.readAt (Elt Ideal) arg3.view (Rect.unit (s := S2048) (k0_off3 i) S1.size (k0_off3_inb i)).toLoadRect (harg3.unread t3) (Shape.Idx.first (show 0 < S1.numel by decide)), View.readAt (Elt Ideal) arg3.view (Rect.unit (s := S2048) (k0_off4 i) S1.size (k0_off4_inb i)).toLoadRect (harg3.unread t3) (Shape.Idx.first (show 0 < S1.numel by decide)), View.readAt (Elt Ideal) arg3.view (Rect.unit (s := S2048) (k0_off5 i) S1.size (k0_off5_inb i)).toLoadRect (harg3.unread t3) (Shape.Idx.first (show 0 < S1.numel by decide)), View.readAt (Elt Ideal) arg3.view (Rect.unit (s := S2048) (k0_off6 i) S1.size (k0_off6_inb i)).toLoadRect (harg3.unread t3) (Shape.Idx.first (show 0 < S1.numel by decide)), View.readAt (Elt Ideal) arg3.view (Rect.unit (s := S2048) (k0_off7 i) S1.size (k0_off7_inb i)).toLoadRect (harg3.unread t3) (Shape.Idx.first (show 0 < S1.numel by decide)), View.readAt (Elt Ideal) arg3.view (Rect.unit (s := S2048) (k0_off8 i) S1.size (k0_off8_inb i)).toLoadRect (harg3.unread t3) (Shape.Idx.first (show 0 < S1.numel by decide)), View.readAt (Elt Ideal) arg3.view (Rect.unit (s := S2048) (k0_off9 i) S1.size (k0_off9_inb i)).toLoadRect (harg3.unread t3) (Shape.Idx.first (show 0 < S1.numel by decide)), View.readAt (Elt Ideal) arg3.view (Rect.unit (s := S2048) (k0_off10 i) S1.size (k0_off10_inb i)).toLoadRect (harg3.unread t3) (Shape.Idx.first (show 0 < S1.numel by decide)), View.readAt (Elt Ideal) arg3.view (Rect.unit (s := S2048) (k0_off11 i) S1.size (k0_off11_inb i)).toLoadRect (harg3.unread t3) (Shape.Idx.first (show 0 < S1.numel by decide)), View.readAt (Elt Ideal) arg3.view (Rect.unit (s := S2048) (k0_off12 i) S1.size (k0_off12_inb i)).toLoadRect (harg3.unread t3) (Shape.Idx.first (show 0 < S1.numel by decide)), View.readAt (Elt Ideal) arg3.view (Rect.unit (s := S2048) (k0_off13 i) S1.size (k0_off13_inb i)).toLoadRect (harg3.unread t3) (Shape.Idx.first (show 0 < S1.numel by decide)), View.readAt (Elt Ideal) arg3.view (Rect.unit (s := S2048) (k0_off14 i) S1.size (k0_off14_inb i)).toLoadRect (harg3.unread t3) (Shape.Idx.first (show 0 < S1.numel by decide)), View.readAt (Elt Ideal) arg3.view (Rect.unit (s := S2048) (k0_off15 i) S1.size (k0_off15_inb i)).toLoadRect (harg3.unread t3) (Shape.Idx.first (show 0 < S1.numel by decide)), View.readAt (Elt Ideal) arg3.view (Rect.unit (s := S2048) (k0_off16 i) S1.size (k0_off16_inb i)).toLoadRect (harg3.unread t3) (Shape.Idx.first (show 0 < S1.numel by decide))],
    ![View.readAt (Elt Ideal) arg3.view (Rect.unit (s := S2048) (k0_off18 i) S1.size (k0_off18_inb i)).toLoadRect (harg3.unread t3) (Shape.Idx.first (show 0 < S1.numel by decide)), View.readAt (Elt Ideal) arg3.view (Rect.unit (s := S2048) (k0_off19 i) S1.size (k0_off19_inb i)).toLoadRect (harg3.unread t3) (Shape.Idx.first (show 0 < S1.numel by decide)), View.readAt (Elt Ideal) arg3.view (Rect.unit (s := S2048) (k0_off20 i) S1.size (k0_off20_inb i)).toLoadRect (harg3.unread t3) (Shape.Idx.first (show 0 < S1.numel by decide)), View.readAt (Elt Ideal) arg3.view (Rect.unit (s := S2048) (k0_off21 i) S1.size (k0_off21_inb i)).toLoadRect (harg3.unread t3) (Shape.Idx.first (show 0 < S1.numel by decide)), View.readAt (Elt Ideal) arg3.view (Rect.unit (s := S2048) (k0_off22 i) S1.size (k0_off22_inb i)).toLoadRect (harg3.unread t3) (Shape.Idx.first (show 0 < S1.numel by decide)), View.readAt (Elt Ideal) arg3.view (Rect.unit (s := S2048) (k0_off23 i) S1.size (k0_off23_inb i)).toLoadRect (harg3.unread t3) (Shape.Idx.first (show 0 < S1.numel by decide)), View.readAt (Elt Ideal) arg3.view (Rect.unit (s := S2048) (k0_off24 i) S1.size (k0_off24_inb i)).toLoadRect (harg3.unread t3) (Shape.Idx.first (show 0 < S1.numel by decide)), View.readAt (Elt Ideal) arg3.view (Rect.unit (s := S2048) (k0_off25 i) S1.size (k0_off25_inb i)).toLoadRect (harg3.unread t3) (Shape.Idx.first (show 0 < S1.numel by decide)), View.readAt (Elt Ideal) arg3.view (Rect.unit (s := S2048) (k0_off26 i) S1.size (k0_off26_inb i)).toLoadRect (harg3.unread t3) (Shape.Idx.first (show 0 < S1.numel by decide)), View.readAt (Elt Ideal) arg3.view (Rect.unit (s := S2048) (k0_off27 i) S1.size (k0_off27_inb i)).toLoadRect (harg3.unread t3) (Shape.Idx.first (show 0 < S1.numel by decide)), View.readAt (Elt Ideal) arg3.view (Rect.unit (s := S2048) (k0_off28 i) S1.size (k0_off28_inb i)).toLoadRect (harg3.unread t3) (Shape.Idx.first (show 0 < S1.numel by decide)), View.readAt (Elt Ideal) arg3.view (Rect.unit (s := S2048) (k0_off29 i) S1.size (k0_off29_inb i)).toLoadRect (harg3.unread t3) (Shape.Idx.first (show 0 < S1.numel by decide)), View.readAt (Elt Ideal) arg3.view (Rect.unit (s := S2048) (k0_off30 i) S1.size (k0_off30_inb i)).toLoadRect (harg3.unread t3) (Shape.Idx.first (show 0 < S1.numel by decide)), View.readAt (Elt Ideal) arg3.view (Rect.unit (s := S2048) (k0_off31 i) S1.size (k0_off31_inb i)).toLoadRect (harg3.unread t3) (Shape.Idx.first (show 0 < S1.numel by decide)), View.readAt (Elt Ideal) arg3.view (Rect.unit (s := S2048) (k0_off32 i) S1.size (k0_off32_inb i)).toLoadRect (harg3.unread t3) (Shape.Idx.first (show 0 < S1.numel by decide)), View.readAt (Elt Ideal) arg3.view (Rect.unit (s := S2048) (k0_off33 i) S1.size (k0_off33_inb i)).toLoadRect (harg3.unread t3) (Shape.Idx.first (show 0 < S1.numel by decide))],
    ![View.readAt (Elt Ideal) arg3.view (Rect.unit (s := S2048) (k0_off35 i) S1.size (k0_off35_inb i)).toLoadRect (harg3.unread t3) (Shape.Idx.first (show 0 < S1.numel by decide)), View.readAt (Elt Ideal) arg3.view (Rect.unit (s := S2048) (k0_off36 i) S1.size (k0_off36_inb i)).toLoadRect (harg3.unread t3) (Shape.Idx.first (show 0 < S1.numel by decide)), View.readAt (Elt Ideal) arg3.view (Rect.unit (s := S2048) (k0_off37 i) S1.size (k0_off37_inb i)).toLoadRect (harg3.unread t3) (Shape.Idx.first (show 0 < S1.numel by decide)), View.readAt (Elt Ideal) arg3.view (Rect.unit (s := S2048) (k0_off38 i) S1.size (k0_off38_inb i)).toLoadRect (harg3.unread t3) (Shape.Idx.first (show 0 < S1.numel by decide)), View.readAt (Elt Ideal) arg3.view (Rect.unit (s := S2048) (k0_off39 i) S1.size (k0_off39_inb i)).toLoadRect (harg3.unread t3) (Shape.Idx.first (show 0 < S1.numel by decide)), View.readAt (Elt Ideal) arg3.view (Rect.unit (s := S2048) (k0_off40 i) S1.size (k0_off40_inb i)).toLoadRect (harg3.unread t3) (Shape.Idx.first (show 0 < S1.numel by decide)), View.readAt (Elt Ideal) arg3.view (Rect.unit (s := S2048) (k0_off41 i) S1.size (k0_off41_inb i)).toLoadRect (harg3.unread t3) (Shape.Idx.first (show 0 < S1.numel by decide)), View.readAt (Elt Ideal) arg3.view (Rect.unit (s := S2048) (k0_off42 i) S1.size (k0_off42_inb i)).toLoadRect (harg3.unread t3) (Shape.Idx.first (show 0 < S1.numel by decide)), View.readAt (Elt Ideal) arg3.view (Rect.unit (s := S2048) (k0_off43 i) S1.size (k0_off43_inb i)).toLoadRect (harg3.unread t3) (Shape.Idx.first (show 0 < S1.numel by decide)), View.readAt (Elt Ideal) arg3.view (Rect.unit (s := S2048) (k0_off44 i) S1.size (k0_off44_inb i)).toLoadRect (harg3.unread t3) (Shape.Idx.first (show 0 < S1.numel by decide)), View.readAt (Elt Ideal) arg3.view (Rect.unit (s := S2048) (k0_off45 i) S1.size (k0_off45_inb i)).toLoadRect (harg3.unread t3) (Shape.Idx.first (show 0 < S1.numel by decide)), View.readAt (Elt Ideal) arg3.view (Rect.unit (s := S2048) (k0_off46 i) S1.size (k0_off46_inb i)).toLoadRect (harg3.unread t3) (Shape.Idx.first (show 0 < S1.numel by decide)), View.readAt (Elt Ideal) arg3.view (Rect.unit (s := S2048) (k0_off47 i) S1.size (k0_off47_inb i)).toLoadRect (harg3.unread t3) (Shape.Idx.first (show 0 < S1.numel by decide)), View.readAt (Elt Ideal) arg3.view (Rect.unit (s := S2048) (k0_off48 i) S1.size (k0_off48_inb i)).toLoadRect (harg3.unread t3) (Shape.Idx.first (show 0 < S1.numel by decide)), View.readAt (Elt Ideal) arg3.view (Rect.unit (s := S2048) (k0_off49 i) S1.size (k0_off49_inb i)).toLoadRect (harg3.unread t3) (Shape.Idx.first (show 0 < S1.numel by decide)), View.readAt (Elt Ideal) arg3.view (Rect.unit (s := S2048) (k0_off50 i) S1.size (k0_off50_inb i)).toLoadRect (harg3.unread t3) (Shape.Idx.first (show 0 < S1.numel by decide))],
    ![View.readAt (Elt Ideal) arg3.view (Rect.unit (s := S2048) (k0_off52 i) S1.size (k0_off52_inb i)).toLoadRect (harg3.unread t3) (Shape.Idx.first (show 0 < S1.numel by decide)), View.readAt (Elt Ideal) arg3.view (Rect.unit (s := S2048) (k0_off53 i) S1.size (k0_off53_inb i)).toLoadRect (harg3.unread t3) (Shape.Idx.first (show 0 < S1.numel by decide)), View.readAt (Elt Ideal) arg3.view (Rect.unit (s := S2048) (k0_off54 i) S1.size (k0_off54_inb i)).toLoadRect (harg3.unread t3) (Shape.Idx.first (show 0 < S1.numel by decide)), View.readAt (Elt Ideal) arg3.view (Rect.unit (s := S2048) (k0_off55 i) S1.size (k0_off55_inb i)).toLoadRect (harg3.unread t3) (Shape.Idx.first (show 0 < S1.numel by decide)), View.readAt (Elt Ideal) arg3.view (Rect.unit (s := S2048) (k0_off56 i) S1.size (k0_off56_inb i)).toLoadRect (harg3.unread t3) (Shape.Idx.first (show 0 < S1.numel by decide)), View.readAt (Elt Ideal) arg3.view (Rect.unit (s := S2048) (k0_off57 i) S1.size (k0_off57_inb i)).toLoadRect (harg3.unread t3) (Shape.Idx.first (show 0 < S1.numel by decide)), View.readAt (Elt Ideal) arg3.view (Rect.unit (s := S2048) (k0_off58 i) S1.size (k0_off58_inb i)).toLoadRect (harg3.unread t3) (Shape.Idx.first (show 0 < S1.numel by decide)), View.readAt (Elt Ideal) arg3.view (Rect.unit (s := S2048) (k0_off59 i) S1.size (k0_off59_inb i)).toLoadRect (harg3.unread t3) (Shape.Idx.first (show 0 < S1.numel by decide)), View.readAt (Elt Ideal) arg3.view (Rect.unit (s := S2048) (k0_off60 i) S1.size (k0_off60_inb i)).toLoadRect (harg3.unread t3) (Shape.Idx.first (show 0 < S1.numel by decide)), View.readAt (Elt Ideal) arg3.view (Rect.unit (s := S2048) (k0_off61 i) S1.size (k0_off61_inb i)).toLoadRect (harg3.unread t3) (Shape.Idx.first (show 0 < S1.numel by decide)), View.readAt (Elt Ideal) arg3.view (Rect.unit (s := S2048) (k0_off62 i) S1.size (k0_off62_inb i)).toLoadRect (harg3.unread t3) (Shape.Idx.first (show 0 < S1.numel by decide)), View.readAt (Elt Ideal) arg3.view (Rect.unit (s := S2048) (k0_off63 i) S1.size (k0_off63_inb i)).toLoadRect (harg3.unread t3) (Shape.Idx.first (show 0 < S1.numel by decide)), View.readAt (Elt Ideal) arg3.view (Rect.unit (s := S2048) (k0_off64 i) S1.size (k0_off64_inb i)).toLoadRect (harg3.unread t3) (Shape.Idx.first (show 0 < S1.numel by decide)), View.readAt (Elt Ideal) arg3.view (Rect.unit (s := S2048) (k0_off65 i) S1.size (k0_off65_inb i)).toLoadRect (harg3.unread t3) (Shape.Idx.first (show 0 < S1.numel by decide)), View.readAt (Elt Ideal) arg3.view (Rect.unit (s := S2048) (k0_off66 i) S1.size (k0_off66_inb i)).toLoadRect (harg3.unread t3) (Shape.Idx.first (show 0 < S1.numel by decide)), View.readAt (Elt Ideal) arg3.view (Rect.unit (s := S2048) (k0_off67 i) S1.size (k0_off67_inb i)).toLoadRect (harg3.unread t3) (Shape.Idx.first (show 0 < S1.numel by decide))]]

/-- The slot rows, by block and expert. -/
def rA : Fin 4 → Fin 16 → Vec Ideal S1x1x1x256 .i32 :=
  ![![View.readAt (Elt Ideal) arg5.view (Rect.unit (s := S1x16x1x8192) (k0_off85 i 0#32) S1x1x1x256.size (k0_off85_inb i 0)).toLoadRect (harg5.unread x0), View.readAt (Elt Ideal) arg5.view (Rect.unit (s := S1x16x1x8192) (k0_off86 i 0#32) S1x1x1x256.size (k0_off86_inb i 0)).toLoadRect (harg5.unread x0), View.readAt (Elt Ideal) arg5.view (Rect.unit (s := S1x16x1x8192) (k0_off87 i 0#32) S1x1x1x256.size (k0_off87_inb i 0)).toLoadRect (harg5.unread x0), View.readAt (Elt Ideal) arg5.view (Rect.unit (s := S1x16x1x8192) (k0_off88 i 0#32) S1x1x1x256.size (k0_off88_inb i 0)).toLoadRect (harg5.unread x0), View.readAt (Elt Ideal) arg5.view (Rect.unit (s := S1x16x1x8192) (k0_off89 i 0#32) S1x1x1x256.size (k0_off89_inb i 0)).toLoadRect (harg5.unread x0), View.readAt (Elt Ideal) arg5.view (Rect.unit (s := S1x16x1x8192) (k0_off90 i 0#32) S1x1x1x256.size (k0_off90_inb i 0)).toLoadRect (harg5.unread x0), View.readAt (Elt Ideal) arg5.view (Rect.unit (s := S1x16x1x8192) (k0_off91 i 0#32) S1x1x1x256.size (k0_off91_inb i 0)).toLoadRect (harg5.unread x0), View.readAt (Elt Ideal) arg5.view (Rect.unit (s := S1x16x1x8192) (k0_off92 i 0#32) S1x1x1x256.size (k0_off92_inb i 0)).toLoadRect (harg5.unread x0), View.readAt (Elt Ideal) arg5.view (Rect.unit (s := S1x16x1x8192) (k0_off93 i 0#32) S1x1x1x256.size (k0_off93_inb i 0)).toLoadRect (harg5.unread x0), View.readAt (Elt Ideal) arg5.view (Rect.unit (s := S1x16x1x8192) (k0_off94 i 0#32) S1x1x1x256.size (k0_off94_inb i 0)).toLoadRect (harg5.unread x0), View.readAt (Elt Ideal) arg5.view (Rect.unit (s := S1x16x1x8192) (k0_off95 i 0#32) S1x1x1x256.size (k0_off95_inb i 0)).toLoadRect (harg5.unread x0), View.readAt (Elt Ideal) arg5.view (Rect.unit (s := S1x16x1x8192) (k0_off96 i 0#32) S1x1x1x256.size (k0_off96_inb i 0)).toLoadRect (harg5.unread x0), View.readAt (Elt Ideal) arg5.view (Rect.unit (s := S1x16x1x8192) (k0_off97 i 0#32) S1x1x1x256.size (k0_off97_inb i 0)).toLoadRect (harg5.unread x0), View.readAt (Elt Ideal) arg5.view (Rect.unit (s := S1x16x1x8192) (k0_off98 i 0#32) S1x1x1x256.size (k0_off98_inb i 0)).toLoadRect (harg5.unread x0), View.readAt (Elt Ideal) arg5.view (Rect.unit (s := S1x16x1x8192) (k0_off99 i 0#32) S1x1x1x256.size (k0_off99_inb i 0)).toLoadRect (harg5.unread x0), View.readAt (Elt Ideal) arg5.view (Rect.unit (s := S1x16x1x8192) (k0_off100 i 0#32) S1x1x1x256.size (k0_off100_inb i 0)).toLoadRect (harg5.unread x0)],
    ![View.readAt (Elt Ideal) arg5.view (Rect.unit (s := S1x16x1x8192) (k0_off85 i 1#32) S1x1x1x256.size (k0_off85_inb i 1)).toLoadRect (harg5.unread x0), View.readAt (Elt Ideal) arg5.view (Rect.unit (s := S1x16x1x8192) (k0_off86 i 1#32) S1x1x1x256.size (k0_off86_inb i 1)).toLoadRect (harg5.unread x0), View.readAt (Elt Ideal) arg5.view (Rect.unit (s := S1x16x1x8192) (k0_off87 i 1#32) S1x1x1x256.size (k0_off87_inb i 1)).toLoadRect (harg5.unread x0), View.readAt (Elt Ideal) arg5.view (Rect.unit (s := S1x16x1x8192) (k0_off88 i 1#32) S1x1x1x256.size (k0_off88_inb i 1)).toLoadRect (harg5.unread x0), View.readAt (Elt Ideal) arg5.view (Rect.unit (s := S1x16x1x8192) (k0_off89 i 1#32) S1x1x1x256.size (k0_off89_inb i 1)).toLoadRect (harg5.unread x0), View.readAt (Elt Ideal) arg5.view (Rect.unit (s := S1x16x1x8192) (k0_off90 i 1#32) S1x1x1x256.size (k0_off90_inb i 1)).toLoadRect (harg5.unread x0), View.readAt (Elt Ideal) arg5.view (Rect.unit (s := S1x16x1x8192) (k0_off91 i 1#32) S1x1x1x256.size (k0_off91_inb i 1)).toLoadRect (harg5.unread x0), View.readAt (Elt Ideal) arg5.view (Rect.unit (s := S1x16x1x8192) (k0_off92 i 1#32) S1x1x1x256.size (k0_off92_inb i 1)).toLoadRect (harg5.unread x0), View.readAt (Elt Ideal) arg5.view (Rect.unit (s := S1x16x1x8192) (k0_off93 i 1#32) S1x1x1x256.size (k0_off93_inb i 1)).toLoadRect (harg5.unread x0), View.readAt (Elt Ideal) arg5.view (Rect.unit (s := S1x16x1x8192) (k0_off94 i 1#32) S1x1x1x256.size (k0_off94_inb i 1)).toLoadRect (harg5.unread x0), View.readAt (Elt Ideal) arg5.view (Rect.unit (s := S1x16x1x8192) (k0_off95 i 1#32) S1x1x1x256.size (k0_off95_inb i 1)).toLoadRect (harg5.unread x0), View.readAt (Elt Ideal) arg5.view (Rect.unit (s := S1x16x1x8192) (k0_off96 i 1#32) S1x1x1x256.size (k0_off96_inb i 1)).toLoadRect (harg5.unread x0), View.readAt (Elt Ideal) arg5.view (Rect.unit (s := S1x16x1x8192) (k0_off97 i 1#32) S1x1x1x256.size (k0_off97_inb i 1)).toLoadRect (harg5.unread x0), View.readAt (Elt Ideal) arg5.view (Rect.unit (s := S1x16x1x8192) (k0_off98 i 1#32) S1x1x1x256.size (k0_off98_inb i 1)).toLoadRect (harg5.unread x0), View.readAt (Elt Ideal) arg5.view (Rect.unit (s := S1x16x1x8192) (k0_off99 i 1#32) S1x1x1x256.size (k0_off99_inb i 1)).toLoadRect (harg5.unread x0), View.readAt (Elt Ideal) arg5.view (Rect.unit (s := S1x16x1x8192) (k0_off100 i 1#32) S1x1x1x256.size (k0_off100_inb i 1)).toLoadRect (harg5.unread x0)],
    ![View.readAt (Elt Ideal) arg5.view (Rect.unit (s := S1x16x1x8192) (k0_off85 i 2#32) S1x1x1x256.size (k0_off85_inb i 2)).toLoadRect (harg5.unread x0), View.readAt (Elt Ideal) arg5.view (Rect.unit (s := S1x16x1x8192) (k0_off86 i 2#32) S1x1x1x256.size (k0_off86_inb i 2)).toLoadRect (harg5.unread x0), View.readAt (Elt Ideal) arg5.view (Rect.unit (s := S1x16x1x8192) (k0_off87 i 2#32) S1x1x1x256.size (k0_off87_inb i 2)).toLoadRect (harg5.unread x0), View.readAt (Elt Ideal) arg5.view (Rect.unit (s := S1x16x1x8192) (k0_off88 i 2#32) S1x1x1x256.size (k0_off88_inb i 2)).toLoadRect (harg5.unread x0), View.readAt (Elt Ideal) arg5.view (Rect.unit (s := S1x16x1x8192) (k0_off89 i 2#32) S1x1x1x256.size (k0_off89_inb i 2)).toLoadRect (harg5.unread x0), View.readAt (Elt Ideal) arg5.view (Rect.unit (s := S1x16x1x8192) (k0_off90 i 2#32) S1x1x1x256.size (k0_off90_inb i 2)).toLoadRect (harg5.unread x0), View.readAt (Elt Ideal) arg5.view (Rect.unit (s := S1x16x1x8192) (k0_off91 i 2#32) S1x1x1x256.size (k0_off91_inb i 2)).toLoadRect (harg5.unread x0), View.readAt (Elt Ideal) arg5.view (Rect.unit (s := S1x16x1x8192) (k0_off92 i 2#32) S1x1x1x256.size (k0_off92_inb i 2)).toLoadRect (harg5.unread x0), View.readAt (Elt Ideal) arg5.view (Rect.unit (s := S1x16x1x8192) (k0_off93 i 2#32) S1x1x1x256.size (k0_off93_inb i 2)).toLoadRect (harg5.unread x0), View.readAt (Elt Ideal) arg5.view (Rect.unit (s := S1x16x1x8192) (k0_off94 i 2#32) S1x1x1x256.size (k0_off94_inb i 2)).toLoadRect (harg5.unread x0), View.readAt (Elt Ideal) arg5.view (Rect.unit (s := S1x16x1x8192) (k0_off95 i 2#32) S1x1x1x256.size (k0_off95_inb i 2)).toLoadRect (harg5.unread x0), View.readAt (Elt Ideal) arg5.view (Rect.unit (s := S1x16x1x8192) (k0_off96 i 2#32) S1x1x1x256.size (k0_off96_inb i 2)).toLoadRect (harg5.unread x0), View.readAt (Elt Ideal) arg5.view (Rect.unit (s := S1x16x1x8192) (k0_off97 i 2#32) S1x1x1x256.size (k0_off97_inb i 2)).toLoadRect (harg5.unread x0), View.readAt (Elt Ideal) arg5.view (Rect.unit (s := S1x16x1x8192) (k0_off98 i 2#32) S1x1x1x256.size (k0_off98_inb i 2)).toLoadRect (harg5.unread x0), View.readAt (Elt Ideal) arg5.view (Rect.unit (s := S1x16x1x8192) (k0_off99 i 2#32) S1x1x1x256.size (k0_off99_inb i 2)).toLoadRect (harg5.unread x0), View.readAt (Elt Ideal) arg5.view (Rect.unit (s := S1x16x1x8192) (k0_off100 i 2#32) S1x1x1x256.size (k0_off100_inb i 2)).toLoadRect (harg5.unread x0)],
    ![View.readAt (Elt Ideal) arg5.view (Rect.unit (s := S1x16x1x8192) (k0_off85 i 3#32) S1x1x1x256.size (k0_off85_inb i 3)).toLoadRect (harg5.unread x0), View.readAt (Elt Ideal) arg5.view (Rect.unit (s := S1x16x1x8192) (k0_off86 i 3#32) S1x1x1x256.size (k0_off86_inb i 3)).toLoadRect (harg5.unread x0), View.readAt (Elt Ideal) arg5.view (Rect.unit (s := S1x16x1x8192) (k0_off87 i 3#32) S1x1x1x256.size (k0_off87_inb i 3)).toLoadRect (harg5.unread x0), View.readAt (Elt Ideal) arg5.view (Rect.unit (s := S1x16x1x8192) (k0_off88 i 3#32) S1x1x1x256.size (k0_off88_inb i 3)).toLoadRect (harg5.unread x0), View.readAt (Elt Ideal) arg5.view (Rect.unit (s := S1x16x1x8192) (k0_off89 i 3#32) S1x1x1x256.size (k0_off89_inb i 3)).toLoadRect (harg5.unread x0), View.readAt (Elt Ideal) arg5.view (Rect.unit (s := S1x16x1x8192) (k0_off90 i 3#32) S1x1x1x256.size (k0_off90_inb i 3)).toLoadRect (harg5.unread x0), View.readAt (Elt Ideal) arg5.view (Rect.unit (s := S1x16x1x8192) (k0_off91 i 3#32) S1x1x1x256.size (k0_off91_inb i 3)).toLoadRect (harg5.unread x0), View.readAt (Elt Ideal) arg5.view (Rect.unit (s := S1x16x1x8192) (k0_off92 i 3#32) S1x1x1x256.size (k0_off92_inb i 3)).toLoadRect (harg5.unread x0), View.readAt (Elt Ideal) arg5.view (Rect.unit (s := S1x16x1x8192) (k0_off93 i 3#32) S1x1x1x256.size (k0_off93_inb i 3)).toLoadRect (harg5.unread x0), View.readAt (Elt Ideal) arg5.view (Rect.unit (s := S1x16x1x8192) (k0_off94 i 3#32) S1x1x1x256.size (k0_off94_inb i 3)).toLoadRect (harg5.unread x0), View.readAt (Elt Ideal) arg5.view (Rect.unit (s := S1x16x1x8192) (k0_off95 i 3#32) S1x1x1x256.size (k0_off95_inb i 3)).toLoadRect (harg5.unread x0), View.readAt (Elt Ideal) arg5.view (Rect.unit (s := S1x16x1x8192) (k0_off96 i 3#32) S1x1x1x256.size (k0_off96_inb i 3)).toLoadRect (harg5.unread x0), View.readAt (Elt Ideal) arg5.view (Rect.unit (s := S1x16x1x8192) (k0_off97 i 3#32) S1x1x1x256.size (k0_off97_inb i 3)).toLoadRect (harg5.unread x0), View.readAt (Elt Ideal) arg5.view (Rect.unit (s := S1x16x1x8192) (k0_off98 i 3#32) S1x1x1x256.size (k0_off98_inb i 3)).toLoadRect (harg5.unread x0), View.readAt (Elt Ideal) arg5.view (Rect.unit (s := S1x16x1x8192) (k0_off99 i 3#32) S1x1x1x256.size (k0_off99_inb i 3)).toLoadRect (harg5.unread x0), View.readAt (Elt Ideal) arg5.view (Rect.unit (s := S1x16x1x8192) (k0_off100 i 3#32) S1x1x1x256.size (k0_off100_inb i 3)).toLoadRect (harg5.unread x0)]]

theorem fin4 {P : Fin 4 → Prop} (h0 : P 0) (h1 : P 1) (h2 : P 2) (h3 : P 3) : ∀ u, P u := by
  intro u
  fin_cases u <;> assumption

set_option maxHeartbeats 4000000 in
include hW in
theorem wA_ok (u : Fin 4) (e : Fin 16) : WordOk (wA i arg3 harg3 t3 u e) := by
  refine fin4 (P := fun u => WordOk (wA i arg3 harg3 t3 u e)) ?_ ?_ ?_ ?_ u
  · refine fin16 (P := fun e => WordOk (wA i arg3 harg3 t3 0 e)) ?_ ?_ ?_ ?_ ?_ ?_ ?_ ?_ ?_ ?_ ?_ ?_ ?_ ?_ ?_ ?_ e
    · exact hW (Rect.unit (s := S2048) (k0_off1 i) S1.size (k0_off1_inb i)).toLoadRect (Shape.Idx.first (show 0 < S1.numel by decide))
    · exact hW (Rect.unit (s := S2048) (k0_off2 i) S1.size (k0_off2_inb i)).toLoadRect (Shape.Idx.first (show 0 < S1.numel by decide))
    · exact hW (Rect.unit (s := S2048) (k0_off3 i) S1.size (k0_off3_inb i)).toLoadRect (Shape.Idx.first (show 0 < S1.numel by decide))
    · exact hW (Rect.unit (s := S2048) (k0_off4 i) S1.size (k0_off4_inb i)).toLoadRect (Shape.Idx.first (show 0 < S1.numel by decide))
    · exact hW (Rect.unit (s := S2048) (k0_off5 i) S1.size (k0_off5_inb i)).toLoadRect (Shape.Idx.first (show 0 < S1.numel by decide))
    · exact hW (Rect.unit (s := S2048) (k0_off6 i) S1.size (k0_off6_inb i)).toLoadRect (Shape.Idx.first (show 0 < S1.numel by decide))
    · exact hW (Rect.unit (s := S2048) (k0_off7 i) S1.size (k0_off7_inb i)).toLoadRect (Shape.Idx.first (show 0 < S1.numel by decide))
    · exact hW (Rect.unit (s := S2048) (k0_off8 i) S1.size (k0_off8_inb i)).toLoadRect (Shape.Idx.first (show 0 < S1.numel by decide))
    · exact hW (Rect.unit (s := S2048) (k0_off9 i) S1.size (k0_off9_inb i)).toLoadRect (Shape.Idx.first (show 0 < S1.numel by decide))
    · exact hW (Rect.unit (s := S2048) (k0_off10 i) S1.size (k0_off10_inb i)).toLoadRect (Shape.Idx.first (show 0 < S1.numel by decide))
    · exact hW (Rect.unit (s := S2048) (k0_off11 i) S1.size (k0_off11_inb i)).toLoadRect (Shape.Idx.first (show 0 < S1.numel by decide))
    · exact hW (Rect.unit (s := S2048) (k0_off12 i) S1.size (k0_off12_inb i)).toLoadRect (Shape.Idx.first (show 0 < S1.numel by decide))
    · exact hW (Rect.unit (s := S2048) (k0_off13 i) S1.size (k0_off13_inb i)).toLoadRect (Shape.Idx.first (show 0 < S1.numel by decide))
    · exact hW (Rect.unit (s := S2048) (k0_off14 i) S1.size (k0_off14_inb i)).toLoadRect (Shape.Idx.first (show 0 < S1.numel by decide))
    · exact hW (Rect.unit (s := S2048) (k0_off15 i) S1.size (k0_off15_inb i)).toLoadRect (Shape.Idx.first (show 0 < S1.numel by decide))
    · exact hW (Rect.unit (s := S2048) (k0_off16 i) S1.size (k0_off16_inb i)).toLoadRect (Shape.Idx.first (show 0 < S1.numel by decide))
  · refine fin16 (P := fun e => WordOk (wA i arg3 harg3 t3 1 e)) ?_ ?_ ?_ ?_ ?_ ?_ ?_ ?_ ?_ ?_ ?_ ?_ ?_ ?_ ?_ ?_ e
    · exact hW (Rect.unit (s := S2048) (k0_off18 i) S1.size (k0_off18_inb i)).toLoadRect (Shape.Idx.first (show 0 < S1.numel by decide))
    · exact hW (Rect.unit (s := S2048) (k0_off19 i) S1.size (k0_off19_inb i)).toLoadRect (Shape.Idx.first (show 0 < S1.numel by decide))
    · exact hW (Rect.unit (s := S2048) (k0_off20 i) S1.size (k0_off20_inb i)).toLoadRect (Shape.Idx.first (show 0 < S1.numel by decide))
    · exact hW (Rect.unit (s := S2048) (k0_off21 i) S1.size (k0_off21_inb i)).toLoadRect (Shape.Idx.first (show 0 < S1.numel by decide))
    · exact hW (Rect.unit (s := S2048) (k0_off22 i) S1.size (k0_off22_inb i)).toLoadRect (Shape.Idx.first (show 0 < S1.numel by decide))
    · exact hW (Rect.unit (s := S2048) (k0_off23 i) S1.size (k0_off23_inb i)).toLoadRect (Shape.Idx.first (show 0 < S1.numel by decide))
    · exact hW (Rect.unit (s := S2048) (k0_off24 i) S1.size (k0_off24_inb i)).toLoadRect (Shape.Idx.first (show 0 < S1.numel by decide))
    · exact hW (Rect.unit (s := S2048) (k0_off25 i) S1.size (k0_off25_inb i)).toLoadRect (Shape.Idx.first (show 0 < S1.numel by decide))
    · exact hW (Rect.unit (s := S2048) (k0_off26 i) S1.size (k0_off26_inb i)).toLoadRect (Shape.Idx.first (show 0 < S1.numel by decide))
    · exact hW (Rect.unit (s := S2048) (k0_off27 i) S1.size (k0_off27_inb i)).toLoadRect (Shape.Idx.first (show 0 < S1.numel by decide))
    · exact hW (Rect.unit (s := S2048) (k0_off28 i) S1.size (k0_off28_inb i)).toLoadRect (Shape.Idx.first (show 0 < S1.numel by decide))
    · exact hW (Rect.unit (s := S2048) (k0_off29 i) S1.size (k0_off29_inb i)).toLoadRect (Shape.Idx.first (show 0 < S1.numel by decide))
    · exact hW (Rect.unit (s := S2048) (k0_off30 i) S1.size (k0_off30_inb i)).toLoadRect (Shape.Idx.first (show 0 < S1.numel by decide))
    · exact hW (Rect.unit (s := S2048) (k0_off31 i) S1.size (k0_off31_inb i)).toLoadRect (Shape.Idx.first (show 0 < S1.numel by decide))
    · exact hW (Rect.unit (s := S2048) (k0_off32 i) S1.size (k0_off32_inb i)).toLoadRect (Shape.Idx.first (show 0 < S1.numel by decide))
    · exact hW (Rect.unit (s := S2048) (k0_off33 i) S1.size (k0_off33_inb i)).toLoadRect (Shape.Idx.first (show 0 < S1.numel by decide))
  · refine fin16 (P := fun e => WordOk (wA i arg3 harg3 t3 2 e)) ?_ ?_ ?_ ?_ ?_ ?_ ?_ ?_ ?_ ?_ ?_ ?_ ?_ ?_ ?_ ?_ e
    · exact hW (Rect.unit (s := S2048) (k0_off35 i) S1.size (k0_off35_inb i)).toLoadRect (Shape.Idx.first (show 0 < S1.numel by decide))
    · exact hW (Rect.unit (s := S2048) (k0_off36 i) S1.size (k0_off36_inb i)).toLoadRect (Shape.Idx.first (show 0 < S1.numel by decide))
    · exact hW (Rect.unit (s := S2048) (k0_off37 i) S1.size (k0_off37_inb i)).toLoadRect (Shape.Idx.first (show 0 < S1.numel by decide))
    · exact hW (Rect.unit (s := S2048) (k0_off38 i) S1.size (k0_off38_inb i)).toLoadRect (Shape.Idx.first (show 0 < S1.numel by decide))
    · exact hW (Rect.unit (s := S2048) (k0_off39 i) S1.size (k0_off39_inb i)).toLoadRect (Shape.Idx.first (show 0 < S1.numel by decide))
    · exact hW (Rect.unit (s := S2048) (k0_off40 i) S1.size (k0_off40_inb i)).toLoadRect (Shape.Idx.first (show 0 < S1.numel by decide))
    · exact hW (Rect.unit (s := S2048) (k0_off41 i) S1.size (k0_off41_inb i)).toLoadRect (Shape.Idx.first (show 0 < S1.numel by decide))
    · exact hW (Rect.unit (s := S2048) (k0_off42 i) S1.size (k0_off42_inb i)).toLoadRect (Shape.Idx.first (show 0 < S1.numel by decide))
    · exact hW (Rect.unit (s := S2048) (k0_off43 i) S1.size (k0_off43_inb i)).toLoadRect (Shape.Idx.first (show 0 < S1.numel by decide))
    · exact hW (Rect.unit (s := S2048) (k0_off44 i) S1.size (k0_off44_inb i)).toLoadRect (Shape.Idx.first (show 0 < S1.numel by decide))
    · exact hW (Rect.unit (s := S2048) (k0_off45 i) S1.size (k0_off45_inb i)).toLoadRect (Shape.Idx.first (show 0 < S1.numel by decide))
    · exact hW (Rect.unit (s := S2048) (k0_off46 i) S1.size (k0_off46_inb i)).toLoadRect (Shape.Idx.first (show 0 < S1.numel by decide))
    · exact hW (Rect.unit (s := S2048) (k0_off47 i) S1.size (k0_off47_inb i)).toLoadRect (Shape.Idx.first (show 0 < S1.numel by decide))
    · exact hW (Rect.unit (s := S2048) (k0_off48 i) S1.size (k0_off48_inb i)).toLoadRect (Shape.Idx.first (show 0 < S1.numel by decide))
    · exact hW (Rect.unit (s := S2048) (k0_off49 i) S1.size (k0_off49_inb i)).toLoadRect (Shape.Idx.first (show 0 < S1.numel by decide))
    · exact hW (Rect.unit (s := S2048) (k0_off50 i) S1.size (k0_off50_inb i)).toLoadRect (Shape.Idx.first (show 0 < S1.numel by decide))
  · refine fin16 (P := fun e => WordOk (wA i arg3 harg3 t3 3 e)) ?_ ?_ ?_ ?_ ?_ ?_ ?_ ?_ ?_ ?_ ?_ ?_ ?_ ?_ ?_ ?_ e
    · exact hW (Rect.unit (s := S2048) (k0_off52 i) S1.size (k0_off52_inb i)).toLoadRect (Shape.Idx.first (show 0 < S1.numel by decide))
    · exact hW (Rect.unit (s := S2048) (k0_off53 i) S1.size (k0_off53_inb i)).toLoadRect (Shape.Idx.first (show 0 < S1.numel by decide))
    · exact hW (Rect.unit (s := S2048) (k0_off54 i) S1.size (k0_off54_inb i)).toLoadRect (Shape.Idx.first (show 0 < S1.numel by decide))
    · exact hW (Rect.unit (s := S2048) (k0_off55 i) S1.size (k0_off55_inb i)).toLoadRect (Shape.Idx.first (show 0 < S1.numel by decide))
    · exact hW (Rect.unit (s := S2048) (k0_off56 i) S1.size (k0_off56_inb i)).toLoadRect (Shape.Idx.first (show 0 < S1.numel by decide))
    · exact hW (Rect.unit (s := S2048) (k0_off57 i) S1.size (k0_off57_inb i)).toLoadRect (Shape.Idx.first (show 0 < S1.numel by decide))
    · exact hW (Rect.unit (s := S2048) (k0_off58 i) S1.size (k0_off58_inb i)).toLoadRect (Shape.Idx.first (show 0 < S1.numel by decide))
    · exact hW (Rect.unit (s := S2048) (k0_off59 i) S1.size (k0_off59_inb i)).toLoadRect (Shape.Idx.first (show 0 < S1.numel by decide))
    · exact hW (Rect.unit (s := S2048) (k0_off60 i) S1.size (k0_off60_inb i)).toLoadRect (Shape.Idx.first (show 0 < S1.numel by decide))
    · exact hW (Rect.unit (s := S2048) (k0_off61 i) S1.size (k0_off61_inb i)).toLoadRect (Shape.Idx.first (show 0 < S1.numel by decide))
    · exact hW (Rect.unit (s := S2048) (k0_off62 i) S1.size (k0_off62_inb i)).toLoadRect (Shape.Idx.first (show 0 < S1.numel by decide))
    · exact hW (Rect.unit (s := S2048) (k0_off63 i) S1.size (k0_off63_inb i)).toLoadRect (Shape.Idx.first (show 0 < S1.numel by decide))
    · exact hW (Rect.unit (s := S2048) (k0_off64 i) S1.size (k0_off64_inb i)).toLoadRect (Shape.Idx.first (show 0 < S1.numel by decide))
    · exact hW (Rect.unit (s := S2048) (k0_off65 i) S1.size (k0_off65_inb i)).toLoadRect (Shape.Idx.first (show 0 < S1.numel by decide))
    · exact hW (Rect.unit (s := S2048) (k0_off66 i) S1.size (k0_off66_inb i)).toLoadRect (Shape.Idx.first (show 0 < S1.numel by decide))
    · exact hW (Rect.unit (s := S2048) (k0_off67 i) S1.size (k0_off67_inb i)).toLoadRect (Shape.Idx.first (show 0 < S1.numel by decide))

def pieceAv (j : Fin 64) : View.Piece (Elt Ideal) S4352x512 .bf16 :=
  ⟨Rect.unit (s := S4352x512) ![64 * j.val, 0] S64x512.size (fun a => by
    have he := j.isLt
    match a with
    | ⟨0, _⟩ => show 64 * j.val + 64 ≤ 4352; omega
    | ⟨1, _⟩ => show 0 + 512 ≤ 512; omega),
   castA (View.readAt (Elt Ideal) arg6.view (Rect.unit (s := S1x16x1296x512) ![0, j.val % 16, (wA i arg3 harg3 t3 ⟨j.val / 16, by omega⟩ ⟨j.val % 16, by omega⟩).toNat, 0] S1x1x64x512.size (pieceA_inb _ (wA_ok i arg3 harg3 t3 hW ⟨j.val / 16, by omega⟩ ⟨j.val % 16, by omega⟩) ⟨j.val % 16, by omega⟩)).toLoadRect (harg6.unread x1))⟩

/-- The scratch's pieces after the first `n` copies, the last one first. -/
def HA (n : ℕ) (hn : n ≤ 64) : List (View.Piece (Elt Ideal) S4352x512 .bf16) :=
  List.ofFn fun j : Fin n => pieceAv i arg3 harg3 arg6 harg6 t3 x1 hW (Fin.castLE hn j.rev)

variable (hc : condA i arg4 harg4 t4)

set_option maxHeartbeats 40000000 in
theorem HA_eq0 : runA.sl.H6_16 (F := Ideal) c i arg3 harg3 arg4 harg4 arg6 harg6 t3 t4 x1 hW hc = HA i arg3 harg3 arg6 harg6 t3 x1 hW 16 (by decide) := rfl

set_option maxHeartbeats 40000000 in
theorem HA_eq1 : runA.sl.H6_32 (F := Ideal) c i arg3 harg3 arg4 harg4 arg6 harg6 t3 t4 x1 hW hc = HA i arg3 harg3 arg6 harg6 t3 x1 hW 32 (by decide) := rfl

set_option maxHeartbeats 40000000 in
theorem HA_eq2 : runA.sl.H6_48 (F := Ideal) c i arg3 harg3 arg4 harg4 arg6 harg6 t3 t4 x1 hW hc = HA i arg3 harg3 arg6 harg6 t3 x1 hW 48 (by decide) := rfl

set_option maxHeartbeats 40000000 in
theorem HA_eq3 : runA.sl.H6_64 (F := Ideal) c i arg3 harg3 arg4 harg4 arg6 harg6 t3 t4 x1 hW hc = HA i arg3 harg3 arg6 harg6 t3 x1 hW 64 (by decide) := rfl

set_option maxHeartbeats 40000000 in
theorem runA_eq : (runA (F := Ideal) c i arg3 harg3 arg4 harg4 arg5 harg5 arg6 harg6 arg7 harg7 arg8 harg8 arg9 harg9 t3 t4 x0 x1 x2 hW hc).1
    = [⟨rectA i 3, blockA (wA i arg3 harg3 t3 3) (rA i arg5 harg5 x0 3)
        (View.readAt (Elt Ideal) arg7.view (Rect.unit (s := S1024x512) (k0_off101 i (BitVec.ofNat 32 ((3 : Fin 4).val))) S256x512.size (k0_off101_inb i 3)).toLoadRect (harg7.unread x2))
        (arg9.view.readCov (runA.sl.H6_64 (F := Ideal) c i arg3 harg3 arg4 harg4 arg6 harg6 t3 t4 x1 hW hc) (Rect.unit (s := S4352x512) ![3072, 0] S1024x512.size inb_S4352x512_S1024x512_3072_0).toLoadRect)⟩,
      ⟨rectA i 2, blockA (wA i arg3 harg3 t3 2) (rA i arg5 harg5 x0 2)
        (View.readAt (Elt Ideal) arg7.view (Rect.unit (s := S1024x512) (k0_off101 i (BitVec.ofNat 32 ((2 : Fin 4).val))) S256x512.size (k0_off101_inb i 2)).toLoadRect (harg7.unread x2))
        (arg9.view.readCov (runA.sl.H6_48 (F := Ideal) c i arg3 harg3 arg4 harg4 arg6 harg6 t3 t4 x1 hW hc) (Rect.unit (s := S4352x512) ![2048, 0] S1024x512.size inb_S4352x512_S1024x512_2048_0).toLoadRect)⟩,
      ⟨rectA i 1, blockA (wA i arg3 harg3 t3 1) (rA i arg5 harg5 x0 1)
        (View.readAt (Elt Ideal) arg7.view (Rect.unit (s := S1024x512) (k0_off101 i (BitVec.ofNat 32 ((1 : Fin 4).val))) S256x512.size (k0_off101_inb i 1)).toLoadRect (harg7.unread x2))
        (arg9.view.readCov (runA.sl.H6_32 (F := Ideal) c i arg3 harg3 arg4 harg4 arg6 harg6 t3 t4 x1 hW hc) (Rect.unit (s := S4352x512) ![1024, 0] S1024x512.size inb_S4352x512_S1024x512_1024_0).toLoadRect)⟩,
      ⟨rectA i 0, blockA (wA i arg3 harg3 t3 0) (rA i arg5 harg5 x0 0)
        (View.readAt (Elt Ideal) arg7.view (Rect.unit (s := S1024x512) (k0_off101 i (BitVec.ofNat 32 ((0 : Fin 4).val))) S256x512.size (k0_off101_inb i 0)).toLoadRect (harg7.unread x2))
        (arg9.view.readCov (runA.sl.H6_16 (F := Ideal) c i arg3 harg3 arg4 harg4 arg6 harg6 t3 t4 x1 hW hc) (Rect.unit (s := S4352x512) ![0, 0] S1024x512.size inb_S4352x512_S1024x512_0_0).toLoadRect)⟩] := rfl

end

end Cert.Kernel5Ideal.Hand

end
-- ==== Proof.CbTakeA2.lean ====
module

public import proofs.«01_k».proof.Proof.CbValA

@[expose] public section

set_option maxRecDepth 16384

noncomputable section

namespace Cert.Kernel5Ideal.Hand

open Cert.Kernel5Ideal Cert.Kernel5Ideal.Gen Idealize.ShloMosaic Idealize.ShloMosaic.TcCoe Idealize.SL.Sem

section
variable (c : Dev nD) (i : grid0.Coords) (arg3 : Memref sig .tc .smem S2048 .i32) (harg3 : arg3.IsWhole) (arg4 : Memref sig .tc .smem S128 .i32) (harg4 : arg4.IsWhole) (arg5 : Memref sig .tc .vmem S1x16x1x8192 .i32) (harg5 : arg5.IsWhole) (arg6 : Memref sig .tc .vmem S1x16x1296x512 .bf16) (harg6 : arg6.IsWhole) (arg7 : Memref sig .tc .vmem S1024x512 .f32) (harg7 : arg7.IsWhole) (arg8 : Memref sig .tc .vmem S1024x512 .f32) (harg8 : arg8.IsWhole) (arg9 : Memref sig .tc .vmem S4352x512 .bf16) (harg9 : arg9.IsWhole)
    (t3 : Vec Ideal S2048 .i32) (t4 : Vec Ideal S128 .i32) (x0 : Vec Ideal S1x16x1x8192 .i32) (x1 : Vec Ideal S1x16x1296x512 .bf16) (x2 : Vec Ideal S1024x512 .f32)
    (hW : ∀ (B : LoadRect S2048) (x : B.shape.Idx), WordOk (arg3.view.readAt (Elt Ideal) B (harg3.unread t3) x))

set_option maxHeartbeats 40000000 in
theorem rA_eq (u : Fin 4) (e : Fin 16) (j : Fin 256) : rA i arg5 harg5 x0 u e (ix4 (0 : Fin 1) (0 : Fin 1) (0 : Fin 1) j) = x0 (ix4 (0 : Fin 1) e (0 : Fin 1) (⟨256 * (4 * (i 2).val + u.val) + j.val, by have h2 : (i 2).val < 8 := (i 2).isLt; have := u.isLt; have := j.isLt; omega⟩ : Fin 8192)) := by
  revert e
  refine fin4 (P := fun u : Fin 4 => ∀ e : Fin 16, rA i arg5 harg5 x0 u e (ix4 (0 : Fin 1) (0 : Fin 1) (0 : Fin 1) j) = x0 (ix4 (0 : Fin 1) e (0 : Fin 1) (⟨256 * (4 * (i 2).val + u.val) + j.val, by have h2 : (i 2).val < 8 := (i 2).isLt; have := u.isLt; have := j.isLt; omega⟩ : Fin 8192))) ?_ ?_ ?_ ?_ u
  · refine fin16 ?_ ?_ ?_ ?_ ?_ ?_ ?_ ?_ ?_ ?_ ?_ ?_ ?_ ?_ ?_ ?_
    · exact row_at arg5 harg5 x0 (k0_off85 i 0#32) (k0_off85_inb i 0) j 0 (4 * (i 2).val + 0) _ ((by decide +kernel : ∀ (b : Fin 4) (t : Fin 8), k0_off85 (mkc b t) 0#32 = ![0, 0, 0, 256 * (4 * t.val + 0)]) (i 0) (i 2))
    · exact row_at arg5 harg5 x0 (k0_off86 i 0#32) (k0_off86_inb i 0) j 1 (4 * (i 2).val + 0) _ ((by decide +kernel : ∀ (b : Fin 4) (t : Fin 8), k0_off86 (mkc b t) 0#32 = ![0, 1, 0, 256 * (4 * t.val + 0)]) (i 0) (i 2))
    · exact row_at arg5 harg5 x0 (k0_off87 i 0#32) (k0_off87_inb i 0) j 2 (4 * (i 2).val + 0) _ ((by decide +kernel : ∀ (b : Fin 4) (t : Fin 8), k0_off87 (mkc b t) 0#32 = ![0, 2, 0, 256 * (4 * t.val + 0)]) (i 0) (i 2))
    · exact row_at arg5 harg5 x0 (k0_off88 i 0#32) (k0_off88_inb i 0) j 3 (4 * (i 2).val + 0) _ ((by decide +kernel : ∀ (b : Fin 4) (t : Fin 8), k0_off88 (mkc b t) 0#32 = ![0, 3, 0, 256 * (4 * t.val + 0)]) (i 0) (i 2))
    · exact row_at arg5 harg5 x0 (k0_off89 i 0#32) (k0_off89_inb i 0) j 4 (4 * (i 2).val + 0) _ ((by decide +kernel : ∀ (b : Fin 4) (t : Fin 8), k0_off89 (mkc b t) 0#32 = ![0, 4, 0, 256 * (4 * t.val + 0)]) (i 0) (i 2))
    · exact row_at arg5 harg5 x0 (k0_off90 i 0#32) (k0_off90_inb i 0) j 5 (4 * (i 2).val + 0) _ ((by decide +kernel : ∀ (b : Fin 4) (t : Fin 8), k0_off90 (mkc b t) 0#32 = ![0, 5, 0, 256 * (4 * t.val + 0)]) (i 0) (i 2))
    · exact row_at arg5 harg5 x0 (k0_off91 i 0#32) (k0_off91_inb i 0) j 6 (4 * (i 2).val + 0) _ ((by decide +kernel : ∀ (b : Fin 4) (t : Fin 8), k0_off91 (mkc b t) 0#32 = ![0, 6, 0, 256 * (4 * t.val + 0)]) (i 0) (i 2))
    · exact row_at arg5 harg5 x0 (k0_off92 i 0#32) (k0_off92_inb i 0) j 7 (4 * (i 2).val + 0) _ ((by decide +kernel : ∀ (b : Fin 4) (t : Fin 8), k0_off92 (mkc b t) 0#32 = ![0, 7, 0, 256 * (4 * t.val + 0)]) (i 0) (i 2))
    · exact row_at arg5 harg5 x0 (k0_off93 i 0#32) (k0_off93_inb i 0) j 8 (4 * (i 2).val + 0) _ ((by decide +kernel : ∀ (b : Fin 4) (t : Fin 8), k0_off93 (mkc b t) 0#32 = ![0, 8, 0, 256 * (4 * t.val + 0)]) (i 0) (i 2))
    · exact row_at arg5 harg5 x0 (k0_off94 i 0#32) (k0_off94_inb i 0) j 9 (4 * (i 2).val + 0) _ ((by decide +kernel : ∀ (b : Fin 4) (t : Fin 8), k0_off94 (mkc b t) 0#32 = ![0, 9, 0, 256 * (4 * t.val + 0)]) (i 0) (i 2))
    · exact row_at arg5 harg5 x0 (k0_off95 i 0#32) (k0_off95_inb i 0) j 10 (4 * (i 2).val + 0) _ ((by decide +kernel : ∀ (b : Fin 4) (t : Fin 8), k0_off95 (mkc b t) 0#32 = ![0, 10, 0, 256 * (4 * t.val + 0)]) (i 0) (i 2))
    · exact row_at arg5 harg5 x0 (k0_off96 i 0#32) (k0_off96_inb i 0) j 11 (4 * (i 2).val + 0) _ ((by decide +kernel : ∀ (b : Fin 4) (t : Fin 8), k0_off96 (mkc b t) 0#32 = ![0, 11, 0, 256 * (4 * t.val + 0)]) (i 0) (i 2))
    · exact row_at arg5 harg5 x0 (k0_off97 i 0#32) (k0_off97_inb i 0) j 12 (4 * (i 2).val + 0) _ ((by decide +kernel : ∀ (b : Fin 4) (t : Fin 8), k0_off97 (mkc b t) 0#32 = ![0, 12, 0, 256 * (4 * t.val + 0)]) (i 0) (i 2))
    · exact row_at arg5 harg5 x0 (k0_off98 i 0#32) (k0_off98_inb i 0) j 13 (4 * (i 2).val + 0) _ ((by decide +kernel : ∀ (b : Fin 4) (t : Fin 8), k0_off98 (mkc b t) 0#32 = ![0, 13, 0, 256 * (4 * t.val + 0)]) (i 0) (i 2))
    · exact row_at arg5 harg5 x0 (k0_off99 i 0#32) (k0_off99_inb i 0) j 14 (4 * (i 2).val + 0) _ ((by decide +kernel : ∀ (b : Fin 4) (t : Fin 8), k0_off99 (mkc b t) 0#32 = ![0, 14, 0, 256 * (4 * t.val + 0)]) (i 0) (i 2))
    · exact row_at arg5 harg5 x0 (k0_off100 i 0#32) (k0_off100_inb i 0) j 15 (4 * (i 2).val + 0) _ ((by decide +kernel : ∀ (b : Fin 4) (t : Fin 8), k0_off100 (mkc b t) 0#32 = ![0, 15, 0, 256 * (4 * t.val + 0)]) (i 0) (i 2))
  · refine fin16 ?_ ?_ ?_ ?_ ?_ ?_ ?_ ?_ ?_ ?_ ?_ ?_ ?_ ?_ ?_ ?_
    · exact row_at arg5 harg5 x0 (k0_off85 i 1#32) (k0_off85_inb i 1) j 0 (4 * (i 2).val + 1) _ ((by decide +kernel : ∀ (b : Fin 4) (t : Fin 8), k0_off85 (mkc b t) 1#32 = ![0, 0, 0, 256 * (4 * t.val + 1)]) (i 0) (i 2))
    · exact row_at arg5 harg5 x0 (k0_off86 i 1#32) (k0_off86_inb i 1) j 1 (4 * (i 2).val + 1) _ ((by decide +kernel : ∀ (b : Fin 4) (t : Fin 8), k0_off86 (mkc b t) 1#32 = ![0, 1, 0, 256 * (4 * t.val + 1)]) (i 0) (i 2))
    · exact row_at arg5 harg5 x0 (k0_off87 i 1#32) (k0_off87_inb i 1) j 2 (4 * (i 2).val + 1) _ ((by decide +kernel : ∀ (b : Fin 4) (t : Fin 8), k0_off87 (mkc b t) 1#32 = ![0, 2, 0, 256 * (4 * t.val + 1)]) (i 0) (i 2))
    · exact row_at arg5 harg5 x0 (k0_off88 i 1#32) (k0_off88_inb i 1) j 3 (4 * (i 2).val + 1) _ ((by decide +kernel : ∀ (b : Fin 4) (t : Fin 8), k0_off88 (mkc b t) 1#32 = ![0, 3, 0, 256 * (4 * t.val + 1)]) (i 0) (i 2))
    · exact row_at arg5 harg5 x0 (k0_off89 i 1#32) (k0_off89_inb i 1) j 4 (4 * (i 2).val + 1) _ ((by decide +kernel : ∀ (b : Fin 4) (t : Fin 8), k0_off89 (mkc b t) 1#32 = ![0, 4, 0, 256 * (4 * t.val + 1)]) (i 0) (i 2))
    · exact row_at arg5 harg5 x0 (k0_off90 i 1#32) (k0_off90_inb i 1) j 5 (4 * (i 2).val + 1) _ ((by decide +kernel : ∀ (b : Fin 4) (t : Fin 8), k0_off90 (mkc b t) 1#32 = ![0, 5, 0, 256 * (4 * t.val + 1)]) (i 0) (i 2))
    · exact row_at arg5 harg5 x0 (k0_off91 i 1#32) (k0_off91_inb i 1) j 6 (4 * (i 2).val + 1) _ ((by decide +kernel : ∀ (b : Fin 4) (t : Fin 8), k0_off91 (mkc b t) 1#32 = ![0, 6, 0, 256 * (4 * t.val + 1)]) (i 0) (i 2))
    · exact row_at arg5 harg5 x0 (k0_off92 i 1#32) (k0_off92_inb i 1) j 7 (4 * (i 2).val + 1) _ ((by decide +kernel : ∀ (b : Fin 4) (t : Fin 8), k0_off92 (mkc b t) 1#32 = ![0, 7, 0, 256 * (4 * t.val + 1)]) (i 0) (i 2))
    · exact row_at arg5 harg5 x0 (k0_off93 i 1#32) (k0_off93_inb i 1) j 8 (4 * (i 2).val + 1) _ ((by decide +kernel : ∀ (b : Fin 4) (t : Fin 8), k0_off93 (mkc b t) 1#32 = ![0, 8, 0, 256 * (4 * t.val + 1)]) (i 0) (i 2))
    · exact row_at arg5 harg5 x0 (k0_off94 i 1#32) (k0_off94_inb i 1) j 9 (4 * (i 2).val + 1) _ ((by decide +kernel : ∀ (b : Fin 4) (t : Fin 8), k0_off94 (mkc b t) 1#32 = ![0, 9, 0, 256 * (4 * t.val + 1)]) (i 0) (i 2))
    · exact row_at arg5 harg5 x0 (k0_off95 i 1#32) (k0_off95_inb i 1) j 10 (4 * (i 2).val + 1) _ ((by decide +kernel : ∀ (b : Fin 4) (t : Fin 8), k0_off95 (mkc b t) 1#32 = ![0, 10, 0, 256 * (4 * t.val + 1)]) (i 0) (i 2))
    · exact row_at arg5 harg5 x0 (k0_off96 i 1#32) (k0_off96_inb i 1) j 11 (4 * (i 2).val + 1) _ ((by decide +kernel : ∀ (b : Fin 4) (t : Fin 8), k0_off96 (mkc b t) 1#32 = ![0, 11, 0, 256 * (4 * t.val + 1)]) (i 0) (i 2))
    · exact row_at arg5 harg5 x0 (k0_off97 i 1#32) (k0_off97_inb i 1) j 12 (4 * (i 2).val + 1) _ ((by decide +kernel : ∀ (b : Fin 4) (t : Fin 8), k0_off97 (mkc b t) 1#32 = ![0, 12, 0, 256 * (4 * t.val + 1)]) (i 0) (i 2))
    · exact row_at arg5 harg5 x0 (k0_off98 i 1#32) (k0_off98_inb i 1) j 13 (4 * (i 2).val + 1) _ ((by decide +kernel : ∀ (b : Fin 4) (t : Fin 8), k0_off98 (mkc b t) 1#32 = ![0, 13, 0, 256 * (4 * t.val + 1)]) (i 0) (i 2))
    · exact row_at arg5 harg5 x0 (k0_off99 i 1#32) (k0_off99_inb i 1) j 14 (4 * (i 2).val + 1) _ ((by decide +kernel : ∀ (b : Fin 4) (t : Fin 8), k0_off99 (mkc b t) 1#32 = ![0, 14, 0, 256 * (4 * t.val + 1)]) (i 0) (i 2))
    · exact row_at arg5 harg5 x0 (k0_off100 i 1#32) (k0_off100_inb i 1) j 15 (4 * (i 2).val + 1) _ ((by decide +kernel : ∀ (b : Fin 4) (t : Fin 8), k0_off100 (mkc b t) 1#32 = ![0, 15, 0, 256 * (4 * t.val + 1)]) (i 0) (i 2))
  · refine fin16 ?_ ?_ ?_ ?_ ?_ ?_ ?_ ?_ ?_ ?_ ?_ ?_ ?_ ?_ ?_ ?_
    · exact row_at arg5 harg5 x0 (k0_off85 i 2#32) (k0_off85_inb i 2) j 0 (4 * (i 2).val + 2) _ ((by decide +kernel : ∀ (b : Fin 4) (t : Fin 8), k0_off85 (mkc b t) 2#32 = ![0, 0, 0, 256 * (4 * t.val + 2)]) (i 0) (i 2))
    · exact row_at arg5 harg5 x0 (k0_off86 i 2#32) (k0_off86_inb i 2) j 1 (4 * (i 2).val + 2) _ ((by decide +kernel : ∀ (b : Fin 4) (t : Fin 8), k0_off86 (mkc b t) 2#32 = ![0, 1, 0, 256 * (4 * t.val + 2)]) (i 0) (i 2))
    · exact row_at arg5 harg5 x0 (k0_off87 i 2#32) (k0_off87_inb i 2) j 2 (4 * (i 2).val + 2) _ ((by decide +kernel : ∀ (b : Fin 4) (t : Fin 8), k0_off87 (mkc b t) 2#32 = ![0, 2, 0, 256 * (4 * t.val + 2)]) (i 0) (i 2))
    · exact row_at arg5 harg5 x0 (k0_off88 i 2#32) (k0_off88_inb i 2) j 3 (4 * (i 2).val + 2) _ ((by decide +kernel : ∀ (b : Fin 4) (t : Fin 8), k0_off88 (mkc b t) 2#32 = ![0, 3, 0, 256 * (4 * t.val + 2)]) (i 0) (i 2))
    · exact row_at arg5 harg5 x0 (k0_off89 i 2#32) (k0_off89_inb i 2) j 4 (4 * (i 2).val + 2) _ ((by decide +kernel : ∀ (b : Fin 4) (t : Fin 8), k0_off89 (mkc b t) 2#32 = ![0, 4, 0, 256 * (4 * t.val + 2)]) (i 0) (i 2))
    · exact row_at arg5 harg5 x0 (k0_off90 i 2#32) (k0_off90_inb i 2) j 5 (4 * (i 2).val + 2) _ ((by decide +kernel : ∀ (b : Fin 4) (t : Fin 8), k0_off90 (mkc b t) 2#32 = ![0, 5, 0, 256 * (4 * t.val + 2)]) (i 0) (i 2))
    · exact row_at arg5 harg5 x0 (k0_off91 i 2#32) (k0_off91_inb i 2) j 6 (4 * (i 2).val + 2) _ ((by decide +kernel : ∀ (b : Fin 4) (t : Fin 8), k0_off91 (mkc b t) 2#32 = ![0, 6, 0, 256 * (4 * t.val + 2)]) (i 0) (i 2))
    · exact row_at arg5 harg5 x0 (k0_off92 i 2#32) (k0_off92_inb i 2) j 7 (4 * (i 2).val + 2) _ ((by decide +kernel : ∀ (b : Fin 4) (t : Fin 8), k0_off92 (mkc b t) 2#32 = ![0, 7, 0, 256 * (4 * t.val + 2)]) (i 0) (i 2))
    · exact row_at arg5 harg5 x0 (k0_off93 i 2#32) (k0_off93_inb i 2) j 8 (4 * (i 2).val + 2) _ ((by decide +kernel : ∀ (b : Fin 4) (t : Fin 8), k0_off93 (mkc b t) 2#32 = ![0, 8, 0, 256 * (4 * t.val + 2)]) (i 0) (i 2))
    · exact row_at arg5 harg5 x0 (k0_off94 i 2#32) (k0_off94_inb i 2) j 9 (4 * (i 2).val + 2) _ ((by decide +kernel : ∀ (b : Fin 4) (t : Fin 8), k0_off94 (mkc b t) 2#32 = ![0, 9, 0, 256 * (4 * t.val + 2)]) (i 0) (i 2))
    · exact row_at arg5 harg5 x0 (k0_off95 i 2#32) (k0_off95_inb i 2) j 10 (4 * (i 2).val + 2) _ ((by decide +kernel : ∀ (b : Fin 4) (t : Fin 8), k0_off95 (mkc b t) 2#32 = ![0, 10, 0, 256 * (4 * t.val + 2)]) (i 0) (i 2))
    · exact row_at arg5 harg5 x0 (k0_off96 i 2#32) (k0_off96_inb i 2) j 11 (4 * (i 2).val + 2) _ ((by decide +kernel : ∀ (b : Fin 4) (t : Fin 8), k0_off96 (mkc b t) 2#32 = ![0, 11, 0, 256 * (4 * t.val + 2)]) (i 0) (i 2))
    · exact row_at arg5 harg5 x0 (k0_off97 i 2#32) (k0_off97_inb i 2) j 12 (4 * (i 2).val + 2) _ ((by decide +kernel : ∀ (b : Fin 4) (t : Fin 8), k0_off97 (mkc b t) 2#32 = ![0, 12, 0, 256 * (4 * t.val + 2)]) (i 0) (i 2))
    · exact row_at arg5 harg5 x0 (k0_off98 i 2#32) (k0_off98_inb i 2) j 13 (4 * (i 2).val + 2) _ ((by decide +kernel : ∀ (b : Fin 4) (t : Fin 8), k0_off98 (mkc b t) 2#32 = ![0, 13, 0, 256 * (4 * t.val + 2)]) (i 0) (i 2))
    · exact row_at arg5 harg5 x0 (k0_off99 i 2#32) (k0_off99_inb i 2) j 14 (4 * (i 2).val + 2) _ ((by decide +kernel : ∀ (b : Fin 4) (t : Fin 8), k0_off99 (mkc b t) 2#32 = ![0, 14, 0, 256 * (4 * t.val + 2)]) (i 0) (i 2))
    · exact row_at arg5 harg5 x0 (k0_off100 i 2#32) (k0_off100_inb i 2) j 15 (4 * (i 2).val + 2) _ ((by decide +kernel : ∀ (b : Fin 4) (t : Fin 8), k0_off100 (mkc b t) 2#32 = ![0, 15, 0, 256 * (4 * t.val + 2)]) (i 0) (i 2))
  · refine fin16 ?_ ?_ ?_ ?_ ?_ ?_ ?_ ?_ ?_ ?_ ?_ ?_ ?_ ?_ ?_ ?_
    · exact row_at arg5 harg5 x0 (k0_off85 i 3#32) (k0_off85_inb i 3) j 0 (4 * (i 2).val + 3) _ ((by decide +kernel : ∀ (b : Fin 4) (t : Fin 8), k0_off85 (mkc b t) 3#32 = ![0, 0, 0, 256 * (4 * t.val + 3)]) (i 0) (i 2))
    · exact row_at arg5 harg5 x0 (k0_off86 i 3#32) (k0_off86_inb i 3) j 1 (4 * (i 2).val + 3) _ ((by decide +kernel : ∀ (b : Fin 4) (t : Fin 8), k0_off86 (mkc b t) 3#32 = ![0, 1, 0, 256 * (4 * t.val + 3)]) (i 0) (i 2))
    · exact row_at arg5 harg5 x0 (k0_off87 i 3#32) (k0_off87_inb i 3) j 2 (4 * (i 2).val + 3) _ ((by decide +kernel : ∀ (b : Fin 4) (t : Fin 8), k0_off87 (mkc b t) 3#32 = ![0, 2, 0, 256 * (4 * t.val + 3)]) (i 0) (i 2))
    · exact row_at arg5 harg5 x0 (k0_off88 i 3#32) (k0_off88_inb i 3) j 3 (4 * (i 2).val + 3) _ ((by decide +kernel : ∀ (b : Fin 4) (t : Fin 8), k0_off88 (mkc b t) 3#32 = ![0, 3, 0, 256 * (4 * t.val + 3)]) (i 0) (i 2))
    · exact row_at arg5 harg5 x0 (k0_off89 i 3#32) (k0_off89_inb i 3) j 4 (4 * (i 2).val + 3) _ ((by decide +kernel : ∀ (b : Fin 4) (t : Fin 8), k0_off89 (mkc b t) 3#32 = ![0, 4, 0, 256 * (4 * t.val + 3)]) (i 0) (i 2))
    · exact row_at arg5 harg5 x0 (k0_off90 i 3#32) (k0_off90_inb i 3) j 5 (4 * (i 2).val + 3) _ ((by decide +kernel : ∀ (b : Fin 4) (t : Fin 8), k0_off90 (mkc b t) 3#32 = ![0, 5, 0, 256 * (4 * t.val + 3)]) (i 0) (i 2))
    · exact row_at arg5 harg5 x0 (k0_off91 i 3#32) (k0_off91_inb i 3) j 6 (4 * (i 2).val + 3) _ ((by decide +kernel : ∀ (b : Fin 4) (t : Fin 8), k0_off91 (mkc b t) 3#32 = ![0, 6, 0, 256 * (4 * t.val + 3)]) (i 0) (i 2))
    · exact row_at arg5 harg5 x0 (k0_off92 i 3#32) (k0_off92_inb i 3) j 7 (4 * (i 2).val + 3) _ ((by decide +kernel : ∀ (b : Fin 4) (t : Fin 8), k0_off92 (mkc b t) 3#32 = ![0, 7, 0, 256 * (4 * t.val + 3)]) (i 0) (i 2))
    · exact row_at arg5 harg5 x0 (k0_off93 i 3#32) (k0_off93_inb i 3) j 8 (4 * (i 2).val + 3) _ ((by decide +kernel : ∀ (b : Fin 4) (t : Fin 8), k0_off93 (mkc b t) 3#32 = ![0, 8, 0, 256 * (4 * t.val + 3)]) (i 0) (i 2))
    · exact row_at arg5 harg5 x0 (k0_off94 i 3#32) (k0_off94_inb i 3) j 9 (4 * (i 2).val + 3) _ ((by decide +kernel : ∀ (b : Fin 4) (t : Fin 8), k0_off94 (mkc b t) 3#32 = ![0, 9, 0, 256 * (4 * t.val + 3)]) (i 0) (i 2))
    · exact row_at arg5 harg5 x0 (k0_off95 i 3#32) (k0_off95_inb i 3) j 10 (4 * (i 2).val + 3) _ ((by decide +kernel : ∀ (b : Fin 4) (t : Fin 8), k0_off95 (mkc b t) 3#32 = ![0, 10, 0, 256 * (4 * t.val + 3)]) (i 0) (i 2))
    · exact row_at arg5 harg5 x0 (k0_off96 i 3#32) (k0_off96_inb i 3) j 11 (4 * (i 2).val + 3) _ ((by decide +kernel : ∀ (b : Fin 4) (t : Fin 8), k0_off96 (mkc b t) 3#32 = ![0, 11, 0, 256 * (4 * t.val + 3)]) (i 0) (i 2))
    · exact row_at arg5 harg5 x0 (k0_off97 i 3#32) (k0_off97_inb i 3) j 12 (4 * (i 2).val + 3) _ ((by decide +kernel : ∀ (b : Fin 4) (t : Fin 8), k0_off97 (mkc b t) 3#32 = ![0, 12, 0, 256 * (4 * t.val + 3)]) (i 0) (i 2))
    · exact row_at arg5 harg5 x0 (k0_off98 i 3#32) (k0_off98_inb i 3) j 13 (4 * (i 2).val + 3) _ ((by decide +kernel : ∀ (b : Fin 4) (t : Fin 8), k0_off98 (mkc b t) 3#32 = ![0, 13, 0, 256 * (4 * t.val + 3)]) (i 0) (i 2))
    · exact row_at arg5 harg5 x0 (k0_off99 i 3#32) (k0_off99_inb i 3) j 14 (4 * (i 2).val + 3) _ ((by decide +kernel : ∀ (b : Fin 4) (t : Fin 8), k0_off99 (mkc b t) 3#32 = ![0, 14, 0, 256 * (4 * t.val + 3)]) (i 0) (i 2))
    · exact row_at arg5 harg5 x0 (k0_off100 i 3#32) (k0_off100_inb i 3) j 15 (4 * (i 2).val + 3) _ ((by decide +kernel : ∀ (b : Fin 4) (t : Fin 8), k0_off100 (mkc b t) 3#32 = ![0, 15, 0, 256 * (4 * t.val + 3)]) (i 0) (i 2))

end

end Cert.Kernel5Ideal.Hand

end
-- ==== Proof.CbTakeA3.lean ====
module

public import proofs.«01_k».proof.Proof.CbValA

@[expose] public section

set_option maxRecDepth 16384

noncomputable section

namespace Cert.Kernel5Ideal.Hand

open Cert.Kernel5Ideal Cert.Kernel5Ideal.Gen Idealize.ShloMosaic Idealize.ShloMosaic.TcCoe Idealize.SL.Sem

section
variable (c : Dev nD) (i : grid0.Coords) (arg3 : Memref sig .tc .smem S2048 .i32) (harg3 : arg3.IsWhole) (arg4 : Memref sig .tc .smem S128 .i32) (harg4 : arg4.IsWhole) (arg5 : Memref sig .tc .vmem S1x16x1x8192 .i32) (harg5 : arg5.IsWhole) (arg6 : Memref sig .tc .vmem S1x16x1296x512 .bf16) (harg6 : arg6.IsWhole) (arg7 : Memref sig .tc .vmem S1024x512 .f32) (harg7 : arg7.IsWhole) (arg8 : Memref sig .tc .vmem S1024x512 .f32) (harg8 : arg8.IsWhole) (arg9 : Memref sig .tc .vmem S4352x512 .bf16) (harg9 : arg9.IsWhole)
    (t3 : Vec Ideal S2048 .i32) (t4 : Vec Ideal S128 .i32) (x0 : Vec Ideal S1x16x1x8192 .i32) (x1 : Vec Ideal S1x16x1296x512 .bf16) (x2 : Vec Ideal S1024x512 .f32)
    (hW : ∀ (B : LoadRect S2048) (x : B.shape.Idx), WordOk (arg3.view.readAt (Elt Ideal) B (harg3.unread t3) x))

/-- The scratch's contents by row. -/
def gA (y : S4352x512.Idx) : EReal := yrow x1 (wA i arg3 harg3 t3 ⟨(y 0).val / 1024 % 4, Nat.mod_lt _ (by decide)⟩ ⟨(y 0).val / 64 % 16, Nat.mod_lt _ (by decide)⟩) ⟨(y 0).val / 64 % 16, Nat.mod_lt _ (by decide)⟩ ((y 0).val % 64) (y 1)

theorem gA_eq (y : S4352x512.Idx) (u : Fin 4) (e : Fin 16) (n : ℕ) (d : Fin 512) (h0 : (y 0).val = 1024 * u.val + 64 * e.val + n) (hn : n < 64) (h1 : y 1 = d) : gA i arg3 harg3 t3 x1 y = yrow x1 (wA i arg3 harg3 t3 u e) e n d := by
  have hu := u.isLt
  have he := e.isLt
  have e1 : (⟨(y 0).val / 1024 % 4, Nat.mod_lt _ (by decide)⟩ : Fin 4) = u := Fin.ext (by show (y 0).val / 1024 % 4 = u.val; omega)
  have e2 : (⟨(y 0).val / 64 % 16, Nat.mod_lt _ (by decide)⟩ : Fin 16) = e := Fin.ext (by show (y 0).val / 64 % 16 = e.val; omega)
  have e3 : (y 0).val % 64 = n := by omega
  unfold gA
  rw [e1, e2, e3, h1]

theorem covA (u : Fin 4) (inb : ∀ a, (![1024 * u.val, 0] : Fin 2 → ℕ) a + S1024x512.size a ≤ S4352x512.size a) (n : ℕ) (hn : n ≤ 64) (hu : 16 * (u.val + 1) = n) (j : Fin 1024) (d : Fin 512) :
    (arg9.view.readCov (HA i arg3 harg3 arg6 harg6 t3 x1 hW n hn) (Rect.unit (s := S4352x512) ![1024 * u.val, 0] S1024x512.size inb).toLoadRect) (ix2 j d)
    = yrow x1 (wA i arg3 harg3 t3 u ⟨j.val / 64, by omega⟩) ⟨j.val / 64, by omega⟩ (j.val % 64) d := by
  have hj := j.isLt
  have hd := d.isLt
  unfold HA
  refine (View.read_writes_apply_of_pieces arg9.view _ (gA i arg3 harg3 t3 x1) _ ?_ ((Rect.unit (s := S4352x512) ![1024 * u.val, 0] S1024x512.size inb).toLoadRect.idx (ix2 j d)) ?_).trans ?_
  · intro p hp x
    obtain ⟨e', rfl⟩ := (List.mem_ofFn' _ _).1 hp
    beta_reduce; generalize Fin.castLE hn e'.rev = e
    have he := e.isLt
    have hx : x = ix2 (x 0 : Fin 64) (x 1 : Fin 512) := funext fun a => match a with
      | ⟨0, _⟩ => rfl
      | ⟨1, _⟩ => rfl
    have h0 : (x 0).val < 64 := (x 0).isLt
    have h4 : (x 1).val < 512 := (x 1).isLt
    refine (congrArg _ hx).trans ((pieceA_at arg6 harg6 x1 _ (wA_ok i arg3 harg3 t3 hW ⟨e.val / 16, by omega⟩ ⟨e.val % 16, by omega⟩) ⟨e.val % 16, by omega⟩ (x 0) (x 1)).trans (Eq.symm ?_))
    refine gA_eq i arg3 harg3 t3 x1 _ ⟨e.val / 16, by omega⟩ ⟨e.val % 16, by omega⟩ _ _ ?_ h0 ?_
    · show 64 * e.val + 1 * (x 0).val = 1024 * (e.val / 16) + 64 * (e.val % 16) + (x 0).val; omega
    · exact Fin.ext (by show 0 + 1 * (x 1).val = (x 1).val; omega)
  · have hq : 16 * u.val + j.val / 64 < n := by omega
    refine ⟨_, (List.mem_ofFn' _ _).2 ⟨(⟨16 * u.val + j.val / 64, hq⟩ : Fin n).rev, rfl⟩, ?_⟩
    beta_reduce; rw [Fin.rev_rev]
    unfold pieceAv; dsimp only; rw [Rect.mem_set_unit]; intro a
    match a with
    | ⟨0, _⟩ => show 64 * (16 * u.val + j.val / 64) ≤ 1024 * u.val + 1 * j.val ∧ 1024 * u.val + 1 * j.val < 64 * (16 * u.val + j.val / 64) + 64; omega
    | ⟨1, _⟩ => show 0 ≤ 0 + 1 * d.val ∧ 0 + 1 * d.val < 0 + 512; omega
  · refine gA_eq i arg3 harg3 t3 x1 _ u ⟨j.val / 64, by omega⟩ _ _ ?_ (Nat.mod_lt _ (by decide)) ?_
    · show 1024 * u.val + 1 * j.val = 1024 * u.val + 64 * (j.val / 64) + j.val % 64; omega
    · exact Fin.ext (by show 0 + 1 * d.val = d.val; omega)

end

end Cert.Kernel5Ideal.Hand

end
-- ==== Proof.CbTakeA.lean ====
module

public import proofs.«01_k».proof.Proof.CbValA

@[expose] public section

set_option maxRecDepth 16384

noncomputable section

namespace Cert.Kernel5Ideal.Hand

open Cert.Kernel5Ideal Cert.Kernel5Ideal.Gen Idealize.ShloMosaic Idealize.ShloMosaic.TcCoe Idealize.SL.Sem

section
variable (c : Dev nD) (i : grid0.Coords) (arg3 : Memref sig .tc .smem S2048 .i32) (harg3 : arg3.IsWhole) (arg4 : Memref sig .tc .smem S128 .i32) (harg4 : arg4.IsWhole) (arg5 : Memref sig .tc .vmem S1x16x1x8192 .i32) (harg5 : arg5.IsWhole) (arg6 : Memref sig .tc .vmem S1x16x1296x512 .bf16) (harg6 : arg6.IsWhole) (arg7 : Memref sig .tc .vmem S1024x512 .f32) (harg7 : arg7.IsWhole) (arg8 : Memref sig .tc .vmem S1024x512 .f32) (harg8 : arg8.IsWhole) (arg9 : Memref sig .tc .vmem S4352x512 .bf16) (harg9 : arg9.IsWhole)
    (t3 : Vec Ideal S2048 .i32) (t4 : Vec Ideal S128 .i32) (x0 : Vec Ideal S1x16x1x8192 .i32) (x1 : Vec Ideal S1x16x1296x512 .bf16) (x2 : Vec Ideal S1024x512 .f32)
    (hW : ∀ (B : LoadRect S2048) (x : B.shape.Idx), WordOk (arg3.view.readAt (Elt Ideal) B (harg3.unread t3) x))

set_option maxHeartbeats 40000000 in
theorem wA_eq (u : Fin 4) (e : Fin 16) : wA i arg3 harg3 t3 u e = t3 (ix1 (⟨(16 * (i 0).val + e.val) * 32 + 4 * (i 2).val + u.val, by have h1 : (i 0).val < 4 := (i 0).isLt; have h2 : (i 2).val < 8 := (i 2).isLt; have := u.isLt; have := e.isLt; omega⟩ : Fin 2048)) := by
  revert e
  refine fin4 (P := fun u : Fin 4 => ∀ e : Fin 16, wA i arg3 harg3 t3 u e = t3 (ix1 (⟨(16 * (i 0).val + e.val) * 32 + 4 * (i 2).val + u.val, by have h1 : (i 0).val < 4 := (i 0).isLt; have h2 : (i 2).val < 8 := (i 2).isLt; have := u.isLt; have := e.isLt; omega⟩ : Fin 2048))) ?_ ?_ ?_ ?_ u
  · refine fin16 ?_ ?_ ?_ ?_ ?_ ?_ ?_ ?_ ?_ ?_ ?_ ?_ ?_ ?_ ?_ ?_
    · exact word_at arg3 harg3 t3 (k0_off1 i) (k0_off1_inb i) _ ((16 * (i 0).val + 0) * 32 + 4 * (i 2).val + 0) _ ((by decide +kernel : ∀ (b : Fin 4) (t : Fin 8), k0_off1 (mkc b t) 0 = (16 * b.val + 0) * 32 + 4 * t.val + 0) (i 0) (i 2))
    · exact word_at arg3 harg3 t3 (k0_off2 i) (k0_off2_inb i) _ ((16 * (i 0).val + 1) * 32 + 4 * (i 2).val + 0) _ ((by decide +kernel : ∀ (b : Fin 4) (t : Fin 8), k0_off2 (mkc b t) 0 = (16 * b.val + 1) * 32 + 4 * t.val + 0) (i 0) (i 2))
    · exact word_at arg3 harg3 t3 (k0_off3 i) (k0_off3_inb i) _ ((16 * (i 0).val + 2) * 32 + 4 * (i 2).val + 0) _ ((by decide +kernel : ∀ (b : Fin 4) (t : Fin 8), k0_off3 (mkc b t) 0 = (16 * b.val + 2) * 32 + 4 * t.val + 0) (i 0) (i 2))
    · exact word_at arg3 harg3 t3 (k0_off4 i) (k0_off4_inb i) _ ((16 * (i 0).val + 3) * 32 + 4 * (i 2).val + 0) _ ((by decide +kernel : ∀ (b : Fin 4) (t : Fin 8), k0_off4 (mkc b t) 0 = (16 * b.val + 3) * 32 + 4 * t.val + 0) (i 0) (i 2))
    · exact word_at arg3 harg3 t3 (k0_off5 i) (k0_off5_inb i) _ ((16 * (i 0).val + 4) * 32 + 4 * (i 2).val + 0) _ ((by decide +kernel : ∀ (b : Fin 4) (t : Fin 8), k0_off5 (mkc b t) 0 = (16 * b.val + 4) * 32 + 4 * t.val + 0) (i 0) (i 2))
    · exact word_at arg3 harg3 t3 (k0_off6 i) (k0_off6_inb i) _ ((16 * (i 0).val + 5) * 32 + 4 * (i 2).val + 0) _ ((by decide +kernel : ∀ (b : Fin 4) (t : Fin 8), k0_off6 (mkc b t) 0 = (16 * b.val + 5) * 32 + 4 * t.val + 0) (i 0) (i 2))
    · exact word_at arg3 harg3 t3 (k0_off7 i) (k0_off7_inb i) _ ((16 * (i 0).val + 6) * 32 + 4 * (i 2).val + 0) _ ((by decide +kernel : ∀ (b : Fin 4) (t : Fin 8), k0_off7 (mkc b t) 0 = (16 * b.val + 6) * 32 + 4 * t.val + 0) (i 0) (i 2))
    · exact word_at arg3 harg3 t3 (k0_off8 i) (k0_off8_inb i) _ ((16 * (i 0).val + 7) * 32 + 4 * (i 2).val + 0) _ ((by decide +kernel : ∀ (b : Fin 4) (t : Fin 8), k0_off8 (mkc b t) 0 = (16 * b.val + 7) * 32 + 4 * t.val + 0) (i 0) (i 2))
    · exact word_at arg3 harg3 t3 (k0_off9 i) (k0_off9_inb i) _ ((16 * (i 0).val + 8) * 32 + 4 * (i 2).val + 0) _ ((by decide +kernel : ∀ (b : Fin 4) (t : Fin 8), k0_off9 (mkc b t) 0 = (16 * b.val + 8) * 32 + 4 * t.val + 0) (i 0) (i 2))
    · exact word_at arg3 harg3 t3 (k0_off10 i) (k0_off10_inb i) _ ((16 * (i 0).val + 9) * 32 + 4 * (i 2).val + 0) _ ((by decide +kernel : ∀ (b : Fin 4) (t : Fin 8), k0_off10 (mkc b t) 0 = (16 * b.val + 9) * 32 + 4 * t.val + 0) (i 0) (i 2))
    · exact word_at arg3 harg3 t3 (k0_off11 i) (k0_off11_inb i) _ ((16 * (i 0).val + 10) * 32 + 4 * (i 2).val + 0) _ ((by decide +kernel : ∀ (b : Fin 4) (t : Fin 8), k0_off11 (mkc b t) 0 = (16 * b.val + 10) * 32 + 4 * t.val + 0) (i 0) (i 2))
    · exact word_at arg3 harg3 t3 (k0_off12 i) (k0_off12_inb i) _ ((16 * (i 0).val + 11) * 32 + 4 * (i 2).val + 0) _ ((by decide +kernel : ∀ (b : Fin 4) (t : Fin 8), k0_off12 (mkc b t) 0 = (16 * b.val + 11) * 32 + 4 * t.val + 0) (i 0) (i 2))
    · exact word_at arg3 harg3 t3 (k0_off13 i) (k0_off13_inb i) _ ((16 * (i 0).val + 12) * 32 + 4 * (i 2).val + 0) _ ((by decide +kernel : ∀ (b : Fin 4) (t : Fin 8), k0_off13 (mkc b t) 0 = (16 * b.val + 12) * 32 + 4 * t.val + 0) (i 0) (i 2))
    · exact word_at arg3 harg3 t3 (k0_off14 i) (k0_off14_inb i) _ ((16 * (i 0).val + 13) * 32 + 4 * (i 2).val + 0) _ ((by decide +kernel : ∀ (b : Fin 4) (t : Fin 8), k0_off14 (mkc b t) 0 = (16 * b.val + 13) * 32 + 4 * t.val + 0) (i 0) (i 2))
    · exact word_at arg3 harg3 t3 (k0_off15 i) (k0_off15_inb i) _ ((16 * (i 0).val + 14) * 32 + 4 * (i 2).val + 0) _ ((by decide +kernel : ∀ (b : Fin 4) (t : Fin 8), k0_off15 (mkc b t) 0 = (16 * b.val + 14) * 32 + 4 * t.val + 0) (i 0) (i 2))
    · exact word_at arg3 harg3 t3 (k0_off16 i) (k0_off16_inb i) _ ((16 * (i 0).val + 15) * 32 + 4 * (i 2).val + 0) _ ((by decide +kernel : ∀ (b : Fin 4) (t : Fin 8), k0_off16 (mkc b t) 0 = (16 * b.val + 15) * 32 + 4 * t.val + 0) (i 0) (i 2))
  · refine fin16 ?_ ?_ ?_ ?_ ?_ ?_ ?_ ?_ ?_ ?_ ?_ ?_ ?_ ?_ ?_ ?_
    · exact word_at arg3 harg3 t3 (k0_off18 i) (k0_off18_inb i) _ ((16 * (i 0).val + 0) * 32 + 4 * (i 2).val + 1) _ ((by decide +kernel : ∀ (b : Fin 4) (t : Fin 8), k0_off18 (mkc b t) 0 = (16 * b.val + 0) * 32 + 4 * t.val + 1) (i 0) (i 2))
    · exact word_at arg3 harg3 t3 (k0_off19 i) (k0_off19_inb i) _ ((16 * (i 0).val + 1) * 32 + 4 * (i 2).val + 1) _ ((by decide +kernel : ∀ (b : Fin 4) (t : Fin 8), k0_off19 (mkc b t) 0 = (16 * b.val + 1) * 32 + 4 * t.val + 1) (i 0) (i 2))
    · exact word_at arg3 harg3 t3 (k0_off20 i) (k0_off20_inb i) _ ((16 * (i 0).val + 2) * 32 + 4 * (i 2).val + 1) _ ((by decide +kernel : ∀ (b : Fin 4) (t : Fin 8), k0_off20 (mkc b t) 0 = (16 * b.val + 2) * 32 + 4 * t.val + 1) (i 0) (i 2))
    · exact word_at arg3 harg3 t3 (k0_off21 i) (k0_off21_inb i) _ ((16 * (i 0).val + 3) * 32 + 4 * (i 2).val + 1) _ ((by decide +kernel : ∀ (b : Fin 4) (t : Fin 8), k0_off21 (mkc b t) 0 = (16 * b.val + 3) * 32 + 4 * t.val + 1) (i 0) (i 2))
    · exact word_at arg3 harg3 t3 (k0_off22 i) (k0_off22_inb i) _ ((16 * (i 0).val + 4) * 32 + 4 * (i 2).val + 1) _ ((by decide +kernel : ∀ (b : Fin 4) (t : Fin 8), k0_off22 (mkc b t) 0 = (16 * b.val + 4) * 32 + 4 * t.val + 1) (i 0) (i 2))
    · exact word_at arg3 harg3 t3 (k0_off23 i) (k0_off23_inb i) _ ((16 * (i 0).val + 5) * 32 + 4 * (i 2).val + 1) _ ((by decide +kernel : ∀ (b : Fin 4) (t : Fin 8), k0_off23 (mkc b t) 0 = (16 * b.val + 5) * 32 + 4 * t.val + 1) (i 0) (i 2))
    · exact word_at arg3 harg3 t3 (k0_off24 i) (k0_off24_inb i) _ ((16 * (i 0).val + 6) * 32 + 4 * (i 2).val + 1) _ ((by decide +kernel : ∀ (b : Fin 4) (t : Fin 8), k0_off24 (mkc b t) 0 = (16 * b.val + 6) * 32 + 4 * t.val + 1) (i 0) (i 2))
    · exact word_at arg3 harg3 t3 (k0_off25 i) (k0_off25_inb i) _ ((16 * (i 0).val + 7) * 32 + 4 * (i 2).val + 1) _ ((by decide +kernel : ∀ (b : Fin 4) (t : Fin 8), k0_off25 (mkc b t) 0 = (16 * b.val + 7) * 32 + 4 * t.val + 1) (i 0) (i 2))
    · exact word_at arg3 harg3 t3 (k0_off26 i) (k0_off26_inb i) _ ((16 * (i 0).val + 8) * 32 + 4 * (i 2).val + 1) _ ((by decide +kernel : ∀ (b : Fin 4) (t : Fin 8), k0_off26 (mkc b t) 0 = (16 * b.val + 8) * 32 + 4 * t.val + 1) (i 0) (i 2))
    · exact word_at arg3 harg3 t3 (k0_off27 i) (k0_off27_inb i) _ ((16 * (i 0).val + 9) * 32 + 4 * (i 2).val + 1) _ ((by decide +kernel : ∀ (b : Fin 4) (t : Fin 8), k0_off27 (mkc b t) 0 = (16 * b.val + 9) * 32 + 4 * t.val + 1) (i 0) (i 2))
    · exact word_at arg3 harg3 t3 (k0_off28 i) (k0_off28_inb i) _ ((16 * (i 0).val + 10) * 32 + 4 * (i 2).val + 1) _ ((by decide +kernel : ∀ (b : Fin 4) (t : Fin 8), k0_off28 (mkc b t) 0 = (16 * b.val + 10) * 32 + 4 * t.val + 1) (i 0) (i 2))
    · exact word_at arg3 harg3 t3 (k0_off29 i) (k0_off29_inb i) _ ((16 * (i 0).val + 11) * 32 + 4 * (i 2).val + 1) _ ((by decide +kernel : ∀ (b : Fin 4) (t : Fin 8), k0_off29 (mkc b t) 0 = (16 * b.val + 11) * 32 + 4 * t.val + 1) (i 0) (i 2))
    · exact word_at arg3 harg3 t3 (k0_off30 i) (k0_off30_inb i) _ ((16 * (i 0).val + 12) * 32 + 4 * (i 2).val + 1) _ ((by decide +kernel : ∀ (b : Fin 4) (t : Fin 8), k0_off30 (mkc b t) 0 = (16 * b.val + 12) * 32 + 4 * t.val + 1) (i 0) (i 2))
    · exact word_at arg3 harg3 t3 (k0_off31 i) (k0_off31_inb i) _ ((16 * (i 0).val + 13) * 32 + 4 * (i 2).val + 1) _ ((by decide +kernel : ∀ (b : Fin 4) (t : Fin 8), k0_off31 (mkc b t) 0 = (16 * b.val + 13) * 32 + 4 * t.val + 1) (i 0) (i 2))
    · exact word_at arg3 harg3 t3 (k0_off32 i) (k0_off32_inb i) _ ((16 * (i 0).val + 14) * 32 + 4 * (i 2).val + 1) _ ((by decide +kernel : ∀ (b : Fin 4) (t : Fin 8), k0_off32 (mkc b t) 0 = (16 * b.val + 14) * 32 + 4 * t.val + 1) (i 0) (i 2))
    · exact word_at arg3 harg3 t3 (k0_off33 i) (k0_off33_inb i) _ ((16 * (i 0).val + 15) * 32 + 4 * (i 2).val + 1) _ ((by decide +kernel : ∀ (b : Fin 4) (t : Fin 8), k0_off33 (mkc b t) 0 = (16 * b.val + 15) * 32 + 4 * t.val + 1) (i 0) (i 2))
  · refine fin16 ?_ ?_ ?_ ?_ ?_ ?_ ?_ ?_ ?_ ?_ ?_ ?_ ?_ ?_ ?_ ?_
    · exact word_at arg3 harg3 t3 (k0_off35 i) (k0_off35_inb i) _ ((16 * (i 0).val + 0) * 32 + 4 * (i 2).val + 2) _ ((by decide +kernel : ∀ (b : Fin 4) (t : Fin 8), k0_off35 (mkc b t) 0 = (16 * b.val + 0) * 32 + 4 * t.val + 2) (i 0) (i 2))
    · exact word_at arg3 harg3 t3 (k0_off36 i) (k0_off36_inb i) _ ((16 * (i 0).val + 1) * 32 + 4 * (i 2).val + 2) _ ((by decide +kernel : ∀ (b : Fin 4) (t : Fin 8), k0_off36 (mkc b t) 0 = (16 * b.val + 1) * 32 + 4 * t.val + 2) (i 0) (i 2))
    · exact word_at arg3 harg3 t3 (k0_off37 i) (k0_off37_inb i) _ ((16 * (i 0).val + 2) * 32 + 4 * (i 2).val + 2) _ ((by decide +kernel : ∀ (b : Fin 4) (t : Fin 8), k0_off37 (mkc b t) 0 = (16 * b.val + 2) * 32 + 4 * t.val + 2) (i 0) (i 2))
    · exact word_at arg3 harg3 t3 (k0_off38 i) (k0_off38_inb i) _ ((16 * (i 0).val + 3) * 32 + 4 * (i 2).val + 2) _ ((by decide +kernel : ∀ (b : Fin 4) (t : Fin 8), k0_off38 (mkc b t) 0 = (16 * b.val + 3) * 32 + 4 * t.val + 2) (i 0) (i 2))
    · exact word_at arg3 harg3 t3 (k0_off39 i) (k0_off39_inb i) _ ((16 * (i 0).val + 4) * 32 + 4 * (i 2).val + 2) _ ((by decide +kernel : ∀ (b : Fin 4) (t : Fin 8), k0_off39 (mkc b t) 0 = (16 * b.val + 4) * 32 + 4 * t.val + 2) (i 0) (i 2))
    · exact word_at arg3 harg3 t3 (k0_off40 i) (k0_off40_inb i) _ ((16 * (i 0).val + 5) * 32 + 4 * (i 2).val + 2) _ ((by decide +kernel : ∀ (b : Fin 4) (t : Fin 8), k0_off40 (mkc b t) 0 = (16 * b.val + 5) * 32 + 4 * t.val + 2) (i 0) (i 2))
    · exact word_at arg3 harg3 t3 (k0_off41 i) (k0_off41_inb i) _ ((16 * (i 0).val + 6) * 32 + 4 * (i 2).val + 2) _ ((by decide +kernel : ∀ (b : Fin 4) (t : Fin 8), k0_off41 (mkc b t) 0 = (16 * b.val + 6) * 32 + 4 * t.val + 2) (i 0) (i 2))
    · exact word_at arg3 harg3 t3 (k0_off42 i) (k0_off42_inb i) _ ((16 * (i 0).val + 7) * 32 + 4 * (i 2).val + 2) _ ((by decide +kernel : ∀ (b : Fin 4) (t : Fin 8), k0_off42 (mkc b t) 0 = (16 * b.val + 7) * 32 + 4 * t.val + 2) (i 0) (i 2))
    · exact word_at arg3 harg3 t3 (k0_off43 i) (k0_off43_inb i) _ ((16 * (i 0).val + 8) * 32 + 4 * (i 2).val + 2) _ ((by decide +kernel : ∀ (b : Fin 4) (t : Fin 8), k0_off43 (mkc b t) 0 = (16 * b.val + 8) * 32 + 4 * t.val + 2) (i 0) (i 2))
    · exact word_at arg3 harg3 t3 (k0_off44 i) (k0_off44_inb i) _ ((16 * (i 0).val + 9) * 32 + 4 * (i 2).val + 2) _ ((by decide +kernel : ∀ (b : Fin 4) (t : Fin 8), k0_off44 (mkc b t) 0 = (16 * b.val + 9) * 32 + 4 * t.val + 2) (i 0) (i 2))
    · exact word_at arg3 harg3 t3 (k0_off45 i) (k0_off45_inb i) _ ((16 * (i 0).val + 10) * 32 + 4 * (i 2).val + 2) _ ((by decide +kernel : ∀ (b : Fin 4) (t : Fin 8), k0_off45 (mkc b t) 0 = (16 * b.val + 10) * 32 + 4 * t.val + 2) (i 0) (i 2))
    · exact word_at arg3 harg3 t3 (k0_off46 i) (k0_off46_inb i) _ ((16 * (i 0).val + 11) * 32 + 4 * (i 2).val + 2) _ ((by decide +kernel : ∀ (b : Fin 4) (t : Fin 8), k0_off46 (mkc b t) 0 = (16 * b.val + 11) * 32 + 4 * t.val + 2) (i 0) (i 2))
    · exact word_at arg3 harg3 t3 (k0_off47 i) (k0_off47_inb i) _ ((16 * (i 0).val + 12) * 32 + 4 * (i 2).val + 2) _ ((by decide +kernel : ∀ (b : Fin 4) (t : Fin 8), k0_off47 (mkc b t) 0 = (16 * b.val + 12) * 32 + 4 * t.val + 2) (i 0) (i 2))
    · exact word_at arg3 harg3 t3 (k0_off48 i) (k0_off48_inb i) _ ((16 * (i 0).val + 13) * 32 + 4 * (i 2).val + 2) _ ((by decide +kernel : ∀ (b : Fin 4) (t : Fin 8), k0_off48 (mkc b t) 0 = (16 * b.val + 13) * 32 + 4 * t.val + 2) (i 0) (i 2))
    · exact word_at arg3 harg3 t3 (k0_off49 i) (k0_off49_inb i) _ ((16 * (i 0).val + 14) * 32 + 4 * (i 2).val + 2) _ ((by decide +kernel : ∀ (b : Fin 4) (t : Fin 8), k0_off49 (mkc b t) 0 = (16 * b.val + 14) * 32 + 4 * t.val + 2) (i 0) (i 2))
    · exact word_at arg3 harg3 t3 (k0_off50 i) (k0_off50_inb i) _ ((16 * (i 0).val + 15) * 32 + 4 * (i 2).val + 2) _ ((by decide +kernel : ∀ (b : Fin 4) (t : Fin 8), k0_off50 (mkc b t) 0 = (16 * b.val + 15) * 32 + 4 * t.val + 2) (i 0) (i 2))
  · refine fin16 ?_ ?_ ?_ ?_ ?_ ?_ ?_ ?_ ?_ ?_ ?_ ?_ ?_ ?_ ?_ ?_
    · exact word_at arg3 harg3 t3 (k0_off52 i) (k0_off52_inb i) _ ((16 * (i 0).val + 0) * 32 + 4 * (i 2).val + 3) _ ((by decide +kernel : ∀ (b : Fin 4) (t : Fin 8), k0_off52 (mkc b t) 0 = (16 * b.val + 0) * 32 + 4 * t.val + 3) (i 0) (i 2))
    · exact word_at arg3 harg3 t3 (k0_off53 i) (k0_off53_inb i) _ ((16 * (i 0).val + 1) * 32 + 4 * (i 2).val + 3) _ ((by decide +kernel : ∀ (b : Fin 4) (t : Fin 8), k0_off53 (mkc b t) 0 = (16 * b.val + 1) * 32 + 4 * t.val + 3) (i 0) (i 2))
    · exact word_at arg3 harg3 t3 (k0_off54 i) (k0_off54_inb i) _ ((16 * (i 0).val + 2) * 32 + 4 * (i 2).val + 3) _ ((by decide +kernel : ∀ (b : Fin 4) (t : Fin 8), k0_off54 (mkc b t) 0 = (16 * b.val + 2) * 32 + 4 * t.val + 3) (i 0) (i 2))
    · exact word_at arg3 harg3 t3 (k0_off55 i) (k0_off55_inb i) _ ((16 * (i 0).val + 3) * 32 + 4 * (i 2).val + 3) _ ((by decide +kernel : ∀ (b : Fin 4) (t : Fin 8), k0_off55 (mkc b t) 0 = (16 * b.val + 3) * 32 + 4 * t.val + 3) (i 0) (i 2))
    · exact word_at arg3 harg3 t3 (k0_off56 i) (k0_off56_inb i) _ ((16 * (i 0).val + 4) * 32 + 4 * (i 2).val + 3) _ ((by decide +kernel : ∀ (b : Fin 4) (t : Fin 8), k0_off56 (mkc b t) 0 = (16 * b.val + 4) * 32 + 4 * t.val + 3) (i 0) (i 2))
    · exact word_at arg3 harg3 t3 (k0_off57 i) (k0_off57_inb i) _ ((16 * (i 0).val + 5) * 32 + 4 * (i 2).val + 3) _ ((by decide +kernel : ∀ (b : Fin 4) (t : Fin 8), k0_off57 (mkc b t) 0 = (16 * b.val + 5) * 32 + 4 * t.val + 3) (i 0) (i 2))
    · exact word_at arg3 harg3 t3 (k0_off58 i) (k0_off58_inb i) _ ((16 * (i 0).val + 6) * 32 + 4 * (i 2).val + 3) _ ((by decide +kernel : ∀ (b : Fin 4) (t : Fin 8), k0_off58 (mkc b t) 0 = (16 * b.val + 6) * 32 + 4 * t.val + 3) (i 0) (i 2))
    · exact word_at arg3 harg3 t3 (k0_off59 i) (k0_off59_inb i) _ ((16 * (i 0).val + 7) * 32 + 4 * (i 2).val + 3) _ ((by decide +kernel : ∀ (b : Fin 4) (t : Fin 8), k0_off59 (mkc b t) 0 = (16 * b.val + 7) * 32 + 4 * t.val + 3) (i 0) (i 2))
    · exact word_at arg3 harg3 t3 (k0_off60 i) (k0_off60_inb i) _ ((16 * (i 0).val + 8) * 32 + 4 * (i 2).val + 3) _ ((by decide +kernel : ∀ (b : Fin 4) (t : Fin 8), k0_off60 (mkc b t) 0 = (16 * b.val + 8) * 32 + 4 * t.val + 3) (i 0) (i 2))
    · exact word_at arg3 harg3 t3 (k0_off61 i) (k0_off61_inb i) _ ((16 * (i 0).val + 9) * 32 + 4 * (i 2).val + 3) _ ((by decide +kernel : ∀ (b : Fin 4) (t : Fin 8), k0_off61 (mkc b t) 0 = (16 * b.val + 9) * 32 + 4 * t.val + 3) (i 0) (i 2))
    · exact word_at arg3 harg3 t3 (k0_off62 i) (k0_off62_inb i) _ ((16 * (i 0).val + 10) * 32 + 4 * (i 2).val + 3) _ ((by decide +kernel : ∀ (b : Fin 4) (t : Fin 8), k0_off62 (mkc b t) 0 = (16 * b.val + 10) * 32 + 4 * t.val + 3) (i 0) (i 2))
    · exact word_at arg3 harg3 t3 (k0_off63 i) (k0_off63_inb i) _ ((16 * (i 0).val + 11) * 32 + 4 * (i 2).val + 3) _ ((by decide +kernel : ∀ (b : Fin 4) (t : Fin 8), k0_off63 (mkc b t) 0 = (16 * b.val + 11) * 32 + 4 * t.val + 3) (i 0) (i 2))
    · exact word_at arg3 harg3 t3 (k0_off64 i) (k0_off64_inb i) _ ((16 * (i 0).val + 12) * 32 + 4 * (i 2).val + 3) _ ((by decide +kernel : ∀ (b : Fin 4) (t : Fin 8), k0_off64 (mkc b t) 0 = (16 * b.val + 12) * 32 + 4 * t.val + 3) (i 0) (i 2))
    · exact word_at arg3 harg3 t3 (k0_off65 i) (k0_off65_inb i) _ ((16 * (i 0).val + 13) * 32 + 4 * (i 2).val + 3) _ ((by decide +kernel : ∀ (b : Fin 4) (t : Fin 8), k0_off65 (mkc b t) 0 = (16 * b.val + 13) * 32 + 4 * t.val + 3) (i 0) (i 2))
    · exact word_at arg3 harg3 t3 (k0_off66 i) (k0_off66_inb i) _ ((16 * (i 0).val + 14) * 32 + 4 * (i 2).val + 3) _ ((by decide +kernel : ∀ (b : Fin 4) (t : Fin 8), k0_off66 (mkc b t) 0 = (16 * b.val + 14) * 32 + 4 * t.val + 3) (i 0) (i 2))
    · exact word_at arg3 harg3 t3 (k0_off67 i) (k0_off67_inb i) _ ((16 * (i 0).val + 15) * 32 + 4 * (i 2).val + 3) _ ((by decide +kernel : ∀ (b : Fin 4) (t : Fin 8), k0_off67 (mkc b t) 0 = (16 * b.val + 15) * 32 + 4 * t.val + 3) (i 0) (i 2))

end

end Cert.Kernel5Ideal.Hand

end
-- ==== Proof.CbTakeA4.lean ====
module

public import proofs.«01_k».proof.Proof.CbTakeA2
public import proofs.«01_k».proof.Proof.CbTakeA3
public import proofs.«01_k».proof.Proof.CbTakeA

@[expose] public section

set_option maxRecDepth 16384

noncomputable section

namespace Cert.Kernel5Ideal.Hand

open Cert.Kernel5Ideal Cert.Kernel5Ideal.Gen Idealize.ShloMosaic Idealize.ShloMosaic.TcCoe Idealize.SL.Sem

section
variable (c : Dev nD) (i : grid0.Coords) (arg3 : Memref sig .tc .smem S2048 .i32) (harg3 : arg3.IsWhole) (arg4 : Memref sig .tc .smem S128 .i32) (harg4 : arg4.IsWhole) (arg5 : Memref sig .tc .vmem S1x16x1x8192 .i32) (harg5 : arg5.IsWhole) (arg6 : Memref sig .tc .vmem S1x16x1296x512 .bf16) (harg6 : arg6.IsWhole) (arg7 : Memref sig .tc .vmem S1024x512 .f32) (harg7 : arg7.IsWhole) (arg8 : Memref sig .tc .vmem S1024x512 .f32) (harg8 : arg8.IsWhole) (arg9 : Memref sig .tc .vmem S4352x512 .bf16) (harg9 : arg9.IsWhole)
    (t3 : Vec Ideal S2048 .i32) (t4 : Vec Ideal S128 .i32) (x0 : Vec Ideal S1x16x1x8192 .i32) (x1 : Vec Ideal S1x16x1296x512 .bf16) (x2 : Vec Ideal S1024x512 .f32)
    (hW : ∀ (B : LoadRect S2048) (x : B.shape.Idx), WordOk (arg3.view.readAt (Elt Ideal) B (harg3.unread t3) x))

/-- A block's rows from the narrow windows. -/
theorem blkA_apply (u : Fin 4) (inb : ∀ a, (![1024 * u.val, 0] : Fin 2 → ℕ) a + S1024x512.size a ≤ S4352x512.size a) (n : ℕ) (hn : n ≤ 64) (hu : 16 * (u.val + 1) = n) (j : Fin 256) (d : Fin 512) :
    blockA (wA i arg3 harg3 t3 u) (rA i arg5 harg5 x0 u)
        (View.readAt (Elt Ideal) arg7.view (Rect.unit (s := S1024x512) (k0_off101 i (BitVec.ofNat 32 u.val)) S256x512.size (k0_off101_inb i u)).toLoadRect (harg7.unread x2))
        (arg9.view.readCov (HA i arg3 harg3 arg6 harg6 t3 x1 hW n hn) (Rect.unit (s := S4352x512) ![1024 * u.val, 0] S1024x512.size inb).toLoadRect) (ix2 j d)
    = x2 (ix2 (⟨256 * u.val + j.val, by omega⟩ : Fin 1024) d) + ∑ e : Fin 16, take x1 (x0 (ix4 (0 : Fin 1) e (0 : Fin 1) (⟨256 * (4 * (i 2).val + u.val) + j.val, by have h2 : (i 2).val < 8 := (i 2).isLt; have := u.isLt; have := j.isLt; omega⟩ : Fin 8192)))
      (t3 (ix1 (⟨(16 * (i 0).val + e.val) * 32 + 4 * (i 2).val + u.val, by have h1 : (i 0).val < 4 := (i 0).isLt; have h2 : (i 2).val < 8 := (i 2).isLt; have := u.isLt; have := e.isLt; omega⟩ : Fin 2048))) 64 e d := by
  refine (blockA_take _ _ _ _ x1 j d fun k => covA i arg3 harg3 arg6 harg6 arg9 t3 x1 hW u inb n hn hu k d).trans ?_
  refine congrArg₂ (fun a b : EReal => a + b) (x_at arg7 harg7 x2 _ _ j d u.val _ (off101_eq i u)) (Finset.sum_congr rfl fun e _ => ?_)
  rw [rA_eq i arg5 harg5 x0 u e j, wA_eq i arg3 harg3 t3 u e]

end

end Cert.Kernel5Ideal.Hand

end
-- ==== Proof.CbValB.lean ====
module

public import proofs.«01_k».proof.Proof.CbRead

@[expose] public section

set_option maxRecDepth 16384

noncomputable section

namespace Cert.Kernel5Ideal.Hand

open Cert.Kernel5Ideal Cert.Kernel5Ideal.Gen Idealize.ShloMosaic Idealize.ShloMosaic.TcCoe Idealize.SL.Sem

section
variable (c : Dev nD) (i : grid0.Coords) (arg3 : Memref sig .tc .smem S2048 .i32) (harg3 : arg3.IsWhole) (arg4 : Memref sig .tc .smem S128 .i32) (harg4 : arg4.IsWhole) (arg5 : Memref sig .tc .vmem S1x16x1x8192 .i32) (harg5 : arg5.IsWhole) (arg6 : Memref sig .tc .vmem S1x16x1296x512 .bf16) (harg6 : arg6.IsWhole) (arg7 : Memref sig .tc .vmem S1024x512 .f32) (harg7 : arg7.IsWhole) (arg8 : Memref sig .tc .vmem S1024x512 .f32) (harg8 : arg8.IsWhole) (arg9 : Memref sig .tc .vmem S4352x512 .bf16) (harg9 : arg9.IsWhole)
    (t3 : Vec Ideal S2048 .i32) (x0 : Vec Ideal S1x16x1x8192 .i32) (x1 : Vec Ideal S1x16x1296x512 .bf16) (x2 : Vec Ideal S1024x512 .f32)
    (hW : ∀ (B : LoadRect S2048) (x : B.shape.Idx), WordOk (arg3.view.readAt (Elt Ideal) B (harg3.unread t3) x))
    (arg0 : BitVec 32) (v0 : BitVec 32) (v2 : BitVec 32) (v122 : Elt Ideal .i32) (v239 : Elt Ideal .i32) (v356 : Elt Ideal .i32) (v473 : Elt Ideal .i32) (k0_h2 : k0_cond2 v122 v239 v356 v473 = 1#1)
    (k : Fin k0_t1_loop.trips)

/-- The trip's window starts. -/
def wB : Fin 16 → BitVec 32 := ![trip.sl.r (F := Ideal) i arg3 harg3 t3 k, trip.sl.r_1 (F := Ideal) i arg3 harg3 t3 k, trip.sl.r_2 (F := Ideal) i arg3 harg3 t3 k, trip.sl.r_3 (F := Ideal) i arg3 harg3 t3 k, trip.sl.r_4 (F := Ideal) i arg3 harg3 t3 k, trip.sl.r_5 (F := Ideal) i arg3 harg3 t3 k, trip.sl.r_6 (F := Ideal) i arg3 harg3 t3 k, trip.sl.r_7 (F := Ideal) i arg3 harg3 t3 k, trip.sl.r_8 (F := Ideal) i arg3 harg3 t3 k, trip.sl.r_9 (F := Ideal) i arg3 harg3 t3 k, trip.sl.r_10 (F := Ideal) i arg3 harg3 t3 k, trip.sl.r_11 (F := Ideal) i arg3 harg3 t3 k, trip.sl.r_12 (F := Ideal) i arg3 harg3 t3 k, trip.sl.r_13 (F := Ideal) i arg3 harg3 t3 k, trip.sl.r_14 (F := Ideal) i arg3 harg3 t3 k, trip.sl.r_15 (F := Ideal) i arg3 harg3 t3 k]

/-- The trip's slot rows. -/
def rB : Fin 16 → Vec Ideal S1x1x1x256 .i32 := ![View.readAt (Elt Ideal) arg5.view (Rect.unit (s := S1x16x1x8192) (k0_off182 i k) S1x1x1x256.size (k0_off182_inb i k)).toLoadRect (harg5.unread x0), View.readAt (Elt Ideal) arg5.view (Rect.unit (s := S1x16x1x8192) (k0_off183 i k) S1x1x1x256.size (k0_off183_inb i k)).toLoadRect (harg5.unread x0), View.readAt (Elt Ideal) arg5.view (Rect.unit (s := S1x16x1x8192) (k0_off184 i k) S1x1x1x256.size (k0_off184_inb i k)).toLoadRect (harg5.unread x0), View.readAt (Elt Ideal) arg5.view (Rect.unit (s := S1x16x1x8192) (k0_off185 i k) S1x1x1x256.size (k0_off185_inb i k)).toLoadRect (harg5.unread x0), View.readAt (Elt Ideal) arg5.view (Rect.unit (s := S1x16x1x8192) (k0_off186 i k) S1x1x1x256.size (k0_off186_inb i k)).toLoadRect (harg5.unread x0), View.readAt (Elt Ideal) arg5.view (Rect.unit (s := S1x16x1x8192) (k0_off187 i k) S1x1x1x256.size (k0_off187_inb i k)).toLoadRect (harg5.unread x0), View.readAt (Elt Ideal) arg5.view (Rect.unit (s := S1x16x1x8192) (k0_off188 i k) S1x1x1x256.size (k0_off188_inb i k)).toLoadRect (harg5.unread x0), View.readAt (Elt Ideal) arg5.view (Rect.unit (s := S1x16x1x8192) (k0_off189 i k) S1x1x1x256.size (k0_off189_inb i k)).toLoadRect (harg5.unread x0), View.readAt (Elt Ideal) arg5.view (Rect.unit (s := S1x16x1x8192) (k0_off190 i k) S1x1x1x256.size (k0_off190_inb i k)).toLoadRect (harg5.unread x0), View.readAt (Elt Ideal) arg5.view (Rect.unit (s := S1x16x1x8192) (k0_off191 i k) S1x1x1x256.size (k0_off191_inb i k)).toLoadRect (harg5.unread x0), View.readAt (Elt Ideal) arg5.view (Rect.unit (s := S1x16x1x8192) (k0_off192 i k) S1x1x1x256.size (k0_off192_inb i k)).toLoadRect (harg5.unread x0), View.readAt (Elt Ideal) arg5.view (Rect.unit (s := S1x16x1x8192) (k0_off193 i k) S1x1x1x256.size (k0_off193_inb i k)).toLoadRect (harg5.unread x0), View.readAt (Elt Ideal) arg5.view (Rect.unit (s := S1x16x1x8192) (k0_off194 i k) S1x1x1x256.size (k0_off194_inb i k)).toLoadRect (harg5.unread x0), View.readAt (Elt Ideal) arg5.view (Rect.unit (s := S1x16x1x8192) (k0_off195 i k) S1x1x1x256.size (k0_off195_inb i k)).toLoadRect (harg5.unread x0), View.readAt (Elt Ideal) arg5.view (Rect.unit (s := S1x16x1x8192) (k0_off196 i k) S1x1x1x256.size (k0_off196_inb i k)).toLoadRect (harg5.unread x0), View.readAt (Elt Ideal) arg5.view (Rect.unit (s := S1x16x1x8192) (k0_off197 i k) S1x1x1x256.size (k0_off197_inb i k)).toLoadRect (harg5.unread x0)]

set_option maxHeartbeats 4000000 in
include hW in
theorem wB_ok (e : Fin 16) : WordOk (wB i arg3 harg3 t3 k e) := by
  refine fin16 (P := fun e => WordOk (wB i arg3 harg3 t3 k e)) ?_ ?_ ?_ ?_ ?_ ?_ ?_ ?_ ?_ ?_ ?_ ?_ ?_ ?_ ?_ ?_ e
  · exact hW (Rect.unit (s := S2048) (k0_off150 i k) S1.size (k0_off150_inb i k)).toLoadRect (Shape.Idx.first (show 0 < S1.numel by decide))
  · exact hW (Rect.unit (s := S2048) (k0_off151 i k) S1.size (k0_off151_inb i k)).toLoadRect (Shape.Idx.first (show 0 < S1.numel by decide))
  · exact hW (Rect.unit (s := S2048) (k0_off152 i k) S1.size (k0_off152_inb i k)).toLoadRect (Shape.Idx.first (show 0 < S1.numel by decide))
  · exact hW (Rect.unit (s := S2048) (k0_off153 i k) S1.size (k0_off153_inb i k)).toLoadRect (Shape.Idx.first (show 0 < S1.numel by decide))
  · exact hW (Rect.unit (s := S2048) (k0_off154 i k) S1.size (k0_off154_inb i k)).toLoadRect (Shape.Idx.first (show 0 < S1.numel by decide))
  · exact hW (Rect.unit (s := S2048) (k0_off155 i k) S1.size (k0_off155_inb i k)).toLoadRect (Shape.Idx.first (show 0 < S1.numel by decide))
  · exact hW (Rect.unit (s := S2048) (k0_off156 i k) S1.size (k0_off156_inb i k)).toLoadRect (Shape.Idx.first (show 0 < S1.numel by decide))
  · exact hW (Rect.unit (s := S2048) (k0_off157 i k) S1.size (k0_off157_inb i k)).toLoadRect (Shape.Idx.first (show 0 < S1.numel by decide))
  · exact hW (Rect.unit (s := S2048) (k0_off158 i k) S1.size (k0_off158_inb i k)).toLoadRect (Shape.Idx.first (show 0 < S1.numel by decide))
  · exact hW (Rect.unit (s := S2048) (k0_off159 i k) S1.size (k0_off159_inb i k)).toLoadRect (Shape.Idx.first (show 0 < S1.numel by decide))
  · exact hW (Rect.unit (s := S2048) (k0_off160 i k) S1.size (k0_off160_inb i k)).toLoadRect (Shape.Idx.first (show 0 < S1.numel by decide))
  · exact hW (Rect.unit (s := S2048) (k0_off161 i k) S1.size (k0_off161_inb i k)).toLoadRect (Shape.Idx.first (show 0 < S1.numel by decide))
  · exact hW (Rect.unit (s := S2048) (k0_off162 i k) S1.size (k0_off162_inb i k)).toLoadRect (Shape.Idx.first (show 0 < S1.numel by decide))
  · exact hW (Rect.unit (s := S2048) (k0_off163 i k) S1.size (k0_off163_inb i k)).toLoadRect (Shape.Idx.first (show 0 < S1.numel by decide))
  · exact hW (Rect.unit (s := S2048) (k0_off164 i k) S1.size (k0_off164_inb i k)).toLoadRect (Shape.Idx.first (show 0 < S1.numel by decide))
  · exact hW (Rect.unit (s := S2048) (k0_off165 i k) S1.size (k0_off165_inb i k)).toLoadRect (Shape.Idx.first (show 0 < S1.numel by decide))

def pieceBv (e : Fin 16) : View.Piece (Elt Ideal) S4352x512 .bf16 :=
  ⟨Rect.unit (s := S4352x512) ![272 * e.val, 0] S272x512.size (fun a => by
    have he := e.isLt
    match a with
    | ⟨0, _⟩ => show 272 * e.val + 272 ≤ 4352; omega
    | ⟨1, _⟩ => show 0 + 512 ≤ 512; omega),
   castB (View.readAt (Elt Ideal) arg6.view (Rect.unit (s := S1x16x1296x512) ![0, e.val, (wB i arg3 harg3 t3 k e).toNat, 0] S1x1x272x512.size (pieceB_inb _ (wB_ok i arg3 harg3 t3 hW k e) e)).toLoadRect (harg6.unread x1))⟩

set_option maxHeartbeats 4000000 in
theorem HB_eq : trip.sl.H6_16 (F := Ideal) i arg3 harg3 arg6 harg6 t3 x1 hW v122 v239 v356 v473 k0_h2 k = List.ofFn fun e : Fin 16 => pieceBv i arg3 harg3 arg6 harg6 t3 x1 hW k e.rev := rfl

set_option maxHeartbeats 4000000 in
theorem trip_eq : (trip c i arg3 harg3 arg4 harg4 arg5 harg5 arg6 harg6 arg7 harg7 arg8 harg8 arg9 harg9 t3 x0 x1 x2 hW arg0 v0 v2 v122 v239 v356 v473 k0_h2 k).1
    = blockB (wB i arg3 harg3 t3 k) (rB i arg5 harg5 x0 k)
        (View.readAt (Elt Ideal) arg7.view (Rect.unit (s := S1024x512) (k0_off198 i k) S256x512.size (k0_off198_inb i k)).toLoadRect (harg7.unread x2))
        (arg9.view.readCov (trip.sl.H6_16 (F := Ideal) i arg3 harg3 arg6 harg6 t3 x1 hW v122 v239 v356 v473 k0_h2 k) (Rect.unit (s := S4352x512) ![0, 0] S4352x512.size inb_S4352x512_S4352x512_0_0).toLoadRect) := rfl

end

end Cert.Kernel5Ideal.Hand

end
-- ==== Proof.CbTakeB.lean ====
module

public import proofs.«01_k».proof.Proof.CbValB

@[expose] public section

set_option maxRecDepth 16384

noncomputable section

namespace Cert.Kernel5Ideal.Hand

open Cert.Kernel5Ideal Cert.Kernel5Ideal.Gen Idealize.ShloMosaic Idealize.ShloMosaic.TcCoe Idealize.SL.Sem

section
variable (c : Dev nD) (i : grid0.Coords) (arg3 : Memref sig .tc .smem S2048 .i32) (harg3 : arg3.IsWhole) (arg4 : Memref sig .tc .smem S128 .i32) (harg4 : arg4.IsWhole) (arg5 : Memref sig .tc .vmem S1x16x1x8192 .i32) (harg5 : arg5.IsWhole) (arg6 : Memref sig .tc .vmem S1x16x1296x512 .bf16) (harg6 : arg6.IsWhole) (arg7 : Memref sig .tc .vmem S1024x512 .f32) (harg7 : arg7.IsWhole) (arg8 : Memref sig .tc .vmem S1024x512 .f32) (harg8 : arg8.IsWhole) (arg9 : Memref sig .tc .vmem S4352x512 .bf16) (harg9 : arg9.IsWhole)
    (t3 : Vec Ideal S2048 .i32) (x0 : Vec Ideal S1x16x1x8192 .i32) (x1 : Vec Ideal S1x16x1296x512 .bf16) (x2 : Vec Ideal S1024x512 .f32)
    (hW : ∀ (B : LoadRect S2048) (x : B.shape.Idx), WordOk (arg3.view.readAt (Elt Ideal) B (harg3.unread t3) x))
    (arg0 : BitVec 32) (v0 : BitVec 32) (v2 : BitVec 32) (v122 : Elt Ideal .i32) (v239 : Elt Ideal .i32) (v356 : Elt Ideal .i32) (v473 : Elt Ideal .i32) (k0_h2 : k0_cond2 v122 v239 v356 v473 = 1#1)
    (k : Fin k0_t1_loop.trips)

theorem kB_lt : k.val < 4 := trips_eq ▸ k.isLt

theorem i0_lt (i : grid0.Coords) : (i 0).val < 4 := (i 0).isLt

theorem i2_lt (i : grid0.Coords) : (i 2).val < 8 := (i 2).isLt

set_option maxHeartbeats 4000000 in
theorem wB_eq (e : Fin 16) : wB i arg3 harg3 t3 k e = t3 (ix1 (⟨(16 * (i 0).val + e.val) * 32 + 4 * (i 2).val + k.val, by have := i0_lt i; have := i2_lt i; have := kB_lt k; have := e.isLt; omega⟩ : Fin 2048)) := by
  refine fin16 (P := fun e : Fin 16 => wB i arg3 harg3 t3 k e = t3 (ix1 (⟨(16 * (i 0).val + e.val) * 32 + 4 * (i 2).val + k.val, by have := i0_lt i; have := i2_lt i; have := kB_lt k; have := e.isLt; omega⟩ : Fin 2048))) ?_ ?_ ?_ ?_ ?_ ?_ ?_ ?_ ?_ ?_ ?_ ?_ ?_ ?_ ?_ ?_ e
  · exact word_at arg3 harg3 t3 (k0_off150 i k) (k0_off150_inb i k) _ ((16 * (i 0).val + 0) * 32 + 4 * (i 2).val + k.val) _ ((by decide +kernel : ∀ (b : Fin 4) (t : Fin 8) (k : Fin k0_t1_loop.trips), k0_off150 (mkc b t) k 0 = (16 * b.val + 0) * 32 + 4 * t.val + k.val) (i 0) (i 2) k)
  · exact word_at arg3 harg3 t3 (k0_off151 i k) (k0_off151_inb i k) _ ((16 * (i 0).val + 1) * 32 + 4 * (i 2).val + k.val) _ ((by decide +kernel : ∀ (b : Fin 4) (t : Fin 8) (k : Fin k0_t1_loop.trips), k0_off151 (mkc b t) k 0 = (16 * b.val + 1) * 32 + 4 * t.val + k.val) (i 0) (i 2) k)
  · exact word_at arg3 harg3 t3 (k0_off152 i k) (k0_off152_inb i k) _ ((16 * (i 0).val + 2) * 32 + 4 * (i 2).val + k.val) _ ((by decide +kernel : ∀ (b : Fin 4) (t : Fin 8) (k : Fin k0_t1_loop.trips), k0_off152 (mkc b t) k 0 = (16 * b.val + 2) * 32 + 4 * t.val + k.val) (i 0) (i 2) k)
  · exact word_at arg3 harg3 t3 (k0_off153 i k) (k0_off153_inb i k) _ ((16 * (i 0).val + 3) * 32 + 4 * (i 2).val + k.val) _ ((by decide +kernel : ∀ (b : Fin 4) (t : Fin 8) (k : Fin k0_t1_loop.trips), k0_off153 (mkc b t) k 0 = (16 * b.val + 3) * 32 + 4 * t.val + k.val) (i 0) (i 2) k)
  · exact word_at arg3 harg3 t3 (k0_off154 i k) (k0_off154_inb i k) _ ((16 * (i 0).val + 4) * 32 + 4 * (i 2).val + k.val) _ ((by decide +kernel : ∀ (b : Fin 4) (t : Fin 8) (k : Fin k0_t1_loop.trips), k0_off154 (mkc b t) k 0 = (16 * b.val + 4) * 32 + 4 * t.val + k.val) (i 0) (i 2) k)
  · exact word_at arg3 harg3 t3 (k0_off155 i k) (k0_off155_inb i k) _ ((16 * (i 0).val + 5) * 32 + 4 * (i 2).val + k.val) _ ((by decide +kernel : ∀ (b : Fin 4) (t : Fin 8) (k : Fin k0_t1_loop.trips), k0_off155 (mkc b t) k 0 = (16 * b.val + 5) * 32 + 4 * t.val + k.val) (i 0) (i 2) k)
  · exact word_at arg3 harg3 t3 (k0_off156 i k) (k0_off156_inb i k) _ ((16 * (i 0).val + 6) * 32 + 4 * (i 2).val + k.val) _ ((by decide +kernel : ∀ (b : Fin 4) (t : Fin 8) (k : Fin k0_t1_loop.trips), k0_off156 (mkc b t) k 0 = (16 * b.val + 6) * 32 + 4 * t.val + k.val) (i 0) (i 2) k)
  · exact word_at arg3 harg3 t3 (k0_off157 i k) (k0_off157_inb i k) _ ((16 * (i 0).val + 7) * 32 + 4 * (i 2).val + k.val) _ ((by decide +kernel : ∀ (b : Fin 4) (t : Fin 8) (k : Fin k0_t1_loop.trips), k0_off157 (mkc b t) k 0 = (16 * b.val + 7) * 32 + 4 * t.val + k.val) (i 0) (i 2) k)
  · exact word_at arg3 harg3 t3 (k0_off158 i k) (k0_off158_inb i k) _ ((16 * (i 0).val + 8) * 32 + 4 * (i 2).val + k.val) _ ((by decide +kernel : ∀ (b : Fin 4) (t : Fin 8) (k : Fin k0_t1_loop.trips), k0_off158 (mkc b t) k 0 = (16 * b.val + 8) * 32 + 4 * t.val + k.val) (i 0) (i 2) k)
  · exact word_at arg3 harg3 t3 (k0_off159 i k) (k0_off159_inb i k) _ ((16 * (i 0).val + 9) * 32 + 4 * (i 2).val + k.val) _ ((by decide +kernel : ∀ (b : Fin 4) (t : Fin 8) (k : Fin k0_t1_loop.trips), k0_off159 (mkc b t) k 0 = (16 * b.val + 9) * 32 + 4 * t.val + k.val) (i 0) (i 2) k)
  · exact word_at arg3 harg3 t3 (k0_off160 i k) (k0_off160_inb i k) _ ((16 * (i 0).val + 10) * 32 + 4 * (i 2).val + k.val) _ ((by decide +kernel : ∀ (b : Fin 4) (t : Fin 8) (k : Fin k0_t1_loop.trips), k0_off160 (mkc b t) k 0 = (16 * b.val + 10) * 32 + 4 * t.val + k.val) (i 0) (i 2) k)
  · exact word_at arg3 harg3 t3 (k0_off161 i k) (k0_off161_inb i k) _ ((16 * (i 0).val + 11) * 32 + 4 * (i 2).val + k.val) _ ((by decide +kernel : ∀ (b : Fin 4) (t : Fin 8) (k : Fin k0_t1_loop.trips), k0_off161 (mkc b t) k 0 = (16 * b.val + 11) * 32 + 4 * t.val + k.val) (i 0) (i 2) k)
  · exact word_at arg3 harg3 t3 (k0_off162 i k) (k0_off162_inb i k) _ ((16 * (i 0).val + 12) * 32 + 4 * (i 2).val + k.val) _ ((by decide +kernel : ∀ (b : Fin 4) (t : Fin 8) (k : Fin k0_t1_loop.trips), k0_off162 (mkc b t) k 0 = (16 * b.val + 12) * 32 + 4 * t.val + k.val) (i 0) (i 2) k)
  · exact word_at arg3 harg3 t3 (k0_off163 i k) (k0_off163_inb i k) _ ((16 * (i 0).val + 13) * 32 + 4 * (i 2).val + k.val) _ ((by decide +kernel : ∀ (b : Fin 4) (t : Fin 8) (k : Fin k0_t1_loop.trips), k0_off163 (mkc b t) k 0 = (16 * b.val + 13) * 32 + 4 * t.val + k.val) (i 0) (i 2) k)
  · exact word_at arg3 harg3 t3 (k0_off164 i k) (k0_off164_inb i k) _ ((16 * (i 0).val + 14) * 32 + 4 * (i 2).val + k.val) _ ((by decide +kernel : ∀ (b : Fin 4) (t : Fin 8) (k : Fin k0_t1_loop.trips), k0_off164 (mkc b t) k 0 = (16 * b.val + 14) * 32 + 4 * t.val + k.val) (i 0) (i 2) k)
  · exact word_at arg3 harg3 t3 (k0_off165 i k) (k0_off165_inb i k) _ ((16 * (i 0).val + 15) * 32 + 4 * (i 2).val + k.val) _ ((by decide +kernel : ∀ (b : Fin 4) (t : Fin 8) (k : Fin k0_t1_loop.trips), k0_off165 (mkc b t) k 0 = (16 * b.val + 15) * 32 + 4 * t.val + k.val) (i 0) (i 2) k)

set_option maxHeartbeats 4000000 in
theorem rB_eq (e : Fin 16) (j : Fin 256) : rB i arg5 harg5 x0 k e (ix4 (0 : Fin 1) (0 : Fin 1) (0 : Fin 1) j) = x0 (ix4 (0 : Fin 1) e (0 : Fin 1) (⟨256 * (4 * (i 2).val + k.val) + j.val, by have := i2_lt i; have := kB_lt k; have := j.isLt; omega⟩ : Fin 8192)) := by
  refine fin16 (P := fun e : Fin 16 => rB i arg5 harg5 x0 k e (ix4 (0 : Fin 1) (0 : Fin 1) (0 : Fin 1) j) = x0 (ix4 (0 : Fin 1) e (0 : Fin 1) (⟨256 * (4 * (i 2).val + k.val) + j.val, by have := i2_lt i; have := kB_lt k; have := j.isLt; omega⟩ : Fin 8192))) ?_ ?_ ?_ ?_ ?_ ?_ ?_ ?_ ?_ ?_ ?_ ?_ ?_ ?_ ?_ ?_ e
  · exact row_at arg5 harg5 x0 (k0_off182 i k) (k0_off182_inb i k) j 0 (4 * (i 2).val + k.val) _ ((by decide +kernel : ∀ (b : Fin 4) (t : Fin 8) (k : Fin k0_t1_loop.trips), k0_off182 (mkc b t) k = ![0, 0, 0, 256 * (4 * t.val + k.val)]) (i 0) (i 2) k)
  · exact row_at arg5 harg5 x0 (k0_off183 i k) (k0_off183_inb i k) j 1 (4 * (i 2).val + k.val) _ ((by decide +kernel : ∀ (b : Fin 4) (t : Fin 8) (k : Fin k0_t1_loop.trips), k0_off183 (mkc b t) k = ![0, 1, 0, 256 * (4 * t.val + k.val)]) (i 0) (i 2) k)
  · exact row_at arg5 harg5 x0 (k0_off184 i k) (k0_off184_inb i k) j 2 (4 * (i 2).val + k.val) _ ((by decide +kernel : ∀ (b : Fin 4) (t : Fin 8) (k : Fin k0_t1_loop.trips), k0_off184 (mkc b t) k = ![0, 2, 0, 256 * (4 * t.val + k.val)]) (i 0) (i 2) k)
  · exact row_at arg5 harg5 x0 (k0_off185 i k) (k0_off185_inb i k) j 3 (4 * (i 2).val + k.val) _ ((by decide +kernel : ∀ (b : Fin 4) (t : Fin 8) (k : Fin k0_t1_loop.trips), k0_off185 (mkc b t) k = ![0, 3, 0, 256 * (4 * t.val + k.val)]) (i 0) (i 2) k)
  · exact row_at arg5 harg5 x0 (k0_off186 i k) (k0_off186_inb i k) j 4 (4 * (i 2).val + k.val) _ ((by decide +kernel : ∀ (b : Fin 4) (t : Fin 8) (k : Fin k0_t1_loop.trips), k0_off186 (mkc b t) k = ![0, 4, 0, 256 * (4 * t.val + k.val)]) (i 0) (i 2) k)
  · exact row_at arg5 harg5 x0 (k0_off187 i k) (k0_off187_inb i k) j 5 (4 * (i 2).val + k.val) _ ((by decide +kernel : ∀ (b : Fin 4) (t : Fin 8) (k : Fin k0_t1_loop.trips), k0_off187 (mkc b t) k = ![0, 5, 0, 256 * (4 * t.val + k.val)]) (i 0) (i 2) k)
  · exact row_at arg5 harg5 x0 (k0_off188 i k) (k0_off188_inb i k) j 6 (4 * (i 2).val + k.val) _ ((by decide +kernel : ∀ (b : Fin 4) (t : Fin 8) (k : Fin k0_t1_loop.trips), k0_off188 (mkc b t) k = ![0, 6, 0, 256 * (4 * t.val + k.val)]) (i 0) (i 2) k)
  · exact row_at arg5 harg5 x0 (k0_off189 i k) (k0_off189_inb i k) j 7 (4 * (i 2).val + k.val) _ ((by decide +kernel : ∀ (b : Fin 4) (t : Fin 8) (k : Fin k0_t1_loop.trips), k0_off189 (mkc b t) k = ![0, 7, 0, 256 * (4 * t.val + k.val)]) (i 0) (i 2) k)
  · exact row_at arg5 harg5 x0 (k0_off190 i k) (k0_off190_inb i k) j 8 (4 * (i 2).val + k.val) _ ((by decide +kernel : ∀ (b : Fin 4) (t : Fin 8) (k : Fin k0_t1_loop.trips), k0_off190 (mkc b t) k = ![0, 8, 0, 256 * (4 * t.val + k.val)]) (i 0) (i 2) k)
  · exact row_at arg5 harg5 x0 (k0_off191 i k) (k0_off191_inb i k) j 9 (4 * (i 2).val + k.val) _ ((by decide +kernel : ∀ (b : Fin 4) (t : Fin 8) (k : Fin k0_t1_loop.trips), k0_off191 (mkc b t) k = ![0, 9, 0, 256 * (4 * t.val + k.val)]) (i 0) (i 2) k)
  · exact row_at arg5 harg5 x0 (k0_off192 i k) (k0_off192_inb i k) j 10 (4 * (i 2).val + k.val) _ ((by decide +kernel : ∀ (b : Fin 4) (t : Fin 8) (k : Fin k0_t1_loop.trips), k0_off192 (mkc b t) k = ![0, 10, 0, 256 * (4 * t.val + k.val)]) (i 0) (i 2) k)
  · exact row_at arg5 harg5 x0 (k0_off193 i k) (k0_off193_inb i k) j 11 (4 * (i 2).val + k.val) _ ((by decide +kernel : ∀ (b : Fin 4) (t : Fin 8) (k : Fin k0_t1_loop.trips), k0_off193 (mkc b t) k = ![0, 11, 0, 256 * (4 * t.val + k.val)]) (i 0) (i 2) k)
  · exact row_at arg5 harg5 x0 (k0_off194 i k) (k0_off194_inb i k) j 12 (4 * (i 2).val + k.val) _ ((by decide +kernel : ∀ (b : Fin 4) (t : Fin 8) (k : Fin k0_t1_loop.trips), k0_off194 (mkc b t) k = ![0, 12, 0, 256 * (4 * t.val + k.val)]) (i 0) (i 2) k)
  · exact row_at arg5 harg5 x0 (k0_off195 i k) (k0_off195_inb i k) j 13 (4 * (i 2).val + k.val) _ ((by decide +kernel : ∀ (b : Fin 4) (t : Fin 8) (k : Fin k0_t1_loop.trips), k0_off195 (mkc b t) k = ![0, 13, 0, 256 * (4 * t.val + k.val)]) (i 0) (i 2) k)
  · exact row_at arg5 harg5 x0 (k0_off196 i k) (k0_off196_inb i k) j 14 (4 * (i 2).val + k.val) _ ((by decide +kernel : ∀ (b : Fin 4) (t : Fin 8) (k : Fin k0_t1_loop.trips), k0_off196 (mkc b t) k = ![0, 14, 0, 256 * (4 * t.val + k.val)]) (i 0) (i 2) k)
  · exact row_at arg5 harg5 x0 (k0_off197 i k) (k0_off197_inb i k) j 15 (4 * (i 2).val + k.val) _ ((by decide +kernel : ∀ (b : Fin 4) (t : Fin 8) (k : Fin k0_t1_loop.trips), k0_off197 (mkc b t) k = ![0, 15, 0, 256 * (4 * t.val + k.val)]) (i 0) (i 2) k)

theorem covB (j : Fin 4352) (d : Fin 512) : (arg9.view.readCov (trip.sl.H6_16 (F := Ideal) i arg3 harg3 arg6 harg6 t3 x1 hW v122 v239 v356 v473 k0_h2 k) (Rect.unit (s := S4352x512) ![0, 0] S4352x512.size inb_S4352x512_S4352x512_0_0).toLoadRect) (ix2 j d)
    = yrow x1 (wB i arg3 harg3 t3 k ⟨j.val / 272, by omega⟩) ⟨j.val / 272, by omega⟩ (j.val % 272) d := by
  rw [HB_eq i arg3 harg3 arg6 harg6 t3 x1 hW v122 v239 v356 v473 k0_h2 k]
  refine (View.read_writes_apply_of_pieces arg9.view _ (fun y : S4352x512.Idx => yrow x1 (wB i arg3 harg3 t3 k ⟨(y 0).val / 272, Nat.div_lt_of_lt_mul (y 0).isLt⟩) ⟨(y 0).val / 272, Nat.div_lt_of_lt_mul (y 0).isLt⟩ ((y 0).val % 272) (y 1)) _ ?_ ((Rect.unit (s := S4352x512) ![0, 0] S4352x512.size inb_S4352x512_S4352x512_0_0).toLoadRect.idx (ix2 j d)) ?_).trans ?_
  · intro p hp x
    obtain ⟨e', rfl⟩ := (List.mem_ofFn' _ _).1 hp
    beta_reduce; generalize e'.rev = e
    have hx : x = ix2 (x 0 : Fin 272) (x 1 : Fin 512) := funext fun a => match a with
      | ⟨0, _⟩ => rfl
      | ⟨1, _⟩ => rfl
    have h0 : (x 0).val < 272 := (x 0).isLt
    have h4 : (x 1).val < 512 := (x 1).isLt
    have h1 : (272 * e.val + 1 * (x 0).val) / 272 = e.val := by omega
    have h2 : (272 * e.val + 1 * (x 0).val) % 272 = (x 0).val := by omega
    have h3 : 0 + 1 * (x 1).val = (x 1).val := by omega
    refine (congrArg _ hx).trans ((pieceB_at arg6 harg6 x1 _ (wB_ok i arg3 harg3 t3 hW k e) e (x 0) (x 1)).trans ?_)
    show yrow x1 (wB i arg3 harg3 t3 k e) e (x 0).val (x 1) = yrow x1 (wB i arg3 harg3 t3 k ⟨(272 * e.val + 1 * (x 0).val) / 272, _⟩) ⟨(272 * e.val + 1 * (x 0).val) / 272, _⟩ ((272 * e.val + 1 * (x 0).val) % 272) ⟨0 + 1 * (x 1).val, _⟩
    have e1 : (⟨(272 * e.val + 1 * (x 0).val) / 272, by omega⟩ : Fin 16) = e := Fin.ext h1
    have e2 : (⟨0 + 1 * (x 1).val, by omega⟩ : Fin 512) = x 1 := Fin.ext h3
    rw [h2, e1, e2]
  · have hj := j.isLt
    have hd := d.isLt
    refine ⟨_, (List.mem_ofFn' _ _).2 ⟨(⟨j.val / 272, by omega⟩ : Fin 16).rev, rfl⟩, ?_⟩
    beta_reduce; rw [Fin.rev_rev]
    unfold pieceBv; dsimp only; rw [Rect.mem_set_unit]; intro a
    match a with
    | ⟨0, _⟩ => show 272 * (j.val / 272) ≤ 0 + 1 * j.val ∧ 0 + 1 * j.val < 272 * (j.val / 272) + 272; omega
    | ⟨1, _⟩ => show 0 ≤ 0 + 1 * d.val ∧ 0 + 1 * d.val < 0 + 512; omega
  · have e0 : 0 + 1 * j.val = j.val := by omega
    have e1 : (⟨0 + 1 * d.val, by omega⟩ : Fin 512) = d := Fin.ext (by show 0 + 1 * d.val = d.val; omega)
    show yrow x1 (wB i arg3 harg3 t3 k ⟨(0 + 1 * j.val) / 272, _⟩) ⟨(0 + 1 * j.val) / 272, _⟩ ((0 + 1 * j.val) % 272) ⟨0 + 1 * d.val, _⟩ = _
    rw [e1]; simp only [e0]

theorem trip_apply (j : Fin 256) (d : Fin 512) : (trip c i arg3 harg3 arg4 harg4 arg5 harg5 arg6 harg6 arg7 harg7 arg8 harg8 arg9 harg9 t3 x0 x1 x2 hW arg0 v0 v2 v122 v239 v356 v473 k0_h2 k).1 (ix2 j d)
    = x2 (ix2 (⟨256 * k.val + j.val, by have := kB_lt k; omega⟩ : Fin 1024) d) + ∑ e : Fin 16, take x1 (x0 (ix4 (0 : Fin 1) e (0 : Fin 1) (⟨256 * (4 * (i 2).val + k.val) + j.val, by have := i2_lt i; have := kB_lt k; have := j.isLt; omega⟩ : Fin 8192)))
      (t3 (ix1 (⟨(16 * (i 0).val + e.val) * 32 + 4 * (i 2).val + k.val, by have := i0_lt i; have := i2_lt i; have := kB_lt k; have := e.isLt; omega⟩ : Fin 2048))) 272 e d := by
  rw [trip_eq]
  refine (blockB_take _ _ _ _ x1 j d fun n => covB i arg3 harg3 arg6 harg6 arg9 t3 x1 hW v122 v239 v356 v473 k0_h2 k n d).trans ?_
  refine congrArg₂ (fun a b : EReal => a + b) (x_at arg7 harg7 x2 _ _ j d k.val _ (off198_eq i k)) (Finset.sum_congr rfl fun e _ => ?_)
  rw [rB_eq i arg5 harg5 x0 k e j, wB_eq i arg3 harg3 t3 k e]

end

end Cert.Kernel5Ideal.Hand

end
-- ==== Proof.CbOutB.lean ====
module

public import proofs.«01_k».proof.Proof.CbTakeB
public import proofs.«01_k».proof.Proof.CbBody

@[expose] public section

set_option maxRecDepth 16384

noncomputable section

namespace Cert.Kernel5Ideal.Hand

open Cert.Kernel5Ideal Cert.Kernel5Ideal.Gen Idealize.ShloMosaic Idealize.ShloMosaic.TcCoe Idealize.SL.Sem

/-- A row of a block of the output, each expert's row read through a window of `W` rows. -/
def outRow (i : grid0.Coords) (t3 : Vec Ideal S2048 .i32) (x0 : Vec Ideal S1x16x1x8192 .i32) (x1 : Vec Ideal S1x16x1296x512 .bf16) (x2 : Vec Ideal S1024x512 .f32) (W : ℕ) (k : Fin 4) (j : Fin 256) (d : Fin 512) : EReal :=
  x2 (ix2 (⟨256 * k.val + j.val, by omega⟩ : Fin 1024) d) + ∑ e : Fin 16, take x1 (x0 (ix4 (0 : Fin 1) e (0 : Fin 1) (⟨256 * (4 * (i 2).val + k.val) + j.val, by have := i2_lt i; omega⟩ : Fin 8192)))
      (t3 (ix1 (⟨(16 * (i 0).val + e.val) * 32 + 4 * (i 2).val + k.val, by have := i0_lt i; have := i2_lt i; omega⟩ : Fin 2048))) W e d

/-- A block of the output. -/
def outF (i : grid0.Coords) (t3 : Vec Ideal S2048 .i32) (x0 : Vec Ideal S1x16x1x8192 .i32) (x1 : Vec Ideal S1x16x1296x512 .bf16) (x2 : Vec Ideal S1024x512 .f32) (W : ℕ) (y : S1024x512.Idx) : EReal :=
  outRow i t3 x0 x1 x2 W ⟨(y 0).val / 256, Nat.div_lt_of_lt_mul (y 0).isLt⟩ ⟨(y 0).val % 256, Nat.mod_lt _ (by decide)⟩ (y 1)

theorem outF_emb (i : grid0.Coords) (t3 x0 x1 x2) (W : ℕ) (k : Fin 4) (off : Fin 2 → ℕ) (inb : ∀ a, off a + S256x512.size a ≤ S1024x512.size a) (h : off = ![256 * k.val, 0]) (j : Fin 256) (d : Fin 512) :
    outF i t3 x0 x1 x2 W ((Rect.unit (s := S1024x512) off S256x512.size inb).emb (ix2 j d)) = outRow i t3 x0 x1 x2 W k j d := by
  subst h
  have e1 : (⟨(256 * k.val + 1 * j.val) / 256, by omega⟩ : Fin 4) = k := Fin.ext (by show (256 * k.val + 1 * j.val) / 256 = k.val; omega)
  have e2 : (⟨(256 * k.val + 1 * j.val) % 256, by omega⟩ : Fin 256) = j := Fin.ext (by show (256 * k.val + 1 * j.val) % 256 = j.val; omega)
  have e3 : (⟨0 + 1 * d.val, by omega⟩ : Fin 512) = d := Fin.ext (by show 0 + 1 * d.val = d.val; omega)
  show outRow i t3 x0 x1 x2 W ⟨(256 * k.val + 1 * j.val) / 256, _⟩ ⟨(256 * k.val + 1 * j.val) % 256, _⟩ ⟨0 + 1 * d.val, _⟩ = _
  rw [e1, e2, e3]

theorem piece_ok (i : grid0.Coords) (t3 x0 x1 x2) (W : ℕ) (k : Fin 4) (off : Fin 2 → ℕ) (inb : ∀ a, off a + S256x512.size a ≤ S1024x512.size a) (h : off = ![256 * k.val, 0]) (v : Vec Ideal S256x512 .f32)
    (hv : ∀ j d, v (ix2 j d) = outRow i t3 x0 x1 x2 W k j d) (x : S256x512.Idx) : v x = outF i t3 x0 x1 x2 W ((Rect.unit (s := S1024x512) off S256x512.size inb).emb x) := by
  have hx : x = ix2 (x 0 : Fin 256) (x 1 : Fin 512) := funext fun a => match a with
    | ⟨0, _⟩ => rfl
    | ⟨1, _⟩ => rfl
  rw [hx]
  exact (hv (x 0) (x 1)).trans (outF_emb i t3 x0 x1 x2 W k off inb h (x 0) (x 1)).symm

section
variable (c : Dev nD) (i : grid0.Coords) (arg3 : Memref sig .tc .smem S2048 .i32) (harg3 : arg3.IsWhole) (arg4 : Memref sig .tc .smem S128 .i32) (harg4 : arg4.IsWhole) (arg5 : Memref sig .tc .vmem S1x16x1x8192 .i32) (harg5 : arg5.IsWhole) (arg6 : Memref sig .tc .vmem S1x16x1296x512 .bf16) (harg6 : arg6.IsWhole) (arg7 : Memref sig .tc .vmem S1024x512 .f32) (harg7 : arg7.IsWhole) (arg8 : Memref sig .tc .vmem S1024x512 .f32) (harg8 : arg8.IsWhole) (arg9 : Memref sig .tc .vmem S4352x512 .bf16) (harg9 : arg9.IsWhole)
    (t3 : Vec Ideal S2048 .i32) (t4 : Vec Ideal S128 .i32) (x0 : Vec Ideal S1x16x1x8192 .i32) (x1 : Vec Ideal S1x16x1296x512 .bf16) (x2 : Vec Ideal S1024x512 .f32)
    (hW : ∀ (B : LoadRect S2048) (x : B.shape.Idx), WordOk (arg3.view.readAt (Elt Ideal) B (harg3.unread t3) x))

theorem pieces_of_B (arg0 v0 v2 : BitVec 32) (v122 v239 v356 v473 : Elt Ideal .i32) (k0_h2 : k0_cond2 v122 v239 v356 v473 = 1#1) (n : ℕ) (p : View.Piece (Elt Ideal) S1024x512 .f32)
    (hp : p ∈ piecesB (F := Ideal) c i arg3 harg3 arg4 harg4 arg5 harg5 arg6 harg6 arg7 harg7 arg8 harg8 arg9 harg9 t3 x0 x1 x2 hW arg0 v0 v2 v122 v239 v356 v473 k0_h2 n) (P : View.Piece (Elt Ideal) S1024x512 .f32 → Prop)
    (hP : ∀ (k : Fin k0_t1_loop.trips) (v : Vec Ideal S256x512 .f32), (∀ j d, v (ix2 j d) = outRow i t3 x0 x1 x2 272 ⟨k.val, kB_lt k⟩ j d) → P ⟨rectB i k, v⟩) : P p := by
  induction n with
  | zero => exact absurd hp List.not_mem_nil
  | succ n ih =>
    unfold piecesB at hp
    by_cases h : n < k0_t1_loop.trips
    · rw [dif_pos h] at hp
      rcases List.mem_cons.1 hp with rfl | hp
      · exact hP ⟨n, h⟩ _ fun j d => trip_apply c i arg3 harg3 arg4 harg4 arg5 harg5 arg6 harg6 arg7 harg7 arg8 harg8 arg9 harg9 t3 x0 x1 x2 hW arg0 v0 v2 v122 v239 v356 v473 k0_h2 ⟨n, h⟩ j d
      · exact ih hp
    · rw [dif_neg h] at hp
      exact ih hp

theorem outG_B (hc : ¬ condA i arg4 harg4 t4) (y : S1024x512.Idx) :
    outG (F := Ideal) c i arg3 harg3 arg4 harg4 arg5 harg5 arg6 harg6 arg7 harg7 arg8 harg8 arg9 harg9 t3 t4 x0 x1 x2 hW y = outF i t3 x0 x1 x2 272 y := by
  have hcov := coverG (F := Ideal) c i arg3 harg3 arg4 harg4 arg5 harg5 arg6 harg6 arg7 harg7 arg8 harg8 arg9 harg9 t3 t4 x0 x1 x2 hW y
  unfold outG
  refine View.read_writes_apply_of_pieces arg8.view _ (outF i t3 x0 x1 x2 272) _ ?_ y hcov
  intro p hp
  unfold piecesG at hp
  rw [dif_neg hc] at hp
  refine pieces_of_B c i arg3 harg3 arg4 harg4 arg5 harg5 arg6 harg6 arg7 harg7 arg8 harg8 arg9 harg9 t3 x0 x1 x2 hW _ _ _ _ _ _ _ _ _ p hp (fun p => ∀ x : p.1.shape.Idx, p.2 x = outF i t3 x0 x1 x2 272 (p.1.emb x)) ?_
  intro k v hv x
  exact piece_ok i t3 x0 x1 x2 272 ⟨k.val, kB_lt k⟩ _ (k0_off198_inb i k) (off198_eq i k) v hv x

end

end Cert.Kernel5Ideal.Hand

end
-- ==== Proof.CbOutA.lean ====
module

public import proofs.«01_k».proof.Proof.CbTakeA4
public import proofs.«01_k».proof.Proof.CbOutB

@[expose] public section

set_option maxRecDepth 16384

noncomputable section

namespace Cert.Kernel5Ideal.Hand

open Cert.Kernel5Ideal Cert.Kernel5Ideal.Gen Idealize.ShloMosaic Idealize.ShloMosaic.TcCoe Idealize.SL.Sem

section
variable (c : Dev nD) (i : grid0.Coords) (arg3 : Memref sig .tc .smem S2048 .i32) (harg3 : arg3.IsWhole) (arg4 : Memref sig .tc .smem S128 .i32) (harg4 : arg4.IsWhole) (arg5 : Memref sig .tc .vmem S1x16x1x8192 .i32) (harg5 : arg5.IsWhole) (arg6 : Memref sig .tc .vmem S1x16x1296x512 .bf16) (harg6 : arg6.IsWhole) (arg7 : Memref sig .tc .vmem S1024x512 .f32) (harg7 : arg7.IsWhole) (arg8 : Memref sig .tc .vmem S1024x512 .f32) (harg8 : arg8.IsWhole) (arg9 : Memref sig .tc .vmem S4352x512 .bf16) (harg9 : arg9.IsWhole)
    (t3 : Vec Ideal S2048 .i32) (t4 : Vec Ideal S128 .i32) (x0 : Vec Ideal S1x16x1x8192 .i32) (x1 : Vec Ideal S1x16x1296x512 .bf16) (x2 : Vec Ideal S1024x512 .f32)
    (hW : ∀ (B : LoadRect S2048) (x : B.shape.Idx), WordOk (arg3.view.readAt (Elt Ideal) B (harg3.unread t3) x))

theorem pieces_of_A (hc : condA i arg4 harg4 t4) (p : View.Piece (Elt Ideal) S1024x512 .f32)
    (hp : p ∈ (runA (F := Ideal) c i arg3 harg3 arg4 harg4 arg5 harg5 arg6 harg6 arg7 harg7 arg8 harg8 arg9 harg9 t3 t4 x0 x1 x2 hW hc).1) (P : View.Piece (Elt Ideal) S1024x512 .f32 → Prop)
    (h : ∀ (u : Fin 4) (v : Vec Ideal S256x512 .f32), (∀ j d, v (ix2 j d) = outRow i t3 x0 x1 x2 64 u j d) → P ⟨rectA i u, v⟩) : P p := by
  rw [runA_eq c i arg3 harg3 arg4 harg4 arg5 harg5 arg6 harg6 arg7 harg7 arg8 harg8 arg9 harg9 t3 t4 x0 x1 x2 hW hc, HA_eq0, HA_eq1, HA_eq2, HA_eq3] at hp
  rcases List.mem_cons.1 hp with rfl | hp
  · exact h 3 _ fun j d => blkA_apply i arg3 harg3 arg5 harg5 arg6 harg6 arg7 harg7 arg9 t3 x0 x1 x2 hW 3 _ 64 (by decide) (by decide) j d
  rcases List.mem_cons.1 hp with rfl | hp
  · exact h 2 _ fun j d => blkA_apply i arg3 harg3 arg5 harg5 arg6 harg6 arg7 harg7 arg9 t3 x0 x1 x2 hW 2 _ 48 (by decide) (by decide) j d
  rcases List.mem_cons.1 hp with rfl | hp
  · exact h 1 _ fun j d => blkA_apply i arg3 harg3 arg5 harg5 arg6 harg6 arg7 harg7 arg9 t3 x0 x1 x2 hW 1 _ 32 (by decide) (by decide) j d
  rcases List.mem_cons.1 hp with rfl | hp
  · exact h 0 _ fun j d => blkA_apply i arg3 harg3 arg5 harg5 arg6 harg6 arg7 harg7 arg9 t3 x0 x1 x2 hW 0 _ 16 (by decide) (by decide) j d
  exact absurd hp List.not_mem_nil

theorem outG_A (hc : condA i arg4 harg4 t4) (y : S1024x512.Idx) :
    outG (F := Ideal) c i arg3 harg3 arg4 harg4 arg5 harg5 arg6 harg6 arg7 harg7 arg8 harg8 arg9 harg9 t3 t4 x0 x1 x2 hW y = outF i t3 x0 x1 x2 64 y := by
  have hcov := coverG (F := Ideal) c i arg3 harg3 arg4 harg4 arg5 harg5 arg6 harg6 arg7 harg7 arg8 harg8 arg9 harg9 t3 t4 x0 x1 x2 hW y
  unfold outG
  refine View.read_writes_apply_of_pieces arg8.view _ (outF i t3 x0 x1 x2 64) _ ?_ y hcov
  intro p hp
  unfold piecesG at hp
  rw [dif_pos hc] at hp
  refine pieces_of_A c i arg3 harg3 arg4 harg4 arg5 harg5 arg6 harg6 arg7 harg7 arg8 harg8 arg9 harg9 t3 t4 x0 x1 x2 hW hc p hp (fun p => ∀ x : p.1.shape.Idx, p.2 x = outF i t3 x0 x1 x2 64 (p.1.emb x)) ?_
  intro u v hv x
  exact piece_ok i t3 x0 x1 x2 64 u _ (k0_off101_inb i u) (off101_eq i u) v hv x

end

end Cert.Kernel5Ideal.Hand

end
-- ==== Proof.CbFrame.lean ====
module

public import proofs.«01_k».proof.Proof.CbBody
public import proofs.«01_k».proof.Proof.Gen.Kernel5Ideal.Launch
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.Kernel5Ideal.Hand

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- Core `c`'s buffers when the region is entered. -/
abbrev V (c : Dev nD) (b : Ref sig .tc) : Buf (Elt F) ((c : Thread nD τ).loc b) :=
  StableHlo.after (List.flatten [hostOps0, hostOps0_1, hostOps0_2]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor

set_option maxHeartbeats 800000 in
theorem hmain (𝒱₀ : Variants) : Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main [hostOps0, hostOps0_1, hostOps0_2] (by simp only [List.Forall]; exact ⟨hostOps0_sub, hostOps0_1_sub, hostOps0_2_sub⟩)
    (by simp only [List.Forall]; exact ⟨hostOps0_fresh, hostOps0_1_fresh, hostOps0_2_fresh⟩) main_chain

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- The tables' contents at the region's entry. -/
abbrev tbl : pre0.Contents (Elt F) := fun k => V m 0 (pre0.ref k)
abbrev adm : (pcfg0 (F := F)).Adm := ⟨tbl m, trivial⟩
abbrev cfgM : Pipeline.Cfg sig Λ₀ := cfg0 (adm m)

/-- Every base word is a multiple of sixteen and at most 1024. -/
def TOk : Prop := ∀ x : S2048.Idx, WordOk ((V m 0 main_v19 : Vec F S2048 .i32) x)

def iblk (c : Dev nD) (w : Fin (cfgM m).W) (t : Fin (cfgM m).N) : (((cfgM m).win w).xblock ((cfgM m).grid.coords t)).Idx → Elt F ((cfgM m).win w).elt :=
  (((cfgM m).win w).blk t).view.read (Elt F) (V m c (Pipeline.arrRef spec0 w))

abbrev ms0 (t : Fin (cfgM m).N) : Memref sig .tc .vmem S1x16x1x8192 .i32 := spec0_0.stage ((cfgM m).slots t 0)
abbrev hs0 (t : Fin (cfgM m).N) : (ms0 m t).IsWhole := hstage0_0 (((cfgM m).slots t 0).cast nbuf0_0)
abbrev ms1 (t : Fin (cfgM m).N) : Memref sig .tc .vmem S1x16x1296x512 .bf16 := spec0_1.stage ((cfgM m).slots t 1)
abbrev hs1 (t : Fin (cfgM m).N) : (ms1 m t).IsWhole := hstage0_1 (((cfgM m).slots t 1).cast nbuf0_1)
abbrev ms2 (t : Fin (cfgM m).N) : Memref sig .tc .vmem S1024x512 .f32 := spec0_2.stage ((cfgM m).slots t 2)
abbrev hs2 (t : Fin (cfgM m).N) : (ms2 m t).IsWhole := hstage0_2 (((cfgM m).slots t 2).cast nbuf0_2)
abbrev ms3 (t : Fin (cfgM m).N) : Memref sig .tc .vmem S1024x512 .f32 := spec0_3.stage ((cfgM m).slots t 3)
abbrev hs3 (t : Fin (cfgM m).N) : (ms3 m t).IsWhole := hstage0_3 (((cfgM m).slots t 3).cast nbuf0_3)

theorem hWm (hT : TOk m) (B : LoadRect S2048) (x : B.shape.Idx) :
    WordOk ((Memref.whole main_v19 : Memref sig .tc .smem S2048 .i32).view.readAt (Elt F) B ((Memref.isWhole_whole main_v19 : (Memref.whole main_v19 : Memref sig .tc .smem S2048 .i32).IsWhole).unread (V m 0 main_v19 : Vec F S2048 .i32)) x) := by
  rw [Memref.IsWhole.readAt_unread]; exact hT _

abbrev bodyAt (t : Fin (cfgM m).N) := cc0__combine_kernel (F := F) (grid0.coords t) (Memref.whole main_v19) (Memref.isWhole_whole _) (Memref.whole main_v18) (Memref.isWhole_whole _) (ms0 m t) (hs0 m t) (ms1 m t) (hs1 m t) (ms2 m t) (hs2 m t) (ms3 m t) (hs3 m t) (Memref.whole cc0_scratch0) (Memref.isWhole_whole _)

variable (hT : TOk m)

/-- What the output block holds after the body at point `t`. -/
def outAt (c : Dev nD) (t : Fin (cfgM m).N) : Vec F S1024x512 .f32 :=
  outG c (grid0.coords t) (Memref.whole main_v19) (Memref.isWhole_whole _) (Memref.whole main_v18) (Memref.isWhole_whole _) (ms0 m t) (hs0 m t) (ms1 m t) (hs1 m t) (ms2 m t) (hs2 m t) (ms3 m t) (hs3 m t) (Memref.whole cc0_scratch0) (Memref.isWhole_whole _) (V m 0 main_v19) (V m 0 main_v18)
    (iblk m c 0 t) (iblk m c 1 t) (iblk m c 2 t) (hWm m hT)

/-- The pipeline's proof data. -/
def dats (_ : Fin 1) (c : Dev nD) : Dat τ (Elt F) Unit ℕ (UR sig nD τ) ℕ (cfgM m) c where
  A w := V m c (Pipeline.arrRef spec0 w)
  after w t := match w with
    | ⟨0, _⟩ => iblk m c 0 t
    | ⟨1, _⟩ => iblk m c 1 t
    | ⟨2, _⟩ => iblk m c 2 t
    | ⟨3, _⟩ => outAt m hT c t
  Φ _ := iprop(Pipeline.ΦA spec0 c ∗ Pipeline.ΦT pre0 (tbl m) c)
  q _ := fullShare
  owed _ := 0

theorem A_eq (c : Dev nD) (w : Fin (cfgM m).W) : (dats m hT 0 c).A w = V m c (Pipeline.arrRef spec0 w) := by
  dsimp only [dats]

theorem after0_0 (c : Dev nD) (t : Fin (cfgM m).N) : (dats m hT 0 c).after 0 t = iblk m c 0 t := by unfold dats; rfl
theorem after0_1 (c : Dev nD) (t : Fin (cfgM m).N) : (dats m hT 0 c).after 1 t = iblk m c 1 t := by unfold dats; rfl
theorem after0_2 (c : Dev nD) (t : Fin (cfgM m).N) : (dats m hT 0 c).after 2 t = iblk m c 2 t := by unfold dats; rfl
theorem after0_3 (c : Dev nD) (t : Fin (cfgM m).N) : (dats m hT 0 c).after 3 t = outAt m hT c t := by unfold dats; rfl

theorem before0_0 (c : Dev nD) (t : Fin (cfgM m).N) (d) : (dats m hT 0 c).before 0 t d = iblk m c 0 t :=
  ((dats m hT 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin (cfgM m).N) (d) : (dats m hT 0 c).before 1 t d = iblk m c 1 t :=
  ((dats m hT 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin (cfgM m).N) (d) : (dats m hT 0 c).before 2 t d = iblk m c 2 t :=
  ((dats m hT 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)

theorem tables_eq (c : Dev nD) :
    (Pipeline.ΦT pre0 (tbl m) c : sProp (MT nD τ sig Unit (Elt F) ℕ (UR sig nD τ) ℕ))
      = iprop(owns (c : Thread nD τ) (Memref.whole main_v19 : Memref sig .tc .smem S2048 .i32) fullShare.right (V m 0 main_v19)
        ∗ owns (c : Thread nD τ) (Memref.whole main_v18 : Memref sig .tc .smem S128 .i32) fullShare.right (V m 0 main_v18)) := by
  rw [owns_whole, owns_whole]
  exact bigSep_univ_eq_bigSepL [(0 : Fin 2), (1 : Fin 2)] (by decide) (by decide) _

theorem PhiA0_eq (c : Dev nD) :
    (Pipeline.ΦA spec0 c : sProp (MT nD τ sig Unit (Elt F) ℕ (UR sig nD τ) ℕ))
      = iprop(iprop((∃ d, owns (c : Thread nD τ) (Memref.whole cc0_scratch0 : Memref sig .tc .vmem S4352x512 .bf16) fullShare d)) ∗ (∃ r, prngReg c r)) := by
  unfold Pipeline.ΦA; rw [scopedRest0_eq]; simp only [owns_whole]; try rfl

def bodyPre (c : Dev nD) (t : Fin (cfgM m).N) : sProp (MT nD τ sig Unit (Elt F) ℕ (UR sig nD τ) ℕ) :=
  iprop((dats m hT 0 c).Φ t.castSucc ∗ (dats m hT 0 c).owesAt () t.castSucc
    ∗ (∃ d, owns (c : Thread nD τ) (ms0 m t) fullShare ((dats m hT 0 c).before 0 t d))
    ∗ (∃ d, owns (c : Thread nD τ) (ms1 m t) fullShare ((dats m hT 0 c).before 1 t d))
    ∗ (∃ d, owns (c : Thread nD τ) (ms2 m t) fullShare ((dats m hT 0 c).before 2 t d))
    ∗ (∃ d, owns (c : Thread nD τ) (ms3 m t) fullShare ((dats m hT 0 c).before 3 t d)))

def bodyPost (c : Dev nD) (t : Fin (cfgM m).N) : sProp (MT nD τ sig Unit (Elt F) ℕ (UR sig nD τ) ℕ) :=
  iprop((dats m hT 0 c).Φ t.succ ∗ (dats m hT 0 c).owesAt () t.succ
    ∗ owns (c : Thread nD τ) (ms0 m t) fullShare ((dats m hT 0 c).after 0 t)
    ∗ owns (c : Thread nD τ) (ms1 m t) fullShare ((dats m hT 0 c).after 1 t)
    ∗ owns (c : Thread nD τ) (ms2 m t) fullShare ((dats m hT 0 c).after 2 t)
    ∗ owns (c : Thread nD τ) (ms3 m t) fullShare ((dats m hT 0 c).after 3 t))

theorem sound_body (c : Dev nD) (t : Fin (cfgM m).N) :
    bodyPre m hT c t ⊢ wp frame (wpE (defs₀ (F := F)) Variants.none c none) Set.univ (bodyAt m t) (fun _ => bodyPost m hT c t) := by
  unfold bodyPre bodyPost
  simp only [before0_0, before0_1, before0_2]
  rw [show (dats m hT 0 c).owesAt () t.succ = (dats m hT 0 c).owesAt () t.castSucc from rfl,
    show (dats m hT 0 c).Φ t.castSucc = iprop(Pipeline.ΦA spec0 c ∗ Pipeline.ΦT pre0 (tbl m) c) from rfl,
    show (dats m hT 0 c).Φ t.succ = iprop(Pipeline.ΦA spec0 c ∗ Pipeline.ΦT pre0 (tbl m) c) from rfl,
    after0_0, after0_1, after0_2, after0_3, tables_eq, PhiA0_eq]
  iintro ⟨⟨⟨HS, Hg⟩, HT3, HT4⟩, Ho, ⟨%d0, H0⟩, ⟨%d1, H1⟩, ⟨%d2, H2⟩, ⟨%d3, H3⟩⟩
  iapply (runG c (grid0.coords t) (Memref.whole main_v19) (Memref.isWhole_whole _) (Memref.whole main_v18) (Memref.isWhole_whole _) (ms0 m t) (hs0 m t) (ms1 m t) (hs1 m t) (ms2 m t) (hs2 m t) (ms3 m t) (hs3 m t) (Memref.whole cc0_scratch0) (Memref.isWhole_whole _) (V m 0 main_v19) (V m 0 main_v18)
    (iblk m c 0 t) (iblk m c 1 t) (iblk m c 2 t) (hWm m hT) Set.univ _)
  isplitl [HT3]; · iexact HT3
  isplitl [HT4]; · iexact HT4
  isplitl [H0]; · iexact H0
  isplitl [H1]; · iexact H1
  isplitl [H2]; · iexact H2
  isplitl [H3]; · iexists _; iexact H3
  isplitl [HS]; · iexact HS
  iintro ⟨HT3, HT4, H0, H1, H2, H3, HS⟩
  isplitl [HS Hg HT3 HT4]
  · isplitl [HS Hg]
    · isplitl [HS]; · iexact HS
      iexact Hg
    isplitl [HT3]; · iexact HT3
    iexact HT4
  isplitl [Ho]; · iexact Ho
  isplitl [H0]; · iexact H0
  isplitl [H1]; · iexact H1
  isplitl [H2]; · iexact H2
  iexact H3

theorem defs₀_row (t : Fin (cfgM m).N) :
    defs₀ (F := F) .tc (cfgM m).body ((cfgM m).bodyArgs t ((cfgM m).slots t)) = bodyAt m t := by
  unfold defs₀; rw [Defs.onTc_tc]

theorem idle_false (w : Fin 4) (i : grid0.Coords) : (cfgM m).idle w i = false := by
  match w with
  | ⟨0, _⟩ => rfl
  | ⟨1, _⟩ => rfl
  | ⟨2, _⟩ => rfl
  | ⟨3, _⟩ =>
    show idle0 (tbl m) 3 i = false
    generalize hA : (tbl m).atD 1 (k0_off17 i) = a
    generalize hB : (tbl m).atD 1 (k0_off34 i) = b
    generalize hC : (tbl m).atD 1 (k0_off51 i) = c
    generalize hD : (tbl m).atD 1 (k0_off68 i) = d
    show (!(k0_cond1 ((tbl m).atD 1 (k0_off17 i)) ((tbl m).atD 1 (k0_off34 i)) ((tbl m).atD 1 (k0_off51 i)) ((tbl m).atD 1 (k0_off68 i)) == 1#1)
      && !(k0_cond2 ((tbl m).atD 1 (k0_off17 i)) ((tbl m).atD 1 (k0_off34 i)) ((tbl m).atD 1 (k0_off51 i)) ((tbl m).atD 1 (k0_off68 i)) == 1#1)) = false
    rw [hA, hB, hC, hD]
    by_cases h : k0_cond1 a b c d = 1#1
    · rw [h]; rfl
    · rw [(cond2_iff a b c d).2 h]; simp

theorem idle0_false (w : Fin 4) (i : grid0.Coords) : idle0 (tbl m) w i = false := idle_false m w i

theorem body_obligation (c : Dev nD) : BodyObligation (dats (F := F) m hT 0 c) (defs₀ (F := F)) Variants.none () Set.univ := fun t => by
  rw [bigSep_W0, bigSep_W0, defs₀_row]
  have h : ∀ w, (cfgM m).idle w ((cfgM m).grid.coords t) = false := fun w => idle_false m w _
  refine triple_restated (sound_body m hT c t) rfl .rfl fun _ => ?_
  have h3 : idle0 (tbl m) 3 ((pcfg0.gridAt (tbl m)).coords t) = false := idle_false m 3 _
  simp only [h, h3]
  exact (.rfl : bodyPost m hT c t ⊢ bodyPost m hT c t)

theorem hpf (c : Dev nD) (k : Fin 2) : V m c (pre0.ref k) = (adm m).1 k := by
  have e : c = 0 := Subsingleton.elim _ _
  subst e; rfl

set_option backward.isDefEq.respectTransparency.types false in
theorem run_main_quiescent : θ_run defs (onTc (τ := τ) (main (F := F))) (s₀ m ρ) (fun r => (Pipeline.FramePost (Pipeline.pin pcfgs fun _ => adm m) (dats m hT) 0 (V m)) r ∧ r.2.sem = fun _ => 0) :=
  Pipeline.θ_run_frameP (Q' := _) pcfgs (fun _ => adm m) (dats m hT) (0 : Fin 1) launch0 defs₀ Variants.none m ρ main
    (hbody := fun c => (body_obligation m hT c).loose) (hshare := fun c => (dats m hT 0 c).share_full fun _ => rfl)
    (howed := fun _ _ => rfl) (V := V m) (hmain := hmain m Variants.none) (hA := A_eq m hT) (hpf := hpf m) (hΦ := fun _ _ => rfl)

theorem run_main : θ_run defs (onTc (τ := τ) (main (F := F))) (s₀ m ρ) (Pipeline.FramePost (Pipeline.pin pcfgs fun _ => adm m) (dats m hT) 0 (V m)) :=
  (θ_run defs _ _).mono (fun _ h => h.1) (run_main_quiescent m ρ hT)

include hT in
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨
      ((h c).2 main_arg0 (Pipeline.mem_restRefs_of main_arg0 (by decide) (show ∀ w : Fin 4, (spec0 w).arr.view.ref ≠ main_arg0 by decide))).trans (V_main_arg0 m c),
      ((h c).2 main_arg1 (Pipeline.mem_restRefs_of main_arg1 (by decide) (show ∀ w : Fin 4, (spec0 w).arr.view.ref ≠ main_arg1 by decide))).trans (V_main_arg1 m c),
      ((h c).1 1).trans (((dats m hT 0 c).arrAt_in 1 rfl _).trans ((A_eq m hT c 1).trans (V_main_arg2 m c))),
      ((h c).1 2).trans (((dats m hT 0 c).arrAt_in 2 rfl _).trans ((A_eq m hT c 2).trans (V_main_arg3 m c)))⟩) (run_main m ρ hT)

include hT in
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ hT) ((θ_run defs _ _).mono (fun _ h => h.2) (run_main_quiescent m ρ hT))

end Cert.Kernel5Ideal.Hand

end
-- ==== Proof.CbPre.lean ====
/-
  The tables the combine reads, computed by its host operations from the expert starts, and what its precondition says of
  them and of the slots.
-/
module

public import proofs.«01_k».proof.Defs
public import proofs.«01_k».proof.Proof.Gen.Pre_routed
public import proofs.«01_k».proof.Proof.CbFrame
public import Idealize.ShloMosaic.Lib.Pointwise
public import Idealize.ShloMosaic.Lib.ValueIdxCore

@[expose] public section

set_option maxRecDepth 16384

noncomputable section

namespace Cert.Kernel5Ideal.Hand

open Cert.Kernel5Ideal Cert.Kernel5Ideal.Gen
open Idealize.ShloMosaic Idealize.ShloMosaic.TcCoe Idealize.SL.Sem

/-- The first row of every expert in every block of tokens. -/
def firstT (A1 : IVec S128x128 32) : IVec S4x16x32 32 :=
  transpose S4x16x32 [0, 2, 1] (extractStridedSlice S4x32x16 ![0, 0, 0] (shapeCast S4x32x128 A1 shapeCasts_S128x128_S4x32x128) slices_S4x32x128_S4x32x16_0_0_0) transposes_S4x32x16_S4x16x32_0_2_1

/-- The same divided by sixteen, rounding down. -/
def divT (f : IVec S4x16x32 32) : IVec S4x16x32 32 :=
  select (andi (cmpi .ne (signi f) (broadcastInDim S4x16x32 ![] bcast_S_S4x16x32 (signi (id (constantI S_ 32 16#32))))) (cmpi .ne (Host.remsi f (broadcastInDim S4x16x32 ![] bcast_S_S4x16x32 (id (constantI S_ 32 16#32)))) (broadcastInDim S4x16x32 ![] bcast_S_S4x16x32 (constantI S_ 32 0#32))))
    (subi (Host.divsi f (broadcastInDim S4x16x32 ![] bcast_S_S4x16x32 (id (constantI S_ 32 16#32)))) (broadcastInDim S4x16x32 ![] bcast_S_S4x16x32 (constantI S_ 32 1#32)))
    (Host.divsi f (broadcastInDim S4x16x32 ![] bcast_S_S4x16x32 (id (constantI S_ 32 16#32))))

/-- The first row rounded down to a multiple of sixteen. -/
def baseT (f : IVec S4x16x32 32) : IVec S4x16x32 32 :=
  muli (divT f) (broadcastInDim S4x16x32 ![] bcast_S_S4x16x32 (constantI S_ 32 16#32))

/-- The row after the last. -/
def endT (f : IVec S4x16x32 32) : IVec S4x16x32 32 :=
  concatenate S4x16x32 2 [⟨S4x16x31, extractStridedSlice S4x16x31 ![0, 0, 1] f slices_S4x16x32_S4x16x31_0_0_1⟩, ⟨S4x16x1, broadcastInDim S4x16x1 ![] bcast_S_S4x16x1 (constantI S_ 32 1024#32)⟩] concatenates_S4x16x31_S4x16x1_S4x16x32_d2

/-- How many rows the widest expert needs. -/
def spanT (f : IVec S4x16x32 32) : IVec S4x32 32 :=
  Host.reduce IntOp.maxsi (subi (endT f) (baseT f)) (constantI S_ 32 2147483648#32) reducesTo_S4x16x32_S4x32_d1 h_S_

/-- Whether the narrow window fits. -/
def fitsT (A1 : IVec S128x128 32) : IVec S128 32 :=
  shapeCast S128 (extui 32 (cmpi .sle (spanT (firstT A1)) (broadcastInDim S4x32 ![] bcast_S_S4x32 (constantI S_ 32 64#32))) natLt_1_32) shapeCasts_S4x32_S128

/-- The slots, by expert. -/
def slotT (A0 : IVec S32768x128 32) : IVec S4x16x1x8192 32 :=
  shapeCast S4x16x1x8192 (transpose S4x16x8192 [0, 2, 1] (extractStridedSlice S4x8192x16 ![0, 0, 0] (shapeCast S4x8192x128 A0 shapeCasts_S32768x128_S4x8192x128) slices_S4x8192x128_S4x8192x16_0_0_0) transposes_S4x8192x16_S4x16x8192_0_2_1) shapeCasts_S4x16x8192_S4x16x1x8192

section
variable {F : FTy → Type} [FloatOps F] (m : (ℓ : Loc nD τ sig) → Buf (Elt F) ℓ)

set_option maxHeartbeats 1000000 in
theorem V_base (c : Dev nD) : (V m c main_v19 : Vec F S2048 .i32) = shapeCast S2048 (baseT (firstT (m ((c : Thread nD τ).loc main_arg1)))) shapeCasts_S4x16x32_S2048 := by
  show StableHlo.after _ _ _ = _
  simp only [hostOps0, hostOps0_1, hostOps0_2, List.flatten_cons, List.flatten_nil, List.append_nil, List.cons_append, List.nil_append, StableHlo.TRef.nullary, StableHlo.TRef.binary, StableHlo.TRef.ternary, StableHlo.TRef.unary, StableHlo.TRef.toBuf, StableHlo.TRef.ofBuf, cast_eq]
  after_results_simp <;> rfl

set_option maxHeartbeats 1000000 in
theorem V_fits (c : Dev nD) : (V m c main_v18 : Vec F S128 .i32) = fitsT (m ((c : Thread nD τ).loc main_arg1)) := by
  show StableHlo.after _ _ _ = _
  simp only [hostOps0, hostOps0_1, hostOps0_2, List.flatten_cons, List.flatten_nil, List.append_nil, List.cons_append, List.nil_append, StableHlo.TRef.nullary, StableHlo.TRef.binary, StableHlo.TRef.ternary, StableHlo.TRef.unary, StableHlo.TRef.toBuf, StableHlo.TRef.ofBuf, cast_eq]
  after_results_simp <;> rfl

set_option maxHeartbeats 1000000 in
theorem V_slot (c : Dev nD) : (V m c main_v3 : Vec F S4x16x1x8192 .i32) = slotT (m ((c : Thread nD τ).loc main_arg0)) := by
  show StableHlo.after _ _ _ = _
  simp only [hostOps0, hostOps0_1, hostOps0_2, List.flatten_cons, List.flatten_nil, List.append_nil, List.cons_append, List.nil_append, StableHlo.TRef.nullary, StableHlo.TRef.binary, StableHlo.TRef.ternary, StableHlo.TRef.unary, StableHlo.TRef.toBuf, StableHlo.TRef.ofBuf, cast_eq]
  after_results_simp <;> rfl

end

theorem firstT_apply (A1 : IVec S128x128 32) (b : Fin 4) (e : Fin 16) (t : Fin 32) :
    firstT A1 (ix3 b e t) = A1 (ix2 (⟨32 * b.val + t.val, by omega⟩ : Fin 128) (⟨e.val, by omega⟩ : Fin 128)) := by
  pointwise [firstT]
  refine congrArg A1 (congrArg₂ ix2 (Fin.ext ?_) rfl)
  show b.val * 32 + t.val = 32 * b.val + t.val
  omega

theorem slotT_apply (A0 : IVec S32768x128 32) (b : Fin 4) (e : Fin 16) (s : Fin 8192) :
    slotT A0 (ix4 b e (0 : Fin 1) s) = A0 (ix2 (⟨8192 * b.val + s.val, by omega⟩ : Fin 32768) (⟨e.val, by omega⟩ : Fin 128)) := by
  pointwise [slotT]
  refine congrArg A0 (congrArg₂ ix2 (Fin.ext ?_) rfl)
  show b.val * 8192 + s.val = 8192 * b.val + s.val
  omega

/-- A first row rounded down. -/
def baseW (f : BitVec 32) : BitVec 32 := baseT (fun _ => f) (ix3 (0 : Fin 4) (0 : Fin 16) (0 : Fin 32))

theorem baseT_apply (f : IVec S4x16x32 32) (j : S4x16x32.Idx) : baseT f j = baseW (f j) := rfl

theorem baseW_nat : ∀ n : Fin 1025, 16 ∣ (baseW (BitVec.ofNat 32 n.val)).toNat ∧ (baseW (BitVec.ofNat 32 n.val)).toNat ≤ n.val ∧ n.val < (baseW (BitVec.ofNat 32 n.val)).toNat + 16 := by
  decide +kernel

theorem toInt_small (v : BitVec 32) (h0 : 0 ≤ v.toInt) : v.toInt = (v.toNat : ℤ) := by
  have := BitVec.toInt_eq_toNat_cond v
  have := v.isLt
  split_ifs at * <;> omega

theorem baseW_of (v : BitVec 32) (h0 : 0 ≤ v.toInt) (h1 : v.toInt ≤ 1024) : 16 ∣ (baseW v).toNat ∧ (baseW v).toNat ≤ v.toNat ∧ v.toNat < (baseW v).toNat + 16 := by
  have h := toInt_small v h0
  have := baseW_nat ⟨v.toNat, by omega⟩
  simpa using this

theorem endT_apply (f : IVec S4x16x32 32) (b : Fin 4) (e : Fin 16) (t : Fin 32) :
    endT f (ix3 b e t) = if h : t.val < 31 then f (ix3 b e (⟨t.val + 1, by omega⟩ : Fin 32)) else 1024#32 := by
  pointwise [endT]
  split_ifs with h
  · exact congrArg f (congrArg (ix3 b e) (Fin.ext (Nat.add_comm 1 t.val)))
  · rfl

theorem foldl_max_ge {α : Type} (g : α → BitVec 32) : ∀ (l : List α) (a : BitVec 32), a.toInt ≤ (l.foldl (fun r i => IntOp.maxsi r (g i)) a).toInt ∧ ∀ i ∈ l, (g i).toInt ≤ (l.foldl (fun r i => IntOp.maxsi r (g i)) a).toInt := by
  have key : ∀ x y : BitVec 32, x.toInt ≤ (IntOp.maxsi x y).toInt ∧ y.toInt ≤ (IntOp.maxsi x y).toInt := by
    intro x y
    unfold IntOp.maxsi
    split_ifs with h
    · simp [BitVec.slt] at h; omega
    · simp [BitVec.slt] at h; omega
  intro l
  induction l with
  | nil => intro a; simp
  | cons x l ih =>
    intro a
    obtain ⟨h1, h2⟩ := ih (IntOp.maxsi a (g x))
    refine ⟨(key a (g x)).1.trans h1, fun i hi => ?_⟩
    rcases List.mem_cons.1 hi with rfl | hi
    · exact (key a (g i)).2.trans h1
    · exact h2 i hi

theorem span_ge (f : IVec S4x16x32 32) (b : Fin 4) (e : Fin 16) (t : Fin 32) :
    (endT f (ix3 b e t) - baseT f (ix3 b e t)).toInt ≤ (spanT f (ix2 b t)).toInt := by
  unfold spanT
  rw [Host.reduce_eq_foldl]
  refine (foldl_max_ge (fun i => subi (endT f) (baseT f) i) _ _).2 (ix3 b e t) ?_
  rw [List.mem_filter]
  refine ⟨List.mem_map.2 ⟨S4x16x32.rowMajor (ix3 b e t), List.mem_finRange _, Equiv.symm_apply_apply _ _⟩, decide_eq_true ?_⟩
  funext a
  refine Fin.ext ?_
  match a with
  | 0 => rfl
  | 1 => rfl

theorem fitsT_apply (A1 : IVec S128x128 32) (b : Fin 4) (t : Fin 32) (h : fitsT A1 (ix1 (⟨32 * b.val + t.val, by omega⟩ : Fin 128)) = 1#32) :
    (spanT (firstT A1) (ix2 b t)).toInt ≤ 64 := by
  have e : fitsT A1 (ix1 (⟨32 * b.val + t.val, by omega⟩ : Fin 128)) = (IntOp.cmpi .sle (spanT (firstT A1) (ix2 b t)) 64#32).setWidth 32 := by
    pointwise [fitsT]
  rw [e] at h
  by_contra hc
  have h2 : IntOp.cmpi .sle (spanT (firstT A1) (ix2 b t)) 64#32 = 0#1 := by
    have h3 : ¬ (spanT (firstT A1) (ix2 b t)).toInt ≤ 64 := hc
    simp [IntOp.cmpi, BitVec.sle, h3]
  rw [h2] at h
  exact absurd h (by decide)

/-- What the precondition says, in integers. -/
structure Routed (A0 : IVec S32768x128 32) (A1 : IVec S128x128 32) : Prop where
  first : ∀ b e t, 0 ≤ (firstT A1 (ix3 b e t)).toInt ∧ (firstT A1 (ix3 b e t)).toInt ≤ 1024
  slot : ∀ (b : Fin 4) (e : Fin 16) (t : Fin 32) (j : Fin 256), slotT A0 (ix4 b e (0 : Fin 1) (⟨256 * t.val + j.val, by omega⟩ : Fin 8192)) = 4294967295#32 ∨
    ((firstT A1 (ix3 b e t)).toInt ≤ (slotT A0 (ix4 b e (0 : Fin 1) (⟨256 * t.val + j.val, by omega⟩ : Fin 8192))).toInt
      ∧ (slotT A0 (ix4 b e (0 : Fin 1) (⟨256 * t.val + j.val, by omega⟩ : Fin 8192))).toInt < (endT (firstT A1) (ix3 b e t)).toInt
      ∧ (slotT A0 (ix4 b e (0 : Fin 1) (⟨256 * t.val + j.val, by omega⟩ : Fin 8192))).toInt < (firstT A1 (ix3 b e t)).toInt + 256)

section
attribute [local instance] Cert.Pre_routed.Gen.facts
open Cert.Pre_routed (S4x31x16 S4x1x16 S4x32x256x16 S4x32x1x16 S4x32x256x128)

/-- The precondition's rows after the last. -/
def endP (v : IVec S4x32x16 32) : IVec S4x32x16 32 :=
  concatenate S4x32x16 1 [⟨S4x31x16, extractStridedSlice S4x31x16 ![0, 1, 0] v Cert.Pre_routed.Gen.slices_S4x32x16_S4x31x16_0_1_0⟩, ⟨S4x1x16, broadcastInDim S4x1x16 ![] Cert.Pre_routed.Gen.bcast_S_S4x1x16 (constantI S_ 32 1024#32)⟩] Cert.Pre_routed.Gen.concatenates_S4x31x16_S4x1x16_S4x32x16_d1

theorem endP_apply (v : IVec S4x32x16 32) (b : Fin 4) (t : Fin 32) (e : Fin 16) :
    endP v (ix3 b t e) = if h : t.val < 31 then v (ix3 b (⟨t.val + 1, by omega⟩ : Fin 32) e) else 1024#32 := by
  pointwise [endP]
  split_ifs with h
  · exact congrArg v (congrArg (fun k => ix3 b k e) (Fin.ext (Nat.add_comm 1 t.val)))
  · rfl

def firstP (A1 : IVec S128x128 32) : IVec S4x32x16 32 :=
  extractStridedSlice S4x32x16 ![0, 0, 0] (shapeCast S4x32x128 A1 Cert.Pre_routed.Gen.shapeCasts_S128x128_S4x32x128) Cert.Pre_routed.Gen.slices_S4x32x128_S4x32x16_0_0_0

def slotP (A0 : IVec S32768x128 32) : IVec S4x32x256x16 32 :=
  extractStridedSlice S4x32x256x16 ![0, 0, 0, 0] (shapeCast S4x32x256x128 A0 Cert.Pre_routed.Gen.shapeCasts_S32768x128_S4x32x256x128) Cert.Pre_routed.Gen.slices_S4x32x256x128_S4x32x256x16_0_0_0_0

def okP (f E : IVec S4x32x16 32) (s : IVec S4x32x256x16 32) : IVec S4x32x256x16 1 :=
  ori (cmpi .eq s (broadcastInDim S4x32x256x16 ![] Cert.Pre_routed.Gen.bcast_S_S4x32x256x16 (constantI S_ 32 4294967295#32)))
    (andi (andi (cmpi .sge s (broadcastInDim S4x32x256x16 ![0, 1, 2, 3] Cert.Pre_routed.Gen.bcast_S4x32x1x16_S4x32x256x16_0_1_2_3 (broadcastInDim S4x32x1x16 ![0, 1, 3] Cert.Pre_routed.Gen.bcast_S4x32x16_S4x32x1x16_0_1_3 f)))
        (cmpi .slt s (broadcastInDim S4x32x256x16 ![0, 1, 2, 3] Cert.Pre_routed.Gen.bcast_S4x32x1x16_S4x32x256x16_0_1_2_3 (broadcastInDim S4x32x1x16 ![0, 1, 3] Cert.Pre_routed.Gen.bcast_S4x32x16_S4x32x1x16_0_1_3 E))))
      (cmpi .slt s (broadcastInDim S4x32x256x16 ![0, 1, 2, 3] Cert.Pre_routed.Gen.bcast_S4x32x1x16_S4x32x256x16_0_1_2_3 (addi (broadcastInDim S4x32x1x16 ![0, 1, 3] Cert.Pre_routed.Gen.bcast_S4x32x16_S4x32x1x16_0_1_3 f) (broadcastInDim S4x32x1x16 ![] Cert.Pre_routed.Gen.bcast_S_S4x32x1x16 (constantI S_ 32 256#32))))))

def rangeP (f : IVec S4x32x16 32) : IVec S4x32x16 1 :=
  andi (cmpi .sge f (broadcastInDim S4x32x16 ![] Cert.Pre_routed.Gen.bcast_S_S4x32x16 (constantI S_ 32 0#32))) (cmpi .sle f (broadcastInDim S4x32x16 ![] Cert.Pre_routed.Gen.bcast_S_S4x32x16 (constantI S_ 32 1024#32)))

theorem fn_eq {F : FTy → Type} [FloatOps F] (A0 : IVec S32768x128 32) (A1 : IVec S128x128 32) (A2 : FVec F S4x16x1296x1024 .bf16) (A3 : FVec F S32768x1024 .f32) :
    Cert.Pre_routed.fn (F := F) A0 A1 A2 A3 = (rangeP (firstP A1), okP (firstP A1) (endP (firstP A1)) (slotP A0)) := rfl

theorem firstP_apply (A1 : IVec S128x128 32) (b : Fin 4) (t : Fin 32) (e : Fin 16) : firstP A1 (ix3 b t e) = firstT A1 (ix3 b e t) := by
  rw [firstT_apply]
  pointwise [firstP]
  refine congrArg A1 (congrArg₂ ix2 (Fin.ext ?_) rfl)
  show b.val * 32 + t.val = 32 * b.val + t.val
  omega

theorem slotP_apply (A0 : IVec S32768x128 32) (b : Fin 4) (t : Fin 32) (j : Fin 256) (e : Fin 16) :
    slotP A0 (ix4 b t j e) = slotT A0 (ix4 b e (0 : Fin 1) (⟨256 * t.val + j.val, by omega⟩ : Fin 8192)) := by
  rw [slotT_apply]
  pointwise [slotP]
  refine congrArg A0 (congrArg₂ ix2 (Fin.ext ?_) rfl)
  show b.val * 8192 + t.val * 256 + j.val = 8192 * b.val + (256 * t.val + j.val)
  omega

theorem range_word (v : BitVec 32) (h : IntOp.andi (IntOp.cmpi .sge v 0#32) (IntOp.cmpi .sle v 1024#32) = 1#1) : 0 ≤ v.toInt ∧ v.toInt ≤ 1024 := by
  have e : ∀ p q : Bool, IntOp.andi (BitVec.ofBool p) (BitVec.ofBool q) = 1#1 → p = true ∧ q = true := by decide
  have h' : BitVec.sle 0#32 v = true ∧ BitVec.sle v 1024#32 = true := e _ _ h
  simpa [BitVec.sle] using h'

theorem ok_word (s f E : BitVec 32) (h0 : 0 ≤ f.toInt) (h1 : f.toInt ≤ 1024)
    (h : IntOp.ori (IntOp.cmpi .eq s 4294967295#32) (IntOp.andi (IntOp.andi (IntOp.cmpi .sge s f) (IntOp.cmpi .slt s E)) (IntOp.cmpi .slt s (IntOp.addi f 256#32))) = 1#1) :
    s = 4294967295#32 ∨ (f.toInt ≤ s.toInt ∧ s.toInt < E.toInt ∧ s.toInt < f.toInt + 256) := by
  have e : ∀ p q r u : Bool, IntOp.ori (BitVec.ofBool p) (IntOp.andi (IntOp.andi (BitVec.ofBool q) (BitVec.ofBool r)) (BitVec.ofBool u)) = 1#1 → p = true ∨ (q = true ∧ r = true ∧ u = true) := by decide
  have h' : (s == 4294967295#32) = true ∨ (BitVec.sle f s = true ∧ BitVec.slt s E = true ∧ BitVec.slt s (f + 256#32) = true) := e _ _ _ _ h
  have h2 : (f + 256#32).toInt = f.toInt + 256 := by
    have a := toInt_small f h0
    rw [BitVec.toInt_add, a]
    have : ((256#32 : BitVec 32).toInt) = 256 := by decide
    rw [this]
    have key : ∀ x : ℤ, 0 ≤ x → x ≤ 1280 → x.bmod (2 ^ 32) = x := by
      intro x h1 h2
      have hx : x % ((2 ^ 32 : ℕ) : ℤ) = x := Int.emod_eq_of_lt h1 (by norm_num; omega)
      unfold Int.bmod
      simp only [hx]
      rw [if_pos (by norm_num; omega)]
    exact key _ (by omega) (by omega)
  rcases h' with h' | ⟨ha, hb, hc⟩
  · exact Or.inl (by simpa using h')
  · refine Or.inr ⟨by simpa [BitVec.sle] using ha, by simpa [BitVec.slt] using hb, ?_⟩
    rw [← h2]
    simpa [BitVec.slt] using hc

theorem routed_of (A0 : IVec S32768x128 32) (A1 : IVec S128x128 32) (h0 : rangeP (firstP A1) = fun _ => 1#1) (h1 : okP (firstP A1) (endP (firstP A1)) (slotP A0) = fun _ => 1#1) : Routed A0 A1 := by
  have hf : ∀ b e t, 0 ≤ (firstT A1 (ix3 b e t)).toInt ∧ (firstT A1 (ix3 b e t)).toInt ≤ 1024 := by
    intro b e t
    have h := congrFun h0 (ix3 b t e)
    pointwise [rangeP] at h
    rw [firstP_apply] at h
    exact range_word _ h
  refine ⟨hf, fun b e t j => ?_⟩
  have h := congrFun h1 (ix4 b t j e)
  pointwise [okP] at h
  rw [firstP_apply, slotP_apply] at h
  have hE : endP (firstP A1) (ix3 b t e) = endT (firstT A1) (ix3 b e t) := by
    rw [endP_apply, endT_apply]
    simp only [firstP_apply]
  rw [hE] at h
  exact ok_word _ _ _ (hf b e t).1 (hf b e t).2 h

end

end Cert.Kernel5Ideal.Hand

end
-- ==== Proof.CbTakeFin.lean ====
/-
  A window's row of an expert for a routed token is the expert's row at the token's slot.
-/
module

public import proofs.«01_k».proof.Proof.CbPre
public import proofs.«01_k».proof.Proof.CbHot

@[expose] public section

noncomputable section

namespace Cert.Kernel5Ideal.Hand

open Cert.Kernel5Ideal Cert.Kernel5Ideal.Gen
open Idealize.ShloMosaic Idealize.ShloMosaic.TcCoe Idealize.SL.Sem

/-- An expert's row at a slot, nothing for a token it does not take. -/
def pick (Y : Vec Ideal S1x16x1296x512 .bf16) (s : BitVec 32) (e : Fin 16) (d : Fin 512) : EReal :=
  if 0 ≤ s.toInt then Y (ix4 (0 : Fin 1) e (⟨min s.toInt.toNat 1295, by omega⟩ : Fin 1296) d) else 0

theorem take_pick (Y : Vec Ideal S1x16x1296x512 .bf16) (s f E : BitVec 32) (W : ℕ) (e : Fin 16) (d : Fin 512)
    (hf : 0 ≤ f.toInt ∧ f.toInt ≤ 1024) (hE : E.toInt ≤ 1024)
    (h : s = 4294967295#32 ∨ (f.toInt ≤ s.toInt ∧ s.toInt < E.toInt ∧ s.toInt < f.toInt + 256))
    (hW : W = 272 ∨ (W = 64 ∧ (E - baseW f).toInt ≤ 64)) :
    take Y s (baseW f) W e d = pick Y s e d := by
  obtain ⟨hb1, hb2, hb3⟩ := baseW_of f hf.1 hf.2
  have hfn := toInt_small f hf.1
  generalize baseW f = w at *
  unfold take pick
  rcases h with rfl | ⟨h1, h2, h3⟩
  · have hs : ¬ (0 : ℤ) ≤ (4294967295#32 : BitVec 32).toInt := by decide
    rw [if_neg hs, dif_neg]
    intro hh
    have : (4294967295#32 - w).toNat = 4294967295 - w.toNat := by
      rw [BitVec.toNat_sub]
      have : (4294967295#32 : BitVec 32).toNat = 4294967295 := by decide
      rw [this]
      omega
    omega
  · have hs0 : 0 ≤ s.toInt := by omega
    have hsn := toInt_small s hs0
    have hEn := toInt_small E (by omega)
    have e1 : (s - w).toNat = s.toNat - w.toNat := by
      rw [BitVec.toNat_sub]
      omega
    have e2 : (E - w).toNat = E.toNat - w.toNat := by
      rw [BitVec.toNat_sub]
      omega
    have e3 : (E - w).toInt = (E - w).toNat := by
      rw [BitVec.toInt_eq_toNat_cond, if_pos]
      omega
    rw [if_pos hs0, dif_pos ⟨by omega, by omega⟩]
    refine congrArg (fun k => Y (ix4 (0 : Fin 1) e k d)) (Fin.ext ?_)
    show w.toNat + (s - w).toNat = min s.toInt.toNat 1295
    omega

end Cert.Kernel5Ideal.Hand

end
-- ==== Proof.CbBlock.lean ====
/-
  The combine's windows at a grid point, and the output from its blocks.
-/
module

public import proofs.«01_k».proof.Proof.CbFrame
public import Idealize.ShloMosaic.Lib.Pipeline.Value
public import Idealize.ShloMosaic.Lib.Pipeline.ValueKit.Geometry
public import Idealize.ShloMosaic.Lib.Pointwise
public import Idealize.ShloMosaic.Lib.ValueIdxCore

@[expose] public section

set_option maxRecDepth 16384

noncomputable section

namespace Cert.Kernel5Ideal.Hand

open Cert.Kernel5Ideal Cert.Kernel5Ideal.Gen
open Idealize.ShloMosaic Idealize.ShloMosaic.TcCoe Idealize.SL.Sem
open Idealize.ShloMosaic.Pipeline (Dat Cfg Window)

theorem ix_at0 : ∀ t : Fin grid0.N, cc0_transform_0 (grid0.coords t) (0 : Fin 4) = (grid0.coords t 0).val ∧ cc0_transform_0 (grid0.coords t) (1 : Fin 4) = 0 ∧ cc0_transform_0 (grid0.coords t) (2 : Fin 4) = 0 ∧ cc0_transform_0 (grid0.coords t) (3 : Fin 4) = 0 := by decide +kernel
theorem ix_at1 : ∀ t : Fin grid0.N, cc0_transform_1 (grid0.coords t) (0 : Fin 4) = (grid0.coords t 0).val ∧ cc0_transform_1 (grid0.coords t) (1 : Fin 4) = 0 ∧ cc0_transform_1 (grid0.coords t) (2 : Fin 4) = 0 ∧ cc0_transform_1 (grid0.coords t) (3 : Fin 4) = (grid0.coords t 1).val := by decide +kernel
theorem ix_at2 : ∀ t : Fin grid0.N, cc0_transform_2 (grid0.coords t) (0 : Fin 2) = 8 * (grid0.coords t 0).val + (grid0.coords t 2).val ∧ cc0_transform_2 (grid0.coords t) (1 : Fin 2) = (grid0.coords t 1).val := by decide +kernel
theorem ix_at3 : ∀ t : Fin grid0.N, cc0_transform_3 (grid0.coords t) (0 : Fin 2) = 8 * (grid0.coords t 0).val + (grid0.coords t 2).val ∧ cc0_transform_3 (grid0.coords t) (1 : Fin 2) = (grid0.coords t 1).val := by decide +kernel
theorem ix_all3 : ∀ (a : Fin 32) (n : Fin 2), ∃ t : Fin grid0.N, cc0_transform_3 (grid0.coords t) (0 : Fin 2) = a.val ∧ cc0_transform_3 (grid0.coords t) (1 : Fin 2) = n.val := by decide +kernel
theorem flush3 : ∀ t : Fin grid0.N, Window.flushOf grid0 true cc0_transform_3 t = true := by decide +kernel

variable {F : FTy → Type} [FloatOps F]
variable (m : (ℓ : Loc nD τ sig) → Buf (Elt F) ℓ)

theorem c0_lt (t : Fin grid0.N) : (grid0.coords t 0).val < 4 := (grid0.coords t 0).isLt
theorem c1_lt (t : Fin grid0.N) : (grid0.coords t 1).val < 2 := (grid0.coords t 1).isLt
theorem c2_lt (t : Fin grid0.N) : (grid0.coords t 2).val < 8 := (grid0.coords t 2).isLt

/-- The output's row and column of an element of a block. -/
abbrev oRow (t : Fin grid0.N) (r : Fin 1024) : Fin 32768 := ⟨1024 * (8 * (grid0.coords t 0).val + (grid0.coords t 2).val) + r.val, by have := c0_lt t; have := c2_lt t; omega⟩
abbrev oCol (t : Fin grid0.N) (d : Fin 512) : Fin 1024 := ⟨512 * (grid0.coords t 1).val + d.val, by have := c1_lt t; omega⟩

theorem iblk0_at (c : Dev nD) (t : Fin grid0.N) (e : Fin 16) (s : Fin 8192) :
    (iblk m c 0 t : Vec F S1x16x1x8192 .i32) (ix4 (0 : Fin 1) e (0 : Fin 1) s) = (V m c main_v3 : Vec F S4x16x1x8192 .i32) (ix4 (⟨(grid0.coords t 0).val, c0_lt t⟩ : Fin 4) e (0 : Fin 1) s) := by
  obtain ⟨a0, a1, a2, a3⟩ := ix_at0 t
  refine congrArg (V m c main_v3 : Vec F S4x16x1x8192 .i32) (funext fun a => Fin.ext ?_)
  match a with
  | ⟨0, _⟩ => show cc0_transform_0 (grid0.coords t) (0 : Fin 4) * 1 + 1 * 0 = (grid0.coords t 0).val; omega
  | ⟨1, _⟩ => show cc0_transform_0 (grid0.coords t) (1 : Fin 4) * 16 + 1 * e.val = e.val; omega
  | ⟨2, _⟩ => show cc0_transform_0 (grid0.coords t) (2 : Fin 4) * 1 + 1 * 0 = 0; omega
  | ⟨3, _⟩ => show cc0_transform_0 (grid0.coords t) (3 : Fin 4) * 8192 + 1 * s.val = s.val; omega

theorem iblk1_at (c : Dev nD) (t : Fin grid0.N) (e : Fin 16) (r : Fin 1296) (d : Fin 512) :
    (iblk m c 1 t : Vec F S1x16x1296x512 .bf16) (ix4 (0 : Fin 1) e r d) = (V m c main_arg2 : Vec F S4x16x1296x1024 .bf16) (ix4 (⟨(grid0.coords t 0).val, c0_lt t⟩ : Fin 4) e r (oCol t d)) := by
  obtain ⟨a0, a1, a2, a3⟩ := ix_at1 t
  refine congrArg (V m c main_arg2 : Vec F S4x16x1296x1024 .bf16) (funext fun a => Fin.ext ?_)
  match a with
  | ⟨0, _⟩ => show cc0_transform_1 (grid0.coords t) (0 : Fin 4) * 1 + 1 * 0 = (grid0.coords t 0).val; omega
  | ⟨1, _⟩ => show cc0_transform_1 (grid0.coords t) (1 : Fin 4) * 16 + 1 * e.val = e.val; omega
  | ⟨2, _⟩ => show cc0_transform_1 (grid0.coords t) (2 : Fin 4) * 1296 + 1 * r.val = r.val; omega
  | ⟨3, _⟩ => show cc0_transform_1 (grid0.coords t) (3 : Fin 4) * 512 + 1 * d.val = 512 * (grid0.coords t 1).val + d.val; omega

theorem iblk2_at (c : Dev nD) (t : Fin grid0.N) (r : Fin 1024) (d : Fin 512) :
    (iblk m c 2 t : Vec F S1024x512 .f32) (ix2 r d) = (V m c main_arg3 : Vec F S32768x1024 .f32) (ix2 (oRow t r) (oCol t d)) := by
  obtain ⟨a0, a1⟩ := ix_at2 t
  refine congrArg (V m c main_arg3 : Vec F S32768x1024 .f32) (funext fun a => Fin.ext ?_)
  match a with
  | ⟨0, _⟩ => show cc0_transform_2 (grid0.coords t) (0 : Fin 2) * 1024 + 1 * r.val = 1024 * (8 * (grid0.coords t 0).val + (grid0.coords t 2).val) + r.val; omega
  | ⟨1, _⟩ => show cc0_transform_2 (grid0.coords t) (1 : Fin 2) * 512 + 1 * d.val = 512 * (grid0.coords t 1).val + d.val; omega

theorem emb3 (t : Fin (cfgM m).N) (y : S1024x512.Idx) : ((((cfgM m).win 3).blk t).view.emb y : S32768x1024.Idx) = ix2 (oRow t (y 0)) (oCol t (y 1)) := by
  obtain ⟨a0, a1⟩ := ix_at3 t
  refine funext fun a => Fin.ext ?_
  match a with
  | ⟨0, _⟩ => show cc0_transform_3 (grid0.coords t) (0 : Fin 2) * 1024 + 1 * (y 0).val = 1024 * (8 * (grid0.coords t 0).val + (grid0.coords t 2).val) + (y 0).val; omega
  | ⟨1, _⟩ => show cc0_transform_3 (grid0.coords t) (1 : Fin 2) * 512 + 1 * (y 1).val = 512 * (grid0.coords t 1).val + (y 1).val; omega

theorem cover3 (i : S32768x1024.Idx) : ∃ t : Fin (cfgM m).N, ((cfgM m).win 3).flush t = true ∧ i ∈ (((cfgM m).win 3).blk t).view.set := by
  have h0 : (i 0).val < 32768 := (i 0).isLt
  have h1 : (i 1).val < 1024 := (i 1).isLt
  obtain ⟨t, a0, a1⟩ := ix_all3 ⟨(i 0).val / 1024, by omega⟩ ⟨(i 1).val / 512, by omega⟩
  refine ⟨t, flush3 t, ?_⟩
  have a0' : cc0_transform_3 (grid0.coords t) (0 : Fin 2) = (i 0).val / 1024 := a0
  have a1' : cc0_transform_3 (grid0.coords t) (1 : Fin 2) = (i 1).val / 512 := a1
  obtain ⟨b0, b1⟩ := ix_at3 t
  have e : (((cfgM m).win 3).blk t).view.emb (ix2 (⟨(i 0).val % 1024, Nat.mod_lt _ (by decide)⟩ : Fin 1024) (⟨(i 1).val % 512, Nat.mod_lt _ (by decide)⟩ : Fin 512) : S1024x512.Idx) = i := by
    refine (emb3 m t _).trans (funext fun a => Fin.ext ?_)
    match a with
    | ⟨0, _⟩ => show 1024 * (8 * (grid0.coords t 0).val + (grid0.coords t 2).val) + (i 0).val % 1024 = (i 0).val; omega
    | ⟨1, _⟩ => show 512 * (grid0.coords t 1).val + (i 1).val % 512 = (i 1).val; omega
  exact Finset.mem_map.2 ⟨_, Finset.mem_univ _, e⟩

theorem final_of (hT : TOk m) (c : Dev nD) (G : Vec F S32768x1024 .f32)
    (h : ∀ (t : Fin (cfgM m).N) (r : Fin 1024) (d : Fin 512), outAt m hT c t (ix2 r d) = G (ix2 (oRow t r) (oCol t d))) :
    (dats m hT 0 c).arrAt 3 (cfgM m).N = G := by
  refine (dats m hT 0 c).arrAt_eq_of_cover 3 G (fun t _ => ?_) (cover3 m)
  funext y
  obtain ⟨z, hz⟩ : ∃ z : S1024x512.Idx, z = y := ⟨y, rfl⟩
  have hx : (((cfgM m).win 3).xinj (grid0.coords t) y : S1024x512.Idx) = ix2 (z 0) (z 1) := by
    subst hz
    funext a
    refine Fin.ext ?_
    match a with
    | ⟨0, _⟩ => rfl
    | ⟨1, _⟩ => rfl
  refine (congrFun (after0_3 m hT c t) _).trans ?_
  refine (congrArg (outAt m hT c t) hx).trans ?_
  refine (h t _ _).trans (congrArg G ?_)
  subst hz
  exact (emb3 m t z).symm

end Cert.Kernel5Ideal.Hand

end
-- ==== Proof.CbFits.lean ====
/-
  A grid point takes the narrow windows only where every expert's rows fit in them.
-/
module

public import proofs.«01_k».proof.Proof.CbTakeFin
public import proofs.«01_k».proof.Proof.CbOutB
public import proofs.«01_k».proof.Proof.CbBlock

@[expose] public section

set_option maxRecDepth 16384

noncomputable section

namespace Cert.Kernel5Ideal.Hand

open Cert.Kernel5Ideal Cert.Kernel5Ideal.Gen
open Idealize.ShloMosaic Idealize.ShloMosaic.TcCoe Idealize.SL.Sem

theorem cond1_all (a b c d : BitVec 32) (h : k0_cond1 a b c d = 1#1) : a = 1#32 ∧ b = 1#32 ∧ c = 1#32 ∧ d = 1#32 := by
  have key : ∀ p q r s : Bool, Scalar.cmpi .ne (Scalar.extui (Scalar.andi (Scalar.andi (Scalar.andi (BitVec.ofBool p) (BitVec.ofBool q)) (BitVec.ofBool r)) (BitVec.ofBool s)) : BitVec 32) 0#32 = 1#1 → p = true ∧ q = true ∧ r = true ∧ s = true := by decide
  have h' : (a == 1#32) = true ∧ (b == 1#32) = true ∧ (c == 1#32) = true ∧ (d == 1#32) = true := key _ _ _ _ h
  simpa using h'

theorem fit_at (arg4 : Memref sig .tc .smem S128 .i32) (harg4 : arg4.IsWhole) (t4 : Vec Ideal S128 .i32) (i : grid0.Coords) (off : Fin 1 → ℕ) (inb : ∀ a, off a + S1.size a ≤ S128.size a) (n : ℕ) (hn : n < 128) (h : off 0 = n) :
    fitW i arg4 harg4 t4 off inb = t4 (ix1 (⟨n, hn⟩ : Fin 128)) := by
  refine (harg4.readAt_unread _ _ _).trans (congrArg t4 (funext fun a => ?_))
  match a with
  | ⟨0, _⟩ => exact Fin.ext (show off 0 + 1 * 0 = n by omega)

theorem fits_of_condA (i : grid0.Coords) (arg4 : Memref sig .tc .smem S128 .i32) (harg4 : arg4.IsWhole) (t4 : Vec Ideal S128 .i32) (hc : condA i arg4 harg4 t4) (u : Fin 4) :
    t4 (ix1 (⟨32 * (i 0).val + (4 * (i 2).val + u.val), by have := i0_lt i; have := i2_lt i; omega⟩ : Fin 128)) = 1#32 := by
  obtain ⟨h0, h1, h2, h3⟩ := cond1_all _ _ _ _ hc
  have g0 := (by decide +kernel : ∀ (b : Fin 4) (t : Fin 8), k0_off17 (mkc b t) 0 = 32 * b.val + (4 * t.val + 0)) (i 0) (i 2)
  have g1 := (by decide +kernel : ∀ (b : Fin 4) (t : Fin 8), k0_off34 (mkc b t) 0 = 32 * b.val + (4 * t.val + 1)) (i 0) (i 2)
  have g2 := (by decide +kernel : ∀ (b : Fin 4) (t : Fin 8), k0_off51 (mkc b t) 0 = 32 * b.val + (4 * t.val + 2)) (i 0) (i 2)
  have g3 := (by decide +kernel : ∀ (b : Fin 4) (t : Fin 8), k0_off68 (mkc b t) 0 = 32 * b.val + (4 * t.val + 3)) (i 0) (i 2)
  have i0 := i0_lt i
  have i2 := i2_lt i
  match u with
  | 0 => exact (fit_at arg4 harg4 t4 i (k0_off17 i) (k0_off17_inb i) _ (by omega) g0).symm.trans h0
  | 1 => exact (fit_at arg4 harg4 t4 i (k0_off34 i) (k0_off34_inb i) _ (by omega) g1).symm.trans h1
  | 2 => exact (fit_at arg4 harg4 t4 i (k0_off51 i) (k0_off51_inb i) _ (by omega) g2).symm.trans h2
  | 3 => exact (fit_at arg4 harg4 t4 i (k0_off68 i) (k0_off68_inb i) _ (by omega) g3).symm.trans h3

/-- The output at a row and column. -/
def spec (A0 : IVec S32768x128 32) (A2 : FVec Ideal S4x16x1296x1024 .bf16) (A3 : FVec Ideal S32768x1024 .f32) (b : Fin 4) (s : Fin 8192) (n : Fin 1024) : EReal :=
  A3 (ix2 (⟨8192 * b.val + s.val, by omega⟩ : Fin 32768) n) + ∑ e : Fin 16, if 0 ≤ (slotT A0 (ix4 b e (0 : Fin 1) s)).toInt then A2 (ix4 b e (⟨min (slotT A0 (ix4 b e (0 : Fin 1) s)).toInt.toNat 1295, by omega⟩ : Fin 1296) n) else 0

theorem base_at (m : (ℓ : Loc nD τ sig) → Buf (Elt Ideal) ℓ) (b : Fin 4) (e : Fin 16) (t : Fin 32) :
    (V m 0 main_v19 : Vec Ideal S2048 .i32) (ix1 (⟨(16 * b.val + e.val) * 32 + t.val, by omega⟩ : Fin 2048)) = baseW (firstT (m (((0 : Dev nD) : Thread nD τ).loc main_arg1)) (ix3 b e t)) := by
  rw [V_base]
  generalize firstT _ = f
  rw [← baseT_apply]
  generalize baseT f = g
  pointwise []

theorem end_le (A1 : IVec S128x128 32) (hf : ∀ b e t, 0 ≤ (firstT A1 (ix3 b e t)).toInt ∧ (firstT A1 (ix3 b e t)).toInt ≤ 1024) (b : Fin 4) (e : Fin 16) (t : Fin 32) : (endT (firstT A1) (ix3 b e t)).toInt ≤ 1024 := by
  rw [endT_apply]
  split_ifs with h
  · exact (hf _ _ _).2
  · decide

set_option maxHeartbeats 2000000 in
/-- A row of a block, for windows wide enough. -/
theorem outRow_spec (m : (ℓ : Loc nD τ sig) → Buf (Elt Ideal) ℓ) (t : Fin (cfgM m).N) (W : ℕ)
    (hR : Routed (m (((0 : Dev nD) : Thread nD τ).loc main_arg0)) (m (((0 : Dev nD) : Thread nD τ).loc main_arg1))) (k : Fin 4)
    (hW : ∀ (e : Fin 16) (b : Fin 4) (u : Fin 32), b.val = (grid0.coords t 0).val → u.val = 4 * (grid0.coords t 2).val + k.val → W = 272 ∨ (W = 64 ∧ (endT (firstT (m (((0 : Dev nD) : Thread nD τ).loc main_arg1))) (ix3 b e u) - baseW (firstT (m (((0 : Dev nD) : Thread nD τ).loc main_arg1)) (ix3 b e u))).toInt ≤ 64))
    (j : Fin 256) (d : Fin 512) (b : Fin 4) (s : Fin 8192) (hb : b.val = (grid0.coords t 0).val) (hs : s.val = 256 * (4 * (grid0.coords t 2).val + k.val) + j.val) :
    outRow (grid0.coords t) (V m 0 main_v19) (iblk m 0 0 t) (iblk m 0 1 t) (iblk m 0 2 t) W k j d
      = spec (m (((0 : Dev nD) : Thread nD τ).loc main_arg0)) (m (((0 : Dev nD) : Thread nD τ).loc main_arg2)) (m (((0 : Dev nD) : Thread nD τ).loc main_arg3)) b s (oCol t d) := by
  have c0 := c0_lt t
  have c2 := c2_lt t
  unfold outRow spec
  refine congrArg₂ (fun x y : EReal => x + y) ?_ (Finset.sum_congr rfl fun e _ => ?_)
  · refine (iblk2_at m 0 t _ d).trans ?_
    rw [V_main_arg3]
    refine congrArg _ (congrArg₂ ix2 (Fin.ext ?_) rfl)
    show 1024 * (8 * (grid0.coords t 0).val + (grid0.coords t 2).val) + (256 * k.val + j.val) = 8192 * b.val + s.val
    omega
  · obtain ⟨u, hu⟩ : ∃ u : Fin 32, u.val = 4 * (grid0.coords t 2).val + k.val := ⟨⟨4 * (grid0.coords t 2).val + k.val, by omega⟩, rfl⟩
    have es : (iblk m 0 0 t : Vec Ideal S1x16x1x8192 .i32) (ix4 (0 : Fin 1) e (0 : Fin 1) (⟨256 * (4 * (grid0.coords t 2).val + k.val) + j.val, by omega⟩ : Fin 8192)) = slotT (m (((0 : Dev nD) : Thread nD τ).loc main_arg0)) (ix4 b e (0 : Fin 1) s) := by
      refine (iblk0_at m 0 t e _).trans ?_
      rw [V_slot]
      have e1 : (⟨(grid0.coords t 0).val, c0_lt t⟩ : Fin 4) = b := Fin.ext hb.symm
      have e2 : (⟨256 * (4 * (grid0.coords t 2).val + k.val) + j.val, by omega⟩ : Fin 8192) = s := Fin.ext hs.symm
      rw [e1, e2]
    have ew : (V m 0 main_v19 : Vec Ideal S2048 .i32) (ix1 (⟨(16 * (grid0.coords t 0).val + e.val) * 32 + 4 * (grid0.coords t 2).val + k.val, by omega⟩ : Fin 2048)) = baseW (firstT (m (((0 : Dev nD) : Thread nD τ).loc main_arg1)) (ix3 b e u)) := by
      rw [← base_at m b e u]
      refine congrArg _ (congrArg ix1 (Fin.ext ?_))
      show (16 * (grid0.coords t 0).val + e.val) * 32 + 4 * (grid0.coords t 2).val + k.val = (16 * b.val + e.val) * 32 + u.val
      omega
    rw [es, ew]
    have h := hR.slot b e u j
    have e3 : (⟨256 * u.val + j.val, by omega⟩ : Fin 8192) = s := Fin.ext (by show 256 * u.val + j.val = s.val; omega)
    rw [e3] at h
    refine (take_pick _ _ _ _ W e d (hR.first b e u) (end_le _ hR.first b e u) h (hW e b u hb hu)).trans ?_
    unfold pick
    refine ite_congr rfl (fun _ => ?_) (fun _ => rfl)
    refine (iblk1_at m 0 t e _ d).trans ?_
    rw [V_main_arg2]
    have e1 : (⟨(grid0.coords t 0).val, c0_lt t⟩ : Fin 4) = b := Fin.ext hb.symm
    rw [e1]

end Cert.Kernel5Ideal.Hand

end
-- ==== Proof.CbRef.lean ====
/-
  The reference of the experts' sum: its run read back, and its result at every index.
-/
module

public import proofs.«01_k».proof.Proof.Gen.Reference5Ideal
public import Idealize.ShloMosaic.Lib.StableHlo.Run
public import Idealize.ShloMosaic.Lib.Pointwise
public import Idealize.ShloMosaic.Lib.ValueIdxCore

@[expose] public section

set_option maxRecDepth 16384

noncomputable section

namespace Cert.Reference5Ideal.Combine

open Cert.Reference5Ideal Cert.Reference5Ideal.Gen Idealize.ShloMosaic Idealize.ShloMosaic.TcCoe Idealize.SL.Sem Idealize.ShloMosaic.StableHlo

section
variable {F : FTy → Type} [FloatOps F]

/-- The program's operations, in order. -/
abbrev ops : List (HloOp τ sig (Elt F)) :=
  [ StableHlo.reshape main_arg0 main_v0 (rfl : (.i32 : EltTy) = .i32) shapeCasts_S32768x128_S4x8192x128,
    StableHlo.unary main_v0 main_v1 ((extractStridedSlice S4x8192x16 ![0, 0, 0] · slices_S4x8192x128_S4x8192x16_0_0_0) : (⟨S4x8192x128, .i32⟩ : BufTy).Contents (Elt F) → (⟨S4x8192x16, .i32⟩ : BufTy).Contents (Elt F)),
    StableHlo.unary main_v1 main_v2 ((transpose S4x16x8192 [0, 2, 1] · transposes_S4x8192x16_S4x16x8192_0_2_1) : (⟨S4x8192x16, .i32⟩ : BufTy).Contents (Elt F) → (⟨S4x16x8192, .i32⟩ : BufTy).Contents (Elt F)),
    StableHlo.unary main_arg2 main_v3 ((extf .f32 · bitsLt_bf16_f32) : (⟨S4x16x1296x1024, .bf16⟩ : BufTy).Contents (Elt F) → (⟨S4x16x1296x1024, .f32⟩ : BufTy).Contents (Elt F)),
    StableHlo.nullary main_c (constantI S_ 32 0#32),
    StableHlo.unary main_c main_v4 (broadcastInDim S4x16x8192 ![] bcast_S_S4x16x8192 : (⟨S_, .i32⟩ : BufTy).Contents (Elt F) → (⟨S4x16x8192, .i32⟩ : BufTy).Contents (Elt F)),
    StableHlo.binary main_v2 main_v4 main_v5 (maxsi : (⟨S4x16x8192, .i32⟩ : BufTy).Contents (Elt F) → (⟨S4x16x8192, .i32⟩ : BufTy).Contents (Elt F) → (⟨S4x16x8192, .i32⟩ : BufTy).Contents (Elt F)),
    StableHlo.unary main_v5 main_v6 (broadcastInDim S4x16x8192x1 ![0, 1, 2] bcast_S4x16x8192_S4x16x8192x1_0_1_2 : (⟨S4x16x8192, .i32⟩ : BufTy).Contents (Elt F) → (⟨S4x16x8192x1, .i32⟩ : BufTy).Contents (Elt F)),
    TRef.nullary (TRef.of (T := ⟨S_, .i32⟩) main_call0_c) (constantI S_ 32 0#32),
    TRef.unary (TRef.of (T := ⟨S_, .i32⟩) main_call0_c) (TRef.of (T := ⟨S4x16x8192x1, .i32⟩) main_call0_v0) (broadcastInDim S4x16x8192x1 ![] bcast_S_S4x16x8192x1),
    TRef.binary (TRef.of (T := ⟨S4x16x8192x1, .i32⟩) main_v6) (TRef.of (T := ⟨S4x16x8192x1, .i32⟩) main_call0_v0) (TRef.of (T := ⟨S4x16x8192x1, .i1⟩) main_call0_v1) (cmpi .slt),
    TRef.nullary (TRef.of (T := ⟨S_, .i32⟩) main_call0_c_0) (constantI S_ 32 1296#32),
    TRef.unary (TRef.of (T := ⟨S_, .i32⟩) main_call0_c_0) (TRef.of (T := ⟨S4x16x8192x1, .i32⟩) main_call0_v2) (broadcastInDim S4x16x8192x1 ![] bcast_S_S4x16x8192x1),
    TRef.binary (TRef.of (T := ⟨S4x16x8192x1, .i32⟩) main_v6) (TRef.of (T := ⟨S4x16x8192x1, .i32⟩) main_call0_v2) (TRef.of (T := ⟨S4x16x8192x1, .i32⟩) main_call0_v3) addi,
    TRef.ternary (TRef.of (T := ⟨S4x16x8192x1, .i1⟩) main_call0_v1) (TRef.of (T := ⟨S4x16x8192x1, .i32⟩) main_call0_v3) (TRef.of (T := ⟨S4x16x8192x1, .i32⟩) main_v6) (TRef.of (T := ⟨S4x16x8192x1, .i32⟩) main_call0_v4) select,
    TRef.binary (TRef.of (T := ⟨S4x16x1296x1024, .f32⟩) main_v3) (TRef.of (T := ⟨S4x16x8192x1, .i32⟩) main_call0_v4) (TRef.of (T := ⟨S4x16x8192x1024, .f32⟩) main_v7) (fun x i => Host.gather gather_S4x16x1296x1024_S4x16x8192x1_S4x16x8192x1024_3_2_01_01_2_3_1111024 x i),
    StableHlo.unary main_v2 main_v8 (broadcastInDim S4x16x8192x1 ![0, 1, 2] bcast_S4x16x8192_S4x16x8192x1_0_1_2 : (⟨S4x16x8192, .i32⟩ : BufTy).Contents (Elt F) → (⟨S4x16x8192x1, .i32⟩ : BufTy).Contents (Elt F)),
    StableHlo.nullary main_c_0 (constantI S_ 32 0#32),
    StableHlo.unary main_c_0 main_v9 (broadcastInDim S4x16x8192x1 ![] bcast_S_S4x16x8192x1 : (⟨S_, .i32⟩ : BufTy).Contents (Elt F) → (⟨S4x16x8192x1, .i32⟩ : BufTy).Contents (Elt F)),
    StableHlo.binary main_v8 main_v9 main_v10 (cmpi .sge : (⟨S4x16x8192x1, .i32⟩ : BufTy).Contents (Elt F) → (⟨S4x16x8192x1, .i32⟩ : BufTy).Contents (Elt F) → (⟨S4x16x8192x1, .i1⟩ : BufTy).Contents (Elt F)),
    StableHlo.nullary main_cst (constant S_ .f32 0x00000000#32),
    TRef.unary (TRef.of (T := ⟨S_, .f32⟩) main_cst) (TRef.of (T := ⟨S_, .f32⟩) main_call1_v0) id,
    TRef.unary (TRef.of (T := ⟨S4x16x8192x1, .i1⟩) main_v10) (TRef.of (T := ⟨S4x16x8192x1024, .i1⟩) main_call1_v1) (broadcastInDim S4x16x8192x1024 ![0, 1, 2, 3] bcast_S4x16x8192x1_S4x16x8192x1024_0_1_2_3),
    TRef.unary (TRef.of (T := ⟨S_, .f32⟩) main_call1_v0) (TRef.of (T := ⟨S4x16x8192x1024, .f32⟩) main_call1_v2) (broadcastInDim S4x16x8192x1024 ![] bcast_S_S4x16x8192x1024),
    TRef.ternary (TRef.of (T := ⟨S4x16x8192x1024, .i1⟩) main_call1_v1) (TRef.of (T := ⟨S4x16x8192x1024, .f32⟩) main_v7) (TRef.of (T := ⟨S4x16x8192x1024, .f32⟩) main_call1_v2) (TRef.of (T := ⟨S4x16x8192x1024, .f32⟩) main_v11) select,
    StableHlo.nullary main_cst_1 (constant S_ .f32 0x00000000#32),
    StableHlo.binary main_v11 main_cst_1 main_v12 ((fun x v => Host.reduceAdd x v reducesTo_S4x16x8192x1024_S4x8192x1024_d1 h_S_) : (⟨S4x16x8192x1024, .f32⟩ : BufTy).Contents (Elt F) → (⟨S_, .f32⟩ : BufTy).Contents (Elt F) → (⟨S4x8192x1024, .f32⟩ : BufTy).Contents (Elt F)),
    StableHlo.reshape main_v12 main_v13 (rfl : (.f32 : EltTy) = .f32) shapeCasts_S4x8192x1024_S32768x1024,
    StableHlo.binary main_arg3 main_v13 main_v14 (addf : (⟨S32768x1024, .f32⟩ : BufTy).Contents (Elt F) → (⟨S32768x1024, .f32⟩ : BufTy).Contents (Elt F) → (⟨S32768x1024, .f32⟩ : BufTy).Contents (Elt F)) ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨reshape_bufs_sub .., unary_bufs_sub .., unary_bufs_sub .., unary_bufs_sub .., nullary_bufs_sub .., unary_bufs_sub .., binary_bufs_sub .., unary_bufs_sub .., nullary_bufs_sub .., unary_bufs_sub .., binary_bufs_sub .., nullary_bufs_sub .., unary_bufs_sub .., binary_bufs_sub .., ternary_bufs_sub .., binary_bufs_sub .., unary_bufs_sub .., nullary_bufs_sub .., unary_bufs_sub .., binary_bufs_sub .., nullary_bufs_sub .., unary_bufs_sub .., unary_bufs_sub .., unary_bufs_sub .., ternary_bufs_sub .., nullary_bufs_sub .., binary_bufs_sub .., reshape_bufs_sub .., binary_bufs_sub ..⟩

/-- The slot of every token and expert. -/
def rowT (A0 : IVec S32768x128 32) : IVec S4x16x8192 32 :=
  transpose S4x16x8192 [0, 2, 1] (extractStridedSlice S4x8192x16 ![0, 0, 0] (shapeCast S4x8192x128 A0 shapeCasts_S32768x128_S4x8192x128) slices_S4x8192x128_S4x8192x16_0_0_0) transposes_S4x8192x16_S4x16x8192_0_2_1

/-- The row an expert's rows are read at. -/
def atT (r : IVec S4x16x8192 32) : IVec S4x16x8192x1 32 :=
  broadcastInDim S4x16x8192x1 ![0, 1, 2] bcast_S4x16x8192_S4x16x8192x1_0_1_2 (maxsi r (broadcastInDim S4x16x8192 ![] bcast_S_S4x16x8192 (constantI S_ 32 0#32)))

/-- The same, counted from the end where negative. -/
def idxT (v : IVec S4x16x8192x1 32) : IVec S4x16x8192x1 32 :=
  select (cmpi .slt v (broadcastInDim S4x16x8192x1 ![] bcast_S_S4x16x8192x1 (constantI S_ 32 0#32))) (addi v (broadcastInDim S4x16x8192x1 ![] bcast_S_S4x16x8192x1 (constantI S_ 32 1296#32))) v

/-- Every token's row of every expert. -/
def ownT (A0 : IVec S32768x128 32) (A2 : FVec F S4x16x1296x1024 .bf16) : FVec F S4x16x8192x1024 .f32 :=
  Host.gather gather_S4x16x1296x1024_S4x16x8192x1_S4x16x8192x1024_3_2_01_01_2_3_1111024 (extf .f32 A2 bitsLt_bf16_f32) (idxT (atT (rowT A0)))

/-- The same where the expert took the token, zero elsewhere. -/
def selT (r : IVec S4x16x8192 32) (own : FVec F S4x16x8192x1024 .f32) : FVec F S4x16x8192x1024 .f32 :=
  select (broadcastInDim S4x16x8192x1024 ![0, 1, 2, 3] bcast_S4x16x8192x1_S4x16x8192x1024_0_1_2_3 (cmpi .sge (broadcastInDim S4x16x8192x1 ![0, 1, 2] bcast_S4x16x8192_S4x16x8192x1_0_1_2 r) (broadcastInDim S4x16x8192x1 ![] bcast_S_S4x16x8192x1 (constantI S_ 32 0#32)))) own (broadcastInDim S4x16x8192x1024 ![] bcast_S_S4x16x8192x1024 (constant S_ .f32 0x00000000#32))

/-- The result. -/
def refT (A0 : IVec S32768x128 32) (A2 : FVec F S4x16x1296x1024 .bf16) (A3 : FVec F S32768x1024 .f32) : FVec F S32768x1024 .f32 :=
  addf A3 (shapeCast S32768x1024 (Host.reduceAdd (selT (rowT A0) (ownT A0 A2)) (constant S_ .f32 0x00000000#32) reducesTo_S4x16x8192x1024_S4x8192x1024_d1 h_S_) shapeCasts_S4x8192x1024_S32768x1024)

set_option maxHeartbeats 2000000 in
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v14) = refT (m ((c.tc : Thread nD τ).loc main_arg0)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v14).trans (by simp only [ops, TRef.nullary, TRef.binary, TRef.ternary, TRef.unary, TRef.toBuf, TRef.ofBuf, cast_eq]; after_results_simp <;> rfl),
      (h c main_arg0).trans (by simp only [ops, TRef.nullary, TRef.binary, TRef.ternary, TRef.unary, TRef.toBuf, TRef.ofBuf, cast_eq]; after_results_simp <;> rfl),
      (h c main_arg1).trans (by simp only [ops, TRef.nullary, TRef.binary, TRef.ternary, TRef.unary, TRef.toBuf, TRef.ofBuf, cast_eq]; after_results_simp <;> rfl),
      (h c main_arg2).trans (by simp only [ops, TRef.nullary, TRef.binary, TRef.ternary, TRef.unary, TRef.toBuf, TRef.ofBuf, cast_eq]; after_results_simp <;> rfl),
      (h c main_arg3).trans (by simp only [ops, TRef.nullary, TRef.binary, TRef.ternary, TRef.unary, TRef.toBuf, TRef.ofBuf, cast_eq]; after_results_simp <;> rfl)⟩)
    (run_seq scopedRefs_eq scopedSems_eq defs main (fun _ => ops) main_eq (fun _ => ops_sub) m ρ)

end

end Cert.Reference5Ideal.Combine

end
-- ==== Proof.CbRefVal.lean ====
/-
  The reference's result at every index over the extended reals.
-/
module

public import proofs.«01_k».proof.Proof.CbRef
public import Idealize.ShloMosaic.Lib.Pointwise
public import Idealize.ShloMosaic.Lib.ValueIdxCore

@[expose] public section

set_option maxRecDepth 16384

noncomputable section

namespace Cert.Reference5Ideal.Combine

open Cert.Reference5Ideal Cert.Reference5Ideal.Gen Idealize.ShloMosaic Idealize.ShloMosaic.TcCoe Idealize.SL.Sem

theorem rowT_apply (A0 : IVec S32768x128 32) (b : Fin 4) (e : Fin 16) (s : Fin 8192) :
    rowT A0 (ix3 b e s) = A0 (ix2 (⟨8192 * b.val + s.val, by omega⟩ : Fin 32768) (⟨e.val, by omega⟩ : Fin 128)) := by
  pointwise [rowT]
  refine congrArg A0 (congrArg₂ ix2 (Fin.ext ?_) rfl)
  show b.val * 8192 + s.val = 8192 * b.val + s.val
  omega

theorem idxT_apply (A0 : IVec S32768x128 32) (b : Fin 4) (e : Fin 16) (s : Fin 8192) (w : BitVec 32) (hw : rowT A0 (ix3 b e s) = w) (hw0 : 0 ≤ w.toInt) :
    idxT (atT (rowT A0)) (ix4 b e s (0 : Fin 1)) = w := by
  pointwise [idxT, atT]
  rw [hw]
  have h1 : IntOp.maxsi w 0#32 = w := by
    unfold IntOp.maxsi
    split_ifs with hc
    · rfl
    · refine BitVec.eq_of_toInt_eq ?_
      simp [BitVec.slt, BitVec.sle] at hc ⊢
      omega
  rw [h1]
  have h2 : IntOp.cmpi .slt w 0#32 = 0#1 := by
    have h3 : ¬ w.toInt < 0 := by omega
    simp [IntOp.cmpi, BitVec.slt, h3]
  rw [h2]
  rfl

theorem gather_rows (x : FVec Ideal S4x16x1296x1024 .f32) (idx : IVec S4x16x8192x1 32) (b : Fin 4) (e : Fin 16) (s : Fin 8192) (d : Fin 1024) :
    Host.gather gather_S4x16x1296x1024_S4x16x8192x1_S4x16x8192x1024_3_2_01_01_2_3_1111024 x idx (ix4 b e s d)
      = x (ix4 b e (⟨min (idx (ix4 b e s (0 : Fin 1))).toInt.toNat 1295, by omega⟩ : Fin 1296) d) := by
  let D := gather_S4x16x1296x1024_S4x16x8192x1_S4x16x8192x1024_3_2_01_01_2_3_1111024
  unfold Host.gather
  refine congrArg x (funext fun a => Fin.ext ?_)
  revert a
  show ∀ a : Fin 4, D.start (ix4 b e s d) idx a + D.batchCoord (ix4 b e s d) a + D.offCoord (ix4 b e s d) a = ((ix4 b e (⟨min (idx (ix4 b e s (0 : Fin 1))).toInt.toNat 1295, by omega⟩ : Fin 1296) d) a).val
  intro a
  match a with
  | 0 =>
    rw [GatherDims.start_batching D _ _ _ (by decide), GatherDims.offCoord_eq_zero D _ _ (fun h => ((GatherDims.mem_sKept _ _).mp h).2 (by decide))]
    simp only [Nat.zero_add, Nat.add_zero]
    unfold GatherDims.batchCoord
    rw [dif_pos (by decide)]
    rfl
  | 1 =>
    rw [GatherDims.start_batching D _ _ _ (by decide), GatherDims.offCoord_eq_zero D _ _ (fun h => ((GatherDims.mem_sKept _ _).mp h).2 (by decide))]
    simp only [Nat.zero_add, Nat.add_zero]
    unfold GatherDims.batchCoord
    rw [dif_pos (by decide)]
    rfl
  | 2 =>
    rw [GatherDims.batchCoord_eq_zero D _ _ (by decide), GatherDims.offCoord_eq_zero D _ _ (fun h => ((GatherDims.mem_sKept _ _).mp h).1 (by decide))]
    simp only [Nat.add_zero]
    unfold GatherDims.start
    rw [dif_pos (show (2 : Fin 4) ∈ D.startIndexMap from by decide)]
    have hsi : D.siIdx (ix4 b e s d) ⟨List.idxOf (2 : Fin 4) D.startIndexMap, List.idxOf_lt_length_iff.2 (by decide)⟩ = ix4 b e s (0 : Fin 1) := by
      funext c; refine Fin.ext ?_
      match c with
      | ⟨0, _⟩ => rfl
      | ⟨1, _⟩ => rfl
      | ⟨2, _⟩ => rfl
      | ⟨3, _⟩ => rfl
    rw [hsi]
    rfl
  | 3 =>
    rw [GatherDims.batchCoord_eq_zero D _ _ (by decide)]
    unfold GatherDims.start GatherDims.offCoord
    rw [dif_neg (by decide), dif_pos (by decide)]
    simp only [Nat.zero_add, Nat.add_zero]
    rfl

theorem refT_apply (A0 : IVec S32768x128 32) (A2 : FVec Ideal S4x16x1296x1024 .bf16) (A3 : FVec Ideal S32768x1024 .f32) (b : Fin 4) (s : Fin 8192) (d : Fin 1024) :
    refT A0 A2 A3 (ix2 (⟨8192 * b.val + s.val, by omega⟩ : Fin 32768) d)
      = A3 (ix2 (⟨8192 * b.val + s.val, by omega⟩ : Fin 32768) d) + ∑ e : Fin 16, selT (rowT A0) (ownT A0 A2) (ix4 b e s d) := by
  pointwise [refT]

theorem selT_apply (A0 : IVec S32768x128 32) (A2 : FVec Ideal S4x16x1296x1024 .bf16) (b : Fin 4) (e : Fin 16) (s : Fin 8192) (d : Fin 1024) (w : BitVec 32) (hw : rowT A0 (ix3 b e s) = w) :
    selT (rowT A0) (ownT A0 A2) (ix4 b e s d) = if 0 ≤ w.toInt then A2 (ix4 b e (⟨min w.toInt.toNat 1295, by omega⟩ : Fin 1296) d) else (0 : EReal) := by
  pointwise [selT]
  rw [hw]
  by_cases h : 0 ≤ w.toInt
  · have h2 : IntOp.cmpi .sge w 0#32 = 1#1 := by
      simp [IntOp.cmpi, BitVec.sle, h]
    rw [h2, if_pos h]
    show ownT A0 A2 (ix4 b e s d) = _
    unfold ownT
    rw [gather_rows]
    simp only [idxT_apply A0 b e s w hw h]
    rfl
  · have h2 : IntOp.cmpi .sge w 0#32 = 0#1 := by
      simp [IntOp.cmpi, BitVec.sle, h]
    rw [h2, if_neg h]
    rfl

end Cert.Reference5Ideal.Combine

end
-- ==== Proof.CbFinal.lean ====
/-
  The combination's output is the reference's: every block is, and the blocks cover the output.
-/
module

public import proofs.«01_k».proof.Proof.CbOutA
public import proofs.«01_k».proof.Proof.CbFits
public import proofs.«01_k».proof.Proof.CbRefVal

@[expose] public section

set_option maxRecDepth 16384

noncomputable section

namespace Cert.Kernel5Ideal.Hand

open Cert.Kernel5Ideal Cert.Kernel5Ideal.Gen
open Idealize.ShloMosaic Idealize.ShloMosaic.TcCoe Idealize.SL.Sem

variable (m : (ℓ : Loc nD τ sig) → Buf (Elt Ideal) ℓ)

theorem tok_of (hR : Routed (m (((0 : Dev nD) : Thread nD τ).loc main_arg0)) (m (((0 : Dev nD) : Thread nD τ).loc main_arg1))) : TOk m := by
  intro x
  rw [V_base]
  obtain ⟨j, hj⟩ : ∃ j : S4x16x32.Idx, shapeCast S2048 (baseT (firstT (m (((0 : Dev nD) : Thread nD τ).loc main_arg1)))) shapeCasts_S4x16x32_S2048 x = baseT (firstT (m (((0 : Dev nD) : Thread nD τ).loc main_arg1))) j := ⟨_, rfl⟩
  rw [hj, baseT_apply]
  have ej : j = ix3 (j 0) (j 1) (j 2) := by
    funext a
    match a with
    | ⟨0, _⟩ => rfl
    | ⟨1, _⟩ => rfl
    | ⟨2, _⟩ => rfl
  rw [ej]
  have hf := hR.first (j 0) (j 1) (j 2)
  have hb := baseW_of _ hf.1 hf.2
  have h2 := toInt_small _ hf.1
  have h3 : (firstT (m (((0 : Dev nD) : Thread nD τ).loc main_arg1)) (ix3 (j 0) (j 1) (j 2))).toNat ≤ 1024 := by omega
  exact ⟨hb.1, hb.2.1.trans h3⟩

theorem fits_at (b : Fin 4) (e : Fin 16) (u : Fin 32) (n : Fin 128) (hn : n.val = 32 * b.val + u.val)
    (h : (V m 0 main_v18 : Vec Ideal S128 .i32) (ix1 n) = 1#32) :
    (endT (firstT (m (((0 : Dev nD) : Thread nD τ).loc main_arg1))) (ix3 b e u) - baseW (firstT (m (((0 : Dev nD) : Thread nD τ).loc main_arg1)) (ix3 b e u))).toInt ≤ 64 := by
  have h' : fitsT (m (((0 : Dev nD) : Thread nD τ).loc main_arg1)) (ix1 (⟨32 * b.val + u.val, by omega⟩ : Fin 128)) = 1#32 :=
    (congrArg (fun n => fitsT (m (((0 : Dev nD) : Thread nD τ).loc main_arg1)) (ix1 n)) (Fin.ext hn).symm).trans ((congrFun (V_fits m 0) (ix1 n)).symm.trans h)
  have h2 := span_ge (firstT (m (((0 : Dev nD) : Thread nD τ).loc main_arg1))) b e u
  rw [baseT_apply] at h2
  exact h2.trans (fitsT_apply _ b u h')

set_option maxHeartbeats 2000000 in
theorem outAt_spec (hT : TOk m) (hR : Routed (m (((0 : Dev nD) : Thread nD τ).loc main_arg0)) (m (((0 : Dev nD) : Thread nD τ).loc main_arg1)))
    (t : Fin (cfgM m).N) (k : Fin 4) (j : Fin 256) (r : Fin 1024) (hr : r.val = 256 * k.val + j.val) (d : Fin 512) (b : Fin 4) (s : Fin 8192) (hb : b.val = (grid0.coords t 0).val) (hs : s.val = 1024 * (grid0.coords t 2).val + r.val) :
    outAt m hT 0 t (ix2 r d) = spec (m (((0 : Dev nD) : Thread nD τ).loc main_arg0)) (m (((0 : Dev nD) : Thread nD τ).loc main_arg2)) (m (((0 : Dev nD) : Thread nD τ).loc main_arg3)) b s (oCol t d) := by
  have c0 := c0_lt t
  have c2 := c2_lt t
  have hk : (⟨r.val / 256, by omega⟩ : Fin 4) = k := Fin.ext (by show r.val / 256 = k.val; omega)
  have hj : (⟨r.val % 256, by omega⟩ : Fin 256) = j := Fin.ext (by show r.val % 256 = j.val; omega)
  have ho : ∀ W : ℕ, outF (grid0.coords t) (V m 0 main_v19) (iblk m 0 0 t) (iblk m 0 1 t) (iblk m 0 2 t) W (ix2 r d) = outRow (grid0.coords t) (V m 0 main_v19) (iblk m 0 0 t) (iblk m 0 1 t) (iblk m 0 2 t) W k j d := by
    intro W
    exact congrArg₂ (fun (k : Fin 4) (j : Fin 256) => outRow (grid0.coords t) (V m 0 main_v19) (iblk m 0 0 t) (iblk m 0 1 t) (iblk m 0 2 t) W k j d) hk hj
  unfold outAt
  by_cases hc : condA (grid0.coords t) (Memref.whole main_v18) (Memref.isWhole_whole _) (V m 0 main_v18)
  · refine (outG_A _ _ _ _ _ _ _ _ _ _ _ _ _ _ _ _ _ _ _ _ _ _ hc _).trans ((ho 64).trans ?_)
    refine outRow_spec m t 64 hR k (fun e b' u hb' hu => Or.inr ⟨rfl, ?_⟩) j d b s hb (by omega)
    exact fits_at m b' e u _ (by show 32 * (grid0.coords t 0).val + (4 * (grid0.coords t 2).val + k.val) = 32 * b'.val + u.val; omega) (fits_of_condA _ _ _ _ hc k)
  · refine (outG_B _ _ _ _ _ _ _ _ _ _ _ _ _ _ _ _ _ _ _ _ _ _ hc _).trans ((ho 272).trans ?_)
    exact outRow_spec m t 272 hR k (fun e b' u hb' hu => Or.inl rfl) j d b s hb (by omega)

theorem ref_spec (A0 : IVec S32768x128 32) (A2 : FVec Ideal S4x16x1296x1024 .bf16) (A3 : FVec Ideal S32768x1024 .f32) (b : Fin 4) (s : Fin 8192) (n : Fin 1024) :
    Cert.Reference5Ideal.Combine.refT (F := Ideal) A0 A2 A3 (ix2 (⟨8192 * b.val + s.val, by omega⟩ : Fin 32768) n) = spec A0 A2 A3 b s n := by
  rw [Cert.Reference5Ideal.Combine.refT_apply]
  unfold spec
  refine congrArg₂ (fun x y : EReal => x + y) rfl (Finset.sum_congr rfl fun e _ => ?_)
  exact Cert.Reference5Ideal.Combine.selT_apply A0 A2 b e s n _ ((Cert.Reference5Ideal.Combine.rowT_apply A0 b e s).trans (slotT_apply A0 b e s).symm)

theorem final3 (hT : TOk m) (hR : Routed (m (((0 : Dev nD) : Thread nD τ).loc main_arg0)) (m (((0 : Dev nD) : Thread nD τ).loc main_arg1))) :
    (dats m hT 0 0).arrAt 3 (cfgM m).N = Cert.Reference5Ideal.Combine.refT (F := Ideal) (m (((0 : Dev nD) : Thread nD τ).loc main_arg0)) (m (((0 : Dev nD) : Thread nD τ).loc main_arg2)) (m (((0 : Dev nD) : Thread nD τ).loc main_arg3)) := by
  refine final_of m hT 0 _ fun t r d => ?_
  have c0 := c0_lt t
  have c2 := c2_lt t
  obtain ⟨b, hb⟩ : ∃ b : Fin 4, b.val = (grid0.coords t 0).val := ⟨⟨_, c0⟩, rfl⟩
  obtain ⟨s, hs⟩ : ∃ s : Fin 8192, s.val = 1024 * (grid0.coords t 2).val + r.val := ⟨⟨1024 * (grid0.coords t 2).val + r.val, by omega⟩, rfl⟩
  refine (outAt_spec m hT hR t ⟨r.val / 256, by omega⟩ ⟨r.val % 256, by omega⟩ r (by show r.val = 256 * (r.val / 256) + r.val % 256; omega) d b s hb hs).trans ?_
  rw [← ref_spec]
  refine congrArg _ (congrArg₂ ix2 (Fin.ext ?_) rfl)
  show 8192 * b.val + s.val = 1024 * (8 * (grid0.coords t 0).val + (grid0.coords t 2).val) + r.val
  omega

theorem run_value (ρ : Dev nD → PrngReg) (hT : TOk m) (hR : Routed (m (((0 : Dev nD) : Thread nD τ).loc main_arg0)) (m (((0 : Dev nD) : Thread nD τ).loc main_arg1))) :
    θ_run defs (onTc (τ := τ) (main (F := Ideal))) ⟨m, fun _ => 0, ρ⟩ (fun r => ∀ c : Dev nD,
      r.2.mem ((c.tc : Thread nD τ).loc main_v20) = Cert.Reference5Ideal.Combine.refT (F := Ideal) (m ((c.tc : Thread nD τ).loc main_arg0)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  have h1 : θ_run defs (onTc (τ := τ) (main (F := Ideal))) ⟨m, fun _ => 0, ρ⟩ (fun r => ∀ c : Dev nD,
      r.2.mem ((c.tc : Thread nD τ).loc main_v20) = Cert.Reference5Ideal.Combine.refT (F := Ideal) (m ((c.tc : Thread nD τ).loc main_arg0)) (m ((c.tc : Thread nD τ).loc main_arg2)) (m ((c.tc : Thread nD τ).loc main_arg3))) := by
    refine (θ_run defs _ _).mono (fun r h c => ?_) (run_main m ρ hT)
    obtain rfl : c = 0 := Subsingleton.elim _ _
    exact ((h 0).1 3).trans (final3 m hT hR)
  exact (θ_run defs _ _).mono (fun r h c => ⟨h.1 c, h.2 c⟩) (θ_run_and h1 (unchanged m ρ hT))

section
attribute [local instance] Cert.Pre_routed.Gen.facts

theorem routed_of_fn (A2 : FVec Ideal S4x16x1296x1024 .bf16) (A3 : FVec Ideal S32768x1024 .f32) (A0 : IVec S32768x128 32) (A1 : IVec S128x128 32)
    (h : (Cert.Pre_routed.fn (F := Ideal) A0 A1 A2 A3).1 = (fun _ => 1#1) ∧ (Cert.Pre_routed.fn (F := Ideal) A0 A1 A2 A3).2 = (fun _ => 1#1)) : Routed A0 A1 := by
  rw [fn_eq] at h
  exact routed_of A0 A1 h.1 h.2

end

end Cert.Kernel5Ideal.Hand

end
-- ==== Proof.KbPre.lean ====
/-
  The compiled program's windows are in bounds of the routed tables.
-/
module

public import proofs.«01_k».proof.Proof.CbPre
public import proofs.«01_k».proof.Proof.KbFrame

@[expose] public section

set_option maxRecDepth 16384

noncomputable section

namespace Cert.Kernel5.Hand

open Cert.Kernel5 Cert.Kernel5.Gen
open Idealize.ShloMosaic Idealize.ShloMosaic.TcCoe Idealize.SL.Sem
open Cert.Kernel5Ideal.Hand (firstT baseT baseW baseW_of baseT_apply toInt_small Routed routed_of fn_eq)

variable (m : (ℓ : Loc nD τ sig) → Buf (Elt Bits) ℓ)

set_option maxHeartbeats 1000000 in
theorem V_base (c : Dev nD) : (V m c main_v19 : Vec Bits S2048 .i32) = shapeCast S2048 (baseT (firstT (m ((c : Thread nD τ).loc main_arg1)))) shapeCasts_S4x16x32_S2048 := by
  show StableHlo.after _ _ _ = _
  simp only [hostOps0, hostOps0_1, hostOps0_2, List.flatten_cons, List.flatten_nil, List.append_nil, List.cons_append, List.nil_append, StableHlo.TRef.nullary, StableHlo.TRef.binary, StableHlo.TRef.ternary, StableHlo.TRef.unary, StableHlo.TRef.toBuf, StableHlo.TRef.ofBuf, cast_eq]
  after_results_simp <;> rfl

theorem tok_of (hR : Routed (m (((0 : Dev nD) : Thread nD τ).loc main_arg0)) (m (((0 : Dev nD) : Thread nD τ).loc main_arg1))) : TOk m := by
  intro x
  rw [V_base]
  obtain ⟨j, hj⟩ : ∃ j : S4x16x32.Idx, shapeCast S2048 (baseT (firstT (m (((0 : Dev nD) : Thread nD τ).loc main_arg1)))) shapeCasts_S4x16x32_S2048 x = baseT (firstT (m (((0 : Dev nD) : Thread nD τ).loc main_arg1))) j := ⟨_, rfl⟩
  rw [hj, baseT_apply]
  have ej : j = ix3 (j 0) (j 1) (j 2) := by
    funext a
    match a with
    | ⟨0, _⟩ => rfl
    | ⟨1, _⟩ => rfl
    | ⟨2, _⟩ => rfl
  rw [ej]
  have hf := hR.first (j 0) (j 1) (j 2)
  have hb := baseW_of _ hf.1 hf.2
  have h2 := toInt_small _ hf.1
  have h3 : (firstT (m (((0 : Dev nD) : Thread nD τ).loc main_arg1)) (ix3 (j 0) (j 1) (j 2))).toNat ≤ 1024 := by omega
  exact ⟨hb.1, hb.2.1.trans h3⟩

section
attribute [local instance] Cert.Pre_routed.Gen.facts

theorem routed_of_fn (A2 : FVec Bits S4x16x1296x1024 .bf16) (A3 : FVec Bits S32768x1024 .f32) (A0 : IVec S32768x128 32) (A1 : IVec S128x128 32)
    (h : (Cert.Pre_routed.fn (F := Bits) A0 A1 A2 A3).1 = (fun _ => 1#1) ∧ (Cert.Pre_routed.fn (F := Bits) A0 A1 A2 A3).2 = (fun _ => 1#1)) : Routed A0 A1 := by
  rw [fn_eq] at h
  exact routed_of A0 A1 h.1 h.2

end

end Cert.Kernel5.Hand

end
-- ==== Proof.lean ====
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.FfnRef
public import proofs.«01_k».proof.Proof.InProjRef
public import proofs.«01_k».proof.Proof.Gen.Kernel2.Frame
public import proofs.«01_k».proof.Proof.Gen.Kernel2Ideal.Value
public import proofs.«01_k».proof.Proof.Gen.Reference2Ideal.Run
public import proofs.«01_k».proof.Proof.OutProjRef
public import proofs.«01_k».proof.Proof.OutPre
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Pre_finite
public import proofs.«01_k».proof.Proof.RoutingRef
public import proofs.«01_k».proof.Proof.RoutePre
public import proofs.«01_k».proof.Proof.Gen.Kernel4.Frame
public import proofs.«01_k».proof.Proof.Gen.Kernel4Ideal.Value
public import proofs.«01_k».proof.Proof.Gen.Reference4Ideal.Run
public import proofs.«01_k».proof.Proof.Gen.Pre_floats
public import proofs.«01_k».proof.Proof.CbFinal
public import proofs.«01_k».proof.Proof.KbPre
public import Idealize.ShloMosaic.Adequacy
public import Idealize.ShloMosaic.Init
public import Idealize.ShloMosaic.Lib.Quiescent

@[expose] public section

noncomputable section

namespace Cert.Proof

open Idealize.ShloMosaic Idealize.SL.Sem

theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem algebraic_KernelIdeal_ReferenceIdeal : algebraic_KernelIdeal_ReferenceIdeal := by
  intro m ρ m' ρ' _ hagree
  refine ⟨_, Cert.KernelIdeal.Value.run_blocks (F := Ideal) m ρ, ?_⟩
  refine (θ_run Cert.ReferenceIdeal.defs _ _).mono (fun _ h c => ⟨?_, (h c).2⟩) (Cert.ReferenceIdeal.Ffn.run m' ρ')
  rw [(h c).1]
  simp only [hagree c]
  exact (Cert.KernelIdeal.Ffn.final m c).symm

theorem quiescent_Reference2Ideal : quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

theorem algebraic_Kernel2Ideal_Reference2Ideal : algebraic_Kernel2Ideal_Reference2Ideal := by
  intro m ρ m' ρ' _ hagree
  refine ⟨_, Cert.Kernel2Ideal.Value.run_blocks (F := Ideal) m ρ, ?_⟩
  refine (θ_run Cert.Reference2Ideal.defs _ _).mono (fun _ h c => ⟨?_, (h c).2⟩) (Cert.Reference2Ideal.Value.run (F := Ideal) m' ρ')
  rw [(h c).1, Cert.Reference2Ideal.InProj.value]
  simp only [hagree c]
  exact (Cert.Kernel2Ideal.InProj.final m c).symm

theorem quiescent_Reference3Ideal : quiescent_Reference3Ideal := fun m ρ _ =>
  (θ_run Cert.Reference3Ideal.defs _ _).mono (fun r h => ⟨fun c => (h c).2.2.2, sem_eq_zero_of_no_sems (by decide) r.2⟩)
    (Cert.Reference3Ideal.Value.run (F := Ideal) m ρ)

theorem quiescent_Reference3Ideal_finite : quiescent_Reference3Ideal_pre_finite (hPre_finite := Cert.Pre_finite.Gen.facts) := fun m ρ _ =>
  (θ_run Cert.Reference3Ideal.defs _ _).mono (fun r h => ⟨fun c => (h c).2.2.2, sem_eq_zero_of_no_sems (by decide) r.2⟩)
    (Cert.Reference3Ideal.Value.run (F := Ideal) m ρ)

theorem algebraic_Kernel3Ideal_Reference3Ideal :
    algebraic_Kernel3Ideal_Reference3Ideal_pre_finite (hPre_finite := Cert.Pre_finite.Gen.facts) := by
  intro m ρ m' ρ' hp hagree
  have hA := Cert.OutPre.allReal m hp
  refine ⟨_, _, _, Cert.Kernel3Ideal.Value.run_blocks (F := Ideal) m ρ, ?_⟩
  refine (θ_run Cert.Reference3Ideal.defs _ _).mono (fun _ h c => ⟨?_, ?_, ?_, (h c).2.2.2⟩) (Cert.Reference3Ideal.Value.run (F := Ideal) m' ρ')
  · refine ((h c).1.trans (Cert.Reference3Ideal.OutProj.value9 m' c)).trans ?_
    simp only [hagree c]
    exact (Cert.Kernel3Ideal.OutProj.final9 m c).symm
  · rw [(h c).2.1, Cert.Reference3Ideal.OutProj.value10]
    simp only [hagree c]
    exact (Cert.Kernel3Ideal.OutProj.final10 m c (hA c)).symm
  · rw [(h c).2.2.1, Cert.Reference3Ideal.OutProj.value11]
    simp only [hagree c]
    exact (Cert.Kernel3Ideal.OutProj.final11 m c (hA c)).symm

theorem quiescent_Reference4Ideal : quiescent_Reference4Ideal := fun m ρ _ =>
  (θ_run Cert.Reference4Ideal.defs _ _).mono (fun r h => ⟨fun c => (h c).2.2, sem_eq_zero_of_no_sems (by decide) r.2⟩)
    (Cert.Reference4Ideal.Value.run (F := Ideal) m ρ)

theorem quiescent_Reference4Ideal_floats : quiescent_Reference4Ideal_pre_floats (hPre_floats := Cert.Pre_floats.Gen.facts) := fun m ρ _ =>
  (θ_run Cert.Reference4Ideal.defs _ _).mono (fun r h => ⟨fun c => (h c).2.2, sem_eq_zero_of_no_sems (by decide) r.2⟩)
    (Cert.Reference4Ideal.Value.run (F := Ideal) m ρ)

theorem algebraic_Kernel4Ideal_Reference4Ideal :
    algebraic_Kernel4Ideal_Reference4Ideal_pre_floats (hPre_floats := Cert.Pre_floats.Gen.facts) := by
  intro m ρ m' ρ' hp hagree
  have hw := Cert.RoutePre.finite_words m hp
  refine ⟨_, _, Cert.Kernel4Ideal.Value.run_blocks (F := Ideal) m ρ, ?_⟩
  refine (θ_run Cert.Reference4Ideal.defs _ _).mono (fun _ h c => ⟨?_, ?_, (h c).2.2⟩) (Cert.Reference4Ideal.Routing.run_eq m' ρ')
  · rw [(h c).1, hagree c]
    exact (Cert.Reference4Ideal.Routing.slotT_eq _ (hw c)).trans (Cert.Kernel4Ideal.Routing.final1 m c (hw c)).symm
  · rw [(h c).2.1, hagree c]
    exact (Cert.Reference4Ideal.Routing.startT_eq _ (hw c)).trans (Cert.Kernel4Ideal.Routing.final2 m c (hw c)).symm

theorem routed_Kernel5 (m : (ℓ : Loc Cert.Kernel5.nD Cert.Kernel5.τ Cert.Kernel5.sig) → Buf (Elt Bits) ℓ) (hp : Pre_Kernel5 (hPre_routed := Cert.Pre_routed.Gen.facts) m) :
    Cert.Kernel5.Hand.TOk m :=
  Cert.Kernel5.Hand.tok_of m (Cert.Kernel5.Hand.routed_of_fn _ _ _ _ (hp 0))

theorem routed_Kernel5Ideal (m : (ℓ : Loc Cert.Kernel5Ideal.nD Cert.Kernel5Ideal.τ Cert.Kernel5Ideal.sig) → Buf (Elt Ideal) ℓ) (hp : Pre_Kernel5Ideal (hPre_routed := Cert.Pre_routed.Gen.facts) m) :
    Cert.Kernel5Ideal.Hand.Routed (m (((0 : Dev Cert.Kernel5Ideal.nD).tc : Thread Cert.Kernel5Ideal.nD Cert.Kernel5Ideal.τ).loc Cert.Kernel5Ideal.main_arg0)) (m (((0 : Dev Cert.Kernel5Ideal.nD).tc : Thread Cert.Kernel5Ideal.nD Cert.Kernel5Ideal.τ).loc Cert.Kernel5Ideal.main_arg1)) :=
  Cert.Kernel5Ideal.Hand.routed_of_fn _ _ _ _ (hp 0)

theorem quiescent_Reference5Ideal : quiescent_Reference5Ideal := fun m ρ _ =>
  (θ_run Cert.Reference5Ideal.defs _ _).mono (fun r h => ⟨fun c => (h c).2, sem_eq_zero_of_no_sems (by decide) r.2⟩)
    (Cert.Reference5Ideal.Combine.run (F := Ideal) m ρ)

theorem quiescent_Reference5Ideal_routed : quiescent_Reference5Ideal_pre_routed (hPre_routed := Cert.Pre_routed.Gen.facts) := fun m ρ _ =>
  (θ_run Cert.Reference5Ideal.defs _ _).mono (fun r h => ⟨fun c => (h c).2, sem_eq_zero_of_no_sems (by decide) r.2⟩)
    (Cert.Reference5Ideal.Combine.run (F := Ideal) m ρ)

theorem algebraic_Kernel5Ideal_Reference5Ideal :
    algebraic_Kernel5Ideal_Reference5Ideal (hPre_routed := Cert.Pre_routed.Gen.facts) := by
  intro m ρ m' ρ' hp hagree
  have hR := routed_Kernel5Ideal m hp
  refine ⟨_, Cert.Kernel5Ideal.Hand.run_value m ρ (Cert.Kernel5Ideal.Hand.tok_of m hR) hR, ?_⟩
  refine (θ_run Cert.Reference5Ideal.defs _ _).mono (fun _ h c => ⟨?_, (h c).2⟩) (Cert.Reference5Ideal.Combine.run (F := Ideal) m' ρ')
  rw [(h c).1, (hagree c).1, (hagree c).2.2.1, (hagree c).2.2.2]

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts, Cert.Pre_finite.Gen.facts, Cert.Pre_floats.Gen.facts, Cert.Pre_routed.Gen.facts,
  fun m ρ _ => Cert.Kernel.Gen.frame m ρ, fun m ρ _ => Cert.KernelIdeal.Gen.frame m ρ, quiescent_ReferenceIdeal,
  fun m ρ _ => Cert.Kernel2.Gen.frame m ρ, fun m ρ _ => Cert.Kernel2Ideal.Gen.frame m ρ, quiescent_Reference2Ideal,
  fun m ρ _ => Cert.Kernel3.Gen.frame m ρ, fun m ρ _ => Cert.Kernel3Ideal.Gen.frame m ρ, fun m ρ _ => Cert.Kernel3Ideal.Gen.frame m ρ,
  quiescent_Reference3Ideal, quiescent_Reference3Ideal_finite,
  fun m ρ _ => Cert.Kernel4.Gen.frame m ρ, fun m ρ _ => Cert.Kernel4Ideal.Gen.frame m ρ, fun m ρ _ => Cert.Kernel4Ideal.Gen.frame m ρ,
  quiescent_Reference4Ideal, quiescent_Reference4Ideal_floats,
  fun m ρ hp => Cert.Kernel5.Hand.frame m ρ (routed_Kernel5 m hp),
  fun m ρ hp => Cert.Kernel5Ideal.Hand.frame m ρ (Cert.Kernel5Ideal.Hand.tok_of m (routed_Kernel5Ideal m hp)),
  quiescent_Reference5Ideal, quiescent_Reference5Ideal_routed,
  (trivial : preserves_Kernel_KernelIdeal), algebraic_KernelIdeal_ReferenceIdeal,
  (trivial : preserves_Kernel2_Kernel2Ideal), algebraic_Kernel2Ideal_Reference2Ideal,
  IdealRules.named_const.statement Cert.Kernel3Ideal.κ "mask" .f32 0xF149F2CA#32 ⊥ rfl, algebraic_Kernel3Ideal_Reference3Ideal,
  (trivial : preserves_Kernel4_Kernel4Ideal), algebraic_Kernel4Ideal_Reference4Ideal,
  (trivial : preserves_Kernel5_Kernel5Ideal), algebraic_Kernel5Ideal_Reference5Ideal⟩

end Cert.Proof

end
